-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite [hPre_finite : Cert.Pre_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite [hPre_finite : Cert.Pre_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite [hKernel15Ideal : Cert.Kernel15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite [hReference15Ideal : Cert.Reference15Ideal.Facts] [hPre_finite : Cert.Pre_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "gc3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "gc2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "gc1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "gc0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_v65) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_v62) = v2 c
          ∧ r.2.mem ((c.tc : Thread Cert.Reference7Ideal.nD Cert.Reference7Ideal.τ).loc Cert.Reference7Ideal.main_v51) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v55) = v2 c
          ∧ r.2.mem ((c.tc : Thread Cert.Reference8Ideal.nD Cert.Reference8Ideal.τ).loc Cert.Reference8Ideal.main_v28) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v59) = v0 c
          ∧ r.2.mem ((c.tc : Thread Cert.Reference9Ideal.nD Cert.Reference9Ideal.τ).loc Cert.Reference9Ideal.main_v60) = v1 c
          ∧ r.2.mem ((c.tc : Thread Cert.Reference9Ideal.nD Cert.Reference9Ideal.τ).loc Cert.Reference9Ideal.main_v55) = v2 c
          ∧ r.2.mem ((c.tc : Thread Cert.Reference9Ideal.nD Cert.Reference9Ideal.τ).loc Cert.Reference9Ideal.main_v28) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v35) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v33) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v2) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v172) = v0 c
          ∧ r.2.mem ((c.tc : Thread Cert.Reference14Ideal.nD Cert.Reference14Ideal.τ).loc Cert.Reference14Ideal.main_v173) = v1 c
          ∧ r.2.mem ((c.tc : Thread Cert.Reference14Ideal.nD Cert.Reference14Ideal.τ).loc Cert.Reference14Ideal.main_v123) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  IdealRules.named_const.Statement Cert.Kernel15Ideal.κ "lg0" .f32 0xBD020AEC#32 ((Real.log (31 / 32) : ℝ) : EReal)
  ∧ IdealRules.named_const.Statement Cert.Kernel15Ideal.κ "lg1" .f32 0xBC8102B3#32 ((Real.log (63 / 64) : ℝ) : EReal)
  ∧ IdealRules.named_const.Statement Cert.Kernel15Ideal.κ "lg2" .f32 0xBC0080AC#32 ((Real.log (127 / 128) : ℝ) : EReal)
  ∧ IdealRules.named_const.Statement Cert.Kernel15Ideal.κ "lg3" .f32 0xBB80402B#32 ((Real.log (255 / 256) : ℝ) : EReal)
  ∧ IdealRules.named_const.Statement Cert.Kernel15Ideal.κ "gc3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.Kernel15Ideal.κ "gc2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel15Ideal.κ "gc1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel15Ideal.κ "gc0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)

def algebraic_Kernel15Ideal_Reference15Ideal_pre_finite [hKernel15Ideal : Cert.Kernel15Ideal.Facts] [hReference15Ideal : Cert.Reference15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v41_0)) (v1 : (c : Dev Cert.Kernel15Ideal.nD) → Buf (Elt Ideal) ((c.tc : Thread Cert.Kernel15Ideal.nD Cert.Kernel15Ideal.τ).loc Cert.Kernel15Ideal.main_v41_1)) (v2 : (c : Dev Cert.Kernel15Ideal.nD) → Buf (Elt Ideal) ((c.tc : Thread Cert.Kernel15Ideal.nD Cert.Kernel15Ideal.τ).loc Cert.Kernel15Ideal.main_v41_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v41_0) = v0 c
          ∧ r.2.mem ((c.tc : Thread Cert.Kernel15Ideal.nD Cert.Kernel15Ideal.τ).loc Cert.Kernel15Ideal.main_v41_1) = v1 c
          ∧ r.2.mem ((c.tc : Thread Cert.Kernel15Ideal.nD Cert.Kernel15Ideal.τ).loc Cert.Kernel15Ideal.main_v41_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v94) = v0 c
          ∧ r.2.mem ((c.tc : Thread Cert.Reference15Ideal.nD Cert.Reference15Ideal.τ).loc Cert.Reference15Ideal.main_v87) = v1 c
          ∧ r.2.mem ((c.tc : Thread Cert.Reference15Ideal.nD Cert.Reference15Ideal.τ).loc Cert.Reference15Ideal.main_v80) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v13_0)) (v1 : (c : Dev Cert.Kernel16Ideal.nD) → Buf (Elt Ideal) ((c.tc : Thread Cert.Kernel16Ideal.nD Cert.Kernel16Ideal.τ).loc Cert.Kernel16Ideal.main_v13_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v13_0) = v0 c
          ∧ r.2.mem ((c.tc : Thread Cert.Kernel16Ideal.nD Cert.Kernel16Ideal.τ).loc Cert.Kernel16Ideal.main_v13_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v92) = v0 c
          ∧ r.2.mem ((c.tc : Thread Cert.Reference16Ideal.nD Cert.Reference16Ideal.τ).loc Cert.Reference16Ideal.main_v89) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v13_0)) (v1 : (c : Dev Cert.Kernel17Ideal.nD) → Buf (Elt Ideal) ((c.tc : Thread Cert.Kernel17Ideal.nD Cert.Kernel17Ideal.τ).loc Cert.Kernel17Ideal.main_v13_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v13_0) = v0 c
          ∧ r.2.mem ((c.tc : Thread Cert.Kernel17Ideal.nD Cert.Kernel17Ideal.τ).loc Cert.Kernel17Ideal.main_v13_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v43) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v64) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v10) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite (hKernel15Ideal := hKernel15Ideal) (hPre_finite := hPre_finite)
    ∧ quiescent_Reference15Ideal (hReference15Ideal := hReference15Ideal)
    ∧ quiescent_Reference15Ideal_pre_finite (hReference15Ideal := hReference15Ideal) (hPre_finite := hPre_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite (hKernel15Ideal := hKernel15Ideal) (hReference15Ideal := hReference15Ideal) (hPre_finite := hPre_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S4352x256 : Shape := ⟨2, ![4352, 256]⟩
abbrev S4352x3584 : Shape := ⟨2, ![4352, 3584]⟩
abbrev S4352x1024 : Shape := ⟨2, ![4352, 1024]⟩
abbrev S_ : Shape := ⟨0, ![]⟩

class Facts : Prop where
  slices_S4352x3584_S4352x256_0_1536 : S4352x3584.Slices ![0, 1536] S4352x256
  concatenates_S4352x256_S4352x256_S4352x256_S4352x256_S4352x1024_d1 : Shape.Concatenates [S4352x256, S4352x256, S4352x256, S4352x256] S4352x1024 1
  bcast_S_S4352x1024 : S_.BroadcastsInDim S4352x1024 (![] : Fin 0 → Fin S4352x1024.rank)

variable [Facts]

def fn {F : FTy → Type} [FloatOps F] (main_arg0 : FVec F S4352x256 .f32) (main_arg1 : FVec F S4352x256 .f32) (main_arg2 : FVec F S4352x3584 .f32) (main_arg3 : FVec F S4352x256 .f32) : IVec S4352x1024 1 :=
  let main_v0 : FVec F S4352x256 .f32 := (extractStridedSlice S4352x256 ![0, 1536] · slices_S4352x3584_S4352x256_0_1536) main_arg2
  let main_v1 : FVec F S4352x1024 .f32 := concatenate S4352x1024 1 [⟨S4352x256, main_arg0⟩, ⟨S4352x256, main_arg1⟩, ⟨S4352x256, main_v0⟩, ⟨S4352x256, main_arg3⟩] concatenates_S4352x256_S4352x256_S4352x256_S4352x256_S4352x1024_d1
  let main_v2 : FVec F S4352x1024 .f32 := Host.absf main_v1
  let main_cst : FVec F S_ .f32 := constant S_ .f32 0x7F800000#32
  let main_v3 : FVec F S4352x1024 .f32 := broadcastInDim S4352x1024 ![] bcast_S_S4352x1024 main_cst
  let main_v4 : IVec S4352x1024 1 := cmpf .olt main_v2 main_v3
  main_v4
-- ==== Kernel.lean ====
abbrev S4352x256 : Shape := ⟨2, ![4352, 256]⟩
abbrev S4352x3584 : Shape := ⟨2, ![4352, 3584]⟩
abbrev S4352x4x64 : Shape := ⟨3, ![4352, 4, 64]⟩
abbrev S4 : Shape := ⟨1, ![4]⟩
abbrev S_ : Shape := ⟨0, ![]⟩
abbrev S1x4 : Shape := ⟨2, ![1, 4]⟩
abbrev S4352x4 : Shape := ⟨2, ![4352, 4]⟩
abbrev S33x4 : Shape := ⟨2, ![33, 4]⟩
abbrev S34x4 : Shape := ⟨2, ![34, 4]⟩
abbrev S4352 : Shape := ⟨1, ![4352]⟩
abbrev S1x4352 : Shape := ⟨2, ![1, 4352]⟩
abbrev S34 : Shape := ⟨1, ![34]⟩
abbrev S34x1 : Shape := ⟨2, ![34, 1]⟩
abbrev S34x4352 : Shape := ⟨2, ![34, 4352]⟩
abbrev S34x4352x1 : Shape := ⟨3, ![34, 4352, 1]⟩
abbrev S34x1x4 : Shape := ⟨3, ![34, 1, 4]⟩
abbrev S1x4352x4 : Shape := ⟨3, ![1, 4352, 4]⟩
abbrev S34x4352x4 : Shape := ⟨3, ![34, 4352, 4]⟩
abbrev S34x4352x4x1 : Shape := ⟨4, ![34, 4352, 4, 1]⟩
abbrev S1x4352x4x64 : Shape := ⟨4, ![1, 4352, 4, 64]⟩
abbrev S34x4352x4x64 : Shape := ⟨4, ![34, 4352, 4, 64]⟩
abbrev S4x34x64x64 : Shape := ⟨4, ![4, 34, 64, 64]⟩
abbrev S34x4x64x64 : Shape := ⟨4, ![34, 4, 64, 64]⟩
abbrev S128x256 : Shape := ⟨2, ![128, 256]⟩
abbrev S1x4x64x64 : Shape := ⟨4, ![1, 4, 64, 64]⟩
abbrev S4x64x64 : Shape := ⟨3, ![4, 64, 64]⟩
abbrev S128x64 : Shape := ⟨2, ![128, 64]⟩
abbrev S1x1x64x64 : Shape := ⟨4, ![1, 1, 64, 64]⟩
abbrev S64x64 : Shape := ⟨2, ![64, 64]⟩
abbrev S128x128 : Shape := ⟨2, ![128, 128]⟩
abbrev S128x1 : Shape := ⟨2, ![128, 1]⟩
abbrev S1x64x64 : Shape := ⟨3, ![1, 64, 64]⟩

abbrev nBuf : Space → Nat
  | .hbm => 60
  | .vmem => 17
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x3584, .f32⟩
  | .hbm, ⟨3, _⟩ => ⟨S4352x256, .f32⟩
  | .hbm, ⟨4, _⟩ => ⟨S4352x4x64, .f32⟩
  | .hbm, ⟨5, _⟩ => ⟨S4352x256, .f32⟩
  | .hbm, ⟨6, _⟩ => ⟨S4352x4x64, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S1x4, .f32⟩
  | .hbm, ⟨17, _⟩ => ⟨S4352x4, .f32⟩
  | .hbm, ⟨18, _⟩ => ⟨S_, .f32⟩
  | .hbm, ⟨19, _⟩ => ⟨S_, .f32⟩
  | .hbm, ⟨20, _⟩ => ⟨S4352x4, .f32⟩
  | .hbm, ⟨21, _⟩ => ⟨S_, .f32⟩
  | .hbm, ⟨22, _⟩ => ⟨S1x4, .f32⟩
  | .hbm, ⟨23, _⟩ => ⟨S33x4, .f32⟩
  | .hbm, ⟨24, _⟩ => ⟨S34x4, .f32⟩
  | .hbm, ⟨25, _⟩ => ⟨S4352, .i32⟩
  | .hbm, ⟨26, _⟩ => ⟨S1x4352, .i32⟩
  | .hbm, ⟨27, _⟩ => ⟨S34, .i32⟩
  | .hbm, ⟨28, _⟩ => ⟨S34x1, .i32⟩
  | .hbm, ⟨29, _⟩ => ⟨S_, .i32⟩
  | .hbm, ⟨30, _⟩ => ⟨S34x1, .i32⟩
  | .hbm, ⟨31, _⟩ => ⟨S34x1, .i32⟩
  | .hbm, ⟨32, _⟩ => ⟨S34x4352, .i32⟩
  | .hbm, ⟨33, _⟩ => ⟨S34x4352, .i32⟩
  | .hbm, ⟨34, _⟩ => ⟨S34x4352, .i1⟩
  | .hbm, ⟨35, _⟩ => ⟨S34x4352x1, .i1⟩
  | .hbm, ⟨36, _⟩ => ⟨S34x1x4, .f32⟩
  | .hbm, ⟨37, _⟩ => ⟨S1x4352x4, .f32⟩
  | .hbm, ⟨38, _⟩ => ⟨S34x4352x4, .f32⟩
  | .hbm, ⟨39, _⟩ => ⟨S34x4352x4, .f32⟩
  | .hbm, ⟨40, _⟩ => ⟨S34x4352x4, .f32⟩
  | .hbm, ⟨41, _⟩ => ⟨S_, .f32⟩
  | .hbm, ⟨42, _⟩ => ⟨S34x4352x4, .f32⟩
  | .hbm, ⟨43, _⟩ => ⟨S34x4352x4, .f32⟩
  | .hbm, ⟨44, _⟩ => ⟨S34x4352x4, .f32⟩
  | .hbm, ⟨45, _⟩ => ⟨S_, .f32⟩
  | .hbm, ⟨46, _⟩ => ⟨S_, .f32⟩
  | .hbm, ⟨47, _⟩ => ⟨S34x4352x4, .i1⟩
  | .hbm, ⟨48, _⟩ => ⟨S34x4352x4, .f32⟩
  | .hbm, ⟨49, _⟩ => ⟨S34x4352x4, .f32⟩
  | .hbm, ⟨50, _⟩ => ⟨S34x4352x4x1, .f32⟩
  | .hbm, ⟨51, _⟩ => ⟨S1x4352x4x64, .f32⟩
  | .hbm, ⟨52, _⟩ => ⟨S34x4352x4x64, .f32⟩
  | .hbm, ⟨53, _⟩ => ⟨S34x4352x4x64, .f32⟩
  | .hbm, ⟨54, _⟩ => ⟨S34x4352x4x64, .f32⟩
  | .hbm, ⟨55, _⟩ => ⟨S4x34x64x64, .f32⟩
  | .hbm, ⟨56, _⟩ => ⟨S34x4x64x64, .f32⟩
  | .hbm, ⟨57, _⟩ => ⟨S4352x256, .f32⟩
  | .hbm, ⟨58, _⟩ => ⟨S4352x256, .f32⟩
  | .hbm, ⟨59, _⟩ => ⟨S4352x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x4x64x64, .f32⟩
  | .local _ .vmem, ⟨7, _⟩ => ⟨S1x4x64x64, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S4x64x64, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_call0_cst : Ref sig .tc := ⟨.hbm, 18, rfl⟩
abbrev main_call0_call0_v0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.subi c33_i32 arg0
  let c6_i32 : BitVec 32 := 6#32
  let c0_i32 : BitVec 32 := 0#32
  ![v0.toNat, c6_i32.toNat]

def cc0_transform_3 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "gc0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gc1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gc2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gc3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S4352x256 : Shape := ⟨2, ![4352, 256]⟩
abbrev S4352x3584 : Shape := ⟨2, ![4352, 3584]⟩
abbrev S4352x4x64 : Shape := ⟨3, ![4352, 4, 64]⟩
abbrev S_ : Shape := ⟨0, ![]⟩
abbrev S4352x4352 : Shape := ⟨2, ![4352, 4352]⟩
abbrev S4352x4352x1 : Shape := ⟨3, ![4352, 4352, 1]⟩
abbrev S4 : Shape := ⟨1, ![4]⟩
abbrev S1x4 : Shape := ⟨2, ![1, 4]⟩
abbrev S4352x4 : Shape := ⟨2, ![4352, 4]⟩
abbrev S4352x1x4 : Shape := ⟨3, ![4352, 1, 4]⟩
abbrev S1x4352x4 : Shape := ⟨3, ![1, 4352, 4]⟩
abbrev S4352x4352x4 : Shape := ⟨3, ![4352, 4352, 4]⟩
abbrev S4x4352x4352 : Shape := ⟨3, ![4, 4352, 4352]⟩
abbrev S4x64x4352 : Shape := ⟨3, ![4, 64, 4352]⟩
abbrev S4x4352x64 : Shape := ⟨3, ![4, 4352, 64]⟩

abbrev nBuf : Space → Nat
  | .hbm => 69
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x3584, .f32⟩
  | .hbm, ⟨3, _⟩ => ⟨S4352x256, .f32⟩
  | .hbm, ⟨4, _⟩ => ⟨S4352x256, .f32⟩
  | .hbm, ⟨5, _⟩ => ⟨S4352x4x64, .f32⟩
  | .hbm, ⟨6, _⟩ => ⟨S4352x4x64, .f32⟩
  | .hbm, ⟨7, _⟩ => ⟨S4352x4x64, .f32⟩
  | .hbm, ⟨8, _⟩ => ⟨S_, .i1⟩
  | .hbm, ⟨9, _⟩ => ⟨S4352x4352, .i1⟩
  | .hbm, ⟨10, _⟩ => ⟨S4352x4352, .i32⟩
  | .hbm, ⟨11, _⟩ => ⟨S_, .i32⟩
  | .hbm, ⟨12, _⟩ => ⟨S4352x4352, .i32⟩
  | .hbm, ⟨13, _⟩ => ⟨S4352x4352, .i32⟩
  | .hbm, ⟨14, _⟩ => ⟨S4352x4352, .i32⟩
  | .hbm, ⟨15, _⟩ => ⟨S4352x4352, .i1⟩
  | .hbm, ⟨16, _⟩ => ⟨S_, .i1⟩
  | .hbm, ⟨17, _⟩ => ⟨S4352x4352, .i1⟩
  | .hbm, ⟨18, _⟩ => ⟨S4352x4352, .i1⟩
  | .hbm, ⟨19, _⟩ => ⟨S4352x4352x1, .i1⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S1x4, .f32⟩
  | .hbm, ⟨30, _⟩ => ⟨S4352x4, .f32⟩
  | .hbm, ⟨31, _⟩ => ⟨S_, .f32⟩
  | .hbm, ⟨32, _⟩ => ⟨S_, .f32⟩
  | .hbm, ⟨33, _⟩ => ⟨S4352x4, .f32⟩
  | .hbm, ⟨34, _⟩ => ⟨S4352x1x4, .f32⟩
  | .hbm, ⟨35, _⟩ => ⟨S1x4352x4, .f32⟩
  | .hbm, ⟨36, _⟩ => ⟨S4352x4352x4, .f32⟩
  | .hbm, ⟨37, _⟩ => ⟨S4352x4352x4, .f32⟩
  | .hbm, ⟨38, _⟩ => ⟨S4352x4352x4, .f32⟩
  | .hbm, ⟨39, _⟩ => ⟨S_, .f32⟩
  | .hbm, ⟨40, _⟩ => ⟨S4352x4352x4, .f32⟩
  | .hbm, ⟨41, _⟩ => ⟨S4352x4352x4, .f32⟩
  | .hbm, ⟨42, _⟩ => ⟨S4352x4352x4, .f32⟩
  | .hbm, ⟨43, _⟩ => ⟨S_, .f32⟩
  | .hbm, ⟨44, _⟩ => ⟨S_, .f32⟩
  | .hbm, ⟨45, _⟩ => ⟨S4352x4352x4, .i1⟩
  | .hbm, ⟨46, _⟩ => ⟨S4352x4352x4, .f32⟩
  | .hbm, ⟨47, _⟩ => ⟨S4352x4352x4, .f32⟩
  | .hbm, ⟨48, _⟩ => ⟨S4x4352x4352, .f32⟩
  | .hbm, ⟨49, _⟩ => ⟨S4352x4352x4, .f32⟩
  | .hbm, ⟨50, _⟩ => ⟨S4352x4352x4, .f32⟩
  | .hbm, ⟨51, _⟩ => ⟨S4x64x4352, .f32⟩
  | .hbm, ⟨52, _⟩ => ⟨S4352x4x64, .f32⟩
  | .hbm, ⟨53, _⟩ => ⟨S4352x256, .f32⟩
  | .hbm, ⟨54, _⟩ => ⟨S4352x4x64, .f32⟩
  | .hbm, ⟨55, _⟩ => ⟨S4x64x4352, .f32⟩
  | .hbm, ⟨56, _⟩ => ⟨S4x4352x4352, .f32⟩
  | .hbm, ⟨57, _⟩ => ⟨S4352x4352x4, .f32⟩
  | .hbm, ⟨58, _⟩ => ⟨S4x64x4352, .f32⟩
  | .hbm, ⟨59, _⟩ => ⟨S4352x4x64, .f32⟩
  | .hbm, ⟨60, _⟩ => ⟨S4352x4352x4, .f32⟩
  | .hbm, ⟨61, _⟩ => ⟨S4x4352x4352, .f32⟩
  | .hbm, ⟨62, _⟩ => ⟨S4x4352x64, .f32⟩
  | .hbm, ⟨63, _⟩ => ⟨S4352x4x64, .f32⟩
  | .hbm, ⟨64, _⟩ => ⟨S4x4352x64, .f32⟩
  | .hbm, ⟨65, _⟩ => ⟨S4352x4x64, .f32⟩
  | .hbm, ⟨66, _⟩ => ⟨S4352x256, .f32⟩
  | .hbm, ⟨67, _⟩ => ⟨S4352x256, .f32⟩
  | .hbm, ⟨68, _⟩ => ⟨S4352x256, .f32⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_call0_cst : Ref sig .tc := ⟨.hbm, 31, rfl⟩
abbrev main_call1_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Kernel2.lean ====
abbrev S4352x1024 : Shape := ⟨2, ![4352, 1024]⟩
abbrev S4352x5632 : Shape := ⟨2, ![4352, 5632]⟩
abbrev S4x1024x1408 : Shape := ⟨3, ![4, 1024, 1408]⟩
abbrev S1088x1024 : Shape := ⟨2, ![1088, 1024]⟩
abbrev S1088x1408 : Shape := ⟨2, ![1088, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4x1024x1408, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1408, .bf16⟩
  | .local _ .vmem, ⟨3, _⟩ => ⟨S1088x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x1024 : Shape := ⟨2, ![4352, 1024]⟩
abbrev S4352x5632 : Shape := ⟨2, ![4352, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4352x1024, .f32⟩
  | .hbm, ⟨3, _⟩ => ⟨S4352x5632, .f32⟩
  | .hbm, ⟨4, _⟩ => ⟨S_, .f32⟩
  | .hbm, ⟨5, _⟩ => ⟨S1024x5632, .f32⟩
  | .hbm, ⟨6, _⟩ => ⟨S4352x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1024x4x1408, .bf16⟩
  | .hbm, ⟨11, _⟩ => ⟨S4x1024x1408, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4352x1024 : Shape := ⟨2, ![4352, 1024]⟩
abbrev S4352x3584 : Shape := ⟨2, ![4352, 3584]⟩
abbrev S1024x3584 : Shape := ⟨2, ![1024, 3584]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x3584, .bf16⟩
  | .hbm, ⟨2, _⟩ => ⟨S1024x3584, .bf16⟩
  | .local _ .vmem, ⟨0, _⟩ => ⟨S1088x1024, .bf16⟩
  | .local _ .vmem, ⟨1, _⟩ => ⟨S1088x1024, .bf16⟩
  | .local _ .vmem, ⟨2, _⟩ => ⟨S1088x512, .bf16⟩
  | .local _ .vmem, ⟨3, _⟩ => ⟨S1088x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x1024 : Shape := ⟨2, ![4352, 1024]⟩
abbrev S4352x3584 : Shape := ⟨2, ![4352, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x3584, .bf16⟩
  | .hbm, ⟨2, _⟩ => ⟨S4352x1024, .f32⟩
  | .hbm, ⟨3, _⟩ => ⟨S4352x3584, .f32⟩
  | .hbm, ⟨4, _⟩ => ⟨S_, .f32⟩
  | .hbm, ⟨5, _⟩ => ⟨S1024x3584, .f32⟩
  | .hbm, ⟨6, _⟩ => ⟨S4352x3584, .f32⟩
  | .hbm, ⟨7, _⟩ => ⟨S3584x1024, .f32⟩
  | .hbm, ⟨8, _⟩ => ⟨S1024x3584, .f32⟩
  | .hbm, ⟨9, _⟩ => ⟨S1024x3584, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4352x1024 : Shape := ⟨2, ![4352, 1024]⟩
abbrev S1024x1024 : Shape := ⟨2, ![1024, 1024]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x512, .bf16⟩
  | .local _ .vmem, ⟨3, _⟩ => ⟨S1088x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S_, .f32⟩
  | .hbm, ⟨5, _⟩ => ⟨S1024x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4352x2816 : Shape := ⟨2, ![4352, 2816]⟩
abbrev S4352x1024 : Shape := ⟨2, ![4352, 1024]⟩
abbrev S2816x1024 : Shape := ⟨2, ![2816, 1024]⟩
abbrev S1088x1408 : Shape := ⟨2, ![1088, 1408]⟩
abbrev S1088x512 : Shape := ⟨2, ![1088, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1088x512, .bf16⟩
  | .local _ .vmem, ⟨3, _⟩ => ⟨S1088x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S4352x2816, .f32⟩
  | .hbm, ⟨3, _⟩ => ⟨S4352x1024, .f32⟩
  | .hbm, ⟨4, _⟩ => ⟨S_, .f32⟩
  | .hbm, ⟨5, _⟩ => ⟨S2816x1024, .f32⟩
  | .hbm, ⟨6, _⟩ => ⟨S4352x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x5632 : Shape := ⟨2, ![4352, 5632]⟩
abbrev S1024x5632 : Shape := ⟨2, ![1024, 5632]⟩
abbrev S4352x1024 : Shape := ⟨2, ![4352, 1024]⟩
abbrev S1x1024 : Shape := ⟨2, ![1, 1024]⟩
abbrev S2x6x1024 : Shape := ⟨3, ![2, 6, 1024]⟩
abbrev S2x1x1024 : Shape := ⟨3, ![2, 1, 1024]⟩
abbrev S256x5632 : Shape := ⟨2, ![256, 5632]⟩
abbrev S256x1024 : Shape := ⟨2, ![256, 1024]⟩
abbrev S1x6x1024 : Shape := ⟨3, ![1, 6, 1024]⟩
abbrev S1x1x1024 : Shape := ⟨3, ![1, 1, 1024]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4352x5632, .bf16⟩
  | .hbm, ⟨1, _⟩ => ⟨S1024x5632, .bf16⟩
  | .hbm, ⟨2, _⟩ => ⟨S4352x1024, .f32⟩
  | .hbm, ⟨3, _⟩ => ⟨S1x1024, .f32⟩
  | .hbm, ⟨4, _⟩ => ⟨S2x6x1024, .f32⟩
  | .hbm, ⟨5, _⟩ => ⟨S4352x1024, .f32⟩
  | .hbm, ⟨6, _⟩ => ⟨S4352x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_65 : BitVec 32 := 0#32
  let v98 : BitVec 1 := Scalar.cmpi .ne v97 c0_i32_65
  v98

def k0_cond2 (i : grid0.Coords) : BitVec 1 :=
  let arg0 : BitVec 32 := BitVec.ofNat 32 (i 0).val
  let c0_i32 : BitVec 32 := 0#32
  let v96 : BitVec 1 := Scalar.cmpi .eq arg0 c0_i32
  let v_true : BitVec 1 := 1#1
  let v99 : BitVec 1 := Scalar.xori v96 v_true
  let v100 : BitVec 32 := Scalar.extui v99
  let c0_i32_66 : BitVec 32 := 0#32
  let v101 : BitVec 1 := Scalar.cmpi .ne v100 c0_i32_66
  v101

def k0_cond3 (i : grid0.Coords) : BitVec 1 :=
  let arg0 : BitVec 32 := BitVec.ofNat 32 (i 0).val
  let c0_i32_67 : BitVec 32 := 0#32
  let v102 : BitVec 1 := Scalar.cmpi .eq arg0 c0_i32_67
  let c1_i32 : BitVec 32 := 1#32
  let v103 : BitVec 1 := Scalar.cmpi .eq arg0 c1_i32
  let v104 : BitVec 1 := Scalar.ori v102 v103
  let v105 : BitVec 32 := Scalar.extui v104
  let c0_i32_68 : BitVec 32 := 0#32
  let v106 : BitVec 1 := Scalar.cmpi .ne v105 c0_i32_68
  v106

def k0_cond4 (i : grid0.Coords) : BitVec 1 :=
  let arg0 : BitVec 32 := BitVec.ofNat 32 (i 0).val
  let c0_i32_67 : BitVec 32 := 0#32
  let v102 : BitVec 1 := Scalar.cmpi .eq arg0 c0_i32_67
  let c1_i32 : BitVec 32 := 1#32
  let v103 : BitVec 1 := Scalar.cmpi .eq arg0 c1_i32
  let v104 : BitVec 1 := Scalar.ori v102 v103
  let true_69 : BitVec 1 := 1#1
  let v107 : BitVec 1 := Scalar.xori v104 true_69
  let v108 : BitVec 32 := Scalar.extui v107
  let c0_i32_70 : BitVec 32 := 0#32
  let v109 : BitVec 1 := Scalar.cmpi .ne v108 c0_i32_70
  v109

def k0_cond5 (i : grid0.Coords) : BitVec 1 :=
  let arg0 : BitVec 32 := BitVec.ofNat 32 (i 0).val
  let c0_i32_71 : BitVec 32 := 0#32
  let v110 : BitVec 1 := Scalar.cmpi .eq arg0 c0_i32_71
  let c1_i32_72 : BitVec 32 := 1#32
  let v111 : BitVec 1 := Scalar.cmpi .eq arg0 c1_i32_72
  let v112 : BitVec 1 := Scalar.ori v110 v111
  let v113 : BitVec 32 := Scalar.extui v112
  let c0_i32_73 : BitVec 32 := 0#32
  let v114 : BitVec 1 := Scalar.cmpi .ne v113 c0_i32_73
  v114

def k0_cond6 (i : grid0.Coords) : BitVec 1 :=
  let arg0 : BitVec 32 := BitVec.ofNat 32 (i 0).val
  let c0_i32_71 : BitVec 32 := 0#32
  let v110 : BitVec 1 := Scalar.cmpi .eq arg0 c0_i32_71
  let c1_i32_72 : BitVec 32 := 1#32
  let v111 : BitVec 1 := Scalar.cmpi .eq arg0 c1_i32_72
  let v112 : BitVec 1 := Scalar.ori v110 v111
  let true_74 : BitVec 1 := 1#1
  let v115 : BitVec 1 := Scalar.xori v112 true_74
  let v116 : BitVec 32 := Scalar.extui v115
  let c0_i32_75 : BitVec 32 := 0#32
  let v117 : BitVec 1 := Scalar.cmpi .ne v116 c0_i32_75
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_9 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4352x5632 : Shape := ⟨2, ![4352, 5632]⟩
abbrev S1024x5632 : Shape := ⟨2, ![1024, 5632]⟩
abbrev S4352x1024 : Shape := ⟨2, ![4352, 1024]⟩
abbrev S1x1024 : Shape := ⟨2, ![1, 1024]⟩
abbrev S2x6x1024 : Shape := ⟨3, ![2, 6, 1024]⟩
abbrev S2x1x1024 : Shape := ⟨3, ![2, 1, 1024]⟩
abbrev S_ : Shape := ⟨0, ![]⟩
abbrev S4352 : Shape := ⟨1, ![4352]⟩
abbrev S4352x1 : Shape := ⟨2, ![4352, 1]⟩
abbrev S1x1x1024 : Shape := ⟨3, ![1, 1, 1024]⟩
abbrev S256x1024 : Shape := ⟨2, ![256, 1024]⟩
abbrev S4096x1024 : Shape := ⟨2, ![4096, 1024]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S1024x5632, .bf16⟩
  | .hbm, ⟨2, _⟩ => ⟨S4352x1024, .f32⟩
  | .hbm, ⟨3, _⟩ => ⟨S1x1024, .f32⟩
  | .hbm, ⟨4, _⟩ => ⟨S2x6x1024, .f32⟩
  | .hbm, ⟨5, _⟩ => ⟨S4352x1024, .f32⟩
  | .hbm, ⟨6, _⟩ => ⟨S2x1x1024, .f32⟩
  | .hbm, ⟨7, _⟩ => ⟨S2x1x1024, .f32⟩
  | .hbm, ⟨8, _⟩ => ⟨S1024x5632, .f32⟩
  | .hbm, ⟨9, _⟩ => ⟨S4352x1024, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S1x1x1024, .f32⟩
  | .hbm, ⟨29, _⟩ => ⟨S1x1024, .f32⟩
  | .hbm, ⟨30, _⟩ => ⟨S256x1024, .f32⟩
  | .hbm, ⟨31, _⟩ => ⟨S1x1x1024, .f32⟩
  | .hbm, ⟨32, _⟩ => ⟨S1x1024, .f32⟩
  | .hbm, ⟨33, _⟩ => ⟨S4096x1024, .f32⟩
  | .hbm, ⟨34, _⟩ => ⟨S4352x1024, .f32⟩
  | .hbm, ⟨35, _⟩ => ⟨S1x1x1024, .f32⟩
  | .hbm, ⟨36, _⟩ => ⟨S1x1024, .f32⟩
  | .hbm, ⟨37, _⟩ => ⟨S256x1024, .f32⟩
  | .hbm, ⟨38, _⟩ => ⟨S1x1x1024, .f32⟩
  | .hbm, ⟨39, _⟩ => ⟨S1x1024, .f32⟩
  | .hbm, ⟨40, _⟩ => ⟨S4096x1024, .f32⟩
  | .hbm, ⟨41, _⟩ => ⟨S4352x1024, .f32⟩
  | .hbm, ⟨42, _⟩ => ⟨S_, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x5632, .f32⟩
  | .hbm, ⟨48, _⟩ => ⟨S4352x5632, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S256x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x1x1024, .f32⟩
  | .hbm, ⟨58, _⟩ => ⟨S_, .f32⟩
  | .hbm, ⟨59, _⟩ => ⟨S2x1x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1x1024, .f32⟩
  | .hbm, ⟨64, _⟩ => ⟨S_, .f32⟩
  | .hbm, ⟨65, _⟩ => ⟨S2x1x1024, .f32⟩
  | .hbm, ⟨66, _⟩ => ⟨S2x1x1024, .f32⟩
  | .hbm, ⟨67, _⟩ => ⟨S256x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S1x1x1024, .f32⟩
  | .hbm, ⟨73, _⟩ => ⟨S_, .f32⟩
  | .hbm, ⟨74, _⟩ => ⟨S2x1x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S1x1x1024, .f32⟩
  | .hbm, ⟨79, _⟩ => ⟨S_, .f32⟩
  | .hbm, ⟨80, _⟩ => ⟨S2x1x1024, .f32⟩
  | .hbm, ⟨81, _⟩ => ⟨S2x1x1024, .f32⟩
  | .hbm, ⟨82, _⟩ => ⟨S4352x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4352x1024, .f32⟩
  | .hbm, ⟨87, _⟩ => ⟨S4352x1024, .f32⟩
  | .hbm, ⟨88, _⟩ => ⟨S4352x1024, .f32⟩
  | .hbm, ⟨89, _⟩ => ⟨S_, .f32⟩
  | .hbm, ⟨90, _⟩ => ⟨S4352, .f32⟩
  | .hbm, ⟨91, _⟩ => ⟨S4352x1, .f32⟩
  | .hbm, ⟨92, _⟩ => ⟨S4352x1024, .f32⟩
  | .hbm, ⟨93, _⟩ => ⟨S4352x1024, .f32⟩
  | .hbm, ⟨94, _⟩ => ⟨S4352x1, .f32⟩
  | .hbm, ⟨95, _⟩ => ⟨S_, .f32⟩
  | .hbm, ⟨96, _⟩ => ⟨S4352x1, .f32⟩
  | .hbm, ⟨97, _⟩ => ⟨S4352x1, .f32⟩
  | .hbm, ⟨98, _⟩ => ⟨S_, .f32⟩
  | .hbm, ⟨99, _⟩ => ⟨S4352, .f32⟩
  | .hbm, ⟨100, _⟩ => ⟨S4352x1024, .f32⟩
  | .hbm, ⟨101, _⟩ => ⟨S4352x1024, .f32⟩
  | .hbm, ⟨102, _⟩ => ⟨S4352x1024, .f32⟩
  | .hbm, ⟨103, _⟩ => ⟨S4352x1024, .f32⟩
  | .hbm, ⟨104, _⟩ => ⟨S4352x1024, .f32⟩
  | .hbm, ⟨105, _⟩ => ⟨S4352x1024, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel7.lean ====
abbrev S4352x3584 : Shape := ⟨2, ![4352, 3584]⟩
abbrev S1024x3584 : Shape := ⟨2, ![1024, 3584]⟩
abbrev S4352x1024 : Shape := ⟨2, ![4352, 1024]⟩
abbrev S1x1024 : Shape := ⟨2, ![1, 1024]⟩
abbrev S2x6x1024 : Shape := ⟨3, ![2, 6, 1024]⟩
abbrev S2x1x1024 : Shape := ⟨3, ![2, 1, 1024]⟩
abbrev S256x3584 : Shape := ⟨2, ![256, 3584]⟩
abbrev S256x1024 : Shape := ⟨2, ![256, 1024]⟩
abbrev S1x6x1024 : Shape := ⟨3, ![1, 6, 1024]⟩
abbrev S1x1x1024 : Shape := ⟨3, ![1, 1, 1024]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4352x3584, .bf16⟩
  | .hbm, ⟨1, _⟩ => ⟨S1024x3584, .bf16⟩
  | .hbm, ⟨2, _⟩ => ⟨S4352x1024, .f32⟩
  | .hbm, ⟨3, _⟩ => ⟨S1x1024, .f32⟩
  | .hbm, ⟨4, _⟩ => ⟨S2x6x1024, .f32⟩
  | .hbm, ⟨5, _⟩ => ⟨S4352x1024, .f32⟩
  | .hbm, ⟨6, _⟩ => ⟨S4352x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .local _ .vmem, ⟨0, _⟩ => ⟨S256x3584, .bf16⟩
  | .local _ .vmem, ⟨1, _⟩ => ⟨S256x3584, .bf16⟩
  | .local _ .vmem, ⟨2, _⟩ => ⟨S1024x3584, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | _, _ => ⟨S4352x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_49 : BitVec 32 := 0#32
  let v82 : BitVec 1 := Scalar.cmpi .ne v81 c0_i32_49
  v82

def k0_cond2 (i : grid0.Coords) : BitVec 1 :=
  let arg0 : BitVec 32 := BitVec.ofNat 32 (i 0).val
  let c0_i32 : BitVec 32 := 0#32
  let v80 : BitVec 1 := Scalar.cmpi .eq arg0 c0_i32
  let v_true : BitVec 1 := 1#1
  let v83 : BitVec 1 := Scalar.xori v80 v_true
  let v84 : BitVec 32 := Scalar.extui v83
  let c0_i32_50 : BitVec 32 := 0#32
  let v85 : BitVec 1 := Scalar.cmpi .ne v84 c0_i32_50
  v85

def k0_cond3 (i : grid0.Coords) : BitVec 1 :=
  let arg0 : BitVec 32 := BitVec.ofNat 32 (i 0).val
  let c0_i32_51 : BitVec 32 := 0#32
  let v86 : BitVec 1 := Scalar.cmpi .eq arg0 c0_i32_51
  let c1_i32 : BitVec 32 := 1#32
  let v87 : BitVec 1 := Scalar.cmpi .eq arg0 c1_i32
  let v88 : BitVec 1 := Scalar.ori v86 v87
  let v89 : BitVec 32 := Scalar.extui v88
  let c0_i32_52 : BitVec 32 := 0#32
  let v90 : BitVec 1 := Scalar.cmpi .ne v89 c0_i32_52
  v90

def k0_cond4 (i : grid0.Coords) : BitVec 1 :=
  let arg0 : BitVec 32 := BitVec.ofNat 32 (i 0).val
  let c0_i32_51 : BitVec 32 := 0#32
  let v86 : BitVec 1 := Scalar.cmpi .eq arg0 c0_i32_51
  let c1_i32 : BitVec 32 := 1#32
  let v87 : BitVec 1 := Scalar.cmpi .eq arg0 c1_i32
  let v88 : BitVec 1 := Scalar.ori v86 v87
  let true_53 : BitVec 1 := 1#1
  let v91 : BitVec 1 := Scalar.xori v88 true_53
  let v92 : BitVec 32 := Scalar.extui v91
  let c0_i32_54 : BitVec 32 := 0#32
  let v93 : BitVec 1 := Scalar.cmpi .ne v92 c0_i32_54
  v93

def k0_cond5 (i : grid0.Coords) : BitVec 1 :=
  let arg0 : BitVec 32 := BitVec.ofNat 32 (i 0).val
  let c0_i32_55 : BitVec 32 := 0#32
  let v94 : BitVec 1 := Scalar.cmpi .eq arg0 c0_i32_55
  let c1_i32_56 : BitVec 32 := 1#32
  let v95 : BitVec 1 := Scalar.cmpi .eq arg0 c1_i32_56
  let v96 : BitVec 1 := Scalar.ori v94 v95
  let v97 : BitVec 32 := Scalar.extui v96
  let c0_i32_57 : BitVec 32 := 0#32
  let v98 : BitVec 1 := Scalar.cmpi .ne v97 c0_i32_57
  v98

def k0_cond6 (i : grid0.Coords) : BitVec 1 :=
  let arg0 : BitVec 32 := BitVec.ofNat 32 (i 0).val
  let c0_i32_55 : BitVec 32 := 0#32
  let v94 : BitVec 1 := Scalar.cmpi .eq arg0 c0_i32_55
  let c1_i32_56 : BitVec 32 := 1#32
  let v95 : BitVec 1 := Scalar.cmpi .eq arg0 c1_i32_56
  let v96 : BitVec 1 := Scalar.ori v94 v95
  let true_58 : BitVec 1 := 1#1
  let v99 : BitVec 1 := Scalar.xori v96 true_58
  let v100 : BitVec 32 := Scalar.extui v99
  let c0_i32_59 : BitVec 32 := 0#32
  let v101 : BitVec 1 := Scalar.cmpi .ne v100 c0_i32_59
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_9 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4352x3584 : Shape := ⟨2, ![4352, 3584]⟩
abbrev S1024x3584 : Shape := ⟨2, ![1024, 3584]⟩
abbrev S4352x1024 : Shape := ⟨2, ![4352, 1024]⟩
abbrev S1x1024 : Shape := ⟨2, ![1, 1024]⟩
abbrev S2x6x1024 : Shape := ⟨3, ![2, 6, 1024]⟩
abbrev S2x1x1024 : Shape := ⟨3, ![2, 1, 1024]⟩
abbrev S_ : Shape := ⟨0, ![]⟩
abbrev S4352 : Shape := ⟨1, ![4352]⟩
abbrev S4352x1 : Shape := ⟨2, ![4352, 1]⟩
abbrev S1x1x1024 : Shape := ⟨3, ![1, 1, 1024]⟩
abbrev S256x1024 : Shape := ⟨2, ![256, 1024]⟩
abbrev S4096x1024 : Shape := ⟨2, ![4096, 1024]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4352x3584, .bf16⟩
  | .hbm, ⟨1, _⟩ => ⟨S1024x3584, .bf16⟩
  | .hbm, ⟨2, _⟩ => ⟨S4352x1024, .f32⟩
  | .hbm, ⟨3, _⟩ => ⟨S1x1024, .f32⟩
  | .hbm, ⟨4, _⟩ => ⟨S2x6x1024, .f32⟩
  | .hbm, ⟨5, _⟩ => ⟨S4352x1024, .f32⟩
  | .hbm, ⟨6, _⟩ => ⟨S2x1x1024, .f32⟩
  | .hbm, ⟨7, _⟩ => ⟨S2x1x1024, .f32⟩
  | .hbm, ⟨8, _⟩ => ⟨S1024x3584, .f32⟩
  | .hbm, ⟨9, _⟩ => ⟨S4352x1024, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S1x1x1024, .f32⟩
  | .hbm, ⟨29, _⟩ => ⟨S1x1024, .f32⟩
  | .hbm, ⟨30, _⟩ => ⟨S256x1024, .f32⟩
  | .hbm, ⟨31, _⟩ => ⟨S1x1x1024, .f32⟩
  | .hbm, ⟨32, _⟩ => ⟨S1x1024, .f32⟩
  | .hbm, ⟨33, _⟩ => ⟨S4096x1024, .f32⟩
  | .hbm, ⟨34, _⟩ => ⟨S4352x1024, .f32⟩
  | .hbm, ⟨35, _⟩ => ⟨S1x1x1024, .f32⟩
  | .hbm, ⟨36, _⟩ => ⟨S1x1024, .f32⟩
  | .hbm, ⟨37, _⟩ => ⟨S256x1024, .f32⟩
  | .hbm, ⟨38, _⟩ => ⟨S1x1x1024, .f32⟩
  | .hbm, ⟨39, _⟩ => ⟨S1x1024, .f32⟩
  | .hbm, ⟨40, _⟩ => ⟨S4096x1024, .f32⟩
  | .hbm, ⟨41, _⟩ => ⟨S4352x1024, .f32⟩
  | .hbm, ⟨42, _⟩ => ⟨S_, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x3584, .f32⟩
  | .hbm, ⟨48, _⟩ => ⟨S4352x3584, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S256x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x1x1024, .f32⟩
  | .hbm, ⟨58, _⟩ => ⟨S_, .f32⟩
  | .hbm, ⟨59, _⟩ => ⟨S2x1x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1x1024, .f32⟩
  | .hbm, ⟨64, _⟩ => ⟨S_, .f32⟩
  | .hbm, ⟨65, _⟩ => ⟨S2x1x1024, .f32⟩
  | .hbm, ⟨66, _⟩ => ⟨S2x1x1024, .f32⟩
  | .hbm, ⟨67, _⟩ => ⟨S256x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S1x1x1024, .f32⟩
  | .hbm, ⟨73, _⟩ => ⟨S_, .f32⟩
  | .hbm, ⟨74, _⟩ => ⟨S2x1x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S1x1x1024, .f32⟩
  | .hbm, ⟨79, _⟩ => ⟨S_, .f32⟩
  | .hbm, ⟨80, _⟩ => ⟨S2x1x1024, .f32⟩
  | .hbm, ⟨81, _⟩ => ⟨S2x1x1024, .f32⟩
  | .hbm, ⟨82, _⟩ => ⟨S4352x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4352x1024, .f32⟩
  | .hbm, ⟨87, _⟩ => ⟨S4352x1024, .f32⟩
  | .hbm, ⟨88, _⟩ => ⟨S4352x1024, .f32⟩
  | .hbm, ⟨89, _⟩ => ⟨S_, .f32⟩
  | .hbm, ⟨90, _⟩ => ⟨S4352, .f32⟩
  | .hbm, ⟨91, _⟩ => ⟨S4352x1, .f32⟩
  | .hbm, ⟨92, _⟩ => ⟨S4352x1024, .f32⟩
  | .hbm, ⟨93, _⟩ => ⟨S4352x1024, .f32⟩
  | .hbm, ⟨94, _⟩ => ⟨S4352x1, .f32⟩
  | .hbm, ⟨95, _⟩ => ⟨S_, .f32⟩
  | .hbm, ⟨96, _⟩ => ⟨S4352x1, .f32⟩
  | .hbm, ⟨97, _⟩ => ⟨S4352x1, .f32⟩
  | .hbm, ⟨98, _⟩ => ⟨S_, .f32⟩
  | .hbm, ⟨99, _⟩ => ⟨S4352, .f32⟩
  | .hbm, ⟨100, _⟩ => ⟨S4352x1024, .f32⟩
  | .hbm, ⟨101, _⟩ => ⟨S4352x1024, .f32⟩
  | .hbm, ⟨102, _⟩ => ⟨S4352x1024, .f32⟩
  | .hbm, ⟨103, _⟩ => ⟨S4352x1024, .f32⟩
  | .hbm, ⟨104, _⟩ => ⟨S4352x1024, .f32⟩
  | .hbm, ⟨105, _⟩ => ⟨S4352x1024, .f32⟩
  | _, _ => ⟨S4352x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel8.lean ====
abbrev S4352x1024 : Shape := ⟨2, ![4352, 1024]⟩
abbrev S2x6x1024 : Shape := ⟨3, ![2, 6, 1024]⟩
abbrev S1x1024 : Shape := ⟨2, ![1, 1024]⟩
abbrev S2816x1024 : Shape := ⟨2, ![2816, 1024]⟩
abbrev S4352x5632 : Shape := ⟨2, ![4352, 5632]⟩
abbrev S2x1x1024 : Shape := ⟨3, ![2, 1, 1024]⟩
abbrev S256x1024 : Shape := ⟨2, ![256, 1024]⟩
abbrev S1x6x1024 : Shape := ⟨3, ![1, 6, 1024]⟩
abbrev S256x5632 : Shape := ⟨2, ![256, 5632]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩
abbrev S256x2816 : Shape := ⟨2, ![256, 2816]⟩

abbrev nBuf : Space → Nat
  | .hbm => 10
  | .vmem => 17
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x6x1024, .f32⟩
  | .hbm, ⟨3, _⟩ => ⟨S1x1024, .f32⟩
  | .hbm, ⟨4, _⟩ => ⟨S2816x1024, .bf16⟩
  | .hbm, ⟨5, _⟩ => ⟨S4352x5632, .bf16⟩
  | .hbm, ⟨6, _⟩ => ⟨S4352x5632, .bf16⟩
  | .hbm, ⟨7, _⟩ => ⟨S4352x1024, .bf16⟩
  | .hbm, ⟨8, _⟩ => ⟨S2x1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S2816x1024, .bf16⟩
  | .local _ .vmem, ⟨8, _⟩ => ⟨S256x5632, .bf16⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .bf16⟩
  | .local _ .vmem, ⟨13, _⟩ => ⟨S256x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let c1_i32 : BitVec 32 := 1#32
  let v82 : BitVec 1 := Scalar.cmpi .eq arg0 c1_i32
  let v83 : BitVec 1 := Scalar.ori v81 v82
  let v84 : BitVec 32 := Scalar.extui v83
  let c0_i32_34 : BitVec 32 := 0#32
  let v85 : BitVec 1 := Scalar.cmpi .ne v84 c0_i32_34
  v85

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let c1_i32 : BitVec 32 := 1#32
  let v82 : BitVec 1 := Scalar.cmpi .eq arg0 c1_i32
  let v83 : BitVec 1 := Scalar.ori v81 v82
  let v_true : BitVec 1 := 1#1
  let v86 : BitVec 1 := Scalar.xori v83 v_true
  let v87 : BitVec 32 := Scalar.extui v86
  let c0_i32_35 : BitVec 32 := 0#32
  let v88 : BitVec 1 := Scalar.cmpi .ne v87 c0_i32_35
  v88

def k0_cond3 (i : grid0.Coords) : BitVec 1 :=
  let arg0 : BitVec 32 := BitVec.ofNat 32 (i 0).val
  let c0_i32_36 : BitVec 32 := 0#32
  let v89 : BitVec 1 := Scalar.cmpi .eq arg0 c0_i32_36
  let v90 : BitVec 32 := Scalar.extui v89
  let c0_i32_37 : BitVec 32 := 0#32
  let v91 : BitVec 1 := Scalar.cmpi .ne v90 c0_i32_37
  v91

def k0_cond4 (i : grid0.Coords) : BitVec 1 :=
  let arg0 : BitVec 32 := BitVec.ofNat 32 (i 0).val
  let c0_i32_36 : BitVec 32 := 0#32
  let v89 : BitVec 1 := Scalar.cmpi .eq arg0 c0_i32_36
  let true_38 : BitVec 1 := 1#1
  let v92 : BitVec 1 := Scalar.xori v89 true_38
  let v93 : BitVec 32 := Scalar.extui v92
  let c0_i32_39 : BitVec 32 := 0#32
  let v94 : BitVec 1 := Scalar.cmpi .ne v93 c0_i32_39
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4352x1024 : Shape := ⟨2, ![4352, 1024]⟩
abbrev S2x6x1024 : Shape := ⟨3, ![2, 6, 1024]⟩
abbrev S1x1024 : Shape := ⟨2, ![1, 1024]⟩
abbrev S2816x1024 : Shape := ⟨2, ![2816, 1024]⟩
abbrev S4352x5632 : Shape := ⟨2, ![4352, 5632]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S_ : Shape := ⟨0, ![]⟩
abbrev S4352 : Shape := ⟨1, ![4352]⟩
abbrev S4352x1 : Shape := ⟨2, ![4352, 1]⟩
abbrev S1024 : Shape := ⟨1, ![1024]⟩
abbrev S4352x2816 : Shape := ⟨2, ![4352, 2816]⟩

abbrev nBuf : Space → Nat
  | .hbm => 103
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x6x1024, .f32⟩
  | .hbm, ⟨3, _⟩ => ⟨S1x1024, .f32⟩
  | .hbm, ⟨4, _⟩ => ⟨S2816x1024, .bf16⟩
  | .hbm, ⟨5, _⟩ => ⟨S4352x5632, .bf16⟩
  | .hbm, ⟨6, _⟩ => ⟨S2x1x1024, .f32⟩
  | .hbm, ⟨7, _⟩ => ⟨S1x1x1024, .f32⟩
  | .hbm, ⟨8, _⟩ => ⟨S1x1024, .f32⟩
  | .hbm, ⟨9, _⟩ => ⟨S256x1024, .f32⟩
  | .hbm, ⟨10, _⟩ => ⟨S1x1x1024, .f32⟩
  | .hbm, ⟨11, _⟩ => ⟨S1x1024, .f32⟩
  | .hbm, ⟨12, _⟩ => ⟨S4096x1024, .f32⟩
  | .hbm, ⟨13, _⟩ => ⟨S4352x1024, .f32⟩
  | .hbm, ⟨14, _⟩ => ⟨S4352x1024, .f32⟩
  | .hbm, ⟨15, _⟩ => ⟨S_, .f32⟩
  | .hbm, ⟨16, _⟩ => ⟨S4352, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S4352x1, .f32⟩
  | .hbm, ⟨26, _⟩ => ⟨S_, .f32⟩
  | .hbm, ⟨27, _⟩ => ⟨S4352x1, .f32⟩
  | .hbm, ⟨28, _⟩ => ⟨S4352x1, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352, .f32⟩
  | .hbm, ⟨45, _⟩ => ⟨S4352x1, .f32⟩
  | .hbm, ⟨46, _⟩ => ⟨S4352x1024, .f32⟩
  | .hbm, ⟨47, _⟩ => ⟨S4352x1024, .f32⟩
  | .hbm, ⟨48, _⟩ => ⟨S4352x1, .f32⟩
  | .hbm, ⟨49, _⟩ => ⟨S_, .f32⟩
  | .hbm, ⟨50, _⟩ => ⟨S4352x1, .f32⟩
  | .hbm, ⟨51, _⟩ => ⟨S4352x1, .f32⟩
  | .hbm, ⟨52, _⟩ => ⟨S_, .f32⟩
  | .hbm, ⟨53, _⟩ => ⟨S4352, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S256x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x1x1024, .f32⟩
  | .hbm, ⟨65, _⟩ => ⟨S_, .f32⟩
  | .hbm, ⟨66, _⟩ => ⟨S2x1x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S1x1x1024, .f32⟩
  | .hbm, ⟨71, _⟩ => ⟨S_, .f32⟩
  | .hbm, ⟨72, _⟩ => ⟨S2x1x1024, .f32⟩
  | .hbm, ⟨73, _⟩ => ⟨S2x1x1024, .f32⟩
  | .hbm, ⟨74, _⟩ => ⟨S4352x5632, .f32⟩
  | .hbm, ⟨75, _⟩ => ⟨S4352x2816, .f32⟩
  | .hbm, ⟨76, _⟩ => ⟨S4352x2816, .f32⟩
  | .hbm, ⟨77, _⟩ => ⟨S4352x2816, .f32⟩
  | .hbm, ⟨78, _⟩ => ⟨S4352x2816, .f32⟩
  | .hbm, ⟨79, _⟩ => ⟨S_, .f32⟩
  | .hbm, ⟨80, _⟩ => ⟨S4352x2816, .f32⟩
  | .hbm, ⟨81, _⟩ => ⟨S4352x2816, .f32⟩
  | .hbm, ⟨82, _⟩ => ⟨S_, .f32⟩
  | .hbm, ⟨83, _⟩ => ⟨S4352x2816, .f32⟩
  | .hbm, ⟨84, _⟩ => ⟨S4352x2816, .f32⟩
  | .hbm, ⟨85, _⟩ => ⟨S_, .f32⟩
  | .hbm, ⟨86, _⟩ => ⟨S4352x2816, .f32⟩
  | .hbm, ⟨87, _⟩ => ⟨S4352x2816, .f32⟩
  | .hbm, ⟨88, _⟩ => ⟨S4352x2816, .f32⟩
  | .hbm, ⟨89, _⟩ => ⟨S4352x2816, .f32⟩
  | .hbm, ⟨90, _⟩ => ⟨S4352x2816, .f32⟩
  | .hbm, ⟨91, _⟩ => ⟨S2816x1024, .f32⟩
  | .hbm, ⟨92, _⟩ => ⟨S4352x1024, .f32⟩
  | .hbm, ⟨93, _⟩ => ⟨S4352x2816, .f32⟩
  | .hbm, ⟨94, _⟩ => ⟨S4352x2816, .f32⟩
  | .hbm, ⟨95, _⟩ => ⟨S4352x2816, .f32⟩
  | .hbm, ⟨96, _⟩ => ⟨S4352x2816, .f32⟩
  | .hbm, ⟨97, _⟩ => ⟨S4352x2816, .f32⟩
  | .hbm, ⟨98, _⟩ => ⟨S4352x2816, .f32⟩
  | .hbm, ⟨99, _⟩ => ⟨S4352x2816, .f32⟩
  | .hbm, ⟨100, _⟩ => ⟨S4352x5632, .f32⟩
  | .hbm, ⟨101, _⟩ => ⟨S4352x5632, .bf16⟩
  | .hbm, ⟨102, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_v59_2 : Ref sig .tc := ⟨.hbm, 84, rfl⟩
abbrev main_call0_cst_1 : Ref sig .tc := ⟨.hbm, 85, rfl⟩
abbrev main_call0_v6 : Ref sig .tc := ⟨.hbm, 86, rfl⟩
abbrev main_call0_v7 : Ref sig .tc := ⟨.hbm, 87, rfl⟩
abbrev main_v59_1 : Ref sig .tc := ⟨.hbm, 88, rfl⟩
abbrev main_v59_0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Kernel9.lean ====
abbrev S4352x1024 : Shape := ⟨2, ![4352, 1024]⟩
abbrev S2x6x1024 : Shape := ⟨3, ![2, 6, 1024]⟩
abbrev S1x1024 : Shape := ⟨2, ![1, 1024]⟩
abbrev S1024x1024 : Shape := ⟨2, ![1024, 1024]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x6x1024, .f32⟩
  | .hbm, ⟨3, _⟩ => ⟨S1x1024, .f32⟩
  | .hbm, ⟨4, _⟩ => ⟨S1024x1024, .bf16⟩
  | .hbm, ⟨5, _⟩ => ⟨S4352x1024, .f32⟩
  | .hbm, ⟨6, _⟩ => ⟨S4352x1024, .bf16⟩
  | .hbm, ⟨7, _⟩ => ⟨S2x1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let c1_i32 : BitVec 32 := 1#32
  let v51 : BitVec 1 := Scalar.cmpi .eq arg0 c1_i32
  let v52 : BitVec 1 := Scalar.ori v50 v51
  let v53 : BitVec 32 := Scalar.extui v52
  let c0_i32_22 : BitVec 32 := 0#32
  let v54 : BitVec 1 := Scalar.cmpi .ne v53 c0_i32_22
  v54

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let c1_i32 : BitVec 32 := 1#32
  let v51 : BitVec 1 := Scalar.cmpi .eq arg0 c1_i32
  let v52 : BitVec 1 := Scalar.ori v50 v51
  let v_true : BitVec 1 := 1#1
  let v55 : BitVec 1 := Scalar.xori v52 v_true
  let v56 : BitVec 32 := Scalar.extui v55
  let c0_i32_23 : BitVec 32 := 0#32
  let v57 : BitVec 1 := Scalar.cmpi .ne v56 c0_i32_23
  v57

def k0_cond3 (i : grid0.Coords) : BitVec 1 :=
  let arg0 : BitVec 32 := BitVec.ofNat 32 (i 0).val
  let c0_i32_24 : BitVec 32 := 0#32
  let v58 : BitVec 1 := Scalar.cmpi .eq arg0 c0_i32_24
  let v59 : BitVec 32 := Scalar.extui v58
  let c0_i32_25 : BitVec 32 := 0#32
  let v60 : BitVec 1 := Scalar.cmpi .ne v59 c0_i32_25
  v60

def k0_cond4 (i : grid0.Coords) : BitVec 1 :=
  let arg0 : BitVec 32 := BitVec.ofNat 32 (i 0).val
  let c0_i32_24 : BitVec 32 := 0#32
  let v58 : BitVec 1 := Scalar.cmpi .eq arg0 c0_i32_24
  let true_26 : BitVec 1 := 1#1
  let v61 : BitVec 1 := Scalar.xori v58 true_26
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4352x1024 : Shape := ⟨2, ![4352, 1024]⟩
abbrev S2x6x1024 : Shape := ⟨3, ![2, 6, 1024]⟩
abbrev S1x1024 : Shape := ⟨2, ![1, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x6x1024, .f32⟩
  | .hbm, ⟨3, _⟩ => ⟨S1x1024, .f32⟩
  | .hbm, ⟨4, _⟩ => ⟨S1024x1024, .bf16⟩
  | .hbm, ⟨5, _⟩ => ⟨S2x1x1024, .f32⟩
  | .hbm, ⟨6, _⟩ => ⟨S1x1x1024, .f32⟩
  | .hbm, ⟨7, _⟩ => ⟨S1x1024, .f32⟩
  | .hbm, ⟨8, _⟩ => ⟨S256x1024, .f32⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S4352x1024, .f32⟩
  | .hbm, ⟨13, _⟩ => ⟨S4352x1024, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S_, .f32⟩
  | .hbm, ⟨43, _⟩ => ⟨S4352, .f32⟩
  | .hbm, ⟨44, _⟩ => ⟨S4352x1, .f32⟩
  | .hbm, ⟨45, _⟩ => ⟨S4352x1024, .f32⟩
  | .hbm, ⟨46, _⟩ => ⟨S4352x1024, .f32⟩
  | .hbm, ⟨47, _⟩ => ⟨S4352x1, .f32⟩
  | .hbm, ⟨48, _⟩ => ⟨S_, .f32⟩
  | .hbm, ⟨49, _⟩ => ⟨S4352x1, .f32⟩
  | .hbm, ⟨50, _⟩ => ⟨S4352x1, .f32⟩
  | .hbm, ⟨51, _⟩ => ⟨S_, .f32⟩
  | .hbm, ⟨52, _⟩ => ⟨S4352, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S256x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1x1024, .f32⟩
  | .hbm, ⟨64, _⟩ => ⟨S_, .f32⟩
  | .hbm, ⟨65, _⟩ => ⟨S2x1x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S1x1x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S_, .f32⟩
  | .hbm, ⟨74, _⟩ => ⟨S4352x1024, .f32⟩
  | .hbm, ⟨75, _⟩ => ⟨S1024x1024, .f32⟩
  | .hbm, ⟨76, _⟩ => ⟨S4352x1024, .f32⟩
  | .hbm, ⟨77, _⟩ => ⟨S4352x1024, .f32⟩
  | .hbm, ⟨78, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel10.lean ====
abbrev S4352x1024 : Shape := ⟨2, ![4352, 1024]⟩
abbrev S1x1024 : Shape := ⟨2, ![1, 1024]⟩
abbrev S2x6x1024 : Shape := ⟨3, ![2, 6, 1024]⟩
abbrev S1024x5632 : Shape := ⟨2, ![1024, 5632]⟩
abbrev S4352x5632 : Shape := ⟨2, ![4352, 5632]⟩
abbrev S256x1024 : Shape := ⟨2, ![256, 1024]⟩
abbrev S1x6x1024 : Shape := ⟨3, ![1, 6, 1024]⟩
abbrev S256x5632 : Shape := ⟨2, ![256, 5632]⟩
abbrev S1x1x1024 : Shape := ⟨3, ![1, 1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x6x1024, .f32⟩
  | .hbm, ⟨3, _⟩ => ⟨S1024x5632, .bf16⟩
  | .hbm, ⟨4, _⟩ => ⟨S4352x5632, .bf16⟩
  | .hbm, ⟨5, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x5632, .bf16⟩
  | .local _ .vmem, ⟨6, _⟩ => ⟨S256x5632, .bf16⟩
  | .local _ .vmem, ⟨7, _⟩ => ⟨S256x5632, .bf16⟩
  | .local _ .vmem, ⟨8, _⟩ => ⟨S256x1024, .bf16⟩
  | .local _ .vmem, ⟨9, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4352x1024 : Shape := ⟨2, ![4352, 1024]⟩
abbrev S1x1024 : Shape := ⟨2, ![1, 1024]⟩
abbrev S2x6x1024 : Shape := ⟨3, ![2, 6, 1024]⟩
abbrev S1024x5632 : Shape := ⟨2, ![1024, 5632]⟩
abbrev S_ : Shape := ⟨0, ![]⟩
abbrev S4352 : Shape := ⟨1, ![4352]⟩
abbrev S4352x1 : Shape := ⟨2, ![4352, 1]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S4352x5632 : Shape := ⟨2, ![4352, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x6x1024, .f32⟩
  | .hbm, ⟨3, _⟩ => ⟨S1024x5632, .bf16⟩
  | .hbm, ⟨4, _⟩ => ⟨S4352x1024, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S2x1x1024, .f32⟩
  | .hbm, ⟨20, _⟩ => ⟨S1x1x1024, .f32⟩
  | .hbm, ⟨21, _⟩ => ⟨S1x1024, .f32⟩
  | .hbm, ⟨22, _⟩ => ⟨S256x1024, .f32⟩
  | .hbm, ⟨23, _⟩ => ⟨S1x1x1024, .f32⟩
  | .hbm, ⟨24, _⟩ => ⟨S1x1024, .f32⟩
  | .hbm, ⟨25, _⟩ => ⟨S4096x1024, .f32⟩
  | .hbm, ⟨26, _⟩ => ⟨S4352x1024, .f32⟩
  | .hbm, ⟨27, _⟩ => ⟨S2x1x1024, .f32⟩
  | .hbm, ⟨28, _⟩ => ⟨S1x1x1024, .f32⟩
  | .hbm, ⟨29, _⟩ => ⟨S1x1024, .f32⟩
  | .hbm, ⟨30, _⟩ => ⟨S256x1024, .f32⟩
  | .hbm, ⟨31, _⟩ => ⟨S1x1x1024, .f32⟩
  | .hbm, ⟨32, _⟩ => ⟨S1x1024, .f32⟩
  | .hbm, ⟨33, _⟩ => ⟨S4096x1024, .f32⟩
  | .hbm, ⟨34, _⟩ => ⟨S4352x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S1024x5632, .f32⟩
  | .hbm, ⟨41, _⟩ => ⟨S4352x5632, .f32⟩
  | .hbm, ⟨42, _⟩ => ⟨S4352x5632, .bf16⟩
  | .hbm, ⟨43, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel11.lean ====
abbrev S4352x1024 : Shape := ⟨2, ![4352, 1024]⟩
abbrev S1x1024 : Shape := ⟨2, ![1, 1024]⟩
abbrev S2x6x1024 : Shape := ⟨3, ![2, 6, 1024]⟩
abbrev S1024x3584 : Shape := ⟨2, ![1024, 3584]⟩
abbrev S4352x3584 : Shape := ⟨2, ![4352, 3584]⟩
abbrev S256x1024 : Shape := ⟨2, ![256, 1024]⟩
abbrev S1x6x1024 : Shape := ⟨3, ![1, 6, 1024]⟩
abbrev S256x3584 : Shape := ⟨2, ![256, 3584]⟩
abbrev S1x1x1024 : Shape := ⟨3, ![1, 1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x6x1024, .f32⟩
  | .hbm, ⟨3, _⟩ => ⟨S1024x3584, .bf16⟩
  | .hbm, ⟨4, _⟩ => ⟨S4352x3584, .f32⟩
  | .hbm, ⟨5, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x3584, .bf16⟩
  | .local _ .vmem, ⟨6, _⟩ => ⟨S256x3584, .f32⟩
  | .local _ .vmem, ⟨7, _⟩ => ⟨S256x3584, .f32⟩
  | .local _ .vmem, ⟨8, _⟩ => ⟨S256x1024, .bf16⟩
  | .local _ .vmem, ⟨9, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4352x1024 : Shape := ⟨2, ![4352, 1024]⟩
abbrev S1x1024 : Shape := ⟨2, ![1, 1024]⟩
abbrev S2x6x1024 : Shape := ⟨3, ![2, 6, 1024]⟩
abbrev S1024x3584 : Shape := ⟨2, ![1024, 3584]⟩
abbrev S_ : Shape := ⟨0, ![]⟩
abbrev S4352 : Shape := ⟨1, ![4352]⟩
abbrev S4352x1 : Shape := ⟨2, ![4352, 1]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S4352x3584 : Shape := ⟨2, ![4352, 3584]⟩

abbrev nBuf : Space → Nat
  | .hbm => 43
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x6x1024, .f32⟩
  | .hbm, ⟨3, _⟩ => ⟨S1024x3584, .bf16⟩
  | .hbm, ⟨4, _⟩ => ⟨S4352x1024, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S2x1x1024, .f32⟩
  | .hbm, ⟨20, _⟩ => ⟨S1x1x1024, .f32⟩
  | .hbm, ⟨21, _⟩ => ⟨S1x1024, .f32⟩
  | .hbm, ⟨22, _⟩ => ⟨S256x1024, .f32⟩
  | .hbm, ⟨23, _⟩ => ⟨S1x1x1024, .f32⟩
  | .hbm, ⟨24, _⟩ => ⟨S1x1024, .f32⟩
  | .hbm, ⟨25, _⟩ => ⟨S4096x1024, .f32⟩
  | .hbm, ⟨26, _⟩ => ⟨S4352x1024, .f32⟩
  | .hbm, ⟨27, _⟩ => ⟨S2x1x1024, .f32⟩
  | .hbm, ⟨28, _⟩ => ⟨S1x1x1024, .f32⟩
  | .hbm, ⟨29, _⟩ => ⟨S1x1024, .f32⟩
  | .hbm, ⟨30, _⟩ => ⟨S256x1024, .f32⟩
  | .hbm, ⟨31, _⟩ => ⟨S1x1x1024, .f32⟩
  | .hbm, ⟨32, _⟩ => ⟨S1x1024, .f32⟩
  | .hbm, ⟨33, _⟩ => ⟨S4096x1024, .f32⟩
  | .hbm, ⟨34, _⟩ => ⟨S4352x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S1024x3584, .f32⟩
  | .hbm, ⟨41, _⟩ => ⟨S4352x3584, .f32⟩
  | .hbm, ⟨42, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel12.lean ====
abbrev S4352x5632 : Shape := ⟨2, ![4352, 5632]⟩
abbrev S2816x1024 : Shape := ⟨2, ![2816, 1024]⟩
abbrev S4352x1024 : Shape := ⟨2, ![4352, 1024]⟩
abbrev S2x6x1024 : Shape := ⟨3, ![2, 6, 1024]⟩
abbrev S1x1024 : Shape := ⟨2, ![1, 1024]⟩
abbrev S4352x2816 : Shape := ⟨2, ![4352, 2816]⟩
abbrev S256x5632 : Shape := ⟨2, ![256, 5632]⟩
abbrev S256x1024 : Shape := ⟨2, ![256, 1024]⟩
abbrev S1x6x1024 : Shape := ⟨3, ![1, 6, 1024]⟩
abbrev S256x2816 : Shape := ⟨2, ![256, 2816]⟩
abbrev S1x1x1024 : Shape := ⟨3, ![1, 1, 1024]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S4352x5632, .bf16⟩
  | .hbm, ⟨1, _⟩ => ⟨S2816x1024, .bf16⟩
  | .hbm, ⟨2, _⟩ => ⟨S4352x1024, .f32⟩
  | .hbm, ⟨3, _⟩ => ⟨S2x6x1024, .f32⟩
  | .hbm, ⟨4, _⟩ => ⟨S1x1024, .f32⟩
  | .hbm, ⟨5, _⟩ => ⟨S4352x1024, .f32⟩
  | .hbm, ⟨6, _⟩ => ⟨S4352x1024, .f32⟩
  | .hbm, ⟨7, _⟩ => ⟨S4352x2816, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4352x5632 : Shape := ⟨2, ![4352, 5632]⟩
abbrev S2816x1024 : Shape := ⟨2, ![2816, 1024]⟩
abbrev S4352x1024 : Shape := ⟨2, ![4352, 1024]⟩
abbrev S2x6x1024 : Shape := ⟨3, ![2, 6, 1024]⟩
abbrev S1x1024 : Shape := ⟨2, ![1, 1024]⟩
abbrev S4352x2816 : Shape := ⟨2, ![4352, 2816]⟩
abbrev S_ : Shape := ⟨0, ![]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S4352 : Shape := ⟨1, ![4352]⟩
abbrev S4352x1 : Shape := ⟨2, ![4352, 1]⟩

abbrev nBuf : Space → Nat
  | .hbm => 46
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2816x1024, .bf16⟩
  | .hbm, ⟨2, _⟩ => ⟨S4352x1024, .f32⟩
  | .hbm, ⟨3, _⟩ => ⟨S2x6x1024, .f32⟩
  | .hbm, ⟨4, _⟩ => ⟨S1x1024, .f32⟩
  | .hbm, ⟨5, _⟩ => ⟨S4352x5632, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S4352x2816, .f32⟩
  | .hbm, ⟨17, _⟩ => ⟨S4352x2816, .f32⟩
  | .hbm, ⟨18, _⟩ => ⟨S2816x1024, .f32⟩
  | .hbm, ⟨19, _⟩ => ⟨S4352x1024, .f32⟩
  | .hbm, ⟨20, _⟩ => ⟨S2x1x1024, .f32⟩
  | .hbm, ⟨21, _⟩ => ⟨S1x1x1024, .f32⟩
  | .hbm, ⟨22, _⟩ => ⟨S1x1024, .f32⟩
  | .hbm, ⟨23, _⟩ => ⟨S256x1024, .f32⟩
  | .hbm, ⟨24, _⟩ => ⟨S1x1x1024, .f32⟩
  | .hbm, ⟨25, _⟩ => ⟨S1x1024, .f32⟩
  | .hbm, ⟨26, _⟩ => ⟨S4096x1024, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x2816, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S2x6x1024 : Shape := ⟨3, ![2, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S2x6x1024, .f32⟩
  | .hbm, ⟨4, _⟩ => ⟨S1x1024, .f32⟩
  | .hbm, ⟨5, _⟩ => ⟨S4352x1024, .f32⟩
  | .hbm, ⟨6, _⟩ => ⟨S4352x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4352x1024 : Shape := ⟨2, ![4352, 1024]⟩
abbrev S1024x1024 : Shape := ⟨2, ![1024, 1024]⟩
abbrev S2x6x1024 : Shape := ⟨3, ![2, 6, 1024]⟩
abbrev S1x1024 : Shape := ⟨2, ![1, 1024]⟩
abbrev S2x1x1024 : Shape := ⟨3, ![2, 1, 1024]⟩
abbrev S1x1x1024 : Shape := ⟨3, ![1, 1, 1024]⟩
abbrev S256x1024 : Shape := ⟨2, ![256, 1024]⟩
abbrev S4096x1024 : Shape := ⟨2, ![4096, 1024]⟩
abbrev S_ : Shape := ⟨0, ![]⟩
abbrev S4352 : Shape := ⟨1, ![4352]⟩
abbrev S4352x1 : Shape := ⟨2, ![4352, 1]⟩

abbrev nBuf : Space → Nat
  | .hbm => 33
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S2x6x1024, .f32⟩
  | .hbm, ⟨4, _⟩ => ⟨S1x1024, .f32⟩
  | .hbm, ⟨5, _⟩ => ⟨S4352x1024, .f32⟩
  | .hbm, ⟨6, _⟩ => ⟨S1024x1024, .f32⟩
  | .hbm, ⟨7, _⟩ => ⟨S4352x1024, .f32⟩
  | .hbm, ⟨8, _⟩ => ⟨S2x1x1024, .f32⟩
  | .hbm, ⟨9, _⟩ => ⟨S1x1x1024, .f32⟩
  | .hbm, ⟨10, _⟩ => ⟨S1x1024, .f32⟩
  | .hbm, ⟨11, _⟩ => ⟨S256x1024, .f32⟩
  | .hbm, ⟨12, _⟩ => ⟨S1x1x1024, .f32⟩
  | .hbm, ⟨13, _⟩ => ⟨S1x1024, .f32⟩
  | .hbm, ⟨14, _⟩ => ⟨S4096x1024, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel14.lean ====
abbrev S4352x3584 : Shape := ⟨2, ![4352, 3584]⟩
abbrev S4352x1024 : Shape := ⟨2, ![4352, 1024]⟩
abbrev S8x1024 : Shape := ⟨2, ![8, 1024]⟩
abbrev S1x1024 : Shape := ⟨2, ![1, 1024]⟩
abbrev S256x1024 : Shape := ⟨2, ![256, 1024]⟩
abbrev S1024 : Shape := ⟨1, ![1024]⟩
abbrev S3x1024 : Shape := ⟨2, ![3, 1024]⟩

abbrev nBuf : Space → Nat
  | .hbm => 6
  | .vmem => 17
  | .smem => 0
  | _ => 0

abbrev bufTy : (tb : Table) → Fin (tcTables nBuf tb) → BufTy
  | .hbm, ⟨0, _⟩ => ⟨S4352x3584, .f32⟩
  | .hbm, ⟨1, _⟩ => ⟨S4352x1024, .f32⟩
  | .hbm, ⟨2, _⟩ => ⟨S8x1024, .f32⟩
  | .hbm, ⟨3, _⟩ => ⟨S4352x1024, .f32⟩
  | .hbm, ⟨4, _⟩ => ⟨S8x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S1x1024, .f32⟩
  | _, _ => ⟨S4352x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32_29 : BitVec 32 := 0#32
  let v70 : BitVec 1 := Scalar.cmpi .eq arg0 c0_i32_29
  let v82 : BitVec 32 := Scalar.extui v70
  let c0_i32_34 : BitVec 32 := 0#32
  let v83 : BitVec 1 := Scalar.cmpi .ne v82 c0_i32_34
  v83

def k0_cond2 (i : grid0.Coords) : BitVec 1 :=
  let arg0 : BitVec 32 := BitVec.ofNat 32 (i 0).val
  let c0_i32_29 : BitVec 32 := 0#32
  let v70 : BitVec 1 := Scalar.cmpi .eq arg0 c0_i32_29
  let v_true : BitVec 1 := 1#1
  let v84 : BitVec 1 := Scalar.xori v70 v_true
  let v85 : BitVec 32 := Scalar.extui v84
  let c0_i32_35 : BitVec 32 := 0#32
  let v86 : BitVec 1 := Scalar.cmpi .ne v85 c0_i32_35
  v86

def k0_cond3 (i : grid0.Coords) : BitVec 1 :=
  let arg0 : BitVec 32 := BitVec.ofNat 32 (i 0).val
  let c0_i32_29 : BitVec 32 := 0#32
  let v70 : BitVec 1 := Scalar.cmpi .eq arg0 c0_i32_29
  let v98 : BitVec 32 := Scalar.extui v70
  let c0_i32_40 : BitVec 32 := 0#32
  let v99 : BitVec 1 := Scalar.cmpi .ne v98 c0_i32_40
  v99

def k0_cond4 (i : grid0.Coords) : BitVec 1 :=
  let arg0 : BitVec 32 := BitVec.ofNat 32 (i 0).val
  let c0_i32_29 : BitVec 32 := 0#32
  let v70 : BitVec 1 := Scalar.cmpi .eq arg0 c0_i32_29
  let true_41 : BitVec 1 := 1#1
  let v100 : BitVec 1 := Scalar.xori v70 true_41
  let v101 : BitVec 32 := Scalar.extui v100
  let c0_i32_42 : BitVec 32 := 0#32
  let v102 : BitVec 1 := Scalar.cmpi .ne v101 c0_i32_42
  v102

def k0_cond5 (i : grid0.Coords) : BitVec 1 :=
  let arg0 : BitVec 32 := BitVec.ofNat 32 (i 0).val
  let c0_i32_29 : BitVec 32 := 0#32
  let v70 : BitVec 1 := Scalar.cmpi .eq arg0 c0_i32_29
  let v106 : BitVec 32 := Scalar.extui v70
  let c0_i32_44 : BitVec 32 := 0#32
  let v107 : BitVec 1 := Scalar.cmpi .ne v106 c0_i32_44
  v107

def k0_cond6 (i : grid0.Coords) : BitVec 1 :=
  let arg0 : BitVec 32 := BitVec.ofNat 32 (i 0).val
  let c0_i32_29 : BitVec 32 := 0#32
  let v70 : BitVec 1 := Scalar.cmpi .eq arg0 c0_i32_29
  let true_45 : BitVec 1 := 1#1
  let v108 : BitVec 1 := Scalar.xori v70 true_45
  let v109 : BitVec 32 := Scalar.extui v108
  let c0_i32_46 : BitVec 32 := 0#32
  let v110 : BitVec 1 := Scalar.cmpi .ne v109 c0_i32_46
  v110

def k0_cond7 (i : grid0.Coords) : BitVec 1 :=
  let arg0 : BitVec 32 := BitVec.ofNat 32 (i 0).val
  let c0_i32_29 : BitVec 32 := 0#32
  let v70 : BitVec 1 := Scalar.cmpi .eq arg0 c0_i32_29
  let v122 : BitVec 32 := Scalar.extui v70
  let c0_i32_51 : BitVec 32 := 0#32
  let v123 : BitVec 1 := Scalar.cmpi .ne v122 c0_i32_51
  v123

def k0_cond8 (i : grid0.Coords) : BitVec 1 :=
  let arg0 : BitVec 32 := BitVec.ofNat 32 (i 0).val
  let c0_i32_29 : BitVec 32 := 0#32
  let v70 : BitVec 1 := Scalar.cmpi .eq arg0 c0_i32_29
  let true_52 : BitVec 1 := 1#1
  let v124 : BitVec 1 := Scalar.xori v70 true_52
  let v125 : BitVec 32 := Scalar.extui v124
  let c0_i32_53 : BitVec 32 := 0#32
  let v126 : BitVec 1 := Scalar.cmpi .ne v125 c0_i32_53
  v126

def k0_cond9 (i : grid0.Coords) : BitVec 1 :=
  let arg0 : BitVec 32 := BitVec.ofNat 32 (i 0).val
  let c0_i32_29 : BitVec 32 := 0#32
  let v70 : BitVec 1 := Scalar.cmpi .eq arg0 c0_i32_29
  let v138 : BitVec 32 := Scalar.extui v70
  let c0_i32_58 : BitVec 32 := 0#32
  let v139 : BitVec 1 := Scalar.cmpi .ne v138 c0_i32_58
  v139

def k0_cond10 (i : grid0.Coords) : BitVec 1 :=
  let arg0 : BitVec 32 := BitVec.ofNat 32 (i 0).val
  let c0_i32_29 : BitVec 32 := 0#32
  let v70 : BitVec 1 := Scalar.cmpi .eq arg0 c0_i32_29
  let true_59 : BitVec 1 := 1#1
  let v140 : BitVec 1 := Scalar.xori v70 true_59
  let v141 : BitVec 32 := Scalar.extui v140
  let c0_i32_60 : BitVec 32 := 0#32
  let v142 : BitVec 1 := Scalar.cmpi .ne v141 c0_i32_60
  v142

def k0_cond11 (i : grid0.Coords) : BitVec 1 :=
  let arg0 : BitVec 32 := BitVec.ofNat 32 (i 0).val
  let c0_i32_29 : BitVec 32 := 0#32
  let v70 : BitVec 1 := Scalar.cmpi .eq arg0 c0_i32_29
  let v144 : BitVec 32 := Scalar.extui v70
  let c0_i32_62 : BitVec 32 := 0#32
  let v145 : BitVec 1 := Scalar.cmpi .ne v144 c0_i32_62
  v145

def k0_cond12 (i : grid0.Coords) : BitVec 1 :=
  let arg0 : BitVec 32 := BitVec.ofNat 32 (i 0).val
  let c0_i32_29 : BitVec 32 := 0#32
  let v70 : BitVec 1 := Scalar.cmpi .eq arg0 c0_i32_29
  let true_63 : BitVec 1 := 1#1
  let v146 : BitVec 1 := Scalar.xori v70 true_63
  let v147 : BitVec 32 := Scalar.extui v146
  let c0_i32_64 : BitVec 32 := 0#32
  let v148 : BitVec 1 := Scalar.cmpi .ne v147 c0_i32_64
  v148

def k0_cond13 (i : grid0.Coords) : BitVec 1 :=
  let arg0 : BitVec 32 := BitVec.ofNat 32 (i 0).val
  let c0_i32_29 : BitVec 32 := 0#32
  let v70 : BitVec 1 := Scalar.cmpi .eq arg0 c0_i32_29
  let v151 : BitVec 32 := Scalar.extui v70
  let c0_i32_66 : BitVec 32 := 0#32
  let v152 : BitVec 1 := Scalar.cmpi .ne v151 c0_i32_66
  v152

def k0_cond14 (i : grid0.Coords) : BitVec 1 :=
  let arg0 : BitVec 32 := BitVec.ofNat 32 (i 0).val
  let c0_i32_29 : BitVec 32 := 0#32
  let v70 : BitVec 1 := Scalar.cmpi .eq arg0 c0_i32_29
  let true_67 : BitVec 1 := 1#1
  let v153 : BitVec 1 := Scalar.xori v70 true_67
  let v154 : BitVec 32 := Scalar.extui v153
  let c0_i32_68 : BitVec 32 := 0#32
  let v155 : BitVec 1 := Scalar.cmpi .ne v154 c0_i32_68
  v155

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S4352x3584 : Shape := ⟨2, ![4352, 3584]⟩
abbrev S4352x1024 : Shape := ⟨2, ![4352, 1024]⟩
abbrev S8x1024 : Shape := ⟨2, ![8, 1024]⟩
abbrev S_ : Shape := ⟨0, ![]⟩
abbrev S1x1024 : Shape := ⟨2, ![1, 1024]⟩
abbrev S5x1024 : Shape := ⟨2, ![5, 1024]⟩
abbrev S256x1024 : Shape := ⟨2, ![256, 1024]⟩
abbrev S2x1024 : Shape := ⟨2, ![2, 1024]⟩
abbrev S260x1024 : Shape := ⟨2, ![260, 1024]⟩
abbrev S4096x1024 : Shape := ⟨2, ![4096, 1024]⟩
abbrev S4100x1024 : Shape := ⟨2, ![4100, 1024]⟩
abbrev S1024 : Shape := ⟨1, ![1024]⟩

abbrev nBuf : Space → Nat
  | .hbm => 221
  | .vmem => 0
  | .smem => 0
  | _ => 0

abbrev hbmTy0_0 (i : Nat) : BufTy := match i % 128 with
  | 0 => ⟨S4352x3584, .f32⟩
  | 1 => ⟨S4352x1024, .f32⟩
  | 2 => ⟨S8x1024, .f32⟩
  | 3 => ⟨S4352x1024, .f32⟩
  | 4 => ⟨S_, .f32⟩
  | 5 => ⟨S1x1024, .f32⟩
  | 6 => ⟨S5x1024, .f32⟩
  | 7 => ⟨S256x1024, .f32⟩
  | 8 => ⟨S_, .f32⟩
  | 9 => ⟨S2x1024, .f32⟩
  | 10 => ⟨S260x1024, .f32⟩
  | 11 => ⟨S_, .f32⟩
  | 12 => ⟨S2x1024, .f32⟩
  | 13 => ⟨S_, .f32⟩
  | 14 => ⟨S2x1024, .f32⟩
  | 15 => ⟨S1x1024, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S1x1024, .f32⟩
  | 23 => ⟨S256x1024, .f32⟩
  | 24 => ⟨S256x1024, .f32⟩
  | 25 => ⟨S256x1024, .f32⟩
  | 26 => ⟨S256x1024, .f32⟩
  | 27 => ⟨S1x1024, .f32⟩
  | 28 => ⟨S256x1024, .f32⟩
  | 29 => ⟨S256x1024, .f32⟩
  | 30 => ⟨S256x1024, .f32⟩
  | 31 => ⟨S256x1024, .f32⟩
  | 32 => ⟨S1x1024, .f32⟩
  | 33 => ⟨S256x1024, .f32⟩
  | 34 => ⟨S256x1024, .f32⟩
  | 35 => ⟨S256x1024, .f32⟩
  | 36 => ⟨S256x1024, .f32⟩
  | 37 => ⟨S1x1024, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S4096x1024, .f32⟩
  | 45 => ⟨S_, .f32⟩
  | 46 => ⟨S2x1024, .f32⟩
  | 47 => ⟨S4100x1024, .f32⟩
  | 48 => ⟨S_, .f32⟩
  | 49 => ⟨S2x1024, .f32⟩
  | 50 => ⟨S_, .f32⟩
  | 51 => ⟨S2x1024, .f32⟩
  | 52 => ⟨S1x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4352x1024, .f32⟩
  | 82 => ⟨S256x1024, .f32⟩
  | 83 => ⟨S4096x1024, .f32⟩
  | 84 => ⟨S_, .f32⟩
  | 85 => ⟨S1024, .f32⟩
  | 86 => ⟨S1x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S_, .f32⟩
  | 94 => ⟨S4100x1024, .f32⟩
  | 95 => ⟨S_, .f32⟩
  | 96 => ⟨S5x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S_, .f32⟩
  | 104 => ⟨S4100x1024, .f32⟩
  | 105 => ⟨S4100x1024, .f32⟩
  | 106 => ⟨S_, .f32⟩
  | 107 => ⟨S5x1024, .f32⟩
  | 108 => ⟨S5x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S_, .f32⟩
  | 116 => ⟨S4100x1024, .f32⟩
  | 117 => ⟨S4100x1024, .f32⟩
  | 118 => ⟨S_, .f32⟩
  | 119 => ⟨S5x1024, .f32⟩
  | 120 => ⟨S5x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4352x3584, .f32⟩

abbrev hbmTy0_1 (i : Nat) : BufTy := match i % 128 with
  | 0 => ⟨S4100x1024, .f32⟩
  | 1 => ⟨S4100x1024, .f32⟩
  | 2 => ⟨S_, .f32⟩
  | 3 => ⟨S5x1024, .f32⟩
  | 4 => ⟨S5x1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S4100x1024, .f32⟩
  | 13 => ⟨S4100x1024, .f32⟩
  | 14 => ⟨S_, .f32⟩
  | 15 => ⟨S5x1024, .f32⟩
  | 16 => ⟨S5x1024, .f32⟩
  | 17 => ⟨S2x1024, .f32⟩
  | 18 => ⟨S4096x1024, .f32⟩
  | 19 => ⟨S2x1024, .f32⟩
  | 20 => ⟨S_, .f32⟩
  | 21 => ⟨S4352x1024, .f32⟩
  | 22 => ⟨S_, .f32⟩
  | 23 => ⟨S1024, .f32⟩
  | 24 => ⟨S1x1024, .f32⟩
  | 25 => ⟨S1x1024, .f32⟩
  | 26 => ⟨S256x1024, .f32⟩
  | 27 => ⟨S256x1024, .f32⟩
  | 28 => ⟨S256x1024, .f32⟩
  | 29 => ⟨S_, .f32⟩
  | 30 => ⟨S1024, .f32⟩
  | 31 => ⟨S1x1024, .f32⟩
  | 32 => ⟨S_, .f32⟩
  | 33 => ⟨S260x1024, .f32⟩
  | 34 => ⟨S_, .f32⟩
  | 35 => ⟨S5x1024, .f32⟩
  | 36 => ⟨S5x1024, .f32⟩
  | 37 => ⟨S256x1024, .f32⟩
  | 38 => ⟨S256x1024, .f32⟩
  | 39 => ⟨S256x1024, .f32⟩
  | 40 => ⟨S_, .f32⟩
  | 41 => ⟨S1024, .f32⟩
  | 42 => ⟨S1x1024, .f32⟩
  | 43 => ⟨S_, .f32⟩
  | 44 => ⟨S260x1024, .f32⟩
  | 45 => ⟨S260x1024, .f32⟩
  | 46 => ⟨S_, .f32⟩
  | 47 => ⟨S5x1024, .f32⟩
  | 48 => ⟨S5x1024, .f32⟩
  | 49 => ⟨S256x1024, .f32⟩
  | 50 => ⟨S256x1024, .f32⟩
  | 51 => ⟨S256x1024, .f32⟩
  | 52 => ⟨S_, .f32⟩
  | 53 => ⟨S1024, .f32⟩
  | 54 => ⟨S1x1024, .f32⟩
  | 55 => ⟨S_, .f32⟩
  | 56 => ⟨S260x1024, .f32⟩
  | 57 => ⟨S260x1024, .f32⟩
  | 58 => ⟨S_, .f32⟩
  | 59 => ⟨S5x1024, .f32⟩
  | 60 => ⟨S5x1024, .f32⟩
  | 61 => ⟨S256x1024, .f32⟩
  | 62 => ⟨S256x1024, .f32⟩
  | 63 => ⟨S256x1024, .f32⟩
  | 64 => ⟨S_, .f32⟩
  | 65 => ⟨S1024, .f32⟩
  | 66 => ⟨S1x1024, .f32⟩
  | 67 => ⟨S_, .f32⟩
  | 68 => ⟨S260x1024, .f32⟩
  | 69 => ⟨S260x1024, .f32⟩
  | 70 => ⟨S_, .f32⟩
  | 71 => ⟨S5x1024, .f32⟩
  | 72 => ⟨S5x1024, .f32⟩
  | 73 => ⟨S256x1024, .f32⟩
  | 74 => ⟨S256x1024, .f32⟩
  | 75 => ⟨S256x1024, .f32⟩
  | 76 => ⟨S_, .f32⟩
  | 77 => ⟨S1024, .f32⟩
  | 78 => ⟨S1x1024, .f32⟩
  | 79 => ⟨S_, .f32⟩
  | 80 => ⟨S260x1024, .f32⟩
  | 81 => ⟨S260x1024, .f32⟩
  | 82 => ⟨S_, .f32⟩
  | 83 => ⟨S5x1024, .f32⟩
  | 84 => ⟨S5x1024, .f32⟩
  | 85 => ⟨S2x1024, .f32⟩
  | 86 => ⟨S256x1024, .f32⟩
  | 87 => ⟨S2x1024, .f32⟩
  | 88 => ⟨S_, .f32⟩
  | 89 => ⟨S4352x1024, .f32⟩
  | 90 => ⟨S4352x1024, .f32⟩
  | 91 => ⟨S_, .f32⟩
  | 92 => ⟨S8x1024, .f32⟩
  | _ => ⟨S4352x3584, .f32⟩

abbrev hbmTy (i : Nat) : BufTy := match i / 128 with
  | 0 => hbmTy0_0 i
  | 1 => hbmTy0_1 i
  | _ => ⟨S4352x3584, .f32⟩

abbrev bufTy : (tb : Table) → Fin (tcTables nBuf tb) → BufTy
  | .hbm, ⟨i, _⟩ => hbmTy i
  | _, _ => ⟨S4352x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_9 : Ref sig .tc := ⟨.hbm, 90, rfl⟩
abbrev main_v77 : Ref sig .tc := ⟨.hbm, 91, rfl⟩
abbrev main_v78 : Ref sig .tc := ⟨.hbm, 92, rfl⟩
abbrev main_cst_10 : Ref sig .tc := ⟨.hbm, 93, rfl⟩
abbrev main_v79 : Ref sig .tc := ⟨.hbm, 94, rfl⟩
abbrev main_cst_11 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_12 : Ref sig .tc := ⟨.hbm, 100, rfl⟩
abbrev main_v84 : Ref sig .tc := ⟨.hbm, 101, rfl⟩
abbrev main_v85 : Ref sig .tc := ⟨.hbm, 102, rfl⟩
abbrev main_cst_13 : Ref sig .tc := ⟨.hbm, 103, rfl⟩
abbrev main_v86 : Ref sig .tc := ⟨.hbm, 104, rfl⟩
abbrev main_v87 : Ref sig .tc := ⟨.hbm, 105, rfl⟩
abbrev main_cst_14 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_15 : Ref sig .tc := ⟨.hbm, 112, rfl⟩
abbrev main_v93 : Ref sig .tc := ⟨.hbm, 113, rfl⟩
abbrev main_v94 : Ref sig .tc := ⟨.hbm, 114, rfl⟩
abbrev main_cst_16 : Ref sig .tc := ⟨.hbm, 115, rfl⟩
abbrev main_v95 : Ref sig .tc := ⟨.hbm, 116, rfl⟩
abbrev main_v96 : Ref sig .tc := ⟨.hbm, 117, rfl⟩
abbrev main_cst_17 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_18 : Ref sig .tc := ⟨.hbm, 124, rfl⟩
abbrev main_v102 : Ref sig .tc := ⟨.hbm, 125, rfl⟩
abbrev main_v103 : Ref sig .tc := ⟨.hbm, 126, rfl⟩
abbrev main_cst_19 : Ref sig .tc := ⟨.hbm, 127, rfl⟩
abbrev main_v104 : Ref sig .tc := ⟨.hbm, 128, rfl⟩
abbrev main_v105 : Ref sig .tc := ⟨.hbm, 129, rfl⟩
abbrev main_cst_20 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_21 : Ref sig .tc := ⟨.hbm, 136, rfl⟩
abbrev main_v111 : Ref sig .tc := ⟨.hbm, 137, rfl⟩
abbrev main_v112 : Ref sig .tc := ⟨.hbm, 138, rfl⟩
abbrev main_cst_22 : Ref sig .tc := ⟨.hbm, 139, rfl⟩
abbrev main_v113 : Ref sig .tc := ⟨.hbm, 140, rfl⟩
abbrev main_v114 : Ref sig .tc := ⟨.hbm, 141, rfl⟩
abbrev main_cst_23 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_24 : Ref sig .tc := ⟨.hbm, 148, rfl⟩
abbrev main_v120 : Ref sig .tc := ⟨.hbm, 149, rfl⟩
abbrev main_cst_25 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_26 : Ref sig .tc := ⟨.hbm, 157, rfl⟩
abbrev main_v127 : Ref sig .tc := ⟨.hbm, 158, rfl⟩
abbrev main_v128 : Ref sig .tc := ⟨.hbm, 159, rfl⟩
abbrev main_cst_27 : Ref sig .tc := ⟨.hbm, 160, rfl⟩
abbrev main_v129 : Ref sig .tc := ⟨.hbm, 161, rfl⟩
abbrev main_cst_28 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_29 : Ref sig .tc := ⟨.hbm, 168, rfl⟩
abbrev main_v135 : Ref sig .tc := ⟨.hbm, 169, rfl⟩
abbrev main_v136 : Ref sig .tc := ⟨.hbm, 170, rfl⟩
abbrev main_cst_30 : Ref sig .tc := ⟨.hbm, 171, rfl⟩
abbrev main_v137 : Ref sig .tc := ⟨.hbm, 172, rfl⟩
abbrev main_v138 : Ref sig .tc := ⟨.hbm, 173, rfl⟩
abbrev main_cst_31 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_32 : Ref sig .tc := ⟨.hbm, 180, rfl⟩
abbrev main_v144 : Ref sig .tc := ⟨.hbm, 181, rfl⟩
abbrev main_v145 : Ref sig .tc := ⟨.hbm, 182, rfl⟩
abbrev main_cst_33 : Ref sig .tc := ⟨.hbm, 183, rfl⟩
abbrev main_v146 : Ref sig .tc := ⟨.hbm, 184, rfl⟩
abbrev main_v147 : Ref sig .tc := ⟨.hbm, 185, rfl⟩
abbrev main_cst_34 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_35 : Ref sig .tc := ⟨.hbm, 192, rfl⟩
abbrev main_v153 : Ref sig .tc := ⟨.hbm, 193, rfl⟩
abbrev main_v154 : Ref sig .tc := ⟨.hbm, 194, rfl⟩
abbrev main_cst_36 : Ref sig .tc := ⟨.hbm, 195, rfl⟩
abbrev main_v155 : Ref sig .tc := ⟨.hbm, 196, rfl⟩
abbrev main_v156 : Ref sig .tc := ⟨.hbm, 197, rfl⟩
abbrev main_cst_37 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_38 : Ref sig .tc := ⟨.hbm, 204, rfl⟩
abbrev main_v162 : Ref sig .tc := ⟨.hbm, 205, rfl⟩
abbrev main_v163 : Ref sig .tc := ⟨.hbm, 206, rfl⟩
abbrev main_cst_39 : Ref sig .tc := ⟨.hbm, 207, rfl⟩
abbrev main_v164 : Ref sig .tc := ⟨.hbm, 208, rfl⟩
abbrev main_v165 : Ref sig .tc := ⟨.hbm, 209, rfl⟩
abbrev main_cst_40 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_41 : Ref sig .tc := ⟨.hbm, 216, rfl⟩
abbrev main_v171 : Ref sig .tc := ⟨.hbm, 217, rfl⟩
abbrev main_v172 : Ref sig .tc := ⟨.hbm, 218, rfl⟩
abbrev main_cst_42 : Ref sig .tc := ⟨.hbm, 219, rfl⟩
abbrev main_v173 : Ref sig .tc := ⟨.hbm, 220, rfl⟩

abbrev nD : Nat := 1
abbrev τ : Topo := Topo.v7x

variable {F : FTy → Type} [FloatOps F]
-- ==== Kernel15.lean ====
abbrev S4352x256 : Shape := ⟨2, ![4352, 256]⟩
abbrev S4352x3584 : Shape := ⟨2, ![4352, 3584]⟩
abbrev S4352x4x64 : Shape := ⟨3, ![4352, 4, 64]⟩
abbrev S4352 : Shape := ⟨1, ![4352]⟩
abbrev S256 : Shape := ⟨1, ![256]⟩
abbrev S4096 : Shape := ⟨1, ![4096]⟩
abbrev S34 : Shape := ⟨1, ![34]⟩
abbrev S34x1 : Shape := ⟨2, ![34, 1]⟩
abbrev S_ : Shape := ⟨0, ![]⟩
abbrev S1x4352 : Shape := ⟨2, ![1, 4352]⟩
abbrev S34x4352 : Shape := ⟨2, ![34, 4352]⟩
abbrev S4 : Shape := ⟨1, ![4]⟩
abbrev S34x4352x1 : Shape := ⟨3, ![34, 4352, 1]⟩
abbrev S1x1x4 : Shape := ⟨3, ![1, 1, 4]⟩
abbrev S34x4352x4 : Shape := ⟨3, ![34, 4352, 4]⟩
abbrev S34x4352x4x1 : Shape := ⟨4, ![34, 4352, 4, 1]⟩
abbrev S1x4352x4x64 : Shape := ⟨4, ![1, 4352, 4, 64]⟩
abbrev S34x4352x4x64 : Shape := ⟨4, ![34, 4352, 4, 64]⟩
abbrev S4x34x64x64 : Shape := ⟨4, ![4, 34, 64, 64]⟩
abbrev S34x4x64x64 : Shape := ⟨4, ![34, 4, 64, 64]⟩
abbrev S128x256 : Shape := ⟨2, ![128, 256]⟩
abbrev S1x4x64x64 : Shape := ⟨4, ![1, 4, 64, 64]⟩
abbrev S4x64x64 : Shape := ⟨3, ![4, 64, 64]⟩
abbrev S128x64 : Shape := ⟨2, ![128, 64]⟩
abbrev S1x1x64x64 : Shape := ⟨4, ![1, 1, 64, 64]⟩
abbrev S64x64 : Shape := ⟨2, ![64, 64]⟩
abbrev S128x128 : Shape := ⟨2, ![128, 128]⟩
abbrev S128x1 : Shape := ⟨2, ![128, 1]⟩
abbrev S1x64x64 : Shape := ⟨3, ![1, 64, 64]⟩

abbrev nBuf : Space → Nat
  | .hbm => 56
  | .vmem => 17
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x3584, .f32⟩
  | .hbm, ⟨3, _⟩ => ⟨S4352x256, .f32⟩
  | .hbm, ⟨4, _⟩ => ⟨S4352x4x64, .f32⟩
  | .hbm, ⟨5, _⟩ => ⟨S4352x256, .f32⟩
  | .hbm, ⟨6, _⟩ => ⟨S4352x4x64, .f32⟩
  | .hbm, ⟨7, _⟩ => ⟨S4352, .f32⟩
  | .hbm, ⟨8, _⟩ => ⟨S256, .f32⟩
  | .hbm, ⟨9, _⟩ => ⟨S256, .f32⟩
  | .hbm, ⟨10, _⟩ => ⟨S4096, .f32⟩
  | .hbm, ⟨11, _⟩ => ⟨S4096, .f32⟩
  | .hbm, ⟨12, _⟩ => ⟨S4352, .f32⟩
  | .hbm, ⟨13, _⟩ => ⟨S34, .f32⟩
  | .hbm, ⟨14, _⟩ => ⟨S34x1, .f32⟩
  | .hbm, ⟨15, _⟩ => ⟨S_, .f32⟩
  | .hbm, ⟨16, _⟩ => ⟨S34x1, .f32⟩
  | .hbm, ⟨17, _⟩ => ⟨S34x1, .f32⟩
  | .hbm, ⟨18, _⟩ => ⟨S1x4352, .f32⟩
  | .hbm, ⟨19, _⟩ => ⟨S34x4352, .f32⟩
  | .hbm, ⟨20, _⟩ => ⟨S34x4352, .f32⟩
  | .hbm, ⟨21, _⟩ => ⟨S34x4352, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S34x4352, .f32⟩
  | .hbm, ⟨33, _⟩ => ⟨S34x4352, .i1⟩
  | .hbm, ⟨34, _⟩ => ⟨S34x4352x1, .i1⟩
  | .hbm, ⟨35, _⟩ => ⟨S34x4352x1, .f32⟩
  | .hbm, ⟨36, _⟩ => ⟨S1x1x4, .f32⟩
  | .hbm, ⟨37, _⟩ => ⟨S34x4352x4, .f32⟩
  | .hbm, ⟨38, _⟩ => ⟨S34x4352x4, .f32⟩
  | .hbm, ⟨39, _⟩ => ⟨S34x4352x4, .f32⟩
  | .hbm, ⟨40, _⟩ => ⟨S34x4352x4, .f32⟩
  | .hbm, ⟨41, _⟩ => ⟨S_, .f32⟩
  | .hbm, ⟨42, _⟩ => ⟨S_, .f32⟩
  | .hbm, ⟨43, _⟩ => ⟨S34x4352x4, .i1⟩
  | .hbm, ⟨44, _⟩ => ⟨S34x4352x4, .f32⟩
  | .hbm, ⟨45, _⟩ => ⟨S34x4352x4, .f32⟩
  | .hbm, ⟨46, _⟩ => ⟨S34x4352x4x1, .f32⟩
  | .hbm, ⟨47, _⟩ => ⟨S1x4352x4x64, .f32⟩
  | .hbm, ⟨48, _⟩ => ⟨S34x4352x4x64, .f32⟩
  | .hbm, ⟨49, _⟩ => ⟨S34x4352x4x64, .f32⟩
  | .hbm, ⟨50, _⟩ => ⟨S34x4352x4x64, .f32⟩
  | .hbm, ⟨51, _⟩ => ⟨S4x34x64x64, .f32⟩
  | .hbm, ⟨52, _⟩ => ⟨S34x4x64x64, .f32⟩
  | .hbm, ⟨53, _⟩ => ⟨S4352x256, .f32⟩
  | .hbm, ⟨54, _⟩ => ⟨S4352x256, .f32⟩
  | .hbm, ⟨55, _⟩ => ⟨S4352x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x4x64x64, .f32⟩
  | .local _ .vmem, ⟨7, _⟩ => ⟨S1x4x64x64, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S4x64x64, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c6_i32 : BitVec 32 := 6#32
  let c0_i32 : BitVec 32 := 0#32
  ![v4.toNat, c6_i32.toNat]

def cc0_transform_3 (i : grid0.Coords) : Fin 4 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c35_i32 : BitVec 32 := 35#32
  let v3 : BitVec 32 := Scalar.subi c35_i32 v0
  let v4 : BitVec 32 := Scalar.select v1 v2 v3
  let c0_i32 : BitVec 32 := 0#32
  let c0_i32_0 : BitVec 32 := 0#32
  ![v4.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "gc0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gc1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gc2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gc3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== Reference15Ideal.lean ====
abbrev S4352x256 : Shape := ⟨2, ![4352, 256]⟩
abbrev S4352x3584 : Shape := ⟨2, ![4352, 3584]⟩
abbrev S256x256 : Shape := ⟨2, ![256, 256]⟩
abbrev S4096x256 : Shape := ⟨2, ![4096, 256]⟩
abbrev S4352x4x64 : Shape := ⟨3, ![4352, 4, 64]⟩
abbrev S_ : Shape := ⟨0, ![]⟩
abbrev S4352x4352 : Shape := ⟨2, ![4352, 4352]⟩
abbrev S4352x4352x1 : Shape := ⟨3, ![4352, 4352, 1]⟩
abbrev S4 : Shape := ⟨1, ![4]⟩
abbrev S1x4 : Shape := ⟨2, ![1, 4]⟩
abbrev S4352x4 : Shape := ⟨2, ![4352, 4]⟩
abbrev S4352x1x4 : Shape := ⟨3, ![4352, 1, 4]⟩
abbrev S1x4352x4 : Shape := ⟨3, ![1, 4352, 4]⟩
abbrev S4352x4352x4 : Shape := ⟨3, ![4352, 4352, 4]⟩
abbrev S4x4352x4352 : Shape := ⟨3, ![4, 4352, 4352]⟩
abbrev S4x64x4352 : Shape := ⟨3, ![4, 64, 4352]⟩
abbrev S4x4352x64 : Shape := ⟨3, ![4, 4352, 64]⟩

abbrev nBuf : Space → Nat
  | .hbm => 125
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x3584, .f32⟩
  | .hbm, ⟨3, _⟩ => ⟨S4352x256, .f32⟩
  | .hbm, ⟨4, _⟩ => ⟨S4352x256, .f32⟩
  | .hbm, ⟨5, _⟩ => ⟨S256x256, .f32⟩
  | .hbm, ⟨6, _⟩ => ⟨S256x256, .f32⟩
  | .hbm, ⟨7, _⟩ => ⟨S4096x256, .f32⟩
  | .hbm, ⟨8, _⟩ => ⟨S4096x256, .f32⟩
  | .hbm, ⟨9, _⟩ => ⟨S4352x256, .f32⟩
  | .hbm, ⟨10, _⟩ => ⟨S256x256, .f32⟩
  | .hbm, ⟨11, _⟩ => ⟨S256x256, .f32⟩
  | .hbm, ⟨12, _⟩ => ⟨S4096x256, .f32⟩
  | .hbm, ⟨13, _⟩ => ⟨S4096x256, .f32⟩
  | .hbm, ⟨14, _⟩ => ⟨S4352x256, .f32⟩
  | .hbm, ⟨15, _⟩ => ⟨S256x256, .f32⟩
  | .hbm, ⟨16, _⟩ => ⟨S256x256, .f32⟩
  | .hbm, ⟨17, _⟩ => ⟨S4096x256, .f32⟩
  | .hbm, ⟨18, _⟩ => ⟨S4096x256, .f32⟩
  | .hbm, ⟨19, _⟩ => ⟨S4352x256, .f32⟩
  | .hbm, ⟨20, _⟩ => ⟨S4352x4x64, .f32⟩
  | .hbm, ⟨21, _⟩ => ⟨S4352x4x64, .f32⟩
  | .hbm, ⟨22, _⟩ => ⟨S4352x4x64, .f32⟩
  | .hbm, ⟨23, _⟩ => ⟨S_, .i1⟩
  | .hbm, ⟨24, _⟩ => ⟨S4352x4352, .i1⟩
  | .hbm, ⟨25, _⟩ => ⟨S4352x4352, .i32⟩
  | .hbm, ⟨26, _⟩ => ⟨S_, .i32⟩
  | .hbm, ⟨27, _⟩ => ⟨S4352x4352, .i32⟩
  | .hbm, ⟨28, _⟩ => ⟨S4352x4352, .i32⟩
  | .hbm, ⟨29, _⟩ => ⟨S4352x4352, .i32⟩
  | .hbm, ⟨30, _⟩ => ⟨S4352x4352, .i1⟩
  | .hbm, ⟨31, _⟩ => ⟨S_, .i1⟩
  | .hbm, ⟨32, _⟩ => ⟨S4352x4352, .i1⟩
  | .hbm, ⟨33, _⟩ => ⟨S4352x4352, .i1⟩
  | .hbm, ⟨34, _⟩ => ⟨S4352x4352x1, .i1⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S1x4, .f32⟩
  | .hbm, ⟨45, _⟩ => ⟨S4352x4, .f32⟩
  | .hbm, ⟨46, _⟩ => ⟨S_, .f32⟩
  | .hbm, ⟨47, _⟩ => ⟨S_, .f32⟩
  | .hbm, ⟨48, _⟩ => ⟨S4352x4, .f32⟩
  | .hbm, ⟨49, _⟩ => ⟨S4352x1x4, .f32⟩
  | .hbm, ⟨50, _⟩ => ⟨S1x4352x4, .f32⟩
  | .hbm, ⟨51, _⟩ => ⟨S4352x4352x4, .f32⟩
  | .hbm, ⟨52, _⟩ => ⟨S4352x4352x4, .f32⟩
  | .hbm, ⟨53, _⟩ => ⟨S4352x4352x4, .f32⟩
  | .hbm, ⟨54, _⟩ => ⟨S_, .f32⟩
  | .hbm, ⟨55, _⟩ => ⟨S4352x4352x4, .f32⟩
  | .hbm, ⟨56, _⟩ => ⟨S4352x4352x4, .f32⟩
  | .hbm, ⟨57, _⟩ => ⟨S4352x4352x4, .f32⟩
  | .hbm, ⟨58, _⟩ => ⟨S_, .f32⟩
  | .hbm, ⟨59, _⟩ => ⟨S_, .f32⟩
  | .hbm, ⟨60, _⟩ => ⟨S4352x4352x4, .i1⟩
  | .hbm, ⟨61, _⟩ => ⟨S4352x4352x4, .f32⟩
  | .hbm, ⟨62, _⟩ => ⟨S4352x4352x4, .f32⟩
  | .hbm, ⟨63, _⟩ => ⟨S4x4352x4352, .f32⟩
  | .hbm, ⟨64, _⟩ => ⟨S4352x4352x4, .f32⟩
  | .hbm, ⟨65, _⟩ => ⟨S4352x4352x4, .f32⟩
  | .hbm, ⟨66, _⟩ => ⟨S4x64x4352, .f32⟩
  | .hbm, ⟨67, _⟩ => ⟨S4352x4x64, .f32⟩
  | .hbm, ⟨68, _⟩ => ⟨S4352x256, .f32⟩
  | .hbm, ⟨69, _⟩ => ⟨S256x256, .f32⟩
  | .hbm, ⟨70, _⟩ => ⟨S256x256, .f32⟩
  | .hbm, ⟨71, _⟩ => ⟨S4096x256, .f32⟩
  | .hbm, ⟨72, _⟩ => ⟨S4096x256, .f32⟩
  | .hbm, ⟨73, _⟩ => ⟨S4352x256, .f32⟩
  | .hbm, ⟨74, _⟩ => ⟨S256x256, .f32⟩
  | .hbm, ⟨75, _⟩ => ⟨S4096x256, .f32⟩
  | .hbm, ⟨76, _⟩ => ⟨S4096x256, .f32⟩
  | .hbm, ⟨77, _⟩ => ⟨S_, .f32⟩
  | .hbm, ⟨78, _⟩ => ⟨S4352x256, .f32⟩
  | .hbm, ⟨79, _⟩ => ⟨S256x256, .f32⟩
  | .hbm, ⟨80, _⟩ => ⟨S_, .f32⟩
  | .hbm, ⟨81, _⟩ => ⟨S4352x256, .f32⟩
  | .hbm, ⟨82, _⟩ => ⟨S4352x256, .f32⟩
  | .hbm, ⟨83, _⟩ => ⟨S4352x4x64, .f32⟩
  | .hbm, ⟨84, _⟩ => ⟨S4x64x4352, .f32⟩
  | .hbm, ⟨85, _⟩ => ⟨S4x4352x4352, .f32⟩
  | .hbm, ⟨86, _⟩ => ⟨S4352x4352x4, .f32⟩
  | .hbm, ⟨87, _⟩ => ⟨S4x64x4352, .f32⟩
  | .hbm, ⟨88, _⟩ => ⟨S4352x4x64, .f32⟩
  | .hbm, ⟨89, _⟩ => ⟨S4352x4352x4, .f32⟩
  | .hbm, ⟨90, _⟩ => ⟨S4x4352x4352, .f32⟩
  | .hbm, ⟨91, _⟩ => ⟨S4x4352x64, .f32⟩
  | .hbm, ⟨92, _⟩ => ⟨S4352x4x64, .f32⟩
  | .hbm, ⟨93, _⟩ => ⟨S4x4352x64, .f32⟩
  | .hbm, ⟨94, _⟩ => ⟨S4352x4x64, .f32⟩
  | .hbm, ⟨95, _⟩ => ⟨S4352x256, .f32⟩
  | .hbm, ⟨96, _⟩ => ⟨S4352x256, .f32⟩
  | .hbm, ⟨97, _⟩ => ⟨S4352x256, .f32⟩
  | .hbm, ⟨98, _⟩ => ⟨S256x256, .f32⟩
  | .hbm, ⟨99, _⟩ => ⟨S4096x256, .f32⟩
  | .hbm, ⟨100, _⟩ => ⟨S4096x256, .f32⟩
  | .hbm, ⟨101, _⟩ => ⟨S_, .f32⟩
  | .hbm, ⟨102, _⟩ => ⟨S4352x256, .f32⟩
  | .hbm, ⟨103, _⟩ => ⟨S256x256, .f32⟩
  | .hbm, ⟨104, _⟩ => ⟨S_, .f32⟩
  | .hbm, ⟨105, _⟩ => ⟨S4352x256, .f32⟩
  | .hbm, ⟨106, _⟩ => ⟨S4352x256, .f32⟩
  | .hbm, ⟨107, _⟩ => ⟨S256x256, .f32⟩
  | .hbm, ⟨108, _⟩ => ⟨S4096x256, .f32⟩
  | .hbm, ⟨109, _⟩ => ⟨S4096x256, .f32⟩
  | .hbm, ⟨110, _⟩ => ⟨S_, .f32⟩
  | .hbm, ⟨111, _⟩ => ⟨S4352x256, .f32⟩
  | .hbm, ⟨112, _⟩ => ⟨S256x256, .f32⟩
  | .hbm, ⟨113, _⟩ => ⟨S_, .f32⟩
  | .hbm, ⟨114, _⟩ => ⟨S4352x256, .f32⟩
  | .hbm, ⟨115, _⟩ => ⟨S4352x256, .f32⟩
  | .hbm, ⟨116, _⟩ => ⟨S256x256, .f32⟩
  | .hbm, ⟨117, _⟩ => ⟨S4096x256, .f32⟩
  | .hbm, ⟨118, _⟩ => ⟨S4096x256, .f32⟩
  | .hbm, ⟨119, _⟩ => ⟨S_, .f32⟩
  | .hbm, ⟨120, _⟩ => ⟨S4352x256, .f32⟩
  | .hbm, ⟨121, _⟩ => ⟨S256x256, .f32⟩
  | .hbm, ⟨122, _⟩ => ⟨S_, .f32⟩
  | .hbm, ⟨123, _⟩ => ⟨S4352x256, .f32⟩
  | .hbm, ⟨124, _⟩ => ⟨S4352x256, .f32⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_call0_cst : Ref sig .tc := ⟨.hbm, 46, rfl⟩
abbrev main_call1_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_5 : Ref sig .tc := ⟨.hbm, 101, rfl⟩
abbrev main_v77 : Ref sig .tc := ⟨.hbm, 102, rfl⟩
abbrev main_v78 : Ref sig .tc := ⟨.hbm, 103, rfl⟩
abbrev main_cst_6 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_7 : Ref sig .tc := ⟨.hbm, 110, rfl⟩
abbrev main_v84 : Ref sig .tc := ⟨.hbm, 111, rfl⟩
abbrev main_v85 : Ref sig .tc := ⟨.hbm, 112, rfl⟩
abbrev main_cst_8 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_9 : Ref sig .tc := ⟨.hbm, 119, rfl⟩
abbrev main_v91 : Ref sig .tc := ⟨.hbm, 120, rfl⟩
abbrev main_v92 : Ref sig .tc := ⟨.hbm, 121, rfl⟩
abbrev main_cst_10 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Kernel16.lean ====
abbrev S4352x256 : Shape := ⟨2, ![4352, 256]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S_ : Shape := ⟨0, ![]⟩
abbrev S256x256 : Shape := ⟨2, ![256, 256]⟩

abbrev nBuf : Space → Nat
  | .hbm => 23
  | .vmem => 16
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x256, .f32⟩
  | .hbm, ⟨3, _⟩ => ⟨S4352x256, .f32⟩
  | .hbm, ⟨4, _⟩ => ⟨S4096x32, .f32⟩
  | .hbm, ⟨5, _⟩ => ⟨S4096x32, .f32⟩
  | .hbm, ⟨6, _⟩ => ⟨S4096x64, .f32⟩
  | .hbm, ⟨7, _⟩ => ⟨S1x4096x1x64, .f32⟩
  | .hbm, ⟨8, _⟩ => ⟨S1x4096x4x64, .f32⟩
  | .hbm, ⟨9, _⟩ => ⟨S4096x256, .f32⟩
  | .hbm, ⟨10, _⟩ => ⟨S4096x32, .f32⟩
  | .hbm, ⟨11, _⟩ => ⟨S4096x64, .f32⟩
  | .hbm, ⟨12, _⟩ => ⟨S1x4096x1x64, .f32⟩
  | .hbm, ⟨13, _⟩ => ⟨S1x4096x4x64, .f32⟩
  | .hbm, ⟨14, _⟩ => ⟨S4096x256, .f32⟩
  | .hbm, ⟨15, _⟩ => ⟨S_, .f32⟩
  | .hbm, ⟨16, _⟩ => ⟨S256x256, .f32⟩
  | .hbm, ⟨17, _⟩ => ⟨S4352x256, .f32⟩
  | .hbm, ⟨18, _⟩ => ⟨S_, .f32⟩
  | .hbm, ⟨19, _⟩ => ⟨S256x256, .f32⟩
  | .hbm, ⟨20, _⟩ => ⟨S4352x256, .f32⟩
  | .hbm, ⟨21, _⟩ => ⟨S4352x256, .f32⟩
  | .hbm, ⟨22, _⟩ => ⟨S4352x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4352x256 : Shape := ⟨2, ![4352, 256]⟩
abbrev S4096x32 : Shape := ⟨2, ![4096, 32]⟩
abbrev S_ : Shape := ⟨0, ![]⟩
abbrev S4352x4x64 : Shape := ⟨3, ![4352, 4, 64]⟩
abbrev S256x4x64 : Shape := ⟨3, ![256, 4, 64]⟩
abbrev S4096x4x64 : Shape := ⟨3, ![4096, 4, 64]⟩
abbrev S4096x1x32 : Shape := ⟨3, ![4096, 1, 32]⟩
abbrev S4096x4x32 : Shape := ⟨3, ![4096, 4, 32]⟩

abbrev nBuf : Space → Nat
  | .hbm => 110
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x256, .f32⟩
  | .hbm, ⟨3, _⟩ => ⟨S4352x256, .f32⟩
  | .hbm, ⟨4, _⟩ => ⟨S4096x32, .f32⟩
  | .hbm, ⟨5, _⟩ => ⟨S4096x32, .f32⟩
  | .hbm, ⟨6, _⟩ => ⟨S_, .f32⟩
  | .hbm, ⟨7, _⟩ => ⟨S4352x256, .f32⟩
  | .hbm, ⟨8, _⟩ => ⟨S4352x4x64, .f32⟩
  | .hbm, ⟨9, _⟩ => ⟨S_, .f32⟩
  | .hbm, ⟨10, _⟩ => ⟨S4352x4x64, .f32⟩
  | .hbm, ⟨11, _⟩ => ⟨S4352x4x64, .f32⟩
  | .hbm, ⟨12, _⟩ => ⟨S4352x4x64, .f32⟩
  | .hbm, ⟨13, _⟩ => ⟨S256x4x64, .f32⟩
  | .hbm, ⟨14, _⟩ => ⟨S4096x4x64, .f32⟩
  | .hbm, ⟨15, _⟩ => ⟨S4096x1x32, .f32⟩
  | .hbm, ⟨16, _⟩ => ⟨S4096x1x32, .f32⟩
  | .hbm, ⟨17, _⟩ => ⟨S4096x4x32, .f32⟩
  | .hbm, ⟨18, _⟩ => ⟨S4096x4x32, .f32⟩
  | .hbm, ⟨19, _⟩ => ⟨S4096x4x32, .f32⟩
  | .hbm, ⟨20, _⟩ => ⟨S4096x4x32, .f32⟩
  | .hbm, ⟨21, _⟩ => ⟨S4096x4x32, .f32⟩
  | .hbm, ⟨22, _⟩ => ⟨S4096x4x32, .f32⟩
  | .hbm, ⟨23, _⟩ => ⟨S4096x4x32, .f32⟩
  | .hbm, ⟨24, _⟩ => ⟨S4096x4x32, .f32⟩
  | .hbm, ⟨25, _⟩ => ⟨S4096x4x32, .f32⟩
  | .hbm, ⟨26, _⟩ => ⟨S4096x4x32, .f32⟩
  | .hbm, ⟨27, _⟩ => ⟨S4096x4x32, .f32⟩
  | .hbm, ⟨28, _⟩ => ⟨S4096x4x32, .f32⟩
  | .hbm, ⟨29, _⟩ => ⟨S4096x4x64, .f32⟩
  | .hbm, ⟨30, _⟩ => ⟨S4352x4x64, .f32⟩
  | .hbm, ⟨31, _⟩ => ⟨S4352x256, .f32⟩
  | .hbm, ⟨32, _⟩ => ⟨S256x4x64, .f32⟩
  | .hbm, ⟨33, _⟩ => ⟨S4096x4x64, .f32⟩
  | .hbm, ⟨34, _⟩ => ⟨S4096x1x32, .f32⟩
  | .hbm, ⟨35, _⟩ => ⟨S4096x1x32, .f32⟩
  | .hbm, ⟨36, _⟩ => ⟨S4096x4x32, .f32⟩
  | .hbm, ⟨37, _⟩ => ⟨S4096x4x32, .f32⟩
  | .hbm, ⟨38, _⟩ => ⟨S4096x4x32, .f32⟩
  | .hbm, ⟨39, _⟩ => ⟨S4096x4x32, .f32⟩
  | .hbm, ⟨40, _⟩ => ⟨S4096x4x32, .f32⟩
  | .hbm, ⟨41, _⟩ => ⟨S4096x4x32, .f32⟩
  | .hbm, ⟨42, _⟩ => ⟨S4096x4x32, .f32⟩
  | .hbm, ⟨43, _⟩ => ⟨S4096x4x32, .f32⟩
  | .hbm, ⟨44, _⟩ => ⟨S4096x4x32, .f32⟩
  | .hbm, ⟨45, _⟩ => ⟨S4096x4x32, .f32⟩
  | .hbm, ⟨46, _⟩ => ⟨S4096x4x32, .f32⟩
  | .hbm, ⟨47, _⟩ => ⟨S4096x4x32, .f32⟩
  | .hbm, ⟨48, _⟩ => ⟨S4096x4x64, .f32⟩
  | .hbm, ⟨49, _⟩ => ⟨S4352x4x64, .f32⟩
  | .hbm, ⟨50, _⟩ => ⟨S4352x256, .f32⟩
  | .hbm, ⟨51, _⟩ => ⟨S4352x256, .f32⟩
  | .hbm, ⟨52, _⟩ => ⟨S4352x256, .f32⟩
  | .hbm, ⟨53, _⟩ => ⟨S4352x4x64, .f32⟩
  | .hbm, ⟨54, _⟩ => ⟨S256x4x64, .f32⟩
  | .hbm, ⟨55, _⟩ => ⟨S4096x4x64, .f32⟩
  | .hbm, ⟨56, _⟩ => ⟨S4096x4x32, .f32⟩
  | .hbm, ⟨57, _⟩ => ⟨S4096x4x32, .f32⟩
  | .hbm, ⟨58, _⟩ => ⟨S4096x4x32, .f32⟩
  | .hbm, ⟨59, _⟩ => ⟨S4096x4x32, .f32⟩
  | .hbm, ⟨60, _⟩ => ⟨S4096x4x32, .f32⟩
  | .hbm, ⟨61, _⟩ => ⟨S4096x4x32, .f32⟩
  | .hbm, ⟨62, _⟩ => ⟨S4096x4x32, .f32⟩
  | .hbm, ⟨63, _⟩ => ⟨S4096x4x32, .f32⟩
  | .hbm, ⟨64, _⟩ => ⟨S4096x4x32, .f32⟩
  | .hbm, ⟨65, _⟩ => ⟨S4096x4x32, .f32⟩
  | .hbm, ⟨66, _⟩ => ⟨S4096x4x32, .f32⟩
  | .hbm, ⟨67, _⟩ => ⟨S4096x4x32, .f32⟩
  | .hbm, ⟨68, _⟩ => ⟨S4096x4x32, .f32⟩
  | .hbm, ⟨69, _⟩ => ⟨S_, .f32⟩
  | .hbm, ⟨70, _⟩ => ⟨S4096x4x64, .f32⟩
  | .hbm, ⟨71, _⟩ => ⟨S_, .f32⟩
  | .hbm, ⟨72, _⟩ => ⟨S4096x4x64, .f32⟩
  | .hbm, ⟨73, _⟩ => ⟨S4096x4x64, .f32⟩
  | .hbm, ⟨74, _⟩ => ⟨S_, .f32⟩
  | .hbm, ⟨75, _⟩ => ⟨S4352x4x64, .f32⟩
  | .hbm, ⟨76, _⟩ => ⟨S_, .f32⟩
  | .hbm, ⟨77, _⟩ => ⟨S4352x4x64, .f32⟩
  | .hbm, ⟨78, _⟩ => ⟨S4352x4x64, .f32⟩
  | .hbm, ⟨79, _⟩ => ⟨S4352x4x64, .f32⟩
  | .hbm, ⟨80, _⟩ => ⟨S256x4x64, .f32⟩
  | .hbm, ⟨81, _⟩ => ⟨S4096x4x64, .f32⟩
  | .hbm, ⟨82, _⟩ => ⟨S4096x4x32, .f32⟩
  | .hbm, ⟨83, _⟩ => ⟨S4096x4x32, .f32⟩
  | .hbm, ⟨84, _⟩ => ⟨S4096x4x32, .f32⟩
  | .hbm, ⟨85, _⟩ => ⟨S4096x4x32, .f32⟩
  | .hbm, ⟨86, _⟩ => ⟨S4096x4x32, .f32⟩
  | .hbm, ⟨87, _⟩ => ⟨S4096x4x32, .f32⟩
  | .hbm, ⟨88, _⟩ => ⟨S4096x4x32, .f32⟩
  | .hbm, ⟨89, _⟩ => ⟨S4096x4x32, .f32⟩
  | .hbm, ⟨90, _⟩ => ⟨S4096x4x32, .f32⟩
  | .hbm, ⟨91, _⟩ => ⟨S4096x4x32, .f32⟩
  | .hbm, ⟨92, _⟩ => ⟨S4096x4x32, .f32⟩
  | .hbm, ⟨93, _⟩ => ⟨S4096x4x32, .f32⟩
  | .hbm, ⟨94, _⟩ => ⟨S4096x4x32, .f32⟩
  | .hbm, ⟨95, _⟩ => ⟨S_, .f32⟩
  | .hbm, ⟨96, _⟩ => ⟨S4096x4x64, .f32⟩
  | .hbm, ⟨97, _⟩ => ⟨S_, .f32⟩
  | .hbm, ⟨98, _⟩ => ⟨S4096x4x64, .f32⟩
  | .hbm, ⟨99, _⟩ => ⟨S4096x4x64, .f32⟩
  | .hbm, ⟨100, _⟩ => ⟨S_, .f32⟩
  | .hbm, ⟨101, _⟩ => ⟨S4352x4x64, .f32⟩
  | .hbm, ⟨102, _⟩ => ⟨S_, .f32⟩
  | .hbm, ⟨103, _⟩ => ⟨S4352x4x64, .f32⟩
  | .hbm, ⟨104, _⟩ => ⟨S4352x4x64, .f32⟩
  | .hbm, ⟨105, _⟩ => ⟨S4352x256, .f32⟩
  | .hbm, ⟨106, _⟩ => ⟨S_, .f32⟩
  | .hbm, ⟨107, _⟩ => ⟨S4352x4x64, .f32⟩
  | .hbm, ⟨108, _⟩ => ⟨S4352x4x64, .f32⟩
  | .hbm, ⟨109, _⟩ => ⟨S4352x256, .f32⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_1 : Ref sig .tc := ⟨.hbm, 69, rfl⟩
abbrev main_v61 : Ref sig .tc := ⟨.hbm, 70, rfl⟩
abbrev main_cst_2 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_cst_4 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_5 : Ref sig .tc := ⟨.hbm, 95, rfl⟩
abbrev main_v83 : Ref sig .tc := ⟨.hbm, 96, rfl⟩
abbrev main_cst_6 : Ref sig .tc := ⟨.hbm, 97, rfl⟩
abbrev main_v84 : Ref sig .tc := ⟨.hbm, 98, rfl⟩
abbrev main_v85 : Ref sig .tc := ⟨.hbm, 99, rfl⟩
abbrev main_cst_7 : Ref sig .tc := ⟨.hbm, 100, rfl⟩
abbrev main_v86 : Ref sig .tc := ⟨.hbm, 101, rfl⟩
abbrev main_cst_8 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩

abbrev nD : Nat := 1
abbrev τ : Topo := Topo.v7x

variable {F : FTy → Type} [FloatOps F]
-- ==== Kernel17.lean ====
abbrev S4352x3584 : Shape := ⟨2, ![4352, 3584]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S_ : Shape := ⟨0, ![]⟩
abbrev S256x256 : Shape := ⟨2, ![256, 256]⟩
abbrev S4352x256 : Shape := ⟨2, ![4352, 256]⟩

abbrev nBuf : Space → Nat
  | .hbm => 20
  | .vmem => 12
  | .smem => 0
  | _ => 0

abbrev bufTy : (tb : Table) → Fin (tcTables nBuf tb) → BufTy
  | .hbm, ⟨0, _⟩ => ⟨S4352x3584, .f32⟩
  | .hbm, ⟨1, _⟩ => ⟨S4096x32, .f32⟩
  | .hbm, ⟨2, _⟩ => ⟨S4096x32, .f32⟩
  | .hbm, ⟨3, _⟩ => ⟨S4096x64, .f32⟩
  | .hbm, ⟨4, _⟩ => ⟨S1x4096x1x64, .f32⟩
  | .hbm, ⟨5, _⟩ => ⟨S1x4096x4x64, .f32⟩
  | .hbm, ⟨6, _⟩ => ⟨S4096x256, .f32⟩
  | .hbm, ⟨7, _⟩ => ⟨S4096x32, .f32⟩
  | .hbm, ⟨8, _⟩ => ⟨S4096x64, .f32⟩
  | .hbm, ⟨9, _⟩ => ⟨S1x4096x1x64, .f32⟩
  | .hbm, ⟨10, _⟩ => ⟨S1x4096x4x64, .f32⟩
  | .hbm, ⟨11, _⟩ => ⟨S4096x256, .f32⟩
  | .hbm, ⟨12, _⟩ => ⟨S_, .f32⟩
  | .hbm, ⟨13, _⟩ => ⟨S256x256, .f32⟩
  | .hbm, ⟨14, _⟩ => ⟨S4352x256, .f32⟩
  | .hbm, ⟨15, _⟩ => ⟨S_, .f32⟩
  | .hbm, ⟨16, _⟩ => ⟨S256x256, .f32⟩
  | .hbm, ⟨17, _⟩ => ⟨S4352x256, .f32⟩
  | .hbm, ⟨18, _⟩ => ⟨S4352x256, .f32⟩
  | .hbm, ⟨19, _⟩ => ⟨S4352x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | _, _ => ⟨S4352x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S4352x3584 : Shape := ⟨2, ![4352, 3584]⟩
abbrev S4096x32 : Shape := ⟨2, ![4096, 32]⟩
abbrev S4352x256 : Shape := ⟨2, ![4352, 256]⟩
abbrev S4352x4x64 : Shape := ⟨3, ![4352, 4, 64]⟩
abbrev S_ : Shape := ⟨0, ![]⟩
abbrev S256x4x64 : Shape := ⟨3, ![256, 4, 64]⟩
abbrev S4096x4x64 : Shape := ⟨3, ![4096, 4, 64]⟩
abbrev S4096x1x32 : Shape := ⟨3, ![4096, 1, 32]⟩
abbrev S4096x4x32 : Shape := ⟨3, ![4096, 4, 32]⟩

abbrev nBuf : Space → Nat
  | .hbm => 48
  | .vmem => 0
  | .smem => 0
  | _ => 0

abbrev bufTy : (tb : Table) → Fin (tcTables nBuf tb) → BufTy
  | .hbm, ⟨0, _⟩ => ⟨S4352x3584, .f32⟩
  | .hbm, ⟨1, _⟩ => ⟨S4096x32, .f32⟩
  | .hbm, ⟨2, _⟩ => ⟨S4096x32, .f32⟩
  | .hbm, ⟨3, _⟩ => ⟨S4352x256, .f32⟩
  | .hbm, ⟨4, _⟩ => ⟨S4352x256, .f32⟩
  | .hbm, ⟨5, _⟩ => ⟨S4352x4x64, .f32⟩
  | .hbm, ⟨6, _⟩ => ⟨S_, .f32⟩
  | .hbm, ⟨7, _⟩ => ⟨S4352x4x64, .f32⟩
  | .hbm, ⟨8, _⟩ => ⟨S4352x4x64, .f32⟩
  | .hbm, ⟨9, _⟩ => ⟨S4352x4x64, .f32⟩
  | .hbm, ⟨10, _⟩ => ⟨S256x4x64, .f32⟩
  | .hbm, ⟨11, _⟩ => ⟨S4096x4x64, .f32⟩
  | .hbm, ⟨12, _⟩ => ⟨S4096x1x32, .f32⟩
  | .hbm, ⟨13, _⟩ => ⟨S4096x1x32, .f32⟩
  | .hbm, ⟨14, _⟩ => ⟨S4096x4x32, .f32⟩
  | .hbm, ⟨15, _⟩ => ⟨S4096x4x32, .f32⟩
  | .hbm, ⟨16, _⟩ => ⟨S4096x4x32, .f32⟩
  | .hbm, ⟨17, _⟩ => ⟨S4096x4x32, .f32⟩
  | .hbm, ⟨18, _⟩ => ⟨S4096x4x32, .f32⟩
  | .hbm, ⟨19, _⟩ => ⟨S4096x4x32, .f32⟩
  | .hbm, ⟨20, _⟩ => ⟨S4096x4x32, .f32⟩
  | .hbm, ⟨21, _⟩ => ⟨S4096x4x32, .f32⟩
  | .hbm, ⟨22, _⟩ => ⟨S4096x4x32, .f32⟩
  | .hbm, ⟨23, _⟩ => ⟨S4096x4x32, .f32⟩
  | .hbm, ⟨24, _⟩ => ⟨S4096x4x32, .f32⟩
  | .hbm, ⟨25, _⟩ => ⟨S4096x4x32, .f32⟩
  | .hbm, ⟨26, _⟩ => ⟨S4096x4x64, .f32⟩
  | .hbm, ⟨27, _⟩ => ⟨S4352x4x64, .f32⟩
  | .hbm, ⟨28, _⟩ => ⟨S4352x256, .f32⟩
  | .hbm, ⟨29, _⟩ => ⟨S256x4x64, .f32⟩
  | .hbm, ⟨30, _⟩ => ⟨S4096x4x64, .f32⟩
  | .hbm, ⟨31, _⟩ => ⟨S4096x1x32, .f32⟩
  | .hbm, ⟨32, _⟩ => ⟨S4096x1x32, .f32⟩
  | .hbm, ⟨33, _⟩ => ⟨S4096x4x32, .f32⟩
  | .hbm, ⟨34, _⟩ => ⟨S4096x4x32, .f32⟩
  | .hbm, ⟨35, _⟩ => ⟨S4096x4x32, .f32⟩
  | .hbm, ⟨36, _⟩ => ⟨S4096x4x32, .f32⟩
  | .hbm, ⟨37, _⟩ => ⟨S4096x4x32, .f32⟩
  | .hbm, ⟨38, _⟩ => ⟨S4096x4x32, .f32⟩
  | .hbm, ⟨39, _⟩ => ⟨S4096x4x32, .f32⟩
  | .hbm, ⟨40, _⟩ => ⟨S4096x4x32, .f32⟩
  | .hbm, ⟨41, _⟩ => ⟨S4096x4x32, .f32⟩
  | .hbm, ⟨42, _⟩ => ⟨S4096x4x32, .f32⟩
  | .hbm, ⟨43, _⟩ => ⟨S4096x4x32, .f32⟩
  | .hbm, ⟨44, _⟩ => ⟨S4096x4x32, .f32⟩
  | .hbm, ⟨45, _⟩ => ⟨S4096x4x64, .f32⟩
  | .hbm, ⟨46, _⟩ => ⟨S4352x4x64, .f32⟩
  | .hbm, ⟨47, _⟩ => ⟨S4352x256, .f32⟩
  | _, _ => ⟨S4352x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩

abbrev nD : Nat := 1
abbrev τ : Topo := Topo.v7x

variable {F : FTy → Type} [FloatOps F]
-- ==== Kernel18.lean ====
abbrev S4352x3584 : Shape := ⟨2, ![4352, 3584]⟩
abbrev S8x1024 : Shape := ⟨2, ![8, 1024]⟩
abbrev S1x1024 : Shape := ⟨2, ![1, 1024]⟩
abbrev S4352x1024 : Shape := ⟨2, ![4352, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4352x3584, .f32⟩
  | .hbm, ⟨1, _⟩ => ⟨S8x1024, .f32⟩
  | .hbm, ⟨2, _⟩ => ⟨S1x1024, .f32⟩
  | .hbm, ⟨3, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S4352x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S4352x3584 : Shape := ⟨2, ![4352, 3584]⟩
abbrev S8x1024 : Shape := ⟨2, ![8, 1024]⟩
abbrev S1x1024 : Shape := ⟨2, ![1, 1024]⟩
abbrev S4352x1024 : Shape := ⟨2, ![4352, 1024]⟩
abbrev S5x1024 : Shape := ⟨2, ![5, 1024]⟩
abbrev S256x1024 : Shape := ⟨2, ![256, 1024]⟩
abbrev S_ : Shape := ⟨0, ![]⟩
abbrev S2x1024 : Shape := ⟨2, ![2, 1024]⟩
abbrev S260x1024 : Shape := ⟨2, ![260, 1024]⟩
abbrev S4096x1024 : Shape := ⟨2, ![4096, 1024]⟩
abbrev S4100x1024 : Shape := ⟨2, ![4100, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4352x3584, .f32⟩
  | .hbm, ⟨1, _⟩ => ⟨S8x1024, .f32⟩
  | .hbm, ⟨2, _⟩ => ⟨S1x1024, .f32⟩
  | .hbm, ⟨3, _⟩ => ⟨S4352x1024, .f32⟩
  | .hbm, ⟨4, _⟩ => ⟨S5x1024, .f32⟩
  | .hbm, ⟨5, _⟩ => ⟨S256x1024, .f32⟩
  | .hbm, ⟨6, _⟩ => ⟨S_, .f32⟩
  | .hbm, ⟨7, _⟩ => ⟨S2x1024, .f32⟩
  | .hbm, ⟨8, _⟩ => ⟨S260x1024, .f32⟩
  | .hbm, ⟨9, _⟩ => ⟨S1x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S4096x1024, .f32⟩
  | .hbm, ⟨39, _⟩ => ⟨S_, .f32⟩
  | .hbm, ⟨40, _⟩ => ⟨S2x1024, .f32⟩
  | .hbm, ⟨41, _⟩ => ⟨S4100x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4352x1024, .f32⟩
  | _, _ => ⟨S4352x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩

abbrev nD : Nat := 1
abbrev τ : Topo := Topo.v7x

variable {F : FTy → Type} [FloatOps F]
-- ==== Kernel19.lean ====
abbrev S4352x1024 : Shape := ⟨2, ![4352, 1024]⟩
abbrev S4352x256 : Shape := ⟨2, ![4352, 256]⟩
abbrev S4352x512 : Shape := ⟨2, ![4352, 512]⟩
abbrev S4352x128 : Shape := ⟨2, ![4352, 128]⟩
abbrev S4352x3584 : Shape := ⟨2, ![4352, 3584]⟩
abbrev S256x1024 : Shape := ⟨2, ![256, 1024]⟩
abbrev S256x256 : Shape := ⟨2, ![256, 256]⟩
abbrev S256x512 : Shape := ⟨2, ![256, 512]⟩
abbrev S256x128 : Shape := ⟨2, ![256, 128]⟩
abbrev S256x3584 : Shape := ⟨2, ![256, 3584]⟩

abbrev nBuf : Space → Nat
  | .hbm => 16
  | .vmem => 32
  | .smem => 0
  | _ => 0

abbrev bufTy : (tb : Table) → Fin (tcTables nBuf tb) → BufTy
  | .hbm, ⟨0, _⟩ => ⟨S4352x1024, .f32⟩
  | .hbm, ⟨1, _⟩ => ⟨S4352x256, .f32⟩
  | .hbm, ⟨2, _⟩ => ⟨S4352x256, .f32⟩
  | .hbm, ⟨3, _⟩ => ⟨S4352x256, .f32⟩
  | .hbm, ⟨4, _⟩ => ⟨S4352x256, .f32⟩
  | .hbm, ⟨5, _⟩ => ⟨S4352x256, .f32⟩
  | .hbm, ⟨6, _⟩ => ⟨S4352x512, .f32⟩
  | .hbm, ⟨7, _⟩ => ⟨S4352x256, .f32⟩
  | .hbm, ⟨8, _⟩ => ⟨S4352x256, .f32⟩
  | .hbm, ⟨9, _⟩ => ⟨S4352x256, .f32⟩
  | .hbm, ⟨10, _⟩ => ⟨S4352x128, .f32⟩
  | .hbm, ⟨11, _⟩ => ⟨S4352x128, .f32⟩
  | .hbm, ⟨12, _⟩ => ⟨S4352x128, .f32⟩
  | .hbm, ⟨13, _⟩ => ⟨S4352x128, .f32⟩
  | .hbm, ⟨14, _⟩ => ⟨S4352x128, .f32⟩
  | .hbm, ⟨15, _⟩ => ⟨S4352x3584, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x3584, .bf16⟩
  | .local _ .vmem, ⟨31, _⟩ => ⟨S256x3584, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3584 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference19Ideal.lean ====
abbrev S4352x1024 : Shape := ⟨2, ![4352, 1024]⟩
abbrev S4352x256 : Shape := ⟨2, ![4352, 256]⟩
abbrev S4352x512 : Shape := ⟨2, ![4352, 512]⟩
abbrev S4352x128 : Shape := ⟨2, ![4352, 128]⟩
abbrev S_ : Shape := ⟨0, ![]⟩
abbrev S4352x3584 : Shape := ⟨2, ![4352, 3584]⟩

abbrev nBuf : Space → Nat
  | .hbm => 34
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x256, .f32⟩
  | .hbm, ⟨2, _⟩ => ⟨S4352x256, .f32⟩
  | .hbm, ⟨3, _⟩ => ⟨S4352x256, .f32⟩
  | .hbm, ⟨4, _⟩ => ⟨S4352x256, .f32⟩
  | .hbm, ⟨5, _⟩ => ⟨S4352x256, .f32⟩
  | .hbm, ⟨6, _⟩ => ⟨S4352x512, .f32⟩
  | .hbm, ⟨7, _⟩ => ⟨S4352x256, .f32⟩
  | .hbm, ⟨8, _⟩ => ⟨S4352x256, .f32⟩
  | .hbm, ⟨9, _⟩ => ⟨S4352x256, .f32⟩
  | .hbm, ⟨10, _⟩ => ⟨S4352x128, .f32⟩
  | .hbm, ⟨11, _⟩ => ⟨S4352x128, .f32⟩
  | .hbm, ⟨12, _⟩ => ⟨S4352x128, .f32⟩
  | .hbm, ⟨13, _⟩ => ⟨S4352x128, .f32⟩
  | .hbm, ⟨14, _⟩ => ⟨S4352x128, .f32⟩
  | .hbm, ⟨15, _⟩ => ⟨S_, .f32⟩
  | .hbm, ⟨16, _⟩ => ⟨S4352x3584, .f32⟩
  | .hbm, ⟨17, _⟩ => ⟨S4352x1024, .f32⟩
  | .hbm, ⟨18, _⟩ => ⟨S4352x256, .f32⟩
  | .hbm, ⟨19, _⟩ => ⟨S4352x256, .f32⟩
  | .hbm, ⟨20, _⟩ => ⟨S4352x256, .f32⟩
  | .hbm, ⟨21, _⟩ => ⟨S4352x256, .f32⟩
  | .hbm, ⟨22, _⟩ => ⟨S4352x512, .f32⟩
  | .hbm, ⟨23, _⟩ => ⟨S4352x256, .f32⟩
  | .hbm, ⟨24, _⟩ => ⟨S4352x256, .f32⟩
  | .hbm, ⟨25, _⟩ => ⟨S4352x128, .f32⟩
  | .hbm, ⟨26, _⟩ => ⟨S4352x128, .f32⟩
  | .hbm, ⟨27, _⟩ => ⟨S4352x128, .f32⟩
  | .hbm, ⟨28, _⟩ => ⟨S4352x128, .f32⟩
  | .hbm, ⟨29, _⟩ => ⟨S4352x256, .f32⟩
  | .hbm, ⟨30, _⟩ => ⟨S4352x256, .f32⟩
  | .hbm, ⟨31, _⟩ => ⟨S4352x128, .f32⟩
  | .hbm, ⟨32, _⟩ => ⟨S4352x3584, .f32⟩
  | .hbm, ⟨33, _⟩ => ⟨S4352x3584, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel20.lean ====
abbrev S4x1024x844 : Shape := ⟨3, ![4, 1024, 844]⟩
abbrev S4096x844 : Shape := ⟨2, ![4096, 844]⟩
abbrev S512x844 : Shape := ⟨2, ![512, 844]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x844, .f32⟩
  | .hbm, ⟨1, _⟩ => ⟨S4x1024x844, .f32⟩
  | .hbm, ⟨2, _⟩ => ⟨S4x1024x844, .f32⟩
  | .hbm, ⟨3, _⟩ => ⟨S4x1024x844, .f32⟩
  | .hbm, ⟨4, _⟩ => ⟨S4096x844, .f32⟩
  | .hbm, ⟨5, _⟩ => ⟨S4096x844, .f32⟩
  | .hbm, ⟨6, _⟩ => ⟨S4096x844, .f32⟩
  | .hbm, ⟨7, _⟩ => ⟨S4096x844, .f32⟩
  | .hbm, ⟨8, _⟩ => ⟨S4096x844, .f32⟩
  | .hbm, ⟨9, _⟩ => ⟨S4096x844, .f32⟩
  | .hbm, ⟨10, _⟩ => ⟨S4096x844, .f32⟩
  | .local _ .vmem, ⟨0, _⟩ => ⟨S512x844, .f32⟩
  | .local _ .vmem, ⟨1, _⟩ => ⟨S512x844, .f32⟩
  | .local _ .vmem, ⟨2, _⟩ => ⟨S512x844, .f32⟩
  | .local _ .vmem, ⟨3, _⟩ => ⟨S512x844, .f32⟩
  | .local _ .vmem, ⟨4, _⟩ => ⟨S512x844, .f32⟩
  | .local _ .vmem, ⟨5, _⟩ => ⟨S512x844, .f32⟩
  | .local _ .vmem, ⟨6, _⟩ => ⟨S512x844, .f32⟩
  | .local _ .vmem, ⟨7, _⟩ => ⟨S512x844, .f32⟩
  | .local _ .vmem, ⟨8, _⟩ => ⟨S512x844, .f32⟩
  | .local _ .vmem, ⟨9, _⟩ => ⟨S512x844, .f32⟩
  | .local _ .vmem, ⟨10, _⟩ => ⟨S512x844, .f32⟩
  | .local _ .vmem, ⟨11, _⟩ => ⟨S512x844, .f32⟩
  | .local _ .vmem, ⟨12, _⟩ => ⟨S512x844, .f32⟩
  | .local _ .vmem, ⟨13, _⟩ => ⟨S512x844, .f32⟩
  | _, _ => ⟨S4x1024x844, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x844 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x844 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x844 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x844 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x844 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x844 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x844 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x1024x844 : Shape := ⟨3, ![4, 1024, 844]⟩
abbrev S_ : Shape := ⟨0, ![]⟩
abbrev S4096x844 : Shape := ⟨2, ![4096, 844]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x844, .f32⟩
  | .hbm, ⟨1, _⟩ => ⟨S4x1024x844, .f32⟩
  | .hbm, ⟨2, _⟩ => ⟨S4x1024x844, .f32⟩
  | .hbm, ⟨3, _⟩ => ⟨S4x1024x844, .f32⟩
  | .hbm, ⟨4, _⟩ => ⟨S_, .f32⟩
  | .hbm, ⟨5, _⟩ => ⟨S4x1024x844, .f32⟩
  | .hbm, ⟨6, _⟩ => ⟨S4x1024x844, .f32⟩
  | .hbm, ⟨7, _⟩ => ⟨S_, .f32⟩
  | .hbm, ⟨8, _⟩ => ⟨S4x1024x844, .f32⟩
  | .hbm, ⟨9, _⟩ => ⟨S4x1024x844, .f32⟩
  | .hbm, ⟨10, _⟩ => ⟨S4x1024x844, .f32⟩
  | .hbm, ⟨11, _⟩ => ⟨S_, .f32⟩
  | .hbm, ⟨12, _⟩ => ⟨S4x1024x844, .f32⟩
  | .hbm, ⟨13, _⟩ => ⟨S4x1024x844, .f32⟩
  | .hbm, ⟨14, _⟩ => ⟨S4x1024x844, .f32⟩
  | .hbm, ⟨15, _⟩ => ⟨S_, .f32⟩
  | .hbm, ⟨16, _⟩ => ⟨S4x1024x844, .f32⟩
  | .hbm, ⟨17, _⟩ => ⟨S4x1024x844, .f32⟩
  | .hbm, ⟨18, _⟩ => ⟨S4x1024x844, .f32⟩
  | .hbm, ⟨19, _⟩ => ⟨S_, .f32⟩
  | .hbm, ⟨20, _⟩ => ⟨S4x1024x844, .f32⟩
  | .hbm, ⟨21, _⟩ => ⟨S4x1024x844, .f32⟩
  | .hbm, ⟨22, _⟩ => ⟨S_, .f32⟩
  | .hbm, ⟨23, _⟩ => ⟨S4x1024x844, .f32⟩
  | .hbm, ⟨24, _⟩ => ⟨S4x1024x844, .f32⟩
  | .hbm, ⟨25, _⟩ => ⟨S4x1024x844, .f32⟩
  | .hbm, ⟨26, _⟩ => ⟨S_, .f32⟩
  | .hbm, ⟨27, _⟩ => ⟨S4x1024x844, .f32⟩
  | .hbm, ⟨28, _⟩ => ⟨S4x1024x844, .f32⟩
  | .hbm, ⟨29, _⟩ => ⟨S4x1024x844, .f32⟩
  | .hbm, ⟨30, _⟩ => ⟨S_, .f32⟩
  | .hbm, ⟨31, _⟩ => ⟨S4x1024x844, .f32⟩
  | .hbm, ⟨32, _⟩ => ⟨S4x1024x844, .f32⟩
  | .hbm, ⟨33, _⟩ => ⟨S4x1024x844, .f32⟩
  | .hbm, ⟨34, _⟩ => ⟨S_, .f32⟩
  | .hbm, ⟨35, _⟩ => ⟨S4x1024x844, .f32⟩
  | .hbm, ⟨36, _⟩ => ⟨S4x1024x844, .f32⟩
  | .hbm, ⟨37, _⟩ => ⟨S4096x844, .f32⟩
  | .hbm, ⟨38, _⟩ => ⟨S4096x844, .f32⟩
  | .hbm, ⟨39, _⟩ => ⟨S4096x844, .f32⟩
  | _, _ => ⟨S4x1024x844, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x1024x1536 : Shape := ⟨3, ![4, 1024, 1536]⟩
abbrev S4096x1536 : Shape := ⟨2, ![4096, 1536]⟩
abbrev S512x1536 : Shape := ⟨2, ![512, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4352x1024 : Shape := ⟨2, ![4352, 1024]⟩
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x128, .f32⟩
  | .hbm, ⟨3, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_8 : BitVec 32 := 0#32
  let v22 : BitVec 1 := Scalar.cmpi .ne v21 c0_i32_8
  v22

def k0_cond2 (i : grid0.Coords) : BitVec 1 :=
  let arg0 : BitVec 32 := BitVec.ofNat 32 (i 0).val
  let c0_i32 : BitVec 32 := 0#32
  let v20 : BitVec 1 := Scalar.cmpi .eq arg0 c0_i32
  let v_true : BitVec 1 := 1#1
  let v23 : BitVec 1 := Scalar.xori v20 v_true
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4352x1024 : Shape := ⟨2, ![4352, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel26.lean ====
abbrev S576x128 : Shape := ⟨2, ![576, 128]⟩
abbrev S288x128 : Shape := ⟨2, ![288, 128]⟩

abbrev nBuf : Space → Nat
  | .hbm => 7
  | .vmem => 14
  | .smem => 0
  | _ => 0

abbrev bufTy : (tb : Table) → Fin (tcTables nBuf tb) → BufTy
  | .hbm, ⟨0, _⟩ => ⟨S576x128, .f32⟩
  | .hbm, ⟨1, _⟩ => ⟨S576x128, .f32⟩
  | .hbm, ⟨2, _⟩ => ⟨S576x128, .f32⟩
  | .hbm, ⟨3, _⟩ => ⟨S576x128, .f32⟩
  | .hbm, ⟨4, _⟩ => ⟨S576x128, .f32⟩
  | .hbm, ⟨5, _⟩ => ⟨S576x128, .f32⟩
  | .hbm, ⟨6, _⟩ => ⟨S576x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | .local _ .vmem, ⟨8, _⟩ => ⟨S288x128, .f32⟩
  | .local _ .vmem, ⟨9, _⟩ => ⟨S288x128, .f32⟩
  | .local _ .vmem, ⟨10, _⟩ => ⟨S288x128, .f32⟩
  | .local _ .vmem, ⟨11, _⟩ => ⟨S288x128, .f32⟩
  | .local _ .vmem, ⟨12, _⟩ => ⟨S288x128, .f32⟩
  | .local _ .vmem, ⟨13, _⟩ => ⟨S288x128, .f32⟩
  | _, _ => ⟨S576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S288x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S288x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S576x128 : Shape := ⟨2, ![576, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S576x128, .f32⟩
  | .hbm, ⟨2, _⟩ => ⟨S576x128, .f32⟩
  | .hbm, ⟨3, _⟩ => ⟨S576x128, .f32⟩
  | .hbm, ⟨4, _⟩ => ⟨S_, .f32⟩
  | .hbm, ⟨5, _⟩ => ⟨S576x128, .f32⟩
  | .hbm, ⟨6, _⟩ => ⟨S576x128, .f32⟩
  | .hbm, ⟨7, _⟩ => ⟨S_, .f32⟩
  | .hbm, ⟨8, _⟩ => ⟨S576x128, .f32⟩
  | .hbm, ⟨9, _⟩ => ⟨S576x128, .f32⟩
  | .hbm, ⟨10, _⟩ => ⟨S576x128, .f32⟩
  | .hbm, ⟨11, _⟩ => ⟨S_, .f32⟩
  | .hbm, ⟨12, _⟩ => ⟨S576x128, .f32⟩
  | .hbm, ⟨13, _⟩ => ⟨S576x128, .f32⟩
  | .hbm, ⟨14, _⟩ => ⟨S576x128, .f32⟩
  | .hbm, ⟨15, _⟩ => ⟨S_, .f32⟩
  | .hbm, ⟨16, _⟩ => ⟨S576x128, .f32⟩
  | .hbm, ⟨17, _⟩ => ⟨S576x128, .f32⟩
  | .hbm, ⟨18, _⟩ => ⟨S576x128, .f32⟩
  | .hbm, ⟨19, _⟩ => ⟨S_, .f32⟩
  | .hbm, ⟨20, _⟩ => ⟨S576x128, .f32⟩
  | .hbm, ⟨21, _⟩ => ⟨S576x128, .f32⟩
  | .hbm, ⟨22, _⟩ => ⟨S_, .f32⟩
  | .hbm, ⟨23, _⟩ => ⟨S576x128, .f32⟩
  | .hbm, ⟨24, _⟩ => ⟨S576x128, .f32⟩
  | .hbm, ⟨25, _⟩ => ⟨S576x128, .f32⟩
  | .hbm, ⟨26, _⟩ => ⟨S_, .f32⟩
  | .hbm, ⟨27, _⟩ => ⟨S576x128, .f32⟩
  | .hbm, ⟨28, _⟩ => ⟨S576x128, .f32⟩
  | .hbm, ⟨29, _⟩ => ⟨S576x128, .f32⟩
  | .hbm, ⟨30, _⟩ => ⟨S_, .f32⟩
  | .hbm, ⟨31, _⟩ => ⟨S576x128, .f32⟩
  | .hbm, ⟨32, _⟩ => ⟨S576x128, .f32⟩
  | .hbm, ⟨33, _⟩ => ⟨S576x128, .f32⟩
  | .hbm, ⟨34, _⟩ => ⟨S_, .f32⟩
  | .hbm, ⟨35, _⟩ => ⟨S576x128, .f32⟩
  | .hbm, ⟨36, _⟩ => ⟨S576x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rows.lean ====
module

public import Idealize.ShloMosaic.Lib.Pointwise

/-! The gradient of a product's weights, as a sum over 4352 rows taken in four blocks of 1088. -/

@[expose] public section

noncomputable section

open Idealize.ShloMosaic

namespace Cert.Rows

section
variable {K N : ℕ} (A : (⟨2, ![4352, K]⟩ : Shape).Idx → EReal) (B : (⟨2, ![4352, N]⟩ : Shape).Idx → EReal)

/-- One row's product; zero outside the arrays. -/
def term (i j x : ℕ) : EReal :=
  if h : x < 4352 ∧ i < K ∧ j < N then A (ix2 ⟨x, h.1⟩ ⟨i, h.2.1⟩) * B (ix2 ⟨x, h.1⟩ ⟨j, h.2.2⟩) else 0

/-- The gradient's entry. -/
def dw (i : Fin K) (j : Fin N) : EReal := ∑ x : Fin 4352, A (ix2 x i) * B (ix2 x j)

theorem term_sum (i : Fin K) (j : Fin N) : ∑ x ∈ Finset.range 4352, term A B i.val j.val x = dw A B i j := by
  rw [Finset.sum_range]
  exact Finset.sum_congr rfl fun x _ => dif_pos ⟨x.isLt, i.isLt, j.isLt⟩

/-- A block of rows, read off the arrays. -/
theorem block (s i j : ℕ) (hi : i < K) (hj : j < N) (hs : s < 4) (X Y : Fin 1088 → EReal)
    (hX : ∀ r, X r = A (ix2 ⟨1088 * s + r.val, by omega⟩ ⟨i, hi⟩)) (hY : ∀ r, Y r = B (ix2 ⟨1088 * s + r.val, by omega⟩ ⟨j, hj⟩)) :
    ∑ r, X r * Y r = ∑ x ∈ Finset.range 1088, term A B i j (1088 * s + x) := by
  rw [Finset.sum_range]
  refine Finset.sum_congr rfl fun r _ => ?_
  rw [hX, hY, term, dif_pos ⟨by omega, hi, hj⟩]
end

/-- What is reset at every fourth point and added to at the others is the sum over the rows so far. -/
theorem rows_sum (M : ℕ) (S : (n : ℕ) → n < M → EReal) (F : ℕ → ℕ → EReal)
    (h0 : ∀ n hn, n % 4 = 0 → S n hn = ∑ x ∈ Finset.range 1088, F (n / 4) (1088 * (n % 4) + x))
    (h1 : ∀ n hn, ¬ (n + 1) % 4 = 0 →
      S (n + 1) hn = S n (Nat.lt_of_succ_lt hn) + ∑ x ∈ Finset.range 1088, F ((n + 1) / 4) (1088 * ((n + 1) % 4) + x))
    (n : ℕ) (hn : n < M) : S n hn = ∑ x ∈ Finset.range (1088 * (n % 4 + 1)), F (n / 4) x := by
  induction n with
  | zero => rw [h0 0 hn rfl]; simp
  | succ n ih =>
    by_cases h : (n + 1) % 4 = 0
    · rw [h0 _ hn h]; simp [h]
    · rw [h1 n hn h, ih, show (n + 1) / 4 = n / 4 by omega, show (n + 1) % 4 = n % 4 + 1 by omega,
        show 1088 * (n % 4 + 1 + 1) = 1088 * (n % 4 + 1) + 1088 by ring, Finset.sum_range_add]

end Cert.Rows
end
-- ==== Proof.UpGrad.lean ====
module

public import proofs.«01_k».proof.Proof.Gen.Kernel2Ideal.Value
public import proofs.«01_k».proof.Proof.Gen.Reference2Ideal.Run
public import proofs.«01_k».proof.Proof.Gen.Kernel2.Frame
public import proofs.«01_k».proof.Proof.Rows
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! The gradient of the feed-forward's first weights: blocks of rows summed in the scratch against one product. -/

@[expose] public section

set_option maxRecDepth 16384

noncomputable section

open Idealize.ShloMosaic Idealize.ShloMosaic.TcCoe Idealize.SL.Sem
open Idealize.ShloMosaic.Pipeline (Dat)

namespace Cert.UpGrad

open Cert.Kernel2Ideal Cert.Kernel2Ideal.Gen Cert.Rows

/-- The product of a block of rows, added to what the scratch holds. -/
theorem pay (X : Vec Ideal S1088x1024 .bf16) (Y : Vec Ideal S1088x1408 .bf16) (Z : Vec Ideal S1024x1408 .f32) (i : Fin 1024) (j : Fin 1408) :
    k0_pay2 Z X Y (ix2 i j) = Z (ix2 i j) + ∑ r : Fin 1088, X (ix2 r i) * Y (ix2 r j) := by
  unfold k0_pay2
  pointwise

theorem pay_zero (i : Fin 1024) (j : Fin 1408) : k0_pay1 (F := Ideal) (ix2 i j) = 0 := by
  unfold k0_pay1
  pointwise

theorem pay_out (Z : Vec Ideal S1024x1408 .f32) (z : Fin 1) (i : Fin 1024) (j : Fin 1408) : k0_pay3 Z (ix3 z i j) = Z (ix2 i j) := by
  unfold k0_pay3
  pointwise

/-- Where every window's block lies. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The column of the whole array. -/
def col (q : Fin 4) (j : Fin 1408) : Fin 5632 := ⟨1408 * q.val + j.val, by omega⟩

/-- The gradient, its columns in four shards. -/
def shards (A : S4352x1024.Idx → EReal) (B : S4352x5632.Idx → EReal) : S4x1024x1408.Idx → EReal :=
  fun y => dw A B (y 1) (col (y 0) (y 2))

section
variable (m : (ℓ : Loc nD τ sig) → Buf (Elt Ideal) ℓ) (c : Dev nD)

/-- The arguments. -/
abbrev aA : S4352x1024.Idx → EReal := m ((c.tc : Thread nD τ).loc main_arg0)
@[inherit_doc aA] abbrev aB : S4352x5632.Idx → EReal := m ((c.tc : Thread nD τ).loc main_arg1)

/-- The shard that a grid point works on. -/
def shard (t : Fin cfg0.N) : Fin 4 := ⟨t.val / 4, by have : cfg0.N = 16 := N_0; omega⟩

/-- One block of rows. -/
theorem blk (t : Fin cfg0.N) (X : Vec Ideal S1088x1024 .bf16) (Y : Vec Ideal S1088x1408 .bf16) (hX : X = iblk m c 0 t) (hY : Y = iblk m c 1 t)
    (i : Fin 1024) (j : Fin 1408) :
    (∑ r : Fin 1088, X (ix2 r i) * Y (ix2 r j))
      = ∑ x ∈ Finset.range 1088, term (aA m c) (aB m c) i.val (1408 * (t.val / 4) + j.val) (1088 * (t.val % 4) + x) := by
  have hN : cfg0.N = 16 := N_0
  subst hX hY
  refine block _ _ _ _ _ i.isLt (by omega) (by omega) _ _ (fun r => ?_) (fun r => ?_) <;> blk_ext [iblk, V, idx t]

/-- The scratch after a point: the sum over the rows so far. -/
theorem carried (n : ℕ) (hn : n < cfg0.N) (i : Fin 1024) (j : Fin 1408) :
    (outsAt0 m c n hn).2 (ix2 i j)
      = ∑ x ∈ Finset.range (1088 * (n % 4 + 1)), term (aA m c) (aB m c) i.val (1408 * (n / 4) + j.val) x := by
  refine rows_sum cfg0.N (fun n hn => (outsAt0 m c n hn).2 (ix2 i j)) (fun q => term (aA m c) (aB m c) i.val (1408 * q + j.val))
    (fun n hn h0 => ?_) (fun n hn h0 => ?_) n hn
  · rw [outsAt0_A m c ⟨n, hn⟩ h0 (by dsimp only; omega)]
    frame_out
    rw [pay, pay_zero, blk m c _ _ _ rfl rfl, zero_add]
  · by_cases h1 : (n + 1) % 4 = 3
    · rw [outsAt0_C m c ⟨n + 1, hn⟩ h0 h1]
      frame_out
      simp only [read_unread_whole]
      rw [pay, blk m c _ _ _ rfl rfl]
      rfl
    · rw [outsAt0_B m c ⟨n + 1, hn⟩ h0 h1]
      frame_out
      simp only [read_unread_whole]
      rw [pay, blk m c _ _ _ rfl rfl]
      rfl

theorem final2 : (dats m 0 c).arrAt 2 cfg0.N = shards (aA m c) (aB m c) := by
  refine (dats m 0 c).arrAt_eq_of_covers 2 _ (by decide +kernel) fun t hf y => ?_
  blk_simp
  have h1 : t.val % 4 = 3 := (flush0_2 t).mp hf
  have h0 : ¬ t.val % 4 = 0 := by omega
  rw [after0_2]
  obtain ⟨z, i, j, rfl⟩ : ∃ (z : Fin 1) (i : Fin 1024) (j : Fin 1408), y = ix3 z i j := ⟨y 0, y 1, y 2, by idx_vars y⟩
  have e : shards (aA m c) (aB m c) ((win0_2.blk t).view.emb (ix3 z i j)) = dw (aA m c) (aB m c) i (col (shard t) j) := by
    refine Eq.trans (b := shards (aA m c) (aB m c) (ix3 (shard t) i j)) ?_ rfl
    blk_ext [idx t]
    simp [shard]
  refine Eq.trans ?_ e.symm
  have hc := carried m c t.val t.isLt i j
  have e4 : 1088 * (t.val % 4 + 1) = 4352 := by omega
  have ec : dw (aA m c) (aB m c) i (col (shard t) j) = _ := (term_sum _ _ _ _).symm
  rw [e4] at hc
  rw [ec]
  simp only [col, shard]
  rw [outsAt0_C m c t h0 h1] at hc ⊢
  frame_out
  rw [pay_out]
  refine Eq.trans (Eq.symm ?_) hc
  frame_out

end

end Cert.UpGrad

namespace Cert.UpGrad.Ref

open Cert.Reference2Ideal Cert.Reference2Ideal.Gen Cert.Rows

/-- The reference's result. -/
theorem val (A : (⟨S4352x1024, .bf16⟩ : BufTy).Contents (Elt Ideal)) (B : (⟨S4352x5632, .bf16⟩ : BufTy).Contents (Elt Ideal))
    (q : Fin 4) (i : Fin 1024) (j : Fin 1408) :
    (transpose S4x1024x1408 [1, 0, 2] (shapeCast _ (truncf .bf16 (transpose S1024x5632 [1, 0] (Host.dotGeneral dot_S4352x5632_S4352x1024_S5632x1024_0_0_1_1_n_n none (extf .f32 B bitsLt_bf16_f32) (extf .f32 A bitsLt_bf16_f32)) transposes_S5632x1024_S1024x5632_1_0) bitsLt_bf16_f32) shapeCasts_S1024x5632_S1024x4x1408) transposes_S1024x4x1408_S4x1024x1408_1_0_2 : FVec Ideal S4x1024x1408 .bf16) (ix3 q i j)
      = dw A B i (col q j) := by
  unfold dw
  pointwise
  refine Finset.sum_congr rfl fun x _ => ?_
  rw [mul_comm]
  refine congrArg (fun k => A (ix2 x i) * B (ix2 x k)) (Fin.ext ?_)
  simp only [col]
  omega

end Cert.UpGrad.Ref

namespace Cert.UpGrad

open Cert.Rows

/-- Kernel and reference leave the same gradient. -/
theorem algebraic : Cert.algebraic_Kernel2Ideal_Reference2Ideal := by
  intro m g m' g' _ hag
  refine ⟨fun c => shards (aA m c) (aB m c), ?_, ?_⟩
  · refine (θ_run Cert.Kernel2Ideal.defs _ _).mono (fun r h c => ?_) (Cert.Kernel2Ideal.Value.run_blocks m g)
    obtain ⟨h2, ha⟩ := h c
    exact ⟨h2.trans (final2 m c), ha⟩
  · refine (θ_run Cert.Reference2Ideal.defs _ _).mono (fun r h c => ?_) (Cert.Reference2Ideal.Value.run m' g')
    obtain ⟨h2, ha⟩ := h c
    refine ⟨h2.trans ?_, ha⟩
    funext y
    obtain ⟨q, i, j, rfl⟩ : ∃ (q : Fin 4) (i : Fin 1024) (j : Fin 1408), y = ix3 q i j := ⟨y 0, y 1, y 2, by idx_vars y⟩
    refine (Ref.val _ _ q i j).trans ?_
    rw [(hag c).1, (hag c).2]
    rfl

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.UpGrad
end
-- ==== Proof.InGrad.lean ====
module

public import proofs.«01_k».proof.Proof.Gen.Kernel3Ideal.Value
public import proofs.«01_k».proof.Proof.Gen.Reference3Ideal.Run
public import proofs.«01_k».proof.Proof.Gen.Kernel3.Frame
public import proofs.«01_k».proof.Proof.Rows
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! The gradient of the input projection's weights: blocks of rows summed in the scratch against one product. -/

@[expose] public section

set_option maxRecDepth 16384

noncomputable section

open Idealize.ShloMosaic Idealize.ShloMosaic.TcCoe Idealize.SL.Sem
open Idealize.ShloMosaic.Pipeline (Dat)

namespace Cert.InGrad

open Cert.Kernel3Ideal Cert.Kernel3Ideal.Gen Cert.Rows

/-- The product of a block of rows, added to what the scratch holds. -/
theorem pay (X : Vec Ideal S1088x1024 .bf16) (Y : Vec Ideal S1088x512 .bf16) (Z : Vec Ideal S1024x512 .f32) (i : Fin 1024) (j : Fin 512) :
    k0_pay2 Z X Y (ix2 i j) = Z (ix2 i j) + ∑ r : Fin 1088, X (ix2 r i) * Y (ix2 r j) := by
  unfold k0_pay2
  pointwise

theorem pay_zero (i : Fin 1024) (j : Fin 512) : k0_pay1 (F := Ideal) (ix2 i j) = 0 := by
  unfold k0_pay1
  pointwise

theorem pay_out (Z : Vec Ideal S1024x512 .f32) (i : Fin 1024) (j : Fin 512) : k0_pay3 Z (ix2 i j) = Z (ix2 i j) := by
  unfold k0_pay3
  pointwise

/-- Where every window's block lies. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The gradient. -/
def grad (A : S4352x1024.Idx → EReal) (B : S4352x3584.Idx → EReal) : S1024x3584.Idx → EReal := fun y => dw A B (y 0) (y 1)

section
variable (m : (ℓ : Loc nD τ sig) → Buf (Elt Ideal) ℓ) (c : Dev nD)

/-- The kernel's two arrays. -/
abbrev aA : S4352x1024.Idx → EReal := m ((c.tc : Thread nD τ).loc main_arg0)
@[inherit_doc aA] abbrev aB : S4352x3584.Idx → EReal := m ((c.tc : Thread nD τ).loc main_arg1)

/-- One block of rows. -/
theorem blk (t : Fin cfg0.N) (X : Vec Ideal S1088x1024 .bf16) (Y : Vec Ideal S1088x512 .bf16) (hX : X = iblk m c 0 t) (hY : Y = iblk m c 1 t)
    (i : Fin 1024) (j : Fin 512) :
    (∑ r : Fin 1088, X (ix2 r i) * Y (ix2 r j))
      = ∑ x ∈ Finset.range 1088, term (aA m c) (aB m c) i.val (512 * (t.val / 4) + j.val) (1088 * (t.val % 4) + x) := by
  have hN : cfg0.N = 28 := N_0
  subst hX hY
  refine block _ _ _ _ _ (by omega) (by omega) (by omega) _ _ (fun r => ?_) (fun r => ?_) <;> blk_ext [iblk, V, idx t]

/-- The scratch after a point: the sum over the rows so far. -/
theorem carried (n : ℕ) (hn : n < cfg0.N) (i : Fin 1024) (j : Fin 512) :
    (outsAt0 m c n hn).2 (ix2 i j)
      = ∑ x ∈ Finset.range (1088 * (n % 4 + 1)), term (aA m c) (aB m c) i.val (512 * (n / 4) + j.val) x := by
  refine rows_sum cfg0.N (fun n hn => (outsAt0 m c n hn).2 (ix2 i j)) (fun q => term (aA m c) (aB m c) i.val (512 * q + j.val))
    (fun n hn h0 => ?_) (fun n hn h0 => ?_) n hn
  · rw [outsAt0_A m c ⟨n, hn⟩ h0 (by dsimp only; omega)]
    frame_out
    rw [pay, pay_zero, blk m c _ _ _ rfl rfl, zero_add]
  · by_cases h1 : (n + 1) % 4 = 3
    · rw [outsAt0_C m c ⟨n + 1, hn⟩ h0 h1]
      frame_out
      simp only [read_unread_whole]
      rw [pay, blk m c _ _ _ rfl rfl]
      rfl
    · rw [outsAt0_B m c ⟨n + 1, hn⟩ h0 h1]
      frame_out
      simp only [read_unread_whole]
      rw [pay, blk m c _ _ _ rfl rfl]
      rfl

theorem final2 : (dats m 0 c).arrAt 2 cfg0.N = grad (aA m c) (aB m c) := by
  refine (dats m 0 c).arrAt_eq_of_covers 2 _ (by decide +kernel) fun t hf y => ?_
  blk_simp
  have hN : t.val < 28 := Nat.lt_of_lt_of_eq t.isLt N_0
  have h1 : t.val % 4 = 3 := (flush0_2 t).mp hf
  have h0 : ¬ t.val % 4 = 0 := by omega
  rw [after0_2]
  obtain ⟨i, j, rfl⟩ : ∃ (i : Fin 1024) (j : Fin 512), y = ix2 i j := ⟨y 0, y 1, by idx_vars y⟩
  have e : grad (aA m c) (aB m c) ((win0_2.blk t).view.emb (ix2 i j))
      = dw (aA m c) (aB m c) ⟨i.val, by omega⟩ ⟨512 * (t.val / 4) + j.val, by omega⟩ := by
    refine Eq.trans (b := grad (aA m c) (aB m c) (ix2 ⟨i.val, by omega⟩ ⟨512 * (t.val / 4) + j.val, by omega⟩)) ?_ rfl
    blk_ext [idx t]
  refine Eq.trans ?_ e.symm
  have hc := carried m c t.val t.isLt i j
  rw [show 1088 * (t.val % 4 + 1) = 4352 by omega] at hc
  rw [← term_sum]
  rw [outsAt0_C m c t h0 h1] at hc ⊢
  frame_out
  rw [pay_out]
  refine Eq.trans (Eq.symm ?_) hc
  frame_out

end

end Cert.InGrad

namespace Cert.InGrad.Ref

open Cert.Reference3Ideal Cert.Reference3Ideal.Gen Cert.Rows

/-- The reference's result. -/
theorem val (A : (⟨S4352x1024, .bf16⟩ : BufTy).Contents (Elt Ideal)) (B : (⟨S4352x3584, .bf16⟩ : BufTy).Contents (Elt Ideal))
    (i : Fin 1024) (j : Fin 3584) :
    (truncf .bf16 (transpose S1024x3584 [1, 0] (Host.dotGeneral dot_S4352x3584_S4352x1024_S3584x1024_0_0_1_1_n_n none (extf .f32 B bitsLt_bf16_f32) (extf .f32 A bitsLt_bf16_f32)) transposes_S3584x1024_S1024x3584_1_0) bitsLt_bf16_f32 : FVec Ideal S1024x3584 .bf16) (ix2 i j)
      = dw A B i j := by
  unfold dw
  pointwise
  exact Finset.sum_congr rfl fun x _ => mul_comm _ _

end Cert.InGrad.Ref

namespace Cert.InGrad

open Cert.Rows

/-- Kernel and reference leave the same gradient. -/
theorem algebraic : Cert.algebraic_Kernel3Ideal_Reference3Ideal := by
  intro m g m' g' _ hag
  refine ⟨fun c => grad (aA m c) (aB m c), ?_, ?_⟩
  · refine (θ_run Cert.Kernel3Ideal.defs _ _).mono (fun r h c => ?_) (Cert.Kernel3Ideal.Value.run_blocks m g)
    obtain ⟨h2, ha⟩ := h c
    exact ⟨h2.trans (final2 m c), ha⟩
  · refine (θ_run Cert.Reference3Ideal.defs _ _).mono (fun r h c => ?_) (Cert.Reference3Ideal.Value.run m' g')
    obtain ⟨h2, ha⟩ := h c
    refine ⟨h2.trans ?_, ha⟩
    funext y
    obtain ⟨i, j, rfl⟩ : ∃ (i : Fin 1024) (j : Fin 3584), y = ix2 i j := ⟨y 0, y 1, by idx_vars y⟩
    refine (Ref.val _ _ i j).trans ?_
    rw [(hag c).1, (hag c).2]
    rfl

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.InGrad
end
-- ==== Proof.OutGrad.lean ====
module

public import proofs.«01_k».proof.Proof.Gen.Kernel4Ideal.Value
public import proofs.«01_k».proof.Proof.Gen.Reference4Ideal.Run
public import proofs.«01_k».proof.Proof.Gen.Kernel4.Frame
public import proofs.«01_k».proof.Proof.Rows
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! The gradient of the output projection's weights: blocks of rows summed in the scratch against one product. -/

@[expose] public section

set_option maxRecDepth 16384

noncomputable section

open Idealize.ShloMosaic Idealize.ShloMosaic.TcCoe Idealize.SL.Sem
open Idealize.ShloMosaic.Pipeline (Dat)

namespace Cert.OutGrad

open Cert.Kernel4Ideal Cert.Kernel4Ideal.Gen Cert.Rows

/-- The product of a block of rows, added to what the scratch holds. -/
theorem pay (X : Vec Ideal S1088x1024 .bf16) (Y : Vec Ideal S1088x512 .bf16) (Z : Vec Ideal S1024x512 .f32) (i : Fin 1024) (j : Fin 512) :
    k0_pay2 Z X Y (ix2 i j) = Z (ix2 i j) + ∑ r : Fin 1088, X (ix2 r i) * Y (ix2 r j) := by
  unfold k0_pay2
  pointwise

theorem pay_zero (i : Fin 1024) (j : Fin 512) : k0_pay1 (F := Ideal) (ix2 i j) = 0 := by
  unfold k0_pay1
  pointwise

theorem pay_out (Z : Vec Ideal S1024x512 .f32) (i : Fin 1024) (j : Fin 512) : k0_pay3 Z (ix2 i j) = Z (ix2 i j) := by
  unfold k0_pay3
  pointwise

/-- Where every window's block lies. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The gradient. -/
def grad (A : S4352x1024.Idx → EReal) (B : S4352x1024.Idx → EReal) : S1024x1024.Idx → EReal := fun y => dw A B (y 0) (y 1)

section
variable (m : (ℓ : Loc nD τ sig) → Buf (Elt Ideal) ℓ) (c : Dev nD)

/-- The kernel's two arrays. -/
abbrev aA : S4352x1024.Idx → EReal := m ((c.tc : Thread nD τ).loc main_arg0)
@[inherit_doc aA] abbrev aB : S4352x1024.Idx → EReal := m ((c.tc : Thread nD τ).loc main_arg1)

/-- One block of rows. -/
theorem blk (t : Fin cfg0.N) (X : Vec Ideal S1088x1024 .bf16) (Y : Vec Ideal S1088x512 .bf16) (hX : X = iblk m c 0 t) (hY : Y = iblk m c 1 t)
    (i : Fin 1024) (j : Fin 512) :
    (∑ r : Fin 1088, X (ix2 r i) * Y (ix2 r j))
      = ∑ x ∈ Finset.range 1088, term (aA m c) (aB m c) i.val (512 * (t.val / 4) + j.val) (1088 * (t.val % 4) + x) := by
  have hN : cfg0.N = 8 := N_0
  subst hX hY
  refine block _ _ _ _ _ (by omega) (by omega) (by omega) _ _ (fun r => ?_) (fun r => ?_) <;> blk_ext [iblk, V, idx t]

/-- The scratch after a point: the sum over the rows so far. -/
theorem carried (n : ℕ) (hn : n < cfg0.N) (i : Fin 1024) (j : Fin 512) :
    (outsAt0 m c n hn).2 (ix2 i j)
      = ∑ x ∈ Finset.range (1088 * (n % 4 + 1)), term (aA m c) (aB m c) i.val (512 * (n / 4) + j.val) x := by
  refine rows_sum cfg0.N (fun n hn => (outsAt0 m c n hn).2 (ix2 i j)) (fun q => term (aA m c) (aB m c) i.val (512 * q + j.val))
    (fun n hn h0 => ?_) (fun n hn h0 => ?_) n hn
  · rw [outsAt0_A m c ⟨n, hn⟩ h0 (by dsimp only; omega)]
    frame_out
    rw [pay, pay_zero, blk m c _ _ _ rfl rfl, zero_add]
  · by_cases h1 : (n + 1) % 4 = 3
    · rw [outsAt0_C m c ⟨n + 1, hn⟩ h0 h1]
      frame_out
      simp only [read_unread_whole]
      rw [pay, blk m c _ _ _ rfl rfl]
      rfl
    · rw [outsAt0_B m c ⟨n + 1, hn⟩ h0 h1]
      frame_out
      simp only [read_unread_whole]
      rw [pay, blk m c _ _ _ rfl rfl]
      rfl

theorem final2 : (dats m 0 c).arrAt 2 cfg0.N = grad (aA m c) (aB m c) := by
  refine (dats m 0 c).arrAt_eq_of_covers 2 _ (by decide +kernel) fun t hf y => ?_
  blk_simp
  have hN : t.val < 8 := Nat.lt_of_lt_of_eq t.isLt N_0
  have h1 : t.val % 4 = 3 := (flush0_2 t).mp hf
  have h0 : ¬ t.val % 4 = 0 := by omega
  rw [after0_2]
  obtain ⟨i, j, rfl⟩ : ∃ (i : Fin 1024) (j : Fin 512), y = ix2 i j := ⟨y 0, y 1, by idx_vars y⟩
  have e : grad (aA m c) (aB m c) ((win0_2.blk t).view.emb (ix2 i j))
      = dw (aA m c) (aB m c) ⟨i.val, by omega⟩ ⟨512 * (t.val / 4) + j.val, by omega⟩ := by
    refine Eq.trans (b := grad (aA m c) (aB m c) (ix2 ⟨i.val, by omega⟩ ⟨512 * (t.val / 4) + j.val, by omega⟩)) ?_ rfl
    blk_ext [idx t]
  refine Eq.trans ?_ e.symm
  have hc := carried m c t.val t.isLt i j
  rw [show 1088 * (t.val % 4 + 1) = 4352 by omega] at hc
  rw [← term_sum]
  rw [outsAt0_C m c t h0 h1] at hc ⊢
  frame_out
  rw [pay_out]
  refine Eq.trans (Eq.symm ?_) hc
  frame_out

end

end Cert.OutGrad

namespace Cert.OutGrad.Ref

open Cert.Reference4Ideal Cert.Reference4Ideal.Gen Cert.Rows

/-- The reference's result. -/
theorem val (A : (⟨S4352x1024, .bf16⟩ : BufTy).Contents (Elt Ideal)) (B : (⟨S4352x1024, .bf16⟩ : BufTy).Contents (Elt Ideal))
    (i : Fin 1024) (j : Fin 1024) :
    (truncf .bf16 (transpose S1024x1024 [1, 0] (Host.dotGeneral dot_S4352x1024_S4352x1024_S1024x1024_0_0_1_1_n_n none (extf .f32 B bitsLt_bf16_f32) (extf .f32 A bitsLt_bf16_f32)) transposes_S1024x1024_S1024x1024_1_0) bitsLt_bf16_f32 : FVec Ideal S1024x1024 .bf16) (ix2 i j)
      = dw A B i j := by
  unfold dw
  pointwise
  exact Finset.sum_congr rfl fun x _ => mul_comm _ _

end Cert.OutGrad.Ref

namespace Cert.OutGrad

open Cert.Rows

/-- Kernel and reference leave the same gradient. -/
theorem algebraic : Cert.algebraic_Kernel4Ideal_Reference4Ideal := by
  intro m g m' g' _ hag
  refine ⟨fun c => grad (aA m c) (aB m c), ?_, ?_⟩
  · refine (θ_run Cert.Kernel4Ideal.defs _ _).mono (fun r h c => ?_) (Cert.Kernel4Ideal.Value.run_blocks m g)
    obtain ⟨h2, ha⟩ := h c
    exact ⟨h2.trans (final2 m c), ha⟩
  · refine (θ_run Cert.Reference4Ideal.defs _ _).mono (fun r h c => ?_) (Cert.Reference4Ideal.Value.run m' g')
    obtain ⟨h2, ha⟩ := h c
    refine ⟨h2.trans ?_, ha⟩
    funext y
    obtain ⟨i, j, rfl⟩ : ∃ (i : Fin 1024) (j : Fin 1024), y = ix2 i j := ⟨y 0, y 1, by idx_vars y⟩
    refine (Ref.val _ _ i j).trans ?_
    rw [(hag c).1, (hag c).2]
    rfl

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.OutGrad
end
-- ==== Proof.DownGrad.lean ====
module

public import proofs.«01_k».proof.Proof.Gen.Kernel5Ideal.Value
public import proofs.«01_k».proof.Proof.Gen.Reference5Ideal.Run
public import proofs.«01_k».proof.Proof.Gen.Kernel5.Frame
public import proofs.«01_k».proof.Proof.Rows
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! The gradient of the feed-forward's second weights: blocks of rows summed in the scratch against one product. -/

@[expose] public section

set_option maxRecDepth 16384

noncomputable section

open Idealize.ShloMosaic Idealize.ShloMosaic.TcCoe Idealize.SL.Sem
open Idealize.ShloMosaic.Pipeline (Dat)

namespace Cert.DownGrad

open Cert.Kernel5Ideal Cert.Kernel5Ideal.Gen Cert.Rows

/-- The product of a block of rows, added to what the scratch holds. -/
theorem pay (X : Vec Ideal S1088x1408 .bf16) (Y : Vec Ideal S1088x512 .bf16) (Z : Vec Ideal S1408x512 .f32) (i : Fin 1408) (j : Fin 512) :
    k0_pay2 Z X Y (ix2 i j) = Z (ix2 i j) + ∑ r : Fin 1088, X (ix2 r i) * Y (ix2 r j) := by
  unfold k0_pay2
  pointwise

theorem pay_zero (i : Fin 1408) (j : Fin 512) : k0_pay1 (F := Ideal) (ix2 i j) = 0 := by
  unfold k0_pay1
  pointwise

theorem pay_out (Z : Vec Ideal S1408x512 .f32) (i : Fin 1408) (j : Fin 512) : k0_pay3 Z (ix2 i j) = Z (ix2 i j) := by
  unfold k0_pay3
  pointwise

/-- Where every window's block lies. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The gradient. -/
def grad (A : S4352x2816.Idx → EReal) (B : S4352x1024.Idx → EReal) : S2816x1024.Idx → EReal := fun y => dw A B (y 0) (y 1)

section
variable (m : (ℓ : Loc nD τ sig) → Buf (Elt Ideal) ℓ) (c : Dev nD)

/-- The kernel's two arrays. -/
abbrev aA : S4352x2816.Idx → EReal := m ((c.tc : Thread nD τ).loc main_arg0)
@[inherit_doc aA] abbrev aB : S4352x1024.Idx → EReal := m ((c.tc : Thread nD τ).loc main_arg1)

/-- One block of rows. -/
theorem blk (t : Fin cfg0.N) (X : Vec Ideal S1088x1408 .bf16) (Y : Vec Ideal S1088x512 .bf16) (hX : X = iblk m c 0 t) (hY : Y = iblk m c 1 t)
    (i : Fin 1408) (j : Fin 512) :
    (∑ r : Fin 1088, X (ix2 r i) * Y (ix2 r j))
      = ∑ x ∈ Finset.range 1088, term (aA m c) (aB m c) (1408 * (t.val / 4 / 2) + i.val) (512 * (t.val / 4 % 2) + j.val) (1088 * (t.val % 4) + x) := by
  have hN : cfg0.N = 16 := N_0
  subst hX hY
  refine block _ _ _ _ _ (by omega) (by omega) (by omega) _ _ (fun r => ?_) (fun r => ?_) <;> blk_ext [iblk, V, idx t]

/-- The scratch after a point: the sum over the rows so far. -/
theorem carried (n : ℕ) (hn : n < cfg0.N) (i : Fin 1408) (j : Fin 512) :
    (outsAt0 m c n hn).2 (ix2 i j)
      = ∑ x ∈ Finset.range (1088 * (n % 4 + 1)), term (aA m c) (aB m c) (1408 * (n / 4 / 2) + i.val) (512 * (n / 4 % 2) + j.val) x := by
  refine rows_sum cfg0.N (fun n hn => (outsAt0 m c n hn).2 (ix2 i j)) (fun q => term (aA m c) (aB m c) (1408 * (q / 2) + i.val) (512 * (q % 2) + j.val))
    (fun n hn h0 => ?_) (fun n hn h0 => ?_) n hn
  · rw [outsAt0_A m c ⟨n, hn⟩ h0 (by dsimp only; omega)]
    frame_out
    rw [pay, pay_zero, blk m c _ _ _ rfl rfl, zero_add]
  · by_cases h1 : (n + 1) % 4 = 3
    · rw [outsAt0_C m c ⟨n + 1, hn⟩ h0 h1]
      frame_out
      simp only [read_unread_whole]
      rw [pay, blk m c _ _ _ rfl rfl]
      rfl
    · rw [outsAt0_B m c ⟨n + 1, hn⟩ h0 h1]
      frame_out
      simp only [read_unread_whole]
      rw [pay, blk m c _ _ _ rfl rfl]
      rfl

theorem final2 : (dats m 0 c).arrAt 2 cfg0.N = grad (aA m c) (aB m c) := by
  refine (dats m 0 c).arrAt_eq_of_covers 2 _ (by decide +kernel) fun t hf y => ?_
  blk_simp
  have hN : t.val < 16 := Nat.lt_of_lt_of_eq t.isLt N_0
  have h1 : t.val % 4 = 3 := (flush0_2 t).mp hf
  have h0 : ¬ t.val % 4 = 0 := by omega
  rw [after0_2]
  obtain ⟨i, j, rfl⟩ : ∃ (i : Fin 1408) (j : Fin 512), y = ix2 i j := ⟨y 0, y 1, by idx_vars y⟩
  have e : grad (aA m c) (aB m c) ((win0_2.blk t).view.emb (ix2 i j))
      = dw (aA m c) (aB m c) ⟨1408 * (t.val / 4 / 2) + i.val, by omega⟩ ⟨512 * (t.val / 4 % 2) + j.val, by omega⟩ := by
    refine Eq.trans (b := grad (aA m c) (aB m c) (ix2 ⟨1408 * (t.val / 4 / 2) + i.val, by omega⟩ ⟨512 * (t.val / 4 % 2) + j.val, by omega⟩)) ?_ rfl
    blk_ext [idx t]
  refine Eq.trans ?_ e.symm
  have hc := carried m c t.val t.isLt i j
  rw [show 1088 * (t.val % 4 + 1) = 4352 by omega] at hc
  rw [← term_sum]
  rw [outsAt0_C m c t h0 h1] at hc ⊢
  frame_out
  rw [pay_out]
  refine Eq.trans (Eq.symm ?_) hc
  frame_out

end

end Cert.DownGrad

namespace Cert.DownGrad.Ref

open Cert.Reference5Ideal Cert.Reference5Ideal.Gen Cert.Rows

/-- The reference's result. -/
theorem val (A : (⟨S4352x2816, .bf16⟩ : BufTy).Contents (Elt Ideal)) (B : (⟨S4352x1024, .bf16⟩ : BufTy).Contents (Elt Ideal))
    (i : Fin 2816) (j : Fin 1024) :
    (truncf .bf16 (transpose S2816x1024 [1, 0] (Host.dotGeneral dot_S4352x1024_S4352x2816_S1024x2816_0_0_1_1_n_n none (extf .f32 B bitsLt_bf16_f32) (extf .f32 A bitsLt_bf16_f32)) transposes_S1024x2816_S2816x1024_1_0) bitsLt_bf16_f32 : FVec Ideal S2816x1024 .bf16) (ix2 i j)
      = dw A B i j := by
  unfold dw
  pointwise
  exact Finset.sum_congr rfl fun x _ => mul_comm _ _

end Cert.DownGrad.Ref

namespace Cert.DownGrad

open Cert.Rows

/-- Kernel and reference leave the same gradient. -/
theorem algebraic : Cert.algebraic_Kernel5Ideal_Reference5Ideal := by
  intro m g m' g' _ hag
  refine ⟨fun c => grad (aA m c) (aB m c), ?_, ?_⟩
  · refine (θ_run Cert.Kernel5Ideal.defs _ _).mono (fun r h c => ?_) (Cert.Kernel5Ideal.Value.run_blocks m g)
    obtain ⟨h2, ha⟩ := h c
    exact ⟨h2.trans (final2 m c), ha⟩
  · refine (θ_run Cert.Reference5Ideal.defs _ _).mono (fun r h c => ?_) (Cert.Reference5Ideal.Value.run m' g')
    obtain ⟨h2, ha⟩ := h c
    refine ⟨h2.trans ?_, ha⟩
    funext y
    obtain ⟨i, j, rfl⟩ : ∃ (i : Fin 2816) (j : Fin 1024), y = ix2 i j := ⟨y 0, y 1, by idx_vars y⟩
    refine (Ref.val _ _ i j).trans ?_
    rw [(hag c).1, (hag c).2]
    rfl

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.DownGrad
end
-- ==== Proof.UpBwdRuns.lean ====
module

public import proofs.«01_k».proof.Proof.Gen.Kernel6Ideal.Points
public import proofs.«01_k».proof.Proof.Gen.Kernel6Ideal.Skeleton
public import proofs.«01_k».proof.Proof.Gen.Kernel6Ideal.Launch
public import Idealize.ShloMosaic.Lib.Claim
public import Idealize.ShloMosaic.Lib.Pipeline.FrameBody

/-! `ffn_up_bwd`: what its body leaves in its staging buffers, at the first point, at the second and at any later one. -/

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The staging buffers of a grid point, with their wholeness. -/
structure Args where
  arg1 : Memref sig .tc .vmem S256x5632 .bf16
  h1 : arg1.IsWhole
  arg2 : Memref sig .tc .vmem S1024x5632 .bf16
  h2 : arg2.IsWhole
  arg3 : Memref sig .tc .vmem S256x1024 .f32
  h3 : arg3.IsWhole
  arg4 : Memref sig .tc .vmem S1x1024 .f32
  h4 : arg4.IsWhole
  arg5 : Memref sig .tc .vmem S1x6x1024 .f32
  h5 : arg5.IsWhole
  arg6 : Memref sig .tc .vmem S256x1024 .f32
  h6 : arg6.IsWhole
  arg7 : Memref sig .tc .vmem S256x1024 .f32
  h7 : arg7.IsWhole
  arg8 : Memref sig .tc .vmem S1x1024 .f32
  h8 : arg8.IsWhole
  arg9 : Memref sig .tc .vmem S1x1x1024 .f32
  h9 : arg9.IsWhole
  arg10 : Memref sig .tc .vmem S1x1x1024 .f32
  h10 : arg10.IsWhole

/-- The pieces that a run leaves in the four results. -/
structure Pieces (F : FTy → Type) where
  p7 : List (View.Piece (Elt F) S256x1024 .f32)
  p8 : List (View.Piece (Elt F) S1x1024 .f32)
  p9 : List (View.Piece (Elt F) S1x1x1024 .f32)
  p10 : List (View.Piece (Elt F) S1x1x1024 .f32)

/-- The inputs' blocks. -/
structure Ins (F : FTy → Type) where
  x0 : Vec F S256x5632 .bf16
  x1 : Vec F S1024x5632 .bf16
  x2 : Vec F S256x1024 .f32
  x3 : Vec F S1x1024 .f32
  x4 : Vec F S1x6x1024 .f32
  x5 : Vec F S256x1024 .f32

variable (A : Args) (c : Dev nD) (i : grid0.Coords) (X : Ins F)

/-- The inputs' buffers at their blocks. -/
def inputs : sProp 𝕄 :=
  iprop(owns (c : Thread nD τ) A.arg1 fullShare X.x0 ∗ owns (c : Thread nD τ) A.arg2 fullShare X.x1
    ∗ owns (c : Thread nD τ) A.arg3 fullShare X.x2 ∗ owns (c : Thread nD τ) A.arg4 fullShare X.x3
    ∗ owns (c : Thread nD τ) A.arg5 fullShare X.x4 ∗ owns (c : Thread nD τ) A.arg6 fullShare X.x5)

/-- The results' buffers with the pieces written. -/
def written (P : Pieces F) : sProp 𝕄 :=
  iprop((∃ f, A.arg7.view.loc (c : Thread nD τ) ↦[A.arg7.view.set]{fullShare} A.arg7.view.writes (Elt F) f P.p7)
    ∗ (∃ f, A.arg8.view.loc (c : Thread nD τ) ↦[A.arg8.view.set]{fullShare} A.arg8.view.writes (Elt F) f P.p8)
    ∗ (∃ f, A.arg9.view.loc (c : Thread nD τ) ↦[A.arg9.view.set]{fullShare} A.arg9.view.writes (Elt F) f P.p9)
    ∗ (∃ f, A.arg10.view.loc (c : Thread nD τ) ↦[A.arg10.view.set]{fullShare} A.arg10.view.writes (Elt F) f P.p10))

/-- The body on these buffers. -/
abbrev body : Prog (TpuEff nD τ sig (Elt F) Λ₀ .tc) PUnit :=
  cc0_ffn_up_bwd i A.arg1 A.h1 A.arg2 A.h2 A.arg3 A.h3 A.arg4 A.h4 A.arg5 A.h5 A.arg6 A.h6 A.arg7 A.h7 A.arg8 A.h8 A.arg9 A.h9 A.arg10 A.h10

/-! What the body computes of the blocks. -/

/-- The gradient at the modulated norm: eleven products summed. -/
def dh : FVec F S256x1024 .f32 :=
  k0_pay7 (k0_pay6
      (View.ld X.x0 (Rect.unit (s := S256x5632) ![0, 0] S256x512.size inb_S256x5632_S256x512_0_0))
      (View.ld X.x1 (Rect.unit (s := S1024x5632) ![0, 0] S1024x512.size inb_S1024x5632_S1024x512_0_0))
      (View.ld X.x0 (Rect.unit (s := S256x5632) ![0, 512] S256x512.size inb_S256x5632_S256x512_0_512))
      (View.ld X.x1 (Rect.unit (s := S1024x5632) ![0, 512] S1024x512.size inb_S1024x5632_S1024x512_0_512))
      (View.ld X.x0 (Rect.unit (s := S256x5632) ![0, 1024] S256x512.size inb_S256x5632_S256x512_0_1024))
      (View.ld X.x1 (Rect.unit (s := S1024x5632) ![0, 1024] S1024x512.size inb_S1024x5632_S1024x512_0_1024))
      (View.ld X.x0 (Rect.unit (s := S256x5632) ![0, 1536] S256x512.size inb_S256x5632_S256x512_0_1536))
      (View.ld X.x1 (Rect.unit (s := S1024x5632) ![0, 1536] S1024x512.size inb_S1024x5632_S1024x512_0_1536))
      (View.ld X.x0 (Rect.unit (s := S256x5632) ![0, 2048] S256x512.size inb_S256x5632_S256x512_0_2048))
      (View.ld X.x1 (Rect.unit (s := S1024x5632) ![0, 2048] S1024x512.size inb_S1024x5632_S1024x512_0_2048))
      (View.ld X.x0 (Rect.unit (s := S256x5632) ![0, 2560] S256x512.size inb_S256x5632_S256x512_0_2560))
      (View.ld X.x1 (Rect.unit (s := S1024x5632) ![0, 2560] S1024x512.size inb_S1024x5632_S1024x512_0_2560)))
      (View.ld X.x0 (Rect.unit (s := S256x5632) ![0, 3072] S256x512.size inb_S256x5632_S256x512_0_3072))
      (View.ld X.x1 (Rect.unit (s := S1024x5632) ![0, 3072] S1024x512.size inb_S1024x5632_S1024x512_0_3072))
      (View.ld X.x0 (Rect.unit (s := S256x5632) ![0, 3584] S256x512.size inb_S256x5632_S256x512_0_3584))
      (View.ld X.x1 (Rect.unit (s := S1024x5632) ![0, 3584] S1024x512.size inb_S1024x5632_S1024x512_0_3584))
      (View.ld X.x0 (Rect.unit (s := S256x5632) ![0, 4096] S256x512.size inb_S256x5632_S256x512_0_4096))
      (View.ld X.x1 (Rect.unit (s := S1024x5632) ![0, 4096] S1024x512.size inb_S1024x5632_S1024x512_0_4096))
      (View.ld X.x0 (Rect.unit (s := S256x5632) ![0, 4608] S256x512.size inb_S256x5632_S256x512_0_4608))
      (View.ld X.x1 (Rect.unit (s := S1024x5632) ![0, 4608] S1024x512.size inb_S1024x5632_S1024x512_0_4608))
      (View.ld X.x0 (Rect.unit (s := S256x5632) ![0, 5120] S256x512.size inb_S256x5632_S256x512_0_5120))
      (View.ld X.x1 (Rect.unit (s := S1024x5632) ![0, 5120] S1024x512.size inb_S1024x5632_S1024x512_0_5120))

/-- The scale's row of the block. -/
def scale : FVec F S1x1024 .f32 := k0_pay8 (View.ld X.x4 (Rect.unit (s := S1x6x1024) ![0, 4, 0] S1x1x1024.size inb_S1x6x1024_S1x1x1024_0_4_0))

/-- The rows' gradient. -/
def v7 : FVec F S256x1024 .f32 := k0_pay17 (dh X) X.x2 X.x3 (scale X) (k0_pay9 X.x2) X.x5

/-- The norm weights' gradient, added to `y` unless the point is the first. -/
def v8 (b : Bool) (y : Vec F S1x1024 .f32) : FVec F S1x1024 .f32 :=
  bif b then k0_pay16 (dh X) X.x2 (scale X) (k0_pay9 X.x2) else k0_pay1 (k0_pay16 (dh X) X.x2 (scale X) (k0_pay9 X.x2)) y

/-- The shift's gradient, likewise. -/
def v9 (b : Bool) (y : Vec F S1x1x1024 .f32) : FVec F S1x1x1024 .f32 :=
  bif b then k0_pay2 (k0_pay13 (dh X)) else k0_pay3 (k0_pay13 (dh X)) y

/-- The scale's gradient, likewise. -/
def v10 (b : Bool) (y : Vec F S1x1x1024 .f32) : FVec F S1x1x1024 .f32 :=
  bif b then k0_pay4 (k0_pay14 (dh X) X.x2 X.x3 (k0_pay9 X.x2)) else k0_pay5 (k0_pay14 (dh X) X.x2 X.x3 (k0_pay9 X.x2)) y

end Cert.Kernel6Ideal.Hand

end
-- ==== Proof.UpBwdRun.lean ====
module

public import proofs.«01_k».proof.Proof.UpBwdRuns

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 4000000 in
/-- The run: `b` says whether the point is the grid's first, `b'` whether it is its segment's first. -/
def run (A : Args) (c : Dev nD) (i : grid0.Coords) (X : Ins F) (b b' : Bool) (hc1 : k0_cond1 i = 1#1 ↔ b = true)
    (hc2 : k0_cond2 i = 1#1 ↔ b = false) (hc3 : k0_cond3 i = 1#1 ↔ b' = true) (hc4 : k0_cond4 i = 1#1 ↔ b' = false)
    (hc5 : k0_cond5 i = 1#1 ↔ b' = true) (hc6 : k0_cond6 i = 1#1 ↔ b' = false)
    (y7 : Vec F S1x1024 .f32) (y8 y9 : Vec F S1x1x1024 .f32) :
    { P : Pieces F // ∀ (E : Set ℕ) (K : PUnit → sProp 𝕄),
      iprop(inputs A c X ∗ (∃ d, owns (c : Thread nD τ) A.arg7 fullShare d) ∗ owns (c : Thread nD τ) A.arg8 fullShare y7
          ∗ owns (c : Thread nD τ) A.arg9 fullShare y8 ∗ owns (c : Thread nD τ) A.arg10 fullShare y9
          ∗ (iprop(inputs A c X ∗ written A c P) -∗ K ⟨⟩))
        ⊢ wp frame (wpE (defs₀ (F := F)) Variants.none c none) E (body A i) K } := by
  obtain ⟨arg1, harg1, arg2, harg2, arg3, harg3, arg4, harg4, arg5, harg5, arg6, harg6, arg7, harg7, arg8, harg8, arg9, harg9, arg10, harg10⟩ := A
  obtain ⟨x0, x1, x2, x3, x4, x5⟩ := X
  cases b <;> cases b' <;> (
    simp only [Bool.false_eq_true, iff_false, iff_true, reduceCtorEq] at hc1 hc2 hc3 hc4 hc5 hc6
    refine ⟨⟨?_, ?_, ?_, ?_⟩, ?_⟩
    rotate_left 4
    · intro E K
      unfold inputs written body
      dsimp only
      simp only [cc0_ffn_up_bwd_eq_skeleton]; unfold cc0_ffn_up_bwd_skel
      simp only [k0_part1_eq_skeleton, k0_part2_eq_skeleton, k0_part3_eq_skeleton]
      unfold owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hk⟩
      obtain rfl := harg1.eq_unread hf0; obtain rfl := harg2.eq_unread hf1; obtain rfl := harg3.eq_unread hf2
      obtain rfl := harg4.eq_unread hf3; obtain rfl := harg5.eq_unread hf4; obtain rfl := harg6.eq_unread hf5
      obtain rfl := harg8.eq_unread hf7; obtain rfl := harg9.eq_unread hf8; obtain rfl := harg10.eq_unread hf9
      sl_exec (disch := first | sl_exact hc1 | sl_exact hc2 | sl_exact hc3 | sl_exact hc4 | sl_exact hc5 | sl_exact hc6)
      sl_step
      iapply Hk
      isplitl [H0 H1 H2 H3 H4 H5]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        iexists _; isplitr; · ipureintro; exact harg6.read_unread _
        iexact H5
      isplitl [H6]; · iexists _; iexact H6
      isplitl [H7]; · iexists _; iexact H7
      isplitl [H8]; · iexists _; iexact H8
      iexists _; iexact H9)

end Cert.Kernel6Ideal.Hand

end
-- ==== Proof.UpBwdLeft.lean ====
module

public import proofs.«01_k».proof.Proof.UpBwdRun
public import Idealize.ShloMosaic.Lib.Pipeline.ValueKit
public import Idealize.ShloMosaic.Lib.Pipeline.ReadBack
public import Idealize.ShloMosaic.Lib.Ring

/-! `ffn_up_bwd`: the pieces that the run leaves, read back. -/

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

section
variable (A : Args) (c : Dev nD) (i : grid0.Coords) (X : Ins F) (b b' : Bool) (hc1 : k0_cond1 i = 1#1 ↔ b = true)
    (hc2 : k0_cond2 i = 1#1 ↔ b = false) (hc3 : k0_cond3 i = 1#1 ↔ b' = true) (hc4 : k0_cond4 i = 1#1 ↔ b' = false)
    (hc5 : k0_cond5 i = 1#1 ↔ b' = true) (hc6 : k0_cond6 i = 1#1 ↔ b' = false)
    (y7 : Vec F S1x1024 .f32) (y8 y9 : Vec F S1x1x1024 .f32)

theorem read7 (f : A.arg7.view.ty.Contents (Elt F)) :
    A.arg7.view.read (Elt F) (A.arg7.view.writes (Elt F) f (run A c i X b b' hc1 hc2 hc3 hc4 hc5 hc6 y7 y8 y9).1.p7) = v7 X := by
  cases b <;> cases b' <;> (
    refine (View.read_writes_eq_canon _ _ _ fun y => View.cover_of_tiledL _ S256x1024.size (by sl_kernel_rfl) y).trans ?_
    unfold run
    frame_out
    rfl)

theorem read8 (f : A.arg8.view.ty.Contents (Elt F)) :
    A.arg8.view.read (Elt F) (A.arg8.view.writes (Elt F) f (run A c i X b b' hc1 hc2 hc3 hc4 hc5 hc6 y7 y8 y9).1.p8) = v8 X b y7 := by
  cases b <;> cases b' <;> (
    refine (View.read_writes_eq_canon _ _ _ fun y => View.cover_of_tiledL _ S1x1024.size (by sl_kernel_rfl) y).trans ?_
    unfold run
    frame_out
    rfl)

theorem read9 (f : A.arg9.view.ty.Contents (Elt F)) :
    A.arg9.view.read (Elt F) (A.arg9.view.writes (Elt F) f (run A c i X b b' hc1 hc2 hc3 hc4 hc5 hc6 y7 y8 y9).1.p9) = v9 X b' y8 := by
  cases b <;> cases b' <;> (
    refine (View.read_writes_eq_canon _ _ _ fun y => View.cover_of_tiledL _ S1x1x1024.size (by sl_kernel_rfl) y).trans ?_
    unfold run
    frame_out
    rfl)

theorem read10 (f : A.arg10.view.ty.Contents (Elt F)) :
    A.arg10.view.read (Elt F) (A.arg10.view.writes (Elt F) f (run A c i X b b' hc1 hc2 hc3 hc4 hc5 hc6 y7 y8 y9).1.p10) = v10 X b' y9 := by
  cases b <;> cases b' <;> (
    refine (View.read_writes_eq_canon _ _ _ fun y => View.cover_of_tiledL _ S1x1x1024.size (by sl_kernel_rfl) y).trans ?_
    unfold run
    frame_out
    rfl)

include hc1 hc2 hc3 hc4 hc5 hc6 in
/-- The run, with the results' contents. -/
theorem runs (E : Set ℕ) (K : PUnit → sProp 𝕄) :
    iprop(inputs A c X ∗ (∃ d, owns (c : Thread nD τ) A.arg7 fullShare d) ∗ owns (c : Thread nD τ) A.arg8 fullShare y7
          ∗ owns (c : Thread nD τ) A.arg9 fullShare y8 ∗ owns (c : Thread nD τ) A.arg10 fullShare y9
          ∗ (iprop(inputs A c X ∗ owns (c : Thread nD τ) A.arg7 fullShare (v7 X) ∗ owns (c : Thread nD τ) A.arg8 fullShare (v8 X b y7)
            ∗ owns (c : Thread nD τ) A.arg9 fullShare (v9 X b' y8) ∗ owns (c : Thread nD τ) A.arg10 fullShare (v10 X b' y9)) -∗ K ⟨⟩))
        ⊢ wp frame (wpE (defs₀ (F := F)) Variants.none c none) E (body A i) K := by
  iintro ⟨HI, H7, H8, H9, H10, HK⟩
  iapply ((run A c i X b b' hc1 hc2 hc3 hc4 hc5 hc6 y7 y8 y9).2 E K)
  isplitl [HI]; · iexact HI
  isplitl [H7]; · iexact H7
  isplitl [H8]; · iexact H8
  isplitl [H9]; · iexact H9
  isplitl [H10]; · iexact H10
  unfold written
  iintro ⟨HI, ⟨%f7, H7⟩, ⟨%f8, H8⟩, ⟨%f9, H9⟩, ⟨%f10, H10⟩⟩
  iapply HK
  unfold owns
  isplitl [HI]; · iexact HI
  isplitl [H7]
  · iexists _; isplitr
    swap; · iexact H7
    ipureintro; exact read7 A c i X b b' hc1 hc2 hc3 hc4 hc5 hc6 y7 y8 y9 f7
  isplitl [H8]
  · iexists _; isplitr
    swap; · iexact H8
    ipureintro; exact read8 A c i X b b' hc1 hc2 hc3 hc4 hc5 hc6 y7 y8 y9 f8
  isplitl [H9]
  · iexists _; isplitr
    swap; · iexact H9
    ipureintro; exact read9 A c i X b b' hc1 hc2 hc3 hc4 hc5 hc6 y7 y8 y9 f9
  iexists _; isplitr
  swap; · iexact H10
  ipureintro; exact read10 A c i X b b' hc1 hc2 hc3 hc4 hc5 hc6 y7 y8 y9 f10
end

end Cert.Kernel6Ideal.Hand

end
-- ==== Proof.UpBwdFrame.lean ====
module

public import proofs.«01_k».proof.Proof.UpBwdLeft
public import Idealize.ShloMosaic.Lib.Claim

/-! `ffn_up_bwd`: the results' buffers point by point, and the frame. -/

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs' blocks at a point. -/
def ins (c : Dev nD) (t : Fin cfg0.N) : Ins F :=
  ⟨iblk m c 0 t, iblk m c 1 t, iblk m c 2 t, iblk m c 3 t, iblk m c 4 t, iblk m c 5 t⟩

/-- The staging buffers at a point. -/
def args (t : Fin cfg0.N) : Args where
  arg1 := win0_0.stage (cfg0.slots t 0)
  h1 := hstage0_0 ((cfg0.slots t 0).cast nbuf0_0)
  arg2 := win0_1.stage (cfg0.slots t 1)
  h2 := hstage0_1 ((cfg0.slots t 1).cast nbuf0_1)
  arg3 := win0_2.stage (cfg0.slots t 2)
  h3 := hstage0_2 ((cfg0.slots t 2).cast nbuf0_2)
  arg4 := win0_3.stage (cfg0.slots t 3)
  h4 := hstage0_3 ((cfg0.slots t 3).cast nbuf0_3)
  arg5 := win0_4.stage (cfg0.slots t 4)
  h5 := hstage0_4 ((cfg0.slots t 4).cast nbuf0_4)
  arg6 := win0_5.stage (cfg0.slots t 5)
  h6 := hstage0_5 ((cfg0.slots t 5).cast nbuf0_5)
  arg7 := win0_6.stage (cfg0.slots t 6)
  h7 := hstage0_6 ((cfg0.slots t 6).cast nbuf0_6)
  arg8 := win0_7.stage (cfg0.slots t 7)
  h8 := hstage0_7 ((cfg0.slots t 7).cast nbuf0_7)
  arg9 := win0_8.stage (cfg0.slots t 8)
  h9 := hstage0_8 ((cfg0.slots t 8).cast nbuf0_8)
  arg10 := win0_9.stage (cfg0.slots t 9)
  h10 := hstage0_9 ((cfg0.slots t 9).cast nbuf0_9)

theorem cond : ∀ t : Fin cfg0.N, (k0_cond1 (grid0.coords t) = 1#1 ↔ decide (t.val = 0) = true)
    ∧ (k0_cond2 (grid0.coords t) = 1#1 ↔ decide (t.val = 0) = false) ∧ (k0_cond3 (grid0.coords t) = 1#1 ↔ decide (t.val ≤ 1) = true)
    ∧ (k0_cond4 (grid0.coords t) = 1#1 ↔ decide (t.val ≤ 1) = false) ∧ (k0_cond5 (grid0.coords t) = 1#1 ↔ decide (t.val ≤ 1) = true)
    ∧ (k0_cond6 (grid0.coords t) = 1#1 ↔ decide (t.val ≤ 1) = false) := by decide +kernel

/-- No window is ever idle. -/
theorem live : ∀ (w : Fin 10) (i : grid0.Coords), cfg0.idle w i = false := by decide +kernel

/-- What the three accumulators hold after a point. -/
def acc (c : Dev nD) : (n : ℕ) → n < cfg0.N → Vec F S1x1024 .f32 × Vec F S1x1x1024 .f32 × Vec F S1x1x1024 .f32
  | 0, h => (v8 (ins m c ⟨0, h⟩) true (ins m c ⟨0, h⟩).x3, v9 (ins m c ⟨0, h⟩) true (k0_pay2 (ins m c ⟨0, h⟩).x3),
      v10 (ins m c ⟨0, h⟩) true (k0_pay2 (ins m c ⟨0, h⟩).x3))
  | n + 1, h => (v8 (ins m c ⟨n + 1, h⟩) false (acc c n (Nat.lt_of_succ_lt h)).1,
      v9 (ins m c ⟨n + 1, h⟩) (decide (n = 0)) (acc c n (Nat.lt_of_succ_lt h)).2.1,
      v10 (ins m c ⟨n + 1, h⟩) (decide (n = 0)) (acc c n (Nat.lt_of_succ_lt h)).2.2)

/-- The proof data: arrays as found, blocks in place, results as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => v7 (ins m c t)
    | ⟨7, _⟩ => (acc m c t.val t.isLt).1
    | ⟨8, _⟩ => (acc m c t.val t.isLt).2.1
    | ⟨9, _⟩ => (acc m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = v7 (ins m c t) := by dsimp only [dats]
theorem after0_7 (c : Dev nD) (t : Fin cfg0.N) : (dats m 0 c).after 7 t = (acc m c t.val t.isLt).1 := by dsimp only [dats]
theorem after0_8 (c : Dev nD) (t : Fin cfg0.N) : (dats m 0 c).after 8 t = (acc m c t.val t.isLt).2.1 := by dsimp only [dats]
theorem after0_9 (c : Dev nD) (t : Fin cfg0.N) : (dats m 0 c).after 9 t = (acc m c t.val t.isLt).2.2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; rfl) t d).trans rfl

/-- A result written back at the last point only holds what the point before left. -/
theorem before0_7 (c : Dev nD) (t : Fin cfg0.N) (h : t.val ≠ 0) (d) :
    (dats m 0 c).before 7 t d = (acc m c (t.val - 1) (Nat.lt_of_le_of_lt (Nat.sub_le _ _) t.isLt)).1 := by
  rw [Dat.before_out_kept (dats m 0 c) 7 rfl t h ((by decide +kernel : ∀ t : Fin cfg0.N, (cfg0.win 7).flush ⟨t.val - 1, Nat.lt_of_le_of_lt (Nat.sub_le _ _) t.isLt⟩ = false) t)
    (live 7) (fun _ _ => rfl) d, after0_7]

theorem before0_8 (c : Dev nD) (t : Fin cfg0.N) (h : ¬ t.val ≤ 1) (d) :
    (dats m 0 c).before 8 t d = (acc m c (t.val - 1) (Nat.lt_of_le_of_lt (Nat.sub_le _ _) t.isLt)).2.1 := by
  rw [Dat.before_out_kept (dats m 0 c) 8 rfl t (by omega) ((by decide +kernel : ∀ t : Fin cfg0.N, ¬ t.val ≤ 1 → (cfg0.win 8).flush ⟨t.val - 1, Nat.lt_of_le_of_lt (Nat.sub_le _ _) t.isLt⟩ = false) t h)
    (live 8) (fun _ _ => rfl) d, after0_8]

theorem before0_9 (c : Dev nD) (t : Fin cfg0.N) (h : ¬ t.val ≤ 1) (d) :
    (dats m 0 c).before 9 t d = (acc m c (t.val - 1) (Nat.lt_of_le_of_lt (Nat.sub_le _ _) t.isLt)).2.2 := by
  rw [Dat.before_out_kept (dats m 0 c) 9 rfl t (by omega) ((by decide +kernel : ∀ t : Fin cfg0.N, ¬ t.val ≤ 1 → (cfg0.win 9).flush ⟨t.val - 1, Nat.lt_of_le_of_lt (Nat.sub_le _ _) t.isLt⟩ = false) t h)
    (live 9) (fun _ _ => rfl) d, after0_9]

theorem acc_7 (c : Dev nD) (t : Fin cfg0.N) (d) :
    v8 (ins m c t) (decide (t.val = 0)) ((dats m 0 c).before 7 t d) = (acc m c t.val t.isLt).1 := by
  by_cases h : t.val = 0
  · obtain ⟨n, hn⟩ := t
    obtain rfl : n = 0 := h
    rfl
  · rw [before0_7 m c t h d]
    obtain ⟨_ | n, hn⟩ := t
    · exact absurd rfl h
    · rfl

theorem acc_8 (c : Dev nD) (t : Fin cfg0.N) (d) :
    v9 (ins m c t) (decide (t.val ≤ 1)) ((dats m 0 c).before 8 t d) = (acc m c t.val t.isLt).2.1 := by
  by_cases h : t.val ≤ 1
  · obtain ⟨_ | _ | n, hn⟩ := t
    · rfl
    · rfl
    · exact absurd h (by simp)
  · rw [before0_8 m c t h d]
    obtain ⟨_ | _ | n, hn⟩ := t
    · exact absurd (by simp) h
    · exact absurd (by simp) h
    · rfl

theorem acc_9 (c : Dev nD) (t : Fin cfg0.N) (d) :
    v10 (ins m c t) (decide (t.val ≤ 1)) ((dats m 0 c).before 9 t d) = (acc m c t.val t.isLt).2.2 := by
  by_cases h : t.val ≤ 1
  · obtain ⟨_ | _ | n, hn⟩ := t
    · rfl
    · rfl
    · exact absurd h (by simp)
  · rw [before0_9 m c t h d]
    obtain ⟨_ | _ | n, hn⟩ := t
    · exact absurd (by simp) h
    · exact absurd (by simp) h
    · rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (args t).arg1 fullShare ((dats m 0 c).before 0 t d))
    ∗ (∃ d, owns (c : Thread nD τ) (args t).arg2 fullShare ((dats m 0 c).before 1 t d))
    ∗ (∃ d, owns (c : Thread nD τ) (args t).arg3 fullShare ((dats m 0 c).before 2 t d))
    ∗ (∃ d, owns (c : Thread nD τ) (args t).arg4 fullShare ((dats m 0 c).before 3 t d))
    ∗ (∃ d, owns (c : Thread nD τ) (args t).arg5 fullShare ((dats m 0 c).before 4 t d))
    ∗ (∃ d, owns (c : Thread nD τ) (args t).arg6 fullShare ((dats m 0 c).before 5 t d))
    ∗ (∃ d, owns (c : Thread nD τ) (args t).arg7 fullShare ((dats m 0 c).before 6 t d))
    ∗ (∃ d, owns (c : Thread nD τ) (args t).arg8 fullShare ((dats m 0 c).before 7 t d))
    ∗ (∃ d, owns (c : Thread nD τ) (args t).arg9 fullShare ((dats m 0 c).before 8 t d))
    ∗ (∃ d, owns (c : Thread nD τ) (args t).arg10 fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl]
  rw [show (dats m 0 c).Φ t.succ = (dats m 0 c).Φ t.castSucc from rfl]
  rw [leaves m c 0, leaves m c 1, leaves m c 2, leaves m c 3, leaves m c 4, leaves m c 5, leaves m c 6, leaves m c 7, leaves m c 8, leaves m c 9]
  rw [after0_0, after0_1, after0_2, after0_3, after0_4, after0_5, after0_6, after0_7, after0_8, after0_9]
  obtain ⟨h1, h2, h3, h4, h5, h6⟩ := cond t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runs (args t) c (grid0.coords t) (ins m c t) _ _ h1 h2 h3 h4 h5 h6 ((dats m 0 c).before 7 t d7)
    ((dats m 0 c).before 8 t d8) ((dats m 0 c).before 9 t d9) Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [H8]; · iexact H8
  isplitl [H9]; · iexact H9
  rw [acc_7, acc_8, acc_9]
  iintro ⟨⟨H0, H1, H2, H3, H4, H5⟩, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The run: every result array as computed from the proof data, the arguments unchanged. -/
theorem run_blocks : θ_run defs (onTc (τ := τ) (main (F := F))) ⟨m, fun _ => 0, ρ⟩ fun r => (∀ c : Dev nD,
      (r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨⟨(h.1 c).1 6, (h.1 c).1 7, (h.1 c).1 8, (h.1 c).1 9⟩,
      ((h.1 c).1 0).trans (((dats m 0 c).arrAt_in 0 rfl _).trans (A_eq m c 0)), ((h.1 c).1 1).trans (((dats m 0 c).arrAt_in 1 rfl _).trans (A_eq m c 1)), ((h.1 c).1 2).trans (((dats m 0 c).arrAt_in 2 rfl _).trans (A_eq m c 2)), ((h.1 c).1 3).trans (((dats m 0 c).arrAt_in 3 rfl _).trans (A_eq m c 3)), ((h.1 c).1 4).trans (((dats m 0 c).arrAt_in 4 rfl _).trans (A_eq m c 4)), ((h.1 c).1 5).trans (((dats m 0 c).arrAt_in 5 rfl _).trans (A_eq m c 5))⟩, h.2⟩)
    (run_main_quiescent m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h.1 c).2, h.2⟩) (run_blocks m ρ)

end Cert.Kernel6Ideal.Hand

end
-- ==== Proof.NormGrad.lean ====
module

public import Idealize.ShloMosaic.Lib.Pointwise

/-! The gradient through a norm, its modulation and the product with the weights: 4352 rows of 1024, the first 256 modulated
by one row of scales, the others by another. -/

@[expose] public section

noncomputable section

open Idealize.ShloMosaic

namespace Cert.NormGrad

/-- The segment of a row. -/
def seg (i : Fin 4352) : Fin 2 := if i.val < 256 then 0 else 1

section
variable {N : ℕ} (A : (⟨2, ![4352, N]⟩ : Shape).Idx → EReal) (B : (⟨2, ![1024, N]⟩ : Shape).Idx → EReal)
  (X : (⟨2, ![4352, 1024]⟩ : Shape).Idx → EReal) (w : (⟨2, ![1, 1024]⟩ : Shape).Idx → EReal)
  (M : (⟨3, ![2, 6, 1024]⟩ : Shape).Idx → EReal) (R : (⟨2, ![4352, 1024]⟩ : Shape).Idx → EReal) (q : Fin 6)
  (i : Fin 4352) (j : Fin 1024)

/-- The gradient at the modulated norm. -/
def dh : EReal := ∑ k : Fin N, A (ix2 i k) * B (ix2 j k)
/-- The mean of the squares, and with the norm's constant added. -/
def ms : EReal := Ideal.div (∑ x : Fin 1024, X (ix2 i x) * X (ix2 i x)) (Ideal.ofBits .f32 1149239296#32)
@[inherit_doc ms] def ve : EReal := ms X i + Ideal.ofBits .f32 897988541#32
/-- The norm before its weights. -/
def y : EReal := X (ix2 i j) * Ideal.rsqrt (ve X i)
/-- The gradient at the weighted norm, and at the norm before its weights. -/
def g0 : EReal := dh A B i j * (1 + M (ix3 (seg i) q j))
@[inherit_doc g0] def g : EReal := g0 A B M q i j * w (ix2 0 j)
/-- The gradient at the sum of the squares, halved. -/
def s : EReal := ∑ _x : Fin 1, Ideal.div ((∑ x : Fin 1024, X (ix2 i x) * g A B w M q i x)
  * (Ideal.ofBits .f32 3204448256#32 * Ideal.div (Ideal.rsqrt (ve X i)) (ve X i))) (Ideal.ofBits .f32 1149239296#32)
/-- The rows' gradient, with what the rows already had. -/
def dx : EReal := g A B w M q i j * Ideal.rsqrt (ve X i) + X (ix2 i j) * s A B X w M q i + s A B X w M q i * X (ix2 i j) + R (ix2 i j)
/-- A row's part of the weights' gradient, and of the scale's. -/
def fw : EReal := y X i j * g0 A B M q i j
@[inherit_doc fw] def fs : EReal := y X i j * w (ix2 0 j) * dh A B i j
end

/-- The sum over a segment's rows. -/
def part (f : Fin 4352 → EReal) (k : Fin 2) : EReal :=
  if k = 0 then ∑ x : Fin 256, f ⟨x.val, by omega⟩ else ∑ x : Fin 4096, f ⟨256 + x.val, by omega⟩

/-- The four gradients. -/
def gDx {N : ℕ} (A : (⟨2, ![4352, N]⟩ : Shape).Idx → EReal) (B : (⟨2, ![1024, N]⟩ : Shape).Idx → EReal)
    (X : (⟨2, ![4352, 1024]⟩ : Shape).Idx → EReal) (w : (⟨2, ![1, 1024]⟩ : Shape).Idx → EReal)
    (M : (⟨3, ![2, 6, 1024]⟩ : Shape).Idx → EReal) (R : (⟨2, ![4352, 1024]⟩ : Shape).Idx → EReal) (q : Fin 6) :
    (⟨2, ![4352, 1024]⟩ : Shape).Idx → EReal := fun y => dx A B X w M R q (y 0) (y 1)
@[inherit_doc gDx] def gNw (f : Fin 4352 → Fin 1024 → EReal) : (⟨2, ![1, 1024]⟩ : Shape).Idx → EReal := fun y => ∑ i, f i (y 1)
@[inherit_doc gDx] def gPart (f : Fin 4352 → Fin 1024 → EReal) : (⟨3, ![2, 1, 1024]⟩ : Shape).Idx → EReal :=
  fun y => part (fun i => f i (y 2)) (y 0)

/-- A row's value, zero outside the rows. -/
def lift (f : Fin 4352 → EReal) (x : ℕ) : EReal := if h : x < 4352 then f ⟨x, h⟩ else 0

section
variable (f : Fin 4352 → EReal)

theorem lift_sum : ∑ x ∈ Finset.range 4352, lift f x = ∑ i, f i := by
  rw [Finset.sum_range]
  exact Finset.sum_congr rfl fun x _ => dif_pos x.isLt

theorem lift_part0 : ∑ x ∈ Finset.range 256, lift f x = part f 0 := by
  rw [Finset.sum_range, part, if_pos rfl]
  exact Finset.sum_congr rfl fun x _ => dif_pos (by omega)

theorem lift_part1 : ∑ x ∈ Finset.range 4096, lift f (256 + x) = part f 1 := by
  rw [Finset.sum_range, part, if_neg (by decide)]
  exact Finset.sum_congr rfl fun x _ => dif_pos (by omega)

/-- A block of rows. -/
theorem lift_block (t : ℕ) (ht : t < 17) (u : Fin 256 → EReal) (h : ∀ r, u r = f ⟨256 * t + r.val, by omega⟩) :
    ∑ r, u r = ∑ x ∈ Finset.range 256, lift f (256 * t + x) := by
  rw [Finset.sum_range]
  exact Finset.sum_congr rfl fun r _ => by rw [h, lift, dif_pos (by omega)]
end

/-- What is added to at every point is the sum over the rows so far. -/
theorem sums (L : ℕ) (S : (n : ℕ) → n < L → EReal) (F : ℕ → EReal) (h0 : ∀ h, S 0 h = ∑ x ∈ Finset.range 256, F x)
    (h1 : ∀ n h, S (n + 1) h = S n (Nat.lt_of_succ_lt h) + ∑ x ∈ Finset.range 256, F (256 * (n + 1) + x)) (n : ℕ) (h : n < L) :
    S n h = ∑ x ∈ Finset.range (256 * (n + 1)), F x := by
  induction n with
  | zero => exact h0 h
  | succ n ih => rw [h1, ih, show 256 * (n + 1 + 1) = 256 * (n + 1) + 256 by ring, Finset.sum_range_add]

/-- The same where the sum starts anew at the second block. -/
theorem sums_part (L : ℕ) (S : (n : ℕ) → n < L → EReal) (f : Fin 4352 → EReal) (h0 : ∀ h, S 0 h = ∑ x ∈ Finset.range 256, lift f x)
    (h1 : ∀ h, S 1 h = ∑ x ∈ Finset.range 256, lift f (256 + x))
    (h2 : ∀ n h, S (n + 2) h = S (n + 1) (Nat.lt_of_succ_lt h) + ∑ x ∈ Finset.range 256, lift f (256 * (n + 2) + x)) (n : ℕ) (h : n < L)
    (hn : n = 0 ∨ n = 16) : S n h = part f ⟨min n 1, by omega⟩ := by
  obtain rfl | rfl := hn
  · rw [h0, lift_part0]
    rfl
  · refine (sums (L - 1) (fun n h => S (n + 1) (by omega)) (fun x => lift f (256 + x)) (fun h => h1 _) (fun n h => ?_) 15 (by omega)).trans
      (lift_part1 f)
    rw [h2]
    exact congrArg _ (Finset.sum_congr rfl fun x _ => congrArg _ (by ring))

end Cert.NormGrad
end
-- ==== Proof.UpBwd.lean ====
module

public import proofs.«01_k».proof.Proof.UpBwdFrame
public import proofs.«01_k».proof.Proof.NormGrad
public import Idealize.ShloMosaic.Lib.Pointwise
public import Idealize.ShloMosaic.Lib.Pipeline.ValueKit
public import Idealize.ShloMosaic.Lib.Pipeline.ReadBack
public import Idealize.ShloMosaic.Lib.Claim

/-! `ffn_up_bwd`: what the kernel leaves in its results. -/

@[expose] public section

set_option maxRecDepth 16384

noncomputable section

open Idealize.ShloMosaic Idealize.ShloMosaic.TcCoe Idealize.SL.Sem
open Idealize.ShloMosaic.Pipeline (Dat)

namespace Cert.UpBwd

open Cert.Kernel6Ideal Cert.Kernel6Ideal.Gen Cert.Kernel6Ideal.Hand

/-- Where every window's block lies. -/
theorem idx : ∀ t : Fin cfg0.N, win0_0.index t = ![t.val, 0] ∧ win0_1.index t = ![0, 0] ∧ win0_2.index t = ![t.val, 0]
    ∧ win0_3.index t = ![0, 0] ∧ win0_4.index t = ![min t.val 1, 0, 0] ∧ win0_5.index t = ![t.val, 0] ∧ win0_6.index t = ![t.val, 0]
    ∧ win0_7.index t = ![0, 0] ∧ win0_8.index t = ![min t.val 1, 0, 0] ∧ win0_9.index t = ![min t.val 1, 0, 0] :=
  (by decide +kernel : ∀ t : Fin grid0.N, _)

/-- Where the modulation's gradients leave. -/
theorem ends : ∀ t : Fin cfg0.N, ((cfg0.win 8).flush t = true → t.val = 0 ∨ t.val = 16) ∧ ((cfg0.win 9).flush t = true → t.val = 0 ∨ t.val = 16) :=
  (by decide +kernel : ∀ t : Fin grid0.N, _)

section
variable (x : FVec Ideal S1x1024 .f32) (j : Fin 1024)

/-- What a block's part becomes, at the first of the sum's blocks and at the others. -/
theorem pay1 (y : Vec Ideal S1x1024 .f32) : k0_pay1 x y (ix2 0 j) = y (ix2 0 j) + x (ix2 0 j) := by
  unfold k0_pay1
  pointwise
@[inherit_doc pay1] theorem pay2 : k0_pay2 x (ix3 0 0 j) = x (ix2 0 j) := by
  unfold k0_pay2
  pointwise
@[inherit_doc pay1] theorem pay3 (y : Vec Ideal S1x1x1024 .f32) : k0_pay3 x y (ix3 0 0 j) = y (ix3 0 0 j) + x (ix2 0 j) := by
  unfold k0_pay3
  pointwise
@[inherit_doc pay1] theorem pay4 : k0_pay4 x (ix3 0 0 j) = x (ix2 0 j) := by
  unfold k0_pay4
  pointwise
@[inherit_doc pay1] theorem pay5 (y : Vec Ideal S1x1x1024 .f32) : k0_pay5 x y (ix3 0 0 j) = y (ix3 0 0 j) + x (ix2 0 j) := by
  unfold k0_pay5
  pointwise
end

/-- Eleven products of 512 columns are the product. -/
theorem dh_at (X : Ins Ideal) (r : Fin 256) (j : Fin 1024) : Hand.dh X (ix2 r j) = ∑ k : Fin 5632, X.x0 (ix2 r k) * X.x1 (ix2 j k) := by
  let u : ℕ → EReal := fun k => if h : k < 5632 then X.x0 (ix2 r ⟨k, h⟩) * X.x1 (ix2 j ⟨k, h⟩) else 0
  have e : ∀ (k : ℕ) (h : k < 5632), X.x0 (ix2 r ⟨k, h⟩) * X.x1 (ix2 j ⟨k, h⟩) = u k := fun k h => by
    dsimp only [u]
    rw [dif_pos h]
  rw [Finset.sum_congr rfl fun (k : Fin 5632) _ => e k.val k.isLt, ← Finset.sum_range,
    show 5632 = 512 + 512 + 512 + 512 + 512 + 512 + 512 + 512 + 512 + 512 + 512 by rfl]
  simp only [Finset.sum_range_add]
  simp only [Finset.sum_range, Nat.reduceAdd]
  unfold Hand.dh k0_pay7 k0_pay6
  pointwise
  simp only [e]

section
variable (m : (ℓ : Loc nD τ sig) → Buf (Elt Ideal) ℓ) (c : Dev nD)

/-- The kernel's arrays. -/
abbrev aA : S4352x5632.Idx → EReal := m ((c.tc : Thread nD τ).loc main_arg0)
@[inherit_doc aA] abbrev aB : S1024x5632.Idx → EReal := m ((c.tc : Thread nD τ).loc main_arg1)
@[inherit_doc aA] abbrev aX : S4352x1024.Idx → EReal := m ((c.tc : Thread nD τ).loc main_arg2)
@[inherit_doc aA] abbrev aw : S1x1024.Idx → EReal := m ((c.tc : Thread nD τ).loc main_arg3)
@[inherit_doc aA] abbrev aM : S2x6x1024.Idx → EReal := m ((c.tc : Thread nD τ).loc main_arg4)
@[inherit_doc aA] abbrev aR : S4352x1024.Idx → EReal := m ((c.tc : Thread nD τ).loc main_arg5)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 (k : Fin 5632) : (ins m c t).x0 (ix2 r k) = aA m c (ix2 (row t r) k) := by
  change iblk m c 0 t (ix2 r k) = _
  unfold row
  blk_ext [iblk, V, idx t]

theorem blk1 (k : Fin 5632) : (ins m c t).x1 (ix2 j k) = aB m c (ix2 j k) := by
  change iblk m c 1 t (ix2 j k) = _
  blk_ext [iblk, V, idx t]

theorem blk2 : (ins m c t).x2 (ix2 r j) = aX m c (ix2 (row t r) j) := by
  change iblk m c 2 t (ix2 r j) = _
  unfold row
  blk_ext [iblk, V, idx t]

theorem blk3 : (ins m c t).x3 (ix2 0 j) = aw m c (ix2 0 j) := by
  change iblk m c 3 t (ix2 0 j) = _
  blk_ext [iblk, V, idx t]

theorem seg_row : NormGrad.seg (row t r) = ⟨min t.val 1, by omega⟩ := by
  have h := r.isLt
  unfold NormGrad.seg row
  apply Fin.ext
  dsimp only
  split <;> simp <;> omega

theorem blk4 (q : Fin 6) : (ins m c t).x4 (ix3 0 q j) = aM m c (ix3 (NormGrad.seg (row t r)) q j) := by
  rw [seg_row]
  change iblk m c 4 t (ix3 0 q j) = _
  blk_ext [iblk, V, idx t]

theorem blk5 : (ins m c t).x5 (ix2 r j) = aR m c (ix2 (row t r) j) := by
  change iblk m c 5 t (ix2 r j) = _
  unfold row
  blk_ext [iblk, V, idx t]

theorem dh_blk : Hand.dh (ins m c t) (ix2 r j) = NormGrad.dh (aA m c) (aB m c) (row t r) j := by
  rw [dh_at]
  exact Finset.sum_congr rfl fun k _ => by rw [blk0, blk1]

theorem ms_blk (z : Fin 1) : k0_pay9 (F := Ideal) (ins m c t).x2 (ix2 r z) = NormGrad.ms (aX m c) (row t r) := by
  unfold k0_pay9
  pointwise
  simp only [blk2]
  rfl

theorem scale_blk : scale (ins m c t) (ix2 0 j) = aM m c (ix3 (NormGrad.seg (row t r)) 4 j) := by
  unfold scale k0_pay8
  pointwise
  exact blk4 m c t r j 4

theorem v7_blk : v7 (ins m c t) (ix2 r j) = NormGrad.dx (aA m c) (aB m c) (aX m c) (aw m c) (aM m c) (aR m c) 4 (row t r) j := by
  unfold v7 k0_pay17 k0_pay15 k0_pay11 k0_pay10
  pointwise
  simp only [dh_blk, ms_blk, scale_blk m c t r, blk2, blk3, blk5]
  rfl

/-- A block's parts of the three sums. -/
theorem t8 : k0_pay16 (Hand.dh (ins m c t)) (ins m c t).x2 (scale (ins m c t)) (k0_pay9 (ins m c t).x2) (ix2 0 j)
    = ∑ x ∈ Finset.range 256, NormGrad.lift (fun i => NormGrad.fw (aA m c) (aB m c) (aX m c) (aM m c) 4 i j) (256 * t.val + x) := by
  unfold k0_pay16 k0_pay15 k0_pay12 k0_pay11 k0_pay10
  pointwise
  refine NormGrad.lift_block _ _ (Nat.lt_of_lt_of_eq t.isLt N_0) _ fun r => ?_
  simp only [dh_blk, ms_blk, scale_blk m c t r, blk2]
  rfl

theorem t9 : k0_pay13 (Hand.dh (ins m c t)) (ix2 0 j)
    = ∑ x ∈ Finset.range 256, NormGrad.lift (fun i => NormGrad.dh (aA m c) (aB m c) i j) (256 * t.val + x) := by
  unfold k0_pay13
  pointwise
  refine NormGrad.lift_block _ _ (Nat.lt_of_lt_of_eq t.isLt N_0) _ fun r => ?_
  rw [dh_blk]
  rfl

theorem t10 : k0_pay14 (Hand.dh (ins m c t)) (ins m c t).x2 (ins m c t).x3 (k0_pay9 (ins m c t).x2) (ix2 0 j)
    = ∑ x ∈ Finset.range 256, NormGrad.lift (fun i => NormGrad.fs (aA m c) (aB m c) (aX m c) (aw m c) i j) (256 * t.val + x) := by
  unfold k0_pay14 k0_pay12 k0_pay11 k0_pay10
  pointwise
  refine NormGrad.lift_block _ _ (Nat.lt_of_lt_of_eq t.isLt N_0) _ fun r => ?_
  simp only [dh_blk, ms_blk, blk2, blk3]
  rfl

/-- The norm weights' gradient over the rows so far, and the modulation's over those of the segment. -/
theorem sum8 (n : ℕ) (h : n < cfg0.N) : (acc m c n h).1 (ix2 0 j)
    = ∑ x ∈ Finset.range (256 * (n + 1)), NormGrad.lift (fun i => NormGrad.fw (aA m c) (aB m c) (aX m c) (aM m c) 4 i j) x := by
  refine NormGrad.sums cfg0.N (fun n h => (acc m c n h).1 (ix2 0 j)) _ (fun h => ?_) (fun n h => ?_) n h
  · exact (t8 m c ⟨0, h⟩ j).trans (by simp only [Nat.mul_zero, Nat.zero_add])
  · exact (pay1 _ j _).trans (congrArg _ (t8 m c ⟨n + 1, h⟩ j))

@[inherit_doc sum8] theorem sum9 (h : t.val = 0 ∨ t.val = 16) : (acc m c t.val t.isLt).2.1 (ix3 0 0 j)
    = NormGrad.part (fun i => NormGrad.dh (aA m c) (aB m c) i j) ⟨min t.val 1, by omega⟩ := by
  refine NormGrad.sums_part cfg0.N (fun n h => (acc m c n h).2.1 (ix3 0 0 j)) _ (fun h => ?_) (fun h => ?_) (fun n h => ?_) t.val t.isLt h
  · exact (pay2 _ j).trans ((t9 m c ⟨0, h⟩ j).trans (by simp only [Nat.mul_zero, Nat.zero_add]))
  · exact (pay2 _ j).trans (t9 m c ⟨1, h⟩ j)
  · exact (pay3 _ j _).trans (congrArg _ (t9 m c ⟨n + 2, h⟩ j))

@[inherit_doc sum8] theorem sum10 (h : t.val = 0 ∨ t.val = 16) : (acc m c t.val t.isLt).2.2 (ix3 0 0 j)
    = NormGrad.part (fun i => NormGrad.fs (aA m c) (aB m c) (aX m c) (aw m c) i j) ⟨min t.val 1, by omega⟩ := by
  refine NormGrad.sums_part cfg0.N (fun n h => (acc m c n h).2.2 (ix3 0 0 j)) _ (fun h => ?_) (fun h => ?_) (fun n h => ?_) t.val t.isLt h
  · exact (pay4 _ j).trans ((t10 m c ⟨0, h⟩ j).trans (by simp only [Nat.mul_zero, Nat.zero_add]))
  · exact (pay4 _ j).trans (t10 m c ⟨1, h⟩ j)
  · exact (pay5 _ j _).trans (congrArg _ (t10 m c ⟨n + 2, h⟩ j))

/-- What the kernel leaves. -/
abbrev g6 : S4352x1024.Idx → EReal := NormGrad.gDx (aA m c) (aB m c) (aX m c) (aw m c) (aM m c) (aR m c) 4
@[inherit_doc g6] abbrev g7 : S1x1024.Idx → EReal := NormGrad.gNw (NormGrad.fw (aA m c) (aB m c) (aX m c) (aM m c) 4)
@[inherit_doc g6] abbrev g8 : S2x1x1024.Idx → EReal := NormGrad.gPart (NormGrad.dh (aA m c) (aB m c))
@[inherit_doc g6] abbrev g9 : S2x1x1024.Idx → EReal := NormGrad.gPart (NormGrad.fs (aA m c) (aB m c) (aX m c) (aw m c))

theorem final6 : (dats m 0 c).arrAt 6 cfg0.N = g6 m c := by
  refine (dats m 0 c).arrAt_eq_of_covers 6 _ (by decide +kernel) fun t hf y => ?_
  blk_simp
  rw [after0_6]
  obtain ⟨r, j, rfl⟩ : ∃ (i : Fin 256) (j : Fin 1024), y = ix2 i j := ⟨y 0, y 1, by idx_vars y⟩
  refine (v7_blk m c t r j).trans (Eq.trans (b := g6 m c (ix2 (row t r) j)) rfl (Eq.symm ?_))
  unfold row
  blk_ext [idx t]

theorem final7 : (dats m 0 c).arrAt 7 cfg0.N = g7 m c := by
  refine (dats m 0 c).arrAt_eq_of_covers 7 _ (by decide +kernel) fun t hf y => ?_
  blk_simp
  rw [after0_7]
  obtain ⟨r, j, rfl⟩ : ∃ (i : Fin 1) (j : Fin 1024), y = ix2 i j := ⟨y 0, y 1, by idx_vars y⟩
  obtain rfl : r = 0 := Subsingleton.elim _ _
  have h : t.val = 16 := by
    have hN : t.val < 17 := Nat.lt_of_lt_of_eq t.isLt N_0
    have h := (flush0_7 t).mp hf
    omega
  refine (sum8 m c j t.val t.isLt).trans ?_
  rw [h, NormGrad.lift_sum]
  refine Eq.trans (b := g7 m c (ix2 0 j)) rfl (Eq.symm ?_)
  blk_ext [idx t]

theorem final8 : (dats m 0 c).arrAt 8 cfg0.N = g8 m c := by
  refine (dats m 0 c).arrAt_eq_of_covers 8 _ (by decide +kernel) fun t hf y => ?_
  blk_simp
  rw [after0_8]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sum9 m c t j ((ends t).1 hf)).trans (Eq.trans (b := g8 m c (ix3 ⟨min t.val 1, by omega⟩ 0 j)) rfl (Eq.symm ?_))
  blk_ext [idx t]

theorem final9 : (dats m 0 c).arrAt 9 cfg0.N = g9 m c := by
  refine (dats m 0 c).arrAt_eq_of_covers 9 _ (by decide +kernel) fun t hf y => ?_
  blk_simp
  rw [after0_9]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sum10 m c t j ((ends t).2 hf)).trans (Eq.trans (b := g9 m c (ix3 ⟨min t.val 1, by omega⟩ 0 j)) rfl (Eq.symm ?_))
  blk_ext [idx t]

end

end Cert.UpBwd
end
-- ==== Proof.UpBwdRef.lean ====
module

public import proofs.«01_k».proof.Proof.Gen.Reference6Ideal.Run
public import proofs.«01_k».proof.Proof.NormGrad
public import Idealize.ShloMosaic.Lib.Pointwise
public import Idealize.ShloMosaic.Lib.Pipeline.ValueKit

/-! `ffn_up_bwd`: what the reference leaves in its results. -/

@[expose] public section

set_option maxRecDepth 16384

noncomputable section

open Idealize.ShloMosaic Idealize.ShloMosaic.TcCoe Idealize.SL.Sem

namespace Cert.UpBwd.Ref

open Cert.Reference6Ideal Cert.Reference6Ideal.Gen

section
variable (A : FVec Ideal S4352x5632 .bf16) (B : FVec Ideal S1024x5632 .bf16) (X : FVec Ideal S4352x1024 .f32) (w : FVec Ideal S1x1024 .f32)
  (M : FVec Ideal S2x6x1024 .f32) (R : FVec Ideal S4352x1024 .f32)

/-- The terms of the reference. -/
def dh : FVec Ideal S4352x1024 .f32 := Host.dotGeneral dot_S4352x5632_S1024x5632_S4352x1024_1_1_0_0_n_n none (extf .f32 A bitsLt_bf16_f32) (extf .f32 B bitsLt_bf16_f32)
@[inherit_doc dh] def sc (o : Fin 2) : FVec Ideal S1x1024 .f32 := match o with
  | 0 => shapeCast _ (extractStridedSlice S1x1x1024 ![0, 0, 0] (extractStridedSlice S2x1x1024 ![0, 4, 0] M slices_S2x6x1024_S2x1x1024_0_4_0) slices_S2x1x1024_S1x1x1024_0_0_0) shapeCasts_S1x1x1024_S1x1024
  | 1 => shapeCast _ (extractStridedSlice S1x1x1024 ![1, 0, 0] (extractStridedSlice S2x1x1024 ![0, 4, 0] M slices_S2x6x1024_S2x1x1024_0_4_0) slices_S2x1x1024_S1x1x1024_1_0_0) shapeCasts_S1x1x1024_S1x1024
@[inherit_doc dh] def one : FVec Ideal S4352x1024 .f32 := addf (broadcastInDim S4352x1024 ![] bcast_S_S4352x1024 (constant S_ .f32 0x3F800000#32)) (concatenate S4352x1024 0 [⟨S256x1024, (broadcastInDim S256x1024 ![0, 1] bcast_S1x1024_S256x1024_0_1 (sc M 0))⟩, ⟨S4096x1024, (broadcastInDim S4096x1024 ![0, 1] bcast_S1x1024_S4096x1024_0_1 (sc M 1))⟩] concatenates_S256x1024_S4096x1024_S4352x1024_d0)
@[inherit_doc dh] def ve : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc dh] def r : FVec Ideal S4352x1024 .f32 := broadcastInDim S4352x1024 ![0, 1] bcast_S4352x1_S4352x1024_0_1 (Host.rsqrt (ve X))
@[inherit_doc dh] def wb : FVec Ideal S4352x1024 .f32 := broadcastInDim S4352x1024 ![0, 1] bcast_S1x1024_S4352x1024_0_1 w
@[inherit_doc dh] def g : FVec Ideal S4352x1024 .f32 := mulf (mulf (dh A B) (one M)) (wb w)
@[inherit_doc dh] def s : FVec Ideal S4352x1024 .f32 := broadcastInDim S4352x1024 ![0] bcast_S4352_S4352x1024_0 (Host.reduceAdd (Host.divf (mulf (shapeCast _ (Host.reduceAdd (mulf X (g A B w M)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ve X)) (ve X)))) (broadcastInDim S4352x1 ![] bcast_S_S4352x1 (constant S_ .f32 0x44800000#32))) (constant S_ .f32 0x00000000#32) reducesTo_S4352x1_S4352_d1 h_S_)
/-- The results. -/
def dx : FVec Ideal S4352x1024 .f32 := addf (addf (addf (mulf (g A B w M) (r X)) (mulf X (s A B X w M))) (mulf (s A B X w M) X)) R
@[inherit_doc dx] def dnw : FVec Ideal S1x1024 .f32 := shapeCast _ (Host.reduceAdd (mulf (mulf X (r X)) (mulf (dh A B) (one M))) (constant S_ .f32 0x00000000#32) reducesTo_S4352x1024_S1024_d0 h_S_) shapeCasts_S1024_S1x1024
@[inherit_doc dx] def part (D : FVec Ideal S4352x1024 .f32) : FVec Ideal S2x1x1024 .f32 := addf (pad S2x1x1024 ![1, 0, 0] ![0, 0, 0] ![0, 0, 0] (broadcastInDim S1x1x1024 ![1, 2] bcast_S1x1024_S1x1x1024_1_2 (broadcastInDim S1x1024 ![1] bcast_S1024_S1x1024_1 (Host.reduceAdd (extractStridedSlice S4096x1024 ![256, 0] D slices_S4352x1024_S4096x1024_256_0) (constant S_ .f32 0x00000000#32) reducesTo_S4096x1024_S1024_d0 h_S_))) (constant S_ .f32 0x00000000#32) pads_S1x1x1024_S2x1x1024_100_000_000 h_S_) (pad S2x1x1024 ![0, 0, 0] ![1, 0, 0] ![0, 0, 0] (broadcastInDim S1x1x1024 ![1, 2] bcast_S1x1024_S1x1x1024_1_2 (broadcastInDim S1x1024 ![1] bcast_S1024_S1x1024_1 (Host.reduceAdd (extractStridedSlice S256x1024 ![0, 0] D slices_S4352x1024_S256x1024_0_0) (constant S_ .f32 0x00000000#32) reducesTo_S256x1024_S1024_d0 h_S_))) (constant S_ .f32 0x00000000#32) pads_S1x1x1024_S2x1x1024_010_000_000 h_S_)
@[inherit_doc dx] def ys : FVec Ideal S4352x1024 .f32 := mulf (mulf (mulf X (r X)) (wb w)) (dh A B)

variable (i : Fin 4352) (j : Fin 1024)

theorem dh_at : dh A B (ix2 i j) = NormGrad.dh A B i j := by
  unfold dh NormGrad.dh
  pointwise

theorem sc_at (o : Fin 2) : sc M o (ix2 0 j) = M (ix3 o 4 j) := by
  obtain rfl | rfl : o = 0 ∨ o = 1 := by omega
  · dsimp only [sc]
    pointwise
  · dsimp only [sc]
    pointwise

theorem one_at : one M (ix2 i j) = 1 + M (ix3 (NormGrad.seg i) 4 j) := by
  unfold one NormGrad.seg
  pointwise
  split <;> rw [sc_at]

theorem ve_at (z : Fin 1) : ve X (ix2 i z) = NormGrad.ve X i := by
  unfold ve NormGrad.ve NormGrad.ms
  pointwise

theorem r_at : r X (ix2 i j) = Ideal.rsqrt (NormGrad.ve X i) := by
  unfold r
  pointwise
  rw [ve_at]

theorem wb_at : wb w (ix2 i j) = w (ix2 0 j) := by
  unfold wb
  pointwise

theorem g_at : g A B w M (ix2 i j) = NormGrad.g A B w M 4 i j := by
  unfold g NormGrad.g NormGrad.g0
  pointwise
  rw [dh_at, one_at, wb_at]

theorem s_at : s A B X w M (ix2 i j) = NormGrad.s A B X w M 4 i := by
  unfold s NormGrad.s
  pointwise
  simp only [g_at, ve_at]

theorem dx_at : dx A B X w M R (ix2 i j) = NormGrad.gDx A B X w M R 4 (ix2 i j) := by
  change _ = NormGrad.dx A B X w M R 4 i j
  unfold dx NormGrad.dx
  pointwise
  simp only [g_at, s_at, r_at]

theorem dnw_at : dnw A B X M (ix2 0 j) = NormGrad.gNw (NormGrad.fw A B X M 4) (ix2 0 j) := by
  change _ = ∑ i, NormGrad.fw A B X M 4 i j
  unfold dnw NormGrad.fw NormGrad.y NormGrad.g0
  pointwise
  simp only [r_at, dh_at, one_at]

theorem ys_at : ys A B X w (ix2 i j) = NormGrad.fs A B X w i j := by
  unfold ys NormGrad.fs NormGrad.y
  pointwise
  rw [r_at, dh_at, wb_at]

theorem part_at (D : FVec Ideal S4352x1024 .f32) (f : Fin 4352 → Fin 1024 → EReal) (h : ∀ i j, D (ix2 i j) = f i j) (k : Fin 2) :
    part D (ix3 k 0 j) = NormGrad.gPart f (ix3 k 0 j) := by
  change _ = NormGrad.part (fun i => f i j) k
  obtain rfl | rfl : k = 0 ∨ k = 1 := by omega
  · unfold part NormGrad.part
    pointwise
    simp only [h]
  · unfold part NormGrad.part
    pointwise
    simp only [h]
end

end Cert.UpBwd.Ref
end
-- ==== Proof.UpBwdClaim.lean ====
module

public import proofs.«01_k».proof.Proof.UpBwd
public import proofs.«01_k».proof.Proof.UpBwdRef
public import proofs.«01_k».proof.Proof.Gen.Kernel6
public import proofs.«01_k».proof.Defs

/-! `ffn_up_bwd`: the claims. -/

@[expose] public section

set_option maxRecDepth 16384

noncomputable section

open Idealize.ShloMosaic Idealize.ShloMosaic.TcCoe Idealize.SL.Sem

namespace Cert.UpBwd

/-- Kernel and reference leave the same gradients. -/
theorem algebraic : Cert.algebraic_Kernel6Ideal_Reference6Ideal := by
  intro m g m' g' _ hag
  refine ⟨fun c => g6 m c, fun c => g7 m c, fun c => g8 m c, fun c => g9 m c, ?_, ?_⟩
  · refine (θ_run Cert.Kernel6Ideal.defs _ _).mono (fun r h c => ?_) (Cert.Kernel6Ideal.Hand.run_blocks m g)
    obtain ⟨⟨h6, h7, h8, h9⟩, ha⟩ := h.1 c
    exact ⟨h6.trans (final6 m c), h7.trans (final7 m c), h8.trans (final8 m c), h9.trans (final9 m c), ha⟩
  · refine (θ_run Cert.Reference6Ideal.defs _ _).mono (fun r h c => ?_) (Cert.Reference6Ideal.Value.run m' g')
    obtain ⟨h6, h7, h8, h9, ha⟩ := h c
    obtain ⟨e0, e1, e2, e3, e4, e5⟩ := hag c
    refine ⟨h6.trans ?_, h7.trans ?_, h8.trans ?_, h9.trans ?_, ha⟩
    · rw [Cert.Reference6Ideal.Value.res_main_v82, e0, e1, e2, e3, e4, e5]
      funext y
      obtain ⟨i, j, rfl⟩ : ∃ (i : Fin 4352) (j : Fin 1024), y = ix2 i j := ⟨y 0, y 1, by idx_vars y⟩
      exact Ref.dx_at (aA m c) (aB m c) (aX m c) (aw m c) (aM m c) (aR m c) i j
    · rw [e0, e1, e2, e4]
      funext y
      obtain ⟨i, j, rfl⟩ : ∃ (i : Fin 1) (j : Fin 1024), y = ix2 i j := ⟨y 0, y 1, by idx_vars y⟩
      obtain rfl : i = 0 := Subsingleton.elim _ _
      exact Ref.dnw_at (aA m c) (aB m c) (aX m c) (aM m c) j
    · rw [e0, e1]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.part_at j (Ref.dh (aA m c) (aB m c)) _ (Ref.dh_at _ _) k
    · rw [e0, e1, e2, e3]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.part_at j (Ref.ys (aA m c) (aB m c) (aX m c) (aw m c)) _ (Ref.ys_at _ _ _ _) k

section
set_option backward.isDefEq.respectTransparency false

/-- The two programs' bodies are one. -/
theorem defs₀_eq : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => rfl

@[inherit_doc defs₀_eq] theorem defs_eq : Cert.Kernel6.defs (F := Bits) = Cert.Kernel6Ideal.defs (F := Bits) :=
  congrArg (Pipeline.defs (Cert.Kernel6Ideal.pcfgs (F := Bits))) defs₀_eq

theorem frame_kernel : Cert.quiescent_Kernel6 := fun m ρ _ => by
  rw [defs_eq]
  exact Cert.Kernel6Ideal.Hand.frame (F := Bits) m ρ
end

theorem frame_ideal : Cert.quiescent_Kernel6Ideal := fun m ρ _ => Cert.Kernel6Ideal.Hand.frame m ρ
theorem frame_reference : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

end Cert.UpBwd
end
-- ==== Proof.InBwdRuns.lean ====
module

public import proofs.«01_k».proof.Proof.Gen.Kernel7Ideal.Points
public import proofs.«01_k».proof.Proof.Gen.Kernel7Ideal.Skeleton
public import proofs.«01_k».proof.Proof.Gen.Kernel7Ideal.Launch
public import Idealize.ShloMosaic.Lib.Claim
public import Idealize.ShloMosaic.Lib.Pipeline.FrameBody

/-! `in_proj_bwd`: what its body leaves in its staging buffers, at the first point, at the second and at any later one. -/

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The staging buffers of a grid point, with their wholeness. -/
structure Args where
  arg1 : Memref sig .tc .vmem S256x3584 .bf16
  h1 : arg1.IsWhole
  arg2 : Memref sig .tc .vmem S1024x3584 .bf16
  h2 : arg2.IsWhole
  arg3 : Memref sig .tc .vmem S256x1024 .f32
  h3 : arg3.IsWhole
  arg4 : Memref sig .tc .vmem S1x1024 .f32
  h4 : arg4.IsWhole
  arg5 : Memref sig .tc .vmem S1x6x1024 .f32
  h5 : arg5.IsWhole
  arg6 : Memref sig .tc .vmem S256x1024 .f32
  h6 : arg6.IsWhole
  arg7 : Memref sig .tc .vmem S256x1024 .f32
  h7 : arg7.IsWhole
  arg8 : Memref sig .tc .vmem S1x1024 .f32
  h8 : arg8.IsWhole
  arg9 : Memref sig .tc .vmem S1x1x1024 .f32
  h9 : arg9.IsWhole
  arg10 : Memref sig .tc .vmem S1x1x1024 .f32
  h10 : arg10.IsWhole

/-- The pieces that a run leaves in the four results. -/
structure Pieces (F : FTy → Type) where
  p7 : List (View.Piece (Elt F) S256x1024 .f32)
  p8 : List (View.Piece (Elt F) S1x1024 .f32)
  p9 : List (View.Piece (Elt F) S1x1x1024 .f32)
  p10 : List (View.Piece (Elt F) S1x1x1024 .f32)

/-- The inputs' blocks. -/
structure Ins (F : FTy → Type) where
  x0 : Vec F S256x3584 .bf16
  x1 : Vec F S1024x3584 .bf16
  x2 : Vec F S256x1024 .f32
  x3 : Vec F S1x1024 .f32
  x4 : Vec F S1x6x1024 .f32
  x5 : Vec F S256x1024 .f32

variable (A : Args) (c : Dev nD) (i : grid0.Coords) (X : Ins F)

/-- The inputs' buffers at their blocks. -/
def inputs : sProp 𝕄 :=
  iprop(owns (c : Thread nD τ) A.arg1 fullShare X.x0 ∗ owns (c : Thread nD τ) A.arg2 fullShare X.x1
    ∗ owns (c : Thread nD τ) A.arg3 fullShare X.x2 ∗ owns (c : Thread nD τ) A.arg4 fullShare X.x3
    ∗ owns (c : Thread nD τ) A.arg5 fullShare X.x4 ∗ owns (c : Thread nD τ) A.arg6 fullShare X.x5)

/-- The results' buffers with the pieces written. -/
def written (P : Pieces F) : sProp 𝕄 :=
  iprop((∃ f, A.arg7.view.loc (c : Thread nD τ) ↦[A.arg7.view.set]{fullShare} A.arg7.view.writes (Elt F) f P.p7)
    ∗ (∃ f, A.arg8.view.loc (c : Thread nD τ) ↦[A.arg8.view.set]{fullShare} A.arg8.view.writes (Elt F) f P.p8)
    ∗ (∃ f, A.arg9.view.loc (c : Thread nD τ) ↦[A.arg9.view.set]{fullShare} A.arg9.view.writes (Elt F) f P.p9)
    ∗ (∃ f, A.arg10.view.loc (c : Thread nD τ) ↦[A.arg10.view.set]{fullShare} A.arg10.view.writes (Elt F) f P.p10))

/-- The body on these buffers. -/
abbrev body : Prog (TpuEff nD τ sig (Elt F) Λ₀ .tc) PUnit :=
  cc0_in_proj_bwd i A.arg1 A.h1 A.arg2 A.h2 A.arg3 A.h3 A.arg4 A.h4 A.arg5 A.h5 A.arg6 A.h6 A.arg7 A.h7 A.arg8 A.h8 A.arg9 A.h9 A.arg10 A.h10

/-! What the body computes of the blocks. -/

/-- The first six products summed, and the blocks of the last. -/
def dh₀ : FVec F S256x1024 .f32 :=
  k0_pay2
    (View.ld X.x0 (Rect.unit (s := S256x3584) ![0, 0] S256x512.size inb_S256x3584_S256x512_0_0))
    (View.ld X.x1 (Rect.unit (s := S1024x3584) ![0, 0] S1024x512.size inb_S1024x3584_S1024x512_0_0))
    (View.ld X.x0 (Rect.unit (s := S256x3584) ![0, 512] S256x512.size inb_S256x3584_S256x512_0_512))
    (View.ld X.x1 (Rect.unit (s := S1024x3584) ![0, 512] S1024x512.size inb_S1024x3584_S1024x512_0_512))
    (View.ld X.x0 (Rect.unit (s := S256x3584) ![0, 1024] S256x512.size inb_S256x3584_S256x512_0_1024))
    (View.ld X.x1 (Rect.unit (s := S1024x3584) ![0, 1024] S1024x512.size inb_S1024x3584_S1024x512_0_1024))
    (View.ld X.x0 (Rect.unit (s := S256x3584) ![0, 1536] S256x512.size inb_S256x3584_S256x512_0_1536))
    (View.ld X.x1 (Rect.unit (s := S1024x3584) ![0, 1536] S1024x512.size inb_S1024x3584_S1024x512_0_1536))
    (View.ld X.x0 (Rect.unit (s := S256x3584) ![0, 2048] S256x512.size inb_S256x3584_S256x512_0_2048))
    (View.ld X.x1 (Rect.unit (s := S1024x3584) ![0, 2048] S1024x512.size inb_S1024x3584_S1024x512_0_2048))
    (View.ld X.x0 (Rect.unit (s := S256x3584) ![0, 2560] S256x512.size inb_S256x3584_S256x512_0_2560))
    (View.ld X.x1 (Rect.unit (s := S1024x3584) ![0, 2560] S1024x512.size inb_S1024x3584_S1024x512_0_2560))
@[inherit_doc dh₀] def ca : Vec F S256x512 .bf16 := View.ld X.x0 (Rect.unit (s := S256x3584) ![0, 3072] S256x512.size inb_S256x3584_S256x512_0_3072)
@[inherit_doc dh₀] def cb : Vec F S1024x512 .bf16 := View.ld X.x1 (Rect.unit (s := S1024x3584) ![0, 3072] S1024x512.size inb_S1024x3584_S1024x512_0_3072)

/-- The scale's row of the block. -/
def scale : Vec F S1x1x1024 .f32 := View.ld X.x4 (Rect.unit (s := S1x6x1024) ![0, 1, 0] S1x1x1024.size inb_S1x6x1024_S1x1x1024_0_1_0)

/-- The rows' gradient. -/
def v7 : FVec F S256x1024 .f32 :=
  k0_pay15 X.x2 (k0_pay6 X.x2) (k0_pay13 (dh₀ X) (ca X) (cb X) X.x2 X.x3 (scale X)) (k0_pay14 (dh₀ X) (ca X) (cb X) X.x2 X.x3 (scale X)) X.x5

/-- The block's part of the norm weights' gradient, of the shift's and of the scale's. -/
def u8 : FVec F S1x1024 .f32 := k0_pay11 (dh₀ X) (ca X) (cb X) X.x2 (scale X)
@[inherit_doc u8] def u9 : FVec F S1x1024 .f32 := k0_pay8 (dh₀ X) (ca X) (cb X)
@[inherit_doc u8] def u10 : FVec F S1x1024 .f32 := k0_pay9 (dh₀ X) (ca X) (cb X) X.x2 X.x3

/-- The three gradients, added to `y` unless the point is the first. -/
def v8 (b : Bool) (y : Vec F S1x1024 .f32) : FVec F S1x1024 .f32 := bif b then u8 X else k0_pay16 (u8 X) y
@[inherit_doc v8] def v9 (b : Bool) (y : Vec F S1x1x1024 .f32) : FVec F S1x1x1024 .f32 := bif b then k0_pay17 (u9 X) else k0_pay18 (u9 X) y
@[inherit_doc v8] def v10 (b : Bool) (y : Vec F S1x1x1024 .f32) : FVec F S1x1x1024 .f32 := bif b then k0_pay19 (u10 X) else k0_pay1 (u10 X) y

end Cert.Kernel7Ideal.Hand

end
-- ==== Proof.InBwdRun.lean ====
module

public import proofs.«01_k».proof.Proof.InBwdRuns

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

set_option maxHeartbeats 4000000 in
/-- The run: `b` says whether the point is the grid's first, `b'` whether it is its segment's first. -/
def run (A : Args) (c : Dev nD) (i : grid0.Coords) (X : Ins F) (b b' : Bool) (hc1 : k0_cond1 i = 1#1 ↔ b = true)
    (hc2 : k0_cond2 i = 1#1 ↔ b = false) (hc3 : k0_cond3 i = 1#1 ↔ b' = true) (hc4 : k0_cond4 i = 1#1 ↔ b' = false)
    (hc5 : k0_cond5 i = 1#1 ↔ b' = true) (hc6 : k0_cond6 i = 1#1 ↔ b' = false)
    (y7 : Vec F S1x1024 .f32) (y8 y9 : Vec F S1x1x1024 .f32) :
    { P : Pieces F // ∀ (E : Set ℕ) (K : PUnit → sProp 𝕄),
      iprop(inputs A c X ∗ (∃ d, owns (c : Thread nD τ) A.arg7 fullShare d) ∗ owns (c : Thread nD τ) A.arg8 fullShare y7
          ∗ owns (c : Thread nD τ) A.arg9 fullShare y8 ∗ owns (c : Thread nD τ) A.arg10 fullShare y9
          ∗ (iprop(inputs A c X ∗ written A c P) -∗ K ⟨⟩))
        ⊢ wp frame (wpE (defs₀ (F := F)) Variants.none c none) E (body A i) K } := by
  obtain ⟨arg1, harg1, arg2, harg2, arg3, harg3, arg4, harg4, arg5, harg5, arg6, harg6, arg7, harg7, arg8, harg8, arg9, harg9, arg10, harg10⟩ := A
  obtain ⟨x0, x1, x2, x3, x4, x5⟩ := X
  cases b <;> cases b' <;> (
    simp only [Bool.false_eq_true, iff_false, iff_true, reduceCtorEq] at hc1 hc2 hc3 hc4 hc5 hc6
    refine ⟨⟨?_, ?_, ?_, ?_⟩, ?_⟩
    rotate_left 4
    · intro E K
      unfold inputs written body
      dsimp only
      simp only [cc0_in_proj_bwd_eq_skeleton]; unfold cc0_in_proj_bwd_skel
      simp only [k0_part1_eq_skeleton, k0_part2_eq_skeleton, k0_part3_eq_skeleton]
      unfold owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hk⟩
      obtain rfl := harg1.eq_unread hf0; obtain rfl := harg2.eq_unread hf1; obtain rfl := harg3.eq_unread hf2
      obtain rfl := harg4.eq_unread hf3; obtain rfl := harg5.eq_unread hf4; obtain rfl := harg6.eq_unread hf5
      obtain rfl := harg8.eq_unread hf7; obtain rfl := harg9.eq_unread hf8; obtain rfl := harg10.eq_unread hf9
      sl_exec (disch := first | sl_exact hc1 | sl_exact hc2 | sl_exact hc3 | sl_exact hc4 | sl_exact hc5 | sl_exact hc6)
      sl_step
      iapply Hk
      isplitl [H0 H1 H2 H3 H4 H5]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        iexists _; isplitr; · ipureintro; exact harg6.read_unread _
        iexact H5
      isplitl [H6]; · iexists _; iexact H6
      isplitl [H7]; · iexists _; iexact H7
      isplitl [H8]; · iexists _; iexact H8
      iexists _; iexact H9)

end Cert.Kernel7Ideal.Hand

end
-- ==== Proof.InBwdLeft.lean ====
module

public import proofs.«01_k».proof.Proof.InBwdRun
public import Idealize.ShloMosaic.Lib.Pipeline.ValueKit
public import Idealize.ShloMosaic.Lib.Pipeline.ReadBack
public import Idealize.ShloMosaic.Lib.Ring

/-! `in_proj_bwd`: the pieces that the run leaves, read back. -/

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

section
variable (A : Args) (c : Dev nD) (i : grid0.Coords) (X : Ins F) (b b' : Bool) (hc1 : k0_cond1 i = 1#1 ↔ b = true)
    (hc2 : k0_cond2 i = 1#1 ↔ b = false) (hc3 : k0_cond3 i = 1#1 ↔ b' = true) (hc4 : k0_cond4 i = 1#1 ↔ b' = false)
    (hc5 : k0_cond5 i = 1#1 ↔ b' = true) (hc6 : k0_cond6 i = 1#1 ↔ b' = false)
    (y7 : Vec F S1x1024 .f32) (y8 y9 : Vec F S1x1x1024 .f32)

theorem read7 (f : A.arg7.view.ty.Contents (Elt F)) :
    A.arg7.view.read (Elt F) (A.arg7.view.writes (Elt F) f (run A c i X b b' hc1 hc2 hc3 hc4 hc5 hc6 y7 y8 y9).1.p7) = v7 X := by
  cases b <;> cases b' <;> (
    refine (View.read_writes_eq_canon _ _ _ fun y => View.cover_of_tiledL _ S256x1024.size (by sl_kernel_rfl) y).trans ?_
    unfold run
    frame_out
    rfl)

theorem read8 (f : A.arg8.view.ty.Contents (Elt F)) :
    A.arg8.view.read (Elt F) (A.arg8.view.writes (Elt F) f (run A c i X b b' hc1 hc2 hc3 hc4 hc5 hc6 y7 y8 y9).1.p8) = v8 X b y7 := by
  cases b <;> cases b' <;> (
    refine (View.read_writes_eq_canon _ _ _ fun y => View.cover_of_tiledL _ S1x1024.size (by sl_kernel_rfl) y).trans ?_
    unfold run
    frame_out
    rfl)

theorem read9 (f : A.arg9.view.ty.Contents (Elt F)) :
    A.arg9.view.read (Elt F) (A.arg9.view.writes (Elt F) f (run A c i X b b' hc1 hc2 hc3 hc4 hc5 hc6 y7 y8 y9).1.p9) = v9 X b' y8 := by
  cases b <;> cases b' <;> (
    refine (View.read_writes_eq_canon _ _ _ fun y => View.cover_of_tiledL _ S1x1x1024.size (by sl_kernel_rfl) y).trans ?_
    unfold run
    frame_out
    rfl)

theorem read10 (f : A.arg10.view.ty.Contents (Elt F)) :
    A.arg10.view.read (Elt F) (A.arg10.view.writes (Elt F) f (run A c i X b b' hc1 hc2 hc3 hc4 hc5 hc6 y7 y8 y9).1.p10) = v10 X b' y9 := by
  cases b <;> cases b' <;> (
    refine (View.read_writes_eq_canon _ _ _ fun y => View.cover_of_tiledL _ S1x1x1024.size (by sl_kernel_rfl) y).trans ?_
    unfold run
    frame_out
    rfl)

include hc1 hc2 hc3 hc4 hc5 hc6 in
/-- The run, with the results' contents. -/
theorem runs (E : Set ℕ) (K : PUnit → sProp 𝕄) :
    iprop(inputs A c X ∗ (∃ d, owns (c : Thread nD τ) A.arg7 fullShare d) ∗ owns (c : Thread nD τ) A.arg8 fullShare y7
          ∗ owns (c : Thread nD τ) A.arg9 fullShare y8 ∗ owns (c : Thread nD τ) A.arg10 fullShare y9
          ∗ (iprop(inputs A c X ∗ owns (c : Thread nD τ) A.arg7 fullShare (v7 X) ∗ owns (c : Thread nD τ) A.arg8 fullShare (v8 X b y7)
            ∗ owns (c : Thread nD τ) A.arg9 fullShare (v9 X b' y8) ∗ owns (c : Thread nD τ) A.arg10 fullShare (v10 X b' y9)) -∗ K ⟨⟩))
        ⊢ wp frame (wpE (defs₀ (F := F)) Variants.none c none) E (body A i) K := by
  iintro ⟨HI, H7, H8, H9, H10, HK⟩
  iapply ((run A c i X b b' hc1 hc2 hc3 hc4 hc5 hc6 y7 y8 y9).2 E K)
  isplitl [HI]; · iexact HI
  isplitl [H7]; · iexact H7
  isplitl [H8]; · iexact H8
  isplitl [H9]; · iexact H9
  isplitl [H10]; · iexact H10
  unfold written
  iintro ⟨HI, ⟨%f7, H7⟩, ⟨%f8, H8⟩, ⟨%f9, H9⟩, ⟨%f10, H10⟩⟩
  iapply HK
  unfold owns
  isplitl [HI]; · iexact HI
  isplitl [H7]
  · iexists _; isplitr
    swap; · iexact H7
    ipureintro; exact read7 A c i X b b' hc1 hc2 hc3 hc4 hc5 hc6 y7 y8 y9 f7
  isplitl [H8]
  · iexists _; isplitr
    swap; · iexact H8
    ipureintro; exact read8 A c i X b b' hc1 hc2 hc3 hc4 hc5 hc6 y7 y8 y9 f8
  isplitl [H9]
  · iexists _; isplitr
    swap; · iexact H9
    ipureintro; exact read9 A c i X b b' hc1 hc2 hc3 hc4 hc5 hc6 y7 y8 y9 f9
  iexists _; isplitr
  swap; · iexact H10
  ipureintro; exact read10 A c i X b b' hc1 hc2 hc3 hc4 hc5 hc6 y7 y8 y9 f10
end

end Cert.Kernel7Ideal.Hand

end
-- ==== Proof.InBwdFrame.lean ====
module

public import proofs.«01_k».proof.Proof.InBwdLeft
public import Idealize.ShloMosaic.Lib.Claim

/-! `in_proj_bwd`: the results' buffers point by point, and the frame. -/

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs' blocks at a point. -/
def ins (c : Dev nD) (t : Fin cfg0.N) : Ins F :=
  ⟨iblk m c 0 t, iblk m c 1 t, iblk m c 2 t, iblk m c 3 t, iblk m c 4 t, iblk m c 5 t⟩

/-- The staging buffers at a point. -/
def args (t : Fin cfg0.N) : Args where
  arg1 := win0_0.stage (cfg0.slots t 0)
  h1 := hstage0_0 ((cfg0.slots t 0).cast nbuf0_0)
  arg2 := win0_1.stage (cfg0.slots t 1)
  h2 := hstage0_1 ((cfg0.slots t 1).cast nbuf0_1)
  arg3 := win0_2.stage (cfg0.slots t 2)
  h3 := hstage0_2 ((cfg0.slots t 2).cast nbuf0_2)
  arg4 := win0_3.stage (cfg0.slots t 3)
  h4 := hstage0_3 ((cfg0.slots t 3).cast nbuf0_3)
  arg5 := win0_4.stage (cfg0.slots t 4)
  h5 := hstage0_4 ((cfg0.slots t 4).cast nbuf0_4)
  arg6 := win0_5.stage (cfg0.slots t 5)
  h6 := hstage0_5 ((cfg0.slots t 5).cast nbuf0_5)
  arg7 := win0_6.stage (cfg0.slots t 6)
  h7 := hstage0_6 ((cfg0.slots t 6).cast nbuf0_6)
  arg8 := win0_7.stage (cfg0.slots t 7)
  h8 := hstage0_7 ((cfg0.slots t 7).cast nbuf0_7)
  arg9 := win0_8.stage (cfg0.slots t 8)
  h9 := hstage0_8 ((cfg0.slots t 8).cast nbuf0_8)
  arg10 := win0_9.stage (cfg0.slots t 9)
  h10 := hstage0_9 ((cfg0.slots t 9).cast nbuf0_9)

theorem cond : ∀ t : Fin cfg0.N, (k0_cond1 (grid0.coords t) = 1#1 ↔ decide (t.val = 0) = true)
    ∧ (k0_cond2 (grid0.coords t) = 1#1 ↔ decide (t.val = 0) = false) ∧ (k0_cond3 (grid0.coords t) = 1#1 ↔ decide (t.val ≤ 1) = true)
    ∧ (k0_cond4 (grid0.coords t) = 1#1 ↔ decide (t.val ≤ 1) = false) ∧ (k0_cond5 (grid0.coords t) = 1#1 ↔ decide (t.val ≤ 1) = true)
    ∧ (k0_cond6 (grid0.coords t) = 1#1 ↔ decide (t.val ≤ 1) = false) := by decide +kernel

/-- No window is ever idle. -/
theorem live : ∀ (w : Fin 10) (i : grid0.Coords), cfg0.idle w i = false := by decide +kernel

/-- What the three accumulators hold after a point. -/
def acc (c : Dev nD) : (n : ℕ) → n < cfg0.N → Vec F S1x1024 .f32 × Vec F S1x1x1024 .f32 × Vec F S1x1x1024 .f32
  | 0, h => (v8 (ins m c ⟨0, h⟩) true (ins m c ⟨0, h⟩).x3, v9 (ins m c ⟨0, h⟩) true (k0_pay17 (ins m c ⟨0, h⟩).x3),
      v10 (ins m c ⟨0, h⟩) true (k0_pay17 (ins m c ⟨0, h⟩).x3))
  | n + 1, h => (v8 (ins m c ⟨n + 1, h⟩) false (acc c n (Nat.lt_of_succ_lt h)).1,
      v9 (ins m c ⟨n + 1, h⟩) (decide (n = 0)) (acc c n (Nat.lt_of_succ_lt h)).2.1,
      v10 (ins m c ⟨n + 1, h⟩) (decide (n = 0)) (acc c n (Nat.lt_of_succ_lt h)).2.2)

/-- The proof data: arrays as found, blocks in place, results as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => v7 (ins m c t)
    | ⟨7, _⟩ => (acc m c t.val t.isLt).1
    | ⟨8, _⟩ => (acc m c t.val t.isLt).2.1
    | ⟨9, _⟩ => (acc m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = v7 (ins m c t) := by dsimp only [dats]
theorem after0_7 (c : Dev nD) (t : Fin cfg0.N) : (dats m 0 c).after 7 t = (acc m c t.val t.isLt).1 := by dsimp only [dats]
theorem after0_8 (c : Dev nD) (t : Fin cfg0.N) : (dats m 0 c).after 8 t = (acc m c t.val t.isLt).2.1 := by dsimp only [dats]
theorem after0_9 (c : Dev nD) (t : Fin cfg0.N) : (dats m 0 c).after 9 t = (acc m c t.val t.isLt).2.2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; rfl) t d).trans rfl

/-- A result written back at the last point only holds what the point before left. -/
theorem before0_7 (c : Dev nD) (t : Fin cfg0.N) (h : t.val ≠ 0) (d) :
    (dats m 0 c).before 7 t d = (acc m c (t.val - 1) (Nat.lt_of_le_of_lt (Nat.sub_le _ _) t.isLt)).1 := by
  rw [Dat.before_out_kept (dats m 0 c) 7 rfl t h ((by decide +kernel : ∀ t : Fin cfg0.N, (cfg0.win 7).flush ⟨t.val - 1, Nat.lt_of_le_of_lt (Nat.sub_le _ _) t.isLt⟩ = false) t)
    (live 7) (fun _ _ => rfl) d, after0_7]

theorem before0_8 (c : Dev nD) (t : Fin cfg0.N) (h : ¬ t.val ≤ 1) (d) :
    (dats m 0 c).before 8 t d = (acc m c (t.val - 1) (Nat.lt_of_le_of_lt (Nat.sub_le _ _) t.isLt)).2.1 := by
  rw [Dat.before_out_kept (dats m 0 c) 8 rfl t (by omega) ((by decide +kernel : ∀ t : Fin cfg0.N, ¬ t.val ≤ 1 → (cfg0.win 8).flush ⟨t.val - 1, Nat.lt_of_le_of_lt (Nat.sub_le _ _) t.isLt⟩ = false) t h)
    (live 8) (fun _ _ => rfl) d, after0_8]

theorem before0_9 (c : Dev nD) (t : Fin cfg0.N) (h : ¬ t.val ≤ 1) (d) :
    (dats m 0 c).before 9 t d = (acc m c (t.val - 1) (Nat.lt_of_le_of_lt (Nat.sub_le _ _) t.isLt)).2.2 := by
  rw [Dat.before_out_kept (dats m 0 c) 9 rfl t (by omega) ((by decide +kernel : ∀ t : Fin cfg0.N, ¬ t.val ≤ 1 → (cfg0.win 9).flush ⟨t.val - 1, Nat.lt_of_le_of_lt (Nat.sub_le _ _) t.isLt⟩ = false) t h)
    (live 9) (fun _ _ => rfl) d, after0_9]

theorem acc_7 (c : Dev nD) (t : Fin cfg0.N) (d) :
    v8 (ins m c t) (decide (t.val = 0)) ((dats m 0 c).before 7 t d) = (acc m c t.val t.isLt).1 := by
  by_cases h : t.val = 0
  · obtain ⟨n, hn⟩ := t
    obtain rfl : n = 0 := h
    rfl
  · rw [before0_7 m c t h d]
    obtain ⟨_ | n, hn⟩ := t
    · exact absurd rfl h
    · rfl

theorem acc_8 (c : Dev nD) (t : Fin cfg0.N) (d) :
    v9 (ins m c t) (decide (t.val ≤ 1)) ((dats m 0 c).before 8 t d) = (acc m c t.val t.isLt).2.1 := by
  by_cases h : t.val ≤ 1
  · obtain ⟨_ | _ | n, hn⟩ := t
    · rfl
    · rfl
    · exact absurd h (by simp)
  · rw [before0_8 m c t h d]
    obtain ⟨_ | _ | n, hn⟩ := t
    · exact absurd (by simp) h
    · exact absurd (by simp) h
    · rfl

theorem acc_9 (c : Dev nD) (t : Fin cfg0.N) (d) :
    v10 (ins m c t) (decide (t.val ≤ 1)) ((dats m 0 c).before 9 t d) = (acc m c t.val t.isLt).2.2 := by
  by_cases h : t.val ≤ 1
  · obtain ⟨_ | _ | n, hn⟩ := t
    · rfl
    · rfl
    · exact absurd h (by simp)
  · rw [before0_9 m c t h d]
    obtain ⟨_ | _ | n, hn⟩ := t
    · exact absurd (by simp) h
    · exact absurd (by simp) h
    · rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (args t).arg1 fullShare ((dats m 0 c).before 0 t d))
    ∗ (∃ d, owns (c : Thread nD τ) (args t).arg2 fullShare ((dats m 0 c).before 1 t d))
    ∗ (∃ d, owns (c : Thread nD τ) (args t).arg3 fullShare ((dats m 0 c).before 2 t d))
    ∗ (∃ d, owns (c : Thread nD τ) (args t).arg4 fullShare ((dats m 0 c).before 3 t d))
    ∗ (∃ d, owns (c : Thread nD τ) (args t).arg5 fullShare ((dats m 0 c).before 4 t d))
    ∗ (∃ d, owns (c : Thread nD τ) (args t).arg6 fullShare ((dats m 0 c).before 5 t d))
    ∗ (∃ d, owns (c : Thread nD τ) (args t).arg7 fullShare ((dats m 0 c).before 6 t d))
    ∗ (∃ d, owns (c : Thread nD τ) (args t).arg8 fullShare ((dats m 0 c).before 7 t d))
    ∗ (∃ d, owns (c : Thread nD τ) (args t).arg9 fullShare ((dats m 0 c).before 8 t d))
    ∗ (∃ d, owns (c : Thread nD τ) (args t).arg10 fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl]
  rw [show (dats m 0 c).Φ t.succ = (dats m 0 c).Φ t.castSucc from rfl]
  rw [leaves m c 0, leaves m c 1, leaves m c 2, leaves m c 3, leaves m c 4, leaves m c 5, leaves m c 6, leaves m c 7, leaves m c 8, leaves m c 9]
  rw [after0_0, after0_1, after0_2, after0_3, after0_4, after0_5, after0_6, after0_7, after0_8, after0_9]
  obtain ⟨h1, h2, h3, h4, h5, h6⟩ := cond t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runs (args t) c (grid0.coords t) (ins m c t) _ _ h1 h2 h3 h4 h5 h6 ((dats m 0 c).before 7 t d7)
    ((dats m 0 c).before 8 t d8) ((dats m 0 c).before 9 t d9) Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [H8]; · iexact H8
  isplitl [H9]; · iexact H9
  rw [acc_7, acc_8, acc_9]
  iintro ⟨⟨H0, H1, H2, H3, H4, H5⟩, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The run: every result array as computed from the proof data, the arguments unchanged. -/
theorem run_blocks : θ_run defs (onTc (τ := τ) (main (F := F))) ⟨m, fun _ => 0, ρ⟩ fun r => (∀ c : Dev nD,
      (r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨⟨(h.1 c).1 6, (h.1 c).1 7, (h.1 c).1 8, (h.1 c).1 9⟩,
      ((h.1 c).1 0).trans (((dats m 0 c).arrAt_in 0 rfl _).trans (A_eq m c 0)), ((h.1 c).1 1).trans (((dats m 0 c).arrAt_in 1 rfl _).trans (A_eq m c 1)), ((h.1 c).1 2).trans (((dats m 0 c).arrAt_in 2 rfl _).trans (A_eq m c 2)), ((h.1 c).1 3).trans (((dats m 0 c).arrAt_in 3 rfl _).trans (A_eq m c 3)), ((h.1 c).1 4).trans (((dats m 0 c).arrAt_in 4 rfl _).trans (A_eq m c 4)), ((h.1 c).1 5).trans (((dats m 0 c).arrAt_in 5 rfl _).trans (A_eq m c 5))⟩, h.2⟩)
    (run_main_quiescent m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h.1 c).2, h.2⟩) (run_blocks m ρ)

end Cert.Kernel7Ideal.Hand

end
-- ==== Proof.InBwd.lean ====
module

public import proofs.«01_k».proof.Proof.InBwdFrame
public import proofs.«01_k».proof.Proof.NormGrad
public import Idealize.ShloMosaic.Lib.Pointwise
public import Idealize.ShloMosaic.Lib.Pipeline.ValueKit
public import Idealize.ShloMosaic.Lib.Pipeline.ReadBack
public import Idealize.ShloMosaic.Lib.Claim

/-! `in_proj_bwd`: what the kernel leaves in its results. -/

@[expose] public section

set_option maxRecDepth 16384

noncomputable section

open Idealize.ShloMosaic Idealize.ShloMosaic.TcCoe Idealize.SL.Sem
open Idealize.ShloMosaic.Pipeline (Dat)

namespace Cert.InBwd

open Cert.Kernel7Ideal Cert.Kernel7Ideal.Gen Cert.Kernel7Ideal.Hand

/-- Where every window's block lies. -/
theorem idx : ∀ t : Fin cfg0.N, win0_0.index t = ![t.val, 0] ∧ win0_1.index t = ![0, 0] ∧ win0_2.index t = ![t.val, 0]
    ∧ win0_3.index t = ![0, 0] ∧ win0_4.index t = ![min t.val 1, 0, 0] ∧ win0_5.index t = ![t.val, 0] ∧ win0_6.index t = ![t.val, 0]
    ∧ win0_7.index t = ![0, 0] ∧ win0_8.index t = ![min t.val 1, 0, 0] ∧ win0_9.index t = ![min t.val 1, 0, 0] :=
  (by decide +kernel : ∀ t : Fin grid0.N, _)

/-- Where the modulation's gradients leave. -/
theorem ends : ∀ t : Fin cfg0.N, ((cfg0.win 8).flush t = true → t.val = 0 ∨ t.val = 16) ∧ ((cfg0.win 9).flush t = true → t.val = 0 ∨ t.val = 16) :=
  (by decide +kernel : ∀ t : Fin grid0.N, _)

section
variable (x : FVec Ideal S1x1024 .f32) (j : Fin 1024)

/-- What a block's part becomes, at the first of the sum's blocks and at the others. -/
theorem pay1 (y : Vec Ideal S1x1024 .f32) : k0_pay16 x y (ix2 0 j) = y (ix2 0 j) + x (ix2 0 j) := by
  unfold k0_pay16
  pointwise
@[inherit_doc pay1] theorem pay2 : k0_pay17 x (ix3 0 0 j) = x (ix2 0 j) := by
  unfold k0_pay17
  pointwise
@[inherit_doc pay1] theorem pay3 (y : Vec Ideal S1x1x1024 .f32) : k0_pay18 x y (ix3 0 0 j) = y (ix3 0 0 j) + x (ix2 0 j) := by
  unfold k0_pay18
  pointwise
@[inherit_doc pay1] theorem pay4 : k0_pay19 x (ix3 0 0 j) = x (ix2 0 j) := by
  unfold k0_pay19
  pointwise
@[inherit_doc pay1] theorem pay5 (y : Vec Ideal S1x1x1024 .f32) : k0_pay1 x y (ix3 0 0 j) = y (ix3 0 0 j) + x (ix2 0 j) := by
  unfold k0_pay1
  pointwise
end

/-- Seven products of 512 columns are the product. -/
theorem dh_at (X : Ins Ideal) (r : Fin 256) (j : Fin 1024) : k0_pay3 (dh₀ X) (ca X) (cb X) (ix2 r j) = ∑ k : Fin 3584, X.x0 (ix2 r k) * X.x1 (ix2 j k) := by
  let u : ℕ → EReal := fun k => if h : k < 3584 then X.x0 (ix2 r ⟨k, h⟩) * X.x1 (ix2 j ⟨k, h⟩) else 0
  have e : ∀ (k : ℕ) (h : k < 3584), X.x0 (ix2 r ⟨k, h⟩) * X.x1 (ix2 j ⟨k, h⟩) = u k := fun k h => by
    dsimp only [u]
    rw [dif_pos h]
  rw [Finset.sum_congr rfl fun (k : Fin 3584) _ => e k.val k.isLt, ← Finset.sum_range,
    show 3584 = 512 + 512 + 512 + 512 + 512 + 512 + 512 by rfl]
  simp only [Finset.sum_range_add]
  simp only [Finset.sum_range, Nat.reduceAdd]
  unfold k0_pay3 dh₀ ca cb k0_pay2
  pointwise
  simp only [e]

section
variable (m : (ℓ : Loc nD τ sig) → Buf (Elt Ideal) ℓ) (c : Dev nD)

/-- The kernel's arrays. -/
abbrev aA : S4352x3584.Idx → EReal := m ((c.tc : Thread nD τ).loc main_arg0)
@[inherit_doc aA] abbrev aB : S1024x3584.Idx → EReal := m ((c.tc : Thread nD τ).loc main_arg1)
@[inherit_doc aA] abbrev aX : S4352x1024.Idx → EReal := m ((c.tc : Thread nD τ).loc main_arg2)
@[inherit_doc aA] abbrev aw : S1x1024.Idx → EReal := m ((c.tc : Thread nD τ).loc main_arg3)
@[inherit_doc aA] abbrev aM : S2x6x1024.Idx → EReal := m ((c.tc : Thread nD τ).loc main_arg4)
@[inherit_doc aA] abbrev aR : S4352x1024.Idx → EReal := m ((c.tc : Thread nD τ).loc main_arg5)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 (k : Fin 3584) : (ins m c t).x0 (ix2 r k) = aA m c (ix2 (row t r) k) := by
  change iblk m c 0 t (ix2 r k) = _
  unfold row
  blk_ext [iblk, V, idx t]

theorem blk1 (k : Fin 3584) : (ins m c t).x1 (ix2 j k) = aB m c (ix2 j k) := by
  change iblk m c 1 t (ix2 j k) = _
  blk_ext [iblk, V, idx t]

theorem blk2 : (ins m c t).x2 (ix2 r j) = aX m c (ix2 (row t r) j) := by
  change iblk m c 2 t (ix2 r j) = _
  unfold row
  blk_ext [iblk, V, idx t]

theorem blk3 : (ins m c t).x3 (ix2 0 j) = aw m c (ix2 0 j) := by
  change iblk m c 3 t (ix2 0 j) = _
  blk_ext [iblk, V, idx t]

theorem seg_row : NormGrad.seg (row t r) = ⟨min t.val 1, by omega⟩ := by
  have h := r.isLt
  unfold NormGrad.seg row
  apply Fin.ext
  dsimp only
  split <;> simp <;> omega

theorem blk4 (q : Fin 6) : (ins m c t).x4 (ix3 0 q j) = aM m c (ix3 (NormGrad.seg (row t r)) q j) := by
  rw [seg_row]
  change iblk m c 4 t (ix3 0 q j) = _
  blk_ext [iblk, V, idx t]

theorem blk5 : (ins m c t).x5 (ix2 r j) = aR m c (ix2 (row t r) j) := by
  change iblk m c 5 t (ix2 r j) = _
  unfold row
  blk_ext [iblk, V, idx t]

theorem dh_blk : k0_pay3 (dh₀ (ins m c t)) (ca (ins m c t)) (cb (ins m c t)) (ix2 r j) = NormGrad.dh (aA m c) (aB m c) (row t r) j := by
  rw [dh_at]
  exact Finset.sum_congr rfl fun k _ => by rw [blk0, blk1]

theorem ve_blk (z : Fin 1) : k0_pay4 (F := Ideal) (ins m c t).x2 (ix2 r z) = NormGrad.ve (aX m c) (row t r) := by
  unfold k0_pay4
  pointwise
  simp only [blk2]
  rfl

theorem scale_blk : scale (ins m c t) (ix3 0 0 j) = aM m c (ix3 (NormGrad.seg (row t r)) 1 j) := by
  unfold scale
  pointwise
  exact blk4 m c t r j 1

theorem v7_blk : v7 (ins m c t) (ix2 r j) = NormGrad.dx (aA m c) (aB m c) (aX m c) (aw m c) (aM m c) (aR m c) 1 (row t r) j := by
  unfold v7 k0_pay15 k0_pay14 k0_pay13 k0_pay12 k0_pay10 k0_pay6 k0_pay5
  pointwise
  simp only [dh_blk, ve_blk, scale_blk m c t r, blk2, blk3, blk5]
  rfl

/-- A block's parts of the three sums. -/
theorem t8 : u8 (ins m c t) (ix2 0 j)
    = ∑ x ∈ Finset.range 256, NormGrad.lift (fun i => NormGrad.fw (aA m c) (aB m c) (aX m c) (aM m c) 1 i j) (256 * t.val + x) := by
  unfold u8 k0_pay11 k0_pay10 k0_pay7 k0_pay5
  pointwise
  refine NormGrad.lift_block _ _ (Nat.lt_of_lt_of_eq t.isLt N_0) _ fun r => ?_
  simp only [dh_blk, ve_blk, scale_blk m c t r, blk2]
  rfl

theorem t9 : u9 (ins m c t) (ix2 0 j)
    = ∑ x ∈ Finset.range 256, NormGrad.lift (fun i => NormGrad.dh (aA m c) (aB m c) i j) (256 * t.val + x) := by
  unfold u9 k0_pay8
  pointwise
  refine NormGrad.lift_block _ _ (Nat.lt_of_lt_of_eq t.isLt N_0) _ fun r => ?_
  rw [dh_blk]
  rfl

theorem t10 : u10 (ins m c t) (ix2 0 j)
    = ∑ x ∈ Finset.range 256, NormGrad.lift (fun i => NormGrad.fs (aA m c) (aB m c) (aX m c) (aw m c) i j) (256 * t.val + x) := by
  unfold u10 k0_pay9 k0_pay7 k0_pay5
  pointwise
  refine NormGrad.lift_block _ _ (Nat.lt_of_lt_of_eq t.isLt N_0) _ fun r => ?_
  simp only [dh_blk, ve_blk, blk2, blk3]
  rfl

/-- The norm weights' gradient over the rows so far, and the modulation's over those of the segment. -/
theorem sum8 (n : ℕ) (h : n < cfg0.N) : (acc m c n h).1 (ix2 0 j)
    = ∑ x ∈ Finset.range (256 * (n + 1)), NormGrad.lift (fun i => NormGrad.fw (aA m c) (aB m c) (aX m c) (aM m c) 1 i j) x := by
  refine NormGrad.sums cfg0.N (fun n h => (acc m c n h).1 (ix2 0 j)) _ (fun h => ?_) (fun n h => ?_) n h
  · exact (t8 m c ⟨0, h⟩ j).trans (by simp only [Nat.mul_zero, Nat.zero_add])
  · exact (pay1 _ j _).trans (congrArg _ (t8 m c ⟨n + 1, h⟩ j))

@[inherit_doc sum8] theorem sum9 (h : t.val = 0 ∨ t.val = 16) : (acc m c t.val t.isLt).2.1 (ix3 0 0 j)
    = NormGrad.part (fun i => NormGrad.dh (aA m c) (aB m c) i j) ⟨min t.val 1, by omega⟩ := by
  refine NormGrad.sums_part cfg0.N (fun n h => (acc m c n h).2.1 (ix3 0 0 j)) _ (fun h => ?_) (fun h => ?_) (fun n h => ?_) t.val t.isLt h
  · exact (pay2 _ j).trans ((t9 m c ⟨0, h⟩ j).trans (by simp only [Nat.mul_zero, Nat.zero_add]))
  · exact (pay2 _ j).trans (t9 m c ⟨1, h⟩ j)
  · exact (pay3 _ j _).trans (congrArg _ (t9 m c ⟨n + 2, h⟩ j))

@[inherit_doc sum8] theorem sum10 (h : t.val = 0 ∨ t.val = 16) : (acc m c t.val t.isLt).2.2 (ix3 0 0 j)
    = NormGrad.part (fun i => NormGrad.fs (aA m c) (aB m c) (aX m c) (aw m c) i j) ⟨min t.val 1, by omega⟩ := by
  refine NormGrad.sums_part cfg0.N (fun n h => (acc m c n h).2.2 (ix3 0 0 j)) _ (fun h => ?_) (fun h => ?_) (fun n h => ?_) t.val t.isLt h
  · exact (pay4 _ j).trans ((t10 m c ⟨0, h⟩ j).trans (by simp only [Nat.mul_zero, Nat.zero_add]))
  · exact (pay4 _ j).trans (t10 m c ⟨1, h⟩ j)
  · exact (pay5 _ j _).trans (congrArg _ (t10 m c ⟨n + 2, h⟩ j))

/-- What the kernel leaves. -/
abbrev g6 : S4352x1024.Idx → EReal := NormGrad.gDx (aA m c) (aB m c) (aX m c) (aw m c) (aM m c) (aR m c) 1
@[inherit_doc g6] abbrev g7 : S1x1024.Idx → EReal := NormGrad.gNw (NormGrad.fw (aA m c) (aB m c) (aX m c) (aM m c) 1)
@[inherit_doc g6] abbrev g8 : S2x1x1024.Idx → EReal := NormGrad.gPart (NormGrad.dh (aA m c) (aB m c))
@[inherit_doc g6] abbrev g9 : S2x1x1024.Idx → EReal := NormGrad.gPart (NormGrad.fs (aA m c) (aB m c) (aX m c) (aw m c))

theorem final6 : (dats m 0 c).arrAt 6 cfg0.N = g6 m c := by
  refine (dats m 0 c).arrAt_eq_of_covers 6 _ (by decide +kernel) fun t hf y => ?_
  blk_simp
  rw [after0_6]
  obtain ⟨r, j, rfl⟩ : ∃ (i : Fin 256) (j : Fin 1024), y = ix2 i j := ⟨y 0, y 1, by idx_vars y⟩
  refine (v7_blk m c t r j).trans (Eq.trans (b := g6 m c (ix2 (row t r) j)) rfl (Eq.symm ?_))
  unfold row
  blk_ext [idx t]

theorem final7 : (dats m 0 c).arrAt 7 cfg0.N = g7 m c := by
  refine (dats m 0 c).arrAt_eq_of_covers 7 _ (by decide +kernel) fun t hf y => ?_
  blk_simp
  rw [after0_7]
  obtain ⟨r, j, rfl⟩ : ∃ (i : Fin 1) (j : Fin 1024), y = ix2 i j := ⟨y 0, y 1, by idx_vars y⟩
  obtain rfl : r = 0 := Subsingleton.elim _ _
  have h : t.val = 16 := by
    have hN : t.val < 17 := Nat.lt_of_lt_of_eq t.isLt N_0
    have h := (flush0_7 t).mp hf
    omega
  refine (sum8 m c j t.val t.isLt).trans ?_
  rw [h, NormGrad.lift_sum]
  refine Eq.trans (b := g7 m c (ix2 0 j)) rfl (Eq.symm ?_)
  blk_ext [idx t]

theorem final8 : (dats m 0 c).arrAt 8 cfg0.N = g8 m c := by
  refine (dats m 0 c).arrAt_eq_of_covers 8 _ (by decide +kernel) fun t hf y => ?_
  blk_simp
  rw [after0_8]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sum9 m c t j ((ends t).1 hf)).trans (Eq.trans (b := g8 m c (ix3 ⟨min t.val 1, by omega⟩ 0 j)) rfl (Eq.symm ?_))
  blk_ext [idx t]

theorem final9 : (dats m 0 c).arrAt 9 cfg0.N = g9 m c := by
  refine (dats m 0 c).arrAt_eq_of_covers 9 _ (by decide +kernel) fun t hf y => ?_
  blk_simp
  rw [after0_9]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sum10 m c t j ((ends t).2 hf)).trans (Eq.trans (b := g9 m c (ix3 ⟨min t.val 1, by omega⟩ 0 j)) rfl (Eq.symm ?_))
  blk_ext [idx t]

end

end Cert.InBwd
end
-- ==== Proof.InBwdRef.lean ====
module

public import proofs.«01_k».proof.Proof.Gen.Reference7Ideal.Run
public import proofs.«01_k».proof.Proof.NormGrad
public import Idealize.ShloMosaic.Lib.Pointwise
public import Idealize.ShloMosaic.Lib.Pipeline.ValueKit

/-! `in_proj_bwd`: what the reference leaves in its results. -/

@[expose] public section

set_option maxRecDepth 16384

noncomputable section

open Idealize.ShloMosaic Idealize.ShloMosaic.TcCoe Idealize.SL.Sem

namespace Cert.InBwd.Ref

open Cert.Reference7Ideal Cert.Reference7Ideal.Gen

section
variable (A : FVec Ideal S4352x3584 .bf16) (B : FVec Ideal S1024x3584 .bf16) (X : FVec Ideal S4352x1024 .f32) (w : FVec Ideal S1x1024 .f32)
  (M : FVec Ideal S2x6x1024 .f32) (R : FVec Ideal S4352x1024 .f32)

/-- The terms of the reference. -/
def dh : FVec Ideal S4352x1024 .f32 := Host.dotGeneral dot_S4352x3584_S1024x3584_S4352x1024_1_1_0_0_n_n none (extf .f32 A bitsLt_bf16_f32) (extf .f32 B bitsLt_bf16_f32)
@[inherit_doc dh] def sc (o : Fin 2) : FVec Ideal S1x1024 .f32 := match o with
  | 0 => shapeCast _ (extractStridedSlice S1x1x1024 ![0, 0, 0] (extractStridedSlice S2x1x1024 ![0, 1, 0] M slices_S2x6x1024_S2x1x1024_0_1_0) slices_S2x1x1024_S1x1x1024_0_0_0) shapeCasts_S1x1x1024_S1x1024
  | 1 => shapeCast _ (extractStridedSlice S1x1x1024 ![1, 0, 0] (extractStridedSlice S2x1x1024 ![0, 1, 0] M slices_S2x6x1024_S2x1x1024_0_1_0) slices_S2x1x1024_S1x1x1024_1_0_0) shapeCasts_S1x1x1024_S1x1024
@[inherit_doc dh] def one : FVec Ideal S4352x1024 .f32 := addf (broadcastInDim S4352x1024 ![] bcast_S_S4352x1024 (constant S_ .f32 0x3F800000#32)) (concatenate S4352x1024 0 [⟨S256x1024, (broadcastInDim S256x1024 ![0, 1] bcast_S1x1024_S256x1024_0_1 (sc M 0))⟩, ⟨S4096x1024, (broadcastInDim S4096x1024 ![0, 1] bcast_S1x1024_S4096x1024_0_1 (sc M 1))⟩] concatenates_S256x1024_S4096x1024_S4352x1024_d0)
@[inherit_doc dh] def ve : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc dh] def r : FVec Ideal S4352x1024 .f32 := broadcastInDim S4352x1024 ![0, 1] bcast_S4352x1_S4352x1024_0_1 (Host.rsqrt (ve X))
@[inherit_doc dh] def wb : FVec Ideal S4352x1024 .f32 := broadcastInDim S4352x1024 ![0, 1] bcast_S1x1024_S4352x1024_0_1 w
@[inherit_doc dh] def g : FVec Ideal S4352x1024 .f32 := mulf (mulf (dh A B) (one M)) (wb w)
@[inherit_doc dh] def s : FVec Ideal S4352x1024 .f32 := broadcastInDim S4352x1024 ![0] bcast_S4352_S4352x1024_0 (Host.reduceAdd (Host.divf (mulf (shapeCast _ (Host.reduceAdd (mulf X (g A B w M)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ve X)) (ve X)))) (broadcastInDim S4352x1 ![] bcast_S_S4352x1 (constant S_ .f32 0x44800000#32))) (constant S_ .f32 0x00000000#32) reducesTo_S4352x1_S4352_d1 h_S_)
/-- The results. -/
def dx : FVec Ideal S4352x1024 .f32 := addf (addf (addf (mulf (g A B w M) (r X)) (mulf X (s A B X w M))) (mulf (s A B X w M) X)) R
@[inherit_doc dx] def dnw : FVec Ideal S1x1024 .f32 := shapeCast _ (Host.reduceAdd (mulf (mulf X (r X)) (mulf (dh A B) (one M))) (constant S_ .f32 0x00000000#32) reducesTo_S4352x1024_S1024_d0 h_S_) shapeCasts_S1024_S1x1024
@[inherit_doc dx] def part (D : FVec Ideal S4352x1024 .f32) : FVec Ideal S2x1x1024 .f32 := addf (pad S2x1x1024 ![1, 0, 0] ![0, 0, 0] ![0, 0, 0] (broadcastInDim S1x1x1024 ![1, 2] bcast_S1x1024_S1x1x1024_1_2 (broadcastInDim S1x1024 ![1] bcast_S1024_S1x1024_1 (Host.reduceAdd (extractStridedSlice S4096x1024 ![256, 0] D slices_S4352x1024_S4096x1024_256_0) (constant S_ .f32 0x00000000#32) reducesTo_S4096x1024_S1024_d0 h_S_))) (constant S_ .f32 0x00000000#32) pads_S1x1x1024_S2x1x1024_100_000_000 h_S_) (pad S2x1x1024 ![0, 0, 0] ![1, 0, 0] ![0, 0, 0] (broadcastInDim S1x1x1024 ![1, 2] bcast_S1x1024_S1x1x1024_1_2 (broadcastInDim S1x1024 ![1] bcast_S1024_S1x1024_1 (Host.reduceAdd (extractStridedSlice S256x1024 ![0, 0] D slices_S4352x1024_S256x1024_0_0) (constant S_ .f32 0x00000000#32) reducesTo_S256x1024_S1024_d0 h_S_))) (constant S_ .f32 0x00000000#32) pads_S1x1x1024_S2x1x1024_010_000_000 h_S_)
@[inherit_doc dx] def ys : FVec Ideal S4352x1024 .f32 := mulf (mulf (mulf X (r X)) (wb w)) (dh A B)

variable (i : Fin 4352) (j : Fin 1024)

theorem dh_at : dh A B (ix2 i j) = NormGrad.dh A B i j := by
  unfold dh NormGrad.dh
  pointwise

theorem sc_at (o : Fin 2) : sc M o (ix2 0 j) = M (ix3 o 1 j) := by
  obtain rfl | rfl : o = 0 ∨ o = 1 := by omega
  · dsimp only [sc]
    pointwise
  · dsimp only [sc]
    pointwise

theorem one_at : one M (ix2 i j) = 1 + M (ix3 (NormGrad.seg i) 1 j) := by
  unfold one NormGrad.seg
  pointwise
  split <;> rw [sc_at]

theorem ve_at (z : Fin 1) : ve X (ix2 i z) = NormGrad.ve X i := by
  unfold ve NormGrad.ve NormGrad.ms
  pointwise

theorem r_at : r X (ix2 i j) = Ideal.rsqrt (NormGrad.ve X i) := by
  unfold r
  pointwise
  rw [ve_at]

theorem wb_at : wb w (ix2 i j) = w (ix2 0 j) := by
  unfold wb
  pointwise

theorem g_at : g A B w M (ix2 i j) = NormGrad.g A B w M 1 i j := by
  unfold g NormGrad.g NormGrad.g0
  pointwise
  rw [dh_at, one_at, wb_at]

theorem s_at : s A B X w M (ix2 i j) = NormGrad.s A B X w M 1 i := by
  unfold s NormGrad.s
  pointwise
  simp only [g_at, ve_at]

theorem dx_at : dx A B X w M R (ix2 i j) = NormGrad.gDx A B X w M R 1 (ix2 i j) := by
  change _ = NormGrad.dx A B X w M R 1 i j
  unfold dx NormGrad.dx
  pointwise
  simp only [g_at, s_at, r_at]

theorem dnw_at : dnw A B X M (ix2 0 j) = NormGrad.gNw (NormGrad.fw A B X M 1) (ix2 0 j) := by
  change _ = ∑ i, NormGrad.fw A B X M 1 i j
  unfold dnw NormGrad.fw NormGrad.y NormGrad.g0
  pointwise
  simp only [r_at, dh_at, one_at]

theorem ys_at : ys A B X w (ix2 i j) = NormGrad.fs A B X w i j := by
  unfold ys NormGrad.fs NormGrad.y
  pointwise
  rw [r_at, dh_at, wb_at]

theorem part_at (D : FVec Ideal S4352x1024 .f32) (f : Fin 4352 → Fin 1024 → EReal) (h : ∀ i j, D (ix2 i j) = f i j) (k : Fin 2) :
    part D (ix3 k 0 j) = NormGrad.gPart f (ix3 k 0 j) := by
  change _ = NormGrad.part (fun i => f i j) k
  obtain rfl | rfl : k = 0 ∨ k = 1 := by omega
  · unfold part NormGrad.part
    pointwise
    simp only [h]
  · unfold part NormGrad.part
    pointwise
    simp only [h]
end

end Cert.InBwd.Ref
end
-- ==== Proof.InBwdClaim.lean ====
module

public import proofs.«01_k».proof.Proof.InBwd
public import proofs.«01_k».proof.Proof.InBwdRef
public import proofs.«01_k».proof.Proof.Gen.Kernel7
public import proofs.«01_k».proof.Defs

/-! `in_proj_bwd`: the claims. -/

@[expose] public section

set_option maxRecDepth 16384

noncomputable section

open Idealize.ShloMosaic Idealize.ShloMosaic.TcCoe Idealize.SL.Sem

namespace Cert.InBwd

/-- Kernel and reference leave the same gradients. -/
theorem algebraic : Cert.algebraic_Kernel7Ideal_Reference7Ideal := by
  intro m g m' g' _ hag
  refine ⟨fun c => g6 m c, fun c => g7 m c, fun c => g8 m c, fun c => g9 m c, ?_, ?_⟩
  · refine (θ_run Cert.Kernel7Ideal.defs _ _).mono (fun r h c => ?_) (Cert.Kernel7Ideal.Hand.run_blocks m g)
    obtain ⟨⟨h6, h7, h8, h9⟩, ha⟩ := h.1 c
    exact ⟨h6.trans (final6 m c), h7.trans (final7 m c), h8.trans (final8 m c), h9.trans (final9 m c), ha⟩
  · refine (θ_run Cert.Reference7Ideal.defs _ _).mono (fun r h c => ?_) (Cert.Reference7Ideal.Value.run m' g')
    obtain ⟨h6, h7, h8, h9, ha⟩ := h c
    obtain ⟨e0, e1, e2, e3, e4, e5⟩ := hag c
    refine ⟨h6.trans ?_, h7.trans ?_, h8.trans ?_, h9.trans ?_, ha⟩
    · rw [Cert.Reference7Ideal.Value.res_main_v82, e0, e1, e2, e3, e4, e5]
      funext y
      obtain ⟨i, j, rfl⟩ : ∃ (i : Fin 4352) (j : Fin 1024), y = ix2 i j := ⟨y 0, y 1, by idx_vars y⟩
      exact Ref.dx_at (aA m c) (aB m c) (aX m c) (aw m c) (aM m c) (aR m c) i j
    · rw [e0, e1, e2, e4]
      funext y
      obtain ⟨i, j, rfl⟩ : ∃ (i : Fin 1) (j : Fin 1024), y = ix2 i j := ⟨y 0, y 1, by idx_vars y⟩
      obtain rfl : i = 0 := Subsingleton.elim _ _
      exact Ref.dnw_at (aA m c) (aB m c) (aX m c) (aM m c) j
    · rw [e0, e1]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.part_at j (Ref.dh (aA m c) (aB m c)) _ (Ref.dh_at _ _) k
    · rw [e0, e1, e2, e3]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.part_at j (Ref.ys (aA m c) (aB m c) (aX m c) (aw m c)) _ (Ref.ys_at _ _ _ _) k

section
set_option backward.isDefEq.respectTransparency false

/-- The two programs' bodies are one. -/
theorem defs₀_eq : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => rfl

@[inherit_doc defs₀_eq] theorem defs_eq : Cert.Kernel7.defs (F := Bits) = Cert.Kernel7Ideal.defs (F := Bits) :=
  congrArg (Pipeline.defs (Cert.Kernel7Ideal.pcfgs (F := Bits))) defs₀_eq

theorem frame_kernel : Cert.quiescent_Kernel7 := fun m ρ _ => by
  rw [defs_eq]
  exact Cert.Kernel7Ideal.Hand.frame (F := Bits) m ρ
end

theorem frame_ideal : Cert.quiescent_Kernel7Ideal := fun m ρ _ => Cert.Kernel7Ideal.Hand.frame m ρ
theorem frame_reference : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

end Cert.InBwd
end
-- ==== Proof.DownBwdRuns.lean ====
module

public import proofs.«01_k».proof.Proof.Gen.Kernel8Ideal.Points
public import proofs.«01_k».proof.Proof.Gen.Kernel8Ideal.Skeleton
public import proofs.«01_k».proof.Proof.Gen.Kernel8Ideal.Launch
public import Idealize.ShloMosaic.Lib.Claim
public import Idealize.ShloMosaic.Lib.Pipeline.FrameBody

/-! `ffn_down_bwd`: what its body leaves in its staging buffers, at the first point, at the second and at any later one. -/

@[expose] public section

set_option maxRecDepth 16384

noncomputable section

namespace Cert.Kernel8Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

/-- The staging buffers of a grid point, with their wholeness. -/
structure Args where
  arg1 : Memref sig .tc .vmem S256x1024 .f32
  h1 : arg1.IsWhole
  arg2 : Memref sig .tc .vmem S256x1024 .f32
  h2 : arg2.IsWhole
  arg3 : Memref sig .tc .vmem S1x6x1024 .f32
  h3 : arg3.IsWhole
  arg4 : Memref sig .tc .vmem S1x1024 .f32
  h4 : arg4.IsWhole
  arg5 : Memref sig .tc .vmem S2816x1024 .bf16
  h5 : arg5.IsWhole
  arg6 : Memref sig .tc .vmem S256x5632 .bf16
  h6 : arg6.IsWhole
  arg7 : Memref sig .tc .vmem S256x5632 .bf16
  h7 : arg7.IsWhole
  arg8 : Memref sig .tc .vmem S256x1024 .bf16
  h8 : arg8.IsWhole
  arg9 : Memref sig .tc .vmem S1x1x1024 .f32
  h9 : arg9.IsWhole
  arg10 : Memref sig .tc .vmem S1x1024 .f32
  h10 : arg10.IsWhole

/-- The pieces that a run leaves in the four results. -/
structure Pieces (F : FTy → Type) where
  p7 : List (View.Piece (Elt F) S256x5632 .bf16)
  p8 : List (View.Piece (Elt F) S256x1024 .bf16)
  p9 : List (View.Piece (Elt F) S1x1x1024 .f32)
  p10 : List (View.Piece (Elt F) S1x1024 .f32)

/-- The inputs' blocks. -/
structure Ins (F : FTy → Type) where
  x0 : Vec F S256x1024 .f32
  x1 : Vec F S256x1024 .f32
  x2 : Vec F S1x6x1024 .f32
  x3 : Vec F S1x1024 .f32
  x4 : Vec F S2816x1024 .bf16
  x5 : Vec F S256x5632 .bf16

variable (A : Args) (c : Dev nD) (i : grid0.Coords) (X : Ins F)

/-- The inputs' buffers at their blocks. -/
def inputs : sProp 𝕄 :=
  iprop(owns (c : Thread nD τ) A.arg1 fullShare X.x0
    ∗ owns (c : Thread nD τ) A.arg2 fullShare X.x1
    ∗ owns (c : Thread nD τ) A.arg3 fullShare X.x2
    ∗ owns (c : Thread nD τ) A.arg4 fullShare X.x3
    ∗ owns (c : Thread nD τ) A.arg5 fullShare X.x4
    ∗ owns (c : Thread nD τ) A.arg6 fullShare X.x5)

/-- The results' buffers with the pieces written. -/
def written (P : Pieces F) : sProp 𝕄 :=
  iprop((∃ f, A.arg7.view.loc (c : Thread nD τ) ↦[A.arg7.view.set]{fullShare} A.arg7.view.writes (Elt F) f P.p7)
    ∗ (∃ f, A.arg8.view.loc (c : Thread nD τ) ↦[A.arg8.view.set]{fullShare} A.arg8.view.writes (Elt F) f P.p8)
    ∗ (∃ f, A.arg9.view.loc (c : Thread nD τ) ↦[A.arg9.view.set]{fullShare} A.arg9.view.writes (Elt F) f P.p9)
    ∗ (∃ f, A.arg10.view.loc (c : Thread nD τ) ↦[A.arg10.view.set]{fullShare} A.arg10.view.writes (Elt F) f P.p10))

/-- The body on these buffers. -/
abbrev body : Prog (TpuEff nD τ sig (Elt F) Λ₀ .tc) PUnit :=
  cc0_ffn_down_bwd i A.arg1 A.h1 A.arg2 A.h2 A.arg3 A.h3 A.arg4 A.h4 A.arg5 A.h5 A.arg6 A.h6 A.arg7 A.h7 A.arg8 A.h8 A.arg9 A.h9 A.arg10 A.h10

/-! What the body computes of the blocks. -/

/-- The gate's row of the block. -/
def gt : Vec F S1x1x1024 .f32 := View.ld X.x2 (Rect.unit (s := S1x6x1024) ![0, 5, 0] S1x1x1024.size inb_S1x6x1024_S1x1x1024_0_5_0)

/-- The rows' gradient: the part through the norm's rows, and through their mean square. -/
def g1 : FVec F S256x1024 .f32 := k0_pay11 X.x1 (gt X) X.x3 X.x0
@[inherit_doc g1] def g2 : FVec F S256x1024 .f32 := k0_pay12 X.x1 (gt X) X.x3 X.x0

/-- The gradient at the second product's result. -/
def v8 : FVec F S256x1024 .bf16 := k0_pay13 X.x1 (g1 X) (g2 X)

/-- The gradient at the gate's half of the first product's result, and at the other. -/
def dg : FVec F S256x2816 .bf16 := k0_pay19 X.x1 (g1 X) (g2 X) X.x4 (View.ld X.x5 (Rect.unit (s := S256x5632) ![0, 0] S256x2816.size inb_S256x5632_S256x2816_0_0))
  (View.ld X.x5 (Rect.unit (s := S256x5632) ![0, 2816] S256x2816.size inb_S256x5632_S256x2816_0_2816))
@[inherit_doc dg] def du : FVec F S256x2816 .bf16 := k0_pay20 X.x1 (g1 X) (g2 X) X.x4 (View.ld X.x5 (Rect.unit (s := S256x5632) ![0, 0] S256x2816.size inb_S256x5632_S256x2816_0_0))

/-- The two side by side, as they are stored. -/
def p7 : List (View.Piece (Elt F) S256x5632 .bf16) :=
  [⟨Rect.unit (s := S256x5632) ![0, 2816] S256x2816.size inb_S256x5632_S256x2816_0_2816, du X⟩,
   ⟨Rect.unit (s := S256x5632) ![0, 0] S256x2816.size inb_S256x5632_S256x2816_0_0, dg X⟩]
@[inherit_doc p7] def v7 : Vec F S256x5632 .bf16 := View.canon (p7 X)

/-- The gate's gradient, added to `y` unless the point is its segment's first. -/
def v9 (b : Bool) (y : Vec F S1x1x1024 .f32) : FVec F S1x1x1024 .f32 :=
  bif b then k0_pay1 (k0_pay8 X.x1 X.x3 X.x0) else k0_pay2 (k0_pay8 X.x1 X.x3 X.x0) y

/-- The norm weights' gradient, added to `y` unless the point is the first. -/
def v10 (b : Bool) (y : Vec F S1x1024 .f32) : FVec F S1x1024 .f32 :=
  bif b then k0_pay9 X.x1 (gt X) X.x0 else k0_pay3 (k0_pay9 X.x1 (gt X) X.x0) y

end Cert.Kernel8Ideal.Hand

end
-- ==== Proof.DownBwdRun.lean ====
module

public import proofs.«01_k».proof.Proof.DownBwdRuns

@[expose] public section

set_option maxRecDepth 16384

noncomputable section

namespace Cert.Kernel8Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

set_option maxHeartbeats 4000000 in
/-- The run: `b` says whether the point is the grid's first, `b'` whether it is its segment's first. -/
def run (A : Args) (c : Dev nD) (i : grid0.Coords) (X : Ins F) (b b' : Bool) (hc1 : k0_cond1 i = 1#1 ↔ b' = true)
    (hc2 : k0_cond2 i = 1#1 ↔ b' = false) (hc3 : k0_cond3 i = 1#1 ↔ b = true) (hc4 : k0_cond4 i = 1#1 ↔ b = false)
    (y9 : Vec F S1x1x1024 .f32) (y10 : Vec F S1x1024 .f32) :
    { P : Pieces F // ∀ (E : Set ℕ) (K : PUnit → sProp 𝕄),
      iprop(inputs A c X ∗ (∃ d, owns (c : Thread nD τ) A.arg7 fullShare d)
          ∗ (∃ d, owns (c : Thread nD τ) A.arg8 fullShare d)
          ∗ owns (c : Thread nD τ) A.arg9 fullShare y9
          ∗ owns (c : Thread nD τ) A.arg10 fullShare y10
          ∗ (iprop(inputs A c X ∗ written A c P) -∗ K ⟨⟩))
        ⊢ wp frame (wpE (defs₀ (F := F)) Variants.none c none) E (body A i) K } := by
  obtain ⟨arg1, harg1, arg2, harg2, arg3, harg3, arg4, harg4, arg5, harg5, arg6, harg6, arg7, harg7, arg8, harg8, arg9, harg9, arg10, harg10⟩ := A
  obtain ⟨x0, x1, x2, x3, x4, x5⟩ := X
  cases b <;> cases b' <;> (
    simp only [Bool.false_eq_true, iff_false, iff_true, reduceCtorEq] at hc1 hc2 hc3 hc4
    refine ⟨⟨?_, ?_, ?_, ?_⟩, ?_⟩
    rotate_left 4
    · intro E K
      unfold inputs written body
      dsimp only
      simp only [cc0_ffn_down_bwd_eq_skeleton]; unfold cc0_ffn_down_bwd_skel
      simp only [k0_part1_eq_skeleton, k0_part2_eq_skeleton]
      unfold owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%f8, %hf8, H8⟩, ⟨%f9, %hf9, H9⟩, Hk⟩
      obtain rfl := harg1.eq_unread hf0
      obtain rfl := harg2.eq_unread hf1
      obtain rfl := harg3.eq_unread hf2
      obtain rfl := harg4.eq_unread hf3
      obtain rfl := harg5.eq_unread hf4
      obtain rfl := harg6.eq_unread hf5
      obtain rfl := harg9.eq_unread hf8
      obtain rfl := harg10.eq_unread hf9
      sl_exec (disch := first | sl_exact hc1 | sl_exact hc2 | sl_exact hc3 | sl_exact hc4)
      sl_step
      iapply Hk
      isplitl [H0 H1 H2 H3 H4 H5]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        iexists _; isplitr; · ipureintro; exact harg6.read_unread _
        iexact H5
      isplitl [H6]; · iexists _; iexact H6
      isplitl [H7]; · iexists _; iexact H7
      isplitl [H8]; · iexists _; iexact H8
      iexists _; iexact H9)

end Cert.Kernel8Ideal.Hand

end
-- ==== Proof.DownBwdLeft.lean ====
module

public import proofs.«01_k».proof.Proof.DownBwdRun
public import Idealize.ShloMosaic.Lib.Pipeline.ValueKit
public import Idealize.ShloMosaic.Lib.Pipeline.ReadBack
public import Idealize.ShloMosaic.Lib.Ring

/-! `ffn_down_bwd`: the pieces that the run leaves, read back. -/

@[expose] public section

set_option maxRecDepth 16384

noncomputable section

namespace Cert.Kernel8Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

section
variable (A : Args) (c : Dev nD) (i : grid0.Coords) (X : Ins F) (b b' : Bool) (hc1 : k0_cond1 i = 1#1 ↔ b' = true)
    (hc2 : k0_cond2 i = 1#1 ↔ b' = false) (hc3 : k0_cond3 i = 1#1 ↔ b = true) (hc4 : k0_cond4 i = 1#1 ↔ b = false)
    (y9 : Vec F S1x1x1024 .f32) (y10 : Vec F S1x1024 .f32)

theorem pieces7 : (run A c i X b b' hc1 hc2 hc3 hc4 y9 y10).1.p7 = p7 X := by
  cases b <;> cases b' <;> (
    unfold run
    frame_out
    rfl)

theorem cover7 (y : S256x5632.Idx) : ∃ p ∈ p7 X, y ∈ p.1.set :=
  View.cover_of_tiledL (p7 X) S256x2816.size (by unfold p7; sl_kernel_rfl) y

theorem read7 (f : A.arg7.view.ty.Contents (Elt F)) :
    A.arg7.view.read (Elt F) (A.arg7.view.writes (Elt F) f (run A c i X b b' hc1 hc2 hc3 hc4 y9 y10).1.p7) = v7 X := by
  rw [pieces7]
  exact View.read_writes_eq_canon _ _ _ (cover7 X)

theorem read8 (f : A.arg8.view.ty.Contents (Elt F)) :
    A.arg8.view.read (Elt F) (A.arg8.view.writes (Elt F) f (run A c i X b b' hc1 hc2 hc3 hc4 y9 y10).1.p8) = v8 X := by
  cases b <;> cases b' <;> (
    refine (View.read_writes_eq_canon _ _ _ fun y => View.cover_of_tiledL _ S256x1024.size (by sl_kernel_rfl) y).trans ?_
    unfold run
    frame_out
    rfl)

theorem read9 (f : A.arg9.view.ty.Contents (Elt F)) :
    A.arg9.view.read (Elt F) (A.arg9.view.writes (Elt F) f (run A c i X b b' hc1 hc2 hc3 hc4 y9 y10).1.p9) = v9 X b' y9 := by
  cases b <;> cases b' <;> (
    refine (View.read_writes_eq_canon _ _ _ fun y => View.cover_of_tiledL _ S1x1x1024.size (by sl_kernel_rfl) y).trans ?_
    unfold run
    frame_out
    rfl)

theorem read10 (f : A.arg10.view.ty.Contents (Elt F)) :
    A.arg10.view.read (Elt F) (A.arg10.view.writes (Elt F) f (run A c i X b b' hc1 hc2 hc3 hc4 y9 y10).1.p10) = v10 X b y10 := by
  cases b <;> cases b' <;> (
    refine (View.read_writes_eq_canon _ _ _ fun y => View.cover_of_tiledL _ S1x1024.size (by sl_kernel_rfl) y).trans ?_
    unfold run
    frame_out
    rfl)

include hc1 hc2 hc3 hc4 in
/-- The run, with the results' contents. -/
theorem runs (E : Set ℕ) (K : PUnit → sProp 𝕄) :
    iprop(inputs A c X ∗ (∃ d, owns (c : Thread nD τ) A.arg7 fullShare d)
          ∗ (∃ d, owns (c : Thread nD τ) A.arg8 fullShare d)
          ∗ owns (c : Thread nD τ) A.arg9 fullShare y9
          ∗ owns (c : Thread nD τ) A.arg10 fullShare y10
          ∗ (iprop(inputs A c X ∗ owns (c : Thread nD τ) A.arg7 fullShare (v7 X)
            ∗ owns (c : Thread nD τ) A.arg8 fullShare (v8 X)
            ∗ owns (c : Thread nD τ) A.arg9 fullShare (v9 X b' y9)
            ∗ owns (c : Thread nD τ) A.arg10 fullShare (v10 X b y10)) -∗ K ⟨⟩))
        ⊢ wp frame (wpE (defs₀ (F := F)) Variants.none c none) E (body A i) K := by
  iintro ⟨HI, H7, H8, H9, H10, HK⟩
  iapply ((run A c i X b b' hc1 hc2 hc3 hc4 y9 y10).2 E K)
  isplitl [HI]; · iexact HI
  isplitl [H7]; · iexact H7
  isplitl [H8]; · iexact H8
  isplitl [H9]; · iexact H9
  isplitl [H10]; · iexact H10
  unfold written
  iintro ⟨HI, ⟨%f7, H7⟩, ⟨%f8, H8⟩, ⟨%f9, H9⟩, ⟨%f10, H10⟩⟩
  iapply HK
  unfold owns
  isplitl [HI]; · iexact HI
  isplitl [H7]
  · iexists _; isplitr
    swap; · iexact H7
    ipureintro; exact read7 A c i X b b' hc1 hc2 hc3 hc4 y9 y10 f7
  isplitl [H8]
  · iexists _; isplitr
    swap; · iexact H8
    ipureintro; exact read8 A c i X b b' hc1 hc2 hc3 hc4 y9 y10 f8
  isplitl [H9]
  · iexists _; isplitr
    swap; · iexact H9
    ipureintro; exact read9 A c i X b b' hc1 hc2 hc3 hc4 y9 y10 f9
  iexists _; isplitr
  swap; · iexact H10
  ipureintro; exact read10 A c i X b b' hc1 hc2 hc3 hc4 y9 y10 f10
end

end Cert.Kernel8Ideal.Hand

end
-- ==== Proof.DownBwdFrame.lean ====
module

public import proofs.«01_k».proof.Proof.DownBwdLeft
public import Idealize.ShloMosaic.Lib.Claim

/-! `ffn_down_bwd`: the results' buffers point by point, and the frame. -/

@[expose] public section

set_option maxRecDepth 16384

noncomputable section

namespace Cert.Kernel8Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs' blocks at a point. -/
def ins (c : Dev nD) (t : Fin cfg0.N) : Ins F :=
  ⟨iblk m c 0 t, iblk m c 1 t, iblk m c 2 t, iblk m c 3 t, iblk m c 4 t, iblk m c 5 t⟩

/-- The staging buffers at a point. -/
def args (t : Fin cfg0.N) : Args where
  arg1 := win0_0.stage (cfg0.slots t 0)
  h1 := hstage0_0 ((cfg0.slots t 0).cast nbuf0_0)
  arg2 := win0_1.stage (cfg0.slots t 1)
  h2 := hstage0_1 ((cfg0.slots t 1).cast nbuf0_1)
  arg3 := win0_2.stage (cfg0.slots t 2)
  h3 := hstage0_2 ((cfg0.slots t 2).cast nbuf0_2)
  arg4 := win0_3.stage (cfg0.slots t 3)
  h4 := hstage0_3 ((cfg0.slots t 3).cast nbuf0_3)
  arg5 := win0_4.stage (cfg0.slots t 4)
  h5 := hstage0_4 ((cfg0.slots t 4).cast nbuf0_4)
  arg6 := win0_5.stage (cfg0.slots t 5)
  h6 := hstage0_5 ((cfg0.slots t 5).cast nbuf0_5)
  arg7 := win0_6.stage (cfg0.slots t 6)
  h7 := hstage0_6 ((cfg0.slots t 6).cast nbuf0_6)
  arg8 := win0_7.stage (cfg0.slots t 7)
  h8 := hstage0_7 ((cfg0.slots t 7).cast nbuf0_7)
  arg9 := win0_8.stage (cfg0.slots t 8)
  h9 := hstage0_8 ((cfg0.slots t 8).cast nbuf0_8)
  arg10 := win0_9.stage (cfg0.slots t 9)
  h10 := hstage0_9 ((cfg0.slots t 9).cast nbuf0_9)

theorem cond : ∀ t : Fin cfg0.N, (k0_cond1 (grid0.coords t) = 1#1 ↔ decide (t.val ≤ 1) = true)
    ∧ (k0_cond2 (grid0.coords t) = 1#1 ↔ decide (t.val ≤ 1) = false) ∧ (k0_cond3 (grid0.coords t) = 1#1 ↔ decide (t.val = 0) = true)
    ∧ (k0_cond4 (grid0.coords t) = 1#1 ↔ decide (t.val = 0) = false) := by decide +kernel

/-- No window is ever idle. -/
theorem live : ∀ (w : Fin 10) (i : grid0.Coords), cfg0.idle w i = false := by decide +kernel

/-- What the two accumulators hold after a point. -/
def acc (c : Dev nD) : (n : ℕ) → n < cfg0.N → Vec F S1x1x1024 .f32 × Vec F S1x1024 .f32
  | 0, h => (v9 (ins m c ⟨0, h⟩) true (k0_pay1 (ins m c ⟨0, h⟩).x3), v10 (ins m c ⟨0, h⟩) true (ins m c ⟨0, h⟩).x3)
  | n + 1, h => (v9 (ins m c ⟨n + 1, h⟩) (decide (n = 0)) (acc c n (Nat.lt_of_succ_lt h)).1,
      v10 (ins m c ⟨n + 1, h⟩) false (acc c n (Nat.lt_of_succ_lt h)).2)

/-- The proof data: arrays as found, blocks in place, results as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => v7 (ins m c t)
    | ⟨7, _⟩ => v8 (ins m c t)
    | ⟨8, _⟩ => (acc m c t.val t.isLt).1
    | ⟨9, _⟩ => (acc m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = v7 (ins m c t) := by dsimp only [dats]
theorem after0_7 (c : Dev nD) (t : Fin cfg0.N) : (dats m 0 c).after 7 t = v8 (ins m c t) := by dsimp only [dats]
theorem after0_8 (c : Dev nD) (t : Fin cfg0.N) : (dats m 0 c).after 8 t = (acc m c t.val t.isLt).1 := by dsimp only [dats]
theorem after0_9 (c : Dev nD) (t : Fin cfg0.N) : (dats m 0 c).after 9 t = (acc m c t.val t.isLt).2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; rfl) t d).trans rfl

/-- A result that the point before did not write back holds what that point left. -/
theorem before0_8 (c : Dev nD) (t : Fin cfg0.N) (h : ¬ t.val ≤ 1) (d) :
    (dats m 0 c).before 8 t d = (acc m c (t.val - 1) (Nat.lt_of_le_of_lt (Nat.sub_le _ _) t.isLt)).1 := by
  rw [Dat.before_out_kept (dats m 0 c) 8 rfl t (by omega) ((by decide +kernel : ∀ t : Fin cfg0.N, ¬ t.val ≤ 1 → (cfg0.win 8).flush ⟨t.val - 1, Nat.lt_of_le_of_lt (Nat.sub_le _ _) t.isLt⟩ = false) t h)
    (live 8) (fun _ _ => rfl) d, after0_8]

theorem before0_9 (c : Dev nD) (t : Fin cfg0.N) (h : t.val ≠ 0) (d) :
    (dats m 0 c).before 9 t d = (acc m c (t.val - 1) (Nat.lt_of_le_of_lt (Nat.sub_le _ _) t.isLt)).2 := by
  rw [Dat.before_out_kept (dats m 0 c) 9 rfl t h ((by decide +kernel : ∀ t : Fin cfg0.N, (cfg0.win 9).flush ⟨t.val - 1, Nat.lt_of_le_of_lt (Nat.sub_le _ _) t.isLt⟩ = false) t)
    (live 9) (fun _ _ => rfl) d, after0_9]

theorem acc_8 (c : Dev nD) (t : Fin cfg0.N) (d) :
    v9 (ins m c t) (decide (t.val ≤ 1)) ((dats m 0 c).before 8 t d) = (acc m c t.val t.isLt).1 := by
  by_cases h : t.val ≤ 1
  · obtain ⟨_ | _ | n, hn⟩ := t
    · rfl
    · rfl
    · exact absurd h (by simp)
  · rw [before0_8 m c t h d]
    obtain ⟨_ | _ | n, hn⟩ := t
    · exact absurd (by simp) h
    · exact absurd (by simp) h
    · rfl

theorem acc_9 (c : Dev nD) (t : Fin cfg0.N) (d) :
    v10 (ins m c t) (decide (t.val = 0)) ((dats m 0 c).before 9 t d) = (acc m c t.val t.isLt).2 := by
  by_cases h : t.val = 0
  · obtain ⟨n, hn⟩ := t
    obtain rfl : n = 0 := h
    rfl
  · rw [before0_9 m c t h d]
    obtain ⟨_ | n, hn⟩ := t
    · exact absurd rfl h
    · rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (args t).arg1 fullShare ((dats m 0 c).before 0 t d))
    ∗ (∃ d, owns (c : Thread nD τ) (args t).arg2 fullShare ((dats m 0 c).before 1 t d))
    ∗ (∃ d, owns (c : Thread nD τ) (args t).arg3 fullShare ((dats m 0 c).before 2 t d))
    ∗ (∃ d, owns (c : Thread nD τ) (args t).arg4 fullShare ((dats m 0 c).before 3 t d))
    ∗ (∃ d, owns (c : Thread nD τ) (args t).arg5 fullShare ((dats m 0 c).before 4 t d))
    ∗ (∃ d, owns (c : Thread nD τ) (args t).arg6 fullShare ((dats m 0 c).before 5 t d))
    ∗ (∃ d, owns (c : Thread nD τ) (args t).arg7 fullShare ((dats m 0 c).before 6 t d))
    ∗ (∃ d, owns (c : Thread nD τ) (args t).arg8 fullShare ((dats m 0 c).before 7 t d))
    ∗ (∃ d, owns (c : Thread nD τ) (args t).arg9 fullShare ((dats m 0 c).before 8 t d))
    ∗ (∃ d, owns (c : Thread nD τ) (args t).arg10 fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl]
  rw [show (dats m 0 c).Φ t.succ = (dats m 0 c).Φ t.castSucc from rfl]
  rw [leaves m c 0, leaves m c 1, leaves m c 2, leaves m c 3, leaves m c 4, leaves m c 5, leaves m c 6, leaves m c 7, leaves m c 8, leaves m c 9]
  rw [after0_0, after0_1, after0_2, after0_3, after0_4, after0_5, after0_6, after0_7, after0_8, after0_9]
  obtain ⟨h1, h2, h3, h4⟩ := cond t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runs (args t) c (grid0.coords t) (ins m c t) _ _ h1 h2 h3 h4 ((dats m 0 c).before 8 t d8)
    ((dats m 0 c).before 9 t d9) Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [H8]; · iexact H8
  isplitl [H9]; · iexact H9
  rw [acc_8, acc_9]
  iintro ⟨⟨H0, H1, H2, H3, H4, H5⟩, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The run: every result array as computed from the proof data, the arguments unchanged. -/
theorem run_blocks : θ_run defs (onTc (τ := τ) (main (F := F))) ⟨m, fun _ => 0, ρ⟩ fun r => (∀ c : Dev nD,
      (r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨⟨(h.1 c).1 6, (h.1 c).1 7, (h.1 c).1 8, (h.1 c).1 9⟩,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩)
    (run_main_quiescent m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h.1 c).2, h.2⟩) (run_blocks m ρ)

end Cert.Kernel8Ideal.Hand

end
-- ==== Proof.GateFwd.lean ====
module

public import proofs.«01_k».proof.Proof.NormGrad

/-! Forward: a product with weights, its norm, the gate and what the rows already had; and the feed-forward's hidden rows. -/

@[expose] public section

noncomputable section

open Idealize.ShloMosaic

namespace Cert.GateFwd

/-- The product with the weights. -/
def prod {N : ℕ} (f : Fin 4352 → Fin N → EReal) (B : (⟨2, ![N, 1024]⟩ : Shape).Idx → EReal) : (⟨2, ![4352, 1024]⟩ : Shape).Idx → EReal :=
  fun y => ∑ k : Fin N, f (y 0) k * B (ix2 k (y 1))

section
variable (Z : (⟨2, ![4352, 1024]⟩ : Shape).Idx → EReal) (w : (⟨2, ![1, 1024]⟩ : Shape).Idx → EReal)
  (M : (⟨3, ![2, 6, 1024]⟩ : Shape).Idx → EReal) (R : (⟨2, ![4352, 1024]⟩ : Shape).Idx → EReal) (q : Fin 6)

/-- The gated norm, added to what the rows already had. -/
def x (i : Fin 4352) (j : Fin 1024) : EReal := R (ix2 i j) + M (ix3 (NormGrad.seg i) q j) * (NormGrad.y Z i j * w (ix2 0 j))
@[inherit_doc x] def gX : (⟨2, ![4352, 1024]⟩ : Shape).Idx → EReal := fun y => x Z w M R q (y 0) (y 1)
end

section
variable (U : (⟨2, ![4352, 5632]⟩ : Shape).Idx → EReal) (i : Fin 4352) (k : Fin 2816)

/-- The gate's half of a row, and the other. -/
def ga : EReal := U (ix2 i ⟨k.val, by omega⟩)
@[inherit_doc ga] def up : EReal := U (ix2 i ⟨2816 + k.val, by omega⟩)
/-- The gate's sigmoid. -/
def sg : EReal := Ideal.div 1 (1 + Ideal.exp (-ga U i k))
/-- The hidden rows. -/
def act : EReal := ga U i k * sg U i k * up U i k
@[inherit_doc act] def gA : (⟨2, ![4352, 2816]⟩ : Shape).Idx → EReal := fun y => act U (y 0) (y 1)
end

end Cert.GateFwd
end
-- ==== Proof.GateGrad.lean ====
module

public import proofs.«01_k».proof.Proof.NormGrad
public import proofs.«01_k».proof.Proof.GateFwd

/-! The gradient through a gated norm, the product before it and the gated activation before that: 4352 rows of 1024, the first
256 gated by one row, the others by another. -/

@[expose] public section

noncomputable section

open Idealize.ShloMosaic

namespace Cert.GateGrad

section
variable (D Z : (⟨2, ![4352, 1024]⟩ : Shape).Idx → EReal) (w : (⟨2, ![1, 1024]⟩ : Shape).Idx → EReal)
  (M : (⟨3, ![2, 6, 1024]⟩ : Shape).Idx → EReal) (q : Fin 6) (i : Fin 4352) (j : Fin 1024)

/-- The gradient at the weighted norm, and at the norm before its weights. -/
def g0 : EReal := M (ix3 (NormGrad.seg i) q j) * D (ix2 i j)
@[inherit_doc g0] def g : EReal := g0 D M q i j * w (ix2 0 j)
/-- The gradient at the sum of the squares, halved. -/
def s : EReal := ∑ _x : Fin 1, Ideal.div ((∑ x : Fin 1024, Z (ix2 i x) * g D w M q i x)
  * (Ideal.ofBits .f32 3204448256#32 * Ideal.div (Ideal.rsqrt (NormGrad.ve Z i)) (NormGrad.ve Z i))) (Ideal.ofBits .f32 1149239296#32)
/-- The gradient at the rows before the norm. -/
def dz : EReal := g D w M q i j * Ideal.rsqrt (NormGrad.ve Z i) + Z (ix2 i j) * s D Z w M q i + s D Z w M q i * Z (ix2 i j)
@[inherit_doc dz] def gZ : (⟨2, ![4352, 1024]⟩ : Shape).Idx → EReal := fun y => dz D Z w M q (y 0) (y 1)
/-- A row's part of the gate's gradient, and of the weights'. -/
def fg : EReal := D (ix2 i j) * (NormGrad.y Z i j * w (ix2 0 j))
@[inherit_doc fg] def fw : EReal := NormGrad.y Z i j * g0 D M q i j
end

/-- The gradient at the rows that the product takes. -/
def da {N : ℕ} (f : Fin 4352 → Fin 1024 → EReal) (B : (⟨2, ![N, 1024]⟩ : Shape).Idx → EReal) (i : Fin 4352) (k : Fin N) : EReal :=
  ∑ j : Fin 1024, f i j * B (ix2 k j)
@[inherit_doc da] def gA {N : ℕ} (f : Fin 4352 → Fin 1024 → EReal) (B : (⟨2, ![N, 1024]⟩ : Shape).Idx → EReal) :
    (⟨2, ![4352, N]⟩ : Shape).Idx → EReal := fun y => da f B (y 0) (y 1)

section
variable (d : Fin 4352 → Fin 2816 → EReal) (U : (⟨2, ![4352, 5632]⟩ : Shape).Idx → EReal) (i : Fin 4352) (k : Fin 2816)

/-- The gradient at the activation's gate, and at its other half. -/
def dg : EReal := d i k * GateFwd.up U i k * GateFwd.sg U i k
  + GateFwd.ga U i k * (d i k * GateFwd.up U i k) * (GateFwd.sg U i k * (1 - GateFwd.sg U i k))
@[inherit_doc dg] def du : EReal := GateFwd.ga U i k * GateFwd.sg U i k * d i k
end

/-- The two side by side. -/
def dU (d : Fin 4352 → Fin 2816 → EReal) (U : (⟨2, ![4352, 5632]⟩ : Shape).Idx → EReal) (i : Fin 4352) (k : Fin 5632) : EReal :=
  if h : k.val < 2816 then dg d U i ⟨k.val, h⟩ else du d U i ⟨k.val - 2816, by omega⟩
@[inherit_doc dU] def gU (d : Fin 4352 → Fin 2816 → EReal) (U : (⟨2, ![4352, 5632]⟩ : Shape).Idx → EReal) :
    (⟨2, ![4352, 5632]⟩ : Shape).Idx → EReal := fun y => dU d U (y 0) (y 1)

/-- The sigmoid's derivative, through its exponential and through itself. -/
theorem sg_grad (x : EReal) : Ideal.div 1 ((1 + Ideal.exp (-x)) * (1 + Ideal.exp (-x))) * Ideal.exp (-x)
    = Ideal.div 1 (1 + Ideal.exp (-x)) * (1 - Ideal.div 1 (1 + Ideal.exp (-x))) := by
  induction x using EReal.rec with
  | bot =>
    have h : (1 : EReal) + ⊤ = ⊤ := EReal.add_top_of_ne_bot (EReal.coe_ne_bot 1)
    simp [h, Ideal.div]
  | top =>
    have h : (1 : EReal) - 1 = 0 := by rw [← EReal.coe_one, ← EReal.coe_sub, sub_self, EReal.coe_zero]
    simp [h, Ideal.div]
  | coe x =>
    have hp : 0 < 1 + Real.exp (-x) := by positivity
    have h : (1 : EReal) + Ideal.exp (-(x : EReal)) = ((1 + Real.exp (-x) : ℝ) : EReal) := by
      rw [← EReal.coe_neg, Ideal.exp_coe, ← EReal.coe_one, ← EReal.coe_add]
    rw [h, ← EReal.coe_mul, Ideal.div_coe hp.ne', Ideal.div_coe (mul_pos hp hp).ne', ← EReal.coe_neg, Ideal.exp_coe, ← EReal.coe_one]
    rw [← EReal.coe_mul, ← EReal.coe_mul, ← EReal.coe_mul, ← EReal.coe_sub, ← EReal.coe_mul]
    congr 1
    field_simp
    ring

theorem dg_eq (d g u : EReal) : d * u * Ideal.div 1 (1 + Ideal.exp (-g))
      + g * (d * u) * Ideal.div 1 ((1 + Ideal.exp (-g)) * (1 + Ideal.exp (-g))) * Ideal.exp (-g)
    = d * u * Ideal.div 1 (1 + Ideal.exp (-g))
      + g * (d * u) * (Ideal.div 1 (1 + Ideal.exp (-g)) * (1 - Ideal.div 1 (1 + Ideal.exp (-g)))) := by
  rw [mul_assoc (g * (d * u)), sg_grad]

end Cert.GateGrad
end
-- ==== Proof.DownBwd.lean ====
module

public import proofs.«01_k».proof.Proof.DownBwdFrame
public import proofs.«01_k».proof.Proof.GateGrad
public import Idealize.ShloMosaic.Lib.Pointwise
public import Idealize.ShloMosaic.Lib.Pipeline.ValueKit
public import Idealize.ShloMosaic.Lib.Pipeline.ReadBack
public import Idealize.ShloMosaic.Lib.Claim

/-! `ffn_down_bwd`: what the kernel leaves in its results. -/

@[expose] public section

set_option maxRecDepth 16384

noncomputable section

open Idealize.ShloMosaic Idealize.ShloMosaic.TcCoe Idealize.SL.Sem
open Idealize.ShloMosaic.Pipeline (Dat)

namespace Cert.DownBwd

open Cert.Kernel8Ideal Cert.Kernel8Ideal.Gen Cert.Kernel8Ideal.Hand

/-- Where every window's block lies. -/
theorem idx : ∀ t : Fin cfg0.N, win0_0.index t = ![t.val, 0] ∧ win0_1.index t = ![t.val, 0] ∧ win0_2.index t = ![min t.val 1, 0, 0] ∧ win0_3.index t = ![0, 0] ∧ win0_4.index t = ![0, 0] ∧ win0_5.index t = ![t.val, 0] ∧ win0_6.index t = ![t.val, 0] ∧ win0_7.index t = ![t.val, 0] ∧ win0_8.index t = ![min t.val 1, 0, 0] ∧ win0_9.index t = ![0, 0] :=
  (by decide +kernel : ∀ t : Fin grid0.N, _)

/-- Where the gate's gradient leaves. -/
theorem ends : ∀ t : Fin cfg0.N, (cfg0.win 8).flush t = true → t.val = 0 ∨ t.val = 16 := (by decide +kernel : ∀ t : Fin grid0.N, _)

section
variable (x : FVec Ideal S1x1024 .f32) (j : Fin 1024)

/-- What a block's part becomes, at the first of the sum's blocks and at the others. -/
theorem pay_first : k0_pay1 x (ix3 0 0 j) = x (ix2 0 j) := by
  unfold k0_pay1
  pointwise
@[inherit_doc pay_first] theorem pay_gate (y : Vec Ideal S1x1x1024 .f32) : k0_pay2 x y (ix3 0 0 j) = y (ix3 0 0 j) + x (ix2 0 j) := by
  unfold k0_pay2
  pointwise
@[inherit_doc pay_first] theorem pay_weights (y : Vec Ideal S1x1024 .f32) : k0_pay3 x y (ix2 0 j) = y (ix2 0 j) + x (ix2 0 j) := by
  unfold k0_pay3
  pointwise
end

section
variable (m : (ℓ : Loc nD τ sig) → Buf (Elt Ideal) ℓ) (c : Dev nD)

/-- The kernel's arrays. -/
abbrev aD : S4352x1024.Idx → EReal := m ((c.tc : Thread nD τ).loc main_arg0)
@[inherit_doc aD] abbrev aZ : S4352x1024.Idx → EReal := m ((c.tc : Thread nD τ).loc main_arg1)
@[inherit_doc aD] abbrev aM : S2x6x1024.Idx → EReal := m ((c.tc : Thread nD τ).loc main_arg2)
@[inherit_doc aD] abbrev aw : S1x1024.Idx → EReal := m ((c.tc : Thread nD τ).loc main_arg3)
@[inherit_doc aD] abbrev aB : S2816x1024.Idx → EReal := m ((c.tc : Thread nD τ).loc main_arg4)
@[inherit_doc aD] abbrev aU : S4352x5632.Idx → EReal := m ((c.tc : Thread nD τ).loc main_arg5)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 : (ins m c t).x0 (ix2 r j) = aD m c (ix2 (row t r) j) := by
  change iblk m c 0 t (ix2 r j) = _
  unfold row
  blk_ext [iblk, V, idx t]

theorem blk1 : (ins m c t).x1 (ix2 r j) = aZ m c (ix2 (row t r) j) := by
  change iblk m c 1 t (ix2 r j) = _
  unfold row
  blk_ext [iblk, V, idx t]

theorem seg_row : NormGrad.seg (row t r) = ⟨min t.val 1, by omega⟩ := by
  have h := r.isLt
  unfold NormGrad.seg row
  apply Fin.ext
  dsimp only
  split <;> simp <;> omega

theorem blk2 (q : Fin 6) : (ins m c t).x2 (ix3 0 q j) = aM m c (ix3 (NormGrad.seg (row t r)) q j) := by
  rw [seg_row]
  change iblk m c 2 t (ix3 0 q j) = _
  blk_ext [iblk, V, idx t]

theorem blk3 : (ins m c t).x3 (ix2 0 j) = aw m c (ix2 0 j) := by
  change iblk m c 3 t (ix2 0 j) = _
  blk_ext [iblk, V, idx t]

theorem blk4 (k : Fin 2816) : (ins m c t).x4 (ix2 k j) = aB m c (ix2 k j) := by
  change iblk m c 4 t (ix2 k j) = _
  blk_ext [iblk, V, idx t]

theorem blk5 (k : Fin 5632) : (ins m c t).x5 (ix2 r k) = aU m c (ix2 (row t r) k) := by
  change iblk m c 5 t (ix2 r k) = _
  unfold row
  blk_ext [iblk, V, idx t]

theorem gt_blk : gt (ins m c t) (ix3 0 0 j) = aM m c (ix3 (NormGrad.seg (row t r)) 5 j) := by
  refine Eq.trans ?_ (blk2 m c t r j 5)
  unfold gt
  pointwise

theorem ve_blk (z : Fin 1) : k0_pay4 (F := Ideal) (ins m c t).x1 (ix2 r z) = NormGrad.ve (aZ m c) (row t r) := by
  unfold k0_pay4
  pointwise
  simp only [blk1]
  rfl

theorem y_blk : k0_pay6 (F := Ideal) (ins m c t).x1 (ix2 r j) = NormGrad.y (aZ m c) (row t r) j := by
  unfold k0_pay6 k0_pay5
  pointwise
  rw [ve_blk, blk1]
  rfl

theorem g0_blk : k0_pay7 (gt (ins m c t)) (ins m c t).x0 (ix2 r j) = GateGrad.g0 (aD m c) (aM m c) 5 (row t r) j := by
  unfold k0_pay7
  pointwise
  rw [gt_blk m c t r, blk0]
  rfl

theorem g_blk : k0_pay10 (gt (ins m c t)) (ins m c t).x3 (ins m c t).x0 (ix2 r j) = GateGrad.g (aD m c) (aw m c) (aM m c) 5 (row t r) j := by
  unfold k0_pay10
  pointwise
  rw [g0_blk, blk3]
  rfl

theorem g1_blk : g1 (ins m c t) (ix2 r j)
    = GateGrad.g (aD m c) (aw m c) (aM m c) 5 (row t r) j * Ideal.rsqrt (NormGrad.ve (aZ m c) (row t r)) := by
  unfold g1 k0_pay11 k0_pay5
  pointwise
  rw [g_blk, ve_blk]

theorem g2_blk : g2 (ins m c t) (ix2 r j) = GateGrad.s (aD m c) (aZ m c) (aw m c) (aM m c) 5 (row t r) := by
  unfold g2 k0_pay12 k0_pay5
  pointwise
  simp only [g_blk, ve_blk, blk1]
  rfl

theorem dz_blk : k0_pay13 (ins m c t).x1 (g1 (ins m c t)) (g2 (ins m c t)) (ix2 r j)
    = GateGrad.dz (aD m c) (aZ m c) (aw m c) (aM m c) 5 (row t r) j := by
  unfold k0_pay13
  pointwise
  rw [g1_blk, g2_blk, blk1]
  rfl

theorem da_blk (k : Fin 2816) : k0_pay14 (ins m c t).x1 (g1 (ins m c t)) (g2 (ins m c t)) (ins m c t).x4 (ix2 r k)
    = GateGrad.da (GateGrad.dz (aD m c) (aZ m c) (aw m c) (aM m c) 5) (aB m c) (row t r) k := by
  unfold k0_pay14
  pointwise
  exact Finset.sum_congr rfl fun x _ => by rw [dz_blk, blk4]

/-- A block's parts of the two sums. -/
theorem tg : k0_pay8 (ins m c t).x1 (ins m c t).x3 (ins m c t).x0 (ix2 0 j)
    = ∑ x ∈ Finset.range 256, NormGrad.lift (fun i => GateGrad.fg (aD m c) (aZ m c) (aw m c) i j) (256 * t.val + x) := by
  unfold k0_pay8
  pointwise
  refine NormGrad.lift_block _ _ (Nat.lt_of_lt_of_eq t.isLt N_0) _ fun r => ?_
  rw [y_blk, blk0, blk3]
  rfl

@[inherit_doc tg] theorem tw : k0_pay9 (ins m c t).x1 (gt (ins m c t)) (ins m c t).x0 (ix2 0 j)
    = ∑ x ∈ Finset.range 256, NormGrad.lift (fun i => GateGrad.fw (aD m c) (aZ m c) (aM m c) 5 i j) (256 * t.val + x) := by
  unfold k0_pay9
  pointwise
  refine NormGrad.lift_block _ _ (Nat.lt_of_lt_of_eq t.isLt N_0) _ fun r => ?_
  rw [y_blk, g0_blk]
  rfl

/-- The gate's gradient over the segment's rows, and the norm weights' over the rows so far. -/
theorem sumg (h : t.val = 0 ∨ t.val = 16) : (acc m c t.val t.isLt).1 (ix3 0 0 j)
    = NormGrad.part (fun i => GateGrad.fg (aD m c) (aZ m c) (aw m c) i j) ⟨min t.val 1, by omega⟩ := by
  refine NormGrad.sums_part cfg0.N (fun n h => (acc m c n h).1 (ix3 0 0 j)) _ (fun h => ?_) (fun h => ?_) (fun n h => ?_) t.val t.isLt h
  · exact (pay_first _ j).trans ((tg m c ⟨0, h⟩ j).trans (by simp only [Nat.mul_zero, Nat.zero_add]))
  · exact (pay_first _ j).trans (tg m c ⟨1, h⟩ j)
  · exact (pay_gate _ j _).trans (congrArg _ (tg m c ⟨n + 2, h⟩ j))

@[inherit_doc sumg] theorem sumw (n : ℕ) (h : n < cfg0.N) : (acc m c n h).2 (ix2 0 j)
    = ∑ x ∈ Finset.range (256 * (n + 1)), NormGrad.lift (fun i => GateGrad.fw (aD m c) (aZ m c) (aM m c) 5 i j) x := by
  refine NormGrad.sums cfg0.N (fun n h => (acc m c n h).2 (ix2 0 j)) _ (fun h => ?_) (fun n h => ?_) n h
  · exact (tw m c ⟨0, h⟩ j).trans (by simp only [Nat.mul_zero, Nat.zero_add])
  · exact (pay_weights _ j _).trans (congrArg _ (tw m c ⟨n + 1, h⟩ j))

theorem dg_blk (k : Fin 2816) : Hand.dg (ins m c t) (ix2 r k)
    = GateGrad.dg (GateGrad.da (GateGrad.dz (aD m c) (aZ m c) (aw m c) (aM m c) 5) (aB m c)) (aU m c) (row t r) k := by
  unfold Hand.dg k0_pay19 k0_pay18 k0_pay17 k0_pay16 k0_pay15
  pointwise
  simp only [da_blk, blk5, zero_sub, mul_one, neg_mul, neg_neg]
  exact GateGrad.dg_eq _ _ _

theorem du_blk (k : Fin 2816) : Hand.du (ins m c t) (ix2 r k)
    = GateGrad.du (GateGrad.da (GateGrad.dz (aD m c) (aZ m c) (aw m c) (aM m c) 5) (aB m c)) (aU m c) (row t r) k := by
  unfold Hand.du k0_pay20 k0_pay18 k0_pay17 k0_pay16 k0_pay15
  pointwise
  simp only [da_blk, blk5, zero_sub]
  rfl

theorem dU_blk (k : Fin 5632) : v7 (ins m c t) (ix2 r k)
    = GateGrad.dU (GateGrad.da (GateGrad.dz (aD m c) (aZ m c) (aw m c) (aM m c) 5) (aB m c)) (aU m c) (row t r) k := by
  unfold v7 p7
  canon_tiles x hx
  all_goals obtain ⟨a, b, rfl⟩ : ∃ (a : Fin 256) (b : Fin 2816), x = ix2 a b := ⟨x 0, x 1, by idx_vars x⟩
  all_goals obtain rfl : r = a := Fin.ext hx0
  · have h : k.val = 2816 + b.val := hx1
    refine (du_blk m c t r b).trans (Eq.symm ?_)
    unfold GateGrad.dU
    rw [dif_neg (by omega)]
    exact congrArg _ (Fin.ext (by dsimp only; omega))
  · have h : k.val = b.val := hx1
    refine (dg_blk m c t r b).trans (Eq.symm ?_)
    unfold GateGrad.dU
    rw [dif_pos (by omega)]
    exact congrArg _ (Fin.ext h)

/-- What the kernel leaves. -/
abbrev gA : S4352x5632.Idx → EReal :=
  GateGrad.gU (GateGrad.da (GateGrad.dz (aD m c) (aZ m c) (aw m c) (aM m c) 5) (aB m c)) (aU m c)
@[inherit_doc gA] abbrev gZ : S4352x1024.Idx → EReal := GateGrad.gZ (aD m c) (aZ m c) (aw m c) (aM m c) 5
@[inherit_doc gA] abbrev gG : S2x1x1024.Idx → EReal := NormGrad.gPart (GateGrad.fg (aD m c) (aZ m c) (aw m c))
@[inherit_doc gA] abbrev gW : S1x1024.Idx → EReal := NormGrad.gNw (GateGrad.fw (aD m c) (aZ m c) (aM m c) 5)

theorem finalA : (dats m 0 c).arrAt 6 cfg0.N = gA m c := by
  refine (dats m 0 c).arrAt_eq_of_covers 6 _ (by decide +kernel) fun t hf y => ?_
  blk_simp
  rw [after0_6]
  obtain ⟨r, j, rfl⟩ : ∃ (i : Fin 256) (j : Fin 5632), y = ix2 i j := ⟨y 0, y 1, by idx_vars y⟩
  refine (dU_blk m c t r j).trans (Eq.trans (b := gA m c (ix2 (row t r) j)) rfl (Eq.symm ?_))
  unfold row
  blk_ext [idx t]

theorem finalZ : (dats m 0 c).arrAt 7 cfg0.N = gZ m c := by
  refine (dats m 0 c).arrAt_eq_of_covers 7 _ (by decide +kernel) fun t hf y => ?_
  blk_simp
  rw [after0_7]
  obtain ⟨r, j, rfl⟩ : ∃ (i : Fin 256) (j : Fin 1024), y = ix2 i j := ⟨y 0, y 1, by idx_vars y⟩
  refine (dz_blk m c t r j).trans (Eq.trans (b := gZ m c (ix2 (row t r) j)) rfl (Eq.symm ?_))
  unfold row
  blk_ext [idx t]

theorem finalG : (dats m 0 c).arrAt 8 cfg0.N = gG m c := by
  refine (dats m 0 c).arrAt_eq_of_covers 8 _ (by decide +kernel) fun t hf y => ?_
  blk_simp
  rw [after0_8]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sumg m c t j (ends t hf)).trans (Eq.trans (b := gG m c (ix3 ⟨min t.val 1, by omega⟩ 0 j)) rfl (Eq.symm ?_))
  blk_ext [idx t]

theorem finalW : (dats m 0 c).arrAt 9 cfg0.N = gW m c := by
  refine (dats m 0 c).arrAt_eq_of_covers 9 _ (by decide +kernel) fun t hf y => ?_
  blk_simp
  rw [after0_9]
  obtain ⟨r, j, rfl⟩ : ∃ (i : Fin 1) (j : Fin 1024), y = ix2 i j := ⟨y 0, y 1, by idx_vars y⟩
  obtain rfl : r = 0 := Subsingleton.elim _ _
  have h : t.val = 16 := by
    have hN : t.val < 17 := Nat.lt_of_lt_of_eq t.isLt N_0
    have h := (flush0_9 t).mp hf
    omega
  refine (sumw m c j t.val t.isLt).trans ?_
  rw [h, NormGrad.lift_sum]
  refine Eq.trans (b := gW m c (ix2 0 j)) rfl (Eq.symm ?_)
  blk_ext [idx t]

end

end Cert.DownBwd
end
-- ==== Proof.DownBwdRef.lean ====
module

public import proofs.«01_k».proof.Proof.Gen.Reference8Ideal.Run
public import proofs.«01_k».proof.Proof.GateGrad
public import Idealize.ShloMosaic.Lib.Pointwise
public import Idealize.ShloMosaic.Lib.Pipeline.ValueKit

/-! `ffn_down_bwd`: what the reference leaves in its results. -/

@[expose] public section

set_option maxRecDepth 16384

noncomputable section

open Idealize.ShloMosaic Idealize.ShloMosaic.TcCoe Idealize.SL.Sem

namespace Cert.DownBwd.Ref

open Cert.Reference8Ideal Cert.Reference8Ideal.Gen

section
variable (D : FVec Ideal S4352x1024 .f32) (Z : FVec Ideal S4352x1024 .f32) (M : FVec Ideal S2x6x1024 .f32) (w : FVec Ideal S1x1024 .f32)
  (B : FVec Ideal S2816x1024 .bf16) (U : FVec Ideal S4352x5632 .bf16)

/-- The terms of the reference. -/
def sc (o : Fin 2) : FVec Ideal S1x1024 .f32 := match o with
  | 0 => shapeCast _ (extractStridedSlice S1x1x1024 ![0, 0, 0] (extractStridedSlice S2x1x1024 ![0, 5, 0] M slices_S2x6x1024_S2x1x1024_0_5_0) slices_S2x1x1024_S1x1x1024_0_0_0) shapeCasts_S1x1x1024_S1x1024
  | 1 => shapeCast _ (extractStridedSlice S1x1x1024 ![1, 0, 0] (extractStridedSlice S2x1x1024 ![0, 5, 0] M slices_S2x6x1024_S2x1x1024_0_5_0) slices_S2x1x1024_S1x1x1024_1_0_0) shapeCasts_S1x1x1024_S1x1024
@[inherit_doc sc] def gt : FVec Ideal S4352x1024 .f32 := concatenate S4352x1024 0 [⟨S256x1024, (broadcastInDim S256x1024 ![0, 1] bcast_S1x1024_S256x1024_0_1 (sc M 0))⟩, ⟨S4096x1024, (broadcastInDim S4096x1024 ![0, 1] bcast_S1x1024_S4096x1024_0_1 (sc M 1))⟩] concatenates_S256x1024_S4096x1024_S4352x1024_d0
@[inherit_doc sc] def ve : FVec Ideal S4352x1 .f32 := addf (Host.divf (broadcastInDim S4352x1 ![0] bcast_S4352_S4352x1_0 (Host.reduceAdd (mulf Z Z) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc sc] def r : FVec Ideal S4352x1024 .f32 := broadcastInDim S4352x1024 ![0, 1] bcast_S4352x1_S4352x1024_0_1 (Host.rsqrt (ve Z))
@[inherit_doc sc] def wb : FVec Ideal S4352x1024 .f32 := broadcastInDim S4352x1024 ![0, 1] bcast_S1x1024_S4352x1024_0_1 w
@[inherit_doc sc] def g : FVec Ideal S4352x1024 .f32 := mulf (mulf (gt M) D) (wb w)
@[inherit_doc sc] def s : FVec Ideal S4352x1024 .f32 := broadcastInDim S4352x1024 ![0] bcast_S4352_S4352x1024_0 (Host.reduceAdd (Host.divf (mulf (shapeCast _ (Host.reduceAdd (mulf Z (g D M w)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ve Z)) (ve Z)))) (broadcastInDim S4352x1 ![] bcast_S_S4352x1 (constant S_ .f32 0x44800000#32))) (constant S_ .f32 0x00000000#32) reducesTo_S4352x1_S4352_d1 h_S_)
@[inherit_doc sc] def dz : FVec Ideal S4352x1024 .f32 := addf (addf (mulf (g D M w) (r Z)) (mulf Z (s D Z M w))) (mulf (s D Z M w) Z)
@[inherit_doc sc] def da : FVec Ideal S4352x2816 .f32 := Host.dotGeneral dot_S4352x1024_S2816x1024_S4352x2816_1_1_0_0_n_n none (dz D Z M w) (extf .f32 B bitsLt_bf16_f32)
@[inherit_doc sc] def fg : FVec Ideal S4352x1024 .f32 := mulf D (mulf (mulf Z (r Z)) (wb w))
/-- The results. -/
def dZ : FVec Ideal S4352x1024 .bf16 := truncf .bf16 (dz D Z M w) bitsLt_bf16_f32
@[inherit_doc dZ] def dG : FVec Ideal S2x1x1024 .f32 := addf (pad S2x1x1024 ![1, 0, 0] ![0, 0, 0] ![0, 0, 0] (broadcastInDim S1x1x1024 ![1, 2] bcast_S1x1024_S1x1x1024_1_2 (broadcastInDim S1x1024 ![1] bcast_S1024_S1x1024_1 (Host.reduceAdd (extractStridedSlice S4096x1024 ![256, 0] (fg D Z w) slices_S4352x1024_S4096x1024_256_0) (constant S_ .f32 0x00000000#32) reducesTo_S4096x1024_S1024_d0 h_S_))) (constant S_ .f32 0x00000000#32) pads_S1x1x1024_S2x1x1024_100_000_000 h_S_) (pad S2x1x1024 ![0, 0, 0] ![1, 0, 0] ![0, 0, 0] (broadcastInDim S1x1x1024 ![1, 2] bcast_S1x1024_S1x1x1024_1_2 (broadcastInDim S1x1024 ![1] bcast_S1024_S1x1024_1 (Host.reduceAdd (extractStridedSlice S256x1024 ![0, 0] (fg D Z w) slices_S4352x1024_S256x1024_0_0) (constant S_ .f32 0x00000000#32) reducesTo_S256x1024_S1024_d0 h_S_))) (constant S_ .f32 0x00000000#32) pads_S1x1x1024_S2x1x1024_010_000_000 h_S_)
@[inherit_doc dZ] def dW : FVec Ideal S1x1024 .f32 := shapeCast _ (Host.reduceAdd (mulf (mulf Z (r Z)) (mulf (gt M) D)) (constant S_ .f32 0x00000000#32) reducesTo_S4352x1024_S1024_d0 h_S_) shapeCasts_S1024_S1x1024
@[inherit_doc sc] def ga : FVec Ideal S4352x2816 .f32 := extractStridedSlice S4352x2816 ![0, 0] (extf .f32 U bitsLt_bf16_f32) slices_S4352x5632_S4352x2816_0_0
@[inherit_doc sc] def up : FVec Ideal S4352x2816 .f32 := extractStridedSlice S4352x2816 ![0, 2816] (extf .f32 U bitsLt_bf16_f32) slices_S4352x5632_S4352x2816_0_2816
@[inherit_doc sc] def one : FVec Ideal S4352x2816 .f32 := broadcastInDim S4352x2816 ![] bcast_S_S4352x2816 (constant S_ .f32 0x3F800000#32)
@[inherit_doc sc] def sg : FVec Ideal S4352x2816 .f32 := Host.divf one (addf one (Host.exp (Host.negf (ga U))))
@[inherit_doc sc] def dg : FVec Ideal S4352x2816 .f32 := addf (mulf (mulf (da D Z M w B) (up U)) (sg U)) (mulf (mulf (ga U) (mulf (da D Z M w B) (up U))) (mulf (sg U) (subf one (sg U))))
@[inherit_doc sc] def du : FVec Ideal S4352x2816 .f32 := mulf (mulf (ga U) (sg U)) (da D Z M w B)
@[inherit_doc dZ] def dU : FVec Ideal S4352x5632 .bf16 := truncf .bf16 (concatenate S4352x5632 1 [⟨S4352x2816, dg D Z M w B U⟩, ⟨S4352x2816, du D Z M w B U⟩] concatenates_S4352x2816_S4352x2816_S4352x5632_d1) bitsLt_bf16_f32

variable (i : Fin 4352) (j : Fin 1024)

theorem sc_at (o : Fin 2) : sc M o (ix2 0 j) = M (ix3 o 5 j) := by
  obtain rfl | rfl : o = 0 ∨ o = 1 := by omega
  · dsimp only [sc]
    pointwise
  · dsimp only [sc]
    pointwise

theorem gt_at : gt M (ix2 i j) = M (ix3 (NormGrad.seg i) 5 j) := by
  unfold gt NormGrad.seg
  pointwise
  split <;> rw [sc_at]

theorem ve_at (z : Fin 1) : ve Z (ix2 i z) = NormGrad.ve Z i := by
  unfold ve NormGrad.ve NormGrad.ms
  pointwise

theorem r_at : r Z (ix2 i j) = Ideal.rsqrt (NormGrad.ve Z i) := by
  unfold r
  pointwise
  rw [ve_at]

theorem wb_at : wb w (ix2 i j) = w (ix2 0 j) := by
  unfold wb
  pointwise

theorem g_at : g D M w (ix2 i j) = GateGrad.g D w M 5 i j := by
  unfold g GateGrad.g GateGrad.g0
  pointwise
  rw [gt_at, wb_at]

theorem s_at : s D Z M w (ix2 i j) = GateGrad.s D Z w M 5 i := by
  unfold s GateGrad.s
  pointwise
  simp only [g_at, ve_at]

theorem dz_at : dz D Z M w (ix2 i j) = GateGrad.dz D Z w M 5 i j := by
  unfold dz GateGrad.dz
  pointwise
  simp only [g_at, s_at, r_at]

theorem da_at (k : Fin 2816) : da D Z M w B (ix2 i k) = GateGrad.da (GateGrad.dz D Z w M 5) B i k := by
  unfold da GateGrad.da
  pointwise
  simp only [dz_at]

theorem fg_at : fg D Z w (ix2 i j) = GateGrad.fg D Z w i j := by
  unfold fg GateGrad.fg NormGrad.y
  pointwise
  rw [r_at, wb_at]

theorem dZ_at : dZ D Z M w (ix2 i j) = GateGrad.gZ D Z w M 5 (ix2 i j) := by
  refine Eq.trans ?_ (dz_at D Z M w i j)
  unfold dZ
  pointwise

theorem dG_at (k : Fin 2) : dG D Z w (ix3 k 0 j) = NormGrad.gPart (GateGrad.fg D Z w) (ix3 k 0 j) := by
  change _ = NormGrad.part (fun i => GateGrad.fg D Z w i j) k
  obtain rfl | rfl : k = 0 ∨ k = 1 := by omega
  · unfold dG NormGrad.part
    pointwise
    simp only [fg_at]
  · unfold dG NormGrad.part
    pointwise
    simp only [fg_at]

theorem dW_at : dW D Z M (ix2 0 j) = NormGrad.gNw (GateGrad.fw D Z M 5) (ix2 0 j) := by
  change _ = ∑ i, GateGrad.fw D Z M 5 i j
  unfold dW GateGrad.fw NormGrad.y GateGrad.g0
  pointwise
  simp only [r_at, gt_at]

theorem sg_at (k : Fin 2816) : sg U (ix2 i k) = GateFwd.sg U i k := by
  unfold sg one ga GateFwd.sg GateFwd.ga
  pointwise

theorem dg_at (k : Fin 2816) : dg D Z M w B U (ix2 i k) = GateGrad.dg (GateGrad.da (GateGrad.dz D Z w M 5) B) U i k := by
  unfold dg one ga up GateGrad.dg GateFwd.ga GateFwd.up
  pointwise
  simp only [da_at, sg_at]

theorem du_at (k : Fin 2816) : du D Z M w B U (ix2 i k) = GateGrad.du (GateGrad.da (GateGrad.dz D Z w M 5) B) U i k := by
  unfold du ga GateGrad.du GateFwd.ga
  pointwise
  simp only [da_at, sg_at]

theorem dU_at (k : Fin 5632) : dU D Z M w B U (ix2 i k) = GateGrad.gU (GateGrad.da (GateGrad.dz D Z w M 5) B) U (ix2 i k) := by
  change _ = GateGrad.dU (GateGrad.da (GateGrad.dz D Z w M 5) B) U i k
  unfold dU GateGrad.dU
  pointwise
  split
  · rw [dg_at]
  · rw [du_at]
end

end Cert.DownBwd.Ref
end
-- ==== Proof.DownBwdClaim.lean ====
module

public import proofs.«01_k».proof.Proof.DownBwd
public import proofs.«01_k».proof.Proof.DownBwdRef
public import proofs.«01_k».proof.Proof.Gen.Kernel8
public import proofs.«01_k».proof.Defs

/-! `ffn_down_bwd`: the claims. -/

@[expose] public section

set_option maxRecDepth 16384

noncomputable section

open Idealize.ShloMosaic Idealize.ShloMosaic.TcCoe Idealize.SL.Sem

namespace Cert.DownBwd

/-- Kernel and reference leave the same gradients. -/
theorem algebraic : Cert.algebraic_Kernel8Ideal_Reference8Ideal := by
  intro m g m' g' _ hag
  refine ⟨fun c => gA m c, fun c => gZ m c, fun c => gG m c, fun c => gW m c, ?_, ?_⟩
  · refine (θ_run Cert.Kernel8Ideal.defs _ _).mono (fun r h c => ?_) (Cert.Kernel8Ideal.Hand.run_blocks m g)
    obtain ⟨⟨hA, hZ, hG, hW⟩, ha⟩ := h.1 c
    exact ⟨hA.trans (finalA m c), hZ.trans (finalZ m c), hG.trans (finalG m c), hW.trans (finalW m c), ha⟩
  · refine (θ_run Cert.Reference8Ideal.defs _ _).mono (fun r h c => ?_) (Cert.Reference8Ideal.Value.run m' g')
    obtain ⟨hA, hZ, hG, hW, ha⟩ := h c
    obtain ⟨e0, e1, e2, e3, e4, e5⟩ := hag c
    refine ⟨hA.trans ?_, hZ.trans ?_, hG.trans ?_, hW.trans ?_, ha⟩
    · rw [Cert.Reference8Ideal.Value.res_main_v68, e0, e1, e2, e3, e4, e5]
      funext y
      obtain ⟨i, j, rfl⟩ : ∃ (i : Fin 4352) (j : Fin 5632), y = ix2 i j := ⟨y 0, y 1, by idx_vars y⟩
      exact Ref.dU_at (aD m c) (aZ m c) (aM m c) (aw m c) (aB m c) (aU m c) i j
    · rw [Cert.Reference8Ideal.Value.res_main_v69, e0, e1, e2, e3]
      funext y
      obtain ⟨i, j, rfl⟩ : ∃ (i : Fin 4352) (j : Fin 1024), y = ix2 i j := ⟨y 0, y 1, by idx_vars y⟩
      exact Ref.dZ_at (aD m c) (aZ m c) (aM m c) (aw m c) i j
    · rw [e0, e1, e3]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.dG_at (aD m c) (aZ m c) (aw m c) j k
    · rw [e0, e1, e2]
      funext y
      obtain ⟨i, j, rfl⟩ : ∃ (i : Fin 1) (j : Fin 1024), y = ix2 i j := ⟨y 0, y 1, by idx_vars y⟩
      obtain rfl : i = 0 := Subsingleton.elim _ _
      exact Ref.dW_at (aD m c) (aZ m c) (aM m c) j

section
set_option backward.isDefEq.respectTransparency false

/-- The two programs' bodies are one. -/
theorem defs₀_eq : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | 0, (t, s) => rfl

@[inherit_doc defs₀_eq] theorem defs_eq : Cert.Kernel8.defs (F := Bits) = Cert.Kernel8Ideal.defs (F := Bits) :=
  congrArg (Pipeline.defs (Cert.Kernel8Ideal.pcfgs (F := Bits))) defs₀_eq

theorem frame_kernel : Cert.quiescent_Kernel8 := fun m ρ _ => by
  rw [defs_eq]
  exact Cert.Kernel8Ideal.Hand.frame (F := Bits) m ρ
end

theorem frame_ideal : Cert.quiescent_Kernel8Ideal := fun m ρ _ => Cert.Kernel8Ideal.Hand.frame m ρ
theorem frame_reference : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

end Cert.DownBwd
end
-- ==== Proof.OutBwdRuns.lean ====
module

public import proofs.«01_k».proof.Proof.Gen.Kernel9Ideal.Points
public import proofs.«01_k».proof.Proof.Gen.Kernel9Ideal.Skeleton
public import proofs.«01_k».proof.Proof.Gen.Kernel9Ideal.Launch
public import Idealize.ShloMosaic.Lib.Claim
public import Idealize.ShloMosaic.Lib.Pipeline.FrameBody

/-! `out_proj_bwd`: what its body leaves in its staging buffers, at the first point, at the second and at any later one. -/

@[expose] public section

set_option maxRecDepth 16384

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- The staging buffers of a grid point, with their wholeness. -/
structure Args where
  arg1 : Memref sig .tc .vmem S256x1024 .f32
  h1 : arg1.IsWhole
  arg2 : Memref sig .tc .vmem S256x1024 .f32
  h2 : arg2.IsWhole
  arg3 : Memref sig .tc .vmem S1x6x1024 .f32
  h3 : arg3.IsWhole
  arg4 : Memref sig .tc .vmem S1x1024 .f32
  h4 : arg4.IsWhole
  arg5 : Memref sig .tc .vmem S1024x1024 .bf16
  h5 : arg5.IsWhole
  arg6 : Memref sig .tc .vmem S256x1024 .f32
  h6 : arg6.IsWhole
  arg7 : Memref sig .tc .vmem S256x1024 .bf16
  h7 : arg7.IsWhole
  arg8 : Memref sig .tc .vmem S1x1x1024 .f32
  h8 : arg8.IsWhole
  arg9 : Memref sig .tc .vmem S1x1024 .f32
  h9 : arg9.IsWhole

/-- The pieces that a run leaves in the four results. -/
structure Pieces (F : FTy → Type) where
  p6 : List (View.Piece (Elt F) S256x1024 .f32)
  p7 : List (View.Piece (Elt F) S256x1024 .bf16)
  p8 : List (View.Piece (Elt F) S1x1x1024 .f32)
  p9 : List (View.Piece (Elt F) S1x1024 .f32)

/-- The inputs' blocks. -/
structure Ins (F : FTy → Type) where
  x0 : Vec F S256x1024 .f32
  x1 : Vec F S256x1024 .f32
  x2 : Vec F S1x6x1024 .f32
  x3 : Vec F S1x1024 .f32
  x4 : Vec F S1024x1024 .bf16

variable (A : Args) (c : Dev nD) (i : grid0.Coords) (X : Ins F)

/-- The inputs' buffers at their blocks. -/
def inputs : sProp 𝕄 :=
  iprop(owns (c : Thread nD τ) A.arg1 fullShare X.x0
    ∗ owns (c : Thread nD τ) A.arg2 fullShare X.x1
    ∗ owns (c : Thread nD τ) A.arg3 fullShare X.x2
    ∗ owns (c : Thread nD τ) A.arg4 fullShare X.x3
    ∗ owns (c : Thread nD τ) A.arg5 fullShare X.x4)

/-- The results' buffers with the pieces written. -/
def written (P : Pieces F) : sProp 𝕄 :=
  iprop((∃ f, A.arg6.view.loc (c : Thread nD τ) ↦[A.arg6.view.set]{fullShare} A.arg6.view.writes (Elt F) f P.p6)
    ∗ (∃ f, A.arg7.view.loc (c : Thread nD τ) ↦[A.arg7.view.set]{fullShare} A.arg7.view.writes (Elt F) f P.p7)
    ∗ (∃ f, A.arg8.view.loc (c : Thread nD τ) ↦[A.arg8.view.set]{fullShare} A.arg8.view.writes (Elt F) f P.p8)
    ∗ (∃ f, A.arg9.view.loc (c : Thread nD τ) ↦[A.arg9.view.set]{fullShare} A.arg9.view.writes (Elt F) f P.p9))

/-- The body on these buffers. -/
abbrev body : Prog (TpuEff nD τ sig (Elt F) Λ₀ .tc) PUnit :=
  cc0_out_proj_bwd i A.arg1 A.h1 A.arg2 A.h2 A.arg3 A.h3 A.arg4 A.h4 A.arg5 A.h5 A.arg6 A.h6 A.arg7 A.h7 A.arg8 A.h8 A.arg9 A.h9

/-! What the body computes of the blocks. -/

/-- The gate's row of the block. -/
def gt : Vec F S1x1x1024 .f32 := View.ld X.x2 (Rect.unit (s := S1x6x1024) ![0, 2, 0] S1x1x1024.size inb_S1x6x1024_S1x1x1024_0_2_0)

/-- The rows' gradient: the part through the norm's rows, and through their mean square. -/
def g1 : FVec F S256x1024 .f32 := k0_pay13 X.x1 (gt X) X.x3 X.x0
@[inherit_doc g1] def g2 : FVec F S256x1024 .f32 := k0_pay14 X.x1 (gt X) X.x3 X.x0

/-- The gradient at the projection's result, and at what was projected. -/
def v7 : FVec F S256x1024 .bf16 := k0_pay1 X.x1 (g1 X) (g2 X)
@[inherit_doc v7] def v6 : FVec F S256x1024 .f32 := k0_pay2 X.x1 (g1 X) (g2 X) X.x4

/-- The gate's gradient, added to `y` unless the point is its segment's first. -/
def v8 (b : Bool) (y : Vec F S1x1x1024 .f32) : FVec F S1x1x1024 .f32 :=
  bif b then k0_pay3 (k0_pay10 X.x1 X.x3 X.x0) else k0_pay4 (k0_pay10 X.x1 X.x3 X.x0) y

/-- The norm weights' gradient, added to `y` unless the point is the first. -/
def v9 (b : Bool) (y : Vec F S1x1024 .f32) : FVec F S1x1024 .f32 :=
  bif b then k0_pay11 X.x1 (gt X) X.x0 else k0_pay5 (k0_pay11 X.x1 (gt X) X.x0) y

end Cert.Kernel9Ideal.Hand

end
-- ==== Proof.OutBwdRun.lean ====
module

public import proofs.«01_k».proof.Proof.OutBwdRuns

@[expose] public section

set_option maxRecDepth 16384

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

set_option maxHeartbeats 4000000 in
/-- The run: `b` says whether the point is the grid's first, `b'` whether it is its segment's first. -/
def run (A : Args) (c : Dev nD) (i : grid0.Coords) (X : Ins F) (b b' : Bool) (hc1 : k0_cond1 i = 1#1 ↔ b' = true)
    (hc2 : k0_cond2 i = 1#1 ↔ b' = false) (hc3 : k0_cond3 i = 1#1 ↔ b = true) (hc4 : k0_cond4 i = 1#1 ↔ b = false)
    (y8 : Vec F S1x1x1024 .f32) (y9 : Vec F S1x1024 .f32) :
    { P : Pieces F // ∀ (E : Set ℕ) (K : PUnit → sProp 𝕄),
      iprop(inputs A c X ∗ (∃ d, owns (c : Thread nD τ) A.arg6 fullShare d)
          ∗ (∃ d, owns (c : Thread nD τ) A.arg7 fullShare d)
          ∗ owns (c : Thread nD τ) A.arg8 fullShare y8
          ∗ owns (c : Thread nD τ) A.arg9 fullShare y9
          ∗ (iprop(inputs A c X ∗ written A c P) -∗ K ⟨⟩))
        ⊢ wp frame (wpE (defs₀ (F := F)) Variants.none c none) E (body A i) K } := by
  obtain ⟨arg1, harg1, arg2, harg2, arg3, harg3, arg4, harg4, arg5, harg5, arg6, harg6, arg7, harg7, arg8, harg8, arg9, harg9⟩ := A
  obtain ⟨x0, x1, x2, x3, x4⟩ := X
  cases b <;> cases b' <;> (
    simp only [Bool.false_eq_true, iff_false, iff_true, reduceCtorEq] at hc1 hc2 hc3 hc4
    refine ⟨⟨?_, ?_, ?_, ?_⟩, ?_⟩
    rotate_left 4
    · intro E K
      unfold inputs written body
      dsimp only
      simp only [cc0_out_proj_bwd_eq_skeleton]; unfold cc0_out_proj_bwd_skel
      simp only [k0_part1_eq_skeleton]
      unfold owns
      iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%f8, %hf8, H8⟩, Hk⟩
      obtain rfl := harg1.eq_unread hf0
      obtain rfl := harg2.eq_unread hf1
      obtain rfl := harg3.eq_unread hf2
      obtain rfl := harg4.eq_unread hf3
      obtain rfl := harg5.eq_unread hf4
      obtain rfl := harg8.eq_unread hf7
      obtain rfl := harg9.eq_unread hf8
      sl_exec (disch := first | sl_exact hc1 | sl_exact hc2 | sl_exact hc3 | sl_exact hc4)
      sl_step
      iapply Hk
      isplitl [H0 H1 H2 H3 H4]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        iexists _; isplitr; · ipureintro; exact harg5.read_unread _
        iexact H4
      isplitl [H5]; · iexists _; iexact H5
      isplitl [H6]; · iexists _; iexact H6
      isplitl [H7]; · iexists _; iexact H7
      iexists _; iexact H8)

end Cert.Kernel9Ideal.Hand

end
-- ==== Proof.OutBwdLeft.lean ====
module

public import proofs.«01_k».proof.Proof.OutBwdRun
public import Idealize.ShloMosaic.Lib.Pipeline.ValueKit
public import Idealize.ShloMosaic.Lib.Pipeline.ReadBack
public import Idealize.ShloMosaic.Lib.Ring

/-! `out_proj_bwd`: the pieces that the run leaves, read back. -/

@[expose] public section

set_option maxRecDepth 16384

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

section
variable (A : Args) (c : Dev nD) (i : grid0.Coords) (X : Ins F) (b b' : Bool) (hc1 : k0_cond1 i = 1#1 ↔ b' = true)
    (hc2 : k0_cond2 i = 1#1 ↔ b' = false) (hc3 : k0_cond3 i = 1#1 ↔ b = true) (hc4 : k0_cond4 i = 1#1 ↔ b = false)
    (y8 : Vec F S1x1x1024 .f32) (y9 : Vec F S1x1024 .f32)

theorem read6 (f : A.arg6.view.ty.Contents (Elt F)) :
    A.arg6.view.read (Elt F) (A.arg6.view.writes (Elt F) f (run A c i X b b' hc1 hc2 hc3 hc4 y8 y9).1.p6) = v6 X := by
  cases b <;> cases b' <;> (
    refine (View.read_writes_eq_canon _ _ _ fun y => View.cover_of_tiledL _ S256x1024.size (by sl_kernel_rfl) y).trans ?_
    unfold run
    frame_out
    rfl)

theorem read7 (f : A.arg7.view.ty.Contents (Elt F)) :
    A.arg7.view.read (Elt F) (A.arg7.view.writes (Elt F) f (run A c i X b b' hc1 hc2 hc3 hc4 y8 y9).1.p7) = v7 X := by
  cases b <;> cases b' <;> (
    refine (View.read_writes_eq_canon _ _ _ fun y => View.cover_of_tiledL _ S256x1024.size (by sl_kernel_rfl) y).trans ?_
    unfold run
    frame_out
    rfl)

theorem read8 (f : A.arg8.view.ty.Contents (Elt F)) :
    A.arg8.view.read (Elt F) (A.arg8.view.writes (Elt F) f (run A c i X b b' hc1 hc2 hc3 hc4 y8 y9).1.p8) = v8 X b' y8 := by
  cases b <;> cases b' <;> (
    refine (View.read_writes_eq_canon _ _ _ fun y => View.cover_of_tiledL _ S1x1x1024.size (by sl_kernel_rfl) y).trans ?_
    unfold run
    frame_out
    rfl)

theorem read9 (f : A.arg9.view.ty.Contents (Elt F)) :
    A.arg9.view.read (Elt F) (A.arg9.view.writes (Elt F) f (run A c i X b b' hc1 hc2 hc3 hc4 y8 y9).1.p9) = v9 X b y9 := by
  cases b <;> cases b' <;> (
    refine (View.read_writes_eq_canon _ _ _ fun y => View.cover_of_tiledL _ S1x1024.size (by sl_kernel_rfl) y).trans ?_
    unfold run
    frame_out
    rfl)

include hc1 hc2 hc3 hc4 in
/-- The run, with the results' contents. -/
theorem runs (E : Set ℕ) (K : PUnit → sProp 𝕄) :
    iprop(inputs A c X ∗ (∃ d, owns (c : Thread nD τ) A.arg6 fullShare d)
          ∗ (∃ d, owns (c : Thread nD τ) A.arg7 fullShare d)
          ∗ owns (c : Thread nD τ) A.arg8 fullShare y8
          ∗ owns (c : Thread nD τ) A.arg9 fullShare y9
          ∗ (iprop(inputs A c X ∗ owns (c : Thread nD τ) A.arg6 fullShare (v6 X)
            ∗ owns (c : Thread nD τ) A.arg7 fullShare (v7 X)
            ∗ owns (c : Thread nD τ) A.arg8 fullShare (v8 X b' y8)
            ∗ owns (c : Thread nD τ) A.arg9 fullShare (v9 X b y9)) -∗ K ⟨⟩))
        ⊢ wp frame (wpE (defs₀ (F := F)) Variants.none c none) E (body A i) K := by
  iintro ⟨HI, H6, H7, H8, H9, HK⟩
  iapply ((run A c i X b b' hc1 hc2 hc3 hc4 y8 y9).2 E K)
  isplitl [HI]; · iexact HI
  isplitl [H6]; · iexact H6
  isplitl [H7]; · iexact H7
  isplitl [H8]; · iexact H8
  isplitl [H9]; · iexact H9
  unfold written
  iintro ⟨HI, ⟨%f6, H6⟩, ⟨%f7, H7⟩, ⟨%f8, H8⟩, ⟨%f9, H9⟩⟩
  iapply HK
  unfold owns
  isplitl [HI]; · iexact HI
  isplitl [H6]
  · iexists _; isplitr
    swap; · iexact H6
    ipureintro; exact read6 A c i X b b' hc1 hc2 hc3 hc4 y8 y9 f6
  isplitl [H7]
  · iexists _; isplitr
    swap; · iexact H7
    ipureintro; exact read7 A c i X b b' hc1 hc2 hc3 hc4 y8 y9 f7
  isplitl [H8]
  · iexists _; isplitr
    swap; · iexact H8
    ipureintro; exact read8 A c i X b b' hc1 hc2 hc3 hc4 y8 y9 f8
  iexists _; isplitr
  swap; · iexact H9
  ipureintro; exact read9 A c i X b b' hc1 hc2 hc3 hc4 y8 y9 f9
end

end Cert.Kernel9Ideal.Hand

end
-- ==== Proof.OutBwdFrame.lean ====
module

public import proofs.«01_k».proof.Proof.OutBwdLeft
public import Idealize.ShloMosaic.Lib.Claim

/-! `out_proj_bwd`: the results' buffers point by point, and the frame. -/

@[expose] public section

set_option maxRecDepth 16384

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs' blocks at a point. -/
def ins (c : Dev nD) (t : Fin cfg0.N) : Ins F :=
  ⟨iblk m c 0 t, iblk m c 1 t, iblk m c 2 t, iblk m c 3 t, iblk m c 4 t⟩

/-- The staging buffers at a point. -/
def args (t : Fin cfg0.N) : Args where
  arg1 := win0_0.stage (cfg0.slots t 0)
  h1 := hstage0_0 ((cfg0.slots t 0).cast nbuf0_0)
  arg2 := win0_1.stage (cfg0.slots t 1)
  h2 := hstage0_1 ((cfg0.slots t 1).cast nbuf0_1)
  arg3 := win0_2.stage (cfg0.slots t 2)
  h3 := hstage0_2 ((cfg0.slots t 2).cast nbuf0_2)
  arg4 := win0_3.stage (cfg0.slots t 3)
  h4 := hstage0_3 ((cfg0.slots t 3).cast nbuf0_3)
  arg5 := win0_4.stage (cfg0.slots t 4)
  h5 := hstage0_4 ((cfg0.slots t 4).cast nbuf0_4)
  arg6 := win0_5.stage (cfg0.slots t 5)
  h6 := hstage0_5 ((cfg0.slots t 5).cast nbuf0_5)
  arg7 := win0_6.stage (cfg0.slots t 6)
  h7 := hstage0_6 ((cfg0.slots t 6).cast nbuf0_6)
  arg8 := win0_7.stage (cfg0.slots t 7)
  h8 := hstage0_7 ((cfg0.slots t 7).cast nbuf0_7)
  arg9 := win0_8.stage (cfg0.slots t 8)
  h9 := hstage0_8 ((cfg0.slots t 8).cast nbuf0_8)

theorem cond : ∀ t : Fin cfg0.N, (k0_cond1 (grid0.coords t) = 1#1 ↔ decide (t.val ≤ 1) = true)
    ∧ (k0_cond2 (grid0.coords t) = 1#1 ↔ decide (t.val ≤ 1) = false) ∧ (k0_cond3 (grid0.coords t) = 1#1 ↔ decide (t.val = 0) = true)
    ∧ (k0_cond4 (grid0.coords t) = 1#1 ↔ decide (t.val = 0) = false) := by decide +kernel

/-- No window is ever idle. -/
theorem live : ∀ (w : Fin 9) (i : grid0.Coords), cfg0.idle w i = false := by decide +kernel

/-- What the two accumulators hold after a point. -/
def acc (c : Dev nD) : (n : ℕ) → n < cfg0.N → Vec F S1x1x1024 .f32 × Vec F S1x1024 .f32
  | 0, h => (v8 (ins m c ⟨0, h⟩) true (k0_pay3 (ins m c ⟨0, h⟩).x3), v9 (ins m c ⟨0, h⟩) true (ins m c ⟨0, h⟩).x3)
  | n + 1, h => (v8 (ins m c ⟨n + 1, h⟩) (decide (n = 0)) (acc c n (Nat.lt_of_succ_lt h)).1,
      v9 (ins m c ⟨n + 1, h⟩) false (acc c n (Nat.lt_of_succ_lt h)).2)

/-- The proof data: arrays as found, blocks in place, results as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => v6 (ins m c t)
    | ⟨6, _⟩ => v7 (ins m c t)
    | ⟨7, _⟩ => (acc m c t.val t.isLt).1
    | ⟨8, _⟩ => (acc m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = v6 (ins m c t) := by dsimp only [dats]
theorem after0_6 (c : Dev nD) (t : Fin cfg0.N) : (dats m 0 c).after 6 t = v7 (ins m c t) := by dsimp only [dats]
theorem after0_7 (c : Dev nD) (t : Fin cfg0.N) : (dats m 0 c).after 7 t = (acc m c t.val t.isLt).1 := by dsimp only [dats]
theorem after0_8 (c : Dev nD) (t : Fin cfg0.N) : (dats m 0 c).after 8 t = (acc m c t.val t.isLt).2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl

/-- A result that the point before did not write back holds what that point left. -/
theorem before0_7 (c : Dev nD) (t : Fin cfg0.N) (h : ¬ t.val ≤ 1) (d) :
    (dats m 0 c).before 7 t d = (acc m c (t.val - 1) (Nat.lt_of_le_of_lt (Nat.sub_le _ _) t.isLt)).1 := by
  rw [Dat.before_out_kept (dats m 0 c) 7 rfl t (by omega) ((by decide +kernel : ∀ t : Fin cfg0.N, ¬ t.val ≤ 1 → (cfg0.win 7).flush ⟨t.val - 1, Nat.lt_of_le_of_lt (Nat.sub_le _ _) t.isLt⟩ = false) t h)
    (live 7) (fun _ _ => rfl) d, after0_7]

theorem before0_8 (c : Dev nD) (t : Fin cfg0.N) (h : t.val ≠ 0) (d) :
    (dats m 0 c).before 8 t d = (acc m c (t.val - 1) (Nat.lt_of_le_of_lt (Nat.sub_le _ _) t.isLt)).2 := by
  rw [Dat.before_out_kept (dats m 0 c) 8 rfl t h ((by decide +kernel : ∀ t : Fin cfg0.N, (cfg0.win 8).flush ⟨t.val - 1, Nat.lt_of_le_of_lt (Nat.sub_le _ _) t.isLt⟩ = false) t)
    (live 8) (fun _ _ => rfl) d, after0_8]

theorem acc_7 (c : Dev nD) (t : Fin cfg0.N) (d) :
    v8 (ins m c t) (decide (t.val ≤ 1)) ((dats m 0 c).before 7 t d) = (acc m c t.val t.isLt).1 := by
  by_cases h : t.val ≤ 1
  · obtain ⟨_ | _ | n, hn⟩ := t
    · rfl
    · rfl
    · exact absurd h (by simp)
  · rw [before0_7 m c t h d]
    obtain ⟨_ | _ | n, hn⟩ := t
    · exact absurd (by simp) h
    · exact absurd (by simp) h
    · rfl

theorem acc_8 (c : Dev nD) (t : Fin cfg0.N) (d) :
    v9 (ins m c t) (decide (t.val = 0)) ((dats m 0 c).before 8 t d) = (acc m c t.val t.isLt).2 := by
  by_cases h : t.val = 0
  · obtain ⟨n, hn⟩ := t
    obtain rfl : n = 0 := h
    rfl
  · rw [before0_8 m c t h d]
    obtain ⟨_ | n, hn⟩ := t
    · exact absurd rfl h
    · rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (args t).arg1 fullShare ((dats m 0 c).before 0 t d))
    ∗ (∃ d, owns (c : Thread nD τ) (args t).arg2 fullShare ((dats m 0 c).before 1 t d))
    ∗ (∃ d, owns (c : Thread nD τ) (args t).arg3 fullShare ((dats m 0 c).before 2 t d))
    ∗ (∃ d, owns (c : Thread nD τ) (args t).arg4 fullShare ((dats m 0 c).before 3 t d))
    ∗ (∃ d, owns (c : Thread nD τ) (args t).arg5 fullShare ((dats m 0 c).before 4 t d))
    ∗ (∃ d, owns (c : Thread nD τ) (args t).arg6 fullShare ((dats m 0 c).before 5 t d))
    ∗ (∃ d, owns (c : Thread nD τ) (args t).arg7 fullShare ((dats m 0 c).before 6 t d))
    ∗ (∃ d, owns (c : Thread nD τ) (args t).arg8 fullShare ((dats m 0 c).before 7 t d))
    ∗ (∃ d, owns (c : Thread nD τ) (args t).arg9 fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).owesAt () t.succ = (dats m 0 c).owesAt () t.castSucc from rfl]
  rw [show (dats m 0 c).Φ t.succ = (dats m 0 c).Φ t.castSucc from rfl]
  rw [leaves m c 0, leaves m c 1, leaves m c 2, leaves m c 3, leaves m c 4, leaves m c 5, leaves m c 6, leaves m c 7, leaves m c 8]
  rw [after0_0, after0_1, after0_2, after0_3, after0_4, after0_5, after0_6, after0_7, after0_8]
  obtain ⟨h1, h2, h3, h4⟩ := cond t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runs (args t) c (grid0.coords t) (ins m c t) _ _ h1 h2 h3 h4 ((dats m 0 c).before 7 t d7)
    ((dats m 0 c).before 8 t d8) Set.univ _)
  unfold inputs
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexact H7
  isplitl [H8]; · iexact H8
  rw [acc_7, acc_8]
  iintro ⟨⟨H0, H1, H2, H3, H4⟩, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The run: every result array as computed from the proof data, the arguments unchanged. -/
theorem run_blocks : θ_run defs (onTc (τ := τ) (main (F := F))) ⟨m, fun _ => 0, ρ⟩ fun r => (∀ c : Dev nD,
      (r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨⟨(h.1 c).1 5, (h.1 c).1 6, (h.1 c).1 7, (h.1 c).1 8⟩,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩)
    (run_main_quiescent m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_blocks m ρ)

end Cert.Kernel9Ideal.Hand

end
-- ==== Proof.OutBwd.lean ====
module

public import proofs.«01_k».proof.Proof.OutBwdFrame
public import proofs.«01_k».proof.Proof.GateGrad
public import Idealize.ShloMosaic.Lib.Pointwise
public import Idealize.ShloMosaic.Lib.Pipeline.ValueKit
public import Idealize.ShloMosaic.Lib.Pipeline.ReadBack
public import Idealize.ShloMosaic.Lib.Claim

/-! `out_proj_bwd`: what the kernel leaves in its results. -/

@[expose] public section

set_option maxRecDepth 16384

noncomputable section

open Idealize.ShloMosaic Idealize.ShloMosaic.TcCoe Idealize.SL.Sem
open Idealize.ShloMosaic.Pipeline (Dat)

namespace Cert.OutBwd

open Cert.Kernel9Ideal Cert.Kernel9Ideal.Gen Cert.Kernel9Ideal.Hand

/-- Where every window's block lies. -/
theorem idx : ∀ t : Fin cfg0.N, win0_0.index t = ![t.val, 0] ∧ win0_1.index t = ![t.val, 0] ∧ win0_2.index t = ![min t.val 1, 0, 0] ∧ win0_3.index t = ![0, 0] ∧ win0_4.index t = ![0, 0] ∧ win0_5.index t = ![t.val, 0] ∧ win0_6.index t = ![t.val, 0] ∧ win0_7.index t = ![min t.val 1, 0, 0] ∧ win0_8.index t = ![0, 0] :=
  (by decide +kernel : ∀ t : Fin grid0.N, _)

/-- Where the gate's gradient leaves. -/
theorem ends : ∀ t : Fin cfg0.N, (cfg0.win 7).flush t = true → t.val = 0 ∨ t.val = 16 := (by decide +kernel : ∀ t : Fin grid0.N, _)

section
variable (x : FVec Ideal S1x1024 .f32) (j : Fin 1024)

/-- What a block's part becomes, at the first of the sum's blocks and at the others. -/
theorem pay_first : k0_pay3 x (ix3 0 0 j) = x (ix2 0 j) := by
  unfold k0_pay3
  pointwise
@[inherit_doc pay_first] theorem pay_gate (y : Vec Ideal S1x1x1024 .f32) : k0_pay4 x y (ix3 0 0 j) = y (ix3 0 0 j) + x (ix2 0 j) := by
  unfold k0_pay4
  pointwise
@[inherit_doc pay_first] theorem pay_weights (y : Vec Ideal S1x1024 .f32) : k0_pay5 x y (ix2 0 j) = y (ix2 0 j) + x (ix2 0 j) := by
  unfold k0_pay5
  pointwise
end

section
variable (m : (ℓ : Loc nD τ sig) → Buf (Elt Ideal) ℓ) (c : Dev nD)

/-- The kernel's arrays. -/
abbrev aD : S4352x1024.Idx → EReal := m ((c.tc : Thread nD τ).loc main_arg0)
@[inherit_doc aD] abbrev aZ : S4352x1024.Idx → EReal := m ((c.tc : Thread nD τ).loc main_arg1)
@[inherit_doc aD] abbrev aM : S2x6x1024.Idx → EReal := m ((c.tc : Thread nD τ).loc main_arg2)
@[inherit_doc aD] abbrev aw : S1x1024.Idx → EReal := m ((c.tc : Thread nD τ).loc main_arg3)
@[inherit_doc aD] abbrev aB : S1024x1024.Idx → EReal := m ((c.tc : Thread nD τ).loc main_arg4)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 : (ins m c t).x0 (ix2 r j) = aD m c (ix2 (row t r) j) := by
  change iblk m c 0 t (ix2 r j) = _
  unfold row
  blk_ext [iblk, V, idx t]

theorem blk1 : (ins m c t).x1 (ix2 r j) = aZ m c (ix2 (row t r) j) := by
  change iblk m c 1 t (ix2 r j) = _
  unfold row
  blk_ext [iblk, V, idx t]

theorem seg_row : NormGrad.seg (row t r) = ⟨min t.val 1, by omega⟩ := by
  have h := r.isLt
  unfold NormGrad.seg row
  apply Fin.ext
  dsimp only
  split <;> simp <;> omega

theorem blk2 (q : Fin 6) : (ins m c t).x2 (ix3 0 q j) = aM m c (ix3 (NormGrad.seg (row t r)) q j) := by
  rw [seg_row]
  change iblk m c 2 t (ix3 0 q j) = _
  blk_ext [iblk, V, idx t]

theorem blk3 : (ins m c t).x3 (ix2 0 j) = aw m c (ix2 0 j) := by
  change iblk m c 3 t (ix2 0 j) = _
  blk_ext [iblk, V, idx t]

theorem blk4 (k : Fin 1024) : (ins m c t).x4 (ix2 k j) = aB m c (ix2 k j) := by
  change iblk m c 4 t (ix2 k j) = _
  blk_ext [iblk, V, idx t]

theorem gt_blk : gt (ins m c t) (ix3 0 0 j) = aM m c (ix3 (NormGrad.seg (row t r)) 2 j) := by
  refine Eq.trans ?_ (blk2 m c t r j 2)
  unfold gt
  pointwise

theorem ve_blk (z : Fin 1) : k0_pay6 (F := Ideal) (ins m c t).x1 (ix2 r z) = NormGrad.ve (aZ m c) (row t r) := by
  unfold k0_pay6
  pointwise
  simp only [blk1]
  rfl

theorem y_blk : k0_pay8 (F := Ideal) (ins m c t).x1 (ix2 r j) = NormGrad.y (aZ m c) (row t r) j := by
  unfold k0_pay8 k0_pay7
  pointwise
  rw [ve_blk, blk1]
  rfl

theorem g0_blk : k0_pay9 (gt (ins m c t)) (ins m c t).x0 (ix2 r j) = GateGrad.g0 (aD m c) (aM m c) 2 (row t r) j := by
  unfold k0_pay9
  pointwise
  rw [gt_blk m c t r, blk0]
  rfl

theorem g_blk : k0_pay12 (gt (ins m c t)) (ins m c t).x3 (ins m c t).x0 (ix2 r j) = GateGrad.g (aD m c) (aw m c) (aM m c) 2 (row t r) j := by
  unfold k0_pay12
  pointwise
  rw [g0_blk, blk3]
  rfl

theorem g1_blk : g1 (ins m c t) (ix2 r j)
    = GateGrad.g (aD m c) (aw m c) (aM m c) 2 (row t r) j * Ideal.rsqrt (NormGrad.ve (aZ m c) (row t r)) := by
  unfold g1 k0_pay13 k0_pay7
  pointwise
  rw [g_blk, ve_blk]

theorem g2_blk : g2 (ins m c t) (ix2 r j) = GateGrad.s (aD m c) (aZ m c) (aw m c) (aM m c) 2 (row t r) := by
  unfold g2 k0_pay14 k0_pay7
  pointwise
  simp only [g_blk, ve_blk, blk1]
  rfl

theorem dz_blk : k0_pay1 (ins m c t).x1 (g1 (ins m c t)) (g2 (ins m c t)) (ix2 r j)
    = GateGrad.dz (aD m c) (aZ m c) (aw m c) (aM m c) 2 (row t r) j := by
  unfold k0_pay1
  pointwise
  rw [g1_blk, g2_blk, blk1]
  rfl

theorem da_blk (k : Fin 1024) : k0_pay2 (ins m c t).x1 (g1 (ins m c t)) (g2 (ins m c t)) (ins m c t).x4 (ix2 r k)
    = GateGrad.da (GateGrad.dz (aD m c) (aZ m c) (aw m c) (aM m c) 2) (aB m c) (row t r) k := by
  unfold k0_pay2
  pointwise
  exact Finset.sum_congr rfl fun x _ => by rw [dz_blk, blk4]

/-- A block's parts of the two sums. -/
theorem tg : k0_pay10 (ins m c t).x1 (ins m c t).x3 (ins m c t).x0 (ix2 0 j)
    = ∑ x ∈ Finset.range 256, NormGrad.lift (fun i => GateGrad.fg (aD m c) (aZ m c) (aw m c) i j) (256 * t.val + x) := by
  unfold k0_pay10
  pointwise
  refine NormGrad.lift_block _ _ (Nat.lt_of_lt_of_eq t.isLt N_0) _ fun r => ?_
  rw [y_blk, blk0, blk3]
  rfl

@[inherit_doc tg] theorem tw : k0_pay11 (ins m c t).x1 (gt (ins m c t)) (ins m c t).x0 (ix2 0 j)
    = ∑ x ∈ Finset.range 256, NormGrad.lift (fun i => GateGrad.fw (aD m c) (aZ m c) (aM m c) 2 i j) (256 * t.val + x) := by
  unfold k0_pay11
  pointwise
  refine NormGrad.lift_block _ _ (Nat.lt_of_lt_of_eq t.isLt N_0) _ fun r => ?_
  rw [y_blk, g0_blk]
  rfl

/-- The gate's gradient over the segment's rows, and the norm weights' over the rows so far. -/
theorem sumg (h : t.val = 0 ∨ t.val = 16) : (acc m c t.val t.isLt).1 (ix3 0 0 j)
    = NormGrad.part (fun i => GateGrad.fg (aD m c) (aZ m c) (aw m c) i j) ⟨min t.val 1, by omega⟩ := by
  refine NormGrad.sums_part cfg0.N (fun n h => (acc m c n h).1 (ix3 0 0 j)) _ (fun h => ?_) (fun h => ?_) (fun n h => ?_) t.val t.isLt h
  · exact (pay_first _ j).trans ((tg m c ⟨0, h⟩ j).trans (by simp only [Nat.mul_zero, Nat.zero_add]))
  · exact (pay_first _ j).trans (tg m c ⟨1, h⟩ j)
  · exact (pay_gate _ j _).trans (congrArg _ (tg m c ⟨n + 2, h⟩ j))

@[inherit_doc sumg] theorem sumw (n : ℕ) (h : n < cfg0.N) : (acc m c n h).2 (ix2 0 j)
    = ∑ x ∈ Finset.range (256 * (n + 1)), NormGrad.lift (fun i => GateGrad.fw (aD m c) (aZ m c) (aM m c) 2 i j) x := by
  refine NormGrad.sums cfg0.N (fun n h => (acc m c n h).2 (ix2 0 j)) _ (fun h => ?_) (fun n h => ?_) n h
  · exact (tw m c ⟨0, h⟩ j).trans (by simp only [Nat.mul_zero, Nat.zero_add])
  · exact (pay_weights _ j _).trans (congrArg _ (tw m c ⟨n + 1, h⟩ j))

/-- What the kernel leaves. -/
abbrev gA : S4352x1024.Idx → EReal := GateGrad.gA (GateGrad.dz (aD m c) (aZ m c) (aw m c) (aM m c) 2) (aB m c)
@[inherit_doc gA] abbrev gZ : S4352x1024.Idx → EReal := GateGrad.gZ (aD m c) (aZ m c) (aw m c) (aM m c) 2
@[inherit_doc gA] abbrev gG : S2x1x1024.Idx → EReal := NormGrad.gPart (GateGrad.fg (aD m c) (aZ m c) (aw m c))
@[inherit_doc gA] abbrev gW : S1x1024.Idx → EReal := NormGrad.gNw (GateGrad.fw (aD m c) (aZ m c) (aM m c) 2)

theorem finalA : (dats m 0 c).arrAt 5 cfg0.N = gA m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (da_blk m c t r j).trans (Eq.trans (b := gA m c (ix2 (row t r) j)) rfl (Eq.symm ?_))
  unfold row
  blk_ext [idx t]

theorem finalZ : (dats m 0 c).arrAt 6 cfg0.N = gZ m c := by
  refine (dats m 0 c).arrAt_eq_of_covers 6 _ (by decide +kernel) fun t hf y => ?_
  blk_simp
  rw [after0_6]
  obtain ⟨r, j, rfl⟩ : ∃ (i : Fin 256) (j : Fin 1024), y = ix2 i j := ⟨y 0, y 1, by idx_vars y⟩
  refine (dz_blk m c t r j).trans (Eq.trans (b := gZ m c (ix2 (row t r) j)) rfl (Eq.symm ?_))
  unfold row
  blk_ext [idx t]

theorem finalG : (dats m 0 c).arrAt 7 cfg0.N = gG m c := by
  refine (dats m 0 c).arrAt_eq_of_covers 7 _ (by decide +kernel) fun t hf y => ?_
  blk_simp
  rw [after0_7]
  obtain ⟨r, s, j, rfl⟩ : ∃ (i : Fin 1) (s : Fin 1) (j : Fin 1024), y = ix3 i s j := ⟨y 0, y 1, y 2, by idx_vars y⟩
  obtain rfl : r = 0 := Subsingleton.elim _ _
  obtain rfl : s = 0 := Subsingleton.elim _ _
  refine (sumg m c t j (ends t hf)).trans (Eq.trans (b := gG m c (ix3 ⟨min t.val 1, by omega⟩ 0 j)) rfl (Eq.symm ?_))
  blk_ext [idx t]

theorem finalW : (dats m 0 c).arrAt 8 cfg0.N = gW m c := by
  refine (dats m 0 c).arrAt_eq_of_covers 8 _ (by decide +kernel) fun t hf y => ?_
  blk_simp
  rw [after0_8]
  obtain ⟨r, j, rfl⟩ : ∃ (i : Fin 1) (j : Fin 1024), y = ix2 i j := ⟨y 0, y 1, by idx_vars y⟩
  obtain rfl : r = 0 := Subsingleton.elim _ _
  have h : t.val = 16 := by
    have hN : t.val < 17 := Nat.lt_of_lt_of_eq t.isLt N_0
    have h := (flush0_8 t).mp hf
    omega
  refine (sumw m c j t.val t.isLt).trans ?_
  rw [h, NormGrad.lift_sum]
  refine Eq.trans (b := gW m c (ix2 0 j)) rfl (Eq.symm ?_)
  blk_ext [idx t]

end

end Cert.OutBwd
end
-- ==== Proof.OutBwdRef.lean ====
module

public import proofs.«01_k».proof.Proof.Gen.Reference9Ideal.Run
public import proofs.«01_k».proof.Proof.GateGrad
public import Idealize.ShloMosaic.Lib.Pointwise
public import Idealize.ShloMosaic.Lib.Pipeline.ValueKit

/-! `out_proj_bwd`: what the reference leaves in its results. -/

@[expose] public section

set_option maxRecDepth 16384

noncomputable section

open Idealize.ShloMosaic Idealize.ShloMosaic.TcCoe Idealize.SL.Sem

namespace Cert.OutBwd.Ref

open Cert.Reference9Ideal Cert.Reference9Ideal.Gen

section
variable (D : FVec Ideal S4352x1024 .f32) (Z : FVec Ideal S4352x1024 .f32) (M : FVec Ideal S2x6x1024 .f32) (w : FVec Ideal S1x1024 .f32)
  (B : FVec Ideal S1024x1024 .bf16)

/-- The terms of the reference. -/
def sc (o : Fin 2) : FVec Ideal S1x1024 .f32 := match o with
  | 0 => shapeCast _ (extractStridedSlice S1x1x1024 ![0, 0, 0] (extractStridedSlice S2x1x1024 ![0, 2, 0] M slices_S2x6x1024_S2x1x1024_0_2_0) slices_S2x1x1024_S1x1x1024_0_0_0) shapeCasts_S1x1x1024_S1x1024
  | 1 => shapeCast _ (extractStridedSlice S1x1x1024 ![1, 0, 0] (extractStridedSlice S2x1x1024 ![0, 2, 0] M slices_S2x6x1024_S2x1x1024_0_2_0) slices_S2x1x1024_S1x1x1024_1_0_0) shapeCasts_S1x1x1024_S1x1024
@[inherit_doc sc] def gt : FVec Ideal S4352x1024 .f32 := concatenate S4352x1024 0 [⟨S256x1024, (broadcastInDim S256x1024 ![0, 1] bcast_S1x1024_S256x1024_0_1 (sc M 0))⟩, ⟨S4096x1024, (broadcastInDim S4096x1024 ![0, 1] bcast_S1x1024_S4096x1024_0_1 (sc M 1))⟩] concatenates_S256x1024_S4096x1024_S4352x1024_d0
@[inherit_doc sc] def ve : FVec Ideal S4352x1 .f32 := addf (Host.divf (broadcastInDim S4352x1 ![0] bcast_S4352_S4352x1_0 (Host.reduceAdd (mulf Z Z) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc sc] def r : FVec Ideal S4352x1024 .f32 := broadcastInDim S4352x1024 ![0, 1] bcast_S4352x1_S4352x1024_0_1 (Host.rsqrt (ve Z))
@[inherit_doc sc] def wb : FVec Ideal S4352x1024 .f32 := broadcastInDim S4352x1024 ![0, 1] bcast_S1x1024_S4352x1024_0_1 w
@[inherit_doc sc] def g : FVec Ideal S4352x1024 .f32 := mulf (mulf (gt M) D) (wb w)
@[inherit_doc sc] def s : FVec Ideal S4352x1024 .f32 := broadcastInDim S4352x1024 ![0] bcast_S4352_S4352x1024_0 (Host.reduceAdd (Host.divf (mulf (shapeCast _ (Host.reduceAdd (mulf Z (g D M w)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ve Z)) (ve Z)))) (broadcastInDim S4352x1 ![] bcast_S_S4352x1 (constant S_ .f32 0x44800000#32))) (constant S_ .f32 0x00000000#32) reducesTo_S4352x1_S4352_d1 h_S_)
@[inherit_doc sc] def dz : FVec Ideal S4352x1024 .f32 := addf (addf (mulf (g D M w) (r Z)) (mulf Z (s D Z M w))) (mulf (s D Z M w) Z)
@[inherit_doc sc] def da : FVec Ideal S4352x1024 .f32 := Host.dotGeneral dot_S4352x1024_S1024x1024_S4352x1024_1_1_0_0_n_n none (dz D Z M w) (extf .f32 B bitsLt_bf16_f32)
@[inherit_doc sc] def fg : FVec Ideal S4352x1024 .f32 := mulf D (mulf (mulf Z (r Z)) (wb w))
/-- The results. -/
def dZ : FVec Ideal S4352x1024 .bf16 := truncf .bf16 (dz D Z M w) bitsLt_bf16_f32
@[inherit_doc dZ] def dG : FVec Ideal S2x1x1024 .f32 := addf (pad S2x1x1024 ![1, 0, 0] ![0, 0, 0] ![0, 0, 0] (broadcastInDim S1x1x1024 ![1, 2] bcast_S1x1024_S1x1x1024_1_2 (broadcastInDim S1x1024 ![1] bcast_S1024_S1x1024_1 (Host.reduceAdd (extractStridedSlice S4096x1024 ![256, 0] (fg D Z w) slices_S4352x1024_S4096x1024_256_0) (constant S_ .f32 0x00000000#32) reducesTo_S4096x1024_S1024_d0 h_S_))) (constant S_ .f32 0x00000000#32) pads_S1x1x1024_S2x1x1024_100_000_000 h_S_) (pad S2x1x1024 ![0, 0, 0] ![1, 0, 0] ![0, 0, 0] (broadcastInDim S1x1x1024 ![1, 2] bcast_S1x1024_S1x1x1024_1_2 (broadcastInDim S1x1024 ![1] bcast_S1024_S1x1024_1 (Host.reduceAdd (extractStridedSlice S256x1024 ![0, 0] (fg D Z w) slices_S4352x1024_S256x1024_0_0) (constant S_ .f32 0x00000000#32) reducesTo_S256x1024_S1024_d0 h_S_))) (constant S_ .f32 0x00000000#32) pads_S1x1x1024_S2x1x1024_010_000_000 h_S_)
@[inherit_doc dZ] def dW : FVec Ideal S1x1024 .f32 := shapeCast _ (Host.reduceAdd (mulf (mulf Z (r Z)) (mulf (gt M) D)) (constant S_ .f32 0x00000000#32) reducesTo_S4352x1024_S1024_d0 h_S_) shapeCasts_S1024_S1x1024

variable (i : Fin 4352) (j : Fin 1024)

theorem sc_at (o : Fin 2) : sc M o (ix2 0 j) = M (ix3 o 2 j) := by
  obtain rfl | rfl : o = 0 ∨ o = 1 := by omega
  · dsimp only [sc]
    pointwise
  · dsimp only [sc]
    pointwise

theorem gt_at : gt M (ix2 i j) = M (ix3 (NormGrad.seg i) 2 j) := by
  unfold gt NormGrad.seg
  pointwise
  split <;> rw [sc_at]

theorem ve_at (z : Fin 1) : ve Z (ix2 i z) = NormGrad.ve Z i := by
  unfold ve NormGrad.ve NormGrad.ms
  pointwise

theorem r_at : r Z (ix2 i j) = Ideal.rsqrt (NormGrad.ve Z i) := by
  unfold r
  pointwise
  rw [ve_at]

theorem wb_at : wb w (ix2 i j) = w (ix2 0 j) := by
  unfold wb
  pointwise

theorem g_at : g D M w (ix2 i j) = GateGrad.g D w M 2 i j := by
  unfold g GateGrad.g GateGrad.g0
  pointwise
  rw [gt_at, wb_at]

theorem s_at : s D Z M w (ix2 i j) = GateGrad.s D Z w M 2 i := by
  unfold s GateGrad.s
  pointwise
  simp only [g_at, ve_at]

theorem dz_at : dz D Z M w (ix2 i j) = GateGrad.dz D Z w M 2 i j := by
  unfold dz GateGrad.dz
  pointwise
  simp only [g_at, s_at, r_at]

theorem da_at (k : Fin 1024) : da D Z M w B (ix2 i k) = GateGrad.da (GateGrad.dz D Z w M 2) B i k := by
  unfold da GateGrad.da
  pointwise
  simp only [dz_at]

theorem fg_at : fg D Z w (ix2 i j) = GateGrad.fg D Z w i j := by
  unfold fg GateGrad.fg NormGrad.y
  pointwise
  rw [r_at, wb_at]

theorem dZ_at : dZ D Z M w (ix2 i j) = GateGrad.gZ D Z w M 2 (ix2 i j) := by
  refine Eq.trans ?_ (dz_at D Z M w i j)
  unfold dZ
  pointwise

theorem dG_at (k : Fin 2) : dG D Z w (ix3 k 0 j) = NormGrad.gPart (GateGrad.fg D Z w) (ix3 k 0 j) := by
  change _ = NormGrad.part (fun i => GateGrad.fg D Z w i j) k
  obtain rfl | rfl : k = 0 ∨ k = 1 := by omega
  · unfold dG NormGrad.part
    pointwise
    simp only [fg_at]
  · unfold dG NormGrad.part
    pointwise
    simp only [fg_at]

theorem dW_at : dW D Z M (ix2 0 j) = NormGrad.gNw (GateGrad.fw D Z M 2) (ix2 0 j) := by
  change _ = ∑ i, GateGrad.fw D Z M 2 i j
  unfold dW GateGrad.fw NormGrad.y GateGrad.g0
  pointwise
  simp only [r_at, gt_at]
end

end Cert.OutBwd.Ref
end
-- ==== Proof.OutBwdClaim.lean ====
module

public import proofs.«01_k».proof.Proof.OutBwd
public import proofs.«01_k».proof.Proof.OutBwdRef
public import proofs.«01_k».proof.Proof.Gen.Kernel9
public import proofs.«01_k».proof.Defs

/-! `out_proj_bwd`: the claims. -/

@[expose] public section

set_option maxRecDepth 16384

noncomputable section

open Idealize.ShloMosaic Idealize.ShloMosaic.TcCoe Idealize.SL.Sem

namespace Cert.OutBwd

/-- Kernel and reference leave the same gradients. -/
theorem algebraic : Cert.algebraic_Kernel9Ideal_Reference9Ideal := by
  intro m g m' g' _ hag
  refine ⟨fun c => gA m c, fun c => gZ m c, fun c => gG m c, fun c => gW m c, ?_, ?_⟩
  · refine (θ_run Cert.Kernel9Ideal.defs _ _).mono (fun r h c => ?_) (Cert.Kernel9Ideal.Hand.run_blocks m g)
    obtain ⟨⟨hA, hZ, hG, hW⟩, ha⟩ := h.1 c
    exact ⟨hA.trans (finalA m c), hZ.trans (finalZ m c), hG.trans (finalG m c), hW.trans (finalW m c), ha⟩
  · refine (θ_run Cert.Reference9Ideal.defs _ _).mono (fun r h c => ?_) (Cert.Reference9Ideal.Value.run m' g')
    obtain ⟨hA, hZ, hG, hW, ha⟩ := h c
    obtain ⟨e0, e1, e2, e3, e4⟩ := hag c
    refine ⟨hA.trans ?_, hZ.trans ?_, hG.trans ?_, hW.trans ?_, ha⟩
    · rw [Cert.Reference9Ideal.Value.res_main_v59, e0, e1, e2, e3, e4]
      funext y
      obtain ⟨i, j, rfl⟩ : ∃ (i : Fin 4352) (j : Fin 1024), y = ix2 i j := ⟨y 0, y 1, by idx_vars y⟩
      exact Ref.da_at (aD m c) (aZ m c) (aM m c) (aw m c) (aB m c) i j
    · rw [Cert.Reference9Ideal.Value.res_main_v60, e0, e1, e2, e3]
      funext y
      obtain ⟨i, j, rfl⟩ : ∃ (i : Fin 4352) (j : Fin 1024), y = ix2 i j := ⟨y 0, y 1, by idx_vars y⟩
      exact Ref.dZ_at (aD m c) (aZ m c) (aM m c) (aw m c) i j
    · rw [e0, e1, e3]
      funext y
      obtain ⟨k, s, j, rfl⟩ : ∃ (i : Fin 2) (s : Fin 1) (j : Fin 1024), y = ix3 i s j := ⟨y 0, y 1, y 2, by idx_vars y⟩
      obtain rfl : s = 0 := Subsingleton.elim _ _
      exact Ref.dG_at (aD m c) (aZ m c) (aw m c) j k
    · rw [e0, e1, e2]
      funext y
      obtain ⟨i, j, rfl⟩ : ∃ (i : Fin 1) (j : Fin 1024), y = ix2 i j := ⟨y 0, y 1, by idx_vars y⟩
      obtain rfl : i = 0 := Subsingleton.elim _ _
      exact Ref.dW_at (aD m c) (aZ m c) (aM m c) j

section
set_option backward.isDefEq.respectTransparency false

/-- The two programs' bodies are one. -/
theorem defs₀_eq : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | 0, (t, s) => rfl

@[inherit_doc defs₀_eq] theorem defs_eq : Cert.Kernel9.defs (F := Bits) = Cert.Kernel9Ideal.defs (F := Bits) :=
  congrArg (Pipeline.defs (Cert.Kernel9Ideal.pcfgs (F := Bits))) defs₀_eq

theorem frame_kernel : Cert.quiescent_Kernel9 := fun m ρ _ => by
  rw [defs_eq]
  exact Cert.Kernel9Ideal.Hand.frame (F := Bits) m ρ
end

theorem frame_ideal : Cert.quiescent_Kernel9Ideal := fun m ρ _ => Cert.Kernel9Ideal.Hand.frame m ρ
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

end Cert.OutBwd
end
-- ==== Proof.NormFwd.lean ====
module

public import proofs.«01_k».proof.Proof.NormGrad

/-! Forward: a norm, its modulation and the product with the weights. -/

@[expose] public section

noncomputable section

open Idealize.ShloMosaic

namespace Cert.NormFwd

section
variable {N : ℕ} (X : (⟨2, ![4352, 1024]⟩ : Shape).Idx → EReal) (w : (⟨2, ![1, 1024]⟩ : Shape).Idx → EReal)
  (M : (⟨3, ![2, 6, 1024]⟩ : Shape).Idx → EReal) (B : (⟨2, ![1024, N]⟩ : Shape).Idx → EReal) (p q : Fin 6)

/-- The modulated norm: shift `p`, scale `q`. -/
def h (i : Fin 4352) (j : Fin 1024) : EReal :=
  NormGrad.y X i j * w (ix2 0 j) * (1 + M (ix3 (NormGrad.seg i) q j)) + M (ix3 (NormGrad.seg i) p j)
/-- The product with the weights. -/
def o (i : Fin 4352) (j : Fin N) : EReal := ∑ k : Fin 1024, h X w M p q i k * B (ix2 k j)

/-- The two results. -/
def gH : (⟨2, ![4352, 1024]⟩ : Shape).Idx → EReal := fun y => h X w M p q (y 0) (y 1)
@[inherit_doc gH] def gO : (⟨2, ![4352, N]⟩ : Shape).Idx → EReal := fun y => o X w M B p q (y 0) (y 1)
end

end Cert.NormFwd
end
-- ==== Proof.UpFwd.lean ====
module

public import proofs.«01_k».proof.Proof.Gen.Kernel10Ideal.Value
public import proofs.«01_k».proof.Proof.Gen.Kernel10.Frame
public import proofs.«01_k».proof.Proof.Gen.Reference10Ideal.Run
public import proofs.«01_k».proof.Proof.NormFwd
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `ffn_up`: the norm, its modulation and the product with the feed-forward's first weights. -/

@[expose] public section

set_option maxRecDepth 16384

noncomputable section

open Idealize.ShloMosaic Idealize.ShloMosaic.TcCoe Idealize.SL.Sem
open Idealize.ShloMosaic.Pipeline (Dat)

namespace Cert.UpFwd

open Cert.Kernel10Ideal Cert.Kernel10Ideal.Gen

/-- Where every window's block lies. -/
theorem idx : ∀ t : Fin cfg0.N, win0_0.index t = ![t.val, 0] ∧ win0_1.index t = ![0, 0] ∧ win0_2.index t = ![min t.val 1, 0, 0]
    ∧ win0_3.index t = ![0, 0] ∧ win0_4.index t = ![t.val, 0] ∧ win0_5.index t = ![t.val, 0] :=
  (by decide +kernel : ∀ t : Fin grid0.N, _)

/-- The columns of the product are stored 512 at a time. -/
theorem out_at (x0 : Vec Ideal S256x1024 .f32) (x1 : Vec Ideal S1x1024 .f32) (x2 : Vec Ideal S1x6x1024 .f32) (x3 : Vec Ideal S1024x5632 .bf16)
    (r : Fin 256) (j : Fin 5632) : out0_4 x0 x1 x2 x3 (ix2 r j) = ∑ k : Fin 1024, out0_5 x0 x1 x2 x3 (ix2 r k) * x3 (ix2 k j) := by
  have e : ∀ k : Fin 1024, out0_5 x0 x1 x2 x3 (ix2 r k)
      = k0_pay4 (View.ld x0 r0_0) (View.ld x1 r0_1) (View.ld x2 r0_2) (View.ld x2 r0_3) (ix2 r k) := fun k => by
    frame_out
  simp only [e]
  unfold out0_4 k0_pay13
  canon_tiles x hx
  all_goals obtain ⟨a, b, rfl⟩ : ∃ (a : Fin 256) (b : Fin 512), x = ix2 a b := ⟨x 0, x 1, by idx_vars x⟩
  all_goals obtain rfl : r = a := Fin.ext hx0
  all_goals first
    | unfold k0_pay1 | unfold k0_pay2 | unfold k0_pay3 | unfold k0_pay5 | unfold k0_pay6 | unfold k0_pay7 | unfold k0_pay8
    | unfold k0_pay9 | unfold k0_pay10 | unfold k0_pay11 | unfold k0_pay12
  all_goals pointwise
  all_goals exact Finset.sum_congr rfl fun k _ => congrArg _ (congrArg x3 (congrArg (ix2 k) (Fin.ext (hx1.trans (by simp)).symm)))

section
variable (m : (ℓ : Loc nD τ sig) → Buf (Elt Ideal) ℓ) (c : Dev nD)

/-- The kernel's arrays. -/
abbrev aX : S4352x1024.Idx → EReal := m ((c.tc : Thread nD τ).loc main_arg0)
@[inherit_doc aX] abbrev aw : S1x1024.Idx → EReal := m ((c.tc : Thread nD τ).loc main_arg1)
@[inherit_doc aX] abbrev aM : S2x6x1024.Idx → EReal := m ((c.tc : Thread nD τ).loc main_arg2)
@[inherit_doc aX] abbrev aB : S1024x5632.Idx → EReal := m ((c.tc : Thread nD τ).loc main_arg3)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 : (iblk m c 0 t : Vec Ideal S256x1024 .f32) (ix2 r j) = aX m c (ix2 (row t r) j) := by
  unfold row
  blk_ext [iblk, V, idx t]

theorem blk1 : (iblk m c 1 t : Vec Ideal S1x1024 .f32) (ix2 0 j) = aw m c (ix2 0 j) := by
  blk_ext [iblk, V, idx t]

theorem seg_row : NormGrad.seg (row t r) = ⟨min t.val 1, by omega⟩ := by
  have h := r.isLt
  unfold NormGrad.seg row
  apply Fin.ext
  dsimp only
  split <;> simp <;> omega

theorem blk2 (q : Fin 6) : (iblk m c 2 t : Vec Ideal S1x6x1024 .f32) (ix3 0 q j) = aM m c (ix3 (NormGrad.seg (row t r)) q j) := by
  rw [seg_row]
  blk_ext [iblk, V, idx t]

theorem blk3 (k : Fin 5632) : (iblk m c 3 t : Vec Ideal S1024x5632 .bf16) (ix2 j k) = aB m c (ix2 j k) := by
  blk_ext [iblk, V, idx t]

theorem h_blk : out0_5 (iblk m c 0 t) (iblk m c 1 t) (iblk m c 2 t) (iblk m c 3 t) (ix2 r j)
    = NormFwd.h (aX m c) (aw m c) (aM m c) 3 4 (row t r) j := by
  frame_out
  unfold k0_pay4
  pointwise
  simp only [blk0, blk1, blk2 m c t r]
  rfl

theorem o_blk (k : Fin 5632) : out0_4 (iblk m c 0 t) (iblk m c 1 t) (iblk m c 2 t) (iblk m c 3 t) (ix2 r k)
    = NormFwd.o (aX m c) (aw m c) (aM m c) (aB m c) 3 4 (row t r) k := by
  rw [out_at]
  exact Finset.sum_congr rfl fun j _ => by rw [h_blk, blk3]

/-- What the kernel leaves. -/
abbrev g4 : S4352x5632.Idx → EReal := NormFwd.gO (aX m c) (aw m c) (aM m c) (aB m c) 3 4
@[inherit_doc g4] abbrev g5 : S4352x1024.Idx → EReal := NormFwd.gH (aX m c) (aw m c) (aM m c) 3 4

theorem final4 : (dats m 0 c).arrAt 4 cfg0.N = g4 m c := by
  refine (dats m 0 c).arrAt_eq_of_covers 4 _ (by decide +kernel) fun t hf y => ?_
  blk_simp
  rw [after0_4]
  obtain ⟨r, j, rfl⟩ : ∃ (i : Fin 256) (j : Fin 5632), y = ix2 i j := ⟨y 0, y 1, by idx_vars y⟩
  refine (o_blk m c t r j).trans (Eq.trans (b := g4 m c (ix2 (row t r) j)) rfl (Eq.symm ?_))
  unfold row
  blk_ext [idx t]

theorem final5 : (dats m 0 c).arrAt 5 cfg0.N = g5 m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (h_blk m c t r j).trans (Eq.trans (b := g5 m c (ix2 (row t r) j)) rfl (Eq.symm ?_))
  unfold row
  blk_ext [idx t]
end

end Cert.UpFwd

namespace Cert.UpFwd.Ref

open Cert.Reference10Ideal Cert.Reference10Ideal.Gen

section
variable (X : FVec Ideal S4352x1024 .f32) (w : FVec Ideal S1x1024 .f32) (M : FVec Ideal S2x6x1024 .f32) (B : FVec Ideal S1024x5632 .bf16)

/-- The terms of the reference. -/
def two (U : FVec Ideal S2x1x1024 .f32) : FVec Ideal S4352x1024 .f32 := concatenate S4352x1024 0 [⟨S256x1024, (broadcastInDim S256x1024 ![0, 1] bcast_S1x1024_S256x1024_0_1 (shapeCast _ (extractStridedSlice S1x1x1024 ![0, 0, 0] U slices_S2x1x1024_S1x1x1024_0_0_0) shapeCasts_S1x1x1024_S1x1024))⟩, ⟨S4096x1024, (broadcastInDim S4096x1024 ![0, 1] bcast_S1x1024_S4096x1024_0_1 (shapeCast _ (extractStridedSlice S1x1x1024 ![1, 0, 0] U slices_S2x1x1024_S1x1x1024_1_0_0) shapeCasts_S1x1x1024_S1x1024))⟩] concatenates_S256x1024_S4096x1024_S4352x1024_d0
@[inherit_doc two] def ve : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc two] def h : FVec Ideal S4352x1024 .f32 := addf (mulf (mulf (mulf X (broadcastInDim S4352x1024 ![0, 1] bcast_S4352x1_S4352x1024_0_1 (Host.rsqrt (ve X)))) (broadcastInDim S4352x1024 ![0, 1] bcast_S1x1024_S4352x1024_0_1 w)) (addf (broadcastInDim S4352x1024 ![] bcast_S_S4352x1024 (constant S_ .f32 0x3F800000#32)) (two (extractStridedSlice S2x1x1024 ![0, 4, 0] M slices_S2x6x1024_S2x1x1024_0_4_0)))) (two (extractStridedSlice S2x1x1024 ![0, 3, 0] M slices_S2x6x1024_S2x1x1024_0_3_0))
/-- The results. -/
def out : FVec Ideal S4352x5632 .bf16 := truncf .bf16 (Host.dotGeneral dot_S4352x1024_S1024x5632_S4352x5632_1_0_0_1_n_n none (h X w M) (extf .f32 B bitsLt_bf16_f32)) bitsLt_bf16_f32
@[inherit_doc out] def hb : FVec Ideal S4352x1024 .bf16 := truncf .bf16 (h X w M) bitsLt_bf16_f32

variable (i : Fin 4352) (j : Fin 1024)

theorem two_at (U : FVec Ideal S2x1x1024 .f32) : two U (ix2 i j) = U (ix3 (NormGrad.seg i) 0 j) := by
  unfold two NormGrad.seg
  pointwise
  split <;> rfl

theorem ve_at (z : Fin 1) : ve X (ix2 i z) = NormGrad.ve X i := by
  unfold ve NormGrad.ve NormGrad.ms
  pointwise

theorem h_at : h X w M (ix2 i j) = NormFwd.h X w M 3 4 i j := by
  unfold h NormFwd.h NormGrad.y
  pointwise
  simp only [ve_at, two_at]
  pointwise

theorem hb_at : hb X w M (ix2 i j) = NormFwd.gH X w M 3 4 (ix2 i j) := by
  unfold hb
  pointwise
  exact h_at X w M i j

theorem out_at (k : Fin 5632) : out X w M B (ix2 i k) = NormFwd.gO X w M B 3 4 (ix2 i k) := by
  change _ = NormFwd.o X w M B 3 4 i k
  unfold out NormFwd.o
  pointwise
  simp only [h_at]
end

end Cert.UpFwd.Ref

namespace Cert.UpFwd

/-- Kernel and reference leave the same product and the same modulated norm. -/
theorem algebraic : Cert.algebraic_Kernel10Ideal_Reference10Ideal := by
  intro m g m' g' _ hag
  refine ⟨fun c => g4 m c, fun c => g5 m c, ?_, ?_⟩
  · refine (θ_run Cert.Kernel10Ideal.defs _ _).mono (fun r h c => ?_) (Cert.Kernel10Ideal.Value.run_blocks m g)
    obtain ⟨h4, h5, ha⟩ := h c
    exact ⟨h4.trans (final4 m c), h5.trans (final5 m c), ha⟩
  · refine (θ_run Cert.Reference10Ideal.defs _ _).mono (fun r h c => ?_) (Cert.Reference10Ideal.Value.run m' g')
    obtain ⟨h4, h5, ha⟩ := h c
    obtain ⟨e0, e1, e2, e3⟩ := hag c
    refine ⟨h4.trans ?_, h5.trans ?_, ha⟩
    · rw [e0, e1, e2, e3]
      funext y
      obtain ⟨i, j, rfl⟩ : ∃ (i : Fin 4352) (j : Fin 5632), y = ix2 i j := ⟨y 0, y 1, by idx_vars y⟩
      exact Ref.out_at (aX m c) (aw m c) (aM m c) (aB m c) i j
    · rw [e0, e1, e2]
      funext y
      obtain ⟨i, j, rfl⟩ : ∃ (i : Fin 4352) (j : Fin 1024), y = ix2 i j := ⟨y 0, y 1, by idx_vars y⟩
      exact Ref.hb_at (aX m c) (aw m c) (aM m c) i j

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

end Cert.UpFwd
end
-- ==== Proof.InFwd.lean ====
module

public import proofs.«01_k».proof.Proof.Gen.Kernel11Ideal.Value
public import proofs.«01_k».proof.Proof.Gen.Kernel11.Frame
public import proofs.«01_k».proof.Proof.Gen.Reference11Ideal.Run
public import proofs.«01_k».proof.Proof.NormFwd
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `in_proj`: the norm, its modulation and the product with the scans' input weights. -/

@[expose] public section

set_option maxRecDepth 16384

noncomputable section

open Idealize.ShloMosaic Idealize.ShloMosaic.TcCoe Idealize.SL.Sem
open Idealize.ShloMosaic.Pipeline (Dat)

namespace Cert.InFwd

open Cert.Kernel11Ideal Cert.Kernel11Ideal.Gen

/-- Where every window's block lies. -/
theorem idx : ∀ t : Fin cfg0.N, win0_0.index t = ![t.val, 0] ∧ win0_1.index t = ![0, 0] ∧ win0_2.index t = ![min t.val 1, 0, 0]
    ∧ win0_3.index t = ![0, 0] ∧ win0_4.index t = ![t.val, 0] ∧ win0_5.index t = ![t.val, 0] :=
  (by decide +kernel : ∀ t : Fin grid0.N, _)

/-- The columns of the product are stored 512 at a time. -/
theorem out_at (x0 : Vec Ideal S256x1024 .f32) (x1 : Vec Ideal S1x1024 .f32) (x2 : Vec Ideal S1x6x1024 .f32) (x3 : Vec Ideal S1024x3584 .bf16)
    (r : Fin 256) (j : Fin 3584) : out0_4 x0 x1 x2 x3 (ix2 r j) = ∑ k : Fin 1024, out0_5 x0 x1 x2 x3 (ix2 r k) * x3 (ix2 k j) := by
  have e : ∀ k : Fin 1024, out0_5 x0 x1 x2 x3 (ix2 r k)
      = k0_pay6 (View.ld x0 r0_0) (View.ld x1 r0_1) (View.ld x2 r0_2) (View.ld x2 r0_3) (ix2 r k) := fun k => by
    frame_out
  simp only [e]
  unfold out0_4 k0_pay9
  canon_tiles x hx
  all_goals obtain ⟨a, b, rfl⟩ : ∃ (a : Fin 256) (b : Fin 512), x = ix2 a b := ⟨x 0, x 1, by idx_vars x⟩
  all_goals obtain rfl : r = a := Fin.ext hx0
  all_goals first
    | unfold k0_pay1 | unfold k0_pay2 | unfold k0_pay3 | unfold k0_pay4 | unfold k0_pay5 | unfold k0_pay7 | unfold k0_pay8
  all_goals pointwise
  all_goals exact Finset.sum_congr rfl fun k _ => congrArg _ (congrArg x3 (congrArg (ix2 k) (Fin.ext (hx1.trans (by simp)).symm)))

section
variable (m : (ℓ : Loc nD τ sig) → Buf (Elt Ideal) ℓ) (c : Dev nD)

/-- The kernel's arrays. -/
abbrev aX : S4352x1024.Idx → EReal := m ((c.tc : Thread nD τ).loc main_arg0)
@[inherit_doc aX] abbrev aw : S1x1024.Idx → EReal := m ((c.tc : Thread nD τ).loc main_arg1)
@[inherit_doc aX] abbrev aM : S2x6x1024.Idx → EReal := m ((c.tc : Thread nD τ).loc main_arg2)
@[inherit_doc aX] abbrev aB : S1024x3584.Idx → EReal := m ((c.tc : Thread nD τ).loc main_arg3)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 : (iblk m c 0 t : Vec Ideal S256x1024 .f32) (ix2 r j) = aX m c (ix2 (row t r) j) := by
  unfold row
  blk_ext [iblk, V, idx t]

theorem blk1 : (iblk m c 1 t : Vec Ideal S1x1024 .f32) (ix2 0 j) = aw m c (ix2 0 j) := by
  blk_ext [iblk, V, idx t]

theorem seg_row : NormGrad.seg (row t r) = ⟨min t.val 1, by omega⟩ := by
  have h := r.isLt
  unfold NormGrad.seg row
  apply Fin.ext
  dsimp only
  split <;> simp <;> omega

theorem blk2 (q : Fin 6) : (iblk m c 2 t : Vec Ideal S1x6x1024 .f32) (ix3 0 q j) = aM m c (ix3 (NormGrad.seg (row t r)) q j) := by
  rw [seg_row]
  blk_ext [iblk, V, idx t]

theorem blk3 (k : Fin 3584) : (iblk m c 3 t : Vec Ideal S1024x3584 .bf16) (ix2 j k) = aB m c (ix2 j k) := by
  blk_ext [iblk, V, idx t]

theorem h_blk : out0_5 (iblk m c 0 t) (iblk m c 1 t) (iblk m c 2 t) (iblk m c 3 t) (ix2 r j)
    = NormFwd.h (aX m c) (aw m c) (aM m c) 0 1 (row t r) j := by
  frame_out
  unfold k0_pay6
  pointwise
  simp only [blk0, blk1, blk2 m c t r]
  rfl

theorem o_blk (k : Fin 3584) : out0_4 (iblk m c 0 t) (iblk m c 1 t) (iblk m c 2 t) (iblk m c 3 t) (ix2 r k)
    = NormFwd.o (aX m c) (aw m c) (aM m c) (aB m c) 0 1 (row t r) k := by
  rw [out_at]
  exact Finset.sum_congr rfl fun j _ => by rw [h_blk, blk3]

/-- What the kernel leaves. -/
abbrev g4 : S4352x3584.Idx → EReal := NormFwd.gO (aX m c) (aw m c) (aM m c) (aB m c) 0 1
@[inherit_doc g4] abbrev g5 : S4352x1024.Idx → EReal := NormFwd.gH (aX m c) (aw m c) (aM m c) 0 1

theorem final4 : (dats m 0 c).arrAt 4 cfg0.N = g4 m c := by
  refine (dats m 0 c).arrAt_eq_of_covers 4 _ (by decide +kernel) fun t hf y => ?_
  blk_simp
  rw [after0_4]
  obtain ⟨r, j, rfl⟩ : ∃ (i : Fin 256) (j : Fin 3584), y = ix2 i j := ⟨y 0, y 1, by idx_vars y⟩
  refine (o_blk m c t r j).trans (Eq.trans (b := g4 m c (ix2 (row t r) j)) rfl (Eq.symm ?_))
  unfold row
  blk_ext [idx t]

theorem final5 : (dats m 0 c).arrAt 5 cfg0.N = g5 m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (h_blk m c t r j).trans (Eq.trans (b := g5 m c (ix2 (row t r) j)) rfl (Eq.symm ?_))
  unfold row
  blk_ext [idx t]
end

end Cert.InFwd

namespace Cert.InFwd.Ref

open Cert.Reference11Ideal Cert.Reference11Ideal.Gen

section
variable (X : FVec Ideal S4352x1024 .f32) (w : FVec Ideal S1x1024 .f32) (M : FVec Ideal S2x6x1024 .f32) (B : FVec Ideal S1024x3584 .bf16)

/-- The terms of the reference. -/
def two (U : FVec Ideal S2x1x1024 .f32) : FVec Ideal S4352x1024 .f32 := concatenate S4352x1024 0 [⟨S256x1024, (broadcastInDim S256x1024 ![0, 1] bcast_S1x1024_S256x1024_0_1 (shapeCast _ (extractStridedSlice S1x1x1024 ![0, 0, 0] U slices_S2x1x1024_S1x1x1024_0_0_0) shapeCasts_S1x1x1024_S1x1024))⟩, ⟨S4096x1024, (broadcastInDim S4096x1024 ![0, 1] bcast_S1x1024_S4096x1024_0_1 (shapeCast _ (extractStridedSlice S1x1x1024 ![1, 0, 0] U slices_S2x1x1024_S1x1x1024_1_0_0) shapeCasts_S1x1x1024_S1x1024))⟩] concatenates_S256x1024_S4096x1024_S4352x1024_d0
@[inherit_doc two] def ve : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc two] def h : FVec Ideal S4352x1024 .f32 := addf (mulf (mulf (mulf X (broadcastInDim S4352x1024 ![0, 1] bcast_S4352x1_S4352x1024_0_1 (Host.rsqrt (ve X)))) (broadcastInDim S4352x1024 ![0, 1] bcast_S1x1024_S4352x1024_0_1 w)) (addf (broadcastInDim S4352x1024 ![] bcast_S_S4352x1024 (constant S_ .f32 0x3F800000#32)) (two (extractStridedSlice S2x1x1024 ![0, 1, 0] M slices_S2x6x1024_S2x1x1024_0_1_0)))) (two (extractStridedSlice S2x1x1024 ![0, 0, 0] M slices_S2x6x1024_S2x1x1024_0_0_0))
/-- The results. -/
def out : FVec Ideal S4352x3584 .f32 := Host.dotGeneral dot_S4352x1024_S1024x3584_S4352x3584_1_0_0_1_n_n none (h X w M) (extf .f32 B bitsLt_bf16_f32)
@[inherit_doc out] def hb : FVec Ideal S4352x1024 .bf16 := truncf .bf16 (h X w M) bitsLt_bf16_f32

variable (i : Fin 4352) (j : Fin 1024)

theorem two_at (U : FVec Ideal S2x1x1024 .f32) : two U (ix2 i j) = U (ix3 (NormGrad.seg i) 0 j) := by
  unfold two NormGrad.seg
  pointwise
  split <;> rfl

theorem ve_at (z : Fin 1) : ve X (ix2 i z) = NormGrad.ve X i := by
  unfold ve NormGrad.ve NormGrad.ms
  pointwise

theorem h_at : h X w M (ix2 i j) = NormFwd.h X w M 0 1 i j := by
  unfold h NormFwd.h NormGrad.y
  pointwise
  simp only [ve_at, two_at]
  pointwise

theorem hb_at : hb X w M (ix2 i j) = NormFwd.gH X w M 0 1 (ix2 i j) := by
  unfold hb
  pointwise
  exact h_at X w M i j

theorem out_at (k : Fin 3584) : out X w M B (ix2 i k) = NormFwd.gO X w M B 0 1 (ix2 i k) := by
  change _ = NormFwd.o X w M B 0 1 i k
  unfold out NormFwd.o
  pointwise
  simp only [h_at]
end

end Cert.InFwd.Ref

namespace Cert.InFwd

/-- Kernel and reference leave the same product and the same modulated norm. -/
theorem algebraic : Cert.algebraic_Kernel11Ideal_Reference11Ideal := by
  intro m g m' g' _ hag
  refine ⟨fun c => g4 m c, fun c => g5 m c, ?_, ?_⟩
  · refine (θ_run Cert.Kernel11Ideal.defs _ _).mono (fun r h c => ?_) (Cert.Kernel11Ideal.Value.run_blocks m g)
    obtain ⟨h4, h5, ha⟩ := h c
    exact ⟨h4.trans (final4 m c), h5.trans (final5 m c), ha⟩
  · refine (θ_run Cert.Reference11Ideal.defs _ _).mono (fun r h c => ?_) (Cert.Reference11Ideal.Value.run m' g')
    obtain ⟨h4, h5, ha⟩ := h c
    obtain ⟨e0, e1, e2, e3⟩ := hag c
    refine ⟨h4.trans ?_, h5.trans ?_, ha⟩
    · rw [e0, e1, e2, e3]
      funext y
      obtain ⟨i, j, rfl⟩ : ∃ (i : Fin 4352) (j : Fin 3584), y = ix2 i j := ⟨y 0, y 1, by idx_vars y⟩
      exact Ref.out_at (aX m c) (aw m c) (aM m c) (aB m c) i j
    · rw [e0, e1, e2]
      funext y
      obtain ⟨i, j, rfl⟩ : ∃ (i : Fin 4352) (j : Fin 1024), y = ix2 i j := ⟨y 0, y 1, by idx_vars y⟩
      exact Ref.hb_at (aX m c) (aw m c) (aM m c) i j

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

end Cert.InFwd
end
-- ==== Proof.DownFwd.lean ====
module

public import proofs.«01_k».proof.Proof.Gen.Kernel12Ideal.Value
public import proofs.«01_k».proof.Proof.Gen.Kernel12.Frame
public import proofs.«01_k».proof.Proof.Gen.Reference12Ideal.Run
public import proofs.«01_k».proof.Proof.GateFwd
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `ffn_down`: the hidden rows, the product with the feed-forward's second weights, its norm, the gate and the rows it is
added to. -/

@[expose] public section

set_option maxRecDepth 16384

noncomputable section

open Idealize.ShloMosaic Idealize.ShloMosaic.TcCoe Idealize.SL.Sem
open Idealize.ShloMosaic.Pipeline (Dat)

namespace Cert.DownFwd

open Cert.Kernel12Ideal Cert.Kernel12Ideal.Gen

/-- Where every window's block lies. -/
theorem idx : ∀ t : Fin cfg0.N, win0_0.index t = ![t.val, 0] ∧ win0_1.index t = ![0, 0] ∧ win0_2.index t = ![t.val, 0]
    ∧ win0_3.index t = ![min t.val 1, 0, 0] ∧ win0_4.index t = ![0, 0] ∧ win0_5.index t = ![t.val, 0] ∧ win0_6.index t = ![t.val, 0]
    ∧ win0_7.index t = ![t.val, 0] :=
  (by decide +kernel : ∀ t : Fin grid0.N, _)

section
variable (m : (ℓ : Loc nD τ sig) → Buf (Elt Ideal) ℓ) (c : Dev nD)

/-- The kernel's arrays. -/
abbrev aA : S4352x5632.Idx → EReal := m ((c.tc : Thread nD τ).loc main_arg0)
@[inherit_doc aA] abbrev aB : S2816x1024.Idx → EReal := m ((c.tc : Thread nD τ).loc main_arg1)
@[inherit_doc aA] abbrev aR : S4352x1024.Idx → EReal := m ((c.tc : Thread nD τ).loc main_arg2)
@[inherit_doc aA] abbrev aM : S2x6x1024.Idx → EReal := m ((c.tc : Thread nD τ).loc main_arg3)
@[inherit_doc aA] abbrev aw : S1x1024.Idx → EReal := m ((c.tc : Thread nD τ).loc main_arg4)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 (k : Fin 5632) : (iblk m c 0 t : Vec Ideal S256x5632 .bf16) (ix2 r k) = aA m c (ix2 (row t r) k) := by
  unfold row
  blk_ext [iblk, V, idx t]

theorem blk1 (k : Fin 2816) : (iblk m c 1 t : Vec Ideal S2816x1024 .bf16) (ix2 k j) = aB m c (ix2 k j) := by
  blk_ext [iblk, V, idx t]

theorem blk2 : (iblk m c 2 t : Vec Ideal S256x1024 .f32) (ix2 r j) = aR m c (ix2 (row t r) j) := by
  unfold row
  blk_ext [iblk, V, idx t]

theorem seg_row : NormGrad.seg (row t r) = ⟨min t.val 1, by omega⟩ := by
  have h := r.isLt
  unfold NormGrad.seg row
  apply Fin.ext
  dsimp only
  split <;> simp <;> omega

theorem blk3 (q : Fin 6) : (iblk m c 3 t : Vec Ideal S1x6x1024 .f32) (ix3 0 q j) = aM m c (ix3 (NormGrad.seg (row t r)) q j) := by
  rw [seg_row]
  blk_ext [iblk, V, idx t]

theorem blk4 : (iblk m c 4 t : Vec Ideal S1x1024 .f32) (ix2 0 j) = aw m c (ix2 0 j) := by
  blk_ext [iblk, V, idx t]

/-- The product. -/
abbrev z : S4352x1024.Idx → EReal := GateFwd.prod (GateFwd.act (aA m c)) (aB m c)

section
variable (x0 : Vec Ideal S256x5632 .bf16) (x1 : Vec Ideal S2816x1024 .bf16) (h0 : x0 = iblk m c 0 t) (h1 : x1 = iblk m c 1 t)
include h0

theorem act_pay (k : Fin 2816) : k0_pay2 (View.ld x0 r0_0) (View.ld x0 r0_1) (ix2 r k) = GateFwd.act (aA m c) (row t r) k := by
  subst h0
  unfold k0_pay2
  pointwise
  simp only [blk0, zero_sub]
  rfl

include h1

theorem z_pay : k0_pay3 (View.ld x0 r0_0) (View.ld x0 r0_1) x1 (ix2 r j) = z m c (ix2 (row t r) j) := by
  subst h1
  unfold k0_pay3
  pointwise
  exact Finset.sum_congr rfl fun k _ => by rw [act_pay m c t r x0 h0, blk1]; rfl
end

theorem act_blk (k : Fin 2816) : out0_7 (iblk m c 0 t) (iblk m c 1 t) (iblk m c 2 t) (iblk m c 3 t) (iblk m c 4 t) (ix2 r k)
    = GateFwd.act (aA m c) (row t r) k := by
  frame_out
  exact act_pay m c t r _ rfl k

theorem z_blk : out0_6 (iblk m c 0 t) (iblk m c 1 t) (iblk m c 2 t) (iblk m c 3 t) (iblk m c 4 t) (ix2 r j) = z m c (ix2 (row t r) j) := by
  frame_out
  exact z_pay m c t r j _ _ rfl rfl

theorem x_blk : out0_5 (iblk m c 0 t) (iblk m c 1 t) (iblk m c 2 t) (iblk m c 3 t) (iblk m c 4 t) (ix2 r j)
    = GateFwd.x (z m c) (aw m c) (aM m c) (aR m c) 5 (row t r) j := by
  frame_out
  unfold k0_pay1 k0_pay4 k0_pay5 k0_pay6
  pointwise
  simp only [z_pay m c t r _ (iblk m c 0 t) (iblk m c 1 t) rfl rfl, blk2, blk3 m c t r, blk4]
  rfl

/-- What the kernel leaves. -/
abbrev g5 : S4352x1024.Idx → EReal := GateFwd.gX (z m c) (aw m c) (aM m c) (aR m c) 5

theorem final5 : (dats m 0 c).arrAt 5 cfg0.N = g5 m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (x_blk m c t r j).trans (Eq.trans (b := g5 m c (ix2 (row t r) j)) rfl (Eq.symm ?_))
  unfold row
  blk_ext [idx t]

theorem final6 : (dats m 0 c).arrAt 6 cfg0.N = z m c := by
  refine (dats m 0 c).arrAt_eq_of_covers 6 _ (by decide +kernel) fun t hf y => ?_
  blk_simp
  rw [after0_6]
  obtain ⟨r, j, rfl⟩ : ∃ (i : Fin 256) (j : Fin 1024), y = ix2 i j := ⟨y 0, y 1, by idx_vars y⟩
  refine (z_blk m c t r j).trans (Eq.symm ?_)
  unfold row
  blk_ext [idx t]

theorem final7 : (dats m 0 c).arrAt 7 cfg0.N = GateFwd.gA (aA m c) := by
  refine (dats m 0 c).arrAt_eq_of_covers 7 _ (by decide +kernel) fun t hf y => ?_
  blk_simp
  rw [after0_7]
  obtain ⟨r, k, rfl⟩ : ∃ (i : Fin 256) (j : Fin 2816), y = ix2 i j := ⟨y 0, y 1, by idx_vars y⟩
  refine (act_blk m c t r k).trans (Eq.trans (b := GateFwd.gA (aA m c) (ix2 (row t r) k)) rfl (Eq.symm ?_))
  unfold row
  blk_ext [idx t]
end

end Cert.DownFwd

namespace Cert.DownFwd.Ref

open Cert.Reference12Ideal Cert.Reference12Ideal.Gen

section
variable (A : FVec Ideal S4352x5632 .bf16) (B : FVec Ideal S2816x1024 .bf16) (R : FVec Ideal S4352x1024 .f32)
  (M : FVec Ideal S2x6x1024 .f32) (w : FVec Ideal S1x1024 .f32)

/-- The terms of the reference. -/
def two (U : FVec Ideal S2x1x1024 .f32) : FVec Ideal S4352x1024 .f32 := concatenate S4352x1024 0 [⟨S256x1024, (broadcastInDim S256x1024 ![0, 1] bcast_S1x1024_S256x1024_0_1 (shapeCast _ (extractStridedSlice S1x1x1024 ![0, 0, 0] U slices_S2x1x1024_S1x1x1024_0_0_0) shapeCasts_S1x1x1024_S1x1024))⟩, ⟨S4096x1024, (broadcastInDim S4096x1024 ![0, 1] bcast_S1x1024_S4096x1024_0_1 (shapeCast _ (extractStridedSlice S1x1x1024 ![1, 0, 0] U slices_S2x1x1024_S1x1x1024_1_0_0) shapeCasts_S1x1x1024_S1x1024))⟩] concatenates_S256x1024_S4096x1024_S4352x1024_d0
@[inherit_doc two] def ve (X : FVec Ideal S4352x1024 .f32) : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
@[inherit_doc two] def gate : FVec Ideal S4352x2816 .f32 := extractStridedSlice S4352x2816 ![0, 0] (extf .f32 A bitsLt_bf16_f32) slices_S4352x5632_S4352x2816_0_0
@[inherit_doc two] def act : FVec Ideal S4352x2816 .f32 := mulf (mulf (gate A) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (gate A)))))) (extractStridedSlice S4352x2816 ![0, 2816] (extf .f32 A bitsLt_bf16_f32) slices_S4352x5632_S4352x2816_0_2816)
/-- The results. -/
def z : FVec Ideal S4352x1024 .f32 := Host.dotGeneral dot_S4352x2816_S2816x1024_S4352x1024_1_0_0_1_n_n none (act A) (extf .f32 B bitsLt_bf16_f32)
@[inherit_doc z] def actb : FVec Ideal S4352x2816 .bf16 := truncf .bf16 (act A) bitsLt_bf16_f32
@[inherit_doc z] def x (X : FVec Ideal S4352x1024 .f32) : FVec Ideal S4352x1024 .f32 := addf R (mulf (two (extractStridedSlice S2x1x1024 ![0, 5, 0] M slices_S2x6x1024_S2x1x1024_0_5_0)) (mulf (mulf X (broadcastInDim S4352x1024 ![0, 1] bcast_S4352x1_S4352x1024_0_1 (Host.rsqrt (ve X)))) (broadcastInDim S4352x1024 ![0, 1] bcast_S1x1024_S4352x1024_0_1 w)))

variable (i : Fin 4352) (j : Fin 1024)

theorem two_at (U : FVec Ideal S2x1x1024 .f32) : two U (ix2 i j) = U (ix3 (NormGrad.seg i) 0 j) := by
  unfold two NormGrad.seg
  pointwise
  split <;> rfl

theorem ve_at (X : FVec Ideal S4352x1024 .f32) (z : Fin 1) : ve X (ix2 i z) = NormGrad.ve X i := by
  unfold ve NormGrad.ve NormGrad.ms
  pointwise

theorem act_at (k : Fin 2816) : act A (ix2 i k) = GateFwd.act A i k := by
  unfold act gate
  pointwise
  rfl

theorem act_eq : actb A = GateFwd.gA A := by
  funext y
  obtain ⟨i, k, rfl⟩ : ∃ (i : Fin 4352) (j : Fin 2816), y = ix2 i j := ⟨y 0, y 1, by idx_vars y⟩
  unfold actb
  pointwise
  exact act_at A i k

theorem z_eq : z A B = GateFwd.prod (GateFwd.act A) B := by
  funext y
  obtain ⟨i, j, rfl⟩ : ∃ (i : Fin 4352) (j : Fin 1024), y = ix2 i j := ⟨y 0, y 1, by idx_vars y⟩
  unfold z
  pointwise
  simp only [act_at]
  rfl

theorem x_eq (X : FVec Ideal S4352x1024 .f32) : x R M w X = GateFwd.gX X w M R 5 := by
  funext y
  obtain ⟨i, j, rfl⟩ : ∃ (i : Fin 4352) (j : Fin 1024), y = ix2 i j := ⟨y 0, y 1, by idx_vars y⟩
  change _ = GateFwd.x X w M R 5 i j
  unfold x GateFwd.x NormGrad.y
  pointwise
  simp only [ve_at, two_at]
  pointwise
end

end Cert.DownFwd.Ref

namespace Cert.DownFwd

/-- Kernel and reference leave the same rows, the same product and the same hidden rows. -/
theorem algebraic : Cert.algebraic_Kernel12Ideal_Reference12Ideal := by
  intro m g m' g' _ hag
  refine ⟨fun c => g5 m c, fun c => z m c, fun c => GateFwd.gA (aA m c), ?_, ?_⟩
  · refine (θ_run Cert.Kernel12Ideal.defs _ _).mono (fun r h c => ?_) (Cert.Kernel12Ideal.Value.run_blocks m g)
    obtain ⟨h5, h6, h7, ha⟩ := h c
    exact ⟨h5.trans (final5 m c), h6.trans (final6 m c), h7.trans (final7 m c), ha⟩
  · refine (θ_run Cert.Reference12Ideal.defs _ _).mono (fun r h c => ?_) (Cert.Reference12Ideal.Value.run m' g')
    obtain ⟨h5, h6, h7, ha⟩ := h c
    obtain ⟨e0, e1, e2, e3, e4⟩ := hag c
    have hz := Ref.z_eq (aA m c) (aB m c)
    refine ⟨h5.trans ?_, h6.trans ?_, h7.trans ?_, ha⟩
    · rw [e0, e1, e2, e3, e4]
      exact (Ref.x_eq (aR m c) (aM m c) (aw m c) (Ref.z (aA m c) (aB m c))).trans (by rw [hz])
    · rw [e0, e1]
      exact hz
    · rw [e0]
      exact Ref.act_eq (aA m c)

theorem frame_kernel : Cert.quiescent_Kernel12 := fun m ρ _ => Cert.Kernel12.Gen.frame m ρ
theorem frame_ideal : Cert.quiescent_Kernel12Ideal := fun m ρ _ => Cert.Kernel12Ideal.Gen.frame m ρ
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.DownFwd
end
-- ==== Proof.OutFwd.lean ====
module

public import proofs.«01_k».proof.Proof.Gen.Kernel13Ideal.Value
public import proofs.«01_k».proof.Proof.Gen.Kernel13.Frame
public import proofs.«01_k».proof.Proof.Gen.Reference13Ideal.Run
public import proofs.«01_k».proof.Proof.GateFwd
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `out_proj`: the product with the scans' output weights, its norm, the gate and the rows it is added to. -/

@[expose] public section

set_option maxRecDepth 16384

noncomputable section

open Idealize.ShloMosaic Idealize.ShloMosaic.TcCoe Idealize.SL.Sem
open Idealize.ShloMosaic.Pipeline (Dat)

namespace Cert.OutFwd

open Cert.Kernel13Ideal Cert.Kernel13Ideal.Gen

/-- Where every window's block lies. -/
theorem idx : ∀ t : Fin cfg0.N, win0_0.index t = ![t.val, 0] ∧ win0_1.index t = ![0, 0] ∧ win0_2.index t = ![t.val, 0]
    ∧ win0_3.index t = ![min t.val 1, 0, 0] ∧ win0_4.index t = ![0, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD)

/-- The kernel's arrays. -/
abbrev aA : S4352x1024.Idx → EReal := m ((c.tc : Thread nD τ).loc main_arg0)
@[inherit_doc aA] abbrev aB : S1024x1024.Idx → EReal := m ((c.tc : Thread nD τ).loc main_arg1)
@[inherit_doc aA] abbrev aR : S4352x1024.Idx → EReal := m ((c.tc : Thread nD τ).loc main_arg2)
@[inherit_doc aA] abbrev aM : S2x6x1024.Idx → EReal := m ((c.tc : Thread nD τ).loc main_arg3)
@[inherit_doc aA] abbrev aw : S1x1024.Idx → EReal := m ((c.tc : Thread nD τ).loc main_arg4)

variable (t : Fin cfg0.N) (r : Fin 256) (j : Fin 1024)

/-- A block's row among all. -/
def row : Fin 4352 := ⟨256 * t.val + r.val, by have hN : t.val < 17 := Nat.lt_of_lt_of_eq t.isLt N_0; omega⟩

theorem blk0 (k : Fin 1024) : (iblk m c 0 t : Vec Ideal S256x1024 .bf16) (ix2 r k) = aA m c (ix2 (row t r) k) := by
  unfold row
  blk_ext [iblk, V, idx t]

theorem blk1 (k : Fin 1024) : (iblk m c 1 t : Vec Ideal S1024x1024 .bf16) (ix2 k j) = aB m c (ix2 k j) := by
  blk_ext [iblk, V, idx t]

theorem blk2 : (iblk m c 2 t : Vec Ideal S256x1024 .f32) (ix2 r j) = aR m c (ix2 (row t r) j) := by
  unfold row
  blk_ext [iblk, V, idx t]

theorem seg_row : NormGrad.seg (row t r) = ⟨min t.val 1, by omega⟩ := by
  have h := r.isLt
  unfold NormGrad.seg row
  apply Fin.ext
  dsimp only
  split <;> simp <;> omega

theorem blk3 (q : Fin 6) : (iblk m c 3 t : Vec Ideal S1x6x1024 .f32) (ix3 0 q j) = aM m c (ix3 (NormGrad.seg (row t r)) q j) := by
  rw [seg_row]
  blk_ext [iblk, V, idx t]

theorem blk4 : (iblk m c 4 t : Vec Ideal S1x1024 .f32) (ix2 0 j) = aw m c (ix2 0 j) := by
  blk_ext [iblk, V, idx t]

/-- The product. -/
abbrev z : S4352x1024.Idx → EReal := GateFwd.prod (fun i k => aA m c (ix2 i k)) (aB m c)

theorem pay_blk : k0_pay1 (F := Ideal) (iblk m c 0 t) (iblk m c 1 t) (ix2 r j) = z m c (ix2 (row t r) j) := by
  unfold k0_pay1
  pointwise
  exact Finset.sum_congr rfl fun k _ => by rw [blk0, blk1]; rfl

theorem z_blk : out0_6 (iblk m c 0 t) (iblk m c 1 t) (iblk m c 2 t) (iblk m c 3 t) (iblk m c 4 t) (ix2 r j) = z m c (ix2 (row t r) j) := by
  frame_out
  exact pay_blk m c t r j

theorem x_blk : out0_5 (iblk m c 0 t) (iblk m c 1 t) (iblk m c 2 t) (iblk m c 3 t) (iblk m c 4 t) (ix2 r j)
    = GateFwd.x (z m c) (aw m c) (aM m c) (aR m c) 2 (row t r) j := by
  frame_out
  unfold k0_pay2
  pointwise
  simp only [pay_blk, blk2, blk3 m c t r, blk4]
  rfl

/-- What the kernel leaves. -/
abbrev g5 : S4352x1024.Idx → EReal := GateFwd.gX (z m c) (aw m c) (aM m c) (aR m c) 2

theorem final5 : (dats m 0 c).arrAt 5 cfg0.N = g5 m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (x_blk m c t r j).trans (Eq.trans (b := g5 m c (ix2 (row t r) j)) rfl (Eq.symm ?_))
  unfold row
  blk_ext [idx t]

theorem final6 : (dats m 0 c).arrAt 6 cfg0.N = z m c := by
  refine (dats m 0 c).arrAt_eq_of_covers 6 _ (by decide +kernel) fun t hf y => ?_
  blk_simp
  rw [after0_6]
  obtain ⟨r, j, rfl⟩ : ∃ (i : Fin 256) (j : Fin 1024), y = ix2 i j := ⟨y 0, y 1, by idx_vars y⟩
  refine (z_blk m c t r j).trans (Eq.symm ?_)
  unfold row
  blk_ext [idx t]
end

end Cert.OutFwd

namespace Cert.OutFwd.Ref

open Cert.Reference13Ideal Cert.Reference13Ideal.Gen

section
variable (A : FVec Ideal S4352x1024 .bf16) (B : FVec Ideal S1024x1024 .bf16) (R : FVec Ideal S4352x1024 .f32)
  (M : FVec Ideal S2x6x1024 .f32) (w : FVec Ideal S1x1024 .f32)

/-- The terms of the reference. -/
def two (U : FVec Ideal S2x1x1024 .f32) : FVec Ideal S4352x1024 .f32 := concatenate S4352x1024 0 [⟨S256x1024, (broadcastInDim S256x1024 ![0, 1] bcast_S1x1024_S256x1024_0_1 (shapeCast _ (extractStridedSlice S1x1x1024 ![0, 0, 0] U slices_S2x1x1024_S1x1x1024_0_0_0) shapeCasts_S1x1x1024_S1x1024))⟩, ⟨S4096x1024, (broadcastInDim S4096x1024 ![0, 1] bcast_S1x1024_S4096x1024_0_1 (shapeCast _ (extractStridedSlice S1x1x1024 ![1, 0, 0] U slices_S2x1x1024_S1x1x1024_1_0_0) shapeCasts_S1x1x1024_S1x1024))⟩] concatenates_S256x1024_S4096x1024_S4352x1024_d0
@[inherit_doc two] def ve (X : FVec Ideal S4352x1024 .f32) : FVec Ideal S4352x1 .f32 := addf (Host.divf (broadcastInDim S4352x1 ![0] bcast_S4352_S4352x1_0 (Host.reduceAdd (mulf X X) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
/-- The results. -/
def z : FVec Ideal S4352x1024 .f32 := Host.dotGeneral dot_S4352x1024_S1024x1024_S4352x1024_1_0_0_1_n_n none (extf .f32 A bitsLt_bf16_f32) (extf .f32 B bitsLt_bf16_f32)
@[inherit_doc z] def x (X : FVec Ideal S4352x1024 .f32) : FVec Ideal S4352x1024 .f32 := addf R (mulf (two (extractStridedSlice S2x1x1024 ![0, 2, 0] M slices_S2x6x1024_S2x1x1024_0_2_0)) (mulf (mulf X (broadcastInDim S4352x1024 ![0, 1] bcast_S4352x1_S4352x1024_0_1 (Host.rsqrt (ve X)))) (broadcastInDim S4352x1024 ![0, 1] bcast_S1x1024_S4352x1024_0_1 w)))

variable (i : Fin 4352) (j : Fin 1024)

theorem two_at (U : FVec Ideal S2x1x1024 .f32) : two U (ix2 i j) = U (ix3 (NormGrad.seg i) 0 j) := by
  unfold two NormGrad.seg
  pointwise
  split <;> rfl

theorem ve_at (X : FVec Ideal S4352x1024 .f32) (z : Fin 1) : ve X (ix2 i z) = NormGrad.ve X i := by
  unfold ve NormGrad.ve NormGrad.ms
  pointwise

theorem z_eq : z A B = GateFwd.prod (fun i k => A (ix2 i k)) B := by
  funext y
  obtain ⟨i, j, rfl⟩ : ∃ (i : Fin 4352) (j : Fin 1024), y = ix2 i j := ⟨y 0, y 1, by idx_vars y⟩
  unfold z
  pointwise
  rfl

theorem x_eq (X : FVec Ideal S4352x1024 .f32) : x R M w X = GateFwd.gX X w M R 2 := by
  funext y
  obtain ⟨i, j, rfl⟩ : ∃ (i : Fin 4352) (j : Fin 1024), y = ix2 i j := ⟨y 0, y 1, by idx_vars y⟩
  change _ = GateFwd.x X w M R 2 i j
  unfold x GateFwd.x NormGrad.y
  pointwise
  simp only [ve_at, two_at]
  pointwise
end

end Cert.OutFwd.Ref

namespace Cert.OutFwd

/-- Kernel and reference leave the same rows and the same product. -/
theorem algebraic : Cert.algebraic_Kernel13Ideal_Reference13Ideal := by
  intro m g m' g' _ hag
  refine ⟨fun c => g5 m c, fun c => z m c, ?_, ?_⟩
  · refine (θ_run Cert.Kernel13Ideal.defs _ _).mono (fun r h c => ?_) (Cert.Kernel13Ideal.Value.run_blocks m g)
    obtain ⟨h5, h6, ha⟩ := h c
    exact ⟨h5.trans (final5 m c), h6.trans (final6 m c), ha⟩
  · refine (θ_run Cert.Reference13Ideal.defs _ _).mono (fun r h c => ?_) (Cert.Reference13Ideal.Value.run m' g')
    obtain ⟨h5, h6, ha⟩ := h c
    obtain ⟨e0, e1, e2, e3, e4⟩ := hag c
    have hz := Ref.z_eq (aA m c) (aB m c)
    refine ⟨h5.trans ?_, h6.trans ?_, ha⟩
    · rw [e0, e1, e2, e3, e4]
      exact (Ref.x_eq (aR m c) (aM m c) (aw m c) (Ref.z (aA m c) (aB m c))).trans (by rw [hz])
    · rw [e0, e1]
      exact hz

theorem frame_kernel : Cert.quiescent_Kernel13 := fun m ρ _ => Cert.Kernel13.Gen.frame m ρ
theorem frame_ideal : Cert.quiescent_Kernel13Ideal := fun m ρ _ => Cert.Kernel13Ideal.Gen.frame m ρ
theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

end Cert.OutFwd
end
-- ==== Proof.ConvGrad.lean ====
module

public import proofs.«01_k».proof.Proof.NormGrad

/-! The gradient of the centred convolution along the tokens, the context's tokens apart from the latent ones. -/

@[expose] public section

set_option maxRecDepth 16384

noncomputable section

open Idealize.ShloMosaic

namespace Cert.ConvGrad

section
variable (A B : (⟨2, ![4352, 1024]⟩ : Shape).Idx → EReal) (W : (⟨2, ![8, 1024]⟩ : Shape).Idx → EReal)

/-- The entry `d - 2` rows further on, zero where that row lies outside the row's segment. -/
def sh (i : Fin 4352) (d : ℕ) (j : Fin 1024) : EReal :=
  if h : 2 ≤ i.val + d ∧ i.val + d < 4354 ∧ (i.val < 256 ↔ i.val + d < 258) then A (ix2 ⟨i.val + d - 2, by omega⟩ j) else 0

/-- The inputs' gradient. -/
def dx (i : Fin 4352) (j : Fin 1024) : EReal :=
  W (ix2 0 j) * sh B i 4 j + W (ix2 1 j) * sh B i 3 j + W (ix2 2 j) * sh B i 2 j + W (ix2 3 j) * sh B i 1 j + W (ix2 4 j) * sh B i 0 j

/-- A row's part of the weights' gradient. -/
def fw (k : ℕ) (j : Fin 1024) (i : Fin 4352) : EReal := sh A i k j * B (ix2 i j)

/-- The three gradients; the last three rows of weights are the padding. -/
def gX : (⟨2, ![4352, 1024]⟩ : Shape).Idx → EReal := fun y => dx B W (y 0) (y 1)
@[inherit_doc gX] def gW : (⟨2, ![8, 1024]⟩ : Shape).Idx → EReal := fun y => if (y 0).val < 5 then ∑ i, fw A B (y 0).val (y 1) i else 0
@[inherit_doc gX] def gB : (⟨2, ![1, 1024]⟩ : Shape).Idx → EReal := fun y => ∑ i, B (ix2 i (y 1))

theorem sh_in (i : Fin 4352) (d : ℕ) (j : Fin 1024) (h : 2 ≤ i.val + d ∧ i.val + d < 4354 ∧ (i.val < 256 ↔ i.val + d < 258)) :
    sh A i d j = A (ix2 ⟨i.val + d - 2, by omega⟩ j) := dif_pos h

theorem sh_out (i : Fin 4352) (d : ℕ) (j : Fin 1024) (h : ¬(2 ≤ i.val + d ∧ i.val + d < 4354 ∧ (i.val < 256 ↔ i.val + d < 258))) :
    sh A i d j = 0 := dif_neg h

theorem sh_mid (i : Fin 4352) (j : Fin 1024) : sh A i 2 j = A (ix2 i j) := by
  unfold sh
  rw [dif_pos (by omega)]
  rfl

/-- A product at a shifted row, where that row lies in the segment. -/
theorem shifted (w : EReal) (i : Fin 4352) (d : ℕ) (j : Fin 1024) (p : Prop) [Decidable p] (f : p → Fin 4352)
    (hp : p ↔ (2 ≤ i.val + d ∧ i.val + d < 4354 ∧ (i.val < 256 ↔ i.val + d < 258))) (hf : ∀ h, (f h).val = i.val + d - 2) :
    (if h : p then w * A (ix2 (f h) j) else 0) = w * sh A i d j := by
  unfold sh
  by_cases h : p
  · rw [dif_pos h, dif_pos (hp.mp h)]
    exact congrArg (fun x => w * A (ix2 x j)) (Fin.ext (hf h))
  · rw [dif_neg h, dif_neg (fun h' => h (hp.mpr h')), mul_zero]

/-- The sum over all rows, the latent tokens' first. -/
theorem sum_rows (f : Fin 4352 → EReal) : (∑ x : Fin 4096, f ⟨256 + x.val, by omega⟩) + (∑ x : Fin 256, f ⟨x.val, by omega⟩) = ∑ i, f i := by
  have e := Finset.sum_range_add (NormGrad.lift f) 256 4096
  rw [NormGrad.lift_part0, NormGrad.lift_part1] at e
  exact (add_comm _ _).trans (e.symm.trans (NormGrad.lift_sum f))

/-- A row of a block of 256. -/
def row (t : ℕ) (ht : t < 17) (r : Fin 256) : Fin 4352 := ⟨256 * t + r.val, by omega⟩

variable (t : ℕ) (ht : t < 17) (a b n : (⟨2, ![256, 1024]⟩ : Shape).Idx → EReal) (r : Fin 256) (j : Fin 1024)

/-- Rows before, off a block and the one before it. -/
theorem before (s : ℕ) (hs : 1 ≤ s ∧ s ≤ 2) (h : (r.val + 256 - s) % 256 < 256)
    (ha : ∀ r j, a (ix2 r j) = A (ix2 (row (t - 1) (by omega) r) j)) (hb : ∀ r j, b (ix2 r j) = A (ix2 (row t ht r) j)) :
    (if r.val < s then a (ix2 ⟨(r.val + 256 - s) % 256, h⟩ j) * (if 2 ≤ t then 1 else 0) else b (ix2 ⟨(r.val + 256 - s) % 256, h⟩ j))
      = sh A (row t ht r) (2 - s) j := by
  have hr := r.isLt
  unfold sh
  rw [ha, hb]
  by_cases h1 : r.val < s
  · rw [if_pos h1]
    by_cases h2 : 2 ≤ t
    · rw [if_pos h2, mul_one, dif_pos (by simp only [row]; omega)]
      exact congrArg (fun x => A (ix2 x j)) (Fin.ext (by simp only [row]; omega))
    · rw [if_neg h2, mul_zero, dif_neg (by simp only [row]; omega)]
  · rw [if_neg h1, dif_pos (by simp only [row]; omega)]
    exact congrArg (fun x => A (ix2 x j)) (Fin.ext (by simp only [row]; omega))

/-- Rows after, off a block and the one after it. -/
theorem behind (s : ℕ) (hs : 254 ≤ s ∧ s ≤ 255) (h : (r.val + 256 - s) % 256 < 256)
    (hn : ∀ r j, n (ix2 r j) = A (ix2 (row (min (t + 1) 16) (by omega) r) j)) (hb : ∀ r j, b (ix2 r j) = A (ix2 (row t ht r) j)) :
    (if s ≤ r.val then n (ix2 ⟨(r.val + 256 - s) % 256, h⟩ j) * (if 1 ≤ t ∧ t < 16 then 1 else 0) else b (ix2 ⟨(r.val + 256 - s) % 256, h⟩ j))
      = sh A (row t ht r) (258 - s) j := by
  have hr := r.isLt
  unfold sh
  rw [hn, hb]
  by_cases h1 : s ≤ r.val
  · rw [if_pos h1]
    by_cases h2 : 1 ≤ t ∧ t < 16
    · rw [if_pos h2, mul_one, dif_pos (by simp only [row]; omega)]
      exact congrArg (fun x => A (ix2 x j)) (Fin.ext (by simp only [row]; omega))
    · rw [if_neg h2, mul_zero, dif_neg (by simp only [row]; omega)]
  · rw [if_neg h1, dif_pos (by simp only [row]; omega)]
    exact congrArg (fun x => A (ix2 x j)) (Fin.ext (by simp only [row]; omega))
end

end Cert.ConvGrad
end
-- ==== Proof.ConvBwd.lean ====
module

public import proofs.«01_k».proof.Proof.Gen.Kernel14Ideal.Value
public import proofs.«01_k».proof.Proof.ConvGrad
public import Idealize.ShloMosaic.Lib.Pointwise
public import Idealize.ShloMosaic.Lib.Pipeline.ValueKit
public import Idealize.ShloMosaic.Lib.Pipeline.ReadBack

/-! `conv_bwd`: the gradient of the convolution's inputs, weights and bias, by blocks of 256 tokens. -/

@[expose] public section

set_option maxRecDepth 16384

noncomputable section

open Idealize.ShloMosaic Idealize.ShloMosaic.TcCoe Idealize.SL.Sem
open Idealize.ShloMosaic.Pipeline (Dat)

namespace Cert.ConvBwd

open Cert.Kernel14Ideal Cert.Kernel14Ideal.Gen

/-- Where every window's block lies. -/
theorem idx : ∀ t : Fin cfg0.N, win0_0.index t = ![t.val - 1, 0] ∧ win0_1.index t = ![t.val, 0] ∧ win0_2.index t = ![min (t.val + 1) 16, 0]
    ∧ win0_3.index t = ![t.val - 1, 0] ∧ win0_4.index t = ![t.val, 0] ∧ win0_5.index t = ![min (t.val + 1) 16, 0]
    ∧ win0_6.index t = ![0, 0] ∧ win0_7.index t = ![t.val, 0] ∧ win0_8.index t = ![0, 0] ∧ win0_9.index t = ![0, 0] :=
  (by decide +kernel : ∀ t : Fin grid0.N, _)

/-- Whether the point has a block before it, and one after it, in its segment. -/
def f4 (t : ℕ) : EReal := if 2 ≤ t then 1 else 0
@[inherit_doc f4] def f9 (t : ℕ) : EReal := if 1 ≤ t ∧ t < 16 then 1 else 0

theorem bit4 : ∀ t : Fin cfg0.N, (Scalar.extui (Scalar.andi (Scalar.cmpi .ne (BitVec.ofNat 32 (grid0.coords t 0).val) 0#32)
    (Scalar.cmpi .ne (BitVec.ofNat 32 (grid0.coords t 0).val) 1#32)) : BitVec 32).toInt = if 2 ≤ t.val then 1 else 0 :=
  (by decide +kernel : ∀ t : Fin grid0.N, _)

theorem bit9 : ∀ t : Fin cfg0.N, (Scalar.extui (Scalar.andi (Scalar.cmpi .ne (BitVec.ofNat 32 (grid0.coords t 0).val) 0#32)
    (Scalar.cmpi .ne (BitVec.ofNat 32 (grid0.coords t 0).val) 16#32)) : BitVec 32).toInt = if 1 ≤ t.val ∧ t.val < 16 then 1 else 0 :=
  (by decide +kernel : ∀ t : Fin grid0.N, _)

theorem flag4 (t : Fin cfg0.N) : k0_pay4 (F := Ideal) (grid0.coords t) = f4 t.val := by
  unfold k0_pay4 f4
  pointwise
  rw [bit4]
  split <;> simp

theorem flag9 (t : Fin cfg0.N) : k0_pay5 (F := Ideal) (grid0.coords t) = f9 t.val := by
  unfold k0_pay5 f9
  pointwise
  rw [bit9]
  split <;> simp

/-- The comparisons of a row with the block's ends. -/
theorem cmp : ∀ r : Fin 256, IntOp.cmpi .sge (BitVec.ofNat 32 r.val) 254#32 = (if 254 ≤ r.val then 1#1 else 0#1)
    ∧ IntOp.cmpi .sge (BitVec.ofNat 32 r.val) 255#32 = (if 255 ≤ r.val then 1#1 else 0#1)
    ∧ IntOp.cmpi .slt (BitVec.ofNat 32 r.val) 1#32 = (if r.val < 1 then 1#1 else 0#1)
    ∧ IntOp.cmpi .slt (BitVec.ofNat 32 r.val) 2#32 = (if r.val < 2 then 1#1 else 0#1) := by decide +kernel

theorem sel (p : Prop) [Decidable p] (x y : EReal) : Scalar.select (if p then 1#1 else 0#1) x y = if p then x else y := by
  split <;> rfl

section
variable (t : ℕ) (ht : t < 17) (a b n : Vec Ideal S256x1024 .f32) (A B : S4352x1024.Idx → EReal)

/-- A block, the one before and the one after. -/
structure Are : Prop where
  ha : ∀ r j, a (ix2 r j) = A (ix2 (ConvGrad.row (t - 1) (by omega) r) j)
  hb : ∀ r j, b (ix2 r j) = A (ix2 (ConvGrad.row t ht r) j)
  hn : ∀ r j, n (ix2 r j) = A (ix2 (ConvGrad.row (min (t + 1) 16) (by omega) r) j)

variable {t ht a b n A B} (h : Are t ht a b n A)
include h

/-- The inputs' gradient of a block. -/
theorem dx_at (i : grid0.Coords) (w0 w1 w2 w3 w4 : Vec Ideal S1x1024 .f32) (W : S8x1024.Idx → EReal) (r : Fin 256) (j : Fin 1024)
    (h9 : k0_pay5 (F := Ideal) i = f9 t) (h0 : w0 (ix2 0 j) = W (ix2 0 j)) (h1 : w1 (ix2 0 j) = W (ix2 1 j)) (h2 : w2 (ix2 0 j) = W (ix2 2 j))
    (h3 : w3 (ix2 0 j) = W (ix2 3 j)) (h4 : w4 (ix2 0 j) = W (ix2 4 j)) :
    k0_pay8 (f4 t) (f9 t) a b n (k0_pay6 i b n w0) w1 k0_pay7 255#32 w2 w3 w4 (ix2 r j) = ConvGrad.dx A W (ConvGrad.row t ht r) j := by
  unfold k0_pay8 k0_pay6 k0_pay7 ConvGrad.dx
  pointwise
  simp only [cmp r, sel, h9, h0, h1, h2, h3, h4, f4, f9]
  rw [ConvGrad.before A t ht a b r j 1 (by omega) _ h.ha h.hb, ConvGrad.before A t ht a b r j 2 (by omega) _ h.ha h.hb,
    ConvGrad.behind A t ht b n r j 254 (by omega) _ h.hn h.hb, ConvGrad.behind A t ht b n r j 255 (by omega) _ h.hn h.hb, h.hb, ConvGrad.sh_mid]

variable (d : Vec Ideal S256x1024 .f32) (j : Fin 1024) (hd : ∀ r j, d (ix2 r j) = B (ix2 (ConvGrad.row t ht r) j))
include hd

theorem w0_at : k0_pay10 (f4 t) a b d k0_pay9 2#32 (ix2 0 j) = ∑ r, ConvGrad.fw A B 0 j (ConvGrad.row t ht r) := by
  unfold k0_pay10 k0_pay9 ConvGrad.fw
  pointwise
  refine Finset.sum_congr rfl fun r _ => ?_
  simp only [cmp r, sel, f4, hd]
  rw [ConvGrad.before A t ht a b r j 2 (by omega) _ h.ha h.hb]

theorem w1_at : k0_pay12 (f4 t) a b d (ix2 0 j) = ∑ r, ConvGrad.fw A B 1 j (ConvGrad.row t ht r) := by
  unfold k0_pay12 ConvGrad.fw
  pointwise
  refine Finset.sum_congr rfl fun r _ => ?_
  simp only [cmp r, sel, f4, hd]
  rw [ConvGrad.before A t ht a b r j 1 (by omega) _ h.ha h.hb]

theorem w2_at : k0_pay14 b d (ix2 0 j) = ∑ r, ConvGrad.fw A B 2 j (ConvGrad.row t ht r) := by
  unfold k0_pay14 ConvGrad.fw
  pointwise
  simp only [hd, h.hb, ConvGrad.sh_mid]

theorem w3_at : k0_pay16 (f9 t) b n d (iota .tc S256x1024 32 [0] iota_S256x1024_d0_w32) (ix2 0 j) = ∑ r, ConvGrad.fw A B 3 j (ConvGrad.row t ht r) := by
  unfold k0_pay16 ConvGrad.fw
  pointwise
  refine Finset.sum_congr rfl fun r _ => ?_
  simp only [cmp r, sel, f9, hd]
  rw [ConvGrad.behind A t ht b n r j 255 (by omega) _ h.hn h.hb]

theorem w4_at : k0_pay18 (f9 t) b n d (ix2 0 j) = ∑ r, ConvGrad.fw A B 4 j (ConvGrad.row t ht r) := by
  unfold k0_pay18 ConvGrad.fw
  pointwise
  refine Finset.sum_congr rfl fun r _ => ?_
  simp only [cmp r, sel, f9, hd]
  rw [ConvGrad.behind A t ht b n r j 254 (by omega) _ h.hn h.hb]

end

theorem db_at (d : Vec Ideal S256x1024 .f32) (j : Fin 1024) : k0_pay2 d (ix2 0 j) = ∑ r, d (ix2 r j) := by
  unfold k0_pay2
  pointwise

section
variable (m : (ℓ : Loc nD τ sig) → Buf (Elt Ideal) ℓ) (c : Dev nD)

/-- The kernel's arrays; of the projections its own columns. -/
def aP : S4352x1024.Idx → EReal := fun y => (m ((c.tc : Thread nD τ).loc main_arg0) : S4352x3584.Idx → EReal) (ix2 (y 0) ⟨(y 1).val, (y 1).isLt.trans (by decide)⟩)
@[inherit_doc aP] abbrev aD : S4352x1024.Idx → EReal := m ((c.tc : Thread nD τ).loc main_arg1)
@[inherit_doc aP] abbrev aW : S8x1024.Idx → EReal := m ((c.tc : Thread nD τ).loc main_arg2)

variable (t : Fin cfg0.N)
theorem lt17 : t.val < 17 := Nat.lt_of_lt_of_eq t.isLt N_0

theorem areP : Are t.val (lt17 t) (X0_0 m c t) (X0_1 m c t) (X0_2 m c t) (aP m c) := by
  have hN := lt17 t
  constructor
  · intro r j
    unfold X0_0 Pipeline.Window.fill
    rw [dif_pos (moved0_0 t _)]
    unfold aP ConvGrad.row
    blk_ext [iblk, V, idx t]
  · intro r j
    unfold X0_1 Pipeline.Window.fill
    rw [dif_pos (moved0_1 t _)]
    unfold aP ConvGrad.row
    blk_ext [iblk, V, idx t]
  · intro r j
    unfold X0_2 Pipeline.Window.fill
    rw [dif_pos (moved0_2 t _)]
    unfold aP ConvGrad.row
    blk_ext [iblk, V, idx t]

theorem areD : Are t.val (lt17 t) (iblk m c 3 t) (iblk m c 4 t) (iblk m c 5 t) (aD m c) := by
  have hN := lt17 t
  constructor <;> intro r j <;> unfold ConvGrad.row <;> blk_ext [iblk, V, idx t]

theorem blk6 (k : Fin 8) (j : Fin 1024) : (iblk m c 6 t : Vec Ideal S8x1024 .f32) (ix2 k j) = aW m c (ix2 k j) := by
  blk_ext [iblk, V, idx t]

theorem dx_blk (r : Fin 256) (j : Fin 1024) : (outsAt0 m c t.val t.isLt).1 (ix2 r j) = ConvGrad.dx (aD m c) (aW m c) (ConvGrad.row t.val (lt17 t) r) j := by
  have hN := lt17 t
  by_cases h0 : t.val % 17 = 0
  · have h1 : ¬ 1 ≤ t.val := by omega
    rw [outsAt0_A m c t h0 h1 h0 h1 h0 h1 h0 h1 h0 h1 h0 h1 h0 h1]
    frame_out
    rw [flag4, flag9]
    refine dx_at (areD m c t) _ _ _ _ _ _ _ r j (flag9 t) ?_ ?_ ?_ ?_ ?_ <;> pointwise <;> exact blk6 m c t _ j
  · have h1 : 1 ≤ t.val := by omega
    rw [outsAt0_B m c t h0 h1 h0 h1 h0 h1 h0 h1 h0 h1 h0 h1 h0 h1]
    frame_out
    rw [flag4, flag9]
    refine dx_at (areD m c t) _ _ _ _ _ _ _ r j (flag9 t) ?_ ?_ ?_ ?_ ?_ <;> pointwise <;> exact blk6 m c t _ j

theorem db_A (h0 : t.val % 17 = 0) (j : Fin 1024) : (outsAt0 m c t.val t.isLt).2.2 (ix2 0 j) = ∑ r, aD m c (ix2 (ConvGrad.row t.val (lt17 t) r) j) := by
  have hN := lt17 t
  have h1 : ¬ 1 ≤ t.val := by omega
  rw [outsAt0_A m c t h0 h1 h0 h1 h0 h1 h0 h1 h0 h1 h0 h1 h0 h1]
  frame_out
  refine (db_at _ j).trans ?_
  simp only [(areD m c t).hb]

theorem db_B (h0 : ¬ t.val % 17 = 0) (j : Fin 1024) : (outsAt0 m c t.val t.isLt).2.2 (ix2 0 j)
    = (outsAt0 m c (t.val - 1) (Nat.lt_of_le_of_lt (Nat.sub_le _ _) t.isLt)).2.2 (ix2 0 j) + ∑ r, aD m c (ix2 (ConvGrad.row t.val (lt17 t) r) j) := by
  have h1 : 1 ≤ t.val := by omega
  rw [outsAt0_B m c t h0 h1 h0 h1 h0 h1 h0 h1 h0 h1 h0 h1 h0 h1]
  frame_out
  unfold k0_pay3
  pointwise
  rw [db_at]
  simp only [(areD m c t).hb]

/-- A block's part of the weights' gradient. -/
def part (k : Fin 8) (j : Fin 1024) : EReal :=
  if k.val < 5 then ∑ r, ConvGrad.fw (aP m c) (aD m c) k.val j (ConvGrad.row t.val (lt17 t) r) else 0

theorem one_row (x : S1x1024.Idx) (j : Fin 1024) (h : j.val = (x 1).val) : ix2 0 j = x := by
  obtain ⟨a, b, rfl⟩ : ∃ (a : Fin 1) (b : Fin 1024), x = ix2 a b := ⟨x 0, x 1, by idx_vars x⟩
  obtain rfl : j = b := Fin.ext h
  exact congrArg (fun a => ix2 a j) (Fin.ext (by omega))

theorem dw_A (h0 : t.val % 17 = 0) (k : Fin 8) (j : Fin 1024) : (outsAt0 m c t.val t.isLt).2.1 (ix2 k j) = part m c t k j := by
  have hN := lt17 t
  have h1 : ¬ 1 ≤ t.val := by omega
  rw [outsAt0_A m c t h0 h1 h0 h1 h0 h1 h0 h1 h0 h1 h0 h1 h0 h1]
  frame_out
  rw [flag4, flag9]
  unfold part
  have hP := areP m c t
  have hD := (areD m c t).hb
  canon_tiles x hx using View.cover_of_tiledBy _ ![1, 1024] (by sl_kernel_rfl) _
  all_goals have hk : k.val = _ := hx0
  all_goals try obtain rfl := one_row x j hx1
  · rw [if_neg (by omega)]
    unfold k0_pay20
    pointwise
  all_goals simp only [hk, Fin.val_eq_zero, Nat.add_zero, if_pos (show 4 < 5 by decide), if_pos (show 3 < 5 by decide), if_pos (show 2 < 5 by decide), if_pos (show 1 < 5 by decide), if_pos (show 0 < 5 by decide)]
  · exact w4_at hP _ j hD
  · exact w3_at hP _ j hD
  · exact w2_at hP _ j hD
  · exact w1_at hP _ j hD
  · exact w0_at hP _ j hD

theorem dw_B (h0 : ¬ t.val % 17 = 0) (k : Fin 8) (j : Fin 1024) : (outsAt0 m c t.val t.isLt).2.1 (ix2 k j)
    = (outsAt0 m c (t.val - 1) (Nat.lt_of_le_of_lt (Nat.sub_le _ _) t.isLt)).2.1 (ix2 k j) + part m c t k j := by
  have h1 : 1 ≤ t.val := by omega
  rw [outsAt0_B m c t h0 h1 h0 h1 h0 h1 h0 h1 h0 h1 h0 h1 h0 h1]
  frame_out
  rw [flag4, flag9]
  unfold part
  generalize (outsAt0 m c (t.val - 1) (Nat.lt_of_le_of_lt (Nat.sub_le _ _) t.isLt)).2.1 = Z
  have hP := areP m c t
  have hD := (areD m c t).hb
  canon_tiles x hx using View.cover_of_tiledBy _ ![1, 1024] (by sl_kernel_rfl) _
  all_goals have hk : k.val = _ := hx0
  all_goals try obtain rfl := one_row x j hx1
  · rw [if_neg (by omega)]
    obtain ⟨a, b, rfl⟩ : ∃ (a : Fin 3) (b : Fin 1024), x = ix2 a b := ⟨x 0, x 1, by idx_vars x⟩
    unfold k0_pay1 k0_pay20
    pointwise
    exact congrArg₂ (fun k j => Z (ix2 k j)) (Fin.ext hk.symm) (Fin.ext hx1.symm)
  all_goals first | unfold k0_pay19 | unfold k0_pay17 | unfold k0_pay15 | unfold k0_pay13 | unfold k0_pay11
  all_goals pointwise
  · obtain rfl : k = 4 := Fin.ext hk
    exact congrArg _ ((w4_at hP _ j hD).trans (if_pos (by decide)).symm)
  · obtain rfl : k = 3 := Fin.ext hk
    exact congrArg _ ((w3_at hP _ j hD).trans (if_pos (by decide)).symm)
  · obtain rfl : k = 2 := Fin.ext hk
    exact congrArg _ ((w2_at hP _ j hD).trans (if_pos (by decide)).symm)
  · obtain rfl : k = 1 := Fin.ext hk
    exact congrArg _ ((w1_at hP _ j hD).trans (if_pos (by decide)).symm)
  · obtain rfl : k = 0 := Fin.ext hk
    exact congrArg _ ((w0_at hP _ j hD).trans (if_pos (by decide)).symm)

/-- The weights' and the bias's gradients after a point: the sums over the rows so far. -/
theorem dw_sum (k : Fin 8) (j : Fin 1024) (hk : k.val < 5) (n : ℕ) (hn : n < cfg0.N) : (outsAt0 m c n hn).2.1 (ix2 k j)
    = ∑ x ∈ Finset.range (256 * (n + 1)), NormGrad.lift (ConvGrad.fw (aP m c) (aD m c) k.val j) x := by
  refine NormGrad.sums cfg0.N (fun n hn => (outsAt0 m c n hn).2.1 (ix2 k j)) _ (fun hn => ?_) (fun n hn => ?_) n hn
  · refine (dw_A m c ⟨0, hn⟩ rfl k j).trans ((if_pos hk).trans ?_)
    exact (NormGrad.lift_block _ 0 (by omega) _ fun r => rfl).trans (by simp only [Nat.mul_zero, Nat.zero_add])
  · have hN := lt17 ⟨n + 1, hn⟩
    refine (dw_B m c ⟨n + 1, hn⟩ (by dsimp only at hN ⊢; omega) k j).trans (congrArg _ ((if_pos hk).trans ?_))
    exact NormGrad.lift_block _ (n + 1) hN _ fun r => rfl

theorem dw_zero (k : Fin 8) (j : Fin 1024) (hk : ¬ k.val < 5) (n : ℕ) (hn : n < cfg0.N) : (outsAt0 m c n hn).2.1 (ix2 k j) = 0 := by
  induction n with
  | zero => exact (dw_A m c ⟨0, hn⟩ rfl k j).trans (if_neg hk)
  | succ n ih =>
    have hN := lt17 ⟨n + 1, hn⟩
    refine (dw_B m c ⟨n + 1, hn⟩ (by dsimp only at hN ⊢; omega) k j).trans ?_
    rw [part, if_neg hk, add_zero]
    exact ih _

theorem db_sum (j : Fin 1024) (n : ℕ) (hn : n < cfg0.N) : (outsAt0 m c n hn).2.2 (ix2 0 j)
    = ∑ x ∈ Finset.range (256 * (n + 1)), NormGrad.lift (fun i => aD m c (ix2 i j)) x := by
  refine NormGrad.sums cfg0.N (fun n hn => (outsAt0 m c n hn).2.2 (ix2 0 j))
    (NormGrad.lift fun i => aD m c (ix2 i j)) (fun hn => ?_) (fun n hn => ?_) n hn
  · refine (db_A m c ⟨0, hn⟩ rfl j).trans ?_
    exact (NormGrad.lift_block (fun i => aD m c (ix2 i j)) 0 (by omega) _ fun r => rfl).trans (by simp only [Nat.mul_zero, Nat.zero_add])
  · have hN := lt17 ⟨n + 1, hn⟩
    refine (db_B m c ⟨n + 1, hn⟩ (by dsimp only at hN ⊢; omega) j).trans (congrArg _ ?_)
    exact NormGrad.lift_block (fun i => aD m c (ix2 i j)) (n + 1) hN _ fun r => rfl

theorem final7 : (dats m 0 c).arrAt 7 cfg0.N = ConvGrad.gX (aD m c) (aW m c) := by
  refine (dats m 0 c).arrAt_eq_of_covers 7 _ (by decide +kernel) fun t hf y => ?_
  blk_simp
  rw [after0_7]
  obtain ⟨r, j, rfl⟩ : ∃ (i : Fin 256) (j : Fin 1024), y = ix2 i j := ⟨y 0, y 1, by idx_vars y⟩
  refine (dx_blk m c t r j).trans (Eq.trans (b := ConvGrad.gX (aD m c) (aW m c) (ix2 (ConvGrad.row t.val (lt17 t) r) j)) rfl (Eq.symm ?_))
  unfold ConvGrad.row
  blk_ext [idx t]

theorem final8 : (dats m 0 c).arrAt 8 cfg0.N = ConvGrad.gW (aP m c) (aD m c) := by
  refine (dats m 0 c).arrAt_eq_of_covers 8 _ (by decide +kernel) fun t hf y => ?_
  blk_simp
  rw [after0_8]
  have hN := lt17 t
  have h16 : t.val % 17 = 16 := (flush0_8 t).mp hf
  have e16 : 256 * (t.val + 1) = 4352 := by omega
  obtain ⟨k, j, rfl⟩ : ∃ (i : Fin 8) (j : Fin 1024), y = ix2 i j := ⟨y 0, y 1, by idx_vars y⟩
  refine Eq.trans (b := ConvGrad.gW (aP m c) (aD m c) (ix2 k j)) ?_ (Eq.symm (by blk_ext [idx t]))
  by_cases hk : k.val < 5
  · refine (dw_sum m c k j hk _ _).trans ?_
    rw [e16, NormGrad.lift_sum]
    exact (if_pos hk).symm
  · exact (dw_zero m c k j hk _ _).trans (if_neg hk).symm

theorem final9 : (dats m 0 c).arrAt 9 cfg0.N = ConvGrad.gB (aD m c) := by
  refine (dats m 0 c).arrAt_eq_of_covers 9 _ (by decide +kernel) fun t hf y => ?_
  blk_simp
  rw [after0_9]
  have hN := lt17 t
  have h16 : t.val % 17 = 16 := (flush0_9 t).mp hf
  have e16 : 256 * (t.val + 1) = 4352 := by omega
  obtain ⟨k, j, rfl⟩ : ∃ (i : Fin 1) (j : Fin 1024), y = ix2 i j := ⟨y 0, y 1, by idx_vars y⟩
  obtain rfl : k = 0 := Fin.ext (by omega)
  refine Eq.trans (b := ConvGrad.gB (aD m c) (ix2 0 j)) ?_ (Eq.symm (by blk_ext [idx t]))
  refine (db_sum m c j _ _).trans ?_
  rw [e16, NormGrad.lift_sum]
  rfl
end

end Cert.ConvBwd
end
-- ==== Proof.ConvBwdClaim.lean ====
module

public import proofs.«01_k».proof.Proof.ConvBwd
public import proofs.«01_k».proof.Proof.Gen.Kernel14.Frame
public import proofs.«01_k».proof.Proof.Gen.Reference14Ideal.Run
public import proofs.«01_k».proof.Defs
public import Idealize.ShloMosaic.Lib.Claim

/-! `conv_bwd`: its reference's three gradients, and the claims. -/

@[expose] public section

set_option maxRecDepth 16384

noncomputable section

open Idealize.ShloMosaic Idealize.ShloMosaic.TcCoe Idealize.SL.Sem

namespace Cert.ConvBwd.Ref

open Cert.Reference14Ideal Cert.Reference14Ideal.Gen Cert.Reference14Ideal.Value

section
variable (V : Valuation τ sig (Elt Ideal))

/-- The reference's arrays; of the projections its own columns. -/
abbrev rP : S4352x3584.Idx → EReal := V (Proc.devRef .tc main_arg0)
@[inherit_doc rP] abbrev rD : S4352x1024.Idx → EReal := V (Proc.devRef .tc main_arg1)
@[inherit_doc rP] abbrev rW : S8x1024.Idx → EReal := V (Proc.devRef .tc main_arg2)

/-- The projections' own columns. -/
def rC : S4352x1024.Idx → EReal := fun y => rP V (ix2 (y 0) ⟨(y 1).val, (y 1).isLt.trans (by decide)⟩)

theorem ctx_dx (i : Fin 4352) (j : Fin 1024) (hi : i.val < 256) (x : Fin 260) (hx : x.val = 2 + i.val) :
    (res_main_v165 V : S260x1024.Idx → EReal) (ix2 x j) = ConvGrad.dx (rD V) (rW V) i j := by
  unfold res_main_v165 res_main_v29 res_main_v24 res_main_v19 res_main_v14 res_main_v8 res_main_v70 res_main_v2 ConvGrad.dx
  pointwise
  rw [ConvGrad.shifted (rD V) _ i 0 j _ _ (by omega) (fun _ => by dsimp only; omega), ConvGrad.shifted (rD V) _ i 1 j _ _ (by omega) (fun _ => by dsimp only; omega),
    ConvGrad.shifted (rD V) _ i 2 j _ _ (by omega) (fun _ => by dsimp only; omega), ConvGrad.shifted (rD V) _ i 3 j _ _ (by omega) (fun _ => by dsimp only; omega),
    ConvGrad.shifted (rD V) _ i 4 j _ _ (by omega) (fun _ => by dsimp only; omega)]
  abel

theorem lat_dx (i : Fin 4352) (j : Fin 1024) (hi : 256 ≤ i.val) (x : Fin 4100) (hx : x.val = 2 + (i.val - 256)) :
    (res_main_v114 V : S4100x1024.Idx → EReal) (ix2 x j) = ConvGrad.dx (rD V) (rW V) i j := by
  have hi' := i.isLt
  unfold res_main_v114 res_main_v62 res_main_v57 res_main_v52 res_main_v47 res_main_v41 res_main_v71 res_main_v2 ConvGrad.dx
  pointwise
  rw [ConvGrad.shifted (rD V) _ i 0 j _ _ (by omega) (fun _ => by dsimp only; omega), ConvGrad.shifted (rD V) _ i 1 j _ _ (by omega) (fun _ => by dsimp only; omega),
    ConvGrad.shifted (rD V) _ i 2 j _ _ (by omega) (fun _ => by dsimp only; omega), ConvGrad.shifted (rD V) _ i 3 j _ _ (by omega) (fun _ => by dsimp only; omega),
    ConvGrad.shifted (rD V) _ i 4 j _ _ (by omega) (fun _ => by dsimp only; omega)]
  abel

theorem at_sh (i : Fin 4352) (d : ℕ) (j : Fin 1024) (x : Fin 4352)
    (h : 2 ≤ i.val + d ∧ i.val + d < 4354 ∧ (i.val < 256 ↔ i.val + d < 258)) (hx : x.val = i.val + d - 2) :
    rP V (ix2 x ⟨j.val, j.isLt.trans (by decide)⟩) = ConvGrad.sh (rC V) i d j := by
  rw [ConvGrad.sh_in (rC V) i d j h]
  exact congrArg (fun x => rP V (ix2 x ⟨j.val, j.isLt.trans (by decide)⟩)) (Fin.ext hx)

theorem lat_p (i : Fin 4096) (j : Fin 1024) :
    (res_main_v42 V : S4096x1024.Idx → EReal) (ix2 i j) = ConvGrad.sh (rC V) ⟨256 + i.val, by omega⟩ 0 j
    ∧ (res_main_v48 V : S4096x1024.Idx → EReal) (ix2 i j) = ConvGrad.sh (rC V) ⟨256 + i.val, by omega⟩ 1 j
    ∧ (res_main_v53 V : S4096x1024.Idx → EReal) (ix2 i j) = ConvGrad.sh (rC V) ⟨256 + i.val, by omega⟩ 2 j
    ∧ (res_main_v58 V : S4096x1024.Idx → EReal) (ix2 i j) = ConvGrad.sh (rC V) ⟨256 + i.val, by omega⟩ 3 j
    ∧ (res_main_v63 V : S4096x1024.Idx → EReal) (ix2 i j) = ConvGrad.sh (rC V) ⟨256 + i.val, by omega⟩ 4 j := by
  unfold res_main_v42 res_main_v48 res_main_v53 res_main_v58 res_main_v63 res_main_v38 res_main_v37 res_main_v0
  refine ⟨?_, ?_, ?_, ?_, ?_⟩
  all_goals pointwise
  all_goals try split_ifs
  all_goals first
    | exact (ConvGrad.sh_out _ _ _ j (by dsimp only; omega)).symm
    | exact at_sh V _ _ j _ (by dsimp only; omega) (by first | rfl | (dsimp only; omega))

theorem ctx_p (i : Fin 256) (j : Fin 1024) :
    (res_main_v9 V : S256x1024.Idx → EReal) (ix2 i j) = ConvGrad.sh (rC V) ⟨i.val, by omega⟩ 0 j
    ∧ (res_main_v15 V : S256x1024.Idx → EReal) (ix2 i j) = ConvGrad.sh (rC V) ⟨i.val, by omega⟩ 1 j
    ∧ (res_main_v20 V : S256x1024.Idx → EReal) (ix2 i j) = ConvGrad.sh (rC V) ⟨i.val, by omega⟩ 2 j
    ∧ (res_main_v25 V : S256x1024.Idx → EReal) (ix2 i j) = ConvGrad.sh (rC V) ⟨i.val, by omega⟩ 3 j
    ∧ (res_main_v30 V : S256x1024.Idx → EReal) (ix2 i j) = ConvGrad.sh (rC V) ⟨i.val, by omega⟩ 4 j := by
  unfold res_main_v9 res_main_v15 res_main_v20 res_main_v25 res_main_v30 res_main_v5 res_main_v4 res_main_v0
  refine ⟨?_, ?_, ?_, ?_, ?_⟩
  all_goals pointwise
  all_goals try split_ifs
  all_goals first
    | exact (ConvGrad.sh_out _ _ _ j (by dsimp only; omega)).symm
    | exact at_sh V _ _ j _ (by dsimp only; omega) (by first | rfl | (dsimp only; omega))

theorem lat_d (i : Fin 4096) (j : Fin 1024) : (res_main_v71 V : S4096x1024.Idx → EReal) (ix2 i j) = rD V (ix2 ⟨256 + i.val, by omega⟩ j) := by
  unfold res_main_v71
  pointwise

theorem ctx_d (i : Fin 256) (j : Fin 1024) : (res_main_v70 V : S256x1024.Idx → EReal) (ix2 i j) = rD V (ix2 ⟨i.val, by omega⟩ j) := by
  unfold res_main_v70
  pointwise

end
end Cert.ConvBwd.Ref

namespace Cert.ConvBwd

open Cert.Reference14Ideal.Value in
/-- Kernel and reference leave the same three gradients. -/
theorem algebraic : Cert.algebraic_Kernel14Ideal_Reference14Ideal := by
  intro m g m' g' _ hag
  refine ⟨fun c => ConvGrad.gX (aD m c) (aW m c), fun c => ConvGrad.gW (aP m c) (aD m c), fun c => ConvGrad.gB (aD m c), ?_, ?_⟩
  · refine (θ_run Cert.Kernel14Ideal.defs _ _).mono (fun r h c => ?_) (Cert.Kernel14Ideal.Value.run_blocks m g)
    obtain ⟨h7, h8, h9, ha⟩ := h c
    exact ⟨h7.trans (final7 m c), h8.trans (final8 m c), h9.trans (final9 m c), ha⟩
  · refine (θ_run Cert.Reference14Ideal.defs _ _).mono (fun r h c => ?_) (Cert.Reference14Ideal.Value.run m' g')
    obtain ⟨h7, h8, h9, ha⟩ := h c
    obtain ⟨e0, e1, e2⟩ := hag c
    have eP : Ref.rC (StableHlo.launchContents m' c) = aP m c := by
      unfold aP
      rw [← e0]
      rfl
    have eD : Ref.rD (StableHlo.launchContents m' c) = aD m c := e1
    have eW : Ref.rW (StableHlo.launchContents m' c) = aW m c := e2
    dsimp only
    rw [← eP, ← eD, ← eW]
    generalize StableHlo.launchContents m' c = V at h7 h8 h9
    refine ⟨h7.trans ?_, h8.trans ?_, h9.trans ?_, ha⟩
    · funext y
      obtain ⟨i, j, rfl⟩ : ∃ (i : Fin 4352) (j : Fin 1024), y = ix2 i j := ⟨y 0, y 1, by idx_vars y⟩
      change _ = ConvGrad.dx (Ref.rD V) (Ref.rW V) i j
      pointwise
      have hi := i.isLt
      by_cases hc : i.val < 256
      · rw [dif_neg (by omega), dif_pos hc, zero_add]
        exact Ref.ctx_dx V i j hc _ rfl
      · rw [dif_pos (by omega), dif_neg hc, add_zero]
        exact Ref.lat_dx V i j (by omega) _ rfl
    · funext y
      obtain ⟨k, j, rfl⟩ : ∃ (i : Fin 8) (j : Fin 1024), y = ix2 i j := ⟨y 0, y 1, by idx_vars y⟩
      change _ = if k.val < 5 then ∑ i, ConvGrad.fw (Ref.rC V) (Ref.rD V) k.val j i else 0
      pointwise
      rw [← ConvGrad.sum_rows]
      have hl := fun x => Ref.lat_p V x j
      have hc := fun x => Ref.ctx_p V x j
      simp only [Ref.lat_d, Ref.ctx_d, fun x => (hl x).1, fun x => (hl x).2.1, fun x => (hl x).2.2.1, fun x => (hl x).2.2.2.1, fun x => (hl x).2.2.2.2,
        fun x => (hc x).1, fun x => (hc x).2.1, fun x => (hc x).2.2.1, fun x => (hc x).2.2.2.1, fun x => (hc x).2.2.2.2, mul_comm (Ref.rD V _)]
      fin_cases k <;> simp [ConvGrad.fw]
    · funext y
      obtain ⟨k, j, rfl⟩ : ∃ (i : Fin 1) (j : Fin 1024), y = ix2 i j := ⟨y 0, y 1, by idx_vars y⟩
      refine Eq.trans ?_ (ConvGrad.sum_rows fun i => Ref.rD V (ix2 i j))
      pointwise
      simp only [Ref.lat_d, Ref.ctx_d]

theorem frame_kernel : Cert.quiescent_Kernel14 := fun m ρ _ => Cert.Kernel14.Gen.frame m ρ
theorem frame_ideal : Cert.quiescent_Kernel14Ideal := fun m ρ _ => Cert.Kernel14Ideal.Gen.frame m ρ
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.ConvBwd
end
-- ==== Proof.RevFrame.lean ====
module

public import proofs.«01_k».proof.Proof.Gen.Kernel15Ideal.Frame.RunA
public import proofs.«01_k».proof.Proof.Gen.Kernel15Ideal.Frame.RunB
public import Idealize.ShloMosaic.Lib.Claim

/-! The retention scan's gradient in the other direction: the results' buffers and the carried scratch point by point, and the frame. -/

@[expose] public section

set_option maxRecDepth 16384

noncomputable section

namespace Cert.Kernel15Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal Cert.Kernel15Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows' staging buffers at a point. -/
structure Args where
  arg1 : Memref sig .tc .vmem S128x256 .f32
  h1 : arg1.IsWhole
  arg2 : Memref sig .tc .vmem S128x256 .f32
  h2 : arg2.IsWhole
  arg3 : Memref sig .tc .vmem S128x256 .f32
  h3 : arg3.IsWhole
  arg4 : Memref sig .tc .vmem S1x4x64x64 .f32
  h4 : arg4.IsWhole
  arg5 : Memref sig .tc .vmem S128x256 .f32
  h5 : arg5.IsWhole
  arg6 : Memref sig .tc .vmem S128x256 .f32
  h6 : arg6.IsWhole
  arg7 : Memref sig .tc .vmem S128x256 .f32
  h7 : arg7.IsWhole
  arg8 : Memref sig .tc .vmem S128x256 .f32
  h8 : arg8.IsWhole

/-- The inputs' blocks at a point. -/
structure Ins (F : FTy → Type) where
  x0 : Vec F S128x256 .f32
  x1 : Vec F S128x256 .f32
  x2 : Vec F S128x256 .f32
  x3 : Vec F S1x4x64x64 .f32
  x4 : Vec F S128x256 .f32

def args (t : Fin cfg0.N) : Args where
  arg1 := ms0_0 t
  h1 := hs0_0 t
  arg2 := ms0_1 t
  h2 := hs0_1 t
  arg3 := ms0_2 t
  h3 := hs0_2 t
  arg4 := ms0_3 t
  h4 := hs0_3 t
  arg5 := ms0_4 t
  h5 := hs0_4 t
  arg6 := ms0_5 t
  h6 := hs0_5 t
  arg7 := ms0_6 t
  h7 := hs0_6 t
  arg8 := ms0_7 t
  h8 := hs0_7 t

def ins (c : Dev nD) (t : Fin cfg0.N) : Ins F := ⟨iblk m c 0 t, iblk m c 1 t, iblk m c 2 t, iblk m c 3 t, iblk m c 4 t⟩

section
variable (c : Dev nD) (i : grid0.Coords) (A : Args) (X : Ins F)

/-- The body's run at the first point, -/
abbrev run1 (h : cond0_0 i) := kernelRun0_A c i A.arg1 A.h1 A.arg2 A.h2 A.arg3 A.h3 A.arg4 A.h4 A.arg5 A.h5 A.arg6 A.h6 A.arg7 A.h7 A.arg8 A.h8 scM0_0 (Memref.isWhole_whole _) h X.x0 X.x1 X.x2 X.x3 X.x4
/-- and at the others, over what the scratch held before. -/
abbrev run2 (h : ¬cond0_0 i) (s : Vec F S4x64x64 .f32) := kernelRun0_B c i A.arg1 A.h1 A.arg2 A.h2 A.arg3 A.h3 A.arg4 A.h4 A.arg5 A.h5 A.arg6 A.h6 A.arg7 A.h7 A.arg8 A.h8 scM0_0 (Memref.isWhole_whole _) h X.x0 X.x1 X.x2 X.x3 X.x4 s

variable (h : cond0_0 i) (h' : ¬cond0_0 i) (s : Vec F S4x64x64 .f32)

/-- What the run leaves in result 0. -/
def l1_5 : Vec F S128x256 .f32 := VO0_5.read (Elt F) (VO0_5.writes (Elt F) VO0_5.junk (run1 c i A X h).1)
theorem c1_5 (y : S128x256.Idx) : ∃ pc ∈ (run1 c i A X h).1, y ∈ pc.1.set := View.cover_of_tiledL (run1 c i A X h).1 S128x64.size (by sl_kernel_rfl) y

/-- What the run leaves in result 1. -/
def l1_6 : Vec F S128x256 .f32 := VO0_6.read (Elt F) (VO0_6.writes (Elt F) VO0_6.junk (run1 c i A X h).2.1)
theorem c1_6 (y : S128x256.Idx) : ∃ pc ∈ (run1 c i A X h).2.1, y ∈ pc.1.set := View.cover_of_tiledL (run1 c i A X h).2.1 S128x64.size (by sl_kernel_rfl) y

/-- What the run leaves in result 2. -/
def l1_7 : Vec F S128x256 .f32 := VO0_7.read (Elt F) (VO0_7.writes (Elt F) VO0_7.junk (run1 c i A X h).2.2.1)
theorem c1_7 (y : S128x256.Idx) : ∃ pc ∈ (run1 c i A X h).2.2.1, y ∈ pc.1.set := View.cover_of_tiledL (run1 c i A X h).2.2.1 S128x64.size (by sl_kernel_rfl) y

/-- What the run leaves in the scratch. -/
def l1_8 : Vec F S4x64x64 .f32 := VS0_0.read (Elt F) (VS0_0.writes (Elt F) VS0_0.junk (run1 c i A X h).2.2.2.1)
theorem c1_8 (y : S4x64x64.Idx) : ∃ pc ∈ (run1 c i A X h).2.2.2.1, y ∈ pc.1.set := View.cover_of_wholeMem (run1 c i A X h).2.2.2.1 (by sl_whole_mem) y

/-- What the run leaves in result 0. -/
def l2_5 : Vec F S128x256 .f32 := VO0_5.read (Elt F) (VO0_5.writes (Elt F) VO0_5.junk (run2 c i A X h' s).1)
theorem c2_5 (y : S128x256.Idx) : ∃ pc ∈ (run2 c i A X h' s).1, y ∈ pc.1.set := View.cover_of_tiledL (run2 c i A X h' s).1 S128x64.size (by sl_kernel_rfl) y

/-- What the run leaves in result 1. -/
def l2_6 : Vec F S128x256 .f32 := VO0_6.read (Elt F) (VO0_6.writes (Elt F) VO0_6.junk (run2 c i A X h' s).2.1)
theorem c2_6 (y : S128x256.Idx) : ∃ pc ∈ (run2 c i A X h' s).2.1, y ∈ pc.1.set := View.cover_of_tiledL (run2 c i A X h' s).2.1 S128x64.size (by sl_kernel_rfl) y

/-- What the run leaves in result 2. -/
def l2_7 : Vec F S128x256 .f32 := VO0_7.read (Elt F) (VO0_7.writes (Elt F) VO0_7.junk (run2 c i A X h' s).2.2.1)
theorem c2_7 (y : S128x256.Idx) : ∃ pc ∈ (run2 c i A X h' s).2.2.1, y ∈ pc.1.set := View.cover_of_tiledL (run2 c i A X h' s).2.2.1 S128x64.size (by sl_kernel_rfl) y

/-- What the run leaves in the scratch. -/
def l2_8 : Vec F S4x64x64 .f32 := VS0_0.read (Elt F) (VS0_0.writes (Elt F) VS0_0.junk (run2 c i A X h' s).2.2.2.1)
theorem c2_8 (y : S4x64x64.Idx) : ∃ pc ∈ (run2 c i A X h' s).2.2.2.1, y ∈ pc.1.set := View.cover_of_tiledL (run2 c i A X h' s).2.2.2.1 S1x64x64.size (by sl_kernel_rfl) y

end

theorem isFirst {t : Fin cfg0.N} (h : t.val = 0) : cond0_0 (grid0.coords t) := (hcond0_0 t).mpr (by rw [h])
theorem notFirst {t : Fin cfg0.N} (h : ¬t.val = 0) : ¬cond0_0 (grid0.coords t) := fun e =>
  h (by have := (hcond0_0 t).mp e; have := lt_of_lt_of_eq t.isLt (show cfg0.N = 34 from N_0); omega)

/-- What a point leaves in the scratch, over what was there before. -/
def step (c : Dev nD) (t : Fin cfg0.N) (s : Vec F S4x64x64 .f32) : Vec F S4x64x64 .f32 :=
  if h : t.val = 0 then l1_8 c (grid0.coords t) (args t) (ins m c t) (isFirst h) else l2_8 c (grid0.coords t) (args t) (ins m c t) (notFirst h) s

/-- What the scratch holds before a point. -/
def scr (c : Dev nD) : ℕ → Vec F S4x64x64 .f32
  | 0 => VS0_0.read (Elt F) VS0_0.junk
  | n + 1 => if h : n < cfg0.N then step m c ⟨n, h⟩ (scr c n) else scr c n

theorem scr_succ (c : Dev nD) (t : Fin cfg0.N) : scr m c (t.val + 1) = step m c t (scr m c t.val) := by
  rw [scr, dif_pos t.isLt]

/-- What a point leaves in result 0's buffer. -/
def res5 (c : Dev nD) (t : Fin cfg0.N) : Vec F S128x256 .f32 :=
  if h : t.val = 0 then l1_5 c (grid0.coords t) (args t) (ins m c t) (isFirst h) else l2_5 c (grid0.coords t) (args t) (ins m c t) (notFirst h) (scr m c t.val)

/-- What a point leaves in result 1's buffer. -/
def res6 (c : Dev nD) (t : Fin cfg0.N) : Vec F S128x256 .f32 :=
  if h : t.val = 0 then l1_6 c (grid0.coords t) (args t) (ins m c t) (isFirst h) else l2_6 c (grid0.coords t) (args t) (ins m c t) (notFirst h) (scr m c t.val)

/-- What a point leaves in result 2's buffer. -/
def res7 (c : Dev nD) (t : Fin cfg0.N) : Vec F S128x256 .f32 :=
  if h : t.val = 0 then l1_7 c (grid0.coords t) (args t) (ins m c t) (isFirst h) else l2_7 c (grid0.coords t) (args t) (ins m c t) (notFirst h) (scr m c t.val)

/-- The scratch between the points: at anything before the first one. -/
def carry (c : Dev nD) (n : ℕ) : sProp 𝕄 :=
  if n = 0 then Pipeline.ΦA spec0 c else iprop(iprop(owns (c : Thread nD τ) scM0_0 fullShare (scr m c n)) ∗ (∃ r, prngReg c r))

theorem carry_zero (c : Dev nD) {n : ℕ} (h : n = 0) : carry m c n = Pipeline.ΦA spec0 c := if_pos h
theorem carry_pos (c : Dev nD) {n : ℕ} (h : ¬n = 0) :
    carry m c n = iprop(iprop(owns (c : Thread nD τ) scM0_0 fullShare (scr m c n)) ∗ (∃ r, prngReg c r)) := if_neg h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res5 m c t
    | ⟨6, _⟩ => res6 m c t
    | ⟨7, _⟩ => res7 m c t
  Φ t := carry m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res5 m c t := by dsimp only [dats]
theorem after0_6 (c : Dev nD) (t : Fin cfg0.N) : (dats m 0 c).after 6 t = res6 m c t := by dsimp only [dats]
theorem after0_7 (c : Dev nD) (t : Fin cfg0.N) : (dats m 0 c).after 7 t = res7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (args t).arg1 fullShare ((dats m 0 c).before 0 t d))
    ∗ (∃ d, owns (c : Thread nD τ) (args t).arg2 fullShare ((dats m 0 c).before 1 t d))
    ∗ (∃ d, owns (c : Thread nD τ) (args t).arg3 fullShare ((dats m 0 c).before 2 t d))
    ∗ (∃ d, owns (c : Thread nD τ) (args t).arg4 fullShare ((dats m 0 c).before 3 t d))
    ∗ (∃ d, owns (c : Thread nD τ) (args t).arg5 fullShare ((dats m 0 c).before 4 t d))
    ∗ (∃ d, owns (c : Thread nD τ) (args t).arg6 fullShare ((dats m 0 c).before 5 t d))
    ∗ (∃ d, owns (c : Thread nD τ) (args t).arg7 fullShare ((dats m 0 c).before 6 t d))
    ∗ (∃ d, owns (c : Thread nD τ) (args t).arg8 fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (args t).arg1 fullShare ((dats m 0 c).after 0 t)
    ∗ owns (c : Thread nD τ) (args t).arg2 fullShare ((dats m 0 c).after 1 t)
    ∗ owns (c : Thread nD τ) (args t).arg3 fullShare ((dats m 0 c).after 2 t)
    ∗ owns (c : Thread nD τ) (args t).arg4 fullShare ((dats m 0 c).after 3 t)
    ∗ owns (c : Thread nD τ) (args t).arg5 fullShare ((dats m 0 c).after 4 t)
    ∗ owns (c : Thread nD τ) (args t).arg6 fullShare ((dats m 0 c).after 5 t)
    ∗ owns (c : Thread nD τ) (args t).arg7 fullShare ((dats m 0 c).after 6 t)
    ∗ owns (c : Thread nD τ) (args t).arg8 fullShare ((dats m 0 c).after 7 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).owesAt () t.succ = (dats m 0 c).owesAt () t.castSucc from rfl,
    after0_0, after0_1, after0_2, after0_3, after0_4, after0_5, after0_6, after0_7,
    show (dats m 0 c).Φ t.succ = carry m c (t.val + 1) from rfl, show (dats m 0 c).Φ t.castSucc = carry m c t.val from rfl,
    carry_pos m c (Nat.succ_ne_zero _), scr_succ]
  unfold step res5 res6 res7
  by_cases h : t.val = 0
  · rw [carry_zero m c h, PhiA0_eq, dif_pos h, dif_pos h, dif_pos h, dif_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1 c (grid0.coords t) (args t) (ins m c t) (isFirst h)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, ⟨%es, HS⟩⟩
    isplitl [HS Hg]
    · isplitl [HS]
      · unfold owns; iexists _; isplitr
        swap; · iexact HS
        ipureintro; exact View.read_writes_of_cover _ _ _ _ _ (c1_8 c _ _ _ (isFirst h))
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (c1_5 c _ _ _ (isFirst h))
    isplitl [H6]
    · unfold owns; iexists _; isplitr
      swap; · iexact H6
      ipureintro; exact View.read_writes_of_cover _ _ _ _ _ (c1_6 c _ _ _ (isFirst h))
    unfold owns; iexists _; isplitr
    swap; · iexact H7
    ipureintro; exact View.read_writes_of_cover _ _ _ _ _ (c1_7 c _ _ _ (isFirst h))
  · rw [carry_pos m c h, dif_neg h, dif_neg h, dif_neg h, dif_neg h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run2 c (grid0.coords t) (args t) (ins m c t) (notFirst h) (scr m c t.val)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, ⟨%es, HS⟩⟩
    isplitl [HS Hg]
    · isplitl [HS]
      · unfold owns; iexists _; isplitr
        swap; · iexact HS
        ipureintro; exact View.read_writes_of_cover _ _ _ _ _ (c2_8 c _ _ _ (notFirst h) _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (c2_5 c _ _ _ (notFirst h) _)
    isplitl [H6]
    · unfold owns; iexists _; isplitr
      swap; · iexact H6
      ipureintro; exact View.read_writes_of_cover _ _ _ _ _ (c2_6 c _ _ _ (notFirst h) _)
    unfold owns; iexists _; isplitr
    swap; · iexact H7
    ipureintro; exact View.read_writes_of_cover _ _ _ _ _ (c2_7 c _ _ _ (notFirst h) _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = carry m c 0 from rfl, carry_zero m c rfl]

theorem hout (c : Dev nD) : (dats m 0 c).Φ (Fin.last cfg0.N) ⊢ Pipeline.ΦA spec0 c := by
  rw [show (dats m 0 c).Φ (Fin.last cfg0.N) = carry m c cfg0.N from rfl, carry_pos m c (by rw [show cfg0.N = 34 from N_0]; decide), PhiA0_eq]
  iintro ⟨HS, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every result array as computed from the proof data, the arguments unchanged. -/
theorem run_blocks : θ_run defs (onTc (τ := τ) (main (F := F))) ⟨m, fun _ => 0, ρ⟩ fun r => (∀ c : Dev nD,
      (r.2.mem ((c.tc : Thread nD τ).loc main_v41_0) = (dats m 0 c).arrAt 5 cfg0.N
      ∧ r.2.mem ((c.tc : Thread nD τ).loc main_v41_1) = (dats m 0 c).arrAt 6 cfg0.N
      ∧ r.2.mem ((c.tc : Thread nD τ).loc main_v41_2) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨⟨(h.1 c).1 5, (h.1 c).1 6, (h.1 c).1 7⟩,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 4).trans (((dats m 0 c).arrAt_in 4 rfl _).trans ((A_eq m c 4).trans (V_main_arg3 m c)))⟩, h.2⟩)
    (run_main_quiescent m ρ)

/-- The arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h.1 c).2, h.2⟩) (run_blocks m ρ)

end Cert.Kernel15Ideal.Hand
end
-- ==== Proof.Math.lean ====
module

public import Idealize.ShloMosaic.Lib.Pointwise
public import Mathlib.Analysis.SpecialFunctions.Log.Basic

/-! The real mathematics of the retention scan's gradient: one chunk's formulas, and sums over the whole sequence as sums
over chunks. -/

@[expose] public section

noncomputable section

open Idealize.ShloMosaic

namespace Cert.RetScan

/-- The logarithm of head `h`'s decay. -/
def lg (h : Fin 4) : ℝ := Real.log ((2 ^ (5 + h.val) - 1) / 2 ^ (5 + h.val))

/-- Column `d` of head `h`, among the columns of all heads. -/
def cl (h : Fin 4) (d : Fin 64) : Fin 256 := ⟨64 * h.val + d.val, by omega⟩

/-- The head of a column. -/
def hd (j : Fin 256) : Fin 4 := ⟨j.val / 64, by omega⟩

theorem hd_mk (j : Fin 256) (p : j.val / 64 < 4) : (⟨j.val / 64, p⟩ : Fin 4) = hd j := rfl
theorem cl_mk (j : Fin 256) (e : Fin 64) (p : j.val / 64 * 64 + e.val < 256) : (⟨j.val / 64 * 64 + e.val, p⟩ : Fin 256) = cl (hd j) e :=
  Fin.ext (by simp [cl, hd]; omega)
theorem hd_cl (h : Fin 4) (d : Fin 64) : hd (cl h d) = h := Fin.ext (by simp [cl, hd]; omega)
theorem exists_cl (j : Fin 256) : ∃ h d, j = cl h d :=
  ⟨hd j, ⟨j.val % 64, by omega⟩, Fin.ext (by simp [cl, hd]; omega)⟩

/-- The decay over `a - b` positions, zero where `b` comes after `a`. -/
def dcy (L : ℝ) (a b : ℕ) : ℝ := if b ≤ a then Real.exp (L * ((a : ℝ) - b)) else 0

/-- The weight by which the state before position `b` holds position `s`. -/
def wst (L : ℝ) (b s : ℕ) : ℝ := if s < b then Real.exp (L * ((b : ℝ) - 1 - s)) else 0

/-- The weight by which the state's gradient after the chunk at `b` holds position `t`. -/
def ust (L : ℝ) (b t : ℕ) : ℝ := if b + 128 ≤ t then Real.exp (L * ((t : ℝ) - (b + 127))) else 0

section
variable (q k v o : Fin 4352 → Fin 256 → ℝ)

/-- The gradient of the queries over the whole sequence. -/
def dqT (t : Fin 4352) (j : Fin 256) : ℝ :=
  ∑ s : Fin 4352, (∑ e, o t (cl (hd j) e) * v s (cl (hd j) e)) * dcy (lg (hd j)) t s * k s j
/-- The gradient of the keys over the whole sequence. -/
def dkT (s : Fin 4352) (j : Fin 256) : ℝ :=
  ∑ t : Fin 4352, (∑ e, o t (cl (hd j) e) * v s (cl (hd j) e)) * dcy (lg (hd j)) t s * q t j
/-- The gradient of the values over the whole sequence. -/
def dvT (s : Fin 4352) (j : Fin 256) : ℝ :=
  ∑ t : Fin 4352, o t j * ((∑ d, k s (cl (hd j) d) * q t (cl (hd j) d)) * dcy (lg (hd j)) t s)
end

/-- A finite sum of reals is the same in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row of the chunk at `128 n`, as a position of the sequence. -/
def at' (n : Fin 34) (i : Fin 128) : Fin 4352 := ⟨128 * n.val + i.val, by omega⟩

theorem at'_val (n : Fin 34) (i : Fin 128) : (at' n i).val = 128 * n.val + i.val := rfl

/-- The sum over a chunk's positions, taken over the whole sequence. -/
theorem sum_chunk (n : Fin 34) (g : Fin 4352 → ℝ) :
    ∑ s : Fin 4352, (if 128 * n.val ≤ s.val ∧ s.val < 128 * n.val + 128 then g s else 0) = ∑ i : Fin 128, g (at' n i) := by
  rw [← Finset.sum_filter]
  symm
  apply Finset.sum_bij (fun i _ => at' n i)
  · intro i _; simp [at']
  · intro i _ j _ h; simpa [at', Fin.ext_iff] using h
  · intro s hs
    simp only [Finset.mem_filter, Finset.mem_univ, true_and] at hs
    exact ⟨⟨s.val - 128 * n.val, by omega⟩, Finset.mem_univ _, Fin.ext (by simp [at']; omega)⟩
  · intro i _; rfl

theorem dcy_of_le {L : ℝ} {a b : ℕ} (h : b ≤ a) : dcy L a b = Real.exp (L * ((a : ℝ) - b)) := if_pos h
theorem dcy_of_lt {L : ℝ} {a b : ℕ} (h : a < b) : dcy L a b = 0 := if_neg (by omega)
theorem wst_of_lt {L : ℝ} {b s : ℕ} (h : s < b) : wst L b s = Real.exp (L * ((b : ℝ) - 1 - s)) := if_pos h
theorem wst_of_le {L : ℝ} {b s : ℕ} (h : b ≤ s) : wst L b s = 0 := if_neg (by omega)
theorem ust_of_le {L : ℝ} {b t : ℕ} (h : b + 128 ≤ t) : ust L b t = Real.exp (L * ((t : ℝ) - (b + 127))) := if_pos h
theorem ust_of_lt {L : ℝ} {b t : ℕ} (h : t < b + 128) : ust L b t = 0 := if_neg (by omega)

/-- Decay counts the positions between, wherever the chunk lies. -/
theorem dcy_at (L : ℝ) (n : Fin 34) (i j : Fin 128) : dcy L (at' n i) (at' n j) = dcy L i j := by
  by_cases h : j.val ≤ i.val
  · rw [dcy_of_le h, dcy_of_le (by rw [at'_val, at'_val]; omega), at'_val, at'_val]; push_cast; congr 2; ring
  · rw [dcy_of_lt (not_le.1 h), dcy_of_lt (by rw [at'_val, at'_val]; omega)]

/-- The positions up to one of a chunk: the chunk's own, and those the state before the chunk holds. -/
theorem sum_causal (L : ℝ) (n : Fin 34) (i : Fin 128) (f : Fin 4352 → ℝ) :
    ∑ s : Fin 4352, dcy L (at' n i) s * f s = ∑ j : Fin 128, dcy L i j * f (at' n j)
      + Real.exp (L * ((i : ℝ) + 1)) * ∑ s : Fin 4352, wst L (128 * n.val) s * f s := by
  simp only [← dcy_at L n i]
  rw [← sum_chunk n (fun s : Fin 4352 => dcy L (at' n i) s * f s), Finset.mul_sum, ← Finset.sum_add_distrib]
  refine Finset.sum_congr rfl fun s _ => ?_
  have hi := at'_val n i
  by_cases h : s.val < 128 * n.val
  · rw [dcy_of_le (by omega), if_neg (by omega), wst_of_lt h, zero_add, ← mul_assoc, ← Real.exp_add, hi]
    push_cast; congr 2; ring
  · rw [wst_of_le (not_lt.1 h)]
    by_cases h' : s.val ≤ 128 * n.val + i.val
    · rw [if_pos (by omega)]; ring
    · rw [dcy_of_lt (by omega)]; simp

/-- The positions from one of a chunk on: the chunk's own, and those the state's gradient after the chunk holds. -/
theorem sum_anticausal (L : ℝ) (n : Fin 34) (j : Fin 128) (f : Fin 4352 → ℝ) :
    ∑ t : Fin 4352, dcy L t (at' n j) * f t = ∑ i : Fin 128, dcy L i j * f (at' n i)
      + Real.exp (L * (127 - (j : ℝ))) * ∑ t : Fin 4352, ust L (128 * n.val) t * f t := by
  simp only [← dcy_at L n _ j]
  rw [← sum_chunk n (fun t : Fin 4352 => dcy L t (at' n j) * f t), Finset.mul_sum, ← Finset.sum_add_distrib]
  refine Finset.sum_congr rfl fun t _ => ?_
  have hj := at'_val n j
  by_cases h : 128 * n.val + 128 ≤ t.val
  · rw [dcy_of_le (by omega), if_neg (by omega), ust_of_le h, zero_add, ← mul_assoc, ← Real.exp_add, hj]
    push_cast; congr 2; ring
  · rw [ust_of_lt (not_le.1 h)]
    by_cases h' : 128 * n.val + j.val ≤ t.val
    · rw [if_pos (by omega)]; ring
    · rw [dcy_of_lt (by omega)]; simp

/-- What the state's gradient holds one chunk earlier: all it held, decayed by a chunk, and the chunk's own. -/
theorem sum_carry (L : ℝ) (n p : Fin 34) (hp : p.val + 1 = n.val) (f : Fin 4352 → ℝ) :
    ∑ t : Fin 4352, ust L (128 * p.val) t * f t = Real.exp (L * 128) * (∑ t : Fin 4352, ust L (128 * n.val) t * f t)
      + ∑ i : Fin 128, Real.exp (L * ((i : ℝ) + 1)) * f (at' n i) := by
  have hn : (n.val : ℝ) = p.val + 1 := by exact_mod_cast hp.symm
  have e : ∀ i : Fin 128, Real.exp (L * ((i : ℝ) + 1)) = ust L (128 * p.val) (at' n i) := by
    intro i
    rw [ust_of_le (by rw [at'_val]; omega), at'_val]
    push_cast; rw [hn]; congr 2; ring
  simp only [e]
  rw [← sum_chunk n (fun t : Fin 4352 => ust L (128 * p.val) t * f t), Finset.mul_sum, ← Finset.sum_add_distrib]
  refine Finset.sum_congr rfl fun t _ => ?_
  by_cases h : 128 * n.val + 128 ≤ t.val
  · rw [ust_of_le (by omega), ust_of_le h, if_neg (by omega), add_zero, ← mul_assoc, ← Real.exp_add]
    push_cast; rw [hn]; congr 2; ring
  · rw [ust_of_lt (not_le.1 h)]
    by_cases h' : 128 * p.val + 128 ≤ t.val
    · rw [if_pos (by omega)]; ring
    · rw [ust_of_lt (by omega)]; simp

/-- Nothing comes after the last chunk. -/
theorem sum_last (L : ℝ) (n : Fin 34) (hn : n.val = 33) (f : Fin 4352 → ℝ) :
    ∑ t : Fin 4352, ust L (128 * n.val) t * f t = 0 := by
  refine Finset.sum_eq_zero fun t _ => ?_
  have ht := t.isLt
  rw [ust_of_lt (by omega), zero_mul]

/-- A decay of `k` positions is the decay's power. -/
theorem exp_lg (h : Fin 4) (k : ℕ) : Real.exp (lg h * k) = ((2 ^ (5 + h.val) - 1) / 2 ^ (5 + h.val)) ^ k := by
  rw [mul_comm, Real.exp_nat_mul, lg, Real.exp_log]
  have : (1 : ℝ) < 2 ^ (5 + h.val) := one_lt_pow₀ (by norm_num) (by omega)
  exact div_pos (by linarith) (by linarith)

end Cert.RetScan
end
-- ==== Proof.Host.lean ====
module

public import proofs.«01_k».proof.Proof.Math
public import Idealize.ShloMosaic.Lib.Pointwise
public import Idealize.ShloMosaic.Lib.Routing.OpsOne

/-! What the host computes of the decay: the heads' logarithms, their running sums along the sequence, and the decay
between two positions. -/

@[expose] public section

set_option maxRecDepth 16384

noncomputable section

open Idealize.ShloMosaic Idealize.ShloMosaic.Routing

namespace Cert.RetScan

/-- A left fold of additions is the sum. -/
theorem foldl_sum {ι : Type} (g : ι → EReal) (f : EReal → ι → EReal) (hf : ∀ r n, f r n = r + g n) (l : List ι) (v : EReal) :
    l.foldl f v = v + (l.map g).sum := by
  induction l generalizing v with
  | nil => simp
  | cons a l ih => rw [List.foldl_cons, ih, hf, List.map_cons, List.sum_cons, add_assoc]

/-- The running sum of rows that are all alike. -/
theorem running_sum (x : (⟨2, ![4352, 4]⟩ : Shape).Idx → EReal) (L : Fin 4 → ℝ)
    (hx : ∀ (i : Fin 4352) (c : Fin 4), x (ix2 i c) = ((L c : ℝ) : EReal)) (v : EReal) (hv : v = 0)
    (h : (⟨2, ![4352, 4]⟩ : Shape).ReduceWindows (![4352, 1] : Fin 2 → Nat) ![1, 1] ![4351, 0] ![0, 0] ⟨2, ![4352, 4]⟩)
    (j : Fin 4352) (c : Fin 4) :
    Ideal.hostReduceWindowAdd ![4352, 1] ![1, 1] ![4351, 0] ![0, 0] h x v (ix2 j c)
      = ((((j.val : ℝ) + 1) * L c : ℝ) : EReal) := by
  subst hv
  have hj := j.isLt
  unfold Ideal.hostReduceWindowAdd Host.reduceWindow
  refine (foldl_sum (fun n => (((if 4351 ≤ j.val + n.val then L c else 0 : ℝ)) : EReal)) _ (fun r n => ?_) _ _).trans ?_
  · have hw : (shape2 4352 1).rowMajor.symm n = ix2 (n.cast (numel_col 4352)) (0 : Fin 1) := symm_col n
    have hw0 : ((shape2 4352 1).rowMajor.symm n 0).val = n.val := by rw [hw]; rfl
    have hw1 : ((shape2 4352 1).rowMajor.symm n 1).val = 0 := by rw [hw]; rfl
    have hn : n.val < 4352 := (n.cast (numel_col _)).isLt
    dsimp only
    congr 1
    by_cases hle : 4351 ≤ j.val + n.val
    · rw [if_pos hle, dif_pos]
      swap
      · intro a
        match a with
        | ⟨0, _⟩ =>
          show 4351 ≤ j.val * 1 + ((shape2 4352 1).rowMajor.symm n 0).val
            ∧ j.val * 1 + ((shape2 4352 1).rowMajor.symm n 0).val - 4351 < 4352
          rw [hw0]; omega
        | ⟨1, _⟩ =>
          show 0 ≤ c.val * 1 + ((shape2 4352 1).rowMajor.symm n 1).val
            ∧ c.val * 1 + ((shape2 4352 1).rowMajor.symm n 1).val - 0 < 4
          rw [hw1]; omega
      refine (congrArg x (funext fun a => Fin.ext ?_)).trans (hx ⟨j.val + n.val - 4351, by omega⟩ c)
      match a with
      | ⟨0, _⟩ =>
        show j.val * 1 + ((shape2 4352 1).rowMajor.symm n 0).val - 4351 = j.val + n.val - 4351
        rw [hw0, Nat.mul_one]
      | ⟨1, _⟩ =>
        show c.val * 1 + ((shape2 4352 1).rowMajor.symm n 1).val - 0 = c.val
        rw [hw1]; omega
    · rw [if_neg hle, dif_neg, EReal.coe_zero]
      intro hall
      have h0 := (hall 0).1
      change 4351 ≤ j.val * 1 + ((shape2 4352 1).rowMajor.symm n 0).val at h0
      rw [hw0] at h0
      omega
  · rw [zero_add, ← Fin.sum_univ_def, coe_sum, Fin.sum_univ_eq_sum_range (fun n => if 4351 ≤ j.val + n then L c else 0),
      ← Finset.sum_filter, Finset.sum_const]
    have hc : ((Finset.range (Shape.numel ⟨2, ![4352, 1]⟩)).filter fun n => 4351 ≤ j.val + n) = Finset.Ico (4351 - j.val) 4352 := by
      rw [show Shape.numel ⟨2, ![4352, 1]⟩ = 4352 from numel_col 4352]
      ext n; simp only [Finset.mem_filter, Finset.mem_range, Finset.mem_Ico]; omega
    rw [hc, Nat.card_Ico, nsmul_eq_mul, show 4352 - (4351 - j.val) = j.val + 1 by omega]
    push_cast; rfl

/-- The same, at the host's operation. -/
theorem host_sum {u : Shape} (x : FVec Ideal ⟨2, ![4352, 4]⟩ .f32) (L : Fin 4 → ℝ)
    (hx : ∀ (i : Fin 4352) (c : Fin 4), x (ix2 i c) = ((L c : ℝ) : EReal)) (v : FVec Ideal u .f32) (hu : 0 < u.numel)
    (hv : ∀ i, v i = (0 : EReal))
    (h : (⟨2, ![4352, 4]⟩ : Shape).ReduceWindows (![4352, 1] : Fin 2 → Nat) ![1, 1] ![4351, 0] ![0, 0] ⟨2, ![4352, 4]⟩)
    (j : Fin 4352) (c : Fin 4) :
    Host.reduceWindowAdd (F := Ideal) (t := ⟨2, ![4352, 4]⟩) ![4352, 1] ![1, 1] ![4351, 0] ![0, 0] x v h hu (ix2 j c)
      = ((((j.val : ℝ) + 1) * L c : ℝ) : EReal) := by
  unfold Host.reduceWindowAdd
  rw [Ideal.hostReduceWindowAdd_def]
  exact running_sum x L hx _ (hv _) h j c

/-- The logarithm of a head's decay, as the host computes it. -/
theorem log_decay (c : Fin 4) :
    Ideal.log1p (-Ideal.pow (Ideal.ofBits .f32 1073741824#32)
      (Ideal.ofBits .f32 3231711232#32 - FloatOps.sitofp (F := Ideal) .f32 (BitVec.ofNat 32 c.val))) = ((lg c : ℝ) : EReal) := by
  have e2 : Ideal.ofBits .f32 1073741824#32 = ((2 : ℝ) : EReal) := by
    simp [Ideal.ofBits, Ideal.ieee, -EReal.coe_mul]; norm_num
  have e5 : Ideal.ofBits .f32 3231711232#32 = ((-5 : ℝ) : EReal) := by
    simp [Ideal.ofBits, Ideal.ieee, -EReal.coe_mul]; norm_num
  have ec : FloatOps.sitofp (F := Ideal) .f32 (BitVec.ofNat 32 c.val) = ((c.val : ℝ) : EReal) := by
    show (((BitVec.ofNat 32 c.val).toInt : ℝ) : EReal) = _
    have : (BitVec.ofNat 32 c.val).toInt = (c.val : ℤ) := by
      rw [BitVec.toInt_ofNat']; simp only [Int.bmod]; omega
    rw [this]; norm_cast
  have hpos : (1 : ℝ) < 2 ^ (5 + c.val) := one_lt_pow₀ (by norm_num) (by omega)
  have ep : Real.rpow 2 (-5 - (c.val : ℝ)) = (2 ^ (5 + c.val))⁻¹ := by
    show (2 : ℝ) ^ (-5 - (c.val : ℝ)) = _
    rw [show (-5 - (c.val : ℝ)) = -((5 + c.val : ℕ) : ℝ) by push_cast; ring, Real.rpow_neg (by norm_num), Real.rpow_natCast]
  have e1 : (1 : ℝ) + -(2 ^ (5 + c.val))⁻¹ = (2 ^ (5 + c.val) - 1) / 2 ^ (5 + c.val) := by field_simp; ring
  rw [e2, e5, ec, ← EReal.coe_sub, Ideal.pow_coe_coe, ep, ← EReal.coe_neg]
  show Ideal.log (1 + _) = _
  rw [← EReal.coe_one, ← EReal.coe_add, e1, Ideal.log_coe, if_neg, lg]
  exact not_le.2 (div_pos (by linarith) (by linarith))

theorem word_toInt' (n : ℕ) (h : n < 4352) : (BitVec.ofNat 32 n).toInt = n := by
  rw [BitVec.toInt_ofNat']; simp only [Int.bmod]; omega

theorem lg_neg (h : Fin 4) : lg h < 0 := by
  have : (1 : ℝ) < 2 ^ (5 + h.val) := one_lt_pow₀ (by norm_num) (by omega)
  exact Real.log_neg (div_pos (by linarith) (by linarith)) ((div_lt_one (by linarith)).2 (by linarith))

/-- A sum starting at position zero is negative from there on, so that the lesser of a decay's logarithm and zero is the former. -/
theorem min_decay {L : ℝ} (hL : L < 0) {a b : ℝ} (h : b ≤ a) : min (((a * L : ℝ) : EReal) - ((b * L : ℝ) : EReal)) 0 = ((L * (a - b) : ℝ) : EReal) := by
  rw [← EReal.coe_sub, min_eq_left]
  · congr 1; ring
  · rw [← EReal.coe_zero, EReal.coe_le_coe_iff]; nlinarith

/-- The decay between two positions, as the reference computes it: a masked exponential of a difference of running sums. -/
theorem dec_ref (t s : Fin 4352) (h : Fin 4) (z : EReal) (hz : z = 0) :
    Scalar.select (Scalar.select (IntOp.cmpi .sge (IntOp.addi (BitVec.ofNat 32 t.val) 0#32) (BitVec.ofNat 32 s.val)) 1#1 0#1)
      (Ideal.exp (min (((((t.val : ℝ) + 1) * lg h : ℝ) : EReal) - ((((s.val : ℝ) + 1) * lg h : ℝ) : EReal)) 0)) z
      = ((dcy (lg h) t s : ℝ) : EReal) := by
  subst hz
  have e : IntOp.cmpi .sge (IntOp.addi (BitVec.ofNat 32 t.val) 0#32) (BitVec.ofNat 32 s.val) = if s.val ≤ t.val then 1#1 else 0#1 := by
    simp only [IntOp.cmpi, IntOp.addi, BitVec.add_zero, BitVec.sle, word_toInt' _ t.isLt, word_toInt' _ s.isLt]
    by_cases h : s.val ≤ t.val <;> simp [h]
  rw [e]
  by_cases hle : s.val ≤ t.val
  · rw [if_pos hle, dcy_of_le hle, min_decay (lg_neg h) (by have : (s.val : ℝ) ≤ t.val := by exact_mod_cast hle
                                                            linarith)]
    simp only [Scalar.select, if_true, Ideal.exp_coe]
    rw [show ((t.val : ℝ) + 1 - (s.val + 1)) = t.val - s.val by ring]
    simp
  · rw [if_neg hle, dcy_of_lt (not_le.1 hle)]
    simp [Scalar.select]

end Cert.RetScan
end
-- ==== Proof.Body.lean ====
module

public import proofs.«01_k».proof.Proof.Gen.KernelIdeal.Frame
public import proofs.«01_k».proof.Proof.Math
public import Idealize.ShloMosaic.Lib.Pointwise
public import Idealize.ShloMosaic.Lib.Pipeline.ValueKit
public import Idealize.ShloMosaic.Lib.Pipeline.ReadBack

/-! What one grid point stores, entry by entry, in real numbers: the three gradients' blocks and the carried state's
gradient, with the blocks it reads given as real numbers. -/

@[expose] public section

set_option maxRecDepth 16384

noncomputable section

open Idealize.ShloMosaic Idealize.ShloMosaic.TcCoe Idealize.SL.Sem
open Idealize.ShloMosaic.Pipeline (Dat)

namespace Cert.RetScan

open Cert.KernelIdeal Cert.KernelIdeal.Gen

/-- A block of real numbers. -/
def blk (X : Fin 128 → Fin 256 → ℝ) : Vec Ideal S128x256 .f32 := fun i => ((X (i 0) (i 1) : ℝ) : EReal)
/-- The saved states' block. -/
def blkS (S : Fin 4 → Fin 64 → Fin 64 → ℝ) : Vec Ideal S1x4x64x64 .f32 := fun i => ((S (i 1) (i 2) (i 3) : ℝ) : EReal)
/-- The carried state's gradient. -/
def blkD (S : Fin 4 → Fin 64 → Fin 64 → ℝ) : Vec Ideal S4x64x64 .f32 := fun i => ((S (i 0) (i 1) (i 2) : ℝ) : EReal)

theorem blk_at (X : Fin 128 → Fin 256 → ℝ) (i : Fin 128) (j : Fin 256) : blk X (ix2 i j) = ((X i j : ℝ) : EReal) := rfl
theorem blkS_at (S : Fin 4 → Fin 64 → Fin 64 → ℝ) (z : Fin 1) (h : Fin 4) (e d : Fin 64) :
    blkS S (ix4 z h e d) = ((S h e d : ℝ) : EReal) := rfl
theorem blkD_at (S : Fin 4 → Fin 64 → Fin 64 → ℝ) (h : Fin 4) (e d : Fin 64) :
    blkD S (ix3 h e d) = ((S h e d : ℝ) : EReal) := rfl

section
variable (Q K V O : Fin 128 → Fin 256 → ℝ) (S D : Fin 4 → Fin 64 → Fin 64 → ℝ)

/-- The gradient of the scores, before their decay. -/
def dA (h : Fin 4) (i j : Fin 128) : ℝ := ∑ e, O i (cl h e) * V j (cl h e)
/-- The scores, before their decay. -/
def sA (h : Fin 4) (i j : Fin 128) : ℝ := ∑ d, Q i (cl h d) * K j (cl h d)
/-- The query's gradient in one chunk. -/
def dqB (h : Fin 4) (i : Fin 128) (d : Fin 64) : ℝ :=
  (∑ e, O i (cl h e) * S h e d) * Real.exp (lg h * ((i : ℝ) + 1))
    + ∑ j, dA V O h i j * dcy (lg h) i j * K j (cl h d)
/-- The key's gradient in one chunk. -/
def dkB (h : Fin 4) (j : Fin 128) (d : Fin 64) : ℝ :=
  (∑ e, V j (cl h e) * D h e d) * Real.exp (lg h * (127 - (j : ℝ)))
    + ∑ i, dA V O h i j * dcy (lg h) i j * Q i (cl h d)
/-- The value's gradient in one chunk. -/
def dvB (h : Fin 4) (j : Fin 128) (e : Fin 64) : ℝ :=
  ∑ d, K j (cl h d) * Real.exp (lg h * (127 - (j : ℝ))) * D h e d
    + ∑ i, sA Q K h i j * dcy (lg h) i j * O i (cl h e)
/-- The state's gradient a chunk earlier. -/
def dsB (h : Fin 4) (e d : Fin 64) : ℝ :=
  D h e d * Real.exp (lg h * 128) + ∑ i : Fin 128, O i (cl h e) * (Q i (cl h d) * Real.exp (lg h * ((i : ℝ) + 1)))
end

theorem named_lg0 : Named.named (F := Ideal) κ "lg0" (φ := .f32) 3171027692#32 = ((lg 0 : ℝ) : EReal) := by
  show ((Real.log (31 / 32) : ℝ) : EReal) = _
  simp only [lg]; norm_num
theorem named_gc0 : Named.named (F := Ideal) κ "gc0" (φ := .f32) 1015858026#32 = ((Real.exp (lg 0 * 128) : ℝ) : EReal) := by
  rw [show (lg 0 * 128 : ℝ) = lg 0 * ((128 : ℕ) : ℝ) by norm_num, exp_lg]
  show ((_ : ℝ) : EReal) = _
  norm_num
theorem named_lg1 : Named.named (F := Ideal) κ "lg1" (φ := .f32) 3162571443#32 = ((lg 1 : ℝ) : EReal) := by
  show ((Real.log (63 / 64) : ℝ) : EReal) = _
  simp only [lg]; norm_num
theorem named_gc1 : Named.named (F := Ideal) κ "gc1" (φ := .f32) 1040738702#32 = ((Real.exp (lg 1 * 128) : ℝ) : EReal) := by
  rw [show (lg 1 * 128 : ℝ) = lg 1 * ((128 : ℕ) : ℝ) by norm_num, exp_lg]
  show ((_ : ℝ) : EReal) = _
  norm_num
theorem named_lg2 : Named.named (F := Ideal) κ "lg2" (φ := .f32) 3154149548#32 = ((lg 2 : ℝ) : EReal) := by
  show ((Real.log (127 / 128) : ℝ) : EReal) = _
  simp only [lg]; norm_num
theorem named_gc2 : Named.named (F := Ideal) κ "gc2" (φ := .f32) 1052483001#32 = ((Real.exp (lg 2 * 128) : ℝ) : EReal) := by
  rw [show (lg 2 * 128 : ℝ) = lg 2 * ((128 : ℕ) : ℝ) by norm_num, exp_lg]
  show ((_ : ℝ) : EReal) = _
  norm_num
theorem named_lg3 : Named.named (F := Ideal) κ "lg3" (φ := .f32) 3145744427#32 = ((lg 3 : ℝ) : EReal) := by
  show ((Real.log (255 / 256) : ℝ) : EReal) = _
  simp only [lg]; norm_num
theorem named_gc3 : Named.named (F := Ideal) κ "gc3" (φ := .f32) 1058741937#32 = ((Real.exp (lg 3 * 128) : ℝ) : EReal) := by
  rw [show (lg 3 * 128 : ℝ) = lg 3 * ((128 : ℕ) : ℝ) by norm_num, exp_lg]
  show ((_ : ℝ) : EReal) = _
  norm_num

theorem word_toInt (n : ℕ) (h : n < 128) : (BitVec.ofNat 32 n).toInt = n := by
  rw [BitVec.toInt_ofNat']; simp only [Int.bmod]; omega

/-- A row's number, as the program converts it. -/
theorem row_eq (i : Fin 128) : FloatOps.sitofp (F := Ideal) .f32 (BitVec.ofNat 32 i.val) = (((i.val : ℝ)) : EReal) := by
  show (((BitVec.ofNat 32 i.val).toInt : ℝ) : EReal) = _
  rw [word_toInt _ i.isLt]; norm_cast

/-- The number of rows between, as the program converts it. -/
theorem dist_eq (i j : Fin 128) :
    FloatOps.sitofp (F := Ideal) .f32 (IntOp.subi (BitVec.ofNat 32 i.val) (BitVec.ofNat 32 j.val))
      = (((i.val : ℝ) - (j.val : ℝ) : ℝ) : EReal) := by
  show (((IntOp.subi (BitVec.ofNat 32 i.val) (BitVec.ofNat 32 j.val)).toInt : ℝ) : EReal) = _
  have e : (IntOp.subi (BitVec.ofNat 32 i.val) (BitVec.ofNat 32 j.val)).toInt = (i.val : ℤ) - j.val := by
    rw [IntOp.subi, BitVec.toInt_sub, word_toInt _ i.isLt, word_toInt _ j.isLt]
    simp only [Int.bmod]; omega
  rw [e]; push_cast; rfl

/-- The program's decay matrix. -/
theorem dec_eq (L : ℝ) (i j : Fin 128) :
    (if (0 : EReal) ≤ FloatOps.sitofp (F := Ideal) .f32 (IntOp.subi (BitVec.ofNat 32 i.val) (BitVec.ofNat 32 j.val)) then
      Ideal.exp ((L : EReal) * FloatOps.sitofp (F := Ideal) .f32 (IntOp.subi (BitVec.ofNat 32 i.val) (BitVec.ofNat 32 j.val)))
     else 0) = ((dcy L i j : ℝ) : EReal) := by
  rw [dist_eq, ← EReal.coe_mul, Ideal.exp_coe]
  by_cases h : j.val ≤ i.val
  · rw [dcy_of_le h, if_pos]
    rw [← EReal.coe_zero, EReal.coe_le_coe_iff]
    have : (j.val : ℝ) ≤ i.val := by exact_mod_cast h
    linarith
  · rw [dcy_of_lt (not_le.1 h), if_neg, EReal.coe_zero]
    rw [← EReal.coe_zero, EReal.coe_le_coe_iff]
    have : (i.val : ℝ) < j.val := by exact_mod_cast not_le.1 h
    linarith

theorem row1_eq (i : Fin 128) :
    FloatOps.sitofp (F := Ideal) .f32 (BitVec.ofNat 32 i.val) + (1 : EReal) = (((i.val : ℝ) + 1 : ℝ) : EReal) := by
  rw [row_eq, EReal.coe_add, EReal.coe_one]

theorem cl_0 (d : Fin 64) (p : d.val < 256) : (⟨d.val, p⟩ : Fin 256) = cl 0 d :=
  Fin.ext (by simp [cl])
theorem cl_1 (d : Fin 64) (p : 64 + d.val < 256) : (⟨64 + d.val, p⟩ : Fin 256) = cl 1 d :=
  Fin.ext (by rfl)
theorem cl_2 (d : Fin 64) (p : 128 + d.val < 256) : (⟨128 + d.val, p⟩ : Fin 256) = cl 2 d :=
  Fin.ext (by rfl)
theorem cl_3 (d : Fin 64) (p : 192 + d.val < 256) : (⟨192 + d.val, p⟩ : Fin 256) = cl 3 d :=
  Fin.ext (by rfl)

/-- The rows left in the chunk, as the program computes them. -/
theorem left_eq (i : Fin 128) :
    Ideal.ofBits .f32 1124073472#32 - (((i.val : ℝ) + 1 : ℝ) : EReal) = ((127 - (i.val : ℝ) : ℝ) : EReal) := by
  have e : Ideal.ofBits .f32 1124073472#32 = ((128 : ℝ) : EReal) := by
    simp [Ideal.ofBits, Ideal.ieee, -EReal.coe_mul]; norm_num
  rw [e, ← EReal.coe_sub]; congr 1; ring

/-- Which head a column of a stored piece belongs to. -/
theorem cl_cases (k h : Fin 4) (d b : Fin 64) (e : 64 * h.val + d.val = 64 * k.val + b.val) : h = k ∧ d = b :=
  ⟨Fin.ext (by omega), Fin.ext (by omega)⟩

/-- Where a head's piece of the carried state lies. -/
theorem st_emb (h : Fin 4) (inb) (z : Fin 1) (a b : Fin 64) :
    (Rect.unit (s := S4x64x64) ![h.val, 0, 0] ![1, 64, 64] inb).emb (ix3 z a b) = ix3 h a b := by
  funext k; apply Fin.ext; fin_cases k <;> simp [Rect.emb, Rect.unit]

theorem st_mem (h : Fin 4) (inb) (a b : Fin 64) :
    ix3 h a b ∈ (Rect.unit (s := S4x64x64) ![h.val, 0, 0] ![1, 64, 64] inb).set := by
  rw [Rect.mem_set_unit]; intro k; fin_cases k <;> simp

/-- A read of the carried state's gradient after the first point filled it with zeros. -/
theorem fill_at {sg : RefSig} {kd : Kind} {sp : Space} (v : View sg kd sp S4x64x64 .f32) (inb) (r : Rect S4x64x64) :
    v.readCov (Val := Elt Ideal) [⟨Rect.unit ![0, 0, 0] ![4, 64, 64] inb, (k0_pay4 : FVec Ideal S4x64x64 .f32)⟩] r.toLoadRect
      = fun _ => (((0 : ℝ)) : EReal) := by
  refine (View.readCov_fill _ inb _ [] r (by decide)).trans (funext fun y => ?_)
  show (k0_pay4 : FVec Ideal S4x64x64 .f32) _ = _
  rw [EReal.coe_zero]
  open_payloads
  pointwise

set_option maxHeartbeats 1600000 in
theorem w5_B (c : Dev nD) (t : Fin cfg0.N) (h0 : ¬t.val % 34 = 0)
    (Q K V O : Fin 128 → Fin 256 → ℝ) (S D : Fin 4 → Fin 64 → Fin 64 → ℝ)
    (i : Fin 128) (h : Fin 4) (d : Fin 64) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (blk Q) (blk K) (blk V) (blkS S) (blk O) (blkD D)) (ix2 i (cl h d))
      = ((dqB K V O S h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals rfl

set_option maxHeartbeats 1600000 in
theorem w6_B (c : Dev nD) (t : Fin cfg0.N) (h0 : ¬t.val % 34 = 0)
    (Q K V O : Fin 128 → Fin 256 → ℝ) (S D : Fin 4 → Fin 64 → Fin 64 → ℝ)
    (i : Fin 128) (h : Fin 4) (d : Fin 64) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (blk Q) (blk K) (blk V) (blkS S) (blk O) (blkD D)) (ix2 i (cl h d))
      = ((dkB Q V O D h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals rfl

set_option maxHeartbeats 1600000 in
theorem w7_B (c : Dev nD) (t : Fin cfg0.N) (h0 : ¬t.val % 34 = 0)
    (Q K V O : Fin 128 → Fin 256 → ℝ) (S D : Fin 4 → Fin 64 → Fin 64 → ℝ)
    (i : Fin 128) (h : Fin 4) (d : Fin 64) :
    (out0_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (blk Q) (blk K) (blk V) (blkS S) (blk O) (blkD D)) (ix2 i (cl h d))
      = ((dvB Q K O D h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals rfl

set_option maxHeartbeats 1600000 in
theorem ws_B (c : Dev nD) (t : Fin cfg0.N) (h0 : ¬t.val % 34 = 0)
    (Q K V O : Fin 128 → Fin 256 → ℝ) (S D : Fin 4 → Fin 64 → Fin 64 → ℝ)
    (h : Fin 4) (e d : Fin 64) :
    (sout0_B_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (blk Q) (blk K) (blk V) (blkS S) (blk O) (blkD D)) (ix3 h e d)
      = ((dsB Q O D h e d : ℝ) : EReal) := by
  frame_out
  canon_tiles x hx
  all_goals obtain ⟨z, a, b, rfl⟩ : ∃ (z : Fin 1) (a b : Fin 64), x = ix3 z a b := ⟨x 0, x 1, x 2, by idx_vars x⟩
  all_goals obtain rfl : e = a := Fin.ext hx1
  all_goals obtain rfl : d = b := Fin.ext hx2
  on_goal 1 => obtain rfl : h = 3 := Fin.ext (hx0.trans (by simp))
  on_goal 2 => obtain rfl : h = 2 := Fin.ext (hx0.trans (by simp))
  on_goal 3 => obtain rfl : h = 1 := Fin.ext (hx0.trans (by simp))
  on_goal 4 => obtain rfl : h = 0 := Fin.ext (hx0.trans (by simp))
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals rfl

set_option maxHeartbeats 1600000 in
theorem w5_A (c : Dev nD) (t : Fin cfg0.N) (h0 : t.val % 34 = 0)
    (Q K V O : Fin 128 → Fin 256 → ℝ) (S : Fin 4 → Fin 64 → Fin 64 → ℝ)
    (i : Fin 128) (h : Fin 4) (d : Fin 64) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (blk Q) (blk K) (blk V) (blkS S) (blk O)) (ix2 i (cl h d))
      = ((dqB K V O S h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals simp only [dqB, dkB, dvB, dsB, dA, sA]

set_option maxHeartbeats 1600000 in
theorem w6_A (c : Dev nD) (t : Fin cfg0.N) (h0 : t.val % 34 = 0)
    (Q K V O : Fin 128 → Fin 256 → ℝ) (S : Fin 4 → Fin 64 → Fin 64 → ℝ)
    (i : Fin 128) (h : Fin 4) (d : Fin 64) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (blk Q) (blk K) (blk V) (blkS S) (blk O)) (ix2 i (cl h d))
      = ((dkB Q V O (fun _ _ _ => 0) h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals simp only [fill_at]
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals simp only [dqB, dkB, dvB, dsB, dA, sA]

set_option maxHeartbeats 1600000 in
theorem w7_A (c : Dev nD) (t : Fin cfg0.N) (h0 : t.val % 34 = 0)
    (Q K V O : Fin 128 → Fin 256 → ℝ) (S : Fin 4 → Fin 64 → Fin 64 → ℝ)
    (i : Fin 128) (h : Fin 4) (d : Fin 64) :
    (out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (blk Q) (blk K) (blk V) (blkS S) (blk O)) (ix2 i (cl h d))
      = ((dvB Q K O (fun _ _ _ => 0) h i d : ℝ) : EReal) := by
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals simp only [fill_at]
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals simp only [dqB, dkB, dvB, dsB, dA, sA]

set_option maxHeartbeats 1600000 in
theorem ws_A (c : Dev nD) (t : Fin cfg0.N) (h0 : t.val % 34 = 0)
    (Q K V O : Fin 128 → Fin 256 → ℝ) (S : Fin 4 → Fin 64 → Fin 64 → ℝ)
    (h : Fin 4) (e d : Fin 64) :
    (sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (blk Q) (blk K) (blk V) (blkS S) (blk O)) (ix3 h e d)
      = ((dsB Q O (fun _ _ _ => 0) h e d : ℝ) : EReal) := by
  frame_out
  refine View.canon_append_of_piecesOf (blkD (dsB Q O (fun _ _ _ => 0))) [_] [_, _, _, _] ⟨?_, ?_, ?_, ?_, trivial⟩ (ix3 h e d) ?_
  rotate_right
  · obtain rfl | rfl | rfl | rfl : h = 0 ∨ h = 1 ∨ h = 2 ∨ h = 3 := by fin_cases h <;> simp
    · exact ⟨_, .tail _ (.tail _ (.tail _ (.head _))), st_mem 0 inb_S4x64x64_S1x64x64_0_0_0 e d⟩
    · exact ⟨_, .tail _ (.tail _ (.head _)), st_mem 1 inb_S4x64x64_S1x64x64_1_0_0 e d⟩
    · exact ⟨_, .tail _ (.head _), st_mem 2 inb_S4x64x64_S1x64x64_2_0_0 e d⟩
    · exact ⟨_, .head _, st_mem 3 inb_S4x64x64_S1x64x64_3_0_0 e d⟩
  all_goals intro x
  all_goals obtain ⟨z, a, b, rfl⟩ : ∃ (z : Fin 1) (a b : Fin 64), x = ix3 z a b := ⟨x 0, x 1, x 2, by idx_vars x⟩
  on_goal 1 => refine Eq.trans ?_ (congrArg (blkD _) (st_emb 3 inb_S4x64x64_S1x64x64_3_0_0 z a b)).symm
  on_goal 2 => refine Eq.trans ?_ (congrArg (blkD _) (st_emb 2 inb_S4x64x64_S1x64x64_2_0_0 z a b)).symm
  on_goal 3 => refine Eq.trans ?_ (congrArg (blkD _) (st_emb 1 inb_S4x64x64_S1x64x64_1_0_0 z a b)).symm
  on_goal 4 => refine Eq.trans ?_ (congrArg (blkD _) (st_emb 0 inb_S4x64x64_S1x64x64_0_0_0 z a b)).symm
  all_goals rw [blkD_at]
  all_goals dsimp only
  all_goals simp only [fill_at]
  all_goals open_payloads
  all_goals pointwise [blk_at, blkS_at, blkD_at, named_lg0, named_lg1, named_lg2, named_lg3,
      named_gc0, named_gc1, named_gc2, named_gc3, dec_eq, row1_eq, left_eq, read_unread_whole]
  all_goals simp only [cl_0, cl_1, cl_2, cl_3, ← EReal.coe_mul, ← EReal.coe_add, Ideal.exp_coe, coe_sum]
  all_goals simp only [dqB, dkB, dvB, dsB, dA, sA]

end Cert.RetScan
end
-- ==== Proof.Chunk.lean ====
module

public import proofs.«01_k».proof.Proof.Body

/-! One chunk's gradients, computed from the saved state and the carried gradient, are the whole sequence's. -/

@[expose] public section

noncomputable section

open Idealize.ShloMosaic

namespace Cert.RetScan

section
variable (q k v o : Fin 4352 → Fin 256 → ℝ) (n : Fin 34)

/-- A chunk's rows of an array. -/
def rows (x : Fin 4352 → Fin 256 → ℝ) (n : Fin 34) : Fin 128 → Fin 256 → ℝ := fun i j => x (at' n i) j
/-- The state a chunk starts from. -/
def stT (h : Fin 4) (e d : Fin 64) : ℝ := ∑ s : Fin 4352, wst (lg h) (128 * n.val) s * k s (cl h d) * v s (cl h e)
/-- The gradient of the state a chunk ends in. -/
def dsT (h : Fin 4) (e d : Fin 64) : ℝ := ∑ t : Fin 4352, ust (lg h) (128 * n.val) t * (o t (cl h e) * q t (cl h d))

theorem dqB_eq (h : Fin 4) (i : Fin 128) (d : Fin 64) :
    dqB (rows k n) (rows v n) (rows o n) (stT k v n) h i d = dqT k v o (at' n i) (cl h d) := by
  unfold dqT
  rw [hd_cl]
  refine Eq.trans ?_ ((sum_causal (lg h) n i fun s => (∑ e, o (at' n i) (cl h e) * v s (cl h e)) * k s (cl h d)).symm.trans ?_)
  · rw [dqB, add_comm]
    congr 1
    · exact Finset.sum_congr rfl fun j _ => by simp only [dA, rows]; ring
    · rw [mul_comm]
      congr 1
      simp only [stT, rows, Finset.mul_sum, Finset.sum_mul]
      rw [Finset.sum_comm]
      exact Finset.sum_congr rfl fun s _ => Finset.sum_congr rfl fun e _ => by ring
  · exact Finset.sum_congr rfl fun s _ => by ring

theorem dkB_eq (h : Fin 4) (j : Fin 128) (d : Fin 64) :
    dkB (rows q n) (rows v n) (rows o n) (dsT q o n) h j d = dkT q v o (at' n j) (cl h d) := by
  unfold dkT
  rw [hd_cl]
  refine Eq.trans ?_ ((sum_anticausal (lg h) n j fun t => (∑ e, o t (cl h e) * v (at' n j) (cl h e)) * q t (cl h d)).symm.trans ?_)
  · rw [dkB, add_comm]
    congr 1
    · exact Finset.sum_congr rfl fun j _ => by simp only [dA, rows]; ring
    · rw [mul_comm]
      congr 1
      simp only [dsT, rows, Finset.mul_sum, Finset.sum_mul]
      rw [Finset.sum_comm]
      exact Finset.sum_congr rfl fun s _ => Finset.sum_congr rfl fun e _ => by ring
  · exact Finset.sum_congr rfl fun s _ => by ring

theorem dvB_eq (h : Fin 4) (j : Fin 128) (e : Fin 64) :
    dvB (rows q n) (rows k n) (rows o n) (dsT q o n) h j e = dvT q k o (at' n j) (cl h e) := by
  unfold dvT
  rw [hd_cl]
  refine Eq.trans ?_ ((sum_anticausal (lg h) n j fun t => (∑ d, k (at' n j) (cl h d) * q t (cl h d)) * o t (cl h e)).symm.trans ?_)
  · rw [dvB, add_comm]
    congr 1
    · refine Finset.sum_congr rfl fun i _ => ?_
      have : sA (rows q n) (rows k n) h i j = ∑ d, k (at' n j) (cl h d) * q (at' n i) (cl h d) :=
        Finset.sum_congr rfl fun d _ => mul_comm _ _
      rw [this]; simp only [rows]; ring
    · simp only [dsT, rows, Finset.mul_sum, Finset.sum_mul]
      rw [Finset.sum_comm]
      exact Finset.sum_congr rfl fun s _ => Finset.sum_congr rfl fun e _ => by ring
  · exact Finset.sum_congr rfl fun s _ => by ring

theorem dsB_eq (p : Fin 34) (hp : p.val + 1 = n.val) (h : Fin 4) (e d : Fin 64) :
    dsB (rows q n) (rows o n) (dsT q o n) h e d = dsT q o p h e d := by
  rw [dsT, sum_carry (lg h) n p hp, dsB, mul_comm]
  congr 1
  exact Finset.sum_congr rfl fun i _ => by simp only [rows]; ring

theorem dsT_last (hn : n.val = 33) : dsT q o n = fun _ _ _ => 0 :=
  funext fun h => funext fun e => funext fun d => sum_last (lg h) n hn _
end

end Cert.RetScan
end
-- ==== Proof.RevVals.lean ====
module

public import proofs.«01_k».proof.Proof.RevFrame
public import proofs.«01_k».proof.Proof.Host
public import proofs.«01_k».proof.Proof.Chunk

/-! The states that the host lines prepare for the scan's other direction. -/

@[expose] public section

set_option maxRecDepth 16384

noncomputable section

open Idealize.ShloMosaic Idealize.ShloMosaic.TcCoe Idealize.SL.Sem
open Idealize.ShloMosaic.Pipeline (Dat)

namespace Cert.RetRev

open Cert.RetScan (cl lg wst wst_of_lt wst_of_le stT at' coe_sum log_decay row_eq)
open Cert.Kernel15Ideal Cert.Kernel15Ideal.Gen

/-- The row that the scan reads at a step, and the step at which it reads a row. -/
def turn (i : Fin 4352) : Fin 4352 := ⟨if i.val < 256 then 255 - i.val else 4607 - i.val, by split <;> omega⟩
theorem turn_val (i : Fin 4352) : (turn i).val = if i.val < 256 then 255 - i.val else 4607 - i.val := rfl
theorem turn_turn (i : Fin 4352) : turn (turn i) = i := by
  apply Fin.ext
  rw [turn_val, turn_val]
  split_ifs <;> omega
theorem sum_turn {M : Type*} [AddCommMonoid M] (f : Fin 4352 → M) : ∑ i, f (turn i) = ∑ i, f i :=
  Equiv.sum_comp (Function.Involutive.toPerm turn turn_turn) f

/-- The chunk that a step of the scan works on, and the step of a chunk. -/
def turn' (n : Fin 34) : Fin 34 := ⟨if n.val < 2 then 1 - n.val else 35 - n.val, by split <;> omega⟩
theorem turn'_val (n : Fin 34) : (turn' n).val = if n.val < 2 then 1 - n.val else 35 - n.val := rfl
theorem turn'_turn' (i : Fin 34) : turn' (turn' i) = i := by
  apply Fin.ext
  rw [turn'_val, turn'_val]
  split_ifs <;> omega

theorem pos_eq (n : ℕ) (h : n < 4352) : FloatOps.sitofp (F := Ideal) .f32 (BitVec.ofNat 32 n) = ((n : ℝ) : EReal) := by
  show (((BitVec.ofNat 32 n).toInt : ℝ) : EReal) = _
  rw [RetScan.word_toInt' n h]; norm_cast

theorem pos_of {a n : ℕ} (e : a = n) (h : n < 4352) : FloatOps.sitofp (F := Ideal) .f32 (BitVec.ofNat 32 a) = ((n : ℝ) : EReal) := by
  rw [e, pos_eq n h]

theorem rv {n : ℕ} {p : Prop} [Decidable p] (hp : p) (x : Fin n) : ((if p then x.rev else x : Fin n) : ℕ) = n - 1 - x.val := by
  rw [if_pos hp, Fin.val_rev]; omega

theorem turn_cast (x : Fin 256) : (turn (Fin.castAdd 4096 x)).val = 256 - 1 - x.val := by
  rw [turn_val, if_pos (by exact x.isLt)]; simp only [Fin.val_castAdd]

theorem turn_nat (x : Fin 4096) : (turn (Fin.natAdd 256 x)).val = 256 + (4096 - 1 - x.val) := by
  rw [turn_val, if_neg (by simp only [Fin.val_natAdd]; omega)]; simp only [Fin.val_natAdd]; omega

/-- One row's part of a state. -/
theorem term (A B L K V : EReal) (N s : ℕ) (l k v : ℝ) [Decidable (0 ≤ A - 1 - B)] (hA : A = ((N : ℝ) : EReal)) (hB : B = ((s : ℝ) : EReal))
    (hL : L = (l : EReal)) (hK : K = (k : EReal)) (hV : V = (v : EReal)) :
    (if 0 ≤ A - 1 - B then Ideal.exp ((A - 1 - B) * L) else 0) * K * V = ((wst l N s * k * v : ℝ) : EReal) := by
  subst hA hB hL hK hV
  have e : ((N : ℝ) : EReal) - 1 - ((s : ℝ) : EReal) = (((N : ℝ) - 1 - s : ℝ) : EReal) := by norm_cast
  simp only [e, ← EReal.coe_mul, Ideal.exp_coe]
  by_cases h : s < N
  · have hs : (s : ℝ) + 1 ≤ N := by exact_mod_cast h
    rw [if_pos (by rw [← EReal.coe_zero, EReal.coe_le_coe_iff]; linarith), wst_of_lt h, mul_comm l, ← EReal.coe_mul, ← EReal.coe_mul]
  · have hs : (N : ℝ) ≤ s := by exact_mod_cast not_lt.1 h
    rw [if_neg (by rw [← EReal.coe_zero, EReal.coe_le_coe_iff]; linarith), wst_of_le (not_lt.1 h)]
    simp

set_option maxHeartbeats 1600000 in
/-- The state that a chunk starts from, as the host prepares it. -/
theorem states_at (m : (ℓ : Loc nD τ sig) → Buf (Elt Ideal) ℓ) (c : Dev nD)
    (k v : Fin 4352 → Fin 256 → ℝ)
    (hk : ∀ i j, m ((c.tc : Thread nD τ).loc main_arg1) (ix2 (turn i) j) = ((k i j : ℝ) : EReal))
    (hv : ∀ i (j : Fin 256) p, m ((c.tc : Thread nD τ).loc main_arg2) (ix2 (turn i) ⟨1536 + j.val, p⟩) = ((v i j : ℝ) : EReal))
    (n : Fin 34) (h : Fin 4) (e d : Fin 64) :
    V m c main_v40 (ix4 (turn' n) h e d) = ((stT k v n h e d : ℝ) : EReal) := by
  show StableHlo.after [hostOps0, hostOps0_1, hostOps0_2].flatten _ _ _ = _
  simp only [List.flatten_cons, List.flatten_nil, hostOps0, hostOps0_1, hostOps0_2, List.cons_append, List.nil_append,
    List.append_nil]
  entry_read
  simp -implicitDefEqProofs only [StableHlo.TRef.toBuf, StableHlo.TRef.ofBuf, cast_cast, cast_eq]
  pointwise
  have hk' : ∀ i j, m ((c.tc : Thread nD τ).loc main_arg1) (ix2 i j) = ((k (turn i) j : ℝ) : EReal) := fun i j => by
    rw [← hk, turn_turn]
  have hv' : ∀ i (j : Fin 256) p, m ((c.tc : Thread nD τ).loc main_arg2) (ix2 i ⟨1536 + j.val, p⟩) = ((v (turn i) j : ℝ) : EReal) := fun i j p => by
    rw [← hv (turn i) j p, turn_turn]
  have es : stT k v n h e d = ∑ x : Fin 256, wst (lg h) (128 * n.val) (turn (Fin.castAdd 4096 x)) * k (turn (Fin.castAdd 4096 x)) (cl h d) * v (turn (Fin.castAdd 4096 x)) (cl h e)
      + ∑ x : Fin 4096, wst (lg h) (128 * n.val) (turn (Fin.natAdd 256 x)) * k (turn (Fin.natAdd 256 x)) (cl h d) * v (turn (Fin.natAdd 256 x)) (cl h e) := by
    rw [stT, ← sum_turn]
    exact Fin.sum_univ_add (a := 256) (b := 4096) fun i : Fin 4352 => wst (lg h) (128 * n.val) (turn i) * k (turn i) (cl h d) * v (turn i) (cl h e)
  rw [es, EReal.coe_add, ← coe_sum, ← coe_sum]
  have hA : (128 * n.val = if 127 + 128 * (turn' n).val < 256 then 255 - (127 + 128 * (turn' n).val) else 256 + (4095 - (127 + 128 * (turn' n).val - 256))) := by
    rw [turn'_val]; have := n.isLt; split_ifs <;> omega
  refine congrArg₂ (· + ·) (Finset.sum_congr rfl fun x _ => term _ _ _ _ _ _ _ _ _ _ ?_ ?_ (log_decay h) ?_ ?_)
    (Finset.sum_congr rfl fun x _ => term _ _ _ _ _ _ _ _ _ _ ?_ ?_ (log_decay h) ?_ ?_)
  iterate 2
    · rw [hA]
      split_ifs with q r r
      all_goals first | (exfalso; exact r (List.mem_singleton.2 rfl)) | skip
      · exact pos_of (rv (n := 256) (List.mem_singleton.2 rfl) ⟨_, q⟩) (by omega)
      · exact pos_of (congrArg (256 + ·) (rv (n := 4096) (List.mem_singleton.2 rfl) ⟨_, by have := (turn' n).isLt; omega⟩)) (by omega)
    · first
        | exact pos_of ((rv (n := 256) (List.mem_singleton.2 rfl) x).trans (turn_cast x).symm) (by exact (turn _).isLt)
        | exact pos_of ((congrArg (256 + ·) (rv (n := 4096) (List.mem_singleton.2 rfl) x)).trans (turn_nat x).symm) (by exact (turn _).isLt)
    · exact (congrArg (fun j => m ((c.tc : Thread nD τ).loc main_arg1) j) (congrArg₂ ix2 (Fin.ext rfl) (Fin.ext (by simp [cl]; omega)))).trans (hk' _ (cl h d))
    · exact (congrArg (fun j => m ((c.tc : Thread nD τ).loc main_arg2) j) (congrArg₂ ix2 (Fin.ext rfl) (Fin.ext (by simp [cl]; omega)))).trans
        (hv' _ (cl h e) (by have := (cl h e).isLt; omega))

end Cert.RetRev
end
-- ==== Proof.RevBody.lean ====
module

public import proofs.«01_k».proof.Proof.RevFrame
public import proofs.«01_k».proof.Proof.Body

/-! What one grid point of the scan's other direction stores. A chunk's rows are scanned from the last to the first, so that its
blocks, read the other way round, take the first direction's formulas. -/

@[expose] public section

set_option maxRecDepth 16384

noncomputable section

open Idealize.ShloMosaic Idealize.ShloMosaic.TcCoe Idealize.SL.Sem
open Idealize.ShloMosaic.Pipeline (Dat)

namespace Cert.RetRev

open Cert.RetScan (blk blkS blkD blk_at blkS_at blkD_at cl lg dcy dA sA dqB dkB dvB dsB row_eq dec_eq cl_0 cl_1 cl_2 cl_3 cl_cases coe_sum st_emb st_mem)
open Cert.Kernel15Ideal Cert.Kernel15Ideal.Gen Cert.Kernel15Ideal.Hand

/-- A chunk's rows the other way round. -/
def fl (X : Fin 128 → Fin 256 → ℝ) : Fin 128 → Fin 256 → ℝ := fun i j => X i.rev j

theorem sum_rev (f : Fin 128 → ℝ) : ∑ i : Fin 128, f i.rev = ∑ i, f i := Equiv.sum_comp Fin.revPerm f

section
variable (Q K V O : Fin 128 → Fin 256 → ℝ) (S D : Fin 4 → Fin 64 → Fin 64 → ℝ)

theorem dq_fl (h : Fin 4) (i : Fin 128) (d : Fin 64) :
    (∑ e, fl O i (cl h e) * S h e d) * Real.exp (lg h * ((i.rev : ℝ) + 1))
      + ∑ j : Fin 128, (∑ e, fl O i (cl h e) * fl V j (cl h e)) * dcy (lg h) i.rev j.rev * fl K j (cl h d) = dqB K V O S h i.rev d :=
  congrArg (_ + ·) (sum_rev fun j => dA V O h i.rev j * dcy (lg h) i.rev j * K j (cl h d))

theorem dk_fl (h : Fin 4) (j : Fin 128) (d : Fin 64) :
    (∑ e, fl V j (cl h e) * D h e d) * Real.exp (lg h * (127 - (j.rev : ℝ)))
      + ∑ i : Fin 128, (∑ e, fl O i (cl h e) * fl V j (cl h e)) * dcy (lg h) i.rev j.rev * fl Q i (cl h d) = dkB Q V O D h j.rev d :=
  congrArg (_ + ·) (sum_rev fun i => dA V O h i j.rev * dcy (lg h) i j.rev * Q i (cl h d))

theorem dv_fl (h : Fin 4) (j : Fin 128) (e : Fin 64) :
    ∑ d, fl K j (cl h d) * Real.exp (lg h * (127 - (j.rev : ℝ))) * D h e d
      + ∑ i : Fin 128, (∑ d, fl Q i (cl h d) * fl K j (cl h d)) * dcy (lg h) i.rev j.rev * fl O i (cl h e) = dvB Q K O D h j.rev e :=
  congrArg (_ + ·) (sum_rev fun i => sA Q K h i j.rev * dcy (lg h) i j.rev * O i (cl h e))

theorem ds_fl (h : Fin 4) (e d : Fin 64) :
    D h e d * Real.exp (lg h * 128) + ∑ i : Fin 128, fl O i (cl h e) * (fl Q i (cl h d) * Real.exp (lg h * ((i.rev : ℝ) + 1))) = dsB Q O D h e d :=
  congrArg (_ + ·) (sum_rev fun i => O i (cl h e) * (Q i (cl h d) * Real.exp (lg h * ((i : ℝ) + 1))))
end

theorem named_lg0 : Named.named (F := Ideal) κ "lg0" (φ := .f32) 3171027692#32 = ((lg 0 : ℝ) : EReal) := RetScan.named_lg0
theorem named_gc0 : Named.named (F := Ideal) κ "gc0" (φ := .f32) 1015858026#32 = ((Real.exp (lg 0 * 128) : ℝ) : EReal) := RetScan.named_gc0
theorem named_lg1 : Named.named (F := Ideal) κ "lg1" (φ := .f32) 3162571443#32 = ((lg 1 : ℝ) : EReal) := RetScan.named_lg1
theorem named_gc1 : Named.named (F := Ideal) κ "gc1" (φ := .f32) 1040738702#32 = ((Real.exp (lg 1 * 128) : ℝ) : EReal) := RetScan.named_gc1
theorem named_lg2 : Named.named (F := Ideal) κ "lg2" (φ := .f32) 3154149548#32 = ((lg 2 : ℝ) : EReal) := RetScan.named_lg2
theorem named_gc2 : Named.named (F := Ideal) κ "gc2" (φ := .f32) 1052483001#32 = ((Real.exp (lg 2 * 128) : ℝ) : EReal) := RetScan.named_gc2
theorem named_lg3 : Named.named (F := Ideal) κ "lg3" (φ := .f32) 3145744427#32 = ((lg 3 : ℝ) : EReal) := RetScan.named_lg3
theorem named_gc3 : Named.named (F := Ideal) κ "gc3" (φ := .f32) 1058741937#32 = ((Real.exp (lg 3 * 128) : ℝ) : EReal) := RetScan.named_gc3

theorem rev_val (i : Fin 128) : ((i.rev.val : ℕ) : ℝ) = 127 - (i.val : ℝ) := by
  have : i.rev.val = 127 - i.val := by rw [Fin.val_rev]; omega
  rw [this, Nat.cast_sub (by omega)]; norm_num

/-- The decay matrix of the other direction. -/
theorem dec_rev (L : ℝ) (i j : Fin 128) :
    (if (0 : EReal) ≤ FloatOps.sitofp (F := Ideal) .f32 (IntOp.subi (BitVec.ofNat 32 j.val) (BitVec.ofNat 32 i.val)) then
      Ideal.exp ((L : EReal) * FloatOps.sitofp (F := Ideal) .f32 (IntOp.subi (BitVec.ofNat 32 j.val) (BitVec.ofNat 32 i.val)))
     else 0) = ((dcy L i.rev j.rev : ℝ) : EReal) := by
  rw [dec_eq]
  congr 1
  unfold dcy
  rw [rev_val, rev_val, show (127 - (i.val : ℝ)) - (127 - (j.val : ℝ)) = (j.val : ℝ) - i.val by ring]
  exact if_congr (by rw [Fin.val_rev, Fin.val_rev]; omega) rfl rfl

theorem n128 : Ideal.ofBits .f32 1124073472#32 = ((128 : ℝ) : EReal) := by
  simp [Ideal.ofBits, Ideal.ieee, -EReal.coe_mul]; norm_num

theorem row1_rev (i : Fin 128) :
    Ideal.ofBits .f32 1124073472#32 - FloatOps.sitofp (F := Ideal) .f32 (BitVec.ofNat 32 i.val) = (((i.rev.val : ℝ) + 1 : ℝ) : EReal) := by
  rw [n128, row_eq, ← EReal.coe_sub, rev_val]
  congr 1; ring

theorem left_rev (i : Fin 128) :
    Ideal.ofBits .f32 1124073472#32 - (((i.rev.val : ℝ) + 1 : ℝ) : EReal) = ((127 - (i.rev.val : ℝ) : ℝ) : EReal) := RetScan.left_eq i.rev

/-- A read of the carried state's gradient after the first point filled it with zeros. -/
theorem fill_at {sg : RefSig} {kd : Kind} {sp : Space} (v : View sg kd sp S4x64x64 .f32) (inb) (r : Rect S4x64x64) :
    v.readCov (Val := Elt Ideal) [⟨Rect.unit ![0, 0, 0] ![4, 64, 64] inb, (k0_pay4 : FVec Ideal S4x64x64 .f32)⟩] r.toLoadRect
      = fun _ => (((0 : ℝ)) : EReal) := by
  refine (View.readCov_fill _ inb _ [] r (by decide)).trans (funext fun y => ?_)
  show (k0_pay4 : FVec Ideal S4x64x64 .f32) _ = _
  rw [EReal.coe_zero]
  open_payloads
  pointwise

set_option maxHeartbeats 1600000 in
theorem w5_B (c : Dev nD) (z : grid0.Coords) (A : Args) (h0 : ¬cond0_0 z)
    (Q K V O : Fin 128 → Fin 256 → ℝ) (S D : Fin 4 → Fin 64 → Fin 64 → ℝ)
    (i : Fin 128) (h : Fin 4) (d : Fin 64) :
    (l2_5 c z A ⟨blk (fl Q), blk (fl K), blk (fl V), blkS S, blk (fl O)⟩ h0 (blkD D)) (ix2 i (cl h d))
      = ((dqB K V O S h i.rev d : ℝ) : EReal) := by
  unfold l2_5 run2
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dq_fl K V O S _ _ _)

set_option maxHeartbeats 1600000 in
theorem w6_B (c : Dev nD) (z : grid0.Coords) (A : Args) (h0 : ¬cond0_0 z)
    (Q K V O : Fin 128 → Fin 256 → ℝ) (S D : Fin 4 → Fin 64 → Fin 64 → ℝ)
    (i : Fin 128) (h : Fin 4) (d : Fin 64) :
    (l2_6 c z A ⟨blk (fl Q), blk (fl K), blk (fl V), blkS S, blk (fl O)⟩ h0 (blkD D)) (ix2 i (cl h d))
      = ((dkB Q V O D h i.rev d : ℝ) : EReal) := by
  unfold l2_6 run2
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dk_fl Q V O _ _ _ _)

set_option maxHeartbeats 1600000 in
theorem w7_B (c : Dev nD) (z : grid0.Coords) (A : Args) (h0 : ¬cond0_0 z)
    (Q K V O : Fin 128 → Fin 256 → ℝ) (S D : Fin 4 → Fin 64 → Fin 64 → ℝ)
    (i : Fin 128) (h : Fin 4) (d : Fin 64) :
    (l2_7 c z A ⟨blk (fl Q), blk (fl K), blk (fl V), blkS S, blk (fl O)⟩ h0 (blkD D)) (ix2 i (cl h d))
      = ((dvB Q K O D h i.rev d : ℝ) : EReal) := by
  unfold l2_7 run2
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dv_fl Q K O _ _ _ _)

set_option maxHeartbeats 1600000 in
theorem ws_B (c : Dev nD) (z : grid0.Coords) (A : Args) (h0 : ¬cond0_0 z)
    (Q K V O : Fin 128 → Fin 256 → ℝ) (S D : Fin 4 → Fin 64 → Fin 64 → ℝ)
    (h : Fin 4) (e d : Fin 64) :
    (l2_8 c z A ⟨blk (fl Q), blk (fl K), blk (fl V), blkS S, blk (fl O)⟩ h0 (blkD D)) (ix3 h e d)
      = ((dsB Q O D h e d : ℝ) : EReal) := by
  unfold l2_8 run2
  frame_out
  canon_tiles x hx
  all_goals obtain ⟨z, a, b, rfl⟩ : ∃ (z : Fin 1) (a b : Fin 64), x = ix3 z a b := ⟨x 0, x 1, x 2, by idx_vars x⟩
  all_goals obtain rfl : e = a := Fin.ext hx1
  all_goals obtain rfl : d = b := Fin.ext hx2
  on_goal 1 => obtain rfl : h = 3 := Fin.ext (hx0.trans (by simp))
  on_goal 2 => obtain rfl : h = 2 := Fin.ext (hx0.trans (by simp))
  on_goal 3 => obtain rfl : h = 1 := Fin.ext (hx0.trans (by simp))
  on_goal 4 => obtain rfl : h = 0 := Fin.ext (hx0.trans (by simp))
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (ds_fl Q O _ _ _ _)

set_option maxHeartbeats 1600000 in
theorem w5_A (c : Dev nD) (z : grid0.Coords) (A : Args) (h0 : cond0_0 z)
    (Q K V O : Fin 128 → Fin 256 → ℝ) (S : Fin 4 → Fin 64 → Fin 64 → ℝ)
    (i : Fin 128) (h : Fin 4) (d : Fin 64) :
    (l1_5 c z A ⟨blk (fl Q), blk (fl K), blk (fl V), blkS S, blk (fl O)⟩ h0) (ix2 i (cl h d))
      = ((dqB K V O S h i.rev d : ℝ) : EReal) := by
  unfold l1_5 run1
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dq_fl K V O S _ _ _)

set_option maxHeartbeats 1600000 in
theorem w6_A (c : Dev nD) (z : grid0.Coords) (A : Args) (h0 : cond0_0 z)
    (Q K V O : Fin 128 → Fin 256 → ℝ) (S : Fin 4 → Fin 64 → Fin 64 → ℝ)
    (i : Fin 128) (h : Fin 4) (d : Fin 64) :
    (l1_6 c z A ⟨blk (fl Q), blk (fl K), blk (fl V), blkS S, blk (fl O)⟩ h0) (ix2 i (cl h d))
      = ((dkB Q V O (fun _ _ _ => 0) h i.rev d : ℝ) : EReal) := by
  unfold l1_6 run1
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals simp only [fill_at]
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dk_fl Q V O (fun _ _ _ => 0) _ _ _)

set_option maxHeartbeats 1600000 in
theorem w7_A (c : Dev nD) (z : grid0.Coords) (A : Args) (h0 : cond0_0 z)
    (Q K V O : Fin 128 → Fin 256 → ℝ) (S : Fin 4 → Fin 64 → Fin 64 → ℝ)
    (i : Fin 128) (h : Fin 4) (d : Fin 64) :
    (l1_7 c z A ⟨blk (fl Q), blk (fl K), blk (fl V), blkS S, blk (fl O)⟩ h0) (ix2 i (cl h d))
      = ((dvB Q K O (fun _ _ _ => 0) h i.rev d : ℝ) : EReal) := by
  unfold l1_7 run1
  frame_out
  canon_tiles x hx
  all_goals obtain ⟨a, b, rfl⟩ : ∃ (a : Fin 128) (b : Fin 64), x = ix2 a b := ⟨x 0, x 1, by idx_vars x⟩
  all_goals obtain rfl : i = a := Fin.ext hx0
  on_goal 1 => obtain ⟨rfl, rfl⟩ := cl_cases 3 h d b hx1
  on_goal 2 => obtain ⟨rfl, rfl⟩ := cl_cases 2 h d b hx1
  on_goal 3 => obtain ⟨rfl, rfl⟩ := cl_cases 1 h d b hx1
  on_goal 4 => obtain ⟨rfl, rfl⟩ := cl_cases 0 h d b ((hx1.trans (zero_add _).symm))
  all_goals simp only [fill_at]
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (dv_fl Q K O (fun _ _ _ => 0) _ _ _)

set_option maxHeartbeats 1600000 in
theorem ws_A (c : Dev nD) (z : grid0.Coords) (A : Args) (h0 : cond0_0 z)
    (Q K V O : Fin 128 → Fin 256 → ℝ) (S : Fin 4 → Fin 64 → Fin 64 → ℝ)
    (h : Fin 4) (e d : Fin 64) :
    (l1_8 c z A ⟨blk (fl Q), blk (fl K), blk (fl V), blkS S, blk (fl O)⟩ h0) (ix3 h e d)
      = ((dsB Q O (fun _ _ _ => 0) h e d : ℝ) : EReal) := by
  unfold l1_8 run1
  frame_out
  refine View.canon_append_of_piecesOf (blkD (dsB Q O (fun _ _ _ => 0))) [_] [_, _, _, _] ⟨?_, ?_, ?_, ?_, trivial⟩ (ix3 h e d) ?_
  rotate_right
  · obtain rfl | rfl | rfl | rfl : h = 0 ∨ h = 1 ∨ h = 2 ∨ h = 3 := by fin_cases h <;> simp
    · exact ⟨_, .tail _ (.tail _ (.tail _ (.head _))), st_mem 0 inb_S4x64x64_S1x64x64_0_0_0 e d⟩
    · exact ⟨_, .tail _ (.tail _ (.head _)), st_mem 1 inb_S4x64x64_S1x64x64_1_0_0 e d⟩
    · exact ⟨_, .tail _ (.head _), st_mem 2 inb_S4x64x64_S1x64x64_2_0_0 e d⟩
    · exact ⟨_, .head _, st_mem 3 inb_S4x64x64_S1x64x64_3_0_0 e d⟩
  all_goals intro x
  all_goals obtain ⟨z, a, b, rfl⟩ : ∃ (z : Fin 1) (a b : Fin 64), x = ix3 z a b := ⟨x 0, x 1, x 2, by idx_vars x⟩
  on_goal 1 => refine Eq.trans ?_ (congrArg (blkD _) (st_emb 3 inb_S4x64x64_S1x64x64_3_0_0 z a b)).symm
  on_goal 2 => refine Eq.trans ?_ (congrArg (blkD _) (st_emb 2 inb_S4x64x64_S1x64x64_2_0_0 z a b)).symm
  on_goal 3 => refine Eq.trans ?_ (congrArg (blkD _) (st_emb 1 inb_S4x64x64_S1x64x64_1_0_0 z a b)).symm
  on_goal 4 => refine Eq.trans ?_ (congrArg (blkD _) (st_emb 0 inb_S4x64x64_S1x64x64_0_0_0 z a b)).symm
  all_goals rw [blkD_at]
  all_goals dsimp only
  all_goals simp only [fill_at]
  all_goals open_payloads
  all_goals pointwise [blk_at, blkS_at, blkD_at, named_lg0, named_lg1, named_lg2, named_lg3,
      named_gc0, named_gc1, named_gc2, named_gc3, dec_rev, row1_rev, left_rev, read_unread_whole]
  all_goals simp only [cl_0, cl_1, cl_2, cl_3, ← EReal.coe_mul, ← EReal.coe_add, Ideal.exp_coe, coe_sum]
  all_goals exact congrArg _ (ds_fl Q O (fun _ _ _ => 0) _ _ _)

end Cert.RetRev
end
-- ==== Proof.RevGrid.lean ====
module

public import proofs.«01_k».proof.Proof.RevVals
public import proofs.«01_k».proof.Proof.RevBody
public import proofs.«01_k».proof.Proof.Chunk

/-! What the other direction's kernel leaves in its results. -/

@[expose] public section

set_option maxRecDepth 16384

noncomputable section

open Idealize.ShloMosaic Idealize.ShloMosaic.TcCoe Idealize.SL.Sem
open Idealize.ShloMosaic.Pipeline (Dat)

namespace Cert.RetRev

open Cert.Kernel15Ideal Cert.Kernel15Ideal.Gen Cert.Kernel15Ideal.Hand
open Cert.RetScan (at' at'_val rows blk blkS blkD blkD_at cl exists_cl stT dsT dsT_last dsB dsB_eq dqT dqB dqB_eq dkT dkB dkB_eq dvT dvB dvB_eq)

/-- The chunk that a grid point works on, in the order of the scan: the last one first. -/
def ch (t : Fin cfg0.N) : Fin 34 := ⟨33 - t.val, by omega⟩

/-- An array of real numbers, each segment from its end. -/
def full (f : Fin 4352 → Fin 256 → ℝ) : S4352x256.Idx → EReal := fun y => ((f (turn (y 0)) (y 1) : ℝ) : EReal)
theorem full_at (f : Fin 4352 → Fin 256 → ℝ) (i : Fin 4352) (j : Fin 256) : full f (ix2 (turn i) j) = ((f i j : ℝ) : EReal) := by
  show ((f (turn (turn i)) j : ℝ) : EReal) = _
  rw [turn_turn]

/-- Where every window's block lies. -/
theorem idx : ∀ t : Fin cfg0.N, win0_0.index t = ![(turn' (ch t)).val, 0] ∧ win0_1.index t = ![(turn' (ch t)).val, 0]
    ∧ win0_2.index t = ![(turn' (ch t)).val, 6] ∧ win0_3.index t = ![(turn' (ch t)).val, 0, 0, 0] ∧ win0_4.index t = ![(turn' (ch t)).val, 0]
    ∧ win0_5.index t = ![(turn' (ch t)).val, 0] ∧ win0_6.index t = ![(turn' (ch t)).val, 0] ∧ win0_7.index t = ![(turn' (ch t)).val, 0] :=
  (by decide +kernel : ∀ t : Fin grid0.N, _)

/-- A block's rows are its chunk's, the last first. -/
theorem at_ch (t : Fin cfg0.N) (i : Fin 128) : (turn' (ch t)).val * 128 + i.val = (turn (at' (ch t) i.rev)).val := by
  have := (ch t).isLt
  rw [turn_val, turn'_val, at'_val, Fin.val_rev]
  split_ifs <;> omega

section
variable (m : (ℓ : Loc nD τ sig) → Buf (Elt Ideal) ℓ) (c : Dev nD) (q k v o : Fin 4352 → Fin 256 → ℝ)

/-- The arguments hold these real numbers, each segment from its end. -/
structure Holds : Prop where
  q : ∀ i j, m ((c.tc : Thread nD τ).loc main_arg0) (ix2 (turn i) j) = ((q i j : ℝ) : EReal)
  k : ∀ i j, m ((c.tc : Thread nD τ).loc main_arg1) (ix2 (turn i) j) = ((k i j : ℝ) : EReal)
  v : ∀ i (j : Fin 256) p, m ((c.tc : Thread nD τ).loc main_arg2) (ix2 (turn i) ⟨1536 + j.val, p⟩) = ((v i j : ℝ) : EReal)
  o : ∀ i j, m ((c.tc : Thread nD τ).loc main_arg3) (ix2 (turn i) j) = ((o i j : ℝ) : EReal)

variable {m c q k v o} (H : Holds m c q k v o) (t : Fin cfg0.N)
include H

theorem blk0 : iblk m c 0 t = blk (fl (rows q (ch t))) := by
  funext y
  obtain ⟨i, j, rfl⟩ : ∃ (i : Fin 128) (j : Fin 256), y = ix2 i j := ⟨y 0, y 1, by idx_vars y⟩
  refine Eq.trans ?_ (H.q (at' (ch t) i.rev) j)
  blk_ext [iblk, V, idx t]
  exact at_ch t i

theorem blk1 : iblk m c 1 t = blk (fl (rows k (ch t))) := by
  funext y
  obtain ⟨i, j, rfl⟩ : ∃ (i : Fin 128) (j : Fin 256), y = ix2 i j := ⟨y 0, y 1, by idx_vars y⟩
  refine Eq.trans ?_ (H.k (at' (ch t) i.rev) j)
  blk_ext [iblk, V, idx t]
  exact at_ch t i

theorem blk2 : iblk m c 2 t = blk (fl (rows v (ch t))) := by
  funext y
  obtain ⟨i, j, rfl⟩ : ∃ (i : Fin 128) (j : Fin 256), y = ix2 i j := ⟨y 0, y 1, by idx_vars y⟩
  refine Eq.trans ?_ (H.v (at' (ch t) i.rev) j (by have := j.isLt; omega))
  blk_ext [iblk, V, idx t]
  exact at_ch t i

theorem blk4 : iblk m c 4 t = blk (fl (rows o (ch t))) := by
  funext y
  obtain ⟨i, j, rfl⟩ : ∃ (i : Fin 128) (j : Fin 256), y = ix2 i j := ⟨y 0, y 1, by idx_vars y⟩
  refine Eq.trans ?_ (H.o (at' (ch t) i.rev) j)
  blk_ext [iblk, V, idx t]
  exact at_ch t i

theorem blk3 : iblk m c 3 t = blkS (stT k v (ch t)) := by
  funext y
  obtain ⟨z, h, e, d, rfl⟩ : ∃ (z : Fin 1) (h : Fin 4) (e d : Fin 64), y = ix4 z h e d := ⟨y 0, y 1, y 2, y 3, by idx_vars y⟩
  refine Eq.trans ?_ (states_at m c k v H.k H.v (ch t) h e d)
  blk_simp [iblk, idx t]
  generalize V m c main_v40 = X
  blk_ext [idx t]

/-- The blocks that a point reads. -/
theorem ins_eq : ins m c t = ⟨blk (fl (rows q (ch t))), blk (fl (rows k (ch t))), blk (fl (rows v (ch t))), blkS (stT k v (ch t)), blk (fl (rows o (ch t)))⟩ := by
  unfold ins
  rw [blk0 H, blk1 H, blk2 H, blk3 H, blk4 H]

/-- Before a point works on its chunk, the scratch holds the gradient of the state that the chunk ends in; after the point, of the
    state that it starts from. -/
theorem carried : ∀ (n : ℕ) (hn : n + 1 < cfg0.N), scr m c (n + 1) = blkD (dsT q o (ch ⟨n + 1, hn⟩)) := by
  intro n
  induction n with
  | zero =>
    intro hn
    refine (scr_succ m c ⟨0, by omega⟩).trans ?_
    unfold step
    rw [dif_pos rfl, ins_eq H]
    funext y
    obtain ⟨h, e, d, rfl⟩ : ∃ (h : Fin 4) (e d : Fin 64), y = ix3 h e d := ⟨y 0, y 1, y 2, by idx_vars y⟩
    rw [ws_A, blkD_at, ← dsB_eq q o (ch ⟨0, by omega⟩) (ch ⟨0 + 1, hn⟩) (by simp [ch]), dsT_last q o _ (by simp [ch])]
  | succ n ih =>
    intro hn
    have hN : cfg0.N = 34 := N_0
    refine (scr_succ m c ⟨n + 1, by omega⟩).trans ?_
    unfold step
    rw [dif_neg (Nat.succ_ne_zero n), ins_eq H]
    dsimp only
    rw [ih (by omega)]
    funext y
    obtain ⟨h, e, d, rfl⟩ : ∃ (h : Fin 4) (e d : Fin 64), y = ix3 h e d := ⟨y 0, y 1, y 2, by idx_vars y⟩
    rw [ws_B, blkD_at, ← dsB_eq q o (ch ⟨n + 1, by omega⟩) (ch ⟨n + 1 + 1, hn⟩) (by simp [ch]; omega)]

/-- The scratch before a point other than the first. -/
theorem carried' (h0 : ¬t.val = 0) : scr m c t.val = blkD (dsT q o (ch t)) := by
  obtain ⟨n, hn⟩ := t
  obtain ⟨n, rfl⟩ : ∃ k, n = k + 1 := ⟨n - 1, by simp only at h0; omega⟩
  exact carried H n hn

omit H in
/-- At the first point, the chunk is the last one. -/
theorem first (h0 : t.val = 0) : dsT q o (ch t) = fun _ _ _ => 0 :=
  dsT_last q o _ (by simp only [ch]; omega)

/-- The kernel's result 0. -/
theorem final5 : (dats m 0 c).arrAt 5 cfg0.N = full (dqT k v o) := by
  refine (dats m 0 c).arrAt_eq_of_covers 5 _ (by decide +kernel) fun t hf y => ?_
  blk_simp
  rw [after0_5]
  obtain ⟨i, j, rfl⟩ : ∃ (i : Fin 128) (j : Fin 256), y = ix2 i j := ⟨y 0, y 1, by idx_vars y⟩
  have e : full (dqT k v o) ((win0_5.blk t).view.emb (ix2 i j)) = full (dqT k v o) (ix2 (turn (at' (ch t) i.rev)) j) := by
    blk_ext [idx t]
    exact at_ch t i
  refine Eq.trans ?_ e.symm
  obtain ⟨h, d, rfl⟩ := exists_cl j
  rw [full_at, ← dqB_eq k v o]
  unfold res5
  by_cases h0 : t.val = 0
  · rw [dif_pos h0, ins_eq H]
    refine (w5_A c _ _ _ _ _ _ _ _ i h d).trans ?_
    rfl
  · rw [dif_neg h0, ins_eq H, carried' H t h0]
    exact w5_B c _ _ _ _ _ _ _ _ _ i h d

/-- The kernel's result 1. -/
theorem final6 : (dats m 0 c).arrAt 6 cfg0.N = full (dkT q v o) := by
  refine (dats m 0 c).arrAt_eq_of_covers 6 _ (by decide +kernel) fun t hf y => ?_
  blk_simp
  rw [after0_6]
  obtain ⟨i, j, rfl⟩ : ∃ (i : Fin 128) (j : Fin 256), y = ix2 i j := ⟨y 0, y 1, by idx_vars y⟩
  have e : full (dkT q v o) ((win0_6.blk t).view.emb (ix2 i j)) = full (dkT q v o) (ix2 (turn (at' (ch t) i.rev)) j) := by
    blk_ext [idx t]
    exact at_ch t i
  refine Eq.trans ?_ e.symm
  obtain ⟨h, d, rfl⟩ := exists_cl j
  rw [full_at, ← dkB_eq q v o]
  unfold res6
  by_cases h0 : t.val = 0
  · rw [dif_pos h0, ins_eq H]
    refine (w6_A c _ _ _ _ _ _ _ _ i h d).trans ?_
    rw [first t h0]
  · rw [dif_neg h0, ins_eq H, carried' H t h0]
    exact w6_B c _ _ _ _ _ _ _ _ _ i h d

/-- The kernel's result 2. -/
theorem final7 : (dats m 0 c).arrAt 7 cfg0.N = full (dvT q k o) := by
  refine (dats m 0 c).arrAt_eq_of_covers 7 _ (by decide +kernel) fun t hf y => ?_
  blk_simp
  rw [after0_7]
  obtain ⟨i, j, rfl⟩ : ∃ (i : Fin 128) (j : Fin 256), y = ix2 i j := ⟨y 0, y 1, by idx_vars y⟩
  have e : full (dvT q k o) ((win0_7.blk t).view.emb (ix2 i j)) = full (dvT q k o) (ix2 (turn (at' (ch t) i.rev)) j) := by
    blk_ext [idx t]
    exact at_ch t i
  refine Eq.trans ?_ e.symm
  obtain ⟨h, d, rfl⟩ := exists_cl j
  rw [full_at, ← dvB_eq q k o]
  unfold res7
  by_cases h0 : t.val = 0
  · rw [dif_pos h0, ins_eq H]
    refine (w7_A c _ _ _ _ _ _ _ _ i h d).trans ?_
    rw [first t h0]
  · rw [dif_neg h0, ins_eq H, carried' H t h0]
    exact w7_B c _ _ _ _ _ _ _ _ _ i h d

end
end Cert.RetRev
end
-- ==== Proof.RevRef.lean ====
module

public import proofs.«01_k».proof.Proof.Gen.Reference15Ideal.Run
public import proofs.«01_k».proof.Proof.RevVals
public import Idealize.ShloMosaic.Lib.Pointwise
public import Idealize.ShloMosaic.Lib.Claim

/-! The other direction's reference, entry by entry, in real numbers. -/

@[expose] public section

set_option maxRecDepth 16384

noncomputable section

open Idealize.ShloMosaic Idealize.ShloMosaic.TcCoe Idealize.SL.Sem

namespace Cert.RetRev

open Cert.RetScan (cl hd hd_mk cl_mk lg dcy dqT dkT dvT coe_sum log_decay host_sum dec_ref)
open Cert.Reference15Ideal Cert.Reference15Ideal.Gen

/-- An array with each segment from its end. -/
def over (x : FVec Ideal S4352x256 .f32) : FVec Ideal S4352x256 .f32 := fun y => x (ix2 (turn (y 0)) (y 1))

theorem over_at (x : FVec Ideal S4352x256 .f32) (i : Fin 4352) (j : Fin 256) : over x (ix2 i j) = x (ix2 (turn i) j) := rfl

/-- The two segments' reversals, one after the other. -/
theorem over_concat (x : FVec Ideal S4352x256 .f32) : concatenate S4352x256 0 [⟨S256x256, (Host.reverse [0] (extractStridedSlice S256x256 ![0, 0] x slices_S4352x256_S256x256_0_0))⟩, ⟨S4096x256, (Host.reverse [0] (extractStridedSlice S4096x256 ![256, 0] x slices_S4352x256_S4096x256_256_0))⟩] concatenates_S256x256_S4096x256_S4352x256_d0 = over x := by
  funext y
  obtain ⟨i, j, rfl⟩ : ∃ (i : Fin 4352) (j : Fin 256), y = ix2 i j := ⟨y 0, y 1, by idx_vars y⟩
  pointwise
  refine Eq.trans ?_ (over_at x i j).symm
  by_cases h : i.val < 256
  · rw [dif_pos h]
    refine congrArg x (congrArg₂ ix2 (Fin.ext ?_) (if_neg (show ¬(1 : Fin 2) ∈ [0] by decide)))
    exact (rv (n := 256) (List.mem_singleton.2 rfl) ⟨_, h⟩).trans (by rw [turn_val, if_pos h])
  · rw [dif_neg h]
    refine congrArg x (congrArg₂ ix2 (Fin.ext ?_) (if_neg (show ¬(1 : Fin 2) ∈ [0] by decide)))
    exact (congrArg (256 + ·) (rv (n := 4096) (List.mem_singleton.2 rfl) ⟨_, by omega⟩)).trans (by rw [turn_val, if_neg h]; dsimp only; omega)

/-- The two segments' reversals, each with zeros in the other's place, added. -/
theorem over_pads (x : FVec Ideal S4352x256 .f32) : addf (F := Ideal) (pad S4352x256 ![256, 0] ![0, 0] ![0, 0] (Host.reverse [0] (extractStridedSlice S4096x256 ![256, 0] x slices_S4352x256_S4096x256_256_0)) (constant S_ .f32 0x00000000#32) pads_S4096x256_S4352x256_25600_000 h_S_) (pad S4352x256 ![0, 0] ![4096, 0] ![0, 0] (Host.reverse [0] (extractStridedSlice S256x256 ![0, 0] x slices_S4352x256_S256x256_0_0)) (constant S_ .f32 0x00000000#32) pads_S256x256_S4352x256_040960_000 h_S_) = over x := by
  funext y
  obtain ⟨i, j, rfl⟩ : ∃ (i : Fin 4352) (j : Fin 256), y = ix2 i j := ⟨y 0, y 1, by idx_vars y⟩
  pointwise
  refine Eq.trans ?_ (over_at x i j).symm
  by_cases h : i.val < 256
  · rw [dif_neg (by omega), dif_pos h, zero_add]
    refine congrArg x (congrArg₂ ix2 (Fin.ext ?_) (if_neg (show ¬(1 : Fin 2) ∈ [0] by decide)))
    exact (rv (n := 256) (List.mem_singleton.2 rfl) ⟨_, h⟩).trans (by rw [turn_val, if_pos h])
  · rw [dif_pos ⟨by omega, by omega⟩, dif_neg h, add_zero]
    refine congrArg x (congrArg₂ ix2 (Fin.ext ?_) (if_neg (show ¬(1 : Fin 2) ∈ [0] by decide)))
    exact (congrArg (256 + ·) (rv (n := 4096) (List.mem_singleton.2 rfl) ⟨_, by omega⟩)).trans (by rw [turn_val, if_neg h]; dsimp only; omega)

/-- The running sums of the heads' decay logarithms. -/
theorem ref_logs (t : Fin 4352) (h : Fin 4) :
    Host.reduceWindowAdd (F := Ideal) ![4352, 1] ![1, 1] ![4351, 0] ![0, 0]
      (broadcastInDim S4352x4 ![0, 1] bcast_S1x4_S4352x4_0_1
        (broadcastInDim S1x4 ![1] bcast_S4_S1x4_1
          (Host.log1p (Host.negf (Host.powf (broadcastInDim S4 ![] bcast_S_S4 (constant S_ FTy.f32 1073741824#32))
            (subf (broadcastInDim S4 ![] bcast_S_S4 (constant S_ FTy.f32 3231711232#32)) (sitofp FTy.f32 (iotaInDim S4 32 0))))))))
      (broadcastInDim S_ ![] bcast_S_S_ (constant S_ FTy.f32 0#32))
      reduceWindows_S4352x4_S4352x4_w4352s1p4351_0_w1s1p0_0 h_S_ (ix2 t h) = ((((t.val : ℝ) + 1) * lg h : ℝ) : EReal) := by
  refine host_sum _ lg (fun i c => ?_) _ _ (fun i => ?_) _ t h
  · refine Eq.trans ?_ (log_decay c)
    pointwise
  · exact Ideal.ofBits_zero_f32

/-- The reference's run: each result is its closed form in the arguments' real numbers. -/
theorem ref_run (m : (ℓ : Loc nD τ sig) → Buf (Elt Ideal) ℓ) (ρ : Dev nD → PrngReg)
    (q k v o : Dev nD → Fin 4352 → Fin 256 → ℝ)
    (hq : ∀ (c : Dev nD) i j, m ((c.tc : Thread nD τ).loc main_arg0) (ix2 (turn i) j) = ((q c i j : ℝ) : EReal))
    (hk : ∀ (c : Dev nD) i j, m ((c.tc : Thread nD τ).loc main_arg1) (ix2 (turn i) j) = ((k c i j : ℝ) : EReal))
    (hv : ∀ (c : Dev nD) i (j : Fin 256) p, m ((c.tc : Thread nD τ).loc main_arg2) (ix2 (turn i) ⟨1536 + j.val, p⟩) = ((v c i j : ℝ) : EReal))
    (ho : ∀ (c : Dev nD) i j, m ((c.tc : Thread nD τ).loc main_arg3) (ix2 (turn i) j) = ((o c i j : ℝ) : EReal)) :
    θ_run defs (onTc (τ := τ) (main (F := Ideal))) ⟨m, fun _ => 0, ρ⟩ fun r => ∀ c : Dev nD,
      r.2.mem ((c.tc : Thread nD τ).loc main_v94) = (fun y : S4352x256.Idx => ((dqT (k c) (v c) (o c) (turn (y 0)) (y 1) : ℝ) : EReal))
      ∧ r.2.mem ((c.tc : Thread nD τ).loc main_v87) = (fun y : S4352x256.Idx => ((dkT (q c) (v c) (o c) (turn (y 0)) (y 1) : ℝ) : EReal))
      ∧ r.2.mem ((c.tc : Thread nD τ).loc main_v80) = (fun y : S4352x256.Idx => ((dvT (q c) (k c) (o c) (turn (y 0)) (y 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference15Ideal.Value.run m ρ)
  obtain ⟨h5, h6, h7, ha⟩ := h c
  have hq : ∀ i j, over (m ((c.tc : Thread nD τ).loc main_arg0)) (ix2 i j) = ((q c i j : ℝ) : EReal) := fun i j => hq c i j
  have hk : ∀ i j, over (m ((c.tc : Thread nD τ).loc main_arg1)) (ix2 i j) = ((k c i j : ℝ) : EReal) := fun i j => hk c i j
  have hv : ∀ i j, over (extractStridedSlice S4352x256 ![0, 1536] (m ((c.tc : Thread nD τ).loc main_arg2)) slices_S4352x3584_S4352x256_0_1536) (ix2 i j)
      = ((v c i j : ℝ) : EReal) := fun i j => by
    refine Eq.trans ?_ (hv c i j (by omega))
    unfold over
    pointwise
  have ho : ∀ i j, over (m ((c.tc : Thread nD τ).loc main_arg3)) (ix2 i j) = ((o c i j : ℝ) : EReal) := fun i j => ho c i j
  refine ⟨h5.trans ?_, h6.trans ?_, h7.trans ?_, ha⟩ <;> clear h5 h6 h7 ha h
  · unfold Value.res_main_v94
    refine (over_pads _).trans ?_
    erw [over_pads (m ((c.tc : Thread nD τ).loc main_arg3)), over_concat (m ((c.tc : Thread nD τ).loc main_arg1)), over_concat (extractStridedSlice S4352x256 ![0, 1536] (m ((c.tc : Thread nD τ).loc main_arg2)) slices_S4352x3584_S4352x256_0_1536)]
    generalize over (m ((c.tc : Thread nD τ).loc main_arg1)) = b1 at *
    generalize over (extractStridedSlice S4352x256 ![0, 1536] (m ((c.tc : Thread nD τ).loc main_arg2)) slices_S4352x3584_S4352x256_0_1536) = b2 at *
    generalize over (m ((c.tc : Thread nD τ).loc main_arg3)) = b3 at *
    funext y
    obtain ⟨i, j, rfl⟩ : ∃ (i : Fin 4352) (j : Fin 256), y = ix2 i j := ⟨y 0, y 1, by idx_vars y⟩
    refine (over_at _ i j).trans ?_
    show _ = ((dqT (k c) (v c) (o c) (turn i) j : ℝ) : EReal)
    generalize turn i = t
    pointwise [ref_logs, hk, hv, ho]
    have hz : (id (constant (F := Ideal) S_ FTy.f32 0#32) ix0 : EReal) = 0 := Ideal.ofBits_zero_f32
    simp only [hd_mk, cl_mk]
    refine Eq.trans (Finset.sum_congr rfl fun (x : Fin 4352) _ => ?_)
      (coe_sum _ fun x : Fin 4352 => (∑ e, o c t (cl (hd j) e) * v c x (cl (hd j) e)) * dcy (lg (hd j)) t x * k c x j)
    rw [ref_logs, ref_logs, dec_ref _ _ _ _ hz]
    simp only [← EReal.coe_mul, coe_sum]
  · unfold Value.res_main_v87
    refine (over_pads _).trans ?_
    erw [over_pads (m ((c.tc : Thread nD τ).loc main_arg3)), over_concat (m ((c.tc : Thread nD τ).loc main_arg0)), over_concat (extractStridedSlice S4352x256 ![0, 1536] (m ((c.tc : Thread nD τ).loc main_arg2)) slices_S4352x3584_S4352x256_0_1536)]
    generalize over (m ((c.tc : Thread nD τ).loc main_arg0)) = b1 at *
    generalize over (extractStridedSlice S4352x256 ![0, 1536] (m ((c.tc : Thread nD τ).loc main_arg2)) slices_S4352x3584_S4352x256_0_1536) = b2 at *
    generalize over (m ((c.tc : Thread nD τ).loc main_arg3)) = b3 at *
    funext y
    obtain ⟨i, j, rfl⟩ : ∃ (i : Fin 4352) (j : Fin 256), y = ix2 i j := ⟨y 0, y 1, by idx_vars y⟩
    refine (over_at _ i j).trans ?_
    show _ = ((dkT (q c) (v c) (o c) (turn i) j : ℝ) : EReal)
    generalize turn i = t
    pointwise [ref_logs, hq, hv, ho]
    have hz : (id (constant (F := Ideal) S_ FTy.f32 0#32) ix0 : EReal) = 0 := Ideal.ofBits_zero_f32
    simp only [hd_mk, cl_mk]
    refine Eq.trans (Finset.sum_congr rfl fun (x : Fin 4352) _ => ?_)
      (coe_sum _ fun x : Fin 4352 => (∑ e, o c x (cl (hd j) e) * v c t (cl (hd j) e)) * dcy (lg (hd j)) x t * q c x j)
    rw [ref_logs, ref_logs, dec_ref _ _ _ _ hz]
    simp only [← EReal.coe_mul, coe_sum]
  · unfold Value.res_main_v80
    refine (over_pads _).trans ?_
    erw [over_pads (m ((c.tc : Thread nD τ).loc main_arg3)), over_concat (m ((c.tc : Thread nD τ).loc main_arg0)), over_concat (m ((c.tc : Thread nD τ).loc main_arg1))]
    generalize over (m ((c.tc : Thread nD τ).loc main_arg0)) = b1 at *
    generalize over (m ((c.tc : Thread nD τ).loc main_arg1)) = b2 at *
    generalize over (m ((c.tc : Thread nD τ).loc main_arg3)) = b3 at *
    funext y
    obtain ⟨i, j, rfl⟩ : ∃ (i : Fin 4352) (j : Fin 256), y = ix2 i j := ⟨y 0, y 1, by idx_vars y⟩
    refine (over_at _ i j).trans ?_
    show _ = ((dvT (q c) (k c) (o c) (turn i) j : ℝ) : EReal)
    generalize turn i = t
    pointwise [ref_logs, hq, hk, ho]
    have hz : (id (constant (F := Ideal) S_ FTy.f32 0#32) ix0 : EReal) = 0 := Ideal.ofBits_zero_f32
    simp only [hd_mk, cl_mk]
    refine Eq.trans (Finset.sum_congr rfl fun (x : Fin 4352) _ => ?_)
      (coe_sum _ fun x : Fin 4352 => o c x j * ((∑ d, k c t (cl (hd j) d) * q c x (cl (hd j) d)) * dcy (lg (hd j)) x t))
    rw [ref_logs, ref_logs, dec_ref _ _ _ _ hz]
    simp only [← EReal.coe_mul, coe_sum]

end Cert.RetRev
end
-- ==== Proof.Finite.lean ====
module

public import proofs.«01_k».proof.Pre_finite
public import Idealize.ShloMosaic.Lib.Pointwise

/-! The precondition, entry by entry: every number that the call reads is a real number. -/

@[expose] public section

set_option maxRecDepth 16384

noncomputable section

open Idealize.ShloMosaic

namespace Cert.RetScan

open Cert.Pre_finite

/-- The side conditions of the precondition's own operations. -/
instance finite_facts : Cert.Pre_finite.Facts where
  slices_S4352x3584_S4352x256_0_1536 := by decide
  concatenates_S4352x256_S4352x256_S4352x256_S4352x256_S4352x1024_d1 := by decide
  bcast_S_S4352x1024 := by decide

/-- A number whose size is below infinity is a real number. -/
theorem real_of_lt {x : EReal} (h : Ideal.cmp .olt (max x (-x)) (Ideal.ofBits .f32 2139095040#32) = 1#1) : x = ((x.toReal : ℝ) : EReal) := by
  have e : Ideal.ofBits .f32 2139095040#32 = ⊤ := by simp [Ideal.ofBits, Ideal.ieee]
  rw [e] at h
  simp only [Ideal.cmp] at h
  have h' : max x (-x) < ⊤ := by
    by_contra hn
    rw [decide_eq_false hn] at h
    exact absurd h (by decide)
  refine (EReal.coe_toReal (fun ht => ?_) (fun hb => ?_)).symm
  · subst ht; simp at h'
  · subst hb; simp at h'

section
variable (a0 a1 a3 : FVec Ideal S4352x256 .f32) (a2 : FVec Ideal S4352x3584 .f32) (h : fn a0 a1 a2 a3 = fun _ => 1#1)
include h

theorem fin0 (i : Fin 4352) (j : Fin 256) : a0 (ix2 i j) = (((a0 (ix2 i j)).toReal : ℝ) : EReal) := by
  refine real_of_lt (Eq.trans ?_ (congrFun h (ix2 i ⟨j.val, by omega⟩)))
  pointwise [fn]
  rfl

theorem fin1 (i : Fin 4352) (j : Fin 256) : a1 (ix2 i j) = (((a1 (ix2 i j)).toReal : ℝ) : EReal) := by
  refine real_of_lt (Eq.trans ?_ (congrFun h (ix2 i ⟨256 + j.val, by omega⟩)))
  pointwise [fn]
  rfl

theorem fin3 (i : Fin 4352) (j : Fin 256) : a3 (ix2 i j) = (((a3 (ix2 i j)).toReal : ℝ) : EReal) := by
  refine real_of_lt (Eq.trans ?_ (congrFun h (ix2 i ⟨768 + j.val, by omega⟩)))
  pointwise [fn]
  rw [dif_neg (by omega), dif_neg (by omega), dif_neg (by omega)]
  simp only [show 768 + j.val - 256 - 256 - 256 = j.val by omega]
  rfl

theorem fin2 (i : Fin 4352) (j : Fin 256) (p : 1536 + j.val < 3584) :
    a2 (ix2 i ⟨1536 + j.val, p⟩) = (((a2 (ix2 i ⟨1536 + j.val, p⟩)).toReal : ℝ) : EReal) := by
  refine real_of_lt (Eq.trans ?_ (congrFun h (ix2 i ⟨512 + j.val, by omega⟩)))
  pointwise [fn]
  rw [dif_neg (by omega), dif_neg (by omega), dif_pos (by omega)]
  simp only [show 512 + j.val - 256 - 256 = j.val by omega]
  rfl
end

end Cert.RetScan
end
-- ==== Proof.RevClaim.lean ====
module

public import proofs.«01_k».proof.Defs
public import proofs.«01_k».proof.Proof.Gen.Kernel15
public import proofs.«01_k».proof.Proof.Gen.Kernel15Ideal
public import proofs.«01_k».proof.Proof.Gen.Reference15Ideal
public import proofs.«01_k».proof.Proof.RevFrameBits
public import proofs.«01_k».proof.Proof.RevFrame
public import proofs.«01_k».proof.Proof.RevGrid
public import proofs.«01_k».proof.Proof.RevRef
public import proofs.«01_k».proof.Proof.Finite
public import Idealize.ShloMosaic.Adequacy
public import Idealize.ShloMosaic.Init
public import Idealize.ShloMosaic.Lib.Claim

/-! The claims of the scan's other direction. -/

@[expose] public section

noncomputable section

namespace Cert.RetRev

open Idealize.ShloMosaic Idealize.ShloMosaic.TcCoe Idealize.SL.Sem
open Cert.RetScan (fin0 fin1 fin2 fin3 finite_facts dqT dkT dvT)

theorem frame_kernel : Cert.quiescent_Kernel15 := fun m ρ _ => Cert.Kernel15.Hand.frame m ρ
theorem frame_ideal : Cert.quiescent_Kernel15Ideal := fun m ρ _ => Cert.Kernel15Ideal.Hand.frame m ρ
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem preserves : Cert.preserves_Kernel15_Kernel15Ideal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

section
variable (m : (ℓ : Loc Cert.Kernel15Ideal.nD Cert.Kernel15Ideal.τ Cert.Kernel15Ideal.sig) → Buf (Elt Ideal) ℓ) (c : Dev Cert.Kernel15Ideal.nD)
/-- The arguments' real numbers, each segment from its end. -/
def qR (i : Fin 4352) (j : Fin 256) : ℝ :=
  EReal.toReal (m ((c.tc : Thread Cert.Kernel15Ideal.nD Cert.Kernel15Ideal.τ).loc Cert.Kernel15Ideal.main_arg0) (ix2 (turn i) j))
@[inherit_doc qR] def kR (i : Fin 4352) (j : Fin 256) : ℝ :=
  EReal.toReal (m ((c.tc : Thread Cert.Kernel15Ideal.nD Cert.Kernel15Ideal.τ).loc Cert.Kernel15Ideal.main_arg1) (ix2 (turn i) j))
@[inherit_doc qR] def vR (i : Fin 4352) (j : Fin 256) : ℝ :=
  EReal.toReal (m ((c.tc : Thread Cert.Kernel15Ideal.nD Cert.Kernel15Ideal.τ).loc Cert.Kernel15Ideal.main_arg2) (ix2 (turn i) ⟨1536 + j.val, by omega⟩))
@[inherit_doc qR] def oR (i : Fin 4352) (j : Fin 256) : ℝ :=
  EReal.toReal (m ((c.tc : Thread Cert.Kernel15Ideal.nD Cert.Kernel15Ideal.τ).loc Cert.Kernel15Ideal.main_arg3) (ix2 (turn i) j))

theorem holds (h : Cert.Pre_Kernel15Ideal_finite m) : Holds m c (qR m c) (kR m c) (vR m c) (oR m c) where
  q i j := fin0 _ _ _ _ (h c) (turn i) j
  k i j := fin1 _ _ _ _ (h c) (turn i) j
  v i j p := fin2 _ _ _ _ (h c) (turn i) j p
  o i j := fin3 _ _ _ _ (h c) (turn i) j
end

theorem algebraic : Cert.algebraic_Kernel15Ideal_Reference15Ideal_pre_finite := by
  intro m g m' g' hpre hag
  refine ⟨fun c => full (dqT (kR m c) (vR m c) (oR m c)), fun c => full (dkT (qR m c) (vR m c) (oR m c)),
    fun c => full (dvT (qR m c) (kR m c) (oR m c)), ?_, ?_⟩
  · refine (θ_run Cert.Kernel15Ideal.defs _ _).mono (fun r h c => ?_) (Cert.Kernel15Ideal.Hand.run_blocks m g)
    obtain ⟨⟨h5, h6, h7⟩, ha⟩ := h.1 c
    have H := holds m c hpre
    exact ⟨h5.trans (final5 H), h6.trans (final6 H), h7.trans (final7 H), ha⟩
  · exact ref_run m' g' (qR m) (kR m) (vR m) (oR m)
      (fun c i j => (congrFun (hag c).1 (ix2 (turn i) j)).trans ((holds m c hpre).q i j))
      (fun c i j => (congrFun (hag c).2.1 (ix2 (turn i) j)).trans ((holds m c hpre).k i j))
      (fun c i j p => (congrFun (hag c).2.2.1 (ix2 (turn i) ⟨1536 + j.val, p⟩)).trans ((holds m c hpre).v i j p))
      (fun c i j => (congrFun (hag c).2.2.2 (ix2 (turn i) j)).trans ((holds m c hpre).o i j))

end Cert.RetRev
end
-- ==== Proof.Rope.lean ====
module

public import proofs.«01_k».proof.Defs
public import Idealize.ShloMosaic.Lib.Pointwise

/-! The rotary embedding and its transpose, at one row and one lane. -/

@[expose] public section

set_option maxRecDepth 16384

noncomputable section

open Idealize.ShloMosaic

namespace Cert.Rope

/-- The lane that a lane is paired with in its head. -/
def pair (j : Fin 256) : Fin 256 := ⟨if j.val % 64 < 32 then j.val + 32 else j.val - 32, by split <;> omega⟩

theorem pair_val (j : Fin 256) : (pair j).val = if j.val % 64 < 32 then j.val + 32 else j.val - 32 := rfl

section
variable (C S : (⟨2, ![4096, 32]⟩ : Shape).Idx → EReal) (x : Fin 256 → EReal) (i : Fin 4352) (j : Fin 256)

/-- The angle's place in the tables. -/
def angle (h : ¬ i.val < 256) : (⟨2, ![4096, 32]⟩ : Shape).Idx := ix2 (⟨i.val - 256, by omega⟩ : Fin 4096) (⟨j.val % 32, by omega⟩ : Fin 32)

/-- The tables over all rows and lanes: the context is not turned. -/
def cosT : EReal := if h : i.val < 256 then 1 else C (angle i j h)
@[inherit_doc cosT] def sinT : EReal := if h : i.val < 256 then 0 else if j.val % 64 < 32 then -S (angle i j h) else S (angle i j h)

/-- One row turned forwards and one turned back. -/
def fwd : EReal := x j * cosT C i j + x (pair j) * sinT S i j
@[inherit_doc fwd] def bwd : EReal := x j * cosT C i j + x (pair j) * sinT S i (pair j)
end

/-- The scale may be taken before the turn. -/
theorem fwd_scaled (C S : (⟨2, ![4096, 32]⟩ : Shape).Idx → EReal) (x : Fin 256 → EReal) (i : Fin 4352) (j : Fin 256) :
    fwd C S (fun j => x j * Ideal.ofBits .f32 0x3E000000#32) i j = fwd C S x i j * Ideal.ofBits .f32 0x3E000000#32 := by
  have e : Ideal.ofBits .f32 0x3E000000#32 = ((0.125 : ℝ) : EReal) := by
    simp [Ideal.ofBits, Ideal.ieee, -EReal.coe_mul]
    norm_num
  unfold fwd
  rw [e, EReal.right_distrib_of_nonneg_of_ne_top (by norm_num) (EReal.coe_ne_top _)]
  refine congrArg₂ (· + ·) ?_ ?_ <;> exact mul_right_comm _ _ _

/-- The kernel's choice between its two rolls is the paired lane. -/
theorem choose (f : Fin 256 → EReal) (j : Fin 256) (p q) :
    Scalar.select (IntOp.cmpi CmpIPredicate.sge (IntOp.andi (BitVec.ofNat 32 j.val) 63#32) 32#32) (f ⟨(j.val + 256 - 32) % 256, p⟩) (f ⟨(j.val + 256 - 224) % 256, q⟩) = f (pair j) := by
  have hc : IntOp.cmpi CmpIPredicate.sge (IntOp.andi (BitVec.ofNat 32 j.val) 63#32) 32#32 = if j.val % 64 < 32 then 0#1 else 1#1 :=
    (by decide +kernel : ∀ j : Fin 256, IntOp.cmpi CmpIPredicate.sge (IntOp.andi (BitVec.ofNat 32 j.val) 63#32) 32#32 = if j.val % 64 < 32 then 0#1 else 1#1) j
  rw [hc]
  split
  · refine Eq.trans rfl (congrArg f (Fin.ext ?_))
    rw [pair_val, if_pos (by assumption)]
    have := j.isLt
    dsimp only
    omega
  · refine Eq.trans rfl (congrArg f (Fin.ext ?_))
    rw [pair_val, if_neg (by assumption)]
    have := j.isLt
    dsimp only
    omega

end Cert.Rope
end
-- ==== Proof.RopeBwd.lean ====
module

public import proofs.«01_k».proof.Proof.Gen.Kernel16Ideal.Value
public import proofs.«01_k».proof.Proof.Gen.Kernel16.Frame
public import proofs.«01_k».proof.Proof.Gen.Reference16Ideal.Run
public import proofs.«01_k».proof.Proof.Rope
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `rope_bwd`: the gradients of the two directions summed and turned back, the queries' scaled. -/

@[expose] public section

set_option maxRecDepth 16384

noncomputable section

open Idealize.ShloMosaic Idealize.ShloMosaic.TcCoe Idealize.SL.Sem
open Idealize.ShloMosaic.Pipeline (Dat)

namespace Cert.RopeBwd

open Rope
open Cert.Kernel16Ideal Cert.Kernel16Ideal.Gen

/-- Where every window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem pay3_at (x : Vec Ideal S256x256 .f32) (y) : k0_pay3 x y = x y := by
  unfold k0_pay3
  exact congrFun (shapeCast_self x _) y

theorem pay4_at (x : Vec Ideal S256x256 .f32) (y) : k0_pay4 x y = x y := by
  unfold k0_pay4
  exact congrFun (shapeCast_self x _) y

/-- What a block becomes. -/
theorem q_out (x0 x1 x2 x3 x4 x5 : Vec Ideal S256x256 .f32) (r j : Fin 256) : out0_6 x0 x1 x2 x3 x4 x5 (ix2 r j)
    = ((x0 (ix2 r j) + x1 (ix2 r j)) * x4 (ix2 r j) + (x0 (ix2 r (pair j)) + x1 (ix2 r (pair j))) * x5 (ix2 r (pair j))) * Ideal.ofBits .f32 0x3E000000#32 := by
  frame_out
  unfold k0_pay5
  pointwise
  simp only [pay3_at, pay4_at]
  erw [choose (fun j => (x0 (ix2 r j) + x1 (ix2 r j)) * x5 (ix2 r j))]

@[inherit_doc q_out] theorem k_out (x0 x1 x2 x3 x4 x5 : Vec Ideal S256x256 .f32) (r j : Fin 256) : out0_7 x0 x1 x2 x3 x4 x5 (ix2 r j)
    = (x2 (ix2 r j) + x3 (ix2 r j)) * x4 (ix2 r j) + (x2 (ix2 r (pair j)) + x3 (ix2 r (pair j))) * x5 (ix2 r (pair j)) := by
  frame_out
  unfold k0_pay1 k0_pay6 k0_pay7 k0_pay8 k0_pay2
  pointwise
  simp only [pay3_at, pay4_at]
  erw [choose (fun j => (x2 (ix2 r j) + x3 (ix2 r j)) * x5 (ix2 r j))]

section
variable (m : (ℓ : Loc nD τ sig) → Buf (Elt Ideal) ℓ) (c : Dev nD)

/-- The kernel's arrays. -/
abbrev aQf : S4352x256.Idx → EReal := m ((c.tc : Thread nD τ).loc main_arg0)
@[inherit_doc aQf] abbrev aQb : S4352x256.Idx → EReal := m ((c.tc : Thread nD τ).loc main_arg1)
@[inherit_doc aQf] abbrev aKf : S4352x256.Idx → EReal := m ((c.tc : Thread nD τ).loc main_arg2)
@[inherit_doc aQf] abbrev aKb : S4352x256.Idx → EReal := m ((c.tc : Thread nD τ).loc main_arg3)
@[inherit_doc aQf] abbrev aC : S4096x32.Idx → EReal := m ((c.tc : Thread nD τ).loc main_arg4)
@[inherit_doc aQf] abbrev aS : S4096x32.Idx → EReal := m ((c.tc : Thread nD τ).loc main_arg5)

set_option maxHeartbeats 1600000 in
/-- The tables that the host lines prepare. -/
theorem cos_at (i : Fin 4352) (j : Fin 256) : V m c main_v10 (ix2 i j) = cosT (aC m c) i j := by
  entry_read
  pointwise
  unfold cosT angle
  split_ifs
  all_goals first
    | rfl
    | exact congrArg (m ((c.tc : Thread nD τ).loc main_arg4)) (congrArg (ix2 _) (Fin.ext (by dsimp only; omega)))

set_option maxHeartbeats 1600000 in
@[inherit_doc cos_at] theorem sin_at (i : Fin 4352) (j : Fin 256) : V m c main_v12 (ix2 i j) = sinT (aS m c) i j := by
  entry_read
  pointwise
  unfold sinT angle
  split_ifs
  all_goals first | rfl | after_results_simp
  all_goals first
    | exact congrArg (m ((c.tc : Thread nD τ).loc main_arg5)) (congrArg (ix2 _) (Fin.ext (by dsimp only; omega)))
    | exact congrArg (fun y => -aS m c y) (congrArg (ix2 _) (Fin.ext (by dsimp only; omega)))

variable (t : Fin cfg0.N) (r : Fin 256) (j : Fin 256)

/-- A block's row among all. -/
def row : Fin 4352 := ⟨256 * t.val + r.val, by have hN : t.val < 17 := Nat.lt_of_lt_of_eq t.isLt N_0; omega⟩

theorem blk0 : (iblk m c 0 t : Vec Ideal S256x256 .f32) (ix2 r j) = aQf m c (ix2 (row t r) j) := by
  unfold row
  blk_ext [iblk, V, idx t]

theorem blk1 : (iblk m c 1 t : Vec Ideal S256x256 .f32) (ix2 r j) = aQb m c (ix2 (row t r) j) := by
  unfold row
  blk_ext [iblk, V, idx t]

theorem blk2 : (iblk m c 2 t : Vec Ideal S256x256 .f32) (ix2 r j) = aKf m c (ix2 (row t r) j) := by
  unfold row
  blk_ext [iblk, V, idx t]

theorem blk3 : (iblk m c 3 t : Vec Ideal S256x256 .f32) (ix2 r j) = aKb m c (ix2 (row t r) j) := by
  unfold row
  blk_ext [iblk, V, idx t]

theorem blk4 : (iblk m c 4 t : Vec Ideal S256x256 .f32) (ix2 r j) = cosT (aC m c) (row t r) j := by
  refine Eq.trans ?_ (cos_at m c (row t r) j)
  unfold row
  blk_simp [iblk, idx t]
  generalize V m c main_v10 = X
  blk_ext [idx t]

theorem blk5 : (iblk m c 5 t : Vec Ideal S256x256 .f32) (ix2 r j) = sinT (aS m c) (row t r) j := by
  refine Eq.trans ?_ (sin_at m c (row t r) j)
  unfold row
  blk_simp [iblk, idx t]
  generalize V m c main_v12 = X
  blk_ext [idx t]

/-- What the kernel leaves. -/
def gQ : S4352x256.Idx → EReal := fun y => bwd (aC m c) (aS m c) (fun j => aQf m c (ix2 (y 0) j) + aQb m c (ix2 (y 0) j)) (y 0) (y 1) * Ideal.ofBits .f32 0x3E000000#32
@[inherit_doc gQ] def gK : S4352x256.Idx → EReal := fun y => bwd (aC m c) (aS m c) (fun j => aKf m c (ix2 (y 0) j) + aKb m c (ix2 (y 0) j)) (y 0) (y 1)

theorem q_blk : out0_6 (iblk m c 0 t) (iblk m c 1 t) (iblk m c 2 t) (iblk m c 3 t) (iblk m c 4 t) (iblk m c 5 t) (ix2 r j) = gQ m c (ix2 (row t r) j) := by
  rw [q_out, blk0, blk0, blk1, blk1, blk4, blk5]
  rfl

theorem k_blk : out0_7 (iblk m c 0 t) (iblk m c 1 t) (iblk m c 2 t) (iblk m c 3 t) (iblk m c 4 t) (iblk m c 5 t) (ix2 r j) = gK m c (ix2 (row t r) j) := by
  rw [k_out, blk2, blk2, blk3, blk3, blk4, blk5]
  rfl

theorem final6 : (dats m 0 c).arrAt 6 cfg0.N = gQ m c := by
  refine (dats m 0 c).arrAt_eq_of_covers 6 _ (by decide +kernel) fun t hf y => ?_
  blk_simp
  rw [after0_6]
  obtain ⟨r, j, rfl⟩ : ∃ (i : Fin 256) (j : Fin 256), y = ix2 i j := ⟨y 0, y 1, by idx_vars y⟩
  refine (q_blk m c t r j).trans (Eq.trans (b := gQ m c (ix2 (row t r) j)) rfl (Eq.symm ?_))
  unfold row
  blk_ext [idx t]

theorem final7 : (dats m 0 c).arrAt 7 cfg0.N = gK m c := by
  refine (dats m 0 c).arrAt_eq_of_covers 7 _ (by decide +kernel) fun t hf y => ?_
  blk_simp
  rw [after0_7]
  obtain ⟨r, j, rfl⟩ : ∃ (i : Fin 256) (j : Fin 256), y = ix2 i j := ⟨y 0, y 1, by idx_vars y⟩
  refine (k_blk m c t r j).trans (Eq.trans (b := gK m c (ix2 (row t r) j)) rfl (Eq.symm ?_))
  unfold row
  blk_ext [idx t]

end

end Cert.RopeBwd

namespace Cert.RopeBwd.Ref

open Rope
open Cert.Reference16Ideal Cert.Reference16Ideal.Gen

variable (C S : FVec Ideal S4096x32 .f32) (U : FVec Ideal S4352x4x64 .f32)

/-- The terms of the reference: what a row's halves become, and the rows put back together. -/
def lo : FVec Ideal S4096x4x32 .f32 := extractStridedSlice S4096x4x32 ![0, 0, 0] (extractStridedSlice S4096x4x64 ![256, 0, 0] U slices_S4352x4x64_S4096x4x64_256_0_0) slices_S4096x4x64_S4096x4x32_0_0_0
@[inherit_doc lo] def hi : FVec Ideal S4096x4x32 .f32 := extractStridedSlice S4096x4x32 ![0, 0, 32] (extractStridedSlice S4096x4x64 ![256, 0, 0] U slices_S4352x4x64_S4096x4x64_256_0_0) slices_S4096x4x64_S4096x4x32_0_0_32
@[inherit_doc lo] def all (A : FVec Ideal S4096x32 .f32) : FVec Ideal S4096x4x32 .f32 := broadcastInDim S4096x4x32 ![0, 1, 2] bcast_S4096x1x32_S4096x4x32_0_1_2 (broadcastInDim S4096x1x32 ![0, 2] bcast_S4096x32_S4096x1x32_0_2 A)
@[inherit_doc lo] def back : FVec Ideal S4352x4x64 .f32 := addf (pad S4352x4x64 ![256, 0, 0] ![0, 0, 0] ![0, 0, 0] (addf (pad S4096x4x64 ![0, 0, 32] ![0, 0, 0] ![0, 0, 0] (addf (mulf (hi U) (all C)) (mulf (Host.negf (lo U)) (all S))) (constant S_ .f32 0x00000000#32) pads_S4096x4x32_S4096x4x64_000_000_3200 h_S_) (pad S4096x4x64 ![0, 0, 0] ![0, 0, 32] ![0, 0, 0] (addf (mulf (hi U) (all S)) (mulf (lo U) (all C))) (constant S_ .f32 0x00000000#32) pads_S4096x4x32_S4096x4x64_000_000_0320 h_S_)) (constant S_ .f32 0x00000000#32) pads_S4096x4x64_S4352x4x64_25600_000_000 h_S_) (pad S4352x4x64 ![0, 0, 0] ![4096, 0, 0] ![0, 0, 0] (extractStridedSlice S256x4x64 ![0, 0, 0] U slices_S4352x4x64_S256x4x64_0_0_0) (constant S_ .f32 0x00000000#32) pads_S256x4x64_S4352x4x64_040960_000_000 h_S_)

/-- One row's lanes. -/
def lane (i : Fin 4352) (j : Fin 256) : EReal := U (ix3 i ⟨j.val / 64, by omega⟩ ⟨j.val % 64, by omega⟩)

theorem back_at' (i : Fin 4352) (h : Fin 4) (l : Fin 64) : back C S U (ix3 i h l)
    = if g : i.val < 256 then U (ix3 i h l) else if q : l.val < 32 then
        U (ix3 i h l) * C (ix2 ⟨i.val - 256, by omega⟩ ⟨l.val, q⟩) + U (ix3 i h ⟨32 + l.val, by omega⟩) * S (ix2 ⟨i.val - 256, by omega⟩ ⟨l.val, q⟩)
      else U (ix3 i h l) * C (ix2 ⟨i.val - 256, by omega⟩ ⟨l.val - 32, by omega⟩) + U (ix3 i h ⟨l.val - 32, by omega⟩) * -S (ix2 ⟨i.val - 256, by omega⟩ ⟨l.val - 32, by omega⟩) := by
  unfold back all lo hi
  pointwise
  have hi := i.isLt
  have hl := l.isLt
  split_ifs with a b c d e
  all_goals first | (exfalso; omega) | skip
  all_goals simp only [zero_add, add_zero]
  · have e : (⟨256 + (i.val - 256), by omega⟩ : Fin 4352) = i := Fin.ext (by dsimp only; omega)
    have e' : (⟨32 + (l.val - 32), by omega⟩ : Fin 64) = l := Fin.ext (by dsimp only; omega)
    simp only [e, e', neg_mul, mul_neg]
  · have e : (⟨256 + (i.val - 256), by omega⟩ : Fin 4352) = i := Fin.ext (by dsimp only; omega)
    simp only [e]
    exact add_comm _ _

theorem back_at (i : Fin 4352) (j : Fin 256) : back C S U (ix3 i ⟨j.val / 64, by omega⟩ ⟨j.val % 64, by omega⟩) = bwd C S (lane U i) i j := by
  rw [back_at']
  unfold bwd cosT sinT lane angle
  have hj := j.isLt
  have hp := pair_val j
  by_cases h : i.val < 256
  · simp only [h, dite_true]
    simp
  by_cases l : j.val % 64 < 32
  · rw [if_pos l] at hp
    rw [dif_neg h, dif_neg h, dif_neg h, dif_pos l, if_neg (by omega)]
    refine congrArg₂ (· + ·) (congrArg₂ (· * ·) rfl (congrArg C ?_)) (congrArg₂ (· * ·) (congrArg U ?_) (congrArg S ?_))
    all_goals first | refine congrArg₂ ix2 rfl (Fin.ext ?_) | refine congrArg₂ (ix3 i) (Fin.ext ?_) (Fin.ext ?_)
    all_goals (try simp only [hp]) <;> omega
  · rw [if_neg l] at hp
    rw [dif_neg h, dif_neg h, dif_neg h, dif_neg l, if_pos (by omega)]
    refine congrArg₂ (· + ·) (congrArg₂ (· * ·) rfl (congrArg C ?_)) (congrArg₂ (· * ·) (congrArg U ?_) (congrArg (fun y => -S y) ?_))
    all_goals first | refine congrArg₂ ix2 rfl (Fin.ext ?_) | refine congrArg₂ (ix3 i) (Fin.ext ?_) (Fin.ext ?_)
    all_goals (try simp only [hp]) <;> omega

/-- The results. -/
def rows (A B : FVec Ideal S4352x256 .f32) : FVec Ideal S4352x4x64 .f32 := back C S (shapeCast S4352x4x64 (addf A B) shapeCasts_S4352x256_S4352x4x64)
@[inherit_doc rows] def q (A B : FVec Ideal S4352x256 .f32) : FVec Ideal S4352x256 .f32 := shapeCast S4352x256 (mulf (rows C S A B) (broadcastInDim S4352x4x64 ![] bcast_S_S4352x4x64 (constant S_ .f32 0x3E000000#32))) shapeCasts_S4352x4x64_S4352x256
@[inherit_doc rows] def k (A B : FVec Ideal S4352x256 .f32) : FVec Ideal S4352x256 .f32 := shapeCast S4352x256 (rows C S A B) shapeCasts_S4352x4x64_S4352x256

theorem rows_at (A B : FVec Ideal S4352x256 .f32) (i : Fin 4352) (j : Fin 256) :
    rows C S A B (ix3 i ⟨j.val / 64, by omega⟩ ⟨j.val % 64, by omega⟩) = bwd C S (fun j => A (ix2 i j) + B (ix2 i j)) i j := by
  unfold rows
  refine (back_at C S _ i j).trans ?_
  refine congrArg (fun x => bwd C S x i j) (funext fun j => ?_)
  unfold lane
  pointwise

theorem q_at (A B : FVec Ideal S4352x256 .f32) (i : Fin 4352) (j : Fin 256) :
    q C S A B (ix2 i j) = bwd C S (fun j => A (ix2 i j) + B (ix2 i j)) i j * Ideal.ofBits .f32 0x3E000000#32 := by
  refine Eq.trans ?_ (congrArg (fun x => x * Ideal.ofBits .f32 0x3E000000#32) (rows_at C S A B i j))
  unfold q
  pointwise

theorem k_at (A B : FVec Ideal S4352x256 .f32) (i : Fin 4352) (j : Fin 256) :
    k C S A B (ix2 i j) = bwd C S (fun j => A (ix2 i j) + B (ix2 i j)) i j := by
  refine Eq.trans ?_ (rows_at C S A B i j)
  unfold k
  pointwise

end Cert.RopeBwd.Ref

namespace Cert.RopeBwd

/-- Kernel and reference leave the same two arrays. -/
theorem algebraic : Cert.algebraic_Kernel16Ideal_Reference16Ideal := by
  intro m g m' g' _ hag
  refine ⟨fun c => gQ m c, fun c => gK m c, ?_, ?_⟩
  · refine (θ_run Cert.Kernel16Ideal.defs _ _).mono (fun r h c => ?_) (Cert.Kernel16Ideal.Value.run_blocks m g)
    obtain ⟨hq, hk, ha⟩ := h c
    exact ⟨hq.trans (final6 m c), hk.trans (final7 m c), ha⟩
  · refine (θ_run Cert.Reference16Ideal.defs _ _).mono (fun r h c => ?_) (Cert.Reference16Ideal.Value.run m' g')
    obtain ⟨hq, hk, ha⟩ := h c
    obtain ⟨e0, e1, e2, e3, e4, e5⟩ := hag c
    refine ⟨hq.trans ?_, hk.trans ?_, ha⟩
    · rw [e0, e1, e4, e5]
      funext y
      obtain ⟨i, j, rfl⟩ : ∃ (i : Fin 4352) (j : Fin 256), y = ix2 i j := ⟨y 0, y 1, by idx_vars y⟩
      exact Ref.q_at (aC m c) (aS m c) (aQf m c) (aQb m c) i j
    · rw [e2, e3, e4, e5]
      funext y
      obtain ⟨i, j, rfl⟩ : ∃ (i : Fin 4352) (j : Fin 256), y = ix2 i j := ⟨y 0, y 1, by idx_vars y⟩
      exact Ref.k_at (aC m c) (aS m c) (aKf m c) (aKb m c) i j

theorem frame_kernel : Cert.quiescent_Kernel16 := fun m ρ _ => Cert.Kernel16.Gen.frame m ρ
theorem frame_ideal : Cert.quiescent_Kernel16Ideal := fun m ρ _ => Cert.Kernel16Ideal.Gen.frame m ρ
theorem frame_reference : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

end Cert.RopeBwd
end
-- ==== Proof.RopeFwd.lean ====
module

public import proofs.«01_k».proof.Proof.Gen.Kernel17Ideal.Value
public import proofs.«01_k».proof.Proof.Gen.Kernel17.Frame
public import proofs.«01_k».proof.Proof.Gen.Reference17Ideal.Run
public import proofs.«01_k».proof.Proof.Rope
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `rope_fwd`: the queries and keys turned by their rows' angles, the queries scaled. -/

@[expose] public section

set_option maxRecDepth 16384

noncomputable section

open Idealize.ShloMosaic Idealize.ShloMosaic.TcCoe Idealize.SL.Sem
open Idealize.ShloMosaic.Pipeline (Dat)

namespace Cert.RopeFwd

open Rope
open Cert.Kernel17Ideal Cert.Kernel17Ideal.Gen

/-- Where every window's block lies. -/
theorem idx : ∀ t : Fin cfg0.N, win0_0.index t = ![t.val, 4] ∧ win0_1.index t = ![t.val, 5] ∧ win0_2.index t = ![t.val, 0]
    ∧ win0_3.index t = ![t.val, 0] ∧ win0_4.index t = ![t.val, 0] ∧ win0_5.index t = ![t.val, 0] :=
  (by decide +kernel : ∀ t : Fin grid0.N, _)

theorem pay1_at (x : Vec Ideal S256x256 .f32) (y) : k0_pay1 x y = x y := by
  unfold k0_pay1
  exact congrFun (shapeCast_self x _) y

theorem pay2_at (x : Vec Ideal S256x256 .f32) (y) : k0_pay2 x y = x y := by
  unfold k0_pay2
  exact congrFun (shapeCast_self x _) y

/-- What a block becomes. -/
theorem q_out (x0 x1 x2 x3 : Vec Ideal S256x256 .f32) (r j : Fin 256) : out0_4 x0 x1 x2 x3 (ix2 r j)
    = (x0 (ix2 r j) * x2 (ix2 r j) + x0 (ix2 r (pair j)) * x3 (ix2 r j)) * Ideal.ofBits .f32 0x3E000000#32 := by
  frame_out
  unfold k0_pay3
  pointwise
  simp only [pay1_at, pay2_at]
  erw [choose (fun j => x0 (ix2 r j))]

@[inherit_doc q_out] theorem k_out (x0 x1 x2 x3 : Vec Ideal S256x256 .f32) (r j : Fin 256) : out0_5 x0 x1 x2 x3 (ix2 r j)
    = x1 (ix2 r j) * x2 (ix2 r j) + x1 (ix2 r (pair j)) * x3 (ix2 r j) := by
  frame_out
  unfold k0_pay4
  pointwise
  simp only [pay1_at, pay2_at]
  erw [choose (fun j => x1 (ix2 r j))]

section
variable (m : (ℓ : Loc nD τ sig) → Buf (Elt Ideal) ℓ) (c : Dev nD)

/-- The kernel's arrays. -/
abbrev aP : S4352x3584.Idx → EReal := m ((c.tc : Thread nD τ).loc main_arg0)
@[inherit_doc aP] abbrev aC : S4096x32.Idx → EReal := m ((c.tc : Thread nD τ).loc main_arg1)
@[inherit_doc aP] abbrev aS : S4096x32.Idx → EReal := m ((c.tc : Thread nD τ).loc main_arg2)

set_option maxHeartbeats 1600000 in
/-- The tables that the host lines prepare. -/
theorem cos_at (i : Fin 4352) (j : Fin 256) : V m c main_v10 (ix2 i j) = cosT (aC m c) i j := by
  entry_read
  pointwise
  unfold cosT angle
  split_ifs
  all_goals first
    | rfl
    | exact congrArg (m ((c.tc : Thread nD τ).loc main_arg1)) (congrArg (ix2 _) (Fin.ext (by dsimp only; omega)))

set_option maxHeartbeats 1600000 in
@[inherit_doc cos_at] theorem sin_at (i : Fin 4352) (j : Fin 256) : V m c main_v12 (ix2 i j) = sinT (aS m c) i j := by
  entry_read
  pointwise
  unfold sinT angle
  split_ifs
  all_goals first | rfl | after_results_simp
  all_goals first
    | exact congrArg (m ((c.tc : Thread nD τ).loc main_arg2)) (congrArg (ix2 _) (Fin.ext (by dsimp only; omega)))
    | exact congrArg (fun y => -aS m c y) (congrArg (ix2 _) (Fin.ext (by dsimp only; omega)))

variable (t : Fin cfg0.N) (r : Fin 256) (j : Fin 256)

/-- A block's row among all. -/
def row : Fin 4352 := ⟨256 * t.val + r.val, by have hN : t.val < 17 := Nat.lt_of_lt_of_eq t.isLt N_0; omega⟩

theorem blk0 : (iblk m c 0 t : Vec Ideal S256x256 .f32) (ix2 r j) = aP m c (ix2 (row t r) ⟨1024 + j.val, by omega⟩) := by
  unfold row
  blk_ext [iblk, V, idx t]

theorem blk1 : (iblk m c 1 t : Vec Ideal S256x256 .f32) (ix2 r j) = aP m c (ix2 (row t r) ⟨1280 + j.val, by omega⟩) := by
  unfold row
  blk_ext [iblk, V, idx t]

theorem blk2 : (iblk m c 2 t : Vec Ideal S256x256 .f32) (ix2 r j) = cosT (aC m c) (row t r) j := by
  refine Eq.trans ?_ (cos_at m c (row t r) j)
  unfold row
  blk_simp [iblk, idx t]
  generalize V m c main_v10 = X
  blk_ext [idx t]

theorem blk3 : (iblk m c 3 t : Vec Ideal S256x256 .f32) (ix2 r j) = sinT (aS m c) (row t r) j := by
  refine Eq.trans ?_ (sin_at m c (row t r) j)
  unfold row
  blk_simp [iblk, idx t]
  generalize V m c main_v12 = X
  blk_ext [idx t]

/-- What the kernel leaves. -/
def gQ : S4352x256.Idx → EReal := fun y => fwd (aC m c) (aS m c) (fun j => aP m c (ix2 (y 0) (⟨1024 + j.val, by omega⟩ : Fin 3584))) (y 0) (y 1) * Ideal.ofBits .f32 0x3E000000#32
@[inherit_doc gQ] def gK : S4352x256.Idx → EReal := fun y => fwd (aC m c) (aS m c) (fun j => aP m c (ix2 (y 0) (⟨1280 + j.val, by omega⟩ : Fin 3584))) (y 0) (y 1)

theorem q_blk : out0_4 (iblk m c 0 t) (iblk m c 1 t) (iblk m c 2 t) (iblk m c 3 t) (ix2 r j) = gQ m c (ix2 (row t r) j) := by
  rw [q_out, blk0, blk0, blk2, blk3]
  rfl

theorem k_blk : out0_5 (iblk m c 0 t) (iblk m c 1 t) (iblk m c 2 t) (iblk m c 3 t) (ix2 r j) = gK m c (ix2 (row t r) j) := by
  rw [k_out, blk1, blk1, blk2, blk3]
  rfl

theorem final4 : (dats m 0 c).arrAt 4 cfg0.N = gQ m c := by
  refine (dats m 0 c).arrAt_eq_of_covers 4 _ (by decide +kernel) fun t hf y => ?_
  blk_simp
  rw [after0_4]
  obtain ⟨r, j, rfl⟩ : ∃ (i : Fin 256) (j : Fin 256), y = ix2 i j := ⟨y 0, y 1, by idx_vars y⟩
  refine (q_blk m c t r j).trans (Eq.trans (b := gQ m c (ix2 (row t r) j)) rfl (Eq.symm ?_))
  unfold row
  blk_ext [idx t]

theorem final5 : (dats m 0 c).arrAt 5 cfg0.N = gK m c := by
  refine (dats m 0 c).arrAt_eq_of_covers 5 _ (by decide +kernel) fun t hf y => ?_
  blk_simp
  rw [after0_5]
  obtain ⟨r, j, rfl⟩ : ∃ (i : Fin 256) (j : Fin 256), y = ix2 i j := ⟨y 0, y 1, by idx_vars y⟩
  refine (k_blk m c t r j).trans (Eq.trans (b := gK m c (ix2 (row t r) j)) rfl (Eq.symm ?_))
  unfold row
  blk_ext [idx t]

end

end Cert.RopeFwd

namespace Cert.RopeFwd.Ref

open Rope
open Cert.Reference17Ideal Cert.Reference17Ideal.Gen

variable (C S : FVec Ideal S4096x32 .f32) (U : FVec Ideal S4352x4x64 .f32)

/-- The terms of the reference: what a row's halves become, and the rows put back together. -/
def lo : FVec Ideal S4096x4x32 .f32 := extractStridedSlice S4096x4x32 ![0, 0, 0] (extractStridedSlice S4096x4x64 ![256, 0, 0] U slices_S4352x4x64_S4096x4x64_256_0_0) slices_S4096x4x64_S4096x4x32_0_0_0
@[inherit_doc lo] def hi : FVec Ideal S4096x4x32 .f32 := extractStridedSlice S4096x4x32 ![0, 0, 32] (extractStridedSlice S4096x4x64 ![256, 0, 0] U slices_S4352x4x64_S4096x4x64_256_0_0) slices_S4096x4x64_S4096x4x32_0_0_32
@[inherit_doc lo] def all (A : FVec Ideal S4096x32 .f32) : FVec Ideal S4096x4x32 .f32 := broadcastInDim S4096x4x32 ![0, 1, 2] bcast_S4096x1x32_S4096x4x32_0_1_2 (broadcastInDim S4096x1x32 ![0, 2] bcast_S4096x32_S4096x1x32_0_2 A)
@[inherit_doc lo] def turned : FVec Ideal S4352x4x64 .f32 := concatenate S4352x4x64 0 [⟨S256x4x64, (extractStridedSlice S256x4x64 ![0, 0, 0] U slices_S4352x4x64_S256x4x64_0_0_0)⟩, ⟨S4096x4x64, (concatenate S4096x4x64 2 [⟨S4096x4x32, (subf (mulf (lo U) (all C)) (mulf (hi U) (all S)))⟩, ⟨S4096x4x32, (addf (mulf (hi U) (all C)) (mulf (lo U) (all S)))⟩] concatenates_S4096x4x32_S4096x4x32_S4096x4x64_d2)⟩] concatenates_S256x4x64_S4096x4x64_S4352x4x64_d0

/-- One row's lanes. -/
def lane (i : Fin 4352) (j : Fin 256) : EReal := U (ix3 i ⟨j.val / 64, by omega⟩ ⟨j.val % 64, by omega⟩)

theorem turned_at' (i : Fin 4352) (h : Fin 4) (l : Fin 64) : turned C S U (ix3 i h l)
    = if g : i.val < 256 then U (ix3 i h l) else if q : l.val < 32 then
        U (ix3 i h l) * C (ix2 ⟨i.val - 256, by omega⟩ ⟨l.val, q⟩) + U (ix3 i h ⟨32 + l.val, by omega⟩) * -S (ix2 ⟨i.val - 256, by omega⟩ ⟨l.val, q⟩)
      else U (ix3 i h l) * C (ix2 ⟨i.val - 256, by omega⟩ ⟨l.val - 32, by omega⟩) + U (ix3 i h ⟨l.val - 32, by omega⟩) * S (ix2 ⟨i.val - 256, by omega⟩ ⟨l.val - 32, by omega⟩) := by
  unfold turned all lo hi
  pointwise
  have hi := i.isLt
  have hl := l.isLt
  split_ifs
  all_goals first | rfl | have e : (⟨256 + (i.val - 256), by omega⟩ : Fin 4352) = i := Fin.ext (by dsimp only; omega)
  all_goals first
    | have e' : (⟨32 + (l.val - 32), by omega⟩ : Fin 64) = l := Fin.ext (by dsimp only; omega)
      simp only [e, e']
      done
    | simp only [e, sub_eq_add_neg, mul_neg]

theorem turned_at (i : Fin 4352) (j : Fin 256) : turned C S U (ix3 i ⟨j.val / 64, by omega⟩ ⟨j.val % 64, by omega⟩) = fwd C S (lane U i) i j := by
  rw [turned_at']
  unfold fwd cosT sinT lane angle
  have hj := j.isLt
  have hp := pair_val j
  by_cases h : i.val < 256
  · simp only [h, dite_true]
    simp
  by_cases l : j.val % 64 < 32
  · rw [if_pos l] at hp
    rw [dif_neg h, dif_neg h, dif_neg h, dif_pos l, if_pos l]
    refine congrArg₂ (· + ·) (congrArg₂ (· * ·) rfl (congrArg C ?_)) (congrArg₂ (· * ·) (congrArg U ?_) (congrArg (fun y => -S y) ?_))
    all_goals first | refine congrArg₂ ix2 rfl (Fin.ext ?_) | refine congrArg₂ (ix3 i) (Fin.ext ?_) (Fin.ext ?_)
    all_goals (try simp only [hp]) <;> omega
  · rw [if_neg l] at hp
    rw [dif_neg h, dif_neg h, dif_neg h, dif_neg l, if_neg l]
    refine congrArg₂ (· + ·) (congrArg₂ (· * ·) rfl (congrArg C ?_)) (congrArg₂ (· * ·) (congrArg U ?_) (congrArg S ?_))
    all_goals first | refine congrArg₂ ix2 rfl (Fin.ext ?_) | refine congrArg₂ (ix3 i) (Fin.ext ?_) (Fin.ext ?_)
    all_goals (try simp only [hp]) <;> omega

/-- The results. -/
def q (A : FVec Ideal S4352x3584 .f32) : FVec Ideal S4352x256 .f32 := shapeCast S4352x256 (turned C S (mulf (shapeCast S4352x4x64 (extractStridedSlice S4352x256 ![0, 1024] A slices_S4352x3584_S4352x256_0_1024) shapeCasts_S4352x256_S4352x4x64) (broadcastInDim S4352x4x64 ![] bcast_S_S4352x4x64 (constant S_ .f32 0x3E000000#32)))) shapeCasts_S4352x4x64_S4352x256
@[inherit_doc q] def k (A : FVec Ideal S4352x3584 .f32) : FVec Ideal S4352x256 .f32 := shapeCast S4352x256 (turned C S (shapeCast S4352x4x64 (extractStridedSlice S4352x256 ![0, 1280] A slices_S4352x3584_S4352x256_0_1280) shapeCasts_S4352x256_S4352x4x64)) shapeCasts_S4352x4x64_S4352x256

theorem q_at (A : FVec Ideal S4352x3584 .f32) (i : Fin 4352) (j : Fin 256) :
    q C S A (ix2 i j) = fwd C S (fun j => A (ix2 i (⟨1024 + j.val, by omega⟩ : Fin 3584))) i j * Ideal.ofBits .f32 0x3E000000#32 := by
  refine Eq.trans ?_ (fwd_scaled C S (fun j => A (ix2 i (⟨1024 + j.val, by omega⟩ : Fin 3584))) i j)
  unfold q
  pointwise
  refine (turned_at C S _ i j).trans ?_
  refine congrArg (fun x => fwd C S x i j) (funext fun j => ?_)
  unfold lane
  pointwise

theorem k_at (A : FVec Ideal S4352x3584 .f32) (i : Fin 4352) (j : Fin 256) :
    k C S A (ix2 i j) = fwd C S (fun j => A (ix2 i (⟨1280 + j.val, by omega⟩ : Fin 3584))) i j := by
  unfold k
  pointwise
  refine (turned_at C S _ i j).trans ?_
  refine congrArg (fun x => fwd C S x i j) (funext fun j => ?_)
  unfold lane
  pointwise

end Cert.RopeFwd.Ref

namespace Cert.RopeFwd

/-- Kernel and reference leave the same two arrays. -/
theorem algebraic : Cert.algebraic_Kernel17Ideal_Reference17Ideal := by
  intro m g m' g' _ hag
  refine ⟨fun c => gQ m c, fun c => gK m c, ?_, ?_⟩
  · refine (θ_run Cert.Kernel17Ideal.defs _ _).mono (fun r h c => ?_) (Cert.Kernel17Ideal.Value.run_blocks m g)
    obtain ⟨hq, hk, ha⟩ := h c
    exact ⟨hq.trans (final4 m c), hk.trans (final5 m c), ha⟩
  · refine (θ_run Cert.Reference17Ideal.defs _ _).mono (fun r h c => ?_) (Cert.Reference17Ideal.Value.run m' g')
    obtain ⟨hq, hk, ha⟩ := h c
    obtain ⟨e0, e1, e2⟩ := hag c
    refine ⟨hq.trans ?_, hk.trans ?_, ha⟩
    · rw [e0, e1, e2]
      funext y
      obtain ⟨i, j, rfl⟩ : ∃ (i : Fin 4352) (j : Fin 256), y = ix2 i j := ⟨y 0, y 1, by idx_vars y⟩
      exact Ref.q_at (aC m c) (aS m c) (aP m c) i j
    · rw [e0, e1, e2]
      funext y
      obtain ⟨i, j, rfl⟩ : ∃ (i : Fin 4352) (j : Fin 256), y = ix2 i j := ⟨y 0, y 1, by idx_vars y⟩
      exact Ref.k_at (aC m c) (aS m c) (aP m c) i j

theorem frame_kernel : Cert.quiescent_Kernel17 := fun m ρ _ => Cert.Kernel17.Gen.frame m ρ
theorem frame_ideal : Cert.quiescent_Kernel17Ideal := fun m ρ _ => Cert.Kernel17Ideal.Gen.frame m ρ
theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

end Cert.RopeFwd
end
-- ==== Proof.ConvFwd.lean ====
module

public import proofs.«01_k».proof.Proof.Gen.Kernel18Ideal.Value
public import proofs.«01_k».proof.Proof.Gen.Kernel18.Frame
public import proofs.«01_k».proof.Proof.Gen.Reference18Ideal.Run
public import proofs.«01_k».proof.Proof.ConvGrad
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `conv_fwd`: the centred convolution along the tokens, by blocks of 256 tokens. -/

@[expose] public section

set_option maxRecDepth 16384

noncomputable section

open Idealize.ShloMosaic Idealize.ShloMosaic.TcCoe Idealize.SL.Sem
open Idealize.ShloMosaic.Pipeline (Dat)

namespace Cert.ConvFwd

/-- The convolution: the bias and the weights' five products with the shifted rows. -/
def out (A : (⟨2, ![4352, 1024]⟩ : Shape).Idx → EReal) (W : (⟨2, ![8, 1024]⟩ : Shape).Idx → EReal) (B : (⟨2, ![1, 1024]⟩ : Shape).Idx → EReal)
    (i : Fin 4352) (j : Fin 1024) : EReal :=
  B (ix2 0 j) + W (ix2 0 j) * ConvGrad.sh A i 0 j + W (ix2 1 j) * ConvGrad.sh A i 1 j + W (ix2 2 j) * ConvGrad.sh A i 2 j
    + W (ix2 3 j) * ConvGrad.sh A i 3 j + W (ix2 4 j) * ConvGrad.sh A i 4 j

open Cert.Kernel18Ideal Cert.Kernel18Ideal.Gen

/-- Where every window's block lies. -/
theorem idx : ∀ t : Fin cfg0.N, win0_0.index t = ![t.val - 1, 0] ∧ win0_1.index t = ![t.val, 0] ∧ win0_2.index t = ![min (t.val + 1) 16, 0]
    ∧ win0_3.index t = ![0, 0] ∧ win0_4.index t = ![0, 0] ∧ win0_5.index t = ![t.val, 0] :=
  (by decide +kernel : ∀ t : Fin grid0.N, _)

/-- Whether the point has a block before it, and one after it, in its segment. -/
def f4 (t : ℕ) : EReal := if 2 ≤ t then 1 else 0
@[inherit_doc f4] def f9 (t : ℕ) : EReal := if 1 ≤ t ∧ t < 16 then 1 else 0

theorem bit4 : ∀ t : Fin cfg0.N, (Scalar.extui (Scalar.andi (Scalar.cmpi .ne (BitVec.ofNat 32 (grid0.coords t 0).val) 0#32)
    (Scalar.cmpi .ne (BitVec.ofNat 32 (grid0.coords t 0).val) 1#32)) : BitVec 32).toInt = if 2 ≤ t.val then 1 else 0 :=
  (by decide +kernel : ∀ t : Fin grid0.N, _)

theorem bit9 : ∀ t : Fin cfg0.N, (Scalar.extui (Scalar.andi (Scalar.cmpi .ne (BitVec.ofNat 32 (grid0.coords t 0).val) 0#32)
    (Scalar.cmpi .ne (BitVec.ofNat 32 (grid0.coords t 0).val) 16#32)) : BitVec 32).toInt = if 1 ≤ t.val ∧ t.val < 16 then 1 else 0 :=
  (by decide +kernel : ∀ t : Fin grid0.N, _)

theorem flag4 (t : Fin cfg0.N) : k0_pay2 (F := Ideal) (grid0.coords t) = f4 t.val := by
  unfold k0_pay2 f4
  pointwise
  rw [bit4]
  split <;> simp

theorem flag9 (t : Fin cfg0.N) : k0_pay3 (F := Ideal) (grid0.coords t) = f9 t.val := by
  unfold k0_pay3 f9
  pointwise
  rw [bit9]
  split <;> simp

/-- The comparisons of a row with the block's ends. -/
theorem cmp : ∀ r : Fin 256, IntOp.cmpi .sge (BitVec.ofNat 32 r.val) 254#32 = (if 254 ≤ r.val then 1#1 else 0#1)
    ∧ IntOp.cmpi .sge (BitVec.ofNat 32 r.val) 255#32 = (if 255 ≤ r.val then 1#1 else 0#1)
    ∧ IntOp.cmpi .slt (BitVec.ofNat 32 r.val) 1#32 = (if r.val < 1 then 1#1 else 0#1)
    ∧ IntOp.cmpi .slt (BitVec.ofNat 32 r.val) 2#32 = (if r.val < 2 then 1#1 else 0#1) := by decide +kernel

theorem sel (p : Prop) [Decidable p] (x y : EReal) : Scalar.select (if p then 1#1 else 0#1) x y = if p then x else y := by
  split <;> rfl

section
variable (m : (ℓ : Loc nD τ sig) → Buf (Elt Ideal) ℓ) (c : Dev nD)

/-- The kernel's arrays; of the projections its own columns. -/
def aP : S4352x1024.Idx → EReal := fun y => (m ((c.tc : Thread nD τ).loc main_arg0) : S4352x3584.Idx → EReal) (ix2 (y 0) ⟨(y 1).val, (y 1).isLt.trans (by decide)⟩)
@[inherit_doc aP] abbrev aW : S8x1024.Idx → EReal := m ((c.tc : Thread nD τ).loc main_arg1)
@[inherit_doc aP] abbrev aB : S1x1024.Idx → EReal := m ((c.tc : Thread nD τ).loc main_arg2)

variable (t : Fin cfg0.N)
theorem lt17 : t.val < 17 := Nat.lt_of_lt_of_eq t.isLt N_0

theorem prev_at (r : Fin 256) (j : Fin 1024) : X0_0 m c t (ix2 r j) = aP m c (ix2 (ConvGrad.row (t.val - 1) (by have := lt17 t; omega) r) j) := by
  have hN := lt17 t
  unfold X0_0 Pipeline.Window.fill
  rw [dif_pos (moved0_0 t _)]
  unfold aP ConvGrad.row
  blk_ext [iblk, V, idx t]

theorem cur_at (r : Fin 256) (j : Fin 1024) : X0_1 m c t (ix2 r j) = aP m c (ix2 (ConvGrad.row t.val (lt17 t) r) j) := by
  have hN := lt17 t
  unfold X0_1 Pipeline.Window.fill
  rw [dif_pos (moved0_1 t _)]
  unfold aP ConvGrad.row
  blk_ext [iblk, V, idx t]

theorem next_at (r : Fin 256) (j : Fin 1024) : X0_2 m c t (ix2 r j) = aP m c (ix2 (ConvGrad.row (min (t.val + 1) 16) (by omega) r) j) := by
  have hN := lt17 t
  unfold X0_2 Pipeline.Window.fill
  rw [dif_pos (moved0_2 t _)]
  unfold aP ConvGrad.row
  blk_ext [iblk, V, idx t]

theorem blk3 (k : Fin 8) (j : Fin 1024) : (iblk m c 3 t : Vec Ideal S8x1024 .f32) (ix2 k j) = aW m c (ix2 k j) := by
  blk_ext [iblk, V, idx t]

theorem blk4 (k : Fin 1) (j : Fin 1024) : (iblk m c 4 t : Vec Ideal S1x1024 .f32) (ix2 k j) = aB m c (ix2 k j) := by
  blk_ext [iblk, V, idx t]

theorem out_blk (r : Fin 256) (j : Fin 1024) : outsAt0 m c t (ix2 r j) = out (aP m c) (aW m c) (aB m c) (ConvGrad.row t.val (lt17 t) r) j := by
  have hN := lt17 t
  unfold outsAt0
  frame_out
  have ha := prev_at m c t
  have hb := cur_at m c t
  have hn := next_at m c t
  have hW := fun k => blk3 m c t k j
  have hB := fun k => blk4 m c t k j
  generalize X0_0 m c t = a at ha ⊢
  generalize X0_1 m c t = b at hb ⊢
  generalize X0_2 m c t = n at hn ⊢
  generalize iblk m c 3 t = w at hW ⊢
  generalize iblk m c 4 t = v at hB ⊢
  unfold k0_pay1 k0_pay4 k0_pay5 out
  simp only [flag4, flag9]
  pointwise
  simp only [cmp r, sel, f4, f9, hW, hB]
  rw [ConvGrad.before (aP m c) t.val hN a b r j 1 (by omega) _ ha hb, ConvGrad.before (aP m c) t.val hN a b r j 2 (by omega) _ ha hb,
    ConvGrad.behind (aP m c) t.val hN b n r j 254 (by omega) _ hn hb, ConvGrad.behind (aP m c) t.val hN b n r j 255 (by omega) _ hn hb, hb, ConvGrad.sh_mid]

/-- What the kernel leaves. -/
def gU : S4352x1024.Idx → EReal := fun y => out (aP m c) (aW m c) (aB m c) (y 0) (y 1)

theorem final5 : (dats m 0 c).arrAt 5 cfg0.N = gU m c := by
  refine (dats m 0 c).arrAt_eq_of_covers 5 _ (by decide +kernel) fun t hf y => ?_
  blk_simp
  rw [after0_5]
  obtain ⟨r, j, rfl⟩ : ∃ (i : Fin 256) (j : Fin 1024), y = ix2 i j := ⟨y 0, y 1, by idx_vars y⟩
  refine (out_blk m c t r j).trans (Eq.trans (b := gU m c (ix2 (ConvGrad.row t.val (lt17 t) r) j)) rfl (Eq.symm ?_))
  unfold ConvGrad.row
  blk_ext [idx t]
end

end Cert.ConvFwd

namespace Cert.ConvFwd.Ref

open Cert.Reference18Ideal Cert.Reference18Ideal.Gen Cert.Reference18Ideal.Value

section
variable (m : (ℓ : Loc nD τ sig) → Buf (Elt Ideal) ℓ) (c : Dev nD)

/-- The reference's arrays; of the projections its own columns. -/
abbrev rP : S4352x3584.Idx → EReal := m ((c.tc : Thread nD τ).loc main_arg0)
@[inherit_doc rP] abbrev rW : S8x1024.Idx → EReal := m ((c.tc : Thread nD τ).loc main_arg1)
@[inherit_doc rP] abbrev rB : S1x1024.Idx → EReal := m ((c.tc : Thread nD τ).loc main_arg2)

/-- The projections' own columns. -/
def rC : S4352x1024.Idx → EReal := fun y => rP m c (ix2 (y 0) ⟨(y 1).val, (y 1).isLt.trans (by decide)⟩)

/-- An entry of a padded segment. -/
theorem sh_of (i : Fin 4352) (d : ℕ) (j : Fin 1024) (e : EReal)
    (hin : ∀ h : 2 ≤ i.val + d ∧ i.val + d < 4354 ∧ (i.val < 256 ↔ i.val + d < 258), e = rP m c (ix2 ⟨i.val + d - 2, by omega⟩ ⟨j.val, j.isLt.trans (by decide)⟩))
    (hout : ¬(2 ≤ i.val + d ∧ i.val + d < 4354 ∧ (i.val < 256 ↔ i.val + d < 258)) → e = 0) : e = ConvGrad.sh (rC m c) i d j := by
  by_cases h : 2 ≤ i.val + d ∧ i.val + d < 4354 ∧ (i.val < 256 ↔ i.val + d < 258)
  · rw [ConvGrad.sh_in _ _ _ _ h]
    exact hin h
  · rw [ConvGrad.sh_out _ _ _ _ h]
    exact hout h

theorem sum5 (b w0 w1 w2 w3 w4 : EReal) {x0 x1 x2 x3 x4 y0 y1 y2 y3 y4 : EReal} (h0 : x0 = y0) (h1 : x1 = y1) (h2 : x2 = y2) (h3 : x3 = y3) (h4 : x4 = y4) :
    w0 * x0 + w1 * x1 + w2 * x2 + w3 * x3 + w4 * x4 + b = b + w0 * y0 + w1 * y1 + w2 * y2 + w3 * y3 + w4 * y4 := by
  subst h0 h1 h2 h3 h4
  abel

set_option maxHeartbeats 1600000 in
theorem res_at (i : Fin 4352) (j : Fin 1024) : (res_main_v64 m c : S4352x1024.Idx → EReal) (ix2 i j) = out (rC m c) (rW m c) (rB m c) i j := by
  have hi := i.isLt
  unfold res_main_v64 out
  pointwise
  by_cases hc : i.val < 256
  · rw [dif_pos hc]
    refine sum5 _ _ _ _ _ _ ?_ ?_ ?_ ?_ ?_
    all_goals refine sh_of m c i _ j _ (fun h => ?_) (fun h => ?_)
    all_goals try split_ifs
    all_goals first
      | omega
      | rfl
      | exact congrArg (fun x => rP m c (ix2 x ⟨j.val, j.isLt.trans (by decide)⟩)) (Fin.ext (by dsimp only; omega))
  · rw [dif_neg hc]
    refine sum5 _ _ _ _ _ _ ?_ ?_ ?_ ?_ ?_
    all_goals refine sh_of m c i _ j _ (fun h => ?_) (fun h => ?_)
    all_goals try split_ifs
    all_goals first
      | omega
      | rfl
      | exact congrArg (fun x => rP m c (ix2 x ⟨j.val, j.isLt.trans (by decide)⟩)) (Fin.ext (by dsimp only; omega))
end
end Cert.ConvFwd.Ref

namespace Cert.ConvFwd

/-- Kernel and reference leave the same array. -/
theorem algebraic : Cert.algebraic_Kernel18Ideal_Reference18Ideal := by
  intro m g m' g' _ hag
  refine ⟨fun c => gU m c, ?_, ?_⟩
  · refine (θ_run Cert.Kernel18Ideal.defs _ _).mono (fun r h c => ?_) (Cert.Kernel18Ideal.Value.run_blocks m g)
    obtain ⟨hu, ha⟩ := h c
    exact ⟨hu.trans (final5 m c), ha⟩
  · refine (θ_run Cert.Reference18Ideal.defs _ _).mono (fun r h c => ?_) (Cert.Reference18Ideal.Value.run m' g')
    obtain ⟨hu, ha⟩ := h c
    obtain ⟨e0, e1, e2⟩ := hag c
    have eP : Ref.rC m' c = aP m c := by
      unfold aP
      rw [← e0]
      rfl
    have eW : Ref.rW m' c = aW m c := e1
    have eB : Ref.rB m' c = aB m c := e2
    refine ⟨hu.trans ?_, ha⟩
    funext y
    obtain ⟨i, j, rfl⟩ : ∃ (i : Fin 4352) (j : Fin 1024), y = ix2 i j := ⟨y 0, y 1, by idx_vars y⟩
    refine (Ref.res_at m' c i j).trans ?_
    rw [eP, eW, eB]
    rfl

theorem frame_kernel : Cert.quiescent_Kernel18 := fun m ρ _ => Cert.Kernel18.Gen.frame m ρ
theorem frame_ideal : Cert.quiescent_Kernel18Ideal := fun m ρ _ => Cert.Kernel18Ideal.Gen.frame m ρ
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

end Cert.ConvFwd
end
-- ==== Proof.Assemble.lean ====
module

public import proofs.«01_k».proof.Proof.Gen.Kernel19Ideal.Value
public import proofs.«01_k».proof.Proof.Gen.Kernel19.Frame
public import proofs.«01_k».proof.Proof.Gen.Reference19Ideal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `dp_assemble`: the gradients of the projections' parts, those of two directions added, side by side. -/

@[expose] public section

set_option maxRecDepth 16384

noncomputable section

open Idealize.ShloMosaic Idealize.ShloMosaic.TcCoe Idealize.SL.Sem
open Idealize.ShloMosaic.Pipeline (Dat)

namespace Cert.Assemble

open Cert.Kernel19Ideal Cert.Kernel19Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

section
variable (m : (ℓ : Loc nD τ sig) → Buf (Elt Ideal) ℓ) (c : Dev nD) (t : Fin cfg0.N) (r : Fin 256)

/-- A block's row among all. -/
def row : Fin 4352 := ⟨256 * t.val + r.val, by have hN : t.val < 17 := Nat.lt_of_lt_of_eq t.isLt N_0; omega⟩

/-- The kernel's arrays. -/
abbrev a0 : S4352x1024.Idx → EReal := m ((c.tc : Thread nD τ).loc main_arg0)
@[inherit_doc a0] abbrev a1 : S4352x256.Idx → EReal := m ((c.tc : Thread nD τ).loc main_arg1)
@[inherit_doc a0] abbrev a2 : S4352x256.Idx → EReal := m ((c.tc : Thread nD τ).loc main_arg2)
@[inherit_doc a0] abbrev a3 : S4352x256.Idx → EReal := m ((c.tc : Thread nD τ).loc main_arg3)
@[inherit_doc a0] abbrev a4 : S4352x256.Idx → EReal := m ((c.tc : Thread nD τ).loc main_arg4)
@[inherit_doc a0] abbrev a5 : S4352x256.Idx → EReal := m ((c.tc : Thread nD τ).loc main_arg5)
@[inherit_doc a0] abbrev a6 : S4352x512.Idx → EReal := m ((c.tc : Thread nD τ).loc main_arg6)
@[inherit_doc a0] abbrev a7 : S4352x256.Idx → EReal := m ((c.tc : Thread nD τ).loc main_arg7)
@[inherit_doc a0] abbrev a8 : S4352x256.Idx → EReal := m ((c.tc : Thread nD τ).loc main_arg8)
@[inherit_doc a0] abbrev a9 : S4352x256.Idx → EReal := m ((c.tc : Thread nD τ).loc main_arg9)
@[inherit_doc a0] abbrev a10 : S4352x128.Idx → EReal := m ((c.tc : Thread nD τ).loc main_arg10)
@[inherit_doc a0] abbrev a11 : S4352x128.Idx → EReal := m ((c.tc : Thread nD τ).loc main_arg11)
@[inherit_doc a0] abbrev a12 : S4352x128.Idx → EReal := m ((c.tc : Thread nD τ).loc main_arg12)
@[inherit_doc a0] abbrev a13 : S4352x128.Idx → EReal := m ((c.tc : Thread nD τ).loc main_arg13)
@[inherit_doc a0] abbrev a14 : S4352x128.Idx → EReal := m ((c.tc : Thread nD τ).loc main_arg14)

theorem blk0 (j : Fin 1024) : (iblk m c 0 t : Vec Ideal S256x1024 .f32) (ix2 r j) = a0 m c (ix2 (row t r) j) := by
  unfold row
  blk_ext [iblk, V, idx t]

theorem blk1 (j : Fin 256) : (iblk m c 1 t : Vec Ideal S256x256 .f32) (ix2 r j) = a1 m c (ix2 (row t r) j) := by
  unfold row
  blk_ext [iblk, V, idx t]

theorem blk2 (j : Fin 256) : (iblk m c 2 t : Vec Ideal S256x256 .f32) (ix2 r j) = a2 m c (ix2 (row t r) j) := by
  unfold row
  blk_ext [iblk, V, idx t]

theorem blk3 (j : Fin 256) : (iblk m c 3 t : Vec Ideal S256x256 .f32) (ix2 r j) = a3 m c (ix2 (row t r) j) := by
  unfold row
  blk_ext [iblk, V, idx t]

theorem blk4 (j : Fin 256) : (iblk m c 4 t : Vec Ideal S256x256 .f32) (ix2 r j) = a4 m c (ix2 (row t r) j) := by
  unfold row
  blk_ext [iblk, V, idx t]

theorem blk5 (j : Fin 256) : (iblk m c 5 t : Vec Ideal S256x256 .f32) (ix2 r j) = a5 m c (ix2 (row t r) j) := by
  unfold row
  blk_ext [iblk, V, idx t]

theorem blk6 (j : Fin 512) : (iblk m c 6 t : Vec Ideal S256x512 .f32) (ix2 r j) = a6 m c (ix2 (row t r) j) := by
  unfold row
  blk_ext [iblk, V, idx t]

theorem blk7 (j : Fin 256) : (iblk m c 7 t : Vec Ideal S256x256 .f32) (ix2 r j) = a7 m c (ix2 (row t r) j) := by
  unfold row
  blk_ext [iblk, V, idx t]

theorem blk8 (j : Fin 256) : (iblk m c 8 t : Vec Ideal S256x256 .f32) (ix2 r j) = a8 m c (ix2 (row t r) j) := by
  unfold row
  blk_ext [iblk, V, idx t]

theorem blk9 (j : Fin 256) : (iblk m c 9 t : Vec Ideal S256x256 .f32) (ix2 r j) = a9 m c (ix2 (row t r) j) := by
  unfold row
  blk_ext [iblk, V, idx t]

theorem blk10 (j : Fin 128) : (iblk m c 10 t : Vec Ideal S256x128 .f32) (ix2 r j) = a10 m c (ix2 (row t r) j) := by
  unfold row
  blk_ext [iblk, V, idx t]

theorem blk11 (j : Fin 128) : (iblk m c 11 t : Vec Ideal S256x128 .f32) (ix2 r j) = a11 m c (ix2 (row t r) j) := by
  unfold row
  blk_ext [iblk, V, idx t]

theorem blk12 (j : Fin 128) : (iblk m c 12 t : Vec Ideal S256x128 .f32) (ix2 r j) = a12 m c (ix2 (row t r) j) := by
  unfold row
  blk_ext [iblk, V, idx t]

theorem blk13 (j : Fin 128) : (iblk m c 13 t : Vec Ideal S256x128 .f32) (ix2 r j) = a13 m c (ix2 (row t r) j) := by
  unfold row
  blk_ext [iblk, V, idx t]

theorem blk14 (j : Fin 128) : (iblk m c 14 t : Vec Ideal S256x128 .f32) (ix2 r j) = a14 m c (ix2 (row t r) j) := by
  unfold row
  blk_ext [iblk, V, idx t]

/-- One row of all parts side by side. -/
def line (i : Fin 4352) (j : Fin 3584) : EReal :=
  if h : j.val < 1024 then a0 m c (ix2 i ⟨j.val, by omega⟩) else
  if h : j.val - 1024 < 256 then a1 m c (ix2 i ⟨j.val - 1024, by omega⟩) else
  if h : j.val - 1024 - 256 < 256 then a2 m c (ix2 i ⟨j.val - 1024 - 256, by omega⟩) else
  if h : j.val - 1024 - 256 - 256 < 256 then a3 m c (ix2 i ⟨j.val - 1024 - 256 - 256, by omega⟩) + a4 m c (ix2 i ⟨j.val - 1024 - 256 - 256, by omega⟩) else
  if h : j.val - 1024 - 256 - 256 - 256 < 256 then a5 m c (ix2 i ⟨j.val - 1024 - 256 - 256 - 256, by omega⟩) else
  if h : j.val - 1024 - 256 - 256 - 256 - 256 < 512 then a6 m c (ix2 i ⟨j.val - 1024 - 256 - 256 - 256 - 256, by omega⟩) else
  if h : j.val - 1024 - 256 - 256 - 256 - 256 - 512 < 256 then a7 m c (ix2 i ⟨j.val - 1024 - 256 - 256 - 256 - 256 - 512, by omega⟩) + a8 m c (ix2 i ⟨j.val - 1024 - 256 - 256 - 256 - 256 - 512, by omega⟩) else
  if h : j.val - 1024 - 256 - 256 - 256 - 256 - 512 - 256 < 256 then a9 m c (ix2 i ⟨j.val - 1024 - 256 - 256 - 256 - 256 - 512 - 256, by omega⟩) else
  if h : j.val - 1024 - 256 - 256 - 256 - 256 - 512 - 256 - 256 < 128 then a10 m c (ix2 i ⟨j.val - 1024 - 256 - 256 - 256 - 256 - 512 - 256 - 256, by omega⟩) else
  if h : j.val - 1024 - 256 - 256 - 256 - 256 - 512 - 256 - 256 - 128 < 128 then a11 m c (ix2 i ⟨j.val - 1024 - 256 - 256 - 256 - 256 - 512 - 256 - 256 - 128, by omega⟩) + a12 m c (ix2 i ⟨j.val - 1024 - 256 - 256 - 256 - 256 - 512 - 256 - 256 - 128, by omega⟩) else
  if h : j.val - 1024 - 256 - 256 - 256 - 256 - 512 - 256 - 256 - 128 - 128 < 128 then a13 m c (ix2 i ⟨j.val - 1024 - 256 - 256 - 256 - 256 - 512 - 256 - 256 - 128 - 128, by omega⟩) else
  a14 m c (ix2 i ⟨j.val - 1024 - 256 - 256 - 256 - 256 - 512 - 256 - 256 - 128 - 128 - 128, by omega⟩)

theorem line0 (i : Fin 4352) (j : Fin 3584) (b : Fin 1024) (h : j.val = b.val) : line m c i j = a0 m c (ix2 i b) := by
  unfold line
  rw [dif_pos (by first | omega | (dsimp only; omega))]
  exact congrArg (fun b => a0 m c (ix2 i b)) (Fin.ext (by first | omega | (dsimp only; omega)))

theorem line1 (i : Fin 4352) (j : Fin 3584) (b : Fin 256) (h : j.val = 1024 + b.val) : line m c i j = a1 m c (ix2 i b) := by
  unfold line
  rw [dif_neg (by first | omega | (dsimp only; omega)), dif_pos (by first | omega | (dsimp only; omega))]
  exact congrArg (fun b => a1 m c (ix2 i b)) (Fin.ext (by first | omega | (dsimp only; omega)))

theorem line2 (i : Fin 4352) (j : Fin 3584) (b : Fin 256) (h : j.val = 1280 + b.val) : line m c i j = a2 m c (ix2 i b) := by
  unfold line
  rw [dif_neg (by first | omega | (dsimp only; omega)), dif_neg (by first | omega | (dsimp only; omega)), dif_pos (by first | omega | (dsimp only; omega))]
  exact congrArg (fun b => a2 m c (ix2 i b)) (Fin.ext (by first | omega | (dsimp only; omega)))

theorem line3 (i : Fin 4352) (j : Fin 3584) (b : Fin 256) (h : j.val = 1536 + b.val) : line m c i j = a3 m c (ix2 i b) + a4 m c (ix2 i b) := by
  unfold line
  rw [dif_neg (by first | omega | (dsimp only; omega)), dif_neg (by first | omega | (dsimp only; omega)), dif_neg (by first | omega | (dsimp only; omega)), dif_pos (by first | omega | (dsimp only; omega))]
  exact congrArg₂ (· + ·) (congrArg (fun b => a3 m c (ix2 i b)) (Fin.ext (by first | omega | (dsimp only; omega)))) (congrArg (fun b => a4 m c (ix2 i b)) (Fin.ext (by first | omega | (dsimp only; omega))))

theorem line4 (i : Fin 4352) (j : Fin 3584) (b : Fin 256) (h : j.val = 1792 + b.val) : line m c i j = a5 m c (ix2 i b) := by
  unfold line
  rw [dif_neg (by first | omega | (dsimp only; omega)), dif_neg (by first | omega | (dsimp only; omega)), dif_neg (by first | omega | (dsimp only; omega)), dif_neg (by first | omega | (dsimp only; omega)), dif_pos (by first | omega | (dsimp only; omega))]
  exact congrArg (fun b => a5 m c (ix2 i b)) (Fin.ext (by first | omega | (dsimp only; omega)))

theorem line5 (i : Fin 4352) (j : Fin 3584) (b : Fin 512) (h : j.val = 2048 + b.val) : line m c i j = a6 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg (fun b => a6 m c (ix2 i b)) (Fin.ext (by first | omega | (dsimp only; omega)))

theorem line6 (i : Fin 4352) (j : Fin 3584) (b : Fin 256) (h : j.val = 2560 + b.val) : line m c i j = a7 m c (ix2 i b) + a8 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg₂ (· + ·) (congrArg (fun b => a7 m c (ix2 i b)) (Fin.ext (by first | omega | (dsimp only; omega)))) (congrArg (fun b => a8 m c (ix2 i b)) (Fin.ext (by first | omega | (dsimp only; omega))))

theorem line7 (i : Fin 4352) (j : Fin 3584) (b : Fin 256) (h : j.val = 2816 + b.val) : line m c i j = a9 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg (fun b => a9 m c (ix2 i b)) (Fin.ext (by first | omega | (dsimp only; omega)))

theorem line8 (i : Fin 4352) (j : Fin 3584) (b : Fin 128) (h : j.val = 3072 + b.val) : line m c i j = a10 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg (fun b => a10 m c (ix2 i b)) (Fin.ext (by first | omega | (dsimp only; omega)))

theorem line9 (i : Fin 4352) (j : Fin 3584) (b : Fin 128) (h : j.val = 3200 + b.val) : line m c i j = a11 m c (ix2 i b) + a12 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg₂ (· + ·) (congrArg (fun b => a11 m c (ix2 i b)) (Fin.ext (by first | omega | (dsimp only; omega)))) (congrArg (fun b => a12 m c (ix2 i b)) (Fin.ext (by first | omega | (dsimp only; omega))))

theorem line10 (i : Fin 4352) (j : Fin 3584) (b : Fin 128) (h : j.val = 3328 + b.val) : line m c i j = a13 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_pos (by first | omega | (dsimp only; omega))]
  exact congrArg (fun b => a13 m c (ix2 i b)) (Fin.ext (by first | omega | (dsimp only; omega)))

theorem line11 (i : Fin 4352) (j : Fin 3584) (b : Fin 128) (h : j.val = 3456 + b.val) : line m c i j = a14 m c (ix2 i b) := by
  unfold line
  rw [dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega))]
  exact congrArg (fun b => a14 m c (ix2 i b)) (Fin.ext (by first | omega | (dsimp only; omega)))

/-- What the kernel leaves. -/
def gP : S4352x3584.Idx → EReal := fun y => line m c (y 0) (y 1)

theorem out_blk (j : Fin 3584) : outsAt0 m c t (ix2 r j) = gP m c (ix2 (row t r) j) := by
  unfold outsAt0
  frame_out
  canon_tiles x hx using View.cover_of_tiledBy _ ![256, 128] (by sl_kernel_rfl) _
  · obtain ⟨a, b, rfl⟩ : ∃ (a : Fin 256) (b : Fin 128), x = ix2 a b := ⟨x 0, x 1, by idx_vars x⟩
    obtain rfl : r = a := Fin.ext hx0
    refine Eq.trans ?_ (line11 m c (row t r) j b (by first | exact hx1 | exact hx1.trans (Nat.zero_add _))).symm
    rw [← blk14]
    unfold k0_pay2
    pointwise
  · obtain ⟨a, b, rfl⟩ : ∃ (a : Fin 256) (b : Fin 128), x = ix2 a b := ⟨x 0, x 1, by idx_vars x⟩
    obtain rfl : r = a := Fin.ext hx0
    refine Eq.trans ?_ (line10 m c (row t r) j b (by first | exact hx1 | exact hx1.trans (Nat.zero_add _))).symm
    rw [← blk13]
    unfold k0_pay1
    pointwise
  · obtain ⟨a, b, rfl⟩ : ∃ (a : Fin 256) (b : Fin 128), x = ix2 a b := ⟨x 0, x 1, by idx_vars x⟩
    obtain rfl : r = a := Fin.ext hx0
    refine Eq.trans ?_ (line9 m c (row t r) j b (by first | exact hx1 | exact hx1.trans (Nat.zero_add _))).symm
    rw [← blk11, ← blk12]
    unfold k0_pay12
    pointwise
  · obtain ⟨a, b, rfl⟩ : ∃ (a : Fin 256) (b : Fin 128), x = ix2 a b := ⟨x 0, x 1, by idx_vars x⟩
    obtain rfl : r = a := Fin.ext hx0
    refine Eq.trans ?_ (line8 m c (row t r) j b (by first | exact hx1 | exact hx1.trans (Nat.zero_add _))).symm
    rw [← blk10]
    unfold k0_pay11
    pointwise
  · obtain ⟨a, b, rfl⟩ : ∃ (a : Fin 256) (b : Fin 256), x = ix2 a b := ⟨x 0, x 1, by idx_vars x⟩
    obtain rfl : r = a := Fin.ext hx0
    refine Eq.trans ?_ (line7 m c (row t r) j b (by first | exact hx1 | exact hx1.trans (Nat.zero_add _))).symm
    rw [← blk9]
    unfold k0_pay10
    pointwise
  · obtain ⟨a, b, rfl⟩ : ∃ (a : Fin 256) (b : Fin 256), x = ix2 a b := ⟨x 0, x 1, by idx_vars x⟩
    obtain rfl : r = a := Fin.ext hx0
    refine Eq.trans ?_ (line6 m c (row t r) j b (by first | exact hx1 | exact hx1.trans (Nat.zero_add _))).symm
    rw [← blk7, ← blk8]
    unfold k0_pay9
    pointwise
  · obtain ⟨a, b, rfl⟩ : ∃ (a : Fin 256) (b : Fin 512), x = ix2 a b := ⟨x 0, x 1, by idx_vars x⟩
    obtain rfl : r = a := Fin.ext hx0
    refine Eq.trans ?_ (line5 m c (row t r) j b (by first | exact hx1 | exact hx1.trans (Nat.zero_add _))).symm
    rw [← blk6]
    unfold k0_pay8
    pointwise
  · obtain ⟨a, b, rfl⟩ : ∃ (a : Fin 256) (b : Fin 256), x = ix2 a b := ⟨x 0, x 1, by idx_vars x⟩
    obtain rfl : r = a := Fin.ext hx0
    refine Eq.trans ?_ (line4 m c (row t r) j b (by first | exact hx1 | exact hx1.trans (Nat.zero_add _))).symm
    rw [← blk5]
    unfold k0_pay7
    pointwise
  · obtain ⟨a, b, rfl⟩ : ∃ (a : Fin 256) (b : Fin 256), x = ix2 a b := ⟨x 0, x 1, by idx_vars x⟩
    obtain rfl : r = a := Fin.ext hx0
    refine Eq.trans ?_ (line3 m c (row t r) j b (by first | exact hx1 | exact hx1.trans (Nat.zero_add _))).symm
    rw [← blk3, ← blk4]
    unfold k0_pay6
    pointwise
  · obtain ⟨a, b, rfl⟩ : ∃ (a : Fin 256) (b : Fin 256), x = ix2 a b := ⟨x 0, x 1, by idx_vars x⟩
    obtain rfl : r = a := Fin.ext hx0
    refine Eq.trans ?_ (line2 m c (row t r) j b (by first | exact hx1 | exact hx1.trans (Nat.zero_add _))).symm
    rw [← blk2]
    unfold k0_pay5
    pointwise
  · obtain ⟨a, b, rfl⟩ : ∃ (a : Fin 256) (b : Fin 256), x = ix2 a b := ⟨x 0, x 1, by idx_vars x⟩
    obtain rfl : r = a := Fin.ext hx0
    refine Eq.trans ?_ (line1 m c (row t r) j b (by first | exact hx1 | exact hx1.trans (Nat.zero_add _))).symm
    rw [← blk1]
    unfold k0_pay4
    pointwise
  · obtain ⟨a, b, rfl⟩ : ∃ (a : Fin 256) (b : Fin 1024), x = ix2 a b := ⟨x 0, x 1, by idx_vars x⟩
    obtain rfl : r = a := Fin.ext hx0
    refine Eq.trans ?_ (line0 m c (row t r) j b (by first | exact hx1 | exact hx1.trans (Nat.zero_add _))).symm
    rw [← blk0]
    unfold k0_pay3
    pointwise

theorem final15 : (dats m 0 c).arrAt 15 cfg0.N = gP m c := by
  refine (dats m 0 c).arrAt_eq_of_covers 15 _ (by decide +kernel) fun t hf y => ?_
  blk_simp
  rw [after0_15]
  obtain ⟨r, j, rfl⟩ : ∃ (i : Fin 256) (j : Fin 3584), y = ix2 i j := ⟨y 0, y 1, by idx_vars y⟩
  refine (out_blk m c t r j).trans (Eq.symm ?_)
  unfold row
  blk_ext [idx t]
end

set_option maxHeartbeats 4000000 in
/-- Kernel and reference leave the same array. -/
theorem algebraic : Cert.algebraic_Kernel19Ideal_Reference19Ideal := by
  intro m g m' g' _ hag
  refine ⟨fun c => gP m c, ?_, ?_⟩
  · refine (θ_run Cert.Kernel19Ideal.defs _ _).mono (fun r h c => ?_) (Cert.Kernel19Ideal.Value.run_blocks m g)
    obtain ⟨hp, ha⟩ := h c
    exact ⟨hp.trans (final15 m c), ha⟩
  · refine (θ_run Cert.Reference19Ideal.defs _ _).mono (fun r h c => ?_) (Cert.Reference19Ideal.Value.run m' g')
    obtain ⟨hp, ha⟩ := h c
    obtain ⟨e0, e1, e2, e3, e4, e5, e6, e7, e8, e9, e10, e11, e12, e13, e14⟩ := hag c
    refine ⟨hp.trans ?_, ha⟩
    rw [e0, e1, e2, e3, e4, e5, e6, e7, e8, e9, e10, e11, e12, e13, e14]
    funext y
    obtain ⟨i, j, rfl⟩ : ∃ (i : Fin 4352) (j : Fin 3584), y = ix2 i j := ⟨y 0, y 1, by idx_vars y⟩
    change _ = line m c i j
    pointwise
    rfl

theorem frame_kernel : Cert.quiescent_Kernel19 := fun m ρ _ => Cert.Kernel19.Gen.frame m ρ
theorem frame_ideal : Cert.quiescent_Kernel19Ideal := fun m ρ _ => Cert.Kernel19Ideal.Gen.frame m ρ
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

end Cert.Assemble
end
-- ==== Proof.Adam.lean ====
module

public import Idealize.ShloMosaic.Lib.Pointwise
public import Idealize.ShloMosaic.Lib.Pipeline.ValueKit

/-! The optimiser's step, number by number, for arrays of any shape: what every `adamw` call computes. -/

@[expose] public section

noncomputable section

open Idealize.ShloMosaic Idealize.ShloMosaic.TcCoe

namespace Cert.Adam

variable {s : Shape} (w g m v : Vec Ideal s .f32)

/-- The first moment after a step. -/
def newM : Vec Ideal s .f32 := fun y => Ideal.ofBits .f32 0x3F666666#32 * m y + Ideal.ofBits .f32 0x3DCCCCCD#32 * g y

/-- The second moment after a step. -/
def newV : Vec Ideal s .f32 := fun y =>
  Ideal.ofBits .f32 0x3F7FBE77#32 * v y + Ideal.ofBits .f32 0x3A83126F#32 * (g y * g y)

/-- The weight's change, from both new moments. -/
def change (m' v' : Vec Ideal s .f32) : Vec Ideal s .f32 := fun y => Ideal.ofBits .f32 0xBA83126F#32 *
  (Ideal.div (Ideal.div (m' y) (Ideal.ofBits .f32 0x3F26BD02#32))
    (Ideal.sqrt (Ideal.div (v' y) (Ideal.ofBits .f32 0x3C231ACC#32)) + Ideal.ofBits .f32 0x322BCC77#32)
  + Ideal.ofBits .f32 0x3C23D70A#32 * w y)

/-- The weight's change in a step. -/
def newW : Vec Ideal s .f32 := change w (newM g m) (newV g v)

/-- The vector unit's own forms of the three. -/
theorem vecM : (addf (mulf (broadcast s (Scalar.ofBits .f32 0x3F666666#32)) m)
    (mulf (broadcast s (Scalar.ofBits .f32 0x3DCCCCCD#32)) g) : FVec Ideal s .f32) = newM g m := rfl

@[inherit_doc vecM] theorem vecV : (addf (mulf (broadcast s (Scalar.ofBits .f32 0x3F7FBE77#32)) v)
    (mulf (broadcast s (Scalar.ofBits .f32 0x3A83126F#32)) (mulf g g)) : FVec Ideal s .f32) = newV g v := rfl

@[inherit_doc vecM] theorem vecW (m' v' : Vec Ideal s .f32) :
    (mulf (broadcast s (Scalar.ofBits .f32 0xBA83126F#32))
      (addf (divf (divf m' (broadcast s (Scalar.ofBits .f32 0x3F26BD02#32)))
          (addf (sqrt (divf v' (broadcast s (Scalar.ofBits .f32 0x3C231ACC#32)))) (broadcast s (Scalar.ofBits .f32 0x322BCC77#32))))
        (mulf (broadcast s (Scalar.ofBits .f32 0x3C23D70A#32)) w)) : FVec Ideal s .f32) = change w m' v' := rfl

/-- The step of a block is the block of the step: one number's step looks at that number alone. -/
theorem newM_at {b : Shape} {g m : Vec Ideal s .f32} {g' m' : Vec Ideal b .f32} {y : b.Idx} {z : s.Idx}
    (hg : g' y = g z) (hm : m' y = m z) : newM g' m' y = newM g m z := by
  unfold newM
  rw [hg, hm]

@[inherit_doc newM_at] theorem newV_at {b : Shape} {g v : Vec Ideal s .f32} {g' v' : Vec Ideal b .f32} {y : b.Idx}
    {z : s.Idx} (hg : g' y = g z) (hv : v' y = v z) : newV g' v' y = newV g v z := by
  unfold newV
  rw [hg, hv]

@[inherit_doc newM_at] theorem newW_at {b : Shape} {w g m v : Vec Ideal s .f32} {w' g' m' v' : Vec Ideal b .f32}
    {y : b.Idx} {z : s.Idx} (hw : w' y = w z) (hg : g' y = g z) (hm : m' y = m z) (hv : v' y = v z) :
    newW w' g' m' v' y = newW w g m v z := by
  unfold newW change
  rw [newM_at hg hm, newV_at hg hv, hw]

end Cert.Adam
end
-- ==== Proof.InStep.lean ====
module

public import proofs.«01_k».proof.Proof.Gen.Kernel20Ideal.Value
public import proofs.«01_k».proof.Proof.Gen.Kernel20.Frame
public import proofs.«01_k».proof.Proof.Gen.Reference20Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_w_in`: the optimiser's step, number by number. -/

@[expose] public section

set_option maxRecDepth 16384

noncomputable section

open Idealize.ShloMosaic Idealize.ShloMosaic.TcCoe Idealize.SL.Sem
open Idealize.ShloMosaic.Pipeline (Dat)

namespace Cert.InStep

open Cert.Kernel20Ideal Cert.Kernel20Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 512) (j : Fin 844)

/-- A block's row among all. -/
def row : Fin 4096 := ⟨512 * t.val + r.val, by have hN : t.val < 8 := Nat.lt_of_lt_of_eq t.isLt N_0; omega⟩

/-- The kernel's arrays: weights, gradients, both moments. -/
abbrev aW : S4x1024x844.Idx → EReal := m ((c.tc : Thread nD τ).loc main_arg0)
@[inherit_doc aW] abbrev aG : S4x1024x844.Idx → EReal := m ((c.tc : Thread nD τ).loc main_arg1)
@[inherit_doc aW] abbrev aM : S4x1024x844.Idx → EReal := m ((c.tc : Thread nD τ).loc main_arg2)
@[inherit_doc aW] abbrev aV : S4x1024x844.Idx → EReal := m ((c.tc : Thread nD τ).loc main_arg3)

/-- The same, rows of all layers on top of each other. -/
def flat (x : S4x1024x844.Idx → EReal) : S4096x844.Idx → EReal := shapeCast S4096x844 x shapeCasts_S4x1024x844_S4096x844

theorem entry_0 : V m c main_v0 = flat (aW m c) := by
  entry_read
  rfl
theorem entry_1 : V m c main_v1 = flat (aG m c) := by
  entry_read
  rfl
theorem entry_2 : V m c main_v2 = flat (aM m c) := by
  entry_read
  rfl
theorem entry_3 : V m c main_v3 = flat (aV m c) := by
  entry_read
  rfl

/-- What the windows read, number by number. -/
theorem blks : ((iblk m c 0 t : Vec Ideal S512x844 .f32) (ix2 r j) = flat (aW m c) (ix2 (row t r) j)
      ∧ (iblk m c 1 t : Vec Ideal S512x844 .f32) (ix2 r j) = flat (aG m c) (ix2 (row t r) j))
    ∧ (iblk m c 2 t : Vec Ideal S512x844 .f32) (ix2 r j) = flat (aM m c) (ix2 (row t r) j)
      ∧ (iblk m c 3 t : Vec Ideal S512x844 .f32) (ix2 r j) = flat (aV m c) (ix2 (row t r) j) := by
  rw [← entry_0, ← entry_1, ← entry_2, ← entry_3]
  unfold row
  refine ⟨⟨?_, ?_⟩, ?_, ?_⟩ <;> blk_simp [iblk, idx t] <;> generalize V m c _ = X <;> blk_ext [idx t]

end

section
variable (x0 x1 x2 x3 : Vec Ideal S512x844 .f32)

/-- What a block becomes. -/
theorem m_out : out0_5 x0 x1 x2 x3 = Adam.newM x1 x2 := by
  frame_out
  simp only [k0_pay2, k0_pay1, shapeCast_self, Adam.vecM]

@[inherit_doc m_out] theorem v_out : out0_6 x0 x1 x2 x3 = Adam.newV x1 x3 := by
  frame_out
  simp only [k0_pay3, k0_pay1, shapeCast_self, Adam.vecV]

@[inherit_doc m_out] theorem w_out : out0_4 x0 x1 x2 x3 = Adam.newW x0 x1 x2 x3 := by
  frame_out
  simp only [k0_pay4, k0_pay3, k0_pay2, k0_pay1, shapeCast_self, Adam.vecM, Adam.vecV, Adam.vecW, Adam.newW]

end

section
variable (m : (ℓ : Loc nD τ sig) → Buf (Elt Ideal) ℓ) (c : Dev nD)

/-- What the kernel leaves. -/
def gW : Vec Ideal S4096x844 .f32 := Adam.newW (flat (aW m c)) (flat (aG m c)) (flat (aM m c)) (flat (aV m c))
@[inherit_doc gW] def gM : Vec Ideal S4096x844 .f32 := Adam.newM (flat (aG m c)) (flat (aM m c))
@[inherit_doc gW] def gV : Vec Ideal S4096x844 .f32 := Adam.newV (flat (aG m c)) (flat (aV m c))

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 512) (j : Fin 844), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel20Ideal_Reference20Ideal := by
  intro m g m' g' _ hag
  refine ⟨fun c => gW m c, fun c => gM m c, fun c => gV m c, ?_, ?_⟩
  · refine (θ_run Cert.Kernel20Ideal.defs _ _).mono (fun r h c => ?_) (Cert.Kernel20Ideal.Value.run_blocks m g)
    obtain ⟨h4, h5, h6, ha⟩ := h c
    obtain ⟨f4, f5, f6⟩ := finals m c
    exact ⟨h4.trans f4, h5.trans f5, h6.trans f6, ha⟩
  · refine (θ_run Cert.Reference20Ideal.defs _ _).mono (fun r h c => ?_) (Cert.Reference20Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel20 := fun m ρ _ => Cert.Kernel20.Gen.frame m ρ
theorem frame_ideal : Cert.quiescent_Kernel20Ideal := fun m ρ _ => Cert.Kernel20Ideal.Gen.frame m ρ
theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

end Cert.InStep
end
-- ==== Proof.OutStep.lean ====
module

public import proofs.«01_k».proof.Proof.Gen.Kernel21Ideal.Value
public import proofs.«01_k».proof.Proof.Gen.Kernel21.Frame
public import proofs.«01_k».proof.Proof.Gen.Reference21Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_w_out`: the optimiser's step, number by number. -/

@[expose] public section

set_option maxRecDepth 16384

noncomputable section

open Idealize.ShloMosaic Idealize.ShloMosaic.TcCoe Idealize.SL.Sem
open Idealize.ShloMosaic.Pipeline (Dat)

namespace Cert.OutStep

open Cert.Kernel21Ideal Cert.Kernel21Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 512) (j : Fin 1024)

/-- A block's row among all. -/
def row : Fin 1024 := ⟨512 * t.val + r.val, by have hN : t.val < 2 := Nat.lt_of_lt_of_eq t.isLt N_0; omega⟩

/-- The kernel's arrays: weights, gradients, both moments. -/
abbrev aW : S4x256x1024.Idx → EReal := m ((c.tc : Thread nD τ).loc main_arg0)
@[inherit_doc aW] abbrev aG : S4x256x1024.Idx → EReal := m ((c.tc : Thread nD τ).loc main_arg1)
@[inherit_doc aW] abbrev aM : S4x256x1024.Idx → EReal := m ((c.tc : Thread nD τ).loc main_arg2)
@[inherit_doc aW] abbrev aV : S4x256x1024.Idx → EReal := m ((c.tc : Thread nD τ).loc main_arg3)

/-- The same, rows of all layers on top of each other. -/
def flat (x : S4x256x1024.Idx → EReal) : S1024x1024.Idx → EReal := shapeCast S1024x1024 x shapeCasts_S4x256x1024_S1024x1024

theorem entry_0 : V m c main_v0 = flat (aW m c) := by
  entry_read
  rfl
theorem entry_1 : V m c main_v1 = flat (aG m c) := by
  entry_read
  rfl
theorem entry_2 : V m c main_v2 = flat (aM m c) := by
  entry_read
  rfl
theorem entry_3 : V m c main_v3 = flat (aV m c) := by
  entry_read
  rfl

/-- What the windows read, number by number. -/
theorem blks : ((iblk m c 0 t : Vec Ideal S512x1024 .f32) (ix2 r j) = flat (aW m c) (ix2 (row t r) j)
      ∧ (iblk m c 1 t : Vec Ideal S512x1024 .f32) (ix2 r j) = flat (aG m c) (ix2 (row t r) j))
    ∧ (iblk m c 2 t : Vec Ideal S512x1024 .f32) (ix2 r j) = flat (aM m c) (ix2 (row t r) j)
      ∧ (iblk m c 3 t : Vec Ideal S512x1024 .f32) (ix2 r j) = flat (aV m c) (ix2 (row t r) j) := by
  rw [← entry_0, ← entry_1, ← entry_2, ← entry_3]
  unfold row
  refine ⟨⟨?_, ?_⟩, ?_, ?_⟩ <;> blk_simp [iblk, idx t] <;> generalize V m c _ = X <;> blk_ext [idx t]

end

section
variable (x0 x1 x2 x3 : Vec Ideal S512x1024 .f32)

/-- What a block becomes. -/
theorem m_out : out0_5 x0 x1 x2 x3 = Adam.newM x1 x2 := by
  frame_out
  simp only [k0_pay2, k0_pay1, shapeCast_self, Adam.vecM]

@[inherit_doc m_out] theorem v_out : out0_6 x0 x1 x2 x3 = Adam.newV x1 x3 := by
  frame_out
  simp only [k0_pay3, k0_pay1, shapeCast_self, Adam.vecV]

@[inherit_doc m_out] theorem w_out : out0_4 x0 x1 x2 x3 = Adam.newW x0 x1 x2 x3 := by
  frame_out
  simp only [k0_pay4, k0_pay3, k0_pay2, k0_pay1, shapeCast_self, Adam.vecM, Adam.vecV, Adam.vecW, Adam.newW]

end

section
variable (m : (ℓ : Loc nD τ sig) → Buf (Elt Ideal) ℓ) (c : Dev nD)

/-- What the kernel leaves. -/
def gW : Vec Ideal S1024x1024 .f32 := Adam.newW (flat (aW m c)) (flat (aG m c)) (flat (aM m c)) (flat (aV m c))
@[inherit_doc gW] def gM : Vec Ideal S1024x1024 .f32 := Adam.newM (flat (aG m c)) (flat (aM m c))
@[inherit_doc gW] def gV : Vec Ideal S1024x1024 .f32 := Adam.newV (flat (aG m c)) (flat (aV m c))

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 512) (j : Fin 1024), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel21Ideal_Reference21Ideal := by
  intro m g m' g' _ hag
  refine ⟨fun c => gW m c, fun c => gM m c, fun c => gV m c, ?_, ?_⟩
  · refine (θ_run Cert.Kernel21Ideal.defs _ _).mono (fun r h c => ?_) (Cert.Kernel21Ideal.Value.run_blocks m g)
    obtain ⟨h4, h5, h6, ha⟩ := h c
    obtain ⟨f4, f5, f6⟩ := finals m c
    exact ⟨h4.trans f4, h5.trans f5, h6.trans f6, ha⟩
  · refine (θ_run Cert.Reference21Ideal.defs _ _).mono (fun r h c => ?_) (Cert.Reference21Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel21 := fun m ρ _ => Cert.Kernel21.Gen.frame m ρ
theorem frame_ideal : Cert.quiescent_Kernel21Ideal := fun m ρ _ => Cert.Kernel21Ideal.Gen.frame m ρ
theorem frame_reference : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

end Cert.OutStep
end
-- ==== Proof.UpStep.lean ====
module

public import proofs.«01_k».proof.Proof.Gen.Kernel22Ideal.Value
public import proofs.«01_k».proof.Proof.Gen.Kernel22.Frame
public import proofs.«01_k».proof.Proof.Gen.Reference22Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_ffn_w13`: the optimiser's step, number by number. -/

@[expose] public section

set_option maxRecDepth 16384

noncomputable section

open Idealize.ShloMosaic Idealize.ShloMosaic.TcCoe Idealize.SL.Sem
open Idealize.ShloMosaic.Pipeline (Dat)

namespace Cert.UpStep

open Cert.Kernel22Ideal Cert.Kernel22Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 512) (j : Fin 1408)

/-- A block's row among all. -/
def row : Fin 4096 := ⟨512 * t.val + r.val, by have hN : t.val < 8 := Nat.lt_of_lt_of_eq t.isLt N_0; omega⟩

/-- The kernel's arrays: weights, gradients, both moments. -/
abbrev aW : S4x1024x1408.Idx → EReal := m ((c.tc : Thread nD τ).loc main_arg0)
@[inherit_doc aW] abbrev aG : S4x1024x1408.Idx → EReal := m ((c.tc : Thread nD τ).loc main_arg1)
@[inherit_doc aW] abbrev aM : S4x1024x1408.Idx → EReal := m ((c.tc : Thread nD τ).loc main_arg2)
@[inherit_doc aW] abbrev aV : S4x1024x1408.Idx → EReal := m ((c.tc : Thread nD τ).loc main_arg3)

/-- The same, rows of all layers on top of each other. -/
def flat (x : S4x1024x1408.Idx → EReal) : S4096x1408.Idx → EReal := shapeCast S4096x1408 x shapeCasts_S4x1024x1408_S4096x1408

theorem entry_0 : V m c main_v0 = flat (aW m c) := by
  entry_read
  rfl
theorem entry_1 : V m c main_v1 = flat (aG m c) := by
  entry_read
  rfl
theorem entry_2 : V m c main_v2 = flat (aM m c) := by
  entry_read
  rfl
theorem entry_3 : V m c main_v3 = flat (aV m c) := by
  entry_read
  rfl

/-- What the windows read, number by number. -/
theorem blks : ((iblk m c 0 t : Vec Ideal S512x1408 .f32) (ix2 r j) = flat (aW m c) (ix2 (row t r) j)
      ∧ (iblk m c 1 t : Vec Ideal S512x1408 .f32) (ix2 r j) = flat (aG m c) (ix2 (row t r) j))
    ∧ (iblk m c 2 t : Vec Ideal S512x1408 .f32) (ix2 r j) = flat (aM m c) (ix2 (row t r) j)
      ∧ (iblk m c 3 t : Vec Ideal S512x1408 .f32) (ix2 r j) = flat (aV m c) (ix2 (row t r) j) := by
  rw [← entry_0, ← entry_1, ← entry_2, ← entry_3]
  unfold row
  refine ⟨⟨?_, ?_⟩, ?_, ?_⟩ <;> blk_simp [iblk, idx t] <;> generalize V m c _ = X <;> blk_ext [idx t]

end

section
variable (x0 x1 x2 x3 : Vec Ideal S512x1408 .f32)

/-- What a block becomes. -/
theorem m_out : out0_5 x0 x1 x2 x3 = Adam.newM x1 x2 := by
  frame_out
  simp only [k0_pay2, k0_pay1, shapeCast_self, Adam.vecM]

@[inherit_doc m_out] theorem v_out : out0_6 x0 x1 x2 x3 = Adam.newV x1 x3 := by
  frame_out
  simp only [k0_pay3, k0_pay1, shapeCast_self, Adam.vecV]

@[inherit_doc m_out] theorem w_out : out0_4 x0 x1 x2 x3 = Adam.newW x0 x1 x2 x3 := by
  frame_out
  simp only [k0_pay4, k0_pay3, k0_pay2, k0_pay1, shapeCast_self, Adam.vecM, Adam.vecV, Adam.vecW, Adam.newW]

end

section
variable (m : (ℓ : Loc nD τ sig) → Buf (Elt Ideal) ℓ) (c : Dev nD)

/-- What the kernel leaves. -/
def gW : Vec Ideal S4096x1408 .f32 := Adam.newW (flat (aW m c)) (flat (aG m c)) (flat (aM m c)) (flat (aV m c))
@[inherit_doc gW] def gM : Vec Ideal S4096x1408 .f32 := Adam.newM (flat (aG m c)) (flat (aM m c))
@[inherit_doc gW] def gV : Vec Ideal S4096x1408 .f32 := Adam.newV (flat (aG m c)) (flat (aV m c))

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 512) (j : Fin 1408), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel22Ideal_Reference22Ideal := by
  intro m g m' g' _ hag
  refine ⟨fun c => gW m c, fun c => gM m c, fun c => gV m c, ?_, ?_⟩
  · refine (θ_run Cert.Kernel22Ideal.defs _ _).mono (fun r h c => ?_) (Cert.Kernel22Ideal.Value.run_blocks m g)
    obtain ⟨h4, h5, h6, ha⟩ := h c
    obtain ⟨f4, f5, f6⟩ := finals m c
    exact ⟨h4.trans f4, h5.trans f5, h6.trans f6, ha⟩
  · refine (θ_run Cert.Reference22Ideal.defs _ _).mono (fun r h c => ?_) (Cert.Reference22Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel22 := fun m ρ _ => Cert.Kernel22.Gen.frame m ρ
theorem frame_ideal : Cert.quiescent_Kernel22Ideal := fun m ρ _ => Cert.Kernel22Ideal.Gen.frame m ρ
theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

end Cert.UpStep
end
-- ==== Proof.DownStep.lean ====
module

public import proofs.«01_k».proof.Proof.Gen.Kernel23Ideal.Value
public import proofs.«01_k».proof.Proof.Gen.Kernel23.Frame
public import proofs.«01_k».proof.Proof.Gen.Reference23Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_ffn_w2`: the optimiser's step, number by number. -/

@[expose] public section

set_option maxRecDepth 16384

noncomputable section

open Idealize.ShloMosaic Idealize.ShloMosaic.TcCoe Idealize.SL.Sem
open Idealize.ShloMosaic.Pipeline (Dat)

namespace Cert.DownStep

open Cert.Kernel23Ideal Cert.Kernel23Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 352) (j : Fin 1024)

/-- A block's row among all. -/
def row : Fin 2816 := ⟨352 * t.val + r.val, by have hN : t.val < 8 := Nat.lt_of_lt_of_eq t.isLt N_0; omega⟩

/-- The kernel's arrays: weights, gradients, both moments. -/
abbrev aW : S4x704x1024.Idx → EReal := m ((c.tc : Thread nD τ).loc main_arg0)
@[inherit_doc aW] abbrev aG : S4x704x1024.Idx → EReal := m ((c.tc : Thread nD τ).loc main_arg1)
@[inherit_doc aW] abbrev aM : S4x704x1024.Idx → EReal := m ((c.tc : Thread nD τ).loc main_arg2)
@[inherit_doc aW] abbrev aV : S4x704x1024.Idx → EReal := m ((c.tc : Thread nD τ).loc main_arg3)

/-- The same, rows of all layers on top of each other. -/
def flat (x : S4x704x1024.Idx → EReal) : S2816x1024.Idx → EReal := shapeCast S2816x1024 x shapeCasts_S4x704x1024_S2816x1024

theorem entry_0 : V m c main_v0 = flat (aW m c) := by
  entry_read
  rfl
theorem entry_1 : V m c main_v1 = flat (aG m c) := by
  entry_read
  rfl
theorem entry_2 : V m c main_v2 = flat (aM m c) := by
  entry_read
  rfl
theorem entry_3 : V m c main_v3 = flat (aV m c) := by
  entry_read
  rfl

/-- What the windows read, number by number. -/
theorem blks : ((iblk m c 0 t : Vec Ideal S352x1024 .f32) (ix2 r j) = flat (aW m c) (ix2 (row t r) j)
      ∧ (iblk m c 1 t : Vec Ideal S352x1024 .f32) (ix2 r j) = flat (aG m c) (ix2 (row t r) j))
    ∧ (iblk m c 2 t : Vec Ideal S352x1024 .f32) (ix2 r j) = flat (aM m c) (ix2 (row t r) j)
      ∧ (iblk m c 3 t : Vec Ideal S352x1024 .f32) (ix2 r j) = flat (aV m c) (ix2 (row t r) j) := by
  rw [← entry_0, ← entry_1, ← entry_2, ← entry_3]
  unfold row
  refine ⟨⟨?_, ?_⟩, ?_, ?_⟩ <;> blk_simp [iblk, idx t] <;> generalize V m c _ = X <;> blk_ext [idx t]

end

section
variable (x0 x1 x2 x3 : Vec Ideal S352x1024 .f32)

/-- What a block becomes. -/
theorem m_out : out0_5 x0 x1 x2 x3 = Adam.newM x1 x2 := by
  frame_out
  simp only [k0_pay2, k0_pay1, shapeCast_self, Adam.vecM]

@[inherit_doc m_out] theorem v_out : out0_6 x0 x1 x2 x3 = Adam.newV x1 x3 := by
  frame_out
  simp only [k0_pay3, k0_pay1, shapeCast_self, Adam.vecV]

@[inherit_doc m_out] theorem w_out : out0_4 x0 x1 x2 x3 = Adam.newW x0 x1 x2 x3 := by
  frame_out
  simp only [k0_pay4, k0_pay3, k0_pay2, k0_pay1, shapeCast_self, Adam.vecM, Adam.vecV, Adam.vecW, Adam.newW]

end

section
variable (m : (ℓ : Loc nD τ sig) → Buf (Elt Ideal) ℓ) (c : Dev nD)

/-- What the kernel leaves. -/
def gW : Vec Ideal S2816x1024 .f32 := Adam.newW (flat (aW m c)) (flat (aG m c)) (flat (aM m c)) (flat (aV m c))
@[inherit_doc gW] def gM : Vec Ideal S2816x1024 .f32 := Adam.newM (flat (aG m c)) (flat (aM m c))
@[inherit_doc gW] def gV : Vec Ideal S2816x1024 .f32 := Adam.newV (flat (aG m c)) (flat (aV m c))

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 352) (j : Fin 1024), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel23Ideal_Reference23Ideal := by
  intro m g m' g' _ hag
  refine ⟨fun c => gW m c, fun c => gM m c, fun c => gV m c, ?_, ?_⟩
  · refine (θ_run Cert.Kernel23Ideal.defs _ _).mono (fun r h c => ?_) (Cert.Kernel23Ideal.Value.run_blocks m g)
    obtain ⟨h4, h5, h6, ha⟩ := h c
    obtain ⟨f4, f5, f6⟩ := finals m c
    exact ⟨h4.trans f4, h5.trans f5, h6.trans f6, ha⟩
  · refine (θ_run Cert.Reference23Ideal.defs _ _).mono (fun r h c => ?_) (Cert.Reference23Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel23 := fun m ρ _ => Cert.Kernel23.Gen.frame m ρ
theorem frame_ideal : Cert.quiescent_Kernel23Ideal := fun m ρ _ => Cert.Kernel23Ideal.Gen.frame m ρ
theorem frame_reference : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

end Cert.DownStep
end
-- ==== Proof.AdaStep.lean ====
module

public import proofs.«01_k».proof.Proof.Gen.Kernel24Ideal.Value
public import proofs.«01_k».proof.Proof.Gen.Kernel24.Frame
public import proofs.«01_k».proof.Proof.Gen.Reference24Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_ada_w`: the optimiser's step, number by number. -/

@[expose] public section

set_option maxRecDepth 16384

noncomputable section

open Idealize.ShloMosaic Idealize.ShloMosaic.TcCoe Idealize.SL.Sem
open Idealize.ShloMosaic.Pipeline (Dat)

namespace Cert.AdaStep

open Cert.Kernel24Ideal Cert.Kernel24Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 512) (j : Fin 1536)

/-- A block's row among all. -/
def row : Fin 4096 := ⟨512 * t.val + r.val, by have hN : t.val < 8 := Nat.lt_of_lt_of_eq t.isLt N_0; omega⟩

/-- The kernel's arrays: weights, gradients, both moments. -/
abbrev aW : S4x1024x1536.Idx → EReal := m ((c.tc : Thread nD τ).loc main_arg0)
@[inherit_doc aW] abbrev aG : S4x1024x1536.Idx → EReal := m ((c.tc : Thread nD τ).loc main_arg1)
@[inherit_doc aW] abbrev aM : S4x1024x1536.Idx → EReal := m ((c.tc : Thread nD τ).loc main_arg2)
@[inherit_doc aW] abbrev aV : S4x1024x1536.Idx → EReal := m ((c.tc : Thread nD τ).loc main_arg3)

/-- The same, rows of all layers on top of each other. -/
def flat (x : S4x1024x1536.Idx → EReal) : S4096x1536.Idx → EReal := shapeCast S4096x1536 x shapeCasts_S4x1024x1536_S4096x1536

theorem entry_0 : V m c main_v0 = flat (aW m c) := by
  entry_read
  rfl
theorem entry_1 : V m c main_v1 = flat (aG m c) := by
  entry_read
  rfl
theorem entry_2 : V m c main_v2 = flat (aM m c) := by
  entry_read
  rfl
theorem entry_3 : V m c main_v3 = flat (aV m c) := by
  entry_read
  rfl

/-- What the windows read, number by number. -/
theorem blks : ((iblk m c 0 t : Vec Ideal S512x1536 .f32) (ix2 r j) = flat (aW m c) (ix2 (row t r) j)
      ∧ (iblk m c 1 t : Vec Ideal S512x1536 .f32) (ix2 r j) = flat (aG m c) (ix2 (row t r) j))
    ∧ (iblk m c 2 t : Vec Ideal S512x1536 .f32) (ix2 r j) = flat (aM m c) (ix2 (row t r) j)
      ∧ (iblk m c 3 t : Vec Ideal S512x1536 .f32) (ix2 r j) = flat (aV m c) (ix2 (row t r) j) := by
  rw [← entry_0, ← entry_1, ← entry_2, ← entry_3]
  unfold row
  refine ⟨⟨?_, ?_⟩, ?_, ?_⟩ <;> blk_simp [iblk, idx t] <;> generalize V m c _ = X <;> blk_ext [idx t]

end

section
variable (x0 x1 x2 x3 : Vec Ideal S512x1536 .f32)

/-- What a block becomes. -/
theorem m_out : out0_5 x0 x1 x2 x3 = Adam.newM x1 x2 := by
  frame_out
  simp only [k0_pay2, k0_pay1, shapeCast_self, Adam.vecM]

@[inherit_doc m_out] theorem v_out : out0_6 x0 x1 x2 x3 = Adam.newV x1 x3 := by
  frame_out
  simp only [k0_pay3, k0_pay1, shapeCast_self, Adam.vecV]

@[inherit_doc m_out] theorem w_out : out0_4 x0 x1 x2 x3 = Adam.newW x0 x1 x2 x3 := by
  frame_out
  simp only [k0_pay4, k0_pay3, k0_pay2, k0_pay1, shapeCast_self, Adam.vecM, Adam.vecV, Adam.vecW, Adam.newW]

end

section
variable (m : (ℓ : Loc nD τ sig) → Buf (Elt Ideal) ℓ) (c : Dev nD)

/-- What the kernel leaves. -/
def gW : Vec Ideal S4096x1536 .f32 := Adam.newW (flat (aW m c)) (flat (aG m c)) (flat (aM m c)) (flat (aV m c))
@[inherit_doc gW] def gM : Vec Ideal S4096x1536 .f32 := Adam.newM (flat (aG m c)) (flat (aM m c))
@[inherit_doc gW] def gV : Vec Ideal S4096x1536 .f32 := Adam.newV (flat (aG m c)) (flat (aV m c))

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 512) (j : Fin 1536), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel24Ideal_Reference24Ideal := by
  intro m g m' g' _ hag
  refine ⟨fun c => gW m c, fun c => gM m c, fun c => gV m c, ?_, ?_⟩
  · refine (θ_run Cert.Kernel24Ideal.defs _ _).mono (fun r h c => ?_) (Cert.Kernel24Ideal.Value.run_blocks m g)
    obtain ⟨h4, h5, h6, ha⟩ := h c
    obtain ⟨f4, f5, f6⟩ := finals m c
    exact ⟨h4.trans f4, h5.trans f5, h6.trans f6, ha⟩
  · refine (θ_run Cert.Reference24Ideal.defs _ _).mono (fun r h c => ?_) (Cert.Reference24Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel24 := fun m ρ _ => Cert.Kernel24.Gen.frame m ρ
theorem frame_ideal : Cert.quiescent_Kernel24Ideal := fun m ρ _ => Cert.Kernel24Ideal.Gen.frame m ρ
theorem frame_reference : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

end Cert.AdaStep
end
-- ==== Proof.LossHead.lean ====
module

public import proofs.«01_k».proof.Proof.Gen.Kernel25Ideal.Value
public import proofs.«01_k».proof.Proof.Gen.Kernel25.Frame
public import proofs.«01_k».proof.Proof.Gen.Reference25Ideal.Run
public import proofs.«01_k».proof.Proof.NormGrad
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `loss_head`: half the mean squared error of every latent token, summed, and its gradient. -/

@[expose] public section

set_option maxRecDepth 16384

noncomputable section

open Idealize.ShloMosaic Idealize.ShloMosaic.TcCoe Idealize.SL.Sem
open Idealize.ShloMosaic.Pipeline (Dat)

namespace Cert.LossHead

section
variable (X : (⟨2, ![4352, 1024]⟩ : Shape).Idx → EReal) (T : (⟨2, ![4096, 1024]⟩ : Shape).Idx → EReal) (i : Fin 4352) (j : Fin 1024)

/-- The error, zero on the context. -/
def err : EReal := if h : i.val < 256 then 0 else X (ix2 i j) - T (ix2 ⟨i.val - 256, by omega⟩ j)
/-- A row's sum of squares, and its part of the loss. -/
def sq : EReal := ∑ j, err X T i j * err X T i j
@[inherit_doc sq] def loss : EReal := sq X T i * Ideal.ofBits .f32 0x3A000000#32

/-- The two results. -/
def gL : (⟨2, ![1, 128]⟩ : Shape).Idx → EReal := fun _ => ∑ i, loss X T i
@[inherit_doc gL] def gX : (⟨2, ![4352, 1024]⟩ : Shape).Idx → EReal := fun y => err X T (y 0) (y 1) * Ideal.ofBits .f32 0x3A800000#32

theorem square_nonneg (x : EReal) : 0 ≤ x * x := by
  rcases le_total 0 x with h | h
  · exact mul_nonneg h h
  · rw [← neg_mul_neg]
    have h' : 0 ≤ -x := EReal.neg_nonneg.mpr h
    exact mul_nonneg h' h'

theorem sq_nonneg : 0 ≤ sq X T i := Finset.sum_nonneg fun j _ => square_nonneg _
end

/-- A factor moves into a sum of numbers that are not negative. -/
theorem sum_mul {ι : Type} [Fintype ι] (f : ι → EReal) (hf : ∀ i, 0 ≤ f i) (c : EReal) : (∑ i, f i) * c = ∑ i, f i * c := by
  classical
  refine Finset.induction_on (Finset.univ : Finset ι) (by simp) fun a s ha ih => ?_
  rw [Finset.sum_insert ha, Finset.sum_insert ha, EReal.right_distrib_of_nonneg (hf a) (Finset.sum_nonneg fun i _ => hf i), ih]

theorem k1024 : Ideal.ofBits .f32 0x44800000#32 = ((1024 : ℝ) : EReal) := by
  simp [Ideal.ofBits, Ideal.ieee, -EReal.coe_mul]
  norm_num
theorem half : Ideal.ofBits .f32 0x3F000000#32 = ((1 / 2 : ℝ) : EReal) := by
  simp [Ideal.ofBits, Ideal.ieee, -EReal.coe_mul]
  norm_num
theorem two : Ideal.ofBits .f32 0x40000000#32 = ((2 : ℝ) : EReal) := by
  simp [Ideal.ofBits, Ideal.ieee, -EReal.coe_mul]
  norm_num
theorem c10 : Ideal.ofBits .f32 0x3A800000#32 = ((1 / 1024 : ℝ) : EReal) := by
  simp [Ideal.ofBits, Ideal.ieee, -EReal.coe_mul]
  norm_num
theorem c11 : Ideal.ofBits .f32 0x3A000000#32 = ((1 / 2048 : ℝ) : EReal) := by
  simp [Ideal.ofBits, Ideal.ieee, -EReal.coe_mul]
  norm_num

/-- Half of a row's mean. -/
theorem mean (x : EReal) : Ideal.ofBits .f32 0x3F000000#32 * Ideal.div x (Ideal.ofBits .f32 0x44800000#32) = x * Ideal.ofBits .f32 0x3A000000#32 := by
  rw [k1024, Ideal.div_coe (by norm_num), half, c11, mul_comm, mul_assoc, ← EReal.coe_mul]
  norm_num

theorem grad (x : EReal) : Ideal.div (Ideal.ofBits .f32 0x3F000000#32) (Ideal.ofBits .f32 0x44800000#32) * (Ideal.ofBits .f32 0x40000000#32 * x)
    = x * Ideal.ofBits .f32 0x3A800000#32 := by
  rw [k1024, Ideal.div_coe (by norm_num), half, two, c10, ← mul_assoc, ← EReal.coe_mul, ← EReal.coe_mul, mul_comm]
  norm_num

section
variable (X : (⟨2, ![4352, 1024]⟩ : Shape).Idx → EReal) (T : (⟨2, ![4096, 1024]⟩ : Shape).Idx → EReal)

theorem err_ctx (i : Fin 4352) (j : Fin 1024) (h : i.val < 256) : err X T i j = 0 := dif_pos h

theorem err_lat (x : Fin 4096) (j : Fin 1024) : err X T ⟨256 + x.val, by omega⟩ j = X (ix2 ⟨256 + x.val, by omega⟩ j) - T (ix2 x j) := by
  unfold err
  rw [dif_neg (by dsimp only; omega)]
  exact congrArg (fun y => _ - T (ix2 y j)) (Fin.ext (by dsimp only; omega))

/-- The loss as the reference has it. -/
theorem loss_eq : Ideal.ofBits .f32 0x3F000000#32 * ∑ x : Fin 4096, Ideal.div (∑ j : Fin 1024,
      (X (ix2 ⟨256 + x.val, by omega⟩ j) - T (ix2 x j)) * (X (ix2 ⟨256 + x.val, by omega⟩ j) - T (ix2 x j))) (Ideal.ofBits .f32 0x44800000#32)
    = ∑ i, loss X T i := by
  have hs : ∀ x : Fin 4096, sq X T ⟨256 + x.val, by omega⟩ = ∑ j : Fin 1024,
      (X (ix2 ⟨256 + x.val, by omega⟩ j) - T (ix2 x j)) * (X (ix2 ⟨256 + x.val, by omega⟩ j) - T (ix2 x j)) := fun x => by
    unfold sq
    simp only [err_lat]
  have hn : ∀ x : Fin 4096, 0 ≤ Ideal.div (sq X T ⟨256 + x.val, by omega⟩) (Ideal.ofBits .f32 0x44800000#32) := fun x => by
    rw [k1024, Ideal.div_coe (by norm_num)]
    exact mul_nonneg (sq_nonneg _ _ _) (EReal.coe_nonneg.mpr (by norm_num))
  have h0 : ∀ x : Fin 256, loss X T ⟨x.val, by omega⟩ = 0 := fun x => by
    unfold loss sq
    simp [err_ctx X T ⟨x.val, by omega⟩ _ x.isLt]
  simp only [← hs]
  rw [mul_comm, sum_mul _ hn]
  refine Eq.trans ?_ (Fin.sum_univ_add (a := 256) (b := 4096) fun i => loss X T i).symm
  rw [show (∑ i, loss X T (Fin.castAdd 4096 i)) = 0 from Finset.sum_eq_zero fun x _ => h0 x, zero_add]
  exact Finset.sum_congr rfl fun x _ => (mul_comm _ _).trans (mean _)
end

open Cert.Kernel25Ideal Cert.Kernel25Ideal.Gen

/-- Where every window's block lies. -/
theorem idx : ∀ t : Fin cfg0.N, win0_0.index t = ![t.val, 0] ∧ win0_1.index t = ![t.val - 1, 0] ∧ win0_2.index t = ![0, 0] ∧ win0_3.index t = ![t.val, 0] :=
  (by decide +kernel : ∀ t : Fin grid0.N, _)

theorem bit : ∀ t : Fin cfg0.N, (Scalar.extui (Scalar.cmpi .sge (BitVec.ofNat 32 (grid0.coords t 0).val) 1#32) : BitVec 32).toInt = if 1 ≤ t.val then 1 else 0 :=
  (by decide +kernel : ∀ t : Fin grid0.N, _)

section
variable (m : (ℓ : Loc nD τ sig) → Buf (Elt Ideal) ℓ) (c : Dev nD)

/-- The kernel's arrays. -/
abbrev aX : S4352x1024.Idx → EReal := m ((c.tc : Thread nD τ).loc main_arg0)
@[inherit_doc aX] abbrev aT : S4096x1024.Idx → EReal := m ((c.tc : Thread nD τ).loc main_arg1)

variable (t : Fin cfg0.N)

theorem lt17 : t.val < 17 := Nat.lt_of_lt_of_eq t.isLt N_0

/-- A block's row among all. -/
def row (r : Fin 256) : Fin 4352 := ⟨256 * t.val + r.val, by have hN := lt17 t; omega⟩

theorem blk0 (r : Fin 256) (j : Fin 1024) : (iblk m c 0 t : Vec Ideal S256x1024 .f32) (ix2 r j) = aX m c (ix2 (row t r) j) := by
  unfold row
  blk_ext [iblk, V, idx t]

theorem blk1 (h : 1 ≤ t.val) (r : Fin 256) (j : Fin 1024) : (iblk m c 1 t : Vec Ideal S256x1024 .f32) (ix2 r j)
    = aT m c (ix2 ⟨(row t r).val - 256, by have hN := (row t r).isLt; omega⟩ j) := by
  unfold row
  blk_ext [iblk, V, idx t]

theorem err_at (r : Fin 256) (j : Fin 1024) : k0_pay1 (grid0.coords t) (iblk m c 0 t) (iblk m c 1 t) (ix2 r j) = err (aX m c) (aT m c) (row t r) j := by
  unfold k0_pay1 err
  pointwise
  rw [bit, blk0]
  by_cases h : 1 ≤ t.val
  · rw [if_pos h, blk1 m c t h, dif_neg (by unfold row; dsimp only; omega)]
    simp
  · rw [if_neg h, dif_pos (by unfold row; dsimp only; omega)]
    simp

theorem dx_at (r : Fin 256) (j : Fin 1024) : k0_pay2 (grid0.coords t) (iblk m c 0 t) (iblk m c 1 t) (ix2 r j) = gX (aX m c) (aT m c) (ix2 (row t r) j) := by
  unfold k0_pay2
  pointwise
  rw [err_at]
  rfl

theorem part_at (k : Fin 1) (l : Fin 128) : k0_pay3 (grid0.coords t) (iblk m c 0 t) (iblk m c 1 t) (ix2 k l) = ∑ r, loss (aX m c) (aT m c) (row t r) := by
  unfold k0_pay3
  pointwise
  simp only [err_at]
  exact sum_mul _ (fun r => sq_nonneg _ _ _) _

theorem dx_blk (r : Fin 256) (j : Fin 1024) : (outsAt0 m c t.val t.isLt).2 (ix2 r j) = gX (aX m c) (aT m c) (ix2 (row t r) j) := by
  have hN := lt17 t
  by_cases h0 : t.val % 17 = 0
  · rw [outsAt0_A m c t h0 (by omega)]
    frame_out
    exact dx_at m c t r j
  · rw [outsAt0_B m c t h0 (by omega)]
    frame_out
    exact dx_at m c t r j

theorem l_A (h0 : t.val % 17 = 0) (k : Fin 1) (l : Fin 128) : (outsAt0 m c t.val t.isLt).1 (ix2 k l) = ∑ r, loss (aX m c) (aT m c) (row t r) := by
  have hN := lt17 t
  rw [outsAt0_A m c t h0 (by omega)]
  frame_out
  exact part_at m c t k l

theorem l_B (h0 : ¬ t.val % 17 = 0) (k : Fin 1) (l : Fin 128) : (outsAt0 m c t.val t.isLt).1 (ix2 k l)
    = (outsAt0 m c (t.val - 1) (Nat.lt_of_le_of_lt (Nat.sub_le _ _) t.isLt)).1 (ix2 k l) + ∑ r, loss (aX m c) (aT m c) (row t r) := by
  rw [outsAt0_B m c t h0 (by omega)]
  frame_out
  unfold k0_pay4
  pointwise
  exact congrArg _ (part_at m c t k l)

/-- The loss after a point: the sum over the rows so far. -/
theorem l_sum (k : Fin 1) (l : Fin 128) (n : ℕ) (hn : n < cfg0.N) : (outsAt0 m c n hn).1 (ix2 k l)
    = ∑ x ∈ Finset.range (256 * (n + 1)), NormGrad.lift (loss (aX m c) (aT m c)) x := by
  refine NormGrad.sums cfg0.N (fun n hn => (outsAt0 m c n hn).1 (ix2 k l)) _ (fun hn => ?_) (fun n hn => ?_) n hn
  · refine (l_A m c ⟨0, hn⟩ rfl k l).trans ?_
    exact (NormGrad.lift_block _ 0 (by omega) _ fun r => rfl).trans (by simp only [Nat.mul_zero, Nat.zero_add])
  · have hN := lt17 ⟨n + 1, hn⟩
    refine (l_B m c ⟨n + 1, hn⟩ (by dsimp only at hN ⊢; omega) k l).trans (congrArg _ ?_)
    exact NormGrad.lift_block _ (n + 1) hN _ fun r => rfl

theorem final2 : (dats m 0 c).arrAt 2 cfg0.N = gL (aX m c) (aT m c) := by
  refine (dats m 0 c).arrAt_eq_of_covers 2 _ (by decide +kernel) fun t hf y => ?_
  blk_simp
  rw [after0_2]
  have hN := lt17 t
  have h16 : t.val % 17 = 16 := (flush0_2 t).mp hf
  have e16 : 256 * (t.val + 1) = 4352 := by omega
  obtain ⟨k, l, rfl⟩ : ∃ (i : Fin 1) (j : Fin 128), y = ix2 i j := ⟨y 0, y 1, by idx_vars y⟩
  refine (l_sum m c k l _ _).trans ?_
  rw [e16, NormGrad.lift_sum]
  rfl

theorem final3 : (dats m 0 c).arrAt 3 cfg0.N = gX (aX m c) (aT m c) := by
  refine (dats m 0 c).arrAt_eq_of_covers 3 _ (by decide +kernel) fun t hf y => ?_
  blk_simp
  rw [after0_3]
  obtain ⟨r, j, rfl⟩ : ∃ (i : Fin 256) (j : Fin 1024), y = ix2 i j := ⟨y 0, y 1, by idx_vars y⟩
  refine (dx_blk m c t r j).trans (Eq.symm ?_)
  unfold row
  blk_ext [idx t]

end

/-- Kernel and reference leave the same two arrays. -/
theorem algebraic : Cert.algebraic_Kernel25Ideal_Reference25Ideal := by
  intro m g m' g' _ hag
  refine ⟨fun c => gL (aX m c) (aT m c), fun c => gX (aX m c) (aT m c), ?_, ?_⟩
  · refine (θ_run Cert.Kernel25Ideal.defs _ _).mono (fun r h c => ?_) (Cert.Kernel25Ideal.Value.run_blocks m g)
    obtain ⟨h2, h3, ha⟩ := h c
    exact ⟨h2.trans (final2 m c), h3.trans (final3 m c), ha⟩
  · refine (θ_run Cert.Reference25Ideal.defs _ _).mono (fun r h c => ?_) (Cert.Reference25Ideal.Value.run m' g')
    obtain ⟨h2, h3, ha⟩ := h c
    obtain ⟨e0, e1⟩ := hag c
    refine ⟨h2.trans ?_, h3.trans ?_, ha⟩
    · rw [e0, e1]
      funext y
      obtain ⟨k, l, rfl⟩ : ∃ (i : Fin 1) (j : Fin 128), y = ix2 i j := ⟨y 0, y 1, by idx_vars y⟩
      unfold gL
      pointwise
      exact loss_eq (aX m c) (aT m c)
    · rw [e0, e1]
      funext y
      obtain ⟨i, j, rfl⟩ : ∃ (i : Fin 4352) (j : Fin 1024), y = ix2 i j := ⟨y 0, y 1, by idx_vars y⟩
      change _ = err (aX m c) (aT m c) i j * _
      unfold err
      pointwise
      have hi := i.isLt
      by_cases h : i.val < 256
      · rw [dif_neg (by omega), dif_pos h, zero_mul]
      · rw [dif_pos (by omega), dif_neg h, grad]
        exact congrArg (fun x => (aX m c (ix2 x j) - aT m c _) * _) (Fin.ext (by dsimp only; omega))

theorem frame_kernel : Cert.quiescent_Kernel25 := fun m ρ _ => Cert.Kernel25.Gen.frame m ρ
theorem frame_ideal : Cert.quiescent_Kernel25Ideal := fun m ρ _ => Cert.Kernel25Ideal.Gen.frame m ρ
theorem frame_reference : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run (F := Ideal) m ρ)

end Cert.LossHead
end
-- ==== Proof.SmallStep.lean ====
module

public import proofs.«01_k».proof.Proof.Gen.Kernel26Ideal.Value
public import proofs.«01_k».proof.Proof.Gen.Kernel26.Frame
public import proofs.«01_k».proof.Proof.Gen.Reference26Ideal.Run
public import proofs.«01_k».proof.Proof.Adam
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

/-! `adamw_small`: the optimiser's step, number by number. -/

@[expose] public section

set_option maxRecDepth 16384

noncomputable section

open Idealize.ShloMosaic Idealize.ShloMosaic.TcCoe Idealize.SL.Sem
open Idealize.ShloMosaic.Pipeline (Dat)

namespace Cert.SmallStep

open Cert.Kernel26Ideal Cert.Kernel26Ideal.Gen

/-- Where every window's block lies. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N) (r : Fin 288) (j : Fin 128)

/-- A block's row among all. -/
def row : Fin 576 := ⟨288 * t.val + r.val, by have hN : t.val < 2 := Nat.lt_of_lt_of_eq t.isLt N_0; omega⟩

/-- The kernel's arrays: weights, gradients, both moments. -/
abbrev aW : S576x128.Idx → EReal := m ((c.tc : Thread nD τ).loc main_arg0)
@[inherit_doc aW] abbrev aG : S576x128.Idx → EReal := m ((c.tc : Thread nD τ).loc main_arg1)
@[inherit_doc aW] abbrev aM : S576x128.Idx → EReal := m ((c.tc : Thread nD τ).loc main_arg2)
@[inherit_doc aW] abbrev aV : S576x128.Idx → EReal := m ((c.tc : Thread nD τ).loc main_arg3)

/-- What the windows read, number by number. -/
theorem blks : ((iblk m c 0 t : Vec Ideal S288x128 .f32) (ix2 r j) = aW m c (ix2 (row t r) j)
      ∧ (iblk m c 1 t : Vec Ideal S288x128 .f32) (ix2 r j) = aG m c (ix2 (row t r) j))
    ∧ (iblk m c 2 t : Vec Ideal S288x128 .f32) (ix2 r j) = aM m c (ix2 (row t r) j)
      ∧ (iblk m c 3 t : Vec Ideal S288x128 .f32) (ix2 r j) = aV m c (ix2 (row t r) j) := by
  unfold row
  refine ⟨⟨?_, ?_⟩, ?_, ?_⟩ <;> blk_ext [iblk, V, idx t]

end

section
variable (x0 x1 x2 x3 : Vec Ideal S288x128 .f32)

/-- What a block becomes. -/
theorem m_out : out0_5 x0 x1 x2 x3 = Adam.newM x1 x2 := by
  frame_out
  simp only [k0_pay1, Adam.vecM]

@[inherit_doc m_out] theorem v_out : out0_6 x0 x1 x2 x3 = Adam.newV x1 x3 := by
  frame_out
  simp only [k0_pay2, Adam.vecV]

@[inherit_doc m_out] theorem w_out : out0_4 x0 x1 x2 x3 = Adam.newW x0 x1 x2 x3 := by
  frame_out
  simp only [k0_pay3, k0_pay2, k0_pay1, Adam.vecM, Adam.vecV, Adam.vecW, Adam.newW]

end

section
variable (m : (ℓ : Loc nD τ sig) → Buf (Elt Ideal) ℓ) (c : Dev nD)

/-- What the kernel leaves. -/
def gW : Vec Ideal S576x128 .f32 := Adam.newW (aW m c) (aG m c) (aM m c) (aV m c)
@[inherit_doc gW] def gM : Vec Ideal S576x128 .f32 := Adam.newM (aG m c) (aM m c)
@[inherit_doc gW] def gV : Vec Ideal S576x128 .f32 := Adam.newV (aG m c) (aV m c)

theorem finals : (dats m 0 c).arrAt 4 cfg0.N = gW m c ∧ (dats m 0 c).arrAt 5 cfg0.N = gM m c
    ∧ (dats m 0 c).arrAt 6 cfg0.N = gV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    blk_simp
    obtain ⟨r, j, rfl⟩ : ∃ (i : Fin 288) (j : Fin 128), y = ix2 i j := ⟨y 0, y 1, by idx_vars y⟩
    obtain ⟨⟨hw, hg⟩, hm, hv⟩ := blks m c t r j
  · rw [after0_4, w_out]
    refine (Adam.newW_at hw hg hm hv).trans (Eq.symm (b := gW m c (ix2 (row t r) j)) ?_)
    unfold row
    blk_ext [idx t]
  · rw [after0_5, m_out]
    refine (Adam.newM_at hg hm).trans (Eq.symm (b := gM m c (ix2 (row t r) j)) ?_)
    unfold row
    blk_ext [idx t]
  · rw [after0_6, v_out]
    refine (Adam.newV_at hg hv).trans (Eq.symm (b := gV m c (ix2 (row t r) j)) ?_)
    unfold row
    blk_ext [idx t]

end

/-- Kernel and reference leave the same three arrays. -/
theorem algebraic : Cert.algebraic_Kernel26Ideal_Reference26Ideal := by
  intro m g m' g' _ hag
  refine ⟨fun c => gW m c, fun c => gM m c, fun c => gV m c, ?_, ?_⟩
  · refine (θ_run Cert.Kernel26Ideal.defs _ _).mono (fun r h c => ?_) (Cert.Kernel26Ideal.Value.run_blocks m g)
    obtain ⟨h4, h5, h6, ha⟩ := h c
    obtain ⟨f4, f5, f6⟩ := finals m c
    exact ⟨h4.trans f4, h5.trans f5, h6.trans f6, ha⟩
  · refine (θ_run Cert.Reference26Ideal.defs _ _).mono (fun r h c => ?_) (Cert.Reference26Ideal.Value.run m' g')
    obtain ⟨h4, h5, h6, ha⟩ := h c
    obtain ⟨e0, e1, e2, e3⟩ := hag c
    refine ⟨h4.trans ?_, h5.trans ?_, h6.trans ?_, ha⟩
    · rw [e0, e1, e2, e3]
      rfl
    · rw [e1, e2]
      rfl
    · rw [e1, e3]
      rfl

theorem frame_kernel : Cert.quiescent_Kernel26 := fun m ρ _ => Cert.Kernel26.Gen.frame m ρ
theorem frame_ideal : Cert.quiescent_Kernel26Ideal := fun m ρ _ => Cert.Kernel26Ideal.Gen.frame m ρ
theorem frame_reference : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

end Cert.SmallStep
end
-- ==== Proof.Vals.lean ====
module

public import proofs.«01_k».proof.Proof.Gen.KernelIdeal.Value
public import proofs.«01_k».proof.Proof.Host
public import proofs.«01_k».proof.Proof.Body
public import Idealize.ShloMosaic.Lib.Claim

/-! The states that the kernel's host lines prepare. -/

@[expose] public section

set_option maxRecDepth 16384

noncomputable section

open Idealize.ShloMosaic Idealize.ShloMosaic.TcCoe Idealize.SL.Sem
open Idealize.ShloMosaic.Pipeline (Dat)

namespace Cert.RetScan

open Cert.KernelIdeal Cert.KernelIdeal.Gen

/-- The running sums of the heads' decay logarithms. -/
theorem ker_logs (t : Fin 4352) (h : Fin 4) :
    Host.reduceWindowAdd (F := Ideal) ![4352, 1] ![1, 1] ![4351, 0] ![0, 0]
      (broadcastInDim S4352x4 ![0, 1] bcast_S1x4_S4352x4_0_1
        (broadcastInDim S1x4 ![1] bcast_S4_S1x4_1
          (Host.log1p (Host.negf (Host.powf (broadcastInDim S4 ![] bcast_S_S4 (constant S_ FTy.f32 1073741824#32))
            (subf (broadcastInDim S4 ![] bcast_S_S4 (constant S_ FTy.f32 3231711232#32)) (sitofp FTy.f32 (iotaInDim S4 32 0))))))))
      (broadcastInDim S_ ![] bcast_S_S_ (constant S_ FTy.f32 0#32))
      reduceWindows_S4352x4_S4352x4_w4352s1p4351_0_w1s1p0_0 h_S_ (ix2 t h) = ((((t.val : ℝ) + 1) * lg h : ℝ) : EReal) := by
  refine host_sum _ lg (fun i c => ?_) _ _ (fun i => ?_) _ t h
  · refine Eq.trans ?_ (log_decay c)
    pointwise
  · exact Ideal.ofBits_zero_f32

/-- Whether a position lies before a chunk. -/
theorem before_eq (x : Fin 4352) (n : Fin 34) :
    IntOp.cmpi .slt (BitVec.ofNat 32 x.val) (IntOp.muli 128#32 (BitVec.ofNat 32 n.val)) = if x.val < 128 * n.val then 1#1 else 0#1 := by
  have e : IntOp.muli 128#32 (BitVec.ofNat 32 n.val) = BitVec.ofNat 32 (128 * n.val) := by
    simp [IntOp.muli, BitVec.ofNat_mul]
  rw [e]
  simp only [IntOp.cmpi, BitVec.slt, word_toInt' _ x.isLt, word_toInt' (128 * n.val) (by omega)]
  by_cases h : x.val < 128 * n.val
  · rw [if_pos h, decide_eq_true (by exact_mod_cast h)]; rfl
  · rw [if_neg h, decide_eq_false (by exact_mod_cast h)]; rfl

set_option maxHeartbeats 1600000 in
/-- The state that a chunk starts from, as the host prepares it. -/
theorem states_at (m : (ℓ : Loc nD τ sig) → Buf (Elt Ideal) ℓ) (c : Dev nD)
    (k v : Fin 4352 → Fin 256 → ℝ)
    (hk : ∀ i j, m ((c.tc : Thread nD τ).loc main_arg1) (ix2 i j) = ((k i j : ℝ) : EReal))
    (hv : ∀ i (j : Fin 256) p, m ((c.tc : Thread nD τ).loc main_arg2) (ix2 i ⟨1536 + j.val, p⟩) = ((v i j : ℝ) : EReal))
    (n : Fin 34) (h : Fin 4) (e d : Fin 64) :
    V m c main_v41 (ix4 n h e d) = ((∑ s : Fin 4352, wst (lg h) (128 * n.val) s * k s (cl h d) * v s (cl h e) : ℝ) : EReal) := by
  show StableHlo.after [hostOps0, hostOps0_1, hostOps0_2, hostOps0_3, hostOps0_4].flatten _ _ _ = _
  simp only [List.flatten_cons, List.flatten_nil, hostOps0, hostOps0_1, hostOps0_2, hostOps0_3, hostOps0_4, List.cons_append, List.nil_append,
    List.append_nil]
  entry_read
  simp -implicitDefEqProofs only [StableHlo.TRef.toBuf, StableHlo.TRef.ofBuf, cast_cast, cast_eq]
  pointwise
  refine Eq.trans (α := EReal) (Finset.sum_congr (M := EReal) rfl fun (x : Fin 4352) _ => ?_)
    (coe_sum _ fun s : Fin 4352 => wst (lg h) (128 * n.val) s * k s (cl h d) * v s (cl h e))
  have ek : m (c, Proc.tc.devRef main_arg1) (ix2 x ⟨h.val * 64 + d.val, by omega⟩) = ((k x (cl h d) : ℝ) : EReal) :=
    (congrArg (fun j => m ((c.tc : Thread nD τ).loc main_arg1) (ix2 x j)) (Fin.ext (by simp [cl]; omega))).trans (hk x (cl h d))
  have ev : m (c, Proc.tc.devRef main_arg2) (ix2 x ⟨1536 + (h.val * 64 + e.val), by omega⟩) = ((v x (cl h e) : ℝ) : EReal) :=
    (congrArg (fun j => m ((c.tc : Thread nD τ).loc main_arg2) (ix2 x j)) (Fin.ext (by simp [cl]; omega))).trans
      (hv x (cl h e) (by have := (cl h e).isLt; omega))
  rw [ek, ev, before_eq]
  by_cases hx : x.val < 128 * n.val
  · rw [if_pos hx, wst_of_lt hx, dif_neg (by omega), ker_logs, ker_logs]
    have e1 : (((127 + 128 * (n.val - 1) : ℕ) : ℝ) + 1) = ((128 * n.val : ℕ) : ℝ) := by
      have : 127 + 128 * (n.val - 1) + 1 = 128 * n.val := by omega
      exact_mod_cast this
    have e2 : ((x.val : ℝ) + 1) ≤ ((128 * n.val : ℕ) : ℝ) := by exact_mod_cast hx
    rw [e1, min_decay (lg_neg h) e2, Ideal.exp_coe, ← EReal.coe_mul, ← EReal.coe_mul]
    refine (if_pos rfl).trans (congrArg (fun r : ℝ => ((Real.exp r * k x (cl h d) * v x (cl h e) : ℝ) : EReal)) ?_)
    ring
  · rw [if_neg hx, wst_of_le (not_lt.1 hx)]
    simp [Scalar.select]

end Cert.RetScan
end
-- ==== Proof.Grid.lean ====
module

public import proofs.«01_k».proof.Proof.Vals
public import proofs.«01_k».proof.Proof.Chunk

/-! What the kernel leaves in its results. -/

@[expose] public section

set_option maxRecDepth 16384

noncomputable section

open Idealize.ShloMosaic Idealize.ShloMosaic.TcCoe Idealize.SL.Sem
open Idealize.ShloMosaic.Pipeline (Dat)

namespace Cert.RetScan

open Cert.KernelIdeal Cert.KernelIdeal.Gen

/-- The chunk that a grid point works on: the last one first. -/
def ch (t : Fin cfg0.N) : Fin 34 := ⟨33 - t.val, by omega⟩

/-- An array of real numbers. -/
def full (f : Fin 4352 → Fin 256 → ℝ) : S4352x256.Idx → EReal := fun y => ((f (y 0) (y 1) : ℝ) : EReal)
theorem full_at (f : Fin 4352 → Fin 256 → ℝ) (i : Fin 4352) (j : Fin 256) : full f (ix2 i j) = ((f i j : ℝ) : EReal) := rfl

/-- Where every window's block lies. -/
theorem idx : ∀ t : Fin cfg0.N, win0_0.index t = ![33 - t.val, 0] ∧ win0_1.index t = ![33 - t.val, 0]
    ∧ win0_2.index t = ![33 - t.val, 6] ∧ win0_3.index t = ![33 - t.val, 0, 0, 0] ∧ win0_4.index t = ![33 - t.val, 0]
    ∧ win0_5.index t = ![33 - t.val, 0] ∧ win0_6.index t = ![33 - t.val, 0] ∧ win0_7.index t = ![33 - t.val, 0] :=
  (by decide +kernel : ∀ t : Fin grid0.N, _)

theorem at_ch (t : Fin cfg0.N) (i : Fin 128) : (33 - t.val) * 128 + i.val = (at' (ch t) i).val := by
  rw [at'_val, ch, mul_comm]

section
variable (m : (ℓ : Loc nD τ sig) → Buf (Elt Ideal) ℓ) (c : Dev nD) (q k v o : Fin 4352 → Fin 256 → ℝ)

/-- The arguments hold these real numbers. -/
structure Holds : Prop where
  q : ∀ i j, m ((c.tc : Thread nD τ).loc main_arg0) (ix2 i j) = ((q i j : ℝ) : EReal)
  k : ∀ i j, m ((c.tc : Thread nD τ).loc main_arg1) (ix2 i j) = ((k i j : ℝ) : EReal)
  v : ∀ i (j : Fin 256) p, m ((c.tc : Thread nD τ).loc main_arg2) (ix2 i ⟨1536 + j.val, p⟩) = ((v i j : ℝ) : EReal)
  o : ∀ i j, m ((c.tc : Thread nD τ).loc main_arg3) (ix2 i j) = ((o i j : ℝ) : EReal)

variable {m c q k v o} (H : Holds m c q k v o) (t : Fin cfg0.N)
include H

theorem blk0 : iblk m c 0 t = blk (rows q (ch t)) := by
  funext y
  obtain ⟨i, j, rfl⟩ : ∃ (i : Fin 128) (j : Fin 256), y = ix2 i j := ⟨y 0, y 1, by idx_vars y⟩
  refine Eq.trans ?_ (H.q (at' (ch t) i) j)
  blk_ext [iblk, V, idx t]
  exact at_ch t i

theorem blk1 : iblk m c 1 t = blk (rows k (ch t)) := by
  funext y
  obtain ⟨i, j, rfl⟩ : ∃ (i : Fin 128) (j : Fin 256), y = ix2 i j := ⟨y 0, y 1, by idx_vars y⟩
  refine Eq.trans ?_ (H.k (at' (ch t) i) j)
  blk_ext [iblk, V, idx t]
  exact at_ch t i

theorem blk2 : iblk m c 2 t = blk (rows v (ch t)) := by
  funext y
  obtain ⟨i, j, rfl⟩ : ∃ (i : Fin 128) (j : Fin 256), y = ix2 i j := ⟨y 0, y 1, by idx_vars y⟩
  refine Eq.trans ?_ (H.v (at' (ch t) i) j (by have := j.isLt; omega))
  blk_ext [iblk, V, idx t]
  exact at_ch t i

theorem blk4 : iblk m c 4 t = blk (rows o (ch t)) := by
  funext y
  obtain ⟨i, j, rfl⟩ : ∃ (i : Fin 128) (j : Fin 256), y = ix2 i j := ⟨y 0, y 1, by idx_vars y⟩
  refine Eq.trans ?_ (H.o (at' (ch t) i) j)
  blk_ext [iblk, V, idx t]
  exact at_ch t i

theorem blk3 : iblk m c 3 t = blkS (stT k v (ch t)) := by
  funext y
  obtain ⟨z, h, e, d, rfl⟩ : ∃ (z : Fin 1) (h : Fin 4) (e d : Fin 64), y = ix4 z h e d := ⟨y 0, y 1, y 2, y 3, by idx_vars y⟩
  refine Eq.trans ?_ (states_at m c k v H.k H.v (ch t) h e d)
  blk_simp [iblk, idx t]
  generalize V m c main_v41 = X
  blk_ext [idx t]
  rfl

/-- Before a point works on its chunk, the scratch holds the gradient of the state that the chunk ends in; after the point, of the
    state that it starts from. -/
theorem carried : ∀ (n : ℕ) (hn : n + 1 < cfg0.N), (outsAt0 m c n (by omega)).2.2.2 = blkD (dsT q o (ch ⟨n + 1, hn⟩)) := by
  intro n
  induction n with
  | zero =>
    intro hn
    rw [outsAt0_A m c ⟨0, by omega⟩ rfl]
    dsimp only
    rw [blk0 H, blk1 H, blk2 H, blk3 H, blk4 H]
    funext y
    obtain ⟨h, e, d, rfl⟩ : ∃ (h : Fin 4) (e d : Fin 64), y = ix3 h e d := ⟨y 0, y 1, y 2, by idx_vars y⟩
    rw [ws_A c _ rfl, blkD_at, ← dsB_eq q o (ch ⟨0, by omega⟩) (ch ⟨0 + 1, hn⟩) (by simp [ch]), dsT_last q o _ (by simp [ch])]
  | succ n ih =>
    intro hn
    have hN : cfg0.N = 34 := N_0
    have h0 : ¬ (n + 1) % 34 = 0 := by omega
    rw [outsAt0_B m c ⟨n + 1, by omega⟩ h0]
    dsimp only
    have ih' : ∀ p, (outsAt0 m c (n + 1 - 1) p).2.2.2 = blkD (dsT q o (ch ⟨n + 1, by omega⟩)) := fun _ => ih (by omega)
    rw [blk0 H, blk1 H, blk2 H, blk3 H, blk4 H, ih' _]
    funext y
    obtain ⟨h, e, d, rfl⟩ : ∃ (h : Fin 4) (e d : Fin 64), y = ix3 h e d := ⟨y 0, y 1, y 2, by idx_vars y⟩
    rw [ws_B c _ h0, blkD_at, ← dsB_eq q o (ch ⟨n + 1, by omega⟩) (ch ⟨n + 1 + 1, hn⟩) (by simp [ch]; omega)]

/-- The scratch before a point other than the first. -/
theorem carried' (h0 : ¬t.val % 34 = 0) (p) : (outsAt0 m c (t.val - 1) p).2.2.2 = blkD (dsT q o (ch t)) := by
  have hN : cfg0.N = 34 := N_0
  obtain ⟨n, hn⟩ := t
  obtain ⟨n, rfl⟩ : ∃ k, n = k + 1 := ⟨n - 1, by simp only at h0; omega⟩
  exact carried H n hn

omit H in
/-- At the first point, the chunk is the last one. -/
theorem first (h0 : t.val % 34 = 0) : dsT q o (ch t) = fun _ _ _ => 0 := by
  have hN : cfg0.N = 34 := N_0
  exact dsT_last q o _ (by have := t.isLt; simp only [ch]; omega)

/-- The kernel's result 0. -/
theorem final5 : (dats m 0 c).arrAt 5 cfg0.N = full (dqT k v o) := by
  refine (dats m 0 c).arrAt_eq_of_covers 5 _ (by decide +kernel) fun t hf y => ?_
  blk_simp
  rw [after0_5]
  obtain ⟨i, j, rfl⟩ : ∃ (i : Fin 128) (j : Fin 256), y = ix2 i j := ⟨y 0, y 1, by idx_vars y⟩
  have e : full (dqT k v o) ((win0_5.blk t).view.emb (ix2 i j)) = full (dqT k v o) (ix2 (at' (ch t) i) j) := by
    blk_ext [idx t]
    exact at_ch t i
  refine Eq.trans ?_ e.symm
  obtain ⟨h, d, rfl⟩ := exists_cl j
  rw [full_at, ← dqB_eq k v o]
  by_cases h0 : t.val % 34 = 0
  · rw [outsAt0_A m c t h0]
    dsimp only
    rw [blk0 H, blk1 H, blk2 H, blk3 H, blk4 H]
    refine (w5_A c t h0 _ _ _ _ _ i h d).trans ?_
    rfl
  · rw [outsAt0_B m c t h0]
    dsimp only
    rw [blk0 H, blk1 H, blk2 H, blk3 H, blk4 H, carried' H t h0]
    exact w5_B c t h0 _ _ _ _ _ _ i h d

/-- The kernel's result 1. -/
theorem final6 : (dats m 0 c).arrAt 6 cfg0.N = full (dkT q v o) := by
  refine (dats m 0 c).arrAt_eq_of_covers 6 _ (by decide +kernel) fun t hf y => ?_
  blk_simp
  rw [after0_6]
  obtain ⟨i, j, rfl⟩ : ∃ (i : Fin 128) (j : Fin 256), y = ix2 i j := ⟨y 0, y 1, by idx_vars y⟩
  have e : full (dkT q v o) ((win0_6.blk t).view.emb (ix2 i j)) = full (dkT q v o) (ix2 (at' (ch t) i) j) := by
    blk_ext [idx t]
    exact at_ch t i
  refine Eq.trans ?_ e.symm
  obtain ⟨h, d, rfl⟩ := exists_cl j
  rw [full_at, ← dkB_eq q v o]
  by_cases h0 : t.val % 34 = 0
  · rw [outsAt0_A m c t h0]
    dsimp only
    rw [blk0 H, blk1 H, blk2 H, blk3 H, blk4 H]
    refine (w6_A c t h0 _ _ _ _ _ i h d).trans ?_
    rw [first t h0]
  · rw [outsAt0_B m c t h0]
    dsimp only
    rw [blk0 H, blk1 H, blk2 H, blk3 H, blk4 H, carried' H t h0]
    exact w6_B c t h0 _ _ _ _ _ _ i h d

/-- The kernel's result 2. -/
theorem final7 : (dats m 0 c).arrAt 7 cfg0.N = full (dvT q k o) := by
  refine (dats m 0 c).arrAt_eq_of_covers 7 _ (by decide +kernel) fun t hf y => ?_
  blk_simp
  rw [after0_7]
  obtain ⟨i, j, rfl⟩ : ∃ (i : Fin 128) (j : Fin 256), y = ix2 i j := ⟨y 0, y 1, by idx_vars y⟩
  have e : full (dvT q k o) ((win0_7.blk t).view.emb (ix2 i j)) = full (dvT q k o) (ix2 (at' (ch t) i) j) := by
    blk_ext [idx t]
    exact at_ch t i
  refine Eq.trans ?_ e.symm
  obtain ⟨h, d, rfl⟩ := exists_cl j
  rw [full_at, ← dvB_eq q k o]
  by_cases h0 : t.val % 34 = 0
  · rw [outsAt0_A m c t h0]
    dsimp only
    rw [blk0 H, blk1 H, blk2 H, blk3 H, blk4 H]
    refine (w7_A c t h0 _ _ _ _ _ i h d).trans ?_
    rw [first t h0]
  · rw [outsAt0_B m c t h0]
    dsimp only
    rw [blk0 H, blk1 H, blk2 H, blk3 H, blk4 H, carried' H t h0]
    exact w7_B c t h0 _ _ _ _ _ _ i h d

end
end Cert.RetScan
end
-- ==== Proof.Ref.lean ====
module

public import proofs.«01_k».proof.Proof.Gen.ReferenceIdeal.Run
public import proofs.«01_k».proof.Proof.Host
public import Idealize.ShloMosaic.Lib.Pointwise
public import Idealize.ShloMosaic.Lib.Claim

/-! The reference's results, entry by entry, in real numbers. -/

@[expose] public section

set_option maxRecDepth 16384

noncomputable section

open Idealize.ShloMosaic Idealize.ShloMosaic.TcCoe Idealize.SL.Sem

namespace Cert.RetScan

open Cert.ReferenceIdeal Cert.ReferenceIdeal.Gen

/-- The running sums of the heads' decay logarithms. -/
theorem ref_logs (t : Fin 4352) (h : Fin 4) :
    Host.reduceWindowAdd (F := Ideal) ![4352, 1] ![1, 1] ![4351, 0] ![0, 0]
      (broadcastInDim S4352x4 ![0, 1] bcast_S1x4_S4352x4_0_1
        (broadcastInDim S1x4 ![1] bcast_S4_S1x4_1
          (Host.log1p (Host.negf (Host.powf (broadcastInDim S4 ![] bcast_S_S4 (constant S_ FTy.f32 1073741824#32))
            (subf (broadcastInDim S4 ![] bcast_S_S4 (constant S_ FTy.f32 3231711232#32)) (sitofp FTy.f32 (iotaInDim S4 32 0))))))))
      (broadcastInDim S_ ![] bcast_S_S_ (constant S_ FTy.f32 0#32))
      reduceWindows_S4352x4_S4352x4_w4352s1p4351_0_w1s1p0_0 h_S_ (ix2 t h) = ((((t.val : ℝ) + 1) * lg h : ℝ) : EReal) := by
  refine host_sum _ lg (fun i c => ?_) _ _ (fun i => ?_) _ t h
  · refine Eq.trans ?_ (log_decay c)
    pointwise
  · exact Ideal.ofBits_zero_f32

/-- The reference's run: each result is its closed form in the arguments' real numbers. -/
theorem ref_run (m : (ℓ : Loc nD τ sig) → Buf (Elt Ideal) ℓ) (ρ : Dev nD → PrngReg)
    (q k v o : Dev nD → Fin 4352 → Fin 256 → ℝ)
    (hq : ∀ (c : Dev nD) i j, m ((c.tc : Thread nD τ).loc main_arg0) (ix2 i j) = ((q c i j : ℝ) : EReal))
    (hk : ∀ (c : Dev nD) i j, m ((c.tc : Thread nD τ).loc main_arg1) (ix2 i j) = ((k c i j : ℝ) : EReal))
    (hv : ∀ (c : Dev nD) i (j : Fin 256) p, m ((c.tc : Thread nD τ).loc main_arg2) (ix2 i ⟨1536 + j.val, p⟩) = ((v c i j : ℝ) : EReal))
    (ho : ∀ (c : Dev nD) i j, m ((c.tc : Thread nD τ).loc main_arg3) (ix2 i j) = ((o c i j : ℝ) : EReal)) :
    θ_run defs (onTc (τ := τ) (main (F := Ideal))) ⟨m, fun _ => 0, ρ⟩ fun r => ∀ c : Dev nD,
      r.2.mem ((c.tc : Thread nD τ).loc main_v46) = (fun y : S4352x256.Idx => ((dqT (k c) (v c) (o c) (y 0) (y 1) : ℝ) : EReal))
      ∧ r.2.mem ((c.tc : Thread nD τ).loc main_v45) = (fun y : S4352x256.Idx => ((dkT (q c) (v c) (o c) (y 0) (y 1) : ℝ) : EReal))
      ∧ r.2.mem ((c.tc : Thread nD τ).loc main_v44) = (fun y : S4352x256.Idx => ((dvT (q c) (k c) (o c) (y 0) (y 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceIdeal.Value.run m ρ)
  obtain ⟨h5, h6, h7, ha⟩ := h c
  have hq := hq c
  have hk := hk c
  have hv := hv c
  have ho := ho c
  refine ⟨h5.trans ?_, h6.trans ?_, h7.trans ?_, ha⟩ <;> clear h5 h6 h7 ha h
  all_goals
    generalize m ((c.tc : Thread nD τ).loc main_arg0) = a0 at *
    generalize m ((c.tc : Thread nD τ).loc main_arg1) = a1 at *
    generalize m ((c.tc : Thread nD τ).loc main_arg2) = a2 at *
    generalize m ((c.tc : Thread nD τ).loc main_arg3) = a3 at *
    have hv' : ∀ i (j : Fin 256) (e : Fin 64) p, a2 (ix2 i ⟨1536 + (j.val / 64 * 64 + e.val), p⟩) = ((v c i (cl (hd j) e) : ℝ) : EReal) :=
      fun i j e p => (congrArg (fun n => a2 (ix2 i n)) (Fin.ext (by simp [cl, hd]; omega))).trans (hv i (cl (hd j) e) (by omega))
    funext y
    obtain ⟨t, j, rfl⟩ : ∃ (t : Fin 4352) (j : Fin 256), y = ix2 t j := ⟨y 0, y 1, by idx_vars y⟩
    pointwise [ref_logs, hq, hk, hv', ho]
    have hz : (id (constant (F := Ideal) S_ FTy.f32 0#32) ix0 : EReal) = 0 := Ideal.ofBits_zero_f32
    simp only [hd_mk, cl_mk]
  · refine Eq.trans (Finset.sum_congr rfl fun (x : Fin 4352) _ => ?_)
      (coe_sum _ fun x : Fin 4352 => (∑ e, o c t (cl (hd j) e) * v c x (cl (hd j) e)) * dcy (lg (hd j)) t x * k c x j)
    rw [ref_logs, ref_logs, dec_ref _ _ _ _ hz]
    simp only [← EReal.coe_mul, coe_sum]
  · refine Eq.trans (Finset.sum_congr rfl fun (x : Fin 4352) _ => ?_)
      (coe_sum _ fun x : Fin 4352 => (∑ e, o c x (cl (hd j) e) * v c t (cl (hd j) e)) * dcy (lg (hd j)) x t * q c x j)
    rw [ref_logs, ref_logs, dec_ref _ _ _ _ hz]
    simp only [← EReal.coe_mul, coe_sum]
  · refine Eq.trans (Finset.sum_congr rfl fun (x : Fin 4352) _ => ?_)
      (coe_sum _ fun x : Fin 4352 => o c x j * ((∑ d, k c t (cl (hd j) d) * q c x (cl (hd j) d)) * dcy (lg (hd j)) x t))
    rw [ref_logs, ref_logs, dec_ref _ _ _ _ hz]
    simp only [← EReal.coe_mul, coe_sum]

end Cert.RetScan
end
-- ==== Proof.lean ====
module

public import proofs.«01_k».proof.Defs
public import proofs.«01_k».proof.Proof.Gen.Kernel.Frame
public import proofs.«01_k».proof.Proof.Gen.KernelIdeal.Frame
public import proofs.«01_k».proof.Proof.UpGrad
public import proofs.«01_k».proof.Proof.InGrad
public import proofs.«01_k».proof.Proof.OutGrad
public import proofs.«01_k».proof.Proof.DownGrad
public import proofs.«01_k».proof.Proof.UpBwdClaim
public import proofs.«01_k».proof.Proof.InBwdClaim
public import proofs.«01_k».proof.Proof.DownBwdClaim
public import proofs.«01_k».proof.Proof.OutBwdClaim
public import proofs.«01_k».proof.Proof.UpFwd
public import proofs.«01_k».proof.Proof.InFwd
public import proofs.«01_k».proof.Proof.DownFwd
public import proofs.«01_k».proof.Proof.OutFwd
public import proofs.«01_k».proof.Proof.ConvBwdClaim
public import proofs.«01_k».proof.Proof.RevClaim
public import proofs.«01_k».proof.Proof.RopeBwd
public import proofs.«01_k».proof.Proof.RopeFwd
public import proofs.«01_k».proof.Proof.ConvFwd
public import proofs.«01_k».proof.Proof.Assemble
public import proofs.«01_k».proof.Proof.InStep
public import proofs.«01_k».proof.Proof.OutStep
public import proofs.«01_k».proof.Proof.UpStep
public import proofs.«01_k».proof.Proof.DownStep
public import proofs.«01_k».proof.Proof.AdaStep
public import proofs.«01_k».proof.Proof.LossHead
public import proofs.«01_k».proof.Proof.SmallStep
public import proofs.«01_k».proof.Proof.Finite
public import proofs.«01_k».proof.Proof.Grid
public import proofs.«01_k».proof.Proof.Ref
public import Idealize.ShloMosaic.Adequacy
public import Idealize.ShloMosaic.Init
public import Idealize.ShloMosaic.Lib.Claim

/-! The claims: both programs run and keep their arguments, the idealized kernel differs from the kernel by the named
constants only, and on finite arguments it leaves what the reference leaves. -/

@[expose] public section

noncomputable section

namespace Cert.Proof

open Idealize.ShloMosaic Idealize.ShloMosaic.TcCoe Idealize.SL.Sem Cert.RetScan

theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

section
variable (m : (ℓ : Loc Cert.KernelIdeal.nD Cert.KernelIdeal.τ Cert.KernelIdeal.sig) → Buf (Elt Ideal) ℓ) (c : Dev Cert.KernelIdeal.nD)
/-- The arguments' real numbers. -/
def qR (i : Fin 4352) (j : Fin 256) : ℝ :=
  EReal.toReal (m ((c.tc : Thread Cert.KernelIdeal.nD Cert.KernelIdeal.τ).loc Cert.KernelIdeal.main_arg0) (ix2 i j))
@[inherit_doc qR] def kR (i : Fin 4352) (j : Fin 256) : ℝ :=
  EReal.toReal (m ((c.tc : Thread Cert.KernelIdeal.nD Cert.KernelIdeal.τ).loc Cert.KernelIdeal.main_arg1) (ix2 i j))
@[inherit_doc qR] def vR (i : Fin 4352) (j : Fin 256) : ℝ :=
  EReal.toReal (m ((c.tc : Thread Cert.KernelIdeal.nD Cert.KernelIdeal.τ).loc Cert.KernelIdeal.main_arg2) (ix2 i ⟨1536 + j.val, by omega⟩))
@[inherit_doc qR] def oR (i : Fin 4352) (j : Fin 256) : ℝ :=
  EReal.toReal (m ((c.tc : Thread Cert.KernelIdeal.nD Cert.KernelIdeal.τ).loc Cert.KernelIdeal.main_arg3) (ix2 i j))

theorem holds (h : Cert.Pre_KernelIdeal_finite m) : Holds m c (qR m c) (kR m c) (vR m c) (oR m c) where
  q := fin0 _ _ _ _ (h c)
  k := fin1 _ _ _ _ (h c)
  v := fin2 _ _ _ _ (h c)
  o := fin3 _ _ _ _ (h c)
end

theorem algebraic : Cert.algebraic_KernelIdeal_ReferenceIdeal_pre_finite := by
  intro m g m' g' hpre hag
  refine ⟨fun c => full (dqT (kR m c) (vR m c) (oR m c)), fun c => full (dkT (qR m c) (vR m c) (oR m c)),
    fun c => full (dvT (qR m c) (kR m c) (oR m c)), ?_, ?_⟩
  · refine (θ_run Cert.KernelIdeal.defs _ _).mono (fun r h c => ?_) (Cert.KernelIdeal.Value.run_blocks m g)
    obtain ⟨h5, h6, h7, ha⟩ := h c
    have H := holds m c hpre
    exact ⟨h5.trans (final5 H), h6.trans (final6 H), h7.trans (final7 H), ha⟩
  · exact ref_run m' g' (qR m) (kR m) (vR m) (oR m)
      (fun c i j => (congrFun (hag c).1 (ix2 i j)).trans ((holds m c hpre).q i j))
      (fun c i j => (congrFun (hag c).2.1 (ix2 i j)).trans ((holds m c hpre).k i j))
      (fun c i j p => (congrFun (hag c).2.2.1 (ix2 i ⟨1536 + j.val, p⟩)).trans ((holds m c hpre).v i j p))
      (fun c i j => (congrFun (hag c).2.2.2 (ix2 i j)).trans ((holds m c hpre).o i j))

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts, Cert.Kernel13.Gen.facts, Cert.Kernel13Ideal.Gen.facts, Cert.Reference13Ideal.Gen.facts,
    Cert.Kernel14.Gen.facts, Cert.Kernel14Ideal.Gen.facts, Cert.Reference14Ideal.Gen.facts, Cert.Kernel15.Gen.facts, Cert.Kernel15Ideal.Gen.facts, Cert.Reference15Ideal.Gen.facts,
    Cert.Kernel16.Gen.facts, Cert.Kernel16Ideal.Gen.facts, Cert.Reference16Ideal.Gen.facts, Cert.Kernel17.Gen.facts, Cert.Kernel17Ideal.Gen.facts, Cert.Reference17Ideal.Gen.facts,
    Cert.Kernel18.Gen.facts, Cert.Kernel18Ideal.Gen.facts, Cert.Reference18Ideal.Gen.facts, Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts, finite_facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    UpGrad.frame_kernel, UpGrad.frame_ideal, UpGrad.frame_reference, InGrad.frame_kernel, InGrad.frame_ideal, InGrad.frame_reference,
    OutGrad.frame_kernel, OutGrad.frame_ideal, OutGrad.frame_reference, DownGrad.frame_kernel, DownGrad.frame_ideal, DownGrad.frame_reference,
    UpBwd.frame_kernel, UpBwd.frame_ideal, UpBwd.frame_reference, InBwd.frame_kernel, InBwd.frame_ideal, InBwd.frame_reference,
    DownBwd.frame_kernel, DownBwd.frame_ideal, DownBwd.frame_reference, OutBwd.frame_kernel, OutBwd.frame_ideal, OutBwd.frame_reference,
    UpFwd.frame_kernel, UpFwd.frame_ideal, UpFwd.frame_reference, InFwd.frame_kernel, InFwd.frame_ideal, InFwd.frame_reference,
    DownFwd.frame_kernel, DownFwd.frame_ideal, DownFwd.frame_reference, OutFwd.frame_kernel, OutFwd.frame_ideal, OutFwd.frame_reference,
    ConvBwd.frame_kernel, ConvBwd.frame_ideal, ConvBwd.frame_reference,
    RetRev.frame_kernel, RetRev.frame_ideal, fun m ρ _ => RetRev.frame_ideal m ρ trivial, RetRev.frame_reference, fun m ρ _ => RetRev.frame_reference m ρ trivial,
    RopeBwd.frame_kernel, RopeBwd.frame_ideal, RopeBwd.frame_reference, RopeFwd.frame_kernel, RopeFwd.frame_ideal, RopeFwd.frame_reference,
    ConvFwd.frame_kernel, ConvFwd.frame_ideal, ConvFwd.frame_reference, Assemble.frame_kernel, Assemble.frame_ideal, Assemble.frame_reference,
    InStep.frame_kernel, InStep.frame_ideal, InStep.frame_reference,
    OutStep.frame_kernel, OutStep.frame_ideal, OutStep.frame_reference,
    UpStep.frame_kernel, UpStep.frame_ideal, UpStep.frame_reference,
    DownStep.frame_kernel, DownStep.frame_ideal, DownStep.frame_reference,
    AdaStep.frame_kernel, AdaStep.frame_ideal, AdaStep.frame_reference,
    LossHead.frame_kernel, LossHead.frame_ideal, LossHead.frame_reference,
    SmallStep.frame_kernel, SmallStep.frame_ideal, SmallStep.frame_reference,
    preserves, algebraic, trivial, UpGrad.algebraic, trivial, InGrad.algebraic, trivial, OutGrad.algebraic, trivial, DownGrad.algebraic,
    trivial, UpBwd.algebraic, trivial, InBwd.algebraic, trivial, DownBwd.algebraic, trivial, OutBwd.algebraic, trivial, UpFwd.algebraic, trivial, InFwd.algebraic, trivial, DownFwd.algebraic, trivial, OutFwd.algebraic,
    trivial, ConvBwd.algebraic, RetRev.preserves, RetRev.algebraic, trivial, RopeBwd.algebraic, trivial, RopeFwd.algebraic,
    trivial, ConvFwd.algebraic, trivial, Assemble.algebraic,
    trivial, InStep.algebraic, trivial, OutStep.algebraic, trivial, UpStep.algebraic, trivial, DownStep.algebraic, trivial, AdaStep.algebraic, trivial, LossHead.algebraic, trivial, SmallStep.algebraic⟩

end Cert.Proof

end
